-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_conv_post_finite [hPre_conv_post_finite : Cert.Pre_conv_post_finite.Facts] (m : (ℓ : Loc Cert.KernelIdeal.nD Cert.KernelIdeal.τ Cert.KernelIdeal.sig) → Buf (Elt Ideal) ℓ) : Prop :=
  ∀ c : Dev Cert.KernelIdeal.nD,
    (Cert.Pre_conv_post_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_conv_post_finite [hPre_conv_post_finite : Cert.Pre_conv_post_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_conv_post_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def Pre_Kernel2 (m : (ℓ : Loc Cert.Kernel2.nD Cert.Kernel2.τ Cert.Kernel2.sig) → Buf (Elt Bits) ℓ) : Prop :=
  True

def Pre_Kernel2Ideal (m : (ℓ : Loc Cert.Kernel2Ideal.nD Cert.Kernel2Ideal.τ Cert.Kernel2Ideal.sig) → Buf (Elt Ideal) ℓ) : Prop :=
  True

def Pre_Kernel2Ideal_attention_finite [hPre_attention_finite : Cert.Pre_attention_finite.Facts] (m : (ℓ : Loc Cert.Kernel2Ideal.nD Cert.Kernel2Ideal.τ Cert.Kernel2Ideal.sig) → Buf (Elt Ideal) ℓ) : Prop :=
  ∀ c : Dev Cert.Kernel2Ideal.nD,
    (Cert.Pre_attention_finite.fn (F := Ideal) (m ((c.tc : Thread Cert.Kernel2Ideal.nD Cert.Kernel2Ideal.τ).loc Cert.Kernel2Ideal.main_arg0)) (m ((c.tc : Thread Cert.Kernel2Ideal.nD Cert.Kernel2Ideal.τ).loc Cert.Kernel2Ideal.main_arg1)) (m ((c.tc : Thread Cert.Kernel2Ideal.nD Cert.Kernel2Ideal.τ).loc Cert.Kernel2Ideal.main_arg2)) (m ((c.tc : Thread Cert.Kernel2Ideal.nD Cert.Kernel2Ideal.τ).loc Cert.Kernel2Ideal.main_arg3)) (m ((c.tc : Thread Cert.Kernel2Ideal.nD Cert.Kernel2Ideal.τ).loc Cert.Kernel2Ideal.main_arg4))) = (fun _ => 1#1)

def Pre_Reference2Ideal (m : (ℓ : Loc Cert.Reference2Ideal.nD Cert.Reference2Ideal.τ Cert.Reference2Ideal.sig) → Buf (Elt Ideal) ℓ) : Prop :=
  True

def Pre_Reference2Ideal_attention_finite [hPre_attention_finite : Cert.Pre_attention_finite.Facts] (m : (ℓ : Loc Cert.Reference2Ideal.nD Cert.Reference2Ideal.τ Cert.Reference2Ideal.sig) → Buf (Elt Ideal) ℓ) : Prop :=
  ∀ c : Dev Cert.Reference2Ideal.nD,
    (Cert.Pre_attention_finite.fn (F := Ideal) (m ((c.tc : Thread Cert.Reference2Ideal.nD Cert.Reference2Ideal.τ).loc Cert.Reference2Ideal.main_arg0)) (m ((c.tc : Thread Cert.Reference2Ideal.nD Cert.Reference2Ideal.τ).loc Cert.Reference2Ideal.main_arg1)) (m ((c.tc : Thread Cert.Reference2Ideal.nD Cert.Reference2Ideal.τ).loc Cert.Reference2Ideal.main_arg2)) (m ((c.tc : Thread Cert.Reference2Ideal.nD Cert.Reference2Ideal.τ).loc Cert.Reference2Ideal.main_arg3)) (m ((c.tc : Thread Cert.Reference2Ideal.nD Cert.Reference2Ideal.τ).loc Cert.Reference2Ideal.main_arg4))) = (fun _ => 1#1)

def Pre_Kernel3 (m : (ℓ : Loc Cert.Kernel3.nD Cert.Kernel3.τ Cert.Kernel3.sig) → Buf (Elt Bits) ℓ) : Prop :=
  True

def Pre_Kernel3Ideal (m : (ℓ : Loc Cert.Kernel3Ideal.nD Cert.Kernel3Ideal.τ Cert.Kernel3Ideal.sig) → Buf (Elt Ideal) ℓ) : Prop :=
  True

def Pre_Kernel3Ideal_gate_finite [hPre_gate_finite : Cert.Pre_gate_finite.Facts] (m : (ℓ : Loc Cert.Kernel3Ideal.nD Cert.Kernel3Ideal.τ Cert.Kernel3Ideal.sig) → Buf (Elt Ideal) ℓ) : Prop :=
  ∀ c : Dev Cert.Kernel3Ideal.nD,
    (Cert.Pre_gate_finite.fn (F := Ideal) (m ((c.tc : Thread Cert.Kernel3Ideal.nD Cert.Kernel3Ideal.τ).loc Cert.Kernel3Ideal.main_arg0)) (m ((c.tc : Thread Cert.Kernel3Ideal.nD Cert.Kernel3Ideal.τ).loc Cert.Kernel3Ideal.main_arg1)) (m ((c.tc : Thread Cert.Kernel3Ideal.nD Cert.Kernel3Ideal.τ).loc Cert.Kernel3Ideal.main_arg2))) = (fun _ => 1#1)

def Pre_Reference3Ideal (m : (ℓ : Loc Cert.Reference3Ideal.nD Cert.Reference3Ideal.τ Cert.Reference3Ideal.sig) → Buf (Elt Ideal) ℓ) : Prop :=
  True

def Pre_Reference3Ideal_gate_finite [hPre_gate_finite : Cert.Pre_gate_finite.Facts] (m : (ℓ : Loc Cert.Reference3Ideal.nD Cert.Reference3Ideal.τ Cert.Reference3Ideal.sig) → Buf (Elt Ideal) ℓ) : Prop :=
  ∀ c : Dev Cert.Reference3Ideal.nD,
    (Cert.Pre_gate_finite.fn (F := Ideal) (m ((c.tc : Thread Cert.Reference3Ideal.nD Cert.Reference3Ideal.τ).loc Cert.Reference3Ideal.main_arg0)) (m ((c.tc : Thread Cert.Reference3Ideal.nD Cert.Reference3Ideal.τ).loc Cert.Reference3Ideal.main_arg1)) (m ((c.tc : Thread Cert.Reference3Ideal.nD Cert.Reference3Ideal.τ).loc Cert.Reference3Ideal.main_arg2))) = (fun _ => 1#1)

def Pre_Kernel4 (m : (ℓ : Loc Cert.Kernel4.nD Cert.Kernel4.τ Cert.Kernel4.sig) → Buf (Elt Bits) ℓ) : Prop :=
  True

def Pre_Kernel4Ideal (m : (ℓ : Loc Cert.Kernel4Ideal.nD Cert.Kernel4Ideal.τ Cert.Kernel4Ideal.sig) → Buf (Elt Ideal) ℓ) : Prop :=
  True

def Pre_Kernel4Ideal_inproj_finite [hPre_inproj_finite : Cert.Pre_inproj_finite.Facts] (m : (ℓ : Loc Cert.Kernel4Ideal.nD Cert.Kernel4Ideal.τ Cert.Kernel4Ideal.sig) → Buf (Elt Ideal) ℓ) : Prop :=
  ∀ c : Dev Cert.Kernel4Ideal.nD,
    (Cert.Pre_inproj_finite.fn (F := Ideal) (m ((c.tc : Thread Cert.Kernel4Ideal.nD Cert.Kernel4Ideal.τ).loc Cert.Kernel4Ideal.main_arg0)) (m ((c.tc : Thread Cert.Kernel4Ideal.nD Cert.Kernel4Ideal.τ).loc Cert.Kernel4Ideal.main_arg1)) (m ((c.tc : Thread Cert.Kernel4Ideal.nD Cert.Kernel4Ideal.τ).loc Cert.Kernel4Ideal.main_arg2)) (m ((c.tc : Thread Cert.Kernel4Ideal.nD Cert.Kernel4Ideal.τ).loc Cert.Kernel4Ideal.main_arg3)) (m ((c.tc : Thread Cert.Kernel4Ideal.nD Cert.Kernel4Ideal.τ).loc Cert.Kernel4Ideal.main_arg4))) = (fun _ => 1#1)

def Pre_Reference4Ideal (m : (ℓ : Loc Cert.Reference4Ideal.nD Cert.Reference4Ideal.τ Cert.Reference4Ideal.sig) → Buf (Elt Ideal) ℓ) : Prop :=
  True

def Pre_Reference4Ideal_inproj_finite [hPre_inproj_finite : Cert.Pre_inproj_finite.Facts] (m : (ℓ : Loc Cert.Reference4Ideal.nD Cert.Reference4Ideal.τ Cert.Reference4Ideal.sig) → Buf (Elt Ideal) ℓ) : Prop :=
  ∀ c : Dev Cert.Reference4Ideal.nD,
    (Cert.Pre_inproj_finite.fn (F := Ideal) (m ((c.tc : Thread Cert.Reference4Ideal.nD Cert.Reference4Ideal.τ).loc Cert.Reference4Ideal.main_arg0)) (m ((c.tc : Thread Cert.Reference4Ideal.nD Cert.Reference4Ideal.τ).loc Cert.Reference4Ideal.main_arg1)) (m ((c.tc : Thread Cert.Reference4Ideal.nD Cert.Reference4Ideal.τ).loc Cert.Reference4Ideal.main_arg2)) (m ((c.tc : Thread Cert.Reference4Ideal.nD Cert.Reference4Ideal.τ).loc Cert.Reference4Ideal.main_arg3)) (m ((c.tc : Thread Cert.Reference4Ideal.nD Cert.Reference4Ideal.τ).loc Cert.Reference4Ideal.main_arg4))) = (fun _ => 1#1)

def Pre_Kernel5 (m : (ℓ : Loc Cert.Kernel5.nD Cert.Kernel5.τ Cert.Kernel5.sig) → Buf (Elt Bits) ℓ) : Prop :=
  True

def Pre_Kernel5Ideal (m : (ℓ : Loc Cert.Kernel5Ideal.nD Cert.Kernel5Ideal.τ Cert.Kernel5Ideal.sig) → Buf (Elt Ideal) ℓ) : Prop :=
  True

def Pre_Reference5Ideal (m : (ℓ : Loc Cert.Reference5Ideal.nD Cert.Reference5Ideal.τ Cert.Reference5Ideal.sig) → Buf (Elt Ideal) ℓ) : Prop :=
  True

def Pre_Kernel6 (m : (ℓ : Loc Cert.Kernel6.nD Cert.Kernel6.τ Cert.Kernel6.sig) → Buf (Elt Bits) ℓ) : Prop :=
  True

def Pre_Kernel6Ideal (m : (ℓ : Loc Cert.Kernel6Ideal.nD Cert.Kernel6Ideal.τ Cert.Kernel6Ideal.sig) → Buf (Elt Ideal) ℓ) : Prop :=
  True

def Pre_Kernel6Ideal_heads_finite [hPre_heads_finite : Cert.Pre_heads_finite.Facts] (m : (ℓ : Loc Cert.Kernel6Ideal.nD Cert.Kernel6Ideal.τ Cert.Kernel6Ideal.sig) → Buf (Elt Ideal) ℓ) : Prop :=
  ∀ c : Dev Cert.Kernel6Ideal.nD,
    (Cert.Pre_heads_finite.fn (F := Ideal) (m ((c.tc : Thread Cert.Kernel6Ideal.nD Cert.Kernel6Ideal.τ).loc Cert.Kernel6Ideal.main_arg0)) (m ((c.tc : Thread Cert.Kernel6Ideal.nD Cert.Kernel6Ideal.τ).loc Cert.Kernel6Ideal.main_arg1)) (m ((c.tc : Thread Cert.Kernel6Ideal.nD Cert.Kernel6Ideal.τ).loc Cert.Kernel6Ideal.main_arg2)) (m ((c.tc : Thread Cert.Kernel6Ideal.nD Cert.Kernel6Ideal.τ).loc Cert.Kernel6Ideal.main_arg3)) (m ((c.tc : Thread Cert.Kernel6Ideal.nD Cert.Kernel6Ideal.τ).loc Cert.Kernel6Ideal.main_arg4)) (m ((c.tc : Thread Cert.Kernel6Ideal.nD Cert.Kernel6Ideal.τ).loc Cert.Kernel6Ideal.main_arg5)) (m ((c.tc : Thread Cert.Kernel6Ideal.nD Cert.Kernel6Ideal.τ).loc Cert.Kernel6Ideal.main_arg6))) = (fun _ => 1#1)

def Pre_Reference6Ideal (m : (ℓ : Loc Cert.Reference6Ideal.nD Cert.Reference6Ideal.τ Cert.Reference6Ideal.sig) → Buf (Elt Ideal) ℓ) : Prop :=
  True

def Pre_Reference6Ideal_heads_finite [hPre_heads_finite : Cert.Pre_heads_finite.Facts] (m : (ℓ : Loc Cert.Reference6Ideal.nD Cert.Reference6Ideal.τ Cert.Reference6Ideal.sig) → Buf (Elt Ideal) ℓ) : Prop :=
  ∀ c : Dev Cert.Reference6Ideal.nD,
    (Cert.Pre_heads_finite.fn (F := Ideal) (m ((c.tc : Thread Cert.Reference6Ideal.nD Cert.Reference6Ideal.τ).loc Cert.Reference6Ideal.main_arg0)) (m ((c.tc : Thread Cert.Reference6Ideal.nD Cert.Reference6Ideal.τ).loc Cert.Reference6Ideal.main_arg1)) (m ((c.tc : Thread Cert.Reference6Ideal.nD Cert.Reference6Ideal.τ).loc Cert.Reference6Ideal.main_arg2)) (m ((c.tc : Thread Cert.Reference6Ideal.nD Cert.Reference6Ideal.τ).loc Cert.Reference6Ideal.main_arg3)) (m ((c.tc : Thread Cert.Reference6Ideal.nD Cert.Reference6Ideal.τ).loc Cert.Reference6Ideal.main_arg4)) (m ((c.tc : Thread Cert.Reference6Ideal.nD Cert.Reference6Ideal.τ).loc Cert.Reference6Ideal.main_arg5)) (m ((c.tc : Thread Cert.Reference6Ideal.nD Cert.Reference6Ideal.τ).loc Cert.Reference6Ideal.main_arg6))) = (fun _ => 1#1)

def Pre_Kernel7 (m : (ℓ : Loc Cert.Kernel7.nD Cert.Kernel7.τ Cert.Kernel7.sig) → Buf (Elt Bits) ℓ) : Prop :=
  True

def Pre_Kernel7Ideal (m : (ℓ : Loc Cert.Kernel7Ideal.nD Cert.Kernel7Ideal.τ Cert.Kernel7Ideal.sig) → Buf (Elt Ideal) ℓ) : Prop :=
  True

def Pre_Reference7Ideal (m : (ℓ : Loc Cert.Reference7Ideal.nD Cert.Reference7Ideal.τ Cert.Reference7Ideal.sig) → Buf (Elt Ideal) ℓ) : Prop :=
  True

def Pre_Kernel8 (m : (ℓ : Loc Cert.Kernel8.nD Cert.Kernel8.τ Cert.Kernel8.sig) → Buf (Elt Bits) ℓ) : Prop :=
  True

def Pre_Kernel8Ideal (m : (ℓ : Loc Cert.Kernel8Ideal.nD Cert.Kernel8Ideal.τ Cert.Kernel8Ideal.sig) → Buf (Elt Ideal) ℓ) : Prop :=
  True

def Pre_Kernel8Ideal_attn_fwd_finite [hPre_attn_fwd_finite : Cert.Pre_attn_fwd_finite.Facts] (m : (ℓ : Loc Cert.Kernel8Ideal.nD Cert.Kernel8Ideal.τ Cert.Kernel8Ideal.sig) → Buf (Elt Ideal) ℓ) : Prop :=
  ∀ c : Dev Cert.Kernel8Ideal.nD,
    (Cert.Pre_attn_fwd_finite.fn (F := Ideal) (m ((c.tc : Thread Cert.Kernel8Ideal.nD Cert.Kernel8Ideal.τ).loc Cert.Kernel8Ideal.main_arg0)) (m ((c.tc : Thread Cert.Kernel8Ideal.nD Cert.Kernel8Ideal.τ).loc Cert.Kernel8Ideal.main_arg1)) (m ((c.tc : Thread Cert.Kernel8Ideal.nD Cert.Kernel8Ideal.τ).loc Cert.Kernel8Ideal.main_arg2)) (m ((c.tc : Thread Cert.Kernel8Ideal.nD Cert.Kernel8Ideal.τ).loc Cert.Kernel8Ideal.main_arg3))) = (fun _ => 1#1)

def Pre_Reference8Ideal (m : (ℓ : Loc Cert.Reference8Ideal.nD Cert.Reference8Ideal.τ Cert.Reference8Ideal.sig) → Buf (Elt Ideal) ℓ) : Prop :=
  True

def Pre_Reference8Ideal_attn_fwd_finite [hPre_attn_fwd_finite : Cert.Pre_attn_fwd_finite.Facts] (m : (ℓ : Loc Cert.Reference8Ideal.nD Cert.Reference8Ideal.τ Cert.Reference8Ideal.sig) → Buf (Elt Ideal) ℓ) : Prop :=
  ∀ c : Dev Cert.Reference8Ideal.nD,
    (Cert.Pre_attn_fwd_finite.fn (F := Ideal) (m ((c.tc : Thread Cert.Reference8Ideal.nD Cert.Reference8Ideal.τ).loc Cert.Reference8Ideal.main_arg0)) (m ((c.tc : Thread Cert.Reference8Ideal.nD Cert.Reference8Ideal.τ).loc Cert.Reference8Ideal.main_arg1)) (m ((c.tc : Thread Cert.Reference8Ideal.nD Cert.Reference8Ideal.τ).loc Cert.Reference8Ideal.main_arg2)) (m ((c.tc : Thread Cert.Reference8Ideal.nD Cert.Reference8Ideal.τ).loc Cert.Reference8Ideal.main_arg3))) = (fun _ => 1#1)

def Pre_Kernel9 (m : (ℓ : Loc Cert.Kernel9.nD Cert.Kernel9.τ Cert.Kernel9.sig) → Buf (Elt Bits) ℓ) : Prop :=
  True

def Pre_Kernel9Ideal (m : (ℓ : Loc Cert.Kernel9Ideal.nD Cert.Kernel9Ideal.τ Cert.Kernel9Ideal.sig) → Buf (Elt Ideal) ℓ) : Prop :=
  True

def Pre_Reference9Ideal (m : (ℓ : Loc Cert.Reference9Ideal.nD Cert.Reference9Ideal.τ Cert.Reference9Ideal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ r.2.sem = fun _ => 0)

def quiescent_KernelIdeal_pre_conv_post_finite [hKernelIdeal : Cert.KernelIdeal.Facts] [hPre_conv_post_finite : Cert.Pre_conv_post_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_conv_post_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))
      ∧ r.2.sem = fun _ => 0)

def quiescent_ReferenceIdeal_pre_conv_post_finite [hReferenceIdeal : Cert.ReferenceIdeal.Facts] [hPre_conv_post_finite : Cert.Pre_conv_post_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_conv_post_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))
      ∧ r.2.sem = fun _ => 0)

def quiescent_Kernel2 [hKernel2 : Cert.Kernel2.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1)
      ∧ r.2.mem ((c.tc : Thread Cert.Kernel2.nD Cert.Kernel2.τ).loc Cert.Kernel2.main_arg2) = m ((c.tc : Thread Cert.Kernel2.nD Cert.Kernel2.τ).loc Cert.Kernel2.main_arg2)
      ∧ r.2.mem ((c.tc : Thread Cert.Kernel2.nD Cert.Kernel2.τ).loc Cert.Kernel2.main_arg3) = m ((c.tc : Thread Cert.Kernel2.nD Cert.Kernel2.τ).loc Cert.Kernel2.main_arg3)
      ∧ r.2.mem ((c.tc : Thread Cert.Kernel2.nD Cert.Kernel2.τ).loc Cert.Kernel2.main_arg4) = m ((c.tc : Thread Cert.Kernel2.nD Cert.Kernel2.τ).loc Cert.Kernel2.main_arg4))
      ∧ r.2.sem = fun _ => 0)

def quiescent_Kernel2Ideal [hKernel2Ideal : Cert.Kernel2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
      ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
      ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4))
      ∧ r.2.sem = fun _ => 0)

def quiescent_Kernel2Ideal_pre_attention_finite [hKernel2Ideal : Cert.Kernel2Ideal.Facts] [hPre_attention_finite : Cert.Pre_attention_finite.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal_attention_finite m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
      ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
      ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3)
      ∧ r.2.mem ((c.tc : Thread Cert.Reference2Ideal.nD Cert.Reference2Ideal.τ).loc Cert.Reference2Ideal.main_arg4) = m ((c.tc : Thread Cert.Reference2Ideal.nD Cert.Reference2Ideal.τ).loc Cert.Reference2Ideal.main_arg4))
      ∧ r.2.sem = fun _ => 0)

def quiescent_Reference2Ideal_pre_attention_finite [hReference2Ideal : Cert.Reference2Ideal.Facts] [hPre_attention_finite : Cert.Pre_attention_finite.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal_attention_finite m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3)
      ∧ r.2.mem ((c.tc : Thread Cert.Reference2Ideal.nD Cert.Reference2Ideal.τ).loc Cert.Reference2Ideal.main_arg4) = m ((c.tc : Thread Cert.Reference2Ideal.nD Cert.Reference2Ideal.τ).loc Cert.Reference2Ideal.main_arg4))
      ∧ r.2.sem = fun _ => 0)

def quiescent_Kernel3 [hKernel3 : Cert.Kernel3.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1)
      ∧ r.2.mem ((c.tc : Thread Cert.Kernel3.nD Cert.Kernel3.τ).loc Cert.Kernel3.main_arg2) = m ((c.tc : Thread Cert.Kernel3.nD Cert.Kernel3.τ).loc Cert.Kernel3.main_arg2))
      ∧ r.2.sem = fun _ => 0)

def quiescent_Kernel3Ideal [hKernel3Ideal : Cert.Kernel3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
      ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2))
      ∧ r.2.sem = fun _ => 0)

def quiescent_Kernel3Ideal_pre_gate_finite [hKernel3Ideal : Cert.Kernel3Ideal.Facts] [hPre_gate_finite : Cert.Pre_gate_finite.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal_gate_finite m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
      ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2))
      ∧ r.2.sem = fun _ => 0)

def quiescent_Reference3Ideal [hReference3Ideal : Cert.Reference3Ideal.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1)
      ∧ r.2.mem ((c.tc : Thread Cert.Reference3Ideal.nD Cert.Reference3Ideal.τ).loc Cert.Reference3Ideal.main_arg2) = m ((c.tc : Thread Cert.Reference3Ideal.nD Cert.Reference3Ideal.τ).loc Cert.Reference3Ideal.main_arg2))
      ∧ r.2.sem = fun _ => 0)

def quiescent_Reference3Ideal_pre_gate_finite [hReference3Ideal : Cert.Reference3Ideal.Facts] [hPre_gate_finite : Cert.Pre_gate_finite.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal_gate_finite m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1)
      ∧ r.2.mem ((c.tc : Thread Cert.Reference3Ideal.nD Cert.Reference3Ideal.τ).loc Cert.Reference3Ideal.main_arg2) = m ((c.tc : Thread Cert.Reference3Ideal.nD Cert.Reference3Ideal.τ).loc Cert.Reference3Ideal.main_arg2))
      ∧ r.2.sem = fun _ => 0)

def quiescent_Kernel4 [hKernel4 : Cert.Kernel4.Facts] : Prop :=
  ∀ (m : (ℓ : Loc Cert.Kernel4.nD Cert.Kernel4.τ Cert.Kernel4.sig) → Buf (Elt Bits) ℓ) (g : Dev Cert.Kernel4.nD → PrngReg), Pre_Kernel4 m →
    θ_run (Cert.Kernel4.defs (F := Bits)) (onTc (τ := Cert.Kernel4.τ) (Cert.Kernel4.main (F := Bits))) ⟨m, fun _ => 0, g⟩ (fun r => (∀ c : Dev Cert.Kernel4.nD,
      r.2.mem ((c.tc : Thread Cert.Kernel4.nD Cert.Kernel4.τ).loc Cert.Kernel4.main_arg0) = m ((c.tc : Thread Cert.Kernel4.nD Cert.Kernel4.τ).loc Cert.Kernel4.main_arg0)
      ∧ r.2.mem ((c.tc : Thread Cert.Kernel4.nD Cert.Kernel4.τ).loc Cert.Kernel4.main_arg1) = m ((c.tc : Thread Cert.Kernel4.nD Cert.Kernel4.τ).loc Cert.Kernel4.main_arg1)
      ∧ r.2.mem ((c.tc : Thread Cert.Kernel4.nD Cert.Kernel4.τ).loc Cert.Kernel4.main_arg2) = m ((c.tc : Thread Cert.Kernel4.nD Cert.Kernel4.τ).loc Cert.Kernel4.main_arg2)
      ∧ r.2.mem ((c.tc : Thread Cert.Kernel4.nD Cert.Kernel4.τ).loc Cert.Kernel4.main_arg3) = m ((c.tc : Thread Cert.Kernel4.nD Cert.Kernel4.τ).loc Cert.Kernel4.main_arg3)
      ∧ r.2.mem ((c.tc : Thread Cert.Kernel4.nD Cert.Kernel4.τ).loc Cert.Kernel4.main_arg4) = m ((c.tc : Thread Cert.Kernel4.nD Cert.Kernel4.τ).loc Cert.Kernel4.main_arg4))
      ∧ r.2.sem = fun _ => 0)

def quiescent_Kernel4Ideal [hKernel4Ideal : Cert.Kernel4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg), Pre_Kernel4Ideal m →
    θ_run (Cert.Kernel4Ideal.defs (F := Ideal)) (onTc (τ := Cert.Kernel4Ideal.τ) (Cert.Kernel4Ideal.main (F := Ideal))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
      ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
      ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3)
      ∧ r.2.mem ((c.tc : Thread Cert.Kernel4Ideal.nD Cert.Kernel4Ideal.τ).loc Cert.Kernel4Ideal.main_arg4) = m ((c.tc : Thread Cert.Kernel4Ideal.nD Cert.Kernel4Ideal.τ).loc Cert.Kernel4Ideal.main_arg4))
      ∧ r.2.sem = fun _ => 0)

def quiescent_Kernel4Ideal_pre_inproj_finite [hKernel4Ideal : Cert.Kernel4Ideal.Facts] [hPre_inproj_finite : Cert.Pre_inproj_finite.Facts] : Prop :=
  ∀ (m : (ℓ : Loc Cert.Kernel4Ideal.nD Cert.Kernel4Ideal.τ Cert.Kernel4Ideal.sig) → Buf (Elt Ideal) ℓ) (g : Dev Cert.Kernel4Ideal.nD → PrngReg), Pre_Kernel4Ideal_inproj_finite m →
    θ_run (Cert.Kernel4Ideal.defs (F := Ideal)) (onTc (τ := Cert.Kernel4Ideal.τ) (Cert.Kernel4Ideal.main (F := Ideal))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
      ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
      ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3)
      ∧ r.2.mem ((c.tc : Thread Cert.Kernel4Ideal.nD Cert.Kernel4Ideal.τ).loc Cert.Kernel4Ideal.main_arg4) = m ((c.tc : Thread Cert.Kernel4Ideal.nD Cert.Kernel4Ideal.τ).loc Cert.Kernel4Ideal.main_arg4))
      ∧ r.2.sem = fun _ => 0)

def quiescent_Reference4Ideal [hReference4Ideal : Cert.Reference4Ideal.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1)
      ∧ r.2.mem ((c.tc : Thread Cert.Reference4Ideal.nD Cert.Reference4Ideal.τ).loc Cert.Reference4Ideal.main_arg2) = m ((c.tc : Thread Cert.Reference4Ideal.nD Cert.Reference4Ideal.τ).loc Cert.Reference4Ideal.main_arg2)
      ∧ r.2.mem ((c.tc : Thread Cert.Reference4Ideal.nD Cert.Reference4Ideal.τ).loc Cert.Reference4Ideal.main_arg3) = m ((c.tc : Thread Cert.Reference4Ideal.nD Cert.Reference4Ideal.τ).loc Cert.Reference4Ideal.main_arg3)
      ∧ r.2.mem ((c.tc : Thread Cert.Reference4Ideal.nD Cert.Reference4Ideal.τ).loc Cert.Reference4Ideal.main_arg4) = m ((c.tc : Thread Cert.Reference4Ideal.nD Cert.Reference4Ideal.τ).loc Cert.Reference4Ideal.main_arg4))
      ∧ r.2.sem = fun _ => 0)

def quiescent_Reference4Ideal_pre_inproj_finite [hReference4Ideal : Cert.Reference4Ideal.Facts] [hPre_inproj_finite : Cert.Pre_inproj_finite.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal_inproj_finite m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1)
      ∧ r.2.mem ((c.tc : Thread Cert.Reference4Ideal.nD Cert.Reference4Ideal.τ).loc Cert.Reference4Ideal.main_arg2) = m ((c.tc : Thread Cert.Reference4Ideal.nD Cert.Reference4Ideal.τ).loc Cert.Reference4Ideal.main_arg2)
      ∧ r.2.mem ((c.tc : Thread Cert.Reference4Ideal.nD Cert.Reference4Ideal.τ).loc Cert.Reference4Ideal.main_arg3) = m ((c.tc : Thread Cert.Reference4Ideal.nD Cert.Reference4Ideal.τ).loc Cert.Reference4Ideal.main_arg3)
      ∧ r.2.mem ((c.tc : Thread Cert.Reference4Ideal.nD Cert.Reference4Ideal.τ).loc Cert.Reference4Ideal.main_arg4) = m ((c.tc : Thread Cert.Reference4Ideal.nD Cert.Reference4Ideal.τ).loc Cert.Reference4Ideal.main_arg4))
      ∧ r.2.sem = fun _ => 0)

def quiescent_Kernel5 [hKernel5 : Cert.Kernel5.Facts] : Prop :=
  ∀ (m : (ℓ : Loc Cert.Kernel5.nD Cert.Kernel5.τ Cert.Kernel5.sig) → Buf (Elt Bits) ℓ) (g : Dev Cert.Kernel5.nD → PrngReg), Pre_Kernel5 m →
    θ_run (Cert.Kernel5.defs (F := Bits)) (onTc (τ := Cert.Kernel5.τ) (Cert.Kernel5.main (F := Bits))) ⟨m, fun _ => 0, g⟩ (fun r => (∀ c : Dev Cert.Kernel5.nD,
      r.2.mem ((c.tc : Thread Cert.Kernel5.nD Cert.Kernel5.τ).loc Cert.Kernel5.main_arg0) = m ((c.tc : Thread Cert.Kernel5.nD Cert.Kernel5.τ).loc Cert.Kernel5.main_arg0)
      ∧ r.2.mem ((c.tc : Thread Cert.Kernel5.nD Cert.Kernel5.τ).loc Cert.Kernel5.main_arg1) = m ((c.tc : Thread Cert.Kernel5.nD Cert.Kernel5.τ).loc Cert.Kernel5.main_arg1)
      ∧ r.2.mem ((c.tc : Thread Cert.Kernel5.nD Cert.Kernel5.τ).loc Cert.Kernel5.main_arg2) = m ((c.tc : Thread Cert.Kernel5.nD Cert.Kernel5.τ).loc Cert.Kernel5.main_arg2)
      ∧ r.2.mem ((c.tc : Thread Cert.Kernel5.nD Cert.Kernel5.τ).loc Cert.Kernel5.main_arg3) = m ((c.tc : Thread Cert.Kernel5.nD Cert.Kernel5.τ).loc Cert.Kernel5.main_arg3)
      ∧ r.2.mem ((c.tc : Thread Cert.Kernel5.nD Cert.Kernel5.τ).loc Cert.Kernel5.main_arg4) = m ((c.tc : Thread Cert.Kernel5.nD Cert.Kernel5.τ).loc Cert.Kernel5.main_arg4)
      ∧ r.2.mem ((c.tc : Thread Cert.Kernel5.nD Cert.Kernel5.τ).loc Cert.Kernel5.main_arg5) = m ((c.tc : Thread Cert.Kernel5.nD Cert.Kernel5.τ).loc Cert.Kernel5.main_arg5))
      ∧ r.2.sem = fun _ => 0)

def quiescent_Kernel5Ideal [hKernel5Ideal : Cert.Kernel5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg), Pre_Kernel5Ideal m →
    θ_run (Cert.Kernel5Ideal.defs (F := Ideal)) (onTc (τ := Cert.Kernel5Ideal.τ) (Cert.Kernel5Ideal.main (F := Ideal))) ⟨m, fun _ => 0, g⟩ (fun r => (∀ c : Dev Cert.Kernel5Ideal.nD,
      r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
      ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
      ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2)
      ∧ r.2.mem ((c.tc : Thread Cert.Kernel5Ideal.nD Cert.Kernel5Ideal.τ).loc Cert.Kernel5Ideal.main_arg3) = m ((c.tc : Thread Cert.Kernel5Ideal.nD Cert.Kernel5Ideal.τ).loc Cert.Kernel5Ideal.main_arg3)
      ∧ r.2.mem ((c.tc : Thread Cert.Kernel5Ideal.nD Cert.Kernel5Ideal.τ).loc Cert.Kernel5Ideal.main_arg4) = m ((c.tc : Thread Cert.Kernel5Ideal.nD Cert.Kernel5Ideal.τ).loc Cert.Kernel5Ideal.main_arg4)
      ∧ r.2.mem ((c.tc : Thread Cert.Kernel5Ideal.nD Cert.Kernel5Ideal.τ).loc Cert.Kernel5Ideal.main_arg5) = m ((c.tc : Thread Cert.Kernel5Ideal.nD Cert.Kernel5Ideal.τ).loc Cert.Kernel5Ideal.main_arg5))
      ∧ r.2.sem = fun _ => 0)

def quiescent_Reference5Ideal [hReference5Ideal : Cert.Reference5Ideal.Facts] : Prop :=
  ∀ (m : (ℓ : Loc Cert.Reference5Ideal.nD Cert.Reference5Ideal.τ Cert.Reference5Ideal.sig) → Buf (Elt Ideal) ℓ) (g : Dev Cert.Reference5Ideal.nD → PrngReg), Pre_Reference5Ideal m →
    θ_run (Cert.Reference5Ideal.defs (F := Ideal)) (onTc (τ := Cert.Reference5Ideal.τ) (Cert.Reference5Ideal.main (F := Ideal))) ⟨m, fun _ => 0, g⟩ (fun r => (∀ c : Dev Cert.Reference5Ideal.nD,
      r.2.mem ((c.tc : Thread Cert.Reference5Ideal.nD Cert.Reference5Ideal.τ).loc Cert.Reference5Ideal.main_arg0) = m ((c.tc : Thread Cert.Reference5Ideal.nD Cert.Reference5Ideal.τ).loc Cert.Reference5Ideal.main_arg0)
      ∧ r.2.mem ((c.tc : Thread Cert.Reference5Ideal.nD Cert.Reference5Ideal.τ).loc Cert.Reference5Ideal.main_arg1) = m ((c.tc : Thread Cert.Reference5Ideal.nD Cert.Reference5Ideal.τ).loc Cert.Reference5Ideal.main_arg1)
      ∧ r.2.mem ((c.tc : Thread Cert.Reference5Ideal.nD Cert.Reference5Ideal.τ).loc Cert.Reference5Ideal.main_arg2) = m ((c.tc : Thread Cert.Reference5Ideal.nD Cert.Reference5Ideal.τ).loc Cert.Reference5Ideal.main_arg2)
      ∧ r.2.mem ((c.tc : Thread Cert.Reference5Ideal.nD Cert.Reference5Ideal.τ).loc Cert.Reference5Ideal.main_arg3) = m ((c.tc : Thread Cert.Reference5Ideal.nD Cert.Reference5Ideal.τ).loc Cert.Reference5Ideal.main_arg3)
      ∧ r.2.mem ((c.tc : Thread Cert.Reference5Ideal.nD Cert.Reference5Ideal.τ).loc Cert.Reference5Ideal.main_arg4) = m ((c.tc : Thread Cert.Reference5Ideal.nD Cert.Reference5Ideal.τ).loc Cert.Reference5Ideal.main_arg4)
      ∧ r.2.mem ((c.tc : Thread Cert.Reference5Ideal.nD Cert.Reference5Ideal.τ).loc Cert.Reference5Ideal.main_arg5) = m ((c.tc : Thread Cert.Reference5Ideal.nD Cert.Reference5Ideal.τ).loc Cert.Reference5Ideal.main_arg5))
      ∧ r.2.sem = fun _ => 0)

def quiescent_Kernel6 [hKernel6 : Cert.Kernel6.Facts] : Prop :=
  ∀ (m : (ℓ : Loc Cert.Kernel6.nD Cert.Kernel6.τ Cert.Kernel6.sig) → Buf (Elt Bits) ℓ) (g : Dev Cert.Kernel6.nD → PrngReg), Pre_Kernel6 m →
    θ_run (Cert.Kernel6.defs (F := Bits)) (onTc (τ := Cert.Kernel6.τ) (Cert.Kernel6.main (F := Bits))) ⟨m, fun _ => 0, g⟩ (fun r => (∀ c : Dev Cert.Kernel6.nD,
      r.2.mem ((c.tc : Thread Cert.Kernel6.nD Cert.Kernel6.τ).loc Cert.Kernel6.main_arg0) = m ((c.tc : Thread Cert.Kernel6.nD Cert.Kernel6.τ).loc Cert.Kernel6.main_arg0)
      ∧ r.2.mem ((c.tc : Thread Cert.Kernel6.nD Cert.Kernel6.τ).loc Cert.Kernel6.main_arg1) = m ((c.tc : Thread Cert.Kernel6.nD Cert.Kernel6.τ).loc Cert.Kernel6.main_arg1)
      ∧ r.2.mem ((c.tc : Thread Cert.Kernel6.nD Cert.Kernel6.τ).loc Cert.Kernel6.main_arg2) = m ((c.tc : Thread Cert.Kernel6.nD Cert.Kernel6.τ).loc Cert.Kernel6.main_arg2)
      ∧ r.2.mem ((c.tc : Thread Cert.Kernel6.nD Cert.Kernel6.τ).loc Cert.Kernel6.main_arg3) = m ((c.tc : Thread Cert.Kernel6.nD Cert.Kernel6.τ).loc Cert.Kernel6.main_arg3)
      ∧ r.2.mem ((c.tc : Thread Cert.Kernel6.nD Cert.Kernel6.τ).loc Cert.Kernel6.main_arg4) = m ((c.tc : Thread Cert.Kernel6.nD Cert.Kernel6.τ).loc Cert.Kernel6.main_arg4)
      ∧ r.2.mem ((c.tc : Thread Cert.Kernel6.nD Cert.Kernel6.τ).loc Cert.Kernel6.main_arg5) = m ((c.tc : Thread Cert.Kernel6.nD Cert.Kernel6.τ).loc Cert.Kernel6.main_arg5)
      ∧ r.2.mem ((c.tc : Thread Cert.Kernel6.nD Cert.Kernel6.τ).loc Cert.Kernel6.main_arg6) = m ((c.tc : Thread Cert.Kernel6.nD Cert.Kernel6.τ).loc Cert.Kernel6.main_arg6))
      ∧ r.2.sem = fun _ => 0)

def quiescent_Kernel6Ideal [hKernel6Ideal : Cert.Kernel6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg), Pre_Kernel6Ideal m →
    θ_run (Cert.Kernel6Ideal.defs (F := Ideal)) (onTc (τ := Cert.Kernel6Ideal.τ) (Cert.Kernel6Ideal.main (F := Ideal))) ⟨m, fun _ => 0, g⟩ (fun r => (∀ c : Dev Cert.Kernel6Ideal.nD,
      r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
      ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1)
      ∧ r.2.mem ((c.tc : Thread Cert.Kernel6Ideal.nD Cert.Kernel6Ideal.τ).loc Cert.Kernel6Ideal.main_arg2) = m ((c.tc : Thread Cert.Kernel6Ideal.nD Cert.Kernel6Ideal.τ).loc Cert.Kernel6Ideal.main_arg2)
      ∧ r.2.mem ((c.tc : Thread Cert.Kernel6Ideal.nD Cert.Kernel6Ideal.τ).loc Cert.Kernel6Ideal.main_arg3) = m ((c.tc : Thread Cert.Kernel6Ideal.nD Cert.Kernel6Ideal.τ).loc Cert.Kernel6Ideal.main_arg3)
      ∧ r.2.mem ((c.tc : Thread Cert.Kernel6Ideal.nD Cert.Kernel6Ideal.τ).loc Cert.Kernel6Ideal.main_arg4) = m ((c.tc : Thread Cert.Kernel6Ideal.nD Cert.Kernel6Ideal.τ).loc Cert.Kernel6Ideal.main_arg4)
      ∧ r.2.mem ((c.tc : Thread Cert.Kernel6Ideal.nD Cert.Kernel6Ideal.τ).loc Cert.Kernel6Ideal.main_arg5) = m ((c.tc : Thread Cert.Kernel6Ideal.nD Cert.Kernel6Ideal.τ).loc Cert.Kernel6Ideal.main_arg5)
      ∧ r.2.mem ((c.tc : Thread Cert.Kernel6Ideal.nD Cert.Kernel6Ideal.τ).loc Cert.Kernel6Ideal.main_arg6) = m ((c.tc : Thread Cert.Kernel6Ideal.nD Cert.Kernel6Ideal.τ).loc Cert.Kernel6Ideal.main_arg6))
      ∧ r.2.sem = fun _ => 0)

def quiescent_Kernel6Ideal_pre_heads_finite [hKernel6Ideal : Cert.Kernel6Ideal.Facts] [hPre_heads_finite : Cert.Pre_heads_finite.Facts] : Prop :=
  ∀ (m : (ℓ : Loc Cert.Kernel6Ideal.nD Cert.Kernel6Ideal.τ Cert.Kernel6Ideal.sig) → Buf (Elt Ideal) ℓ) (g : Dev Cert.Kernel6Ideal.nD → PrngReg), Pre_Kernel6Ideal_heads_finite m →
    θ_run (Cert.Kernel6Ideal.defs (F := Ideal)) (onTc (τ := Cert.Kernel6Ideal.τ) (Cert.Kernel6Ideal.main (F := Ideal))) ⟨m, fun _ => 0, g⟩ (fun r => (∀ c : Dev Cert.Kernel6Ideal.nD,
      r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
      ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1)
      ∧ r.2.mem ((c.tc : Thread Cert.Kernel6Ideal.nD Cert.Kernel6Ideal.τ).loc Cert.Kernel6Ideal.main_arg2) = m ((c.tc : Thread Cert.Kernel6Ideal.nD Cert.Kernel6Ideal.τ).loc Cert.Kernel6Ideal.main_arg2)
      ∧ r.2.mem ((c.tc : Thread Cert.Kernel6Ideal.nD Cert.Kernel6Ideal.τ).loc Cert.Kernel6Ideal.main_arg3) = m ((c.tc : Thread Cert.Kernel6Ideal.nD Cert.Kernel6Ideal.τ).loc Cert.Kernel6Ideal.main_arg3)
      ∧ r.2.mem ((c.tc : Thread Cert.Kernel6Ideal.nD Cert.Kernel6Ideal.τ).loc Cert.Kernel6Ideal.main_arg4) = m ((c.tc : Thread Cert.Kernel6Ideal.nD Cert.Kernel6Ideal.τ).loc Cert.Kernel6Ideal.main_arg4)
      ∧ r.2.mem ((c.tc : Thread Cert.Kernel6Ideal.nD Cert.Kernel6Ideal.τ).loc Cert.Kernel6Ideal.main_arg5) = m ((c.tc : Thread Cert.Kernel6Ideal.nD Cert.Kernel6Ideal.τ).loc Cert.Kernel6Ideal.main_arg5)
      ∧ r.2.mem ((c.tc : Thread Cert.Kernel6Ideal.nD Cert.Kernel6Ideal.τ).loc Cert.Kernel6Ideal.main_arg6) = m ((c.tc : Thread Cert.Kernel6Ideal.nD Cert.Kernel6Ideal.τ).loc Cert.Kernel6Ideal.main_arg6))
      ∧ r.2.sem = fun _ => 0)

def quiescent_Reference6Ideal [hReference6Ideal : Cert.Reference6Ideal.Facts] : Prop :=
  ∀ (m : (ℓ : Loc Cert.Reference6Ideal.nD Cert.Reference6Ideal.τ Cert.Reference6Ideal.sig) → Buf (Elt Ideal) ℓ) (g : Dev Cert.Reference6Ideal.nD → PrngReg), Pre_Reference6Ideal m →
    θ_run (Cert.Reference6Ideal.defs (F := Ideal)) (onTc (τ := Cert.Reference6Ideal.τ) (Cert.Reference6Ideal.main (F := Ideal))) ⟨m, fun _ => 0, g⟩ (fun r => (∀ c : Dev Cert.Reference6Ideal.nD,
      r.2.mem ((c.tc : Thread Cert.Reference6Ideal.nD Cert.Reference6Ideal.τ).loc Cert.Reference6Ideal.main_arg0) = m ((c.tc : Thread Cert.Reference6Ideal.nD Cert.Reference6Ideal.τ).loc Cert.Reference6Ideal.main_arg0)
      ∧ r.2.mem ((c.tc : Thread Cert.Reference6Ideal.nD Cert.Reference6Ideal.τ).loc Cert.Reference6Ideal.main_arg1) = m ((c.tc : Thread Cert.Reference6Ideal.nD Cert.Reference6Ideal.τ).loc Cert.Reference6Ideal.main_arg1)
      ∧ r.2.mem ((c.tc : Thread Cert.Reference6Ideal.nD Cert.Reference6Ideal.τ).loc Cert.Reference6Ideal.main_arg2) = m ((c.tc : Thread Cert.Reference6Ideal.nD Cert.Reference6Ideal.τ).loc Cert.Reference6Ideal.main_arg2)
      ∧ r.2.mem ((c.tc : Thread Cert.Reference6Ideal.nD Cert.Reference6Ideal.τ).loc Cert.Reference6Ideal.main_arg3) = m ((c.tc : Thread Cert.Reference6Ideal.nD Cert.Reference6Ideal.τ).loc Cert.Reference6Ideal.main_arg3)
      ∧ r.2.mem ((c.tc : Thread Cert.Reference6Ideal.nD Cert.Reference6Ideal.τ).loc Cert.Reference6Ideal.main_arg4) = m ((c.tc : Thread Cert.Reference6Ideal.nD Cert.Reference6Ideal.τ).loc Cert.Reference6Ideal.main_arg4)
      ∧ r.2.mem ((c.tc : Thread Cert.Reference6Ideal.nD Cert.Reference6Ideal.τ).loc Cert.Reference6Ideal.main_arg5) = m ((c.tc : Thread Cert.Reference6Ideal.nD Cert.Reference6Ideal.τ).loc Cert.Reference6Ideal.main_arg5)
      ∧ r.2.mem ((c.tc : Thread Cert.Reference6Ideal.nD Cert.Reference6Ideal.τ).loc Cert.Reference6Ideal.main_arg6) = m ((c.tc : Thread Cert.Reference6Ideal.nD Cert.Reference6Ideal.τ).loc Cert.Reference6Ideal.main_arg6))
      ∧ r.2.sem = fun _ => 0)

def quiescent_Reference6Ideal_pre_heads_finite [hReference6Ideal : Cert.Reference6Ideal.Facts] [hPre_heads_finite : Cert.Pre_heads_finite.Facts] : Prop :=
  ∀ (m : (ℓ : Loc Cert.Reference6Ideal.nD Cert.Reference6Ideal.τ Cert.Reference6Ideal.sig) → Buf (Elt Ideal) ℓ) (g : Dev Cert.Reference6Ideal.nD → PrngReg), Pre_Reference6Ideal_heads_finite m →
    θ_run (Cert.Reference6Ideal.defs (F := Ideal)) (onTc (τ := Cert.Reference6Ideal.τ) (Cert.Reference6Ideal.main (F := Ideal))) ⟨m, fun _ => 0, g⟩ (fun r => (∀ c : Dev Cert.Reference6Ideal.nD,
      r.2.mem ((c.tc : Thread Cert.Reference6Ideal.nD Cert.Reference6Ideal.τ).loc Cert.Reference6Ideal.main_arg0) = m ((c.tc : Thread Cert.Reference6Ideal.nD Cert.Reference6Ideal.τ).loc Cert.Reference6Ideal.main_arg0)
      ∧ r.2.mem ((c.tc : Thread Cert.Reference6Ideal.nD Cert.Reference6Ideal.τ).loc Cert.Reference6Ideal.main_arg1) = m ((c.tc : Thread Cert.Reference6Ideal.nD Cert.Reference6Ideal.τ).loc Cert.Reference6Ideal.main_arg1)
      ∧ r.2.mem ((c.tc : Thread Cert.Reference6Ideal.nD Cert.Reference6Ideal.τ).loc Cert.Reference6Ideal.main_arg2) = m ((c.tc : Thread Cert.Reference6Ideal.nD Cert.Reference6Ideal.τ).loc Cert.Reference6Ideal.main_arg2)
      ∧ r.2.mem ((c.tc : Thread Cert.Reference6Ideal.nD Cert.Reference6Ideal.τ).loc Cert.Reference6Ideal.main_arg3) = m ((c.tc : Thread Cert.Reference6Ideal.nD Cert.Reference6Ideal.τ).loc Cert.Reference6Ideal.main_arg3)
      ∧ r.2.mem ((c.tc : Thread Cert.Reference6Ideal.nD Cert.Reference6Ideal.τ).loc Cert.Reference6Ideal.main_arg4) = m ((c.tc : Thread Cert.Reference6Ideal.nD Cert.Reference6Ideal.τ).loc Cert.Reference6Ideal.main_arg4)
      ∧ r.2.mem ((c.tc : Thread Cert.Reference6Ideal.nD Cert.Reference6Ideal.τ).loc Cert.Reference6Ideal.main_arg5) = m ((c.tc : Thread Cert.Reference6Ideal.nD Cert.Reference6Ideal.τ).loc Cert.Reference6Ideal.main_arg5)
      ∧ r.2.mem ((c.tc : Thread Cert.Reference6Ideal.nD Cert.Reference6Ideal.τ).loc Cert.Reference6Ideal.main_arg6) = m ((c.tc : Thread Cert.Reference6Ideal.nD Cert.Reference6Ideal.τ).loc Cert.Reference6Ideal.main_arg6))
      ∧ r.2.sem = fun _ => 0)

def quiescent_Kernel7 [hKernel7 : Cert.Kernel7.Facts] : Prop :=
  ∀ (m : (ℓ : Loc Cert.Kernel7.nD Cert.Kernel7.τ Cert.Kernel7.sig) → Buf (Elt Bits) ℓ) (g : Dev Cert.Kernel7.nD → PrngReg), Pre_Kernel7 m →
    θ_run (Cert.Kernel7.defs (F := Bits)) (onTc (τ := Cert.Kernel7.τ) (Cert.Kernel7.main (F := Bits))) ⟨m, fun _ => 0, g⟩ (fun r => (∀ c : Dev Cert.Kernel7.nD,
      r.2.mem ((c.tc : Thread Cert.Kernel7.nD Cert.Kernel7.τ).loc Cert.Kernel7.main_arg0) = m ((c.tc : Thread Cert.Kernel7.nD Cert.Kernel7.τ).loc Cert.Kernel7.main_arg0)
      ∧ r.2.mem ((c.tc : Thread Cert.Kernel7.nD Cert.Kernel7.τ).loc Cert.Kernel7.main_arg1) = m ((c.tc : Thread Cert.Kernel7.nD Cert.Kernel7.τ).loc Cert.Kernel7.main_arg1)
      ∧ r.2.mem ((c.tc : Thread Cert.Kernel7.nD Cert.Kernel7.τ).loc Cert.Kernel7.main_arg2) = m ((c.tc : Thread Cert.Kernel7.nD Cert.Kernel7.τ).loc Cert.Kernel7.main_arg2))
      ∧ r.2.sem = fun _ => 0)

def quiescent_Kernel7Ideal [hKernel7Ideal : Cert.Kernel7Ideal.Facts] : Prop :=
  ∀ (m : (ℓ : Loc Cert.Kernel7Ideal.nD Cert.Kernel7Ideal.τ Cert.Kernel7Ideal.sig) → Buf (Elt Ideal) ℓ) (g : Dev Cert.Kernel7Ideal.nD → PrngReg), Pre_Kernel7Ideal m →
    θ_run (Cert.Kernel7Ideal.defs (F := Ideal)) (onTc (τ := Cert.Kernel7Ideal.τ) (Cert.Kernel7Ideal.main (F := Ideal))) ⟨m, fun _ => 0, g⟩ (fun r => (∀ c : Dev Cert.Kernel7Ideal.nD,
      r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
      ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1)
      ∧ r.2.mem ((c.tc : Thread Cert.Kernel7Ideal.nD Cert.Kernel7Ideal.τ).loc Cert.Kernel7Ideal.main_arg2) = m ((c.tc : Thread Cert.Kernel7Ideal.nD Cert.Kernel7Ideal.τ).loc Cert.Kernel7Ideal.main_arg2))
      ∧ r.2.sem = fun _ => 0)

def quiescent_Reference7Ideal [hReference7Ideal : Cert.Reference7Ideal.Facts] : Prop :=
  ∀ (m : (ℓ : Loc Cert.Reference7Ideal.nD Cert.Reference7Ideal.τ Cert.Reference7Ideal.sig) → Buf (Elt Ideal) ℓ) (g : Dev Cert.Reference7Ideal.nD → PrngReg), Pre_Reference7Ideal m →
    θ_run (Cert.Reference7Ideal.defs (F := Ideal)) (onTc (τ := Cert.Reference7Ideal.τ) (Cert.Reference7Ideal.main (F := Ideal))) ⟨m, fun _ => 0, g⟩ (fun r => (∀ c : Dev Cert.Reference7Ideal.nD,
      r.2.mem ((c.tc : Thread Cert.Reference7Ideal.nD Cert.Reference7Ideal.τ).loc Cert.Reference7Ideal.main_arg0) = m ((c.tc : Thread Cert.Reference7Ideal.nD Cert.Reference7Ideal.τ).loc Cert.Reference7Ideal.main_arg0)
      ∧ r.2.mem ((c.tc : Thread Cert.Reference7Ideal.nD Cert.Reference7Ideal.τ).loc Cert.Reference7Ideal.main_arg1) = m ((c.tc : Thread Cert.Reference7Ideal.nD Cert.Reference7Ideal.τ).loc Cert.Reference7Ideal.main_arg1)
      ∧ r.2.mem ((c.tc : Thread Cert.Reference7Ideal.nD Cert.Reference7Ideal.τ).loc Cert.Reference7Ideal.main_arg2) = m ((c.tc : Thread Cert.Reference7Ideal.nD Cert.Reference7Ideal.τ).loc Cert.Reference7Ideal.main_arg2))
      ∧ r.2.sem = fun _ => 0)

def quiescent_Kernel8 [hKernel8 : Cert.Kernel8.Facts] : Prop :=
  ∀ (m : (ℓ : Loc Cert.Kernel8.nD Cert.Kernel8.τ Cert.Kernel8.sig) → Buf (Elt Bits) ℓ) (g : Dev Cert.Kernel8.nD → PrngReg), Pre_Kernel8 m →
    θ_run (Cert.Kernel8.defs (F := Bits)) (onTc (τ := Cert.Kernel8.τ) (Cert.Kernel8.main (F := Bits))) ⟨m, fun _ => 0, g⟩ (fun r => (∀ c : Dev Cert.Kernel8.nD,
      r.2.mem ((c.tc : Thread Cert.Kernel8.nD Cert.Kernel8.τ).loc Cert.Kernel8.main_arg0) = m ((c.tc : Thread Cert.Kernel8.nD Cert.Kernel8.τ).loc Cert.Kernel8.main_arg0)
      ∧ r.2.mem ((c.tc : Thread Cert.Kernel8.nD Cert.Kernel8.τ).loc Cert.Kernel8.main_arg1) = m ((c.tc : Thread Cert.Kernel8.nD Cert.Kernel8.τ).loc Cert.Kernel8.main_arg1)
      ∧ r.2.mem ((c.tc : Thread Cert.Kernel8.nD Cert.Kernel8.τ).loc Cert.Kernel8.main_arg2) = m ((c.tc : Thread Cert.Kernel8.nD Cert.Kernel8.τ).loc Cert.Kernel8.main_arg2)
      ∧ r.2.mem ((c.tc : Thread Cert.Kernel8.nD Cert.Kernel8.τ).loc Cert.Kernel8.main_arg3) = m ((c.tc : Thread Cert.Kernel8.nD Cert.Kernel8.τ).loc Cert.Kernel8.main_arg3))
      ∧ r.2.sem = fun _ => 0)

def quiescent_Kernel8Ideal [hKernel8Ideal : Cert.Kernel8Ideal.Facts] : Prop :=
  ∀ (m : (ℓ : Loc Cert.Kernel8Ideal.nD Cert.Kernel8Ideal.τ Cert.Kernel8Ideal.sig) → Buf (Elt Ideal) ℓ) (g : Dev Cert.Kernel8Ideal.nD → PrngReg), Pre_Kernel8Ideal m →
    θ_run (Cert.Kernel8Ideal.defs (F := Ideal)) (onTc (τ := Cert.Kernel8Ideal.τ) (Cert.Kernel8Ideal.main (F := Ideal))) ⟨m, fun _ => 0, g⟩ (fun r => (∀ c : Dev Cert.Kernel8Ideal.nD,
      r.2.mem ((c.tc : Thread Cert.Kernel8Ideal.nD Cert.Kernel8Ideal.τ).loc Cert.Kernel8Ideal.main_arg0) = m ((c.tc : Thread Cert.Kernel8Ideal.nD Cert.Kernel8Ideal.τ).loc Cert.Kernel8Ideal.main_arg0)
      ∧ r.2.mem ((c.tc : Thread Cert.Kernel8Ideal.nD Cert.Kernel8Ideal.τ).loc Cert.Kernel8Ideal.main_arg1) = m ((c.tc : Thread Cert.Kernel8Ideal.nD Cert.Kernel8Ideal.τ).loc Cert.Kernel8Ideal.main_arg1)
      ∧ r.2.mem ((c.tc : Thread Cert.Kernel8Ideal.nD Cert.Kernel8Ideal.τ).loc Cert.Kernel8Ideal.main_arg2) = m ((c.tc : Thread Cert.Kernel8Ideal.nD Cert.Kernel8Ideal.τ).loc Cert.Kernel8Ideal.main_arg2)
      ∧ r.2.mem ((c.tc : Thread Cert.Kernel8Ideal.nD Cert.Kernel8Ideal.τ).loc Cert.Kernel8Ideal.main_arg3) = m ((c.tc : Thread Cert.Kernel8Ideal.nD Cert.Kernel8Ideal.τ).loc Cert.Kernel8Ideal.main_arg3))
      ∧ r.2.sem = fun _ => 0)

def quiescent_Kernel8Ideal_pre_attn_fwd_finite [hKernel8Ideal : Cert.Kernel8Ideal.Facts] [hPre_attn_fwd_finite : Cert.Pre_attn_fwd_finite.Facts] : Prop :=
  ∀ (m : (ℓ : Loc Cert.Kernel8Ideal.nD Cert.Kernel8Ideal.τ Cert.Kernel8Ideal.sig) → Buf (Elt Ideal) ℓ) (g : Dev Cert.Kernel8Ideal.nD → PrngReg), Pre_Kernel8Ideal_attn_fwd_finite m →
    θ_run (Cert.Kernel8Ideal.defs (F := Ideal)) (onTc (τ := Cert.Kernel8Ideal.τ) (Cert.Kernel8Ideal.main (F := Ideal))) ⟨m, fun _ => 0, g⟩ (fun r => (∀ c : Dev Cert.Kernel8Ideal.nD,
      r.2.mem ((c.tc : Thread Cert.Kernel8Ideal.nD Cert.Kernel8Ideal.τ).loc Cert.Kernel8Ideal.main_arg0) = m ((c.tc : Thread Cert.Kernel8Ideal.nD Cert.Kernel8Ideal.τ).loc Cert.Kernel8Ideal.main_arg0)
      ∧ r.2.mem ((c.tc : Thread Cert.Kernel8Ideal.nD Cert.Kernel8Ideal.τ).loc Cert.Kernel8Ideal.main_arg1) = m ((c.tc : Thread Cert.Kernel8Ideal.nD Cert.Kernel8Ideal.τ).loc Cert.Kernel8Ideal.main_arg1)
      ∧ r.2.mem ((c.tc : Thread Cert.Kernel8Ideal.nD Cert.Kernel8Ideal.τ).loc Cert.Kernel8Ideal.main_arg2) = m ((c.tc : Thread Cert.Kernel8Ideal.nD Cert.Kernel8Ideal.τ).loc Cert.Kernel8Ideal.main_arg2)
      ∧ r.2.mem ((c.tc : Thread Cert.Kernel8Ideal.nD Cert.Kernel8Ideal.τ).loc Cert.Kernel8Ideal.main_arg3) = m ((c.tc : Thread Cert.Kernel8Ideal.nD Cert.Kernel8Ideal.τ).loc Cert.Kernel8Ideal.main_arg3))
      ∧ r.2.sem = fun _ => 0)

def quiescent_Reference8Ideal [hReference8Ideal : Cert.Reference8Ideal.Facts] : Prop :=
  ∀ (m : (ℓ : Loc Cert.Reference8Ideal.nD Cert.Reference8Ideal.τ Cert.Reference8Ideal.sig) → Buf (Elt Ideal) ℓ) (g : Dev Cert.Reference8Ideal.nD → PrngReg), Pre_Reference8Ideal m →
    θ_run (Cert.Reference8Ideal.defs (F := Ideal)) (onTc (τ := Cert.Reference8Ideal.τ) (Cert.Reference8Ideal.main (F := Ideal))) ⟨m, fun _ => 0, g⟩ (fun r => (∀ c : Dev Cert.Reference8Ideal.nD,
      r.2.mem ((c.tc : Thread Cert.Reference8Ideal.nD Cert.Reference8Ideal.τ).loc Cert.Reference8Ideal.main_arg0) = m ((c.tc : Thread Cert.Reference8Ideal.nD Cert.Reference8Ideal.τ).loc Cert.Reference8Ideal.main_arg0)
      ∧ r.2.mem ((c.tc : Thread Cert.Reference8Ideal.nD Cert.Reference8Ideal.τ).loc Cert.Reference8Ideal.main_arg1) = m ((c.tc : Thread Cert.Reference8Ideal.nD Cert.Reference8Ideal.τ).loc Cert.Reference8Ideal.main_arg1)
      ∧ r.2.mem ((c.tc : Thread Cert.Reference8Ideal.nD Cert.Reference8Ideal.τ).loc Cert.Reference8Ideal.main_arg2) = m ((c.tc : Thread Cert.Reference8Ideal.nD Cert.Reference8Ideal.τ).loc Cert.Reference8Ideal.main_arg2)
      ∧ r.2.mem ((c.tc : Thread Cert.Reference8Ideal.nD Cert.Reference8Ideal.τ).loc Cert.Reference8Ideal.main_arg3) = m ((c.tc : Thread Cert.Reference8Ideal.nD Cert.Reference8Ideal.τ).loc Cert.Reference8Ideal.main_arg3))
      ∧ r.2.sem = fun _ => 0)

def quiescent_Reference8Ideal_pre_attn_fwd_finite [hReference8Ideal : Cert.Reference8Ideal.Facts] [hPre_attn_fwd_finite : Cert.Pre_attn_fwd_finite.Facts] : Prop :=
  ∀ (m : (ℓ : Loc Cert.Reference8Ideal.nD Cert.Reference8Ideal.τ Cert.Reference8Ideal.sig) → Buf (Elt Ideal) ℓ) (g : Dev Cert.Reference8Ideal.nD → PrngReg), Pre_Reference8Ideal_attn_fwd_finite m →
    θ_run (Cert.Reference8Ideal.defs (F := Ideal)) (onTc (τ := Cert.Reference8Ideal.τ) (Cert.Reference8Ideal.main (F := Ideal))) ⟨m, fun _ => 0, g⟩ (fun r => (∀ c : Dev Cert.Reference8Ideal.nD,
      r.2.mem ((c.tc : Thread Cert.Reference8Ideal.nD Cert.Reference8Ideal.τ).loc Cert.Reference8Ideal.main_arg0) = m ((c.tc : Thread Cert.Reference8Ideal.nD Cert.Reference8Ideal.τ).loc Cert.Reference8Ideal.main_arg0)
      ∧ r.2.mem ((c.tc : Thread Cert.Reference8Ideal.nD Cert.Reference8Ideal.τ).loc Cert.Reference8Ideal.main_arg1) = m ((c.tc : Thread Cert.Reference8Ideal.nD Cert.Reference8Ideal.τ).loc Cert.Reference8Ideal.main_arg1)
      ∧ r.2.mem ((c.tc : Thread Cert.Reference8Ideal.nD Cert.Reference8Ideal.τ).loc Cert.Reference8Ideal.main_arg2) = m ((c.tc : Thread Cert.Reference8Ideal.nD Cert.Reference8Ideal.τ).loc Cert.Reference8Ideal.main_arg2)
      ∧ r.2.mem ((c.tc : Thread Cert.Reference8Ideal.nD Cert.Reference8Ideal.τ).loc Cert.Reference8Ideal.main_arg3) = m ((c.tc : Thread Cert.Reference8Ideal.nD Cert.Reference8Ideal.τ).loc Cert.Reference8Ideal.main_arg3))
      ∧ r.2.sem = fun _ => 0)

def quiescent_Kernel9 [hKernel9 : Cert.Kernel9.Facts] : Prop :=
  ∀ (m : (ℓ : Loc Cert.Kernel9.nD Cert.Kernel9.τ Cert.Kernel9.sig) → Buf (Elt Bits) ℓ) (g : Dev Cert.Kernel9.nD → PrngReg), Pre_Kernel9 m →
    θ_run (Cert.Kernel9.defs (F := Bits)) (onTc (τ := Cert.Kernel9.τ) (Cert.Kernel9.main (F := Bits))) ⟨m, fun _ => 0, g⟩ (fun r => (∀ c : Dev Cert.Kernel9.nD,
      r.2.mem ((c.tc : Thread Cert.Kernel9.nD Cert.Kernel9.τ).loc Cert.Kernel9.main_arg0) = m ((c.tc : Thread Cert.Kernel9.nD Cert.Kernel9.τ).loc Cert.Kernel9.main_arg0)
      ∧ r.2.mem ((c.tc : Thread Cert.Kernel9.nD Cert.Kernel9.τ).loc Cert.Kernel9.main_arg1) = m ((c.tc : Thread Cert.Kernel9.nD Cert.Kernel9.τ).loc Cert.Kernel9.main_arg1)
      ∧ r.2.mem ((c.tc : Thread Cert.Kernel9.nD Cert.Kernel9.τ).loc Cert.Kernel9.main_arg2) = m ((c.tc : Thread Cert.Kernel9.nD Cert.Kernel9.τ).loc Cert.Kernel9.main_arg2))
      ∧ r.2.sem = fun _ => 0)

def quiescent_Kernel9Ideal [hKernel9Ideal : Cert.Kernel9Ideal.Facts] : Prop :=
  ∀ (m : (ℓ : Loc Cert.Kernel9Ideal.nD Cert.Kernel9Ideal.τ Cert.Kernel9Ideal.sig) → Buf (Elt Ideal) ℓ) (g : Dev Cert.Kernel9Ideal.nD → PrngReg), Pre_Kernel9Ideal m →
    θ_run (Cert.Kernel9Ideal.defs (F := Ideal)) (onTc (τ := Cert.Kernel9Ideal.τ) (Cert.Kernel9Ideal.main (F := Ideal))) ⟨m, fun _ => 0, g⟩ (fun r => (∀ c : Dev Cert.Kernel9Ideal.nD,
      r.2.mem ((c.tc : Thread Cert.Kernel9Ideal.nD Cert.Kernel9Ideal.τ).loc Cert.Kernel9Ideal.main_arg0) = m ((c.tc : Thread Cert.Kernel9Ideal.nD Cert.Kernel9Ideal.τ).loc Cert.Kernel9Ideal.main_arg0)
      ∧ r.2.mem ((c.tc : Thread Cert.Kernel9Ideal.nD Cert.Kernel9Ideal.τ).loc Cert.Kernel9Ideal.main_arg1) = m ((c.tc : Thread Cert.Kernel9Ideal.nD Cert.Kernel9Ideal.τ).loc Cert.Kernel9Ideal.main_arg1)
      ∧ r.2.mem ((c.tc : Thread Cert.Kernel9Ideal.nD Cert.Kernel9Ideal.τ).loc Cert.Kernel9Ideal.main_arg2) = m ((c.tc : Thread Cert.Kernel9Ideal.nD Cert.Kernel9Ideal.τ).loc Cert.Kernel9Ideal.main_arg2))
      ∧ r.2.sem = fun _ => 0)

def quiescent_Reference9Ideal [hReference9Ideal : Cert.Reference9Ideal.Facts] : Prop :=
  ∀ (m : (ℓ : Loc Cert.Reference9Ideal.nD Cert.Reference9Ideal.τ Cert.Reference9Ideal.sig) → Buf (Elt Ideal) ℓ) (g : Dev Cert.Reference9Ideal.nD → PrngReg), Pre_Reference9Ideal m →
    θ_run (Cert.Reference9Ideal.defs (F := Ideal)) (onTc (τ := Cert.Reference9Ideal.τ) (Cert.Reference9Ideal.main (F := Ideal))) ⟨m, fun _ => 0, g⟩ (fun r => (∀ c : Dev Cert.Reference9Ideal.nD,
      r.2.mem ((c.tc : Thread Cert.Reference9Ideal.nD Cert.Reference9Ideal.τ).loc Cert.Reference9Ideal.main_arg0) = m ((c.tc : Thread Cert.Reference9Ideal.nD Cert.Reference9Ideal.τ).loc Cert.Reference9Ideal.main_arg0)
      ∧ r.2.mem ((c.tc : Thread Cert.Reference9Ideal.nD Cert.Reference9Ideal.τ).loc Cert.Reference9Ideal.main_arg1) = m ((c.tc : Thread Cert.Reference9Ideal.nD Cert.Reference9Ideal.τ).loc Cert.Reference9Ideal.main_arg1)
      ∧ r.2.mem ((c.tc : Thread Cert.Reference9Ideal.nD Cert.Reference9Ideal.τ).loc Cert.Reference9Ideal.main_arg2) = m ((c.tc : Thread Cert.Reference9Ideal.nD Cert.Reference9Ideal.τ).loc Cert.Reference9Ideal.main_arg2))
      ∧ r.2.sem = fun _ => 0)

def preserves_Kernel_KernelIdeal : Prop :=
  True

def algebraic_KernelIdeal_ReferenceIdeal_pre_conv_post_finite [hKernelIdeal : Cert.KernelIdeal.Facts] [hReferenceIdeal : Cert.ReferenceIdeal.Facts] [hPre_conv_post_finite : Cert.Pre_conv_post_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_conv_post_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v10_0)) (v1 : (c : Dev Cert.KernelIdeal.nD) → Buf (Elt Ideal) ((c.tc : Thread Cert.KernelIdeal.nD Cert.KernelIdeal.τ).loc Cert.KernelIdeal.main_v10_1)) (v2 : (c : Dev Cert.KernelIdeal.nD) → Buf (Elt Ideal) ((c.tc : Thread Cert.KernelIdeal.nD Cert.KernelIdeal.τ).loc Cert.KernelIdeal.main_v10_2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v10_0) = v0 c
          ∧ r.2.mem ((c.tc : Thread Cert.KernelIdeal.nD Cert.KernelIdeal.τ).loc Cert.KernelIdeal.main_v10_1) = v1 c
          ∧ r.2.mem ((c.tc : Thread Cert.KernelIdeal.nD Cert.KernelIdeal.τ).loc Cert.KernelIdeal.main_v10_2) = v2 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v87) = v0 c
          ∧ r.2.mem ((c.tc : Thread Cert.ReferenceIdeal.nD Cert.ReferenceIdeal.τ).loc Cert.ReferenceIdeal.main_v88) = v1 c
          ∧ r.2.mem ((c.tc : Thread Cert.ReferenceIdeal.nD Cert.ReferenceIdeal.τ).loc Cert.ReferenceIdeal.main_v89) = v2 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def preserves_Kernel2_Kernel2Ideal : Prop :=
  IdealRules.named_const.Statement Cert.Kernel2Ideal.κ "mask" .f32 0xF149F2CA#32 ⊥

def algebraic_Kernel2Ideal_Reference2Ideal_on_attention_lanes_pre_attention_finite [hKernel2Ideal : Cert.Kernel2Ideal.Facts] [hReference2Ideal : Cert.Reference2Ideal.Facts] [hPre_attention_finite : Cert.Pre_attention_finite.Facts] [hOn_attention_lanes : Cert.On_attention_lanes.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal_attention_finite m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)
      ∧ m' ((c.tc : Thread Cert.Reference2Ideal.nD Cert.Reference2Ideal.τ).loc Cert.Reference2Ideal.main_arg2) = m ((c.tc : Thread Cert.Kernel2Ideal.nD Cert.Kernel2Ideal.τ).loc Cert.Kernel2Ideal.main_arg2)
      ∧ m' ((c.tc : Thread Cert.Reference2Ideal.nD Cert.Reference2Ideal.τ).loc Cert.Reference2Ideal.main_arg3) = m ((c.tc : Thread Cert.Kernel2Ideal.nD Cert.Kernel2Ideal.τ).loc Cert.Kernel2Ideal.main_arg3)
      ∧ m' ((c.tc : Thread Cert.Reference2Ideal.nD Cert.Reference2Ideal.τ).loc Cert.Reference2Ideal.main_arg4) = m ((c.tc : Thread Cert.Kernel2Ideal.nD Cert.Kernel2Ideal.τ).loc Cert.Kernel2Ideal.main_arg4)) →
    ∃ (v0 : (c : Dev Cert.Kernel2Ideal.nD) → Buf (Elt Ideal) ((c.tc : Thread Cert.Kernel2Ideal.nD Cert.Kernel2Ideal.τ).loc Cert.Kernel2Ideal.main_v102_0)) (v1 : (c : Dev Cert.Kernel2Ideal.nD) → Buf (Elt Ideal) ((c.tc : Thread Cert.Kernel2Ideal.nD Cert.Kernel2Ideal.τ).loc Cert.Kernel2Ideal.main_v102_1)) (v2 : (c : Dev Cert.Kernel2Ideal.nD) → Buf (Elt Ideal) ((c.tc : Thread Cert.Kernel2Ideal.nD Cert.Kernel2Ideal.τ).loc Cert.Kernel2Ideal.main_v102_2)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          (∀ i : (⟨4, ![2, 16, 2048, 128]⟩ : Shape).Idx, (Cert.On_attention_lanes.fn (F := Ideal) (m ((c.tc : Thread Cert.Kernel2Ideal.nD Cert.Kernel2Ideal.τ).loc Cert.Kernel2Ideal.main_arg0)) (m ((c.tc : Thread Cert.Kernel2Ideal.nD Cert.Kernel2Ideal.τ).loc Cert.Kernel2Ideal.main_arg1)) (m ((c.tc : Thread Cert.Kernel2Ideal.nD Cert.Kernel2Ideal.τ).loc Cert.Kernel2Ideal.main_arg2)) (m ((c.tc : Thread Cert.Kernel2Ideal.nD Cert.Kernel2Ideal.τ).loc Cert.Kernel2Ideal.main_arg3)) (m ((c.tc : Thread Cert.Kernel2Ideal.nD Cert.Kernel2Ideal.τ).loc Cert.Kernel2Ideal.main_arg4))).1 i = 1#1 → r.2.mem ((c.tc : Thread Cert.Kernel2Ideal.nD Cert.Kernel2Ideal.τ).loc Cert.Kernel2Ideal.main_v102_0) i = v0 c i)
          ∧ (∀ i : (⟨4, ![2, 16, 2048, 128]⟩ : Shape).Idx, (Cert.On_attention_lanes.fn (F := Ideal) (m ((c.tc : Thread Cert.Kernel2Ideal.nD Cert.Kernel2Ideal.τ).loc Cert.Kernel2Ideal.main_arg0)) (m ((c.tc : Thread Cert.Kernel2Ideal.nD Cert.Kernel2Ideal.τ).loc Cert.Kernel2Ideal.main_arg1)) (m ((c.tc : Thread Cert.Kernel2Ideal.nD Cert.Kernel2Ideal.τ).loc Cert.Kernel2Ideal.main_arg2)) (m ((c.tc : Thread Cert.Kernel2Ideal.nD Cert.Kernel2Ideal.τ).loc Cert.Kernel2Ideal.main_arg3)) (m ((c.tc : Thread Cert.Kernel2Ideal.nD Cert.Kernel2Ideal.τ).loc Cert.Kernel2Ideal.main_arg4))).2.1 i = 1#1 → r.2.mem ((c.tc : Thread Cert.Kernel2Ideal.nD Cert.Kernel2Ideal.τ).loc Cert.Kernel2Ideal.main_v102_1) i = v1 c i)
          ∧ (∀ i : (⟨4, ![2, 16, 2048, 128]⟩ : Shape).Idx, (Cert.On_attention_lanes.fn (F := Ideal) (m ((c.tc : Thread Cert.Kernel2Ideal.nD Cert.Kernel2Ideal.τ).loc Cert.Kernel2Ideal.main_arg0)) (m ((c.tc : Thread Cert.Kernel2Ideal.nD Cert.Kernel2Ideal.τ).loc Cert.Kernel2Ideal.main_arg1)) (m ((c.tc : Thread Cert.Kernel2Ideal.nD Cert.Kernel2Ideal.τ).loc Cert.Kernel2Ideal.main_arg2)) (m ((c.tc : Thread Cert.Kernel2Ideal.nD Cert.Kernel2Ideal.τ).loc Cert.Kernel2Ideal.main_arg3)) (m ((c.tc : Thread Cert.Kernel2Ideal.nD Cert.Kernel2Ideal.τ).loc Cert.Kernel2Ideal.main_arg4))).2.2 i = 1#1 → r.2.mem ((c.tc : Thread Cert.Kernel2Ideal.nD Cert.Kernel2Ideal.τ).loc Cert.Kernel2Ideal.main_v102_2) i = v2 c i)
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
          ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
          ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
          ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          (∀ i : (⟨4, ![2, 16, 2048, 128]⟩ : Shape).Idx, (Cert.On_attention_lanes.fn (F := Ideal) (m ((c.tc : Thread Cert.Kernel2Ideal.nD Cert.Kernel2Ideal.τ).loc Cert.Kernel2Ideal.main_arg0)) (m ((c.tc : Thread Cert.Kernel2Ideal.nD Cert.Kernel2Ideal.τ).loc Cert.Kernel2Ideal.main_arg1)) (m ((c.tc : Thread Cert.Kernel2Ideal.nD Cert.Kernel2Ideal.τ).loc Cert.Kernel2Ideal.main_arg2)) (m ((c.tc : Thread Cert.Kernel2Ideal.nD Cert.Kernel2Ideal.τ).loc Cert.Kernel2Ideal.main_arg3)) (m ((c.tc : Thread Cert.Kernel2Ideal.nD Cert.Kernel2Ideal.τ).loc Cert.Kernel2Ideal.main_arg4))).1 i = 1#1 → r.2.mem ((c.tc : Thread Cert.Reference2Ideal.nD Cert.Reference2Ideal.τ).loc Cert.Reference2Ideal.main_v80) i = v0 c i)
          ∧ (∀ i : (⟨4, ![2, 16, 2048, 128]⟩ : Shape).Idx, (Cert.On_attention_lanes.fn (F := Ideal) (m ((c.tc : Thread Cert.Kernel2Ideal.nD Cert.Kernel2Ideal.τ).loc Cert.Kernel2Ideal.main_arg0)) (m ((c.tc : Thread Cert.Kernel2Ideal.nD Cert.Kernel2Ideal.τ).loc Cert.Kernel2Ideal.main_arg1)) (m ((c.tc : Thread Cert.Kernel2Ideal.nD Cert.Kernel2Ideal.τ).loc Cert.Kernel2Ideal.main_arg2)) (m ((c.tc : Thread Cert.Kernel2Ideal.nD Cert.Kernel2Ideal.τ).loc Cert.Kernel2Ideal.main_arg3)) (m ((c.tc : Thread Cert.Kernel2Ideal.nD Cert.Kernel2Ideal.τ).loc Cert.Kernel2Ideal.main_arg4))).2.1 i = 1#1 → r.2.mem ((c.tc : Thread Cert.Reference2Ideal.nD Cert.Reference2Ideal.τ).loc Cert.Reference2Ideal.main_v86) i = v1 c i)
          ∧ (∀ i : (⟨4, ![2, 16, 2048, 128]⟩ : Shape).Idx, (Cert.On_attention_lanes.fn (F := Ideal) (m ((c.tc : Thread Cert.Kernel2Ideal.nD Cert.Kernel2Ideal.τ).loc Cert.Kernel2Ideal.main_arg0)) (m ((c.tc : Thread Cert.Kernel2Ideal.nD Cert.Kernel2Ideal.τ).loc Cert.Kernel2Ideal.main_arg1)) (m ((c.tc : Thread Cert.Kernel2Ideal.nD Cert.Kernel2Ideal.τ).loc Cert.Kernel2Ideal.main_arg2)) (m ((c.tc : Thread Cert.Kernel2Ideal.nD Cert.Kernel2Ideal.τ).loc Cert.Kernel2Ideal.main_arg3)) (m ((c.tc : Thread Cert.Kernel2Ideal.nD Cert.Kernel2Ideal.τ).loc Cert.Kernel2Ideal.main_arg4))).2.2 i = 1#1 → r.2.mem ((c.tc : Thread Cert.Reference2Ideal.nD Cert.Reference2Ideal.τ).loc Cert.Reference2Ideal.main_v89) i = v2 c i)
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1)
          ∧ r.2.mem ((c.tc : Thread Cert.Reference2Ideal.nD Cert.Reference2Ideal.τ).loc Cert.Reference2Ideal.main_arg2) = m' ((c.tc : Thread Cert.Reference2Ideal.nD Cert.Reference2Ideal.τ).loc Cert.Reference2Ideal.main_arg2)
          ∧ r.2.mem ((c.tc : Thread Cert.Reference2Ideal.nD Cert.Reference2Ideal.τ).loc Cert.Reference2Ideal.main_arg3) = m' ((c.tc : Thread Cert.Reference2Ideal.nD Cert.Reference2Ideal.τ).loc Cert.Reference2Ideal.main_arg3)
          ∧ r.2.mem ((c.tc : Thread Cert.Reference2Ideal.nD Cert.Reference2Ideal.τ).loc Cert.Reference2Ideal.main_arg4) = m' ((c.tc : Thread Cert.Reference2Ideal.nD Cert.Reference2Ideal.τ).loc Cert.Reference2Ideal.main_arg4))

def preserves_Kernel3_Kernel3Ideal : Prop :=
  True

def algebraic_Kernel3Ideal_Reference3Ideal_pre_gate_finite [hKernel3Ideal : Cert.Kernel3Ideal.Facts] [hReference3Ideal : Cert.Reference3Ideal.Facts] [hPre_gate_finite : Cert.Pre_gate_finite.Facts] : Prop :=
  ∀ (m : (ℓ : Loc Cert.Kernel3Ideal.nD Cert.Kernel3Ideal.τ Cert.Kernel3Ideal.sig) → Buf (Elt Ideal) ℓ) (g : Dev Cert.Kernel3Ideal.nD → PrngReg)
    (m' : (ℓ : Loc Cert.Reference3Ideal.nD Cert.Reference3Ideal.τ Cert.Reference3Ideal.sig) → Buf (Elt Ideal) ℓ) (g' : Dev Cert.Reference3Ideal.nD → PrngReg), Pre_Kernel3Ideal_gate_finite m →
    (∀ c : Dev Cert.Kernel3Ideal.nD,
      m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
      ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)
      ∧ m' ((c.tc : Thread Cert.Reference3Ideal.nD Cert.Reference3Ideal.τ).loc Cert.Reference3Ideal.main_arg2) = m ((c.tc : Thread Cert.Kernel3Ideal.nD Cert.Kernel3Ideal.τ).loc Cert.Kernel3Ideal.main_arg2)) →
    ∃ (v0 : (c : Dev Cert.Kernel3Ideal.nD) → Buf (Elt Ideal) ((c.tc : Thread Cert.Kernel3Ideal.nD Cert.Kernel3Ideal.τ).loc Cert.Kernel3Ideal.main_v6_0)) (v1 : (c : Dev Cert.Kernel3Ideal.nD) → Buf (Elt Ideal) ((c.tc : Thread Cert.Kernel3Ideal.nD Cert.Kernel3Ideal.τ).loc Cert.Kernel3Ideal.main_v6_1)),
      θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
          r.2.mem ((c.tc : Thread Cert.Kernel3Ideal.nD Cert.Kernel3Ideal.τ).loc Cert.Kernel3Ideal.main_v6_0) = v0 c
          ∧ r.2.mem ((c.tc : Thread Cert.Kernel3Ideal.nD Cert.Kernel3Ideal.τ).loc Cert.Kernel3Ideal.main_v6_1) = v1 c
          ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
          ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
          ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2))
      ∧ θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
          r.2.mem ((c.tc : Thread Cert.Reference3Ideal.nD Cert.Reference3Ideal.τ).loc Cert.Reference3Ideal.main_v16) = v0 c
          ∧ r.2.mem ((c.tc : Thread Cert.Reference3Ideal.nD Cert.Reference3Ideal.τ).loc Cert.Reference3Ideal.main_v18) = v1 c
          ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0)
          ∧ r.2.mem ((c.tc : Thread Cert.Reference3Ideal.nD Cert.Reference3Ideal.τ).loc Cert.Reference3Ideal.main_arg1) = m' ((c.tc : Thread Cert.Reference3Ideal.nD Cert.Reference3Ideal.τ).loc Cert.Reference3Ideal.main_arg1)
          ∧ r.2.mem ((c.tc : Thread Cert.Reference3Ideal.nD Cert.Reference3Ideal.τ).loc Cert.Reference3Ideal.main_arg2) = m' ((c.tc : Thread Cert.Reference3Ideal.nD Cert.Reference3Ideal.τ).loc Cert.Reference3Ideal.main_arg2))

def preserves_Kernel4_Kernel4Ideal : Prop :=
  True

def algebraic_Kernel4Ideal_Reference4Ideal_pre_inproj_finite [hKernel4Ideal : Cert.Kernel4Ideal.Facts] [hReference4Ideal : Cert.Reference4Ideal.Facts] [hPre_inproj_finite : Cert.Pre_inproj_finite.Facts] : Prop :=
  ∀ (m : (ℓ : Loc Cert.Kernel4Ideal.nD Cert.Kernel4Ideal.τ Cert.Kernel4Ideal.sig) → Buf (Elt Ideal) ℓ) (g : Dev Cert.Kernel4Ideal.nD → PrngReg)
    (m' : (ℓ : Loc Cert.Reference4Ideal.nD Cert.Reference4Ideal.τ Cert.Reference4Ideal.sig) → Buf (Elt Ideal) ℓ) (g' : Dev Cert.Reference4Ideal.nD → PrngReg), Pre_Kernel4Ideal_inproj_finite m →
    (∀ c : Dev Cert.Kernel4Ideal.nD,
      m' ((c.tc : Thread Cert.Reference4Ideal.nD Cert.Reference4Ideal.τ).loc Cert.Reference4Ideal.main_arg0) = m ((c.tc : Thread Cert.Kernel4Ideal.nD Cert.Kernel4Ideal.τ).loc Cert.Kernel4Ideal.main_arg0)
      ∧ m' ((c.tc : Thread Cert.Reference4Ideal.nD Cert.Reference4Ideal.τ).loc Cert.Reference4Ideal.main_arg1) = m ((c.tc : Thread Cert.Kernel4Ideal.nD Cert.Kernel4Ideal.τ).loc Cert.Kernel4Ideal.main_arg1)
      ∧ m' ((c.tc : Thread Cert.Reference4Ideal.nD Cert.Reference4Ideal.τ).loc Cert.Reference4Ideal.main_arg2) = m ((c.tc : Thread Cert.Kernel4Ideal.nD Cert.Kernel4Ideal.τ).loc Cert.Kernel4Ideal.main_arg2)
      ∧ m' ((c.tc : Thread Cert.Reference4Ideal.nD Cert.Reference4Ideal.τ).loc Cert.Reference4Ideal.main_arg3) = m ((c.tc : Thread Cert.Kernel4Ideal.nD Cert.Kernel4Ideal.τ).loc Cert.Kernel4Ideal.main_arg3)
      ∧ m' ((c.tc : Thread Cert.Reference4Ideal.nD Cert.Reference4Ideal.τ).loc Cert.Reference4Ideal.main_arg4) = m ((c.tc : Thread Cert.Kernel4Ideal.nD Cert.Kernel4Ideal.τ).loc Cert.Kernel4Ideal.main_arg4)) →
    ∃ (v0 : (c : Dev Cert.Kernel4Ideal.nD) → Buf (Elt Ideal) ((c.tc : Thread Cert.Kernel4Ideal.nD Cert.Kernel4Ideal.τ).loc Cert.Kernel4Ideal.main_v26_0)) (v1 : (c : Dev Cert.Kernel4Ideal.nD) → Buf (Elt Ideal) ((c.tc : Thread Cert.Kernel4Ideal.nD Cert.Kernel4Ideal.τ).loc Cert.Kernel4Ideal.main_v26_1)),
      θ_run (Cert.Kernel4Ideal.defs (F := Ideal)) (onTc (τ := Cert.Kernel4Ideal.τ) (Cert.Kernel4Ideal.main (F := Ideal))) ⟨m, fun _ => 0, g⟩ (fun r => ∀ c : Dev Cert.Kernel4Ideal.nD,
          r.2.mem ((c.tc : Thread Cert.Kernel4Ideal.nD Cert.Kernel4Ideal.τ).loc Cert.Kernel4Ideal.main_v26_0) = v0 c
          ∧ r.2.mem ((c.tc : Thread Cert.Kernel4Ideal.nD Cert.Kernel4Ideal.τ).loc Cert.Kernel4Ideal.main_v26_1) = v1 c
          ∧ r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
          ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
          ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
          ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3)
          ∧ r.2.mem ((c.tc : Thread Cert.Kernel4Ideal.nD Cert.Kernel4Ideal.τ).loc Cert.Kernel4Ideal.main_arg4) = m ((c.tc : Thread Cert.Kernel4Ideal.nD Cert.Kernel4Ideal.τ).loc Cert.Kernel4Ideal.main_arg4))
      ∧ θ_run (Cert.Reference4Ideal.defs (F := Ideal)) (onTc (τ := Cert.Reference4Ideal.τ) (Cert.Reference4Ideal.main (F := Ideal))) ⟨m', fun _ => 0, g'⟩ (fun r => ∀ c : Dev Cert.Reference4Ideal.nD,
          r.2.mem ((c.tc : Thread Cert.Reference4Ideal.nD Cert.Reference4Ideal.τ).loc Cert.Reference4Ideal.main_v45) = v0 c
          ∧ r.2.mem ((c.tc : Thread Cert.Reference4Ideal.nD Cert.Reference4Ideal.τ).loc Cert.Reference4Ideal.main_v46) = v1 c
          ∧ r.2.mem ((c.tc : Thread Cert.Reference4Ideal.nD Cert.Reference4Ideal.τ).loc Cert.Reference4Ideal.main_arg0) = m' ((c.tc : Thread Cert.Reference4Ideal.nD Cert.Reference4Ideal.τ).loc Cert.Reference4Ideal.main_arg0)
          ∧ r.2.mem ((c.tc : Thread Cert.Reference4Ideal.nD Cert.Reference4Ideal.τ).loc Cert.Reference4Ideal.main_arg1) = m' ((c.tc : Thread Cert.Reference4Ideal.nD Cert.Reference4Ideal.τ).loc Cert.Reference4Ideal.main_arg1)
          ∧ r.2.mem ((c.tc : Thread Cert.Reference4Ideal.nD Cert.Reference4Ideal.τ).loc Cert.Reference4Ideal.main_arg2) = m' ((c.tc : Thread Cert.Reference4Ideal.nD Cert.Reference4Ideal.τ).loc Cert.Reference4Ideal.main_arg2)
          ∧ r.2.mem ((c.tc : Thread Cert.Reference4Ideal.nD Cert.Reference4Ideal.τ).loc Cert.Reference4Ideal.main_arg3) = m' ((c.tc : Thread Cert.Reference4Ideal.nD Cert.Reference4Ideal.τ).loc Cert.Reference4Ideal.main_arg3)
          ∧ r.2.mem ((c.tc : Thread Cert.Reference4Ideal.nD Cert.Reference4Ideal.τ).loc Cert.Reference4Ideal.main_arg4) = m' ((c.tc : Thread Cert.Reference4Ideal.nD Cert.Reference4Ideal.τ).loc Cert.Reference4Ideal.main_arg4))

def preserves_Kernel5_Kernel5Ideal : Prop :=
  True

def algebraic_Kernel5Ideal_Reference5Ideal [hKernel5Ideal : Cert.Kernel5Ideal.Facts] [hReference5Ideal : Cert.Reference5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg)
    (m' : (ℓ : Loc Cert.Reference5Ideal.nD Cert.Reference5Ideal.τ Cert.Reference5Ideal.sig) → Buf (Elt Ideal) ℓ) (g' : Dev Cert.Reference5Ideal.nD → PrngReg), Pre_Kernel5Ideal m →
    (∀ c : Dev Cert.Kernel5Ideal.nD,
      m' ((c.tc : Thread Cert.Reference5Ideal.nD Cert.Reference5Ideal.τ).loc Cert.Reference5Ideal.main_arg0) = m ((c.tc : Thread Cert.Kernel5Ideal.nD Cert.Kernel5Ideal.τ).loc Cert.Kernel5Ideal.main_arg0)
      ∧ m' ((c.tc : Thread Cert.Reference5Ideal.nD Cert.Reference5Ideal.τ).loc Cert.Reference5Ideal.main_arg1) = m ((c.tc : Thread Cert.Kernel5Ideal.nD Cert.Kernel5Ideal.τ).loc Cert.Kernel5Ideal.main_arg1)
      ∧ m' ((c.tc : Thread Cert.Reference5Ideal.nD Cert.Reference5Ideal.τ).loc Cert.Reference5Ideal.main_arg2) = m ((c.tc : Thread Cert.Kernel5Ideal.nD Cert.Kernel5Ideal.τ).loc Cert.Kernel5Ideal.main_arg2)
      ∧ m' ((c.tc : Thread Cert.Reference5Ideal.nD Cert.Reference5Ideal.τ).loc Cert.Reference5Ideal.main_arg3) = m ((c.tc : Thread Cert.Kernel5Ideal.nD Cert.Kernel5Ideal.τ).loc Cert.Kernel5Ideal.main_arg3)
      ∧ m' ((c.tc : Thread Cert.Reference5Ideal.nD Cert.Reference5Ideal.τ).loc Cert.Reference5Ideal.main_arg4) = m ((c.tc : Thread Cert.Kernel5Ideal.nD Cert.Kernel5Ideal.τ).loc Cert.Kernel5Ideal.main_arg4)
      ∧ m' ((c.tc : Thread Cert.Reference5Ideal.nD Cert.Reference5Ideal.τ).loc Cert.Reference5Ideal.main_arg5) = m ((c.tc : Thread Cert.Kernel5Ideal.nD Cert.Kernel5Ideal.τ).loc Cert.Kernel5Ideal.main_arg5)) →
    ∃ (v0 : (c : Dev Cert.Kernel5Ideal.nD) → Buf (Elt Ideal) ((c.tc : Thread Cert.Kernel5Ideal.nD Cert.Kernel5Ideal.τ).loc Cert.Kernel5Ideal.main_v11_0)) (v1 : (c : Dev Cert.Kernel5Ideal.nD) → Buf (Elt Ideal) ((c.tc : Thread Cert.Kernel5Ideal.nD Cert.Kernel5Ideal.τ).loc Cert.Kernel5Ideal.main_v11_1)) (v2 : (c : Dev Cert.Kernel5Ideal.nD) → Buf (Elt Ideal) ((c.tc : Thread Cert.Kernel5Ideal.nD Cert.Kernel5Ideal.τ).loc Cert.Kernel5Ideal.main_v11_2)) (v3 : (c : Dev Cert.Kernel5Ideal.nD) → Buf (Elt Ideal) ((c.tc : Thread Cert.Kernel5Ideal.nD Cert.Kernel5Ideal.τ).loc Cert.Kernel5Ideal.main_v11_3)),
      θ_run (Cert.Kernel5Ideal.defs (F := Ideal)) (onTc (τ := Cert.Kernel5Ideal.τ) (Cert.Kernel5Ideal.main (F := Ideal))) ⟨m, fun _ => 0, g⟩ (fun r => ∀ c : Dev Cert.Kernel5Ideal.nD,
          r.2.mem ((c.tc : Thread Cert.Kernel5Ideal.nD Cert.Kernel5Ideal.τ).loc Cert.Kernel5Ideal.main_v11_0) = v0 c
          ∧ r.2.mem ((c.tc : Thread Cert.Kernel5Ideal.nD Cert.Kernel5Ideal.τ).loc Cert.Kernel5Ideal.main_v11_1) = v1 c
          ∧ r.2.mem ((c.tc : Thread Cert.Kernel5Ideal.nD Cert.Kernel5Ideal.τ).loc Cert.Kernel5Ideal.main_v11_2) = v2 c
          ∧ r.2.mem ((c.tc : Thread Cert.Kernel5Ideal.nD Cert.Kernel5Ideal.τ).loc Cert.Kernel5Ideal.main_v11_3) = v3 c
          ∧ r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
          ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
          ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2)
          ∧ r.2.mem ((c.tc : Thread Cert.Kernel5Ideal.nD Cert.Kernel5Ideal.τ).loc Cert.Kernel5Ideal.main_arg3) = m ((c.tc : Thread Cert.Kernel5Ideal.nD Cert.Kernel5Ideal.τ).loc Cert.Kernel5Ideal.main_arg3)
          ∧ r.2.mem ((c.tc : Thread Cert.Kernel5Ideal.nD Cert.Kernel5Ideal.τ).loc Cert.Kernel5Ideal.main_arg4) = m ((c.tc : Thread Cert.Kernel5Ideal.nD Cert.Kernel5Ideal.τ).loc Cert.Kernel5Ideal.main_arg4)
          ∧ r.2.mem ((c.tc : Thread Cert.Kernel5Ideal.nD Cert.Kernel5Ideal.τ).loc Cert.Kernel5Ideal.main_arg5) = m ((c.tc : Thread Cert.Kernel5Ideal.nD Cert.Kernel5Ideal.τ).loc Cert.Kernel5Ideal.main_arg5))
      ∧ θ_run (Cert.Reference5Ideal.defs (F := Ideal)) (onTc (τ := Cert.Reference5Ideal.τ) (Cert.Reference5Ideal.main (F := Ideal))) ⟨m', fun _ => 0, g'⟩ (fun r => ∀ c : Dev Cert.Reference5Ideal.nD,
          r.2.mem ((c.tc : Thread Cert.Reference5Ideal.nD Cert.Reference5Ideal.τ).loc Cert.Reference5Ideal.main_v26) = v0 c
          ∧ r.2.mem ((c.tc : Thread Cert.Reference5Ideal.nD Cert.Reference5Ideal.τ).loc Cert.Reference5Ideal.main_v27) = v1 c
          ∧ r.2.mem ((c.tc : Thread Cert.Reference5Ideal.nD Cert.Reference5Ideal.τ).loc Cert.Reference5Ideal.main_v28) = v2 c
          ∧ r.2.mem ((c.tc : Thread Cert.Reference5Ideal.nD Cert.Reference5Ideal.τ).loc Cert.Reference5Ideal.main_v29) = v3 c
          ∧ r.2.mem ((c.tc : Thread Cert.Reference5Ideal.nD Cert.Reference5Ideal.τ).loc Cert.Reference5Ideal.main_arg0) = m' ((c.tc : Thread Cert.Reference5Ideal.nD Cert.Reference5Ideal.τ).loc Cert.Reference5Ideal.main_arg0)
          ∧ r.2.mem ((c.tc : Thread Cert.Reference5Ideal.nD Cert.Reference5Ideal.τ).loc Cert.Reference5Ideal.main_arg1) = m' ((c.tc : Thread Cert.Reference5Ideal.nD Cert.Reference5Ideal.τ).loc Cert.Reference5Ideal.main_arg1)
          ∧ r.2.mem ((c.tc : Thread Cert.Reference5Ideal.nD Cert.Reference5Ideal.τ).loc Cert.Reference5Ideal.main_arg2) = m' ((c.tc : Thread Cert.Reference5Ideal.nD Cert.Reference5Ideal.τ).loc Cert.Reference5Ideal.main_arg2)
          ∧ r.2.mem ((c.tc : Thread Cert.Reference5Ideal.nD Cert.Reference5Ideal.τ).loc Cert.Reference5Ideal.main_arg3) = m' ((c.tc : Thread Cert.Reference5Ideal.nD Cert.Reference5Ideal.τ).loc Cert.Reference5Ideal.main_arg3)
          ∧ r.2.mem ((c.tc : Thread Cert.Reference5Ideal.nD Cert.Reference5Ideal.τ).loc Cert.Reference5Ideal.main_arg4) = m' ((c.tc : Thread Cert.Reference5Ideal.nD Cert.Reference5Ideal.τ).loc Cert.Reference5Ideal.main_arg4)
          ∧ r.2.mem ((c.tc : Thread Cert.Reference5Ideal.nD Cert.Reference5Ideal.τ).loc Cert.Reference5Ideal.main_arg5) = m' ((c.tc : Thread Cert.Reference5Ideal.nD Cert.Reference5Ideal.τ).loc Cert.Reference5Ideal.main_arg5))

def preserves_Kernel6_Kernel6Ideal : Prop :=
  True

def algebraic_Kernel6Ideal_Reference6Ideal_pre_heads_finite [hKernel6Ideal : Cert.Kernel6Ideal.Facts] [hReference6Ideal : Cert.Reference6Ideal.Facts] [hPre_heads_finite : Cert.Pre_heads_finite.Facts] : Prop :=
  ∀ (m : (ℓ : Loc Cert.Kernel6Ideal.nD Cert.Kernel6Ideal.τ Cert.Kernel6Ideal.sig) → Buf (Elt Ideal) ℓ) (g : Dev Cert.Kernel6Ideal.nD → PrngReg)
    (m' : (ℓ : Loc Cert.Reference6Ideal.nD Cert.Reference6Ideal.τ Cert.Reference6Ideal.sig) → Buf (Elt Ideal) ℓ) (g' : Dev Cert.Reference6Ideal.nD → PrngReg), Pre_Kernel6Ideal_heads_finite m →
    (∀ c : Dev Cert.Kernel6Ideal.nD,
      m' ((c.tc : Thread Cert.Reference6Ideal.nD Cert.Reference6Ideal.τ).loc Cert.Reference6Ideal.main_arg0) = m ((c.tc : Thread Cert.Kernel6Ideal.nD Cert.Kernel6Ideal.τ).loc Cert.Kernel6Ideal.main_arg0)
      ∧ m' ((c.tc : Thread Cert.Reference6Ideal.nD Cert.Reference6Ideal.τ).loc Cert.Reference6Ideal.main_arg1) = m ((c.tc : Thread Cert.Kernel6Ideal.nD Cert.Kernel6Ideal.τ).loc Cert.Kernel6Ideal.main_arg1)
      ∧ m' ((c.tc : Thread Cert.Reference6Ideal.nD Cert.Reference6Ideal.τ).loc Cert.Reference6Ideal.main_arg2) = m ((c.tc : Thread Cert.Kernel6Ideal.nD Cert.Kernel6Ideal.τ).loc Cert.Kernel6Ideal.main_arg2)
      ∧ m' ((c.tc : Thread Cert.Reference6Ideal.nD Cert.Reference6Ideal.τ).loc Cert.Reference6Ideal.main_arg3) = m ((c.tc : Thread Cert.Kernel6Ideal.nD Cert.Kernel6Ideal.τ).loc Cert.Kernel6Ideal.main_arg3)
      ∧ m' ((c.tc : Thread Cert.Reference6Ideal.nD Cert.Reference6Ideal.τ).loc Cert.Reference6Ideal.main_arg4) = m ((c.tc : Thread Cert.Kernel6Ideal.nD Cert.Kernel6Ideal.τ).loc Cert.Kernel6Ideal.main_arg4)
      ∧ m' ((c.tc : Thread Cert.Reference6Ideal.nD Cert.Reference6Ideal.τ).loc Cert.Reference6Ideal.main_arg5) = m ((c.tc : Thread Cert.Kernel6Ideal.nD Cert.Kernel6Ideal.τ).loc Cert.Kernel6Ideal.main_arg5)
      ∧ m' ((c.tc : Thread Cert.Reference6Ideal.nD Cert.Reference6Ideal.τ).loc Cert.Reference6Ideal.main_arg6) = m ((c.tc : Thread Cert.Kernel6Ideal.nD Cert.Kernel6Ideal.τ).loc Cert.Kernel6Ideal.main_arg6)) →
    ∃ (v0 : (c : Dev Cert.Kernel6Ideal.nD) → Buf (Elt Ideal) ((c.tc : Thread Cert.Kernel6Ideal.nD Cert.Kernel6Ideal.τ).loc Cert.Kernel6Ideal.main_v10_0)) (v1 : (c : Dev Cert.Kernel6Ideal.nD) → Buf (Elt Ideal) ((c.tc : Thread Cert.Kernel6Ideal.nD Cert.Kernel6Ideal.τ).loc Cert.Kernel6Ideal.main_v10_1)) (v2 : (c : Dev Cert.Kernel6Ideal.nD) → Buf (Elt Ideal) ((c.tc : Thread Cert.Kernel6Ideal.nD Cert.Kernel6Ideal.τ).loc Cert.Kernel6Ideal.main_v10_2)) (v3 : (c : Dev Cert.Kernel6Ideal.nD) → Buf (Elt Ideal) ((c.tc : Thread Cert.Kernel6Ideal.nD Cert.Kernel6Ideal.τ).loc Cert.Kernel6Ideal.main_v10_3)) (v4 : (c : Dev Cert.Kernel6Ideal.nD) → Buf (Elt Ideal) ((c.tc : Thread Cert.Kernel6Ideal.nD Cert.Kernel6Ideal.τ).loc Cert.Kernel6Ideal.main_v10_4)),
      θ_run (Cert.Kernel6Ideal.defs (F := Ideal)) (onTc (τ := Cert.Kernel6Ideal.τ) (Cert.Kernel6Ideal.main (F := Ideal))) ⟨m, fun _ => 0, g⟩ (fun r => ∀ c : Dev Cert.Kernel6Ideal.nD,
          r.2.mem ((c.tc : Thread Cert.Kernel6Ideal.nD Cert.Kernel6Ideal.τ).loc Cert.Kernel6Ideal.main_v10_0) = v0 c
          ∧ r.2.mem ((c.tc : Thread Cert.Kernel6Ideal.nD Cert.Kernel6Ideal.τ).loc Cert.Kernel6Ideal.main_v10_1) = v1 c
          ∧ r.2.mem ((c.tc : Thread Cert.Kernel6Ideal.nD Cert.Kernel6Ideal.τ).loc Cert.Kernel6Ideal.main_v10_2) = v2 c
          ∧ r.2.mem ((c.tc : Thread Cert.Kernel6Ideal.nD Cert.Kernel6Ideal.τ).loc Cert.Kernel6Ideal.main_v10_3) = v3 c
          ∧ r.2.mem ((c.tc : Thread Cert.Kernel6Ideal.nD Cert.Kernel6Ideal.τ).loc Cert.Kernel6Ideal.main_v10_4) = v4 c
          ∧ r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
          ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1)
          ∧ r.2.mem ((c.tc : Thread Cert.Kernel6Ideal.nD Cert.Kernel6Ideal.τ).loc Cert.Kernel6Ideal.main_arg2) = m ((c.tc : Thread Cert.Kernel6Ideal.nD Cert.Kernel6Ideal.τ).loc Cert.Kernel6Ideal.main_arg2)
          ∧ r.2.mem ((c.tc : Thread Cert.Kernel6Ideal.nD Cert.Kernel6Ideal.τ).loc Cert.Kernel6Ideal.main_arg3) = m ((c.tc : Thread Cert.Kernel6Ideal.nD Cert.Kernel6Ideal.τ).loc Cert.Kernel6Ideal.main_arg3)
          ∧ r.2.mem ((c.tc : Thread Cert.Kernel6Ideal.nD Cert.Kernel6Ideal.τ).loc Cert.Kernel6Ideal.main_arg4) = m ((c.tc : Thread Cert.Kernel6Ideal.nD Cert.Kernel6Ideal.τ).loc Cert.Kernel6Ideal.main_arg4)
          ∧ r.2.mem ((c.tc : Thread Cert.Kernel6Ideal.nD Cert.Kernel6Ideal.τ).loc Cert.Kernel6Ideal.main_arg5) = m ((c.tc : Thread Cert.Kernel6Ideal.nD Cert.Kernel6Ideal.τ).loc Cert.Kernel6Ideal.main_arg5)
          ∧ r.2.mem ((c.tc : Thread Cert.Kernel6Ideal.nD Cert.Kernel6Ideal.τ).loc Cert.Kernel6Ideal.main_arg6) = m ((c.tc : Thread Cert.Kernel6Ideal.nD Cert.Kernel6Ideal.τ).loc Cert.Kernel6Ideal.main_arg6))
      ∧ θ_run (Cert.Reference6Ideal.defs (F := Ideal)) (onTc (τ := Cert.Reference6Ideal.τ) (Cert.Reference6Ideal.main (F := Ideal))) ⟨m', fun _ => 0, g'⟩ (fun r => ∀ c : Dev Cert.Reference6Ideal.nD,
          r.2.mem ((c.tc : Thread Cert.Reference6Ideal.nD Cert.Reference6Ideal.τ).loc Cert.Reference6Ideal.main_v117) = v0 c
          ∧ r.2.mem ((c.tc : Thread Cert.Reference6Ideal.nD Cert.Reference6Ideal.τ).loc Cert.Reference6Ideal.main_v119) = v1 c
          ∧ r.2.mem ((c.tc : Thread Cert.Reference6Ideal.nD Cert.Reference6Ideal.τ).loc Cert.Reference6Ideal.main_v121) = v2 c
          ∧ r.2.mem ((c.tc : Thread Cert.Reference6Ideal.nD Cert.Reference6Ideal.τ).loc Cert.Reference6Ideal.main_v123) = v3 c
          ∧ r.2.mem ((c.tc : Thread Cert.Reference6Ideal.nD Cert.Reference6Ideal.τ).loc Cert.Reference6Ideal.main_v129) = v4 c
          ∧ r.2.mem ((c.tc : Thread Cert.Reference6Ideal.nD Cert.Reference6Ideal.τ).loc Cert.Reference6Ideal.main_arg0) = m' ((c.tc : Thread Cert.Reference6Ideal.nD Cert.Reference6Ideal.τ).loc Cert.Reference6Ideal.main_arg0)
          ∧ r.2.mem ((c.tc : Thread Cert.Reference6Ideal.nD Cert.Reference6Ideal.τ).loc Cert.Reference6Ideal.main_arg1) = m' ((c.tc : Thread Cert.Reference6Ideal.nD Cert.Reference6Ideal.τ).loc Cert.Reference6Ideal.main_arg1)
          ∧ r.2.mem ((c.tc : Thread Cert.Reference6Ideal.nD Cert.Reference6Ideal.τ).loc Cert.Reference6Ideal.main_arg2) = m' ((c.tc : Thread Cert.Reference6Ideal.nD Cert.Reference6Ideal.τ).loc Cert.Reference6Ideal.main_arg2)
          ∧ r.2.mem ((c.tc : Thread Cert.Reference6Ideal.nD Cert.Reference6Ideal.τ).loc Cert.Reference6Ideal.main_arg3) = m' ((c.tc : Thread Cert.Reference6Ideal.nD Cert.Reference6Ideal.τ).loc Cert.Reference6Ideal.main_arg3)
          ∧ r.2.mem ((c.tc : Thread Cert.Reference6Ideal.nD Cert.Reference6Ideal.τ).loc Cert.Reference6Ideal.main_arg4) = m' ((c.tc : Thread Cert.Reference6Ideal.nD Cert.Reference6Ideal.τ).loc Cert.Reference6Ideal.main_arg4)
          ∧ r.2.mem ((c.tc : Thread Cert.Reference6Ideal.nD Cert.Reference6Ideal.τ).loc Cert.Reference6Ideal.main_arg5) = m' ((c.tc : Thread Cert.Reference6Ideal.nD Cert.Reference6Ideal.τ).loc Cert.Reference6Ideal.main_arg5)
          ∧ r.2.mem ((c.tc : Thread Cert.Reference6Ideal.nD Cert.Reference6Ideal.τ).loc Cert.Reference6Ideal.main_arg6) = m' ((c.tc : Thread Cert.Reference6Ideal.nD Cert.Reference6Ideal.τ).loc Cert.Reference6Ideal.main_arg6))

def preserves_Kernel7_Kernel7Ideal : Prop :=
  True

def algebraic_Kernel7Ideal_Reference7Ideal [hKernel7Ideal : Cert.Kernel7Ideal.Facts] [hReference7Ideal : Cert.Reference7Ideal.Facts] : Prop :=
  ∀ (m : (ℓ : Loc Cert.Kernel7Ideal.nD Cert.Kernel7Ideal.τ Cert.Kernel7Ideal.sig) → Buf (Elt Ideal) ℓ) (g : Dev Cert.Kernel7Ideal.nD → PrngReg)
    (m' : (ℓ : Loc Cert.Reference7Ideal.nD Cert.Reference7Ideal.τ Cert.Reference7Ideal.sig) → Buf (Elt Ideal) ℓ) (g' : Dev Cert.Reference7Ideal.nD → PrngReg), Pre_Kernel7Ideal m →
    (∀ c : Dev Cert.Kernel7Ideal.nD,
      m' ((c.tc : Thread Cert.Reference7Ideal.nD Cert.Reference7Ideal.τ).loc Cert.Reference7Ideal.main_arg0) = m ((c.tc : Thread Cert.Kernel7Ideal.nD Cert.Kernel7Ideal.τ).loc Cert.Kernel7Ideal.main_arg0)
      ∧ m' ((c.tc : Thread Cert.Reference7Ideal.nD Cert.Reference7Ideal.τ).loc Cert.Reference7Ideal.main_arg1) = m ((c.tc : Thread Cert.Kernel7Ideal.nD Cert.Kernel7Ideal.τ).loc Cert.Kernel7Ideal.main_arg1)
      ∧ m' ((c.tc : Thread Cert.Reference7Ideal.nD Cert.Reference7Ideal.τ).loc Cert.Reference7Ideal.main_arg2) = m ((c.tc : Thread Cert.Kernel7Ideal.nD Cert.Kernel7Ideal.τ).loc Cert.Kernel7Ideal.main_arg2)) →
    ∃ (v0 : (c : Dev Cert.Kernel7Ideal.nD) → Buf (Elt Ideal) ((c.tc : Thread Cert.Kernel7Ideal.nD Cert.Kernel7Ideal.τ).loc Cert.Kernel7Ideal.main_v6_0)) (v1 : (c : Dev Cert.Kernel7Ideal.nD) → Buf (Elt Ideal) ((c.tc : Thread Cert.Kernel7Ideal.nD Cert.Kernel7Ideal.τ).loc Cert.Kernel7Ideal.main_v6_1)) (v2 : (c : Dev Cert.Kernel7Ideal.nD) → Buf (Elt Ideal) ((c.tc : Thread Cert.Kernel7Ideal.nD Cert.Kernel7Ideal.τ).loc Cert.Kernel7Ideal.main_v6_2)),
      θ_run (Cert.Kernel7Ideal.defs (F := Ideal)) (onTc (τ := Cert.Kernel7Ideal.τ) (Cert.Kernel7Ideal.main (F := Ideal))) ⟨m, fun _ => 0, g⟩ (fun r => ∀ c : Dev Cert.Kernel7Ideal.nD,
          r.2.mem ((c.tc : Thread Cert.Kernel7Ideal.nD Cert.Kernel7Ideal.τ).loc Cert.Kernel7Ideal.main_v6_0) = v0 c
          ∧ r.2.mem ((c.tc : Thread Cert.Kernel7Ideal.nD Cert.Kernel7Ideal.τ).loc Cert.Kernel7Ideal.main_v6_1) = v1 c
          ∧ r.2.mem ((c.tc : Thread Cert.Kernel7Ideal.nD Cert.Kernel7Ideal.τ).loc Cert.Kernel7Ideal.main_v6_2) = v2 c
          ∧ r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
          ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1)
          ∧ r.2.mem ((c.tc : Thread Cert.Kernel7Ideal.nD Cert.Kernel7Ideal.τ).loc Cert.Kernel7Ideal.main_arg2) = m ((c.tc : Thread Cert.Kernel7Ideal.nD Cert.Kernel7Ideal.τ).loc Cert.Kernel7Ideal.main_arg2))
      ∧ θ_run (Cert.Reference7Ideal.defs (F := Ideal)) (onTc (τ := Cert.Reference7Ideal.τ) (Cert.Reference7Ideal.main (F := Ideal))) ⟨m', fun _ => 0, g'⟩ (fun r => ∀ c : Dev Cert.Reference7Ideal.nD,
          r.2.mem ((c.tc : Thread Cert.Reference7Ideal.nD Cert.Reference7Ideal.τ).loc Cert.Reference7Ideal.main_v580) = v0 c
          ∧ r.2.mem ((c.tc : Thread Cert.Reference7Ideal.nD Cert.Reference7Ideal.τ).loc Cert.Reference7Ideal.main_v582) = v1 c
          ∧ r.2.mem ((c.tc : Thread Cert.Reference7Ideal.nD Cert.Reference7Ideal.τ).loc Cert.Reference7Ideal.main_v583) = v2 c
          ∧ r.2.mem ((c.tc : Thread Cert.Reference7Ideal.nD Cert.Reference7Ideal.τ).loc Cert.Reference7Ideal.main_arg0) = m' ((c.tc : Thread Cert.Reference7Ideal.nD Cert.Reference7Ideal.τ).loc Cert.Reference7Ideal.main_arg0)
          ∧ r.2.mem ((c.tc : Thread Cert.Reference7Ideal.nD Cert.Reference7Ideal.τ).loc Cert.Reference7Ideal.main_arg1) = m' ((c.tc : Thread Cert.Reference7Ideal.nD Cert.Reference7Ideal.τ).loc Cert.Reference7Ideal.main_arg1)
          ∧ r.2.mem ((c.tc : Thread Cert.Reference7Ideal.nD Cert.Reference7Ideal.τ).loc Cert.Reference7Ideal.main_arg2) = m' ((c.tc : Thread Cert.Reference7Ideal.nD Cert.Reference7Ideal.τ).loc Cert.Reference7Ideal.main_arg2))

def preserves_Kernel8_Kernel8Ideal : Prop :=
  IdealRules.named_const.Statement Cert.Kernel8Ideal.κ "mask" .f32 0xF149F2CA#32 ⊥

def algebraic_Kernel8Ideal_Reference8Ideal_pre_attn_fwd_finite [hKernel8Ideal : Cert.Kernel8Ideal.Facts] [hReference8Ideal : Cert.Reference8Ideal.Facts] [hPre_attn_fwd_finite : Cert.Pre_attn_fwd_finite.Facts] : Prop :=
  ∀ (m : (ℓ : Loc Cert.Kernel8Ideal.nD Cert.Kernel8Ideal.τ Cert.Kernel8Ideal.sig) → Buf (Elt Ideal) ℓ) (g : Dev Cert.Kernel8Ideal.nD → PrngReg)
    (m' : (ℓ : Loc Cert.Reference8Ideal.nD Cert.Reference8Ideal.τ Cert.Reference8Ideal.sig) → Buf (Elt Ideal) ℓ) (g' : Dev Cert.Reference8Ideal.nD → PrngReg), Pre_Kernel8Ideal_attn_fwd_finite m →
    (∀ c : Dev Cert.Kernel8Ideal.nD,
      m' ((c.tc : Thread Cert.Reference8Ideal.nD Cert.Reference8Ideal.τ).loc Cert.Reference8Ideal.main_arg0) = m ((c.tc : Thread Cert.Kernel8Ideal.nD Cert.Kernel8Ideal.τ).loc Cert.Kernel8Ideal.main_arg0)
      ∧ m' ((c.tc : Thread Cert.Reference8Ideal.nD Cert.Reference8Ideal.τ).loc Cert.Reference8Ideal.main_arg1) = m ((c.tc : Thread Cert.Kernel8Ideal.nD Cert.Kernel8Ideal.τ).loc Cert.Kernel8Ideal.main_arg1)
      ∧ m' ((c.tc : Thread Cert.Reference8Ideal.nD Cert.Reference8Ideal.τ).loc Cert.Reference8Ideal.main_arg2) = m ((c.tc : Thread Cert.Kernel8Ideal.nD Cert.Kernel8Ideal.τ).loc Cert.Kernel8Ideal.main_arg2)
      ∧ m' ((c.tc : Thread Cert.Reference8Ideal.nD Cert.Reference8Ideal.τ).loc Cert.Reference8Ideal.main_arg3) = m ((c.tc : Thread Cert.Kernel8Ideal.nD Cert.Kernel8Ideal.τ).loc Cert.Kernel8Ideal.main_arg3)) →
    ∃ (v0 : (c : Dev Cert.Kernel8Ideal.nD) → Buf (Elt Ideal) ((c.tc : Thread Cert.Kernel8Ideal.nD Cert.Kernel8Ideal.τ).loc Cert.Kernel8Ideal.main_v38_0)) (v1 : (c : Dev Cert.Kernel8Ideal.nD) → Buf (Elt Ideal) ((c.tc : Thread Cert.Kernel8Ideal.nD Cert.Kernel8Ideal.τ).loc Cert.Kernel8Ideal.main_v38_1)),
      θ_run (Cert.Kernel8Ideal.defs (F := Ideal)) (onTc (τ := Cert.Kernel8Ideal.τ) (Cert.Kernel8Ideal.main (F := Ideal))) ⟨m, fun _ => 0, g⟩ (fun r => ∀ c : Dev Cert.Kernel8Ideal.nD,
          r.2.mem ((c.tc : Thread Cert.Kernel8Ideal.nD Cert.Kernel8Ideal.τ).loc Cert.Kernel8Ideal.main_v38_0) = v0 c
          ∧ r.2.mem ((c.tc : Thread Cert.Kernel8Ideal.nD Cert.Kernel8Ideal.τ).loc Cert.Kernel8Ideal.main_v38_1) = v1 c
          ∧ r.2.mem ((c.tc : Thread Cert.Kernel8Ideal.nD Cert.Kernel8Ideal.τ).loc Cert.Kernel8Ideal.main_arg0) = m ((c.tc : Thread Cert.Kernel8Ideal.nD Cert.Kernel8Ideal.τ).loc Cert.Kernel8Ideal.main_arg0)
          ∧ r.2.mem ((c.tc : Thread Cert.Kernel8Ideal.nD Cert.Kernel8Ideal.τ).loc Cert.Kernel8Ideal.main_arg1) = m ((c.tc : Thread Cert.Kernel8Ideal.nD Cert.Kernel8Ideal.τ).loc Cert.Kernel8Ideal.main_arg1)
          ∧ r.2.mem ((c.tc : Thread Cert.Kernel8Ideal.nD Cert.Kernel8Ideal.τ).loc Cert.Kernel8Ideal.main_arg2) = m ((c.tc : Thread Cert.Kernel8Ideal.nD Cert.Kernel8Ideal.τ).loc Cert.Kernel8Ideal.main_arg2)
          ∧ r.2.mem ((c.tc : Thread Cert.Kernel8Ideal.nD Cert.Kernel8Ideal.τ).loc Cert.Kernel8Ideal.main_arg3) = m ((c.tc : Thread Cert.Kernel8Ideal.nD Cert.Kernel8Ideal.τ).loc Cert.Kernel8Ideal.main_arg3))
      ∧ θ_run (Cert.Reference8Ideal.defs (F := Ideal)) (onTc (τ := Cert.Reference8Ideal.τ) (Cert.Reference8Ideal.main (F := Ideal))) ⟨m', fun _ => 0, g'⟩ (fun r => ∀ c : Dev Cert.Reference8Ideal.nD,
          r.2.mem ((c.tc : Thread Cert.Reference8Ideal.nD Cert.Reference8Ideal.τ).loc Cert.Reference8Ideal.main_v67) = v0 c
          ∧ r.2.mem ((c.tc : Thread Cert.Reference8Ideal.nD Cert.Reference8Ideal.τ).loc Cert.Reference8Ideal.main_v69) = v1 c
          ∧ r.2.mem ((c.tc : Thread Cert.Reference8Ideal.nD Cert.Reference8Ideal.τ).loc Cert.Reference8Ideal.main_arg0) = m' ((c.tc : Thread Cert.Reference8Ideal.nD Cert.Reference8Ideal.τ).loc Cert.Reference8Ideal.main_arg0)
          ∧ r.2.mem ((c.tc : Thread Cert.Reference8Ideal.nD Cert.Reference8Ideal.τ).loc Cert.Reference8Ideal.main_arg1) = m' ((c.tc : Thread Cert.Reference8Ideal.nD Cert.Reference8Ideal.τ).loc Cert.Reference8Ideal.main_arg1)
          ∧ r.2.mem ((c.tc : Thread Cert.Reference8Ideal.nD Cert.Reference8Ideal.τ).loc Cert.Reference8Ideal.main_arg2) = m' ((c.tc : Thread Cert.Reference8Ideal.nD Cert.Reference8Ideal.τ).loc Cert.Reference8Ideal.main_arg2)
          ∧ r.2.mem ((c.tc : Thread Cert.Reference8Ideal.nD Cert.Reference8Ideal.τ).loc Cert.Reference8Ideal.main_arg3) = m' ((c.tc : Thread Cert.Reference8Ideal.nD Cert.Reference8Ideal.τ).loc Cert.Reference8Ideal.main_arg3))

def preserves_Kernel9_Kernel9Ideal : Prop :=
  True

def algebraic_Kernel9Ideal_Reference9Ideal [hKernel9Ideal : Cert.Kernel9Ideal.Facts] [hReference9Ideal : Cert.Reference9Ideal.Facts] : Prop :=
  ∀ (m : (ℓ : Loc Cert.Kernel9Ideal.nD Cert.Kernel9Ideal.τ Cert.Kernel9Ideal.sig) → Buf (Elt Ideal) ℓ) (g : Dev Cert.Kernel9Ideal.nD → PrngReg)
    (m' : (ℓ : Loc Cert.Reference9Ideal.nD Cert.Reference9Ideal.τ Cert.Reference9Ideal.sig) → Buf (Elt Ideal) ℓ) (g' : Dev Cert.Reference9Ideal.nD → PrngReg), Pre_Kernel9Ideal m →
    (∀ c : Dev Cert.Kernel9Ideal.nD,
      m' ((c.tc : Thread Cert.Reference9Ideal.nD Cert.Reference9Ideal.τ).loc Cert.Reference9Ideal.main_arg0) = m ((c.tc : Thread Cert.Kernel9Ideal.nD Cert.Kernel9Ideal.τ).loc Cert.Kernel9Ideal.main_arg0)
      ∧ m' ((c.tc : Thread Cert.Reference9Ideal.nD Cert.Reference9Ideal.τ).loc Cert.Reference9Ideal.main_arg1) = m ((c.tc : Thread Cert.Kernel9Ideal.nD Cert.Kernel9Ideal.τ).loc Cert.Kernel9Ideal.main_arg1)
      ∧ m' ((c.tc : Thread Cert.Reference9Ideal.nD Cert.Reference9Ideal.τ).loc Cert.Reference9Ideal.main_arg2) = m ((c.tc : Thread Cert.Kernel9Ideal.nD Cert.Kernel9Ideal.τ).loc Cert.Kernel9Ideal.main_arg2)) →
    ∃ (v0 : (c : Dev Cert.Kernel9Ideal.nD) → Buf (Elt Ideal) ((c.tc : Thread Cert.Kernel9Ideal.nD Cert.Kernel9Ideal.τ).loc Cert.Kernel9Ideal.main_v5)),
      θ_run (Cert.Kernel9Ideal.defs (F := Ideal)) (onTc (τ := Cert.Kernel9Ideal.τ) (Cert.Kernel9Ideal.main (F := Ideal))) ⟨m, fun _ => 0, g⟩ (fun r => ∀ c : Dev Cert.Kernel9Ideal.nD,
          r.2.mem ((c.tc : Thread Cert.Kernel9Ideal.nD Cert.Kernel9Ideal.τ).loc Cert.Kernel9Ideal.main_v5) = v0 c
          ∧ r.2.mem ((c.tc : Thread Cert.Kernel9Ideal.nD Cert.Kernel9Ideal.τ).loc Cert.Kernel9Ideal.main_arg0) = m ((c.tc : Thread Cert.Kernel9Ideal.nD Cert.Kernel9Ideal.τ).loc Cert.Kernel9Ideal.main_arg0)
          ∧ r.2.mem ((c.tc : Thread Cert.Kernel9Ideal.nD Cert.Kernel9Ideal.τ).loc Cert.Kernel9Ideal.main_arg1) = m ((c.tc : Thread Cert.Kernel9Ideal.nD Cert.Kernel9Ideal.τ).loc Cert.Kernel9Ideal.main_arg1)
          ∧ r.2.mem ((c.tc : Thread Cert.Kernel9Ideal.nD Cert.Kernel9Ideal.τ).loc Cert.Kernel9Ideal.main_arg2) = m ((c.tc : Thread Cert.Kernel9Ideal.nD Cert.Kernel9Ideal.τ).loc Cert.Kernel9Ideal.main_arg2))
      ∧ θ_run (Cert.Reference9Ideal.defs (F := Ideal)) (onTc (τ := Cert.Reference9Ideal.τ) (Cert.Reference9Ideal.main (F := Ideal))) ⟨m', fun _ => 0, g'⟩ (fun r => ∀ c : Dev Cert.Reference9Ideal.nD,
          r.2.mem ((c.tc : Thread Cert.Reference9Ideal.nD Cert.Reference9Ideal.τ).loc Cert.Reference9Ideal.main_v232) = v0 c
          ∧ r.2.mem ((c.tc : Thread Cert.Reference9Ideal.nD Cert.Reference9Ideal.τ).loc Cert.Reference9Ideal.main_arg0) = m' ((c.tc : Thread Cert.Reference9Ideal.nD Cert.Reference9Ideal.τ).loc Cert.Reference9Ideal.main_arg0)
          ∧ r.2.mem ((c.tc : Thread Cert.Reference9Ideal.nD Cert.Reference9Ideal.τ).loc Cert.Reference9Ideal.main_arg1) = m' ((c.tc : Thread Cert.Reference9Ideal.nD Cert.Reference9Ideal.τ).loc Cert.Reference9Ideal.main_arg1)
          ∧ r.2.mem ((c.tc : Thread Cert.Reference9Ideal.nD Cert.Reference9Ideal.τ).loc Cert.Reference9Ideal.main_arg2) = m' ((c.tc : Thread Cert.Reference9Ideal.nD Cert.Reference9Ideal.τ).loc Cert.Reference9Ideal.main_arg2))

def Claim : Prop :=
  ∃ (hKernel : Cert.Kernel.Facts) (hKernelIdeal : Cert.KernelIdeal.Facts) (hReferenceIdeal : Cert.ReferenceIdeal.Facts) (hKernel2 : Cert.Kernel2.Facts) (hKernel2Ideal : Cert.Kernel2Ideal.Facts) (hReference2Ideal : Cert.Reference2Ideal.Facts) (hKernel3 : Cert.Kernel3.Facts) (hKernel3Ideal : Cert.Kernel3Ideal.Facts) (hReference3Ideal : Cert.Reference3Ideal.Facts) (hKernel4 : Cert.Kernel4.Facts) (hKernel4Ideal : Cert.Kernel4Ideal.Facts) (hReference4Ideal : Cert.Reference4Ideal.Facts) (hKernel5 : Cert.Kernel5.Facts) (hKernel5Ideal : Cert.Kernel5Ideal.Facts) (hReference5Ideal : Cert.Reference5Ideal.Facts) (hKernel6 : Cert.Kernel6.Facts) (hKernel6Ideal : Cert.Kernel6Ideal.Facts) (hReference6Ideal : Cert.Reference6Ideal.Facts) (hKernel7 : Cert.Kernel7.Facts) (hKernel7Ideal : Cert.Kernel7Ideal.Facts) (hReference7Ideal : Cert.Reference7Ideal.Facts) (hKernel8 : Cert.Kernel8.Facts) (hKernel8Ideal : Cert.Kernel8Ideal.Facts) (hReference8Ideal : Cert.Reference8Ideal.Facts) (hKernel9 : Cert.Kernel9.Facts) (hKernel9Ideal : Cert.Kernel9Ideal.Facts) (hReference9Ideal : Cert.Reference9Ideal.Facts) (hPre_conv_post_finite : Cert.Pre_conv_post_finite.Facts) (hPre_attention_finite : Cert.Pre_attention_finite.Facts) (hPre_gate_finite : Cert.Pre_gate_finite.Facts) (hPre_inproj_finite : Cert.Pre_inproj_finite.Facts) (hPre_heads_finite : Cert.Pre_heads_finite.Facts) (hPre_attn_fwd_finite : Cert.Pre_attn_fwd_finite.Facts) (hOn_attention_lanes : Cert.On_attention_lanes.Facts),
    quiescent_Kernel (hKernel := hKernel)
    ∧ quiescent_KernelIdeal (hKernelIdeal := hKernelIdeal)
    ∧ quiescent_KernelIdeal_pre_conv_post_finite (hKernelIdeal := hKernelIdeal) (hPre_conv_post_finite := hPre_conv_post_finite)
    ∧ quiescent_ReferenceIdeal (hReferenceIdeal := hReferenceIdeal)
    ∧ quiescent_ReferenceIdeal_pre_conv_post_finite (hReferenceIdeal := hReferenceIdeal) (hPre_conv_post_finite := hPre_conv_post_finite)
    ∧ quiescent_Kernel2 (hKernel2 := hKernel2)
    ∧ quiescent_Kernel2Ideal (hKernel2Ideal := hKernel2Ideal)
    ∧ quiescent_Kernel2Ideal_pre_attention_finite (hKernel2Ideal := hKernel2Ideal) (hPre_attention_finite := hPre_attention_finite)
    ∧ quiescent_Reference2Ideal (hReference2Ideal := hReference2Ideal)
    ∧ quiescent_Reference2Ideal_pre_attention_finite (hReference2Ideal := hReference2Ideal) (hPre_attention_finite := hPre_attention_finite)
    ∧ quiescent_Kernel3 (hKernel3 := hKernel3)
    ∧ quiescent_Kernel3Ideal (hKernel3Ideal := hKernel3Ideal)
    ∧ quiescent_Kernel3Ideal_pre_gate_finite (hKernel3Ideal := hKernel3Ideal) (hPre_gate_finite := hPre_gate_finite)
    ∧ quiescent_Reference3Ideal (hReference3Ideal := hReference3Ideal)
    ∧ quiescent_Reference3Ideal_pre_gate_finite (hReference3Ideal := hReference3Ideal) (hPre_gate_finite := hPre_gate_finite)
    ∧ quiescent_Kernel4 (hKernel4 := hKernel4)
    ∧ quiescent_Kernel4Ideal (hKernel4Ideal := hKernel4Ideal)
    ∧ quiescent_Kernel4Ideal_pre_inproj_finite (hKernel4Ideal := hKernel4Ideal) (hPre_inproj_finite := hPre_inproj_finite)
    ∧ quiescent_Reference4Ideal (hReference4Ideal := hReference4Ideal)
    ∧ quiescent_Reference4Ideal_pre_inproj_finite (hReference4Ideal := hReference4Ideal) (hPre_inproj_finite := hPre_inproj_finite)
    ∧ quiescent_Kernel5 (hKernel5 := hKernel5)
    ∧ quiescent_Kernel5Ideal (hKernel5Ideal := hKernel5Ideal)
    ∧ quiescent_Reference5Ideal (hReference5Ideal := hReference5Ideal)
    ∧ quiescent_Kernel6 (hKernel6 := hKernel6)
    ∧ quiescent_Kernel6Ideal (hKernel6Ideal := hKernel6Ideal)
    ∧ quiescent_Kernel6Ideal_pre_heads_finite (hKernel6Ideal := hKernel6Ideal) (hPre_heads_finite := hPre_heads_finite)
    ∧ quiescent_Reference6Ideal (hReference6Ideal := hReference6Ideal)
    ∧ quiescent_Reference6Ideal_pre_heads_finite (hReference6Ideal := hReference6Ideal) (hPre_heads_finite := hPre_heads_finite)
    ∧ quiescent_Kernel7 (hKernel7 := hKernel7)
    ∧ quiescent_Kernel7Ideal (hKernel7Ideal := hKernel7Ideal)
    ∧ quiescent_Reference7Ideal (hReference7Ideal := hReference7Ideal)
    ∧ quiescent_Kernel8 (hKernel8 := hKernel8)
    ∧ quiescent_Kernel8Ideal (hKernel8Ideal := hKernel8Ideal)
    ∧ quiescent_Kernel8Ideal_pre_attn_fwd_finite (hKernel8Ideal := hKernel8Ideal) (hPre_attn_fwd_finite := hPre_attn_fwd_finite)
    ∧ quiescent_Reference8Ideal (hReference8Ideal := hReference8Ideal)
    ∧ quiescent_Reference8Ideal_pre_attn_fwd_finite (hReference8Ideal := hReference8Ideal) (hPre_attn_fwd_finite := hPre_attn_fwd_finite)
    ∧ quiescent_Kernel9 (hKernel9 := hKernel9)
    ∧ quiescent_Kernel9Ideal (hKernel9Ideal := hKernel9Ideal)
    ∧ quiescent_Reference9Ideal (hReference9Ideal := hReference9Ideal)
    ∧ preserves_Kernel_KernelIdeal
    ∧ algebraic_KernelIdeal_ReferenceIdeal_pre_conv_post_finite (hKernelIdeal := hKernelIdeal) (hReferenceIdeal := hReferenceIdeal) (hPre_conv_post_finite := hPre_conv_post_finite)
    ∧ preserves_Kernel2_Kernel2Ideal
    ∧ algebraic_Kernel2Ideal_Reference2Ideal_on_attention_lanes_pre_attention_finite (hKernel2Ideal := hKernel2Ideal) (hReference2Ideal := hReference2Ideal) (hPre_attention_finite := hPre_attention_finite) (hOn_attention_lanes := hOn_attention_lanes)
    ∧ preserves_Kernel3_Kernel3Ideal
    ∧ algebraic_Kernel3Ideal_Reference3Ideal_pre_gate_finite (hKernel3Ideal := hKernel3Ideal) (hReference3Ideal := hReference3Ideal) (hPre_gate_finite := hPre_gate_finite)
    ∧ preserves_Kernel4_Kernel4Ideal
    ∧ algebraic_Kernel4Ideal_Reference4Ideal_pre_inproj_finite (hKernel4Ideal := hKernel4Ideal) (hReference4Ideal := hReference4Ideal) (hPre_inproj_finite := hPre_inproj_finite)
    ∧ preserves_Kernel5_Kernel5Ideal
    ∧ algebraic_Kernel5Ideal_Reference5Ideal (hKernel5Ideal := hKernel5Ideal) (hReference5Ideal := hReference5Ideal)
    ∧ preserves_Kernel6_Kernel6Ideal
    ∧ algebraic_Kernel6Ideal_Reference6Ideal_pre_heads_finite (hKernel6Ideal := hKernel6Ideal) (hReference6Ideal := hReference6Ideal) (hPre_heads_finite := hPre_heads_finite)
    ∧ preserves_Kernel7_Kernel7Ideal
    ∧ algebraic_Kernel7Ideal_Reference7Ideal (hKernel7Ideal := hKernel7Ideal) (hReference7Ideal := hReference7Ideal)
    ∧ preserves_Kernel8_Kernel8Ideal
    ∧ algebraic_Kernel8Ideal_Reference8Ideal_pre_attn_fwd_finite (hKernel8Ideal := hKernel8Ideal) (hReference8Ideal := hReference8Ideal) (hPre_attn_fwd_finite := hPre_attn_fwd_finite)
    ∧ preserves_Kernel9_Kernel9Ideal
    ∧ algebraic_Kernel9Ideal_Reference9Ideal (hKernel9Ideal := hKernel9Ideal) (hReference9Ideal := hReference9Ideal)
-- ==== On_attention_lanes.lean ====
abbrev S2x2048x16x64 : Shape := ⟨4, ![2, 2048, 16, 64]⟩
abbrev S2x2048x16 : Shape := ⟨3, ![2, 2048, 16]⟩
abbrev S2x16x2048x128 : Shape := ⟨4, ![2, 16, 2048, 128]⟩
abbrev S_ : Shape := ⟨0, ![]⟩

class Facts : Prop where
  bcast_S_S2x16x2048x128 : S_.BroadcastsInDim S2x16x2048x128 (![] : Fin 0 → Fin S2x16x2048x128.rank)

variable [Facts]

def fn {F : FTy → Type} [FloatOps F] (main_arg0 : FVec F S2x2048x16x64 .f32) (main_arg1 : FVec F S2x2048x16x64 .f32) (main_arg2 : FVec F S2x2048x16x64 .f32) (main_arg3 : FVec F S2x2048x16 .f32) (main_arg4 : FVec F S2x2048x16x64 .f32) : IVec S2x16x2048x128 1 × IVec S2x16x2048x128 1 × IVec S2x16x2048x128 1 :=
  let main_v0 : IVec S2x16x2048x128 32 := iotaInDim S2x16x2048x128 32 3
  let main_c : IVec S_ 32 := constantI S_ 32 64#32
  let main_v1 : IVec S2x16x2048x128 32 := broadcastInDim S2x16x2048x128 ![] bcast_S_S2x16x2048x128 main_c
  let main_v2 : IVec S2x16x2048x128 1 := cmpi .sle main_v0 main_v1
  let main_c_0 : IVec S_ 32 := constantI S_ 32 64#32
  let main_v3 : IVec S2x16x2048x128 32 := broadcastInDim S2x16x2048x128 ![] bcast_S_S2x16x2048x128 main_c_0
  let main_v4 : IVec S2x16x2048x128 1 := cmpi .slt main_v0 main_v3
  let main_c_1 : IVec S_ 32 := constantI S_ 32 67#32
  let main_v5 : IVec S2x16x2048x128 32 := broadcastInDim S2x16x2048x128 ![] bcast_S_S2x16x2048x128 main_c_1
  let main_v6 : IVec S2x16x2048x128 1 := cmpi .eq main_v0 main_v5
  let main_v7 : IVec S2x16x2048x128 1 := ori main_v4 main_v6
  let main_c_2 : IVec S_ 32 := constantI S_ 32 64#32
  let main_v8 : IVec S2x16x2048x128 32 := broadcastInDim S2x16x2048x128 ![] bcast_S_S2x16x2048x128 main_c_2
  let main_v9 : IVec S2x16x2048x128 1 := cmpi .slt main_v0 main_v8
  (main_v2, main_v7, main_v9)
-- ==== Pre_attention_finite.lean ====
abbrev S2x2048x16x64 : Shape := ⟨4, ![2, 2048, 16, 64]⟩
abbrev S2x2048x16 : Shape := ⟨3, ![2, 2048, 16]⟩
abbrev S_ : Shape := ⟨0, ![]⟩

class Facts : Prop where
  bcast_S_S2x2048x16x64 : S_.BroadcastsInDim S2x2048x16x64 (![] : Fin 0 → Fin S2x2048x16x64.rank)
  reducesTo_S2x2048x16x64_S_d0_1_2_3 : S2x2048x16x64.ReducesTo [0, 1, 2, 3] S_
  h_S_ : 0 < S_.numel
  bcast_S_S2x2048x16 : S_.BroadcastsInDim S2x2048x16 (![] : Fin 0 → Fin S2x2048x16.rank)
  reducesTo_S2x2048x16_S_d0_1_2 : S2x2048x16.ReducesTo [0, 1, 2] S_

variable [Facts]

def fn_part1 {F : FTy → Type} [FloatOps F] (main_arg4 : FVec F S2x2048x16x64 .f32) (main_v3 : IVec S_ 1) (main_v7 : IVec S_ 1) (main_v11 : IVec S_ 1) (main_v15 : IVec S_ 1) : IVec S_ 1 :=
  let main_v16 : FVec F S2x2048x16x64 .f32 := Host.absf main_arg4
  let main_cst_6 : FVec F S_ .f32 := constant S_ .f32 0x7F800000#32
  let main_v17 : FVec F S2x2048x16x64 .f32 := broadcastInDim S2x2048x16x64 ![] bcast_S_S2x2048x16x64 main_cst_6
  let main_v18 : IVec S2x2048x16x64 1 := cmpf .olt main_v16 main_v17
  let main_c_7 : IVec S_ 1 := constantI S_ 1 1#1
  let main_v19 : IVec S_ 1 := (fun x v => Host.reduce IntOp.andi x v reducesTo_S2x2048x16x64_S_d0_1_2_3 h_S_) main_v18 main_c_7
  let main_v20 : IVec S_ 1 := andi main_v3 main_v7
  let main_v21 : IVec S_ 1 := andi main_v20 main_v11
  let main_v22 : IVec S_ 1 := andi main_v21 main_v15
  let main_v23 : IVec S_ 1 := andi main_v22 main_v19
  main_v23

def fn {F : FTy → Type} [FloatOps F] (main_arg0 : FVec F S2x2048x16x64 .f32) (main_arg1 : FVec F S2x2048x16x64 .f32) (main_arg2 : FVec F S2x2048x16x64 .f32) (main_arg3 : FVec F S2x2048x16 .f32) (main_arg4 : FVec F S2x2048x16x64 .f32) : IVec S_ 1 :=
  let main_v0 : FVec F S2x2048x16x64 .f32 := Host.absf main_arg0
  let main_cst : FVec F S_ .f32 := constant S_ .f32 0x7F800000#32
  let main_v1 : FVec F S2x2048x16x64 .f32 := broadcastInDim S2x2048x16x64 ![] bcast_S_S2x2048x16x64 main_cst
  let main_v2 : IVec S2x2048x16x64 1 := cmpf .olt main_v0 main_v1
  let main_c : IVec S_ 1 := constantI S_ 1 1#1
  let main_v3 : IVec S_ 1 := (fun x v => Host.reduce IntOp.andi x v reducesTo_S2x2048x16x64_S_d0_1_2_3 h_S_) main_v2 main_c
  let main_v4 : FVec F S2x2048x16x64 .f32 := Host.absf main_arg1
  let main_cst_0 : FVec F S_ .f32 := constant S_ .f32 0x7F800000#32
  let main_v5 : FVec F S2x2048x16x64 .f32 := broadcastInDim S2x2048x16x64 ![] bcast_S_S2x2048x16x64 main_cst_0
  let main_v6 : IVec S2x2048x16x64 1 := cmpf .olt main_v4 main_v5
  let main_c_1 : IVec S_ 1 := constantI S_ 1 1#1
  let main_v7 : IVec S_ 1 := (fun x v => Host.reduce IntOp.andi x v reducesTo_S2x2048x16x64_S_d0_1_2_3 h_S_) main_v6 main_c_1
  let main_v8 : FVec F S2x2048x16x64 .f32 := Host.absf main_arg2
  let main_cst_2 : FVec F S_ .f32 := constant S_ .f32 0x7F800000#32
  let main_v9 : FVec F S2x2048x16x64 .f32 := broadcastInDim S2x2048x16x64 ![] bcast_S_S2x2048x16x64 main_cst_2
  let main_v10 : IVec S2x2048x16x64 1 := cmpf .olt main_v8 main_v9
  let main_c_3 : IVec S_ 1 := constantI S_ 1 1#1
  let main_v11 : IVec S_ 1 := (fun x v => Host.reduce IntOp.andi x v reducesTo_S2x2048x16x64_S_d0_1_2_3 h_S_) main_v10 main_c_3
  let main_v12 : FVec F S2x2048x16 .f32 := Host.absf main_arg3
  let main_cst_4 : FVec F S_ .f32 := constant S_ .f32 0x7F800000#32
  let main_v13 : FVec F S2x2048x16 .f32 := broadcastInDim S2x2048x16 ![] bcast_S_S2x2048x16 main_cst_4
  let main_v14 : IVec S2x2048x16 1 := cmpf .olt main_v12 main_v13
  let main_c_5 : IVec S_ 1 := constantI S_ 1 1#1
  let main_v15 : IVec S_ 1 := (fun x v => Host.reduce IntOp.andi x v reducesTo_S2x2048x16_S_d0_1_2 h_S_) main_v14 main_c_5
  fn_part1 (F := F) main_arg4 main_v3 main_v7 main_v11 main_v15
-- ==== Pre_attn_fwd_finite.lean ====
abbrev S2x2048x16x64 : Shape := ⟨4, ![2, 2048, 16, 64]⟩
abbrev S2x2048x16 : Shape := ⟨3, ![2, 2048, 16]⟩
abbrev S_ : Shape := ⟨0, ![]⟩

class Facts : Prop where
  bcast_S_S2x2048x16x64 : S_.BroadcastsInDim S2x2048x16x64 (![] : Fin 0 → Fin S2x2048x16x64.rank)
  reducesTo_S2x2048x16x64_S_d0_1_2_3 : S2x2048x16x64.ReducesTo [0, 1, 2, 3] S_
  h_S_ : 0 < S_.numel
  bcast_S_S2x2048x16 : S_.BroadcastsInDim S2x2048x16 (![] : Fin 0 → Fin S2x2048x16.rank)
  reducesTo_S2x2048x16_S_d0_1_2 : S2x2048x16.ReducesTo [0, 1, 2] S_

variable [Facts]

def fn_part1 {F : FTy → Type} [FloatOps F] (main_v3 : IVec S_ 1) (main_v7 : IVec S_ 1) (main_v11 : IVec S_ 1) (main_v15 : IVec S_ 1) : IVec S_ 1 :=
  let main_v16 : IVec S_ 1 := andi main_v3 main_v7
  let main_v17 : IVec S_ 1 := andi main_v16 main_v11
  let main_v18 : IVec S_ 1 := andi main_v17 main_v15
  main_v18

def fn {F : FTy → Type} [FloatOps F] (main_arg0 : FVec F S2x2048x16x64 .f32) (main_arg1 : FVec F S2x2048x16x64 .f32) (main_arg2 : FVec F S2x2048x16x64 .f32) (main_arg3 : FVec F S2x2048x16 .f32) : IVec S_ 1 :=
  let main_v0 : FVec F S2x2048x16x64 .f32 := Host.absf main_arg0
  let main_cst : FVec F S_ .f32 := constant S_ .f32 0x7F800000#32
  let main_v1 : FVec F S2x2048x16x64 .f32 := broadcastInDim S2x2048x16x64 ![] bcast_S_S2x2048x16x64 main_cst
  let main_v2 : IVec S2x2048x16x64 1 := cmpf .olt main_v0 main_v1
  let main_c : IVec S_ 1 := constantI S_ 1 1#1
  let main_v3 : IVec S_ 1 := (fun x v => Host.reduce IntOp.andi x v reducesTo_S2x2048x16x64_S_d0_1_2_3 h_S_) main_v2 main_c
  let main_v4 : FVec F S2x2048x16x64 .f32 := Host.absf main_arg1
  let main_cst_0 : FVec F S_ .f32 := constant S_ .f32 0x7F800000#32
  let main_v5 : FVec F S2x2048x16x64 .f32 := broadcastInDim S2x2048x16x64 ![] bcast_S_S2x2048x16x64 main_cst_0
  let main_v6 : IVec S2x2048x16x64 1 := cmpf .olt main_v4 main_v5
  let main_c_1 : IVec S_ 1 := constantI S_ 1 1#1
  let main_v7 : IVec S_ 1 := (fun x v => Host.reduce IntOp.andi x v reducesTo_S2x2048x16x64_S_d0_1_2_3 h_S_) main_v6 main_c_1
  let main_v8 : FVec F S2x2048x16x64 .f32 := Host.absf main_arg2
  let main_cst_2 : FVec F S_ .f32 := constant S_ .f32 0x7F800000#32
  let main_v9 : FVec F S2x2048x16x64 .f32 := broadcastInDim S2x2048x16x64 ![] bcast_S_S2x2048x16x64 main_cst_2
  let main_v10 : IVec S2x2048x16x64 1 := cmpf .olt main_v8 main_v9
  let main_c_3 : IVec S_ 1 := constantI S_ 1 1#1
  let main_v11 : IVec S_ 1 := (fun x v => Host.reduce IntOp.andi x v reducesTo_S2x2048x16x64_S_d0_1_2_3 h_S_) main_v10 main_c_3
  let main_v12 : FVec F S2x2048x16 .f32 := Host.absf main_arg3
  let main_cst_4 : FVec F S_ .f32 := constant S_ .f32 0x7F800000#32
  let main_v13 : FVec F S2x2048x16 .f32 := broadcastInDim S2x2048x16 ![] bcast_S_S2x2048x16 main_cst_4
  let main_v14 : IVec S2x2048x16 1 := cmpf .olt main_v12 main_v13
  let main_c_5 : IVec S_ 1 := constantI S_ 1 1#1
  let main_v15 : IVec S_ 1 := (fun x v => Host.reduce IntOp.andi x v reducesTo_S2x2048x16_S_d0_1_2 h_S_) main_v14 main_c_5
  fn_part1 (F := F) main_v3 main_v7 main_v11 main_v15
-- ==== Pre_conv_post_finite.lean ====
abbrev S2x2048x7184 : Shape := ⟨3, ![2, 2048, 7184]⟩
abbrev S2x2048x1024 : Shape := ⟨3, ![2, 2048, 1024]⟩
abbrev S1x1024 : Shape := ⟨2, ![1, 1024]⟩
abbrev S2x2048x2048 : Shape := ⟨3, ![2, 2048, 2048]⟩
abbrev S_ : Shape := ⟨0, ![]⟩

class Facts : Prop where
  slices_S2x2048x7184_S2x2048x1024_0_0_6160 : S2x2048x7184.Slices ![0, 0, 6160] S2x2048x1024
  slices_S2x2048x2048_S2x2048x1024_0_0_1024 : S2x2048x2048.Slices ![0, 0, 1024] S2x2048x1024
  bcast_S_S2x2048x1024 : S_.BroadcastsInDim S2x2048x1024 (![] : Fin 0 → Fin S2x2048x1024.rank)
  reducesTo_S2x2048x1024_S_d0_1_2 : S2x2048x1024.ReducesTo [0, 1, 2] S_
  h_S_ : 0 < S_.numel
  bcast_S_S1x1024 : S_.BroadcastsInDim S1x1024 (![] : Fin 0 → Fin S1x1024.rank)
  reducesTo_S1x1024_S_d0_1 : S1x1024.ReducesTo [0, 1] S_

variable [Facts]

def fn_part1 {F : FTy → Type} [FloatOps F] (main_arg4 : FVec F S1x1024 .f32) (main_v1 : FVec F S2x2048x1024 .f32) (main_v5 : IVec S_ 1) (main_v9 : IVec S_ 1) (main_v13 : IVec S_ 1) (main_v16 : IVec S1x1024 1) : IVec S_ 1 :=
  let main_c_5 : IVec S_ 1 := constantI S_ 1 1#1
  let main_v17 : IVec S_ 1 := (fun x v => Host.reduce IntOp.andi x v reducesTo_S1x1024_S_d0_1 h_S_) main_v16 main_c_5
  let main_v18 : FVec F S1x1024 .f32 := Host.absf main_arg4
  let main_cst_6 : FVec F S_ .f32 := constant S_ .f32 0x7F800000#32
  let main_v19 : FVec F S1x1024 .f32 := broadcastInDim S1x1024 ![] bcast_S_S1x1024 main_cst_6
  let main_v20 : IVec S1x1024 1 := cmpf .olt main_v18 main_v19
  let main_c_7 : IVec S_ 1 := constantI S_ 1 1#1
  let main_v21 : IVec S_ 1 := (fun x v => Host.reduce IntOp.andi x v reducesTo_S1x1024_S_d0_1 h_S_) main_v20 main_c_7
  let main_v22 : FVec F S2x2048x1024 .f32 := Host.absf main_v1
  let main_cst_8 : FVec F S_ .f32 := constant S_ .f32 0x7F800000#32
  let main_v23 : FVec F S2x2048x1024 .f32 := broadcastInDim S2x2048x1024 ![] bcast_S_S2x2048x1024 main_cst_8
  let main_v24 : IVec S2x2048x1024 1 := cmpf .olt main_v22 main_v23
  let main_c_9 : IVec S_ 1 := constantI S_ 1 1#1
  let main_v25 : IVec S_ 1 := (fun x v => Host.reduce IntOp.andi x v reducesTo_S2x2048x1024_S_d0_1_2 h_S_) main_v24 main_c_9
  let main_v26 : IVec S_ 1 := andi main_v5 main_v9
  let main_v27 : IVec S_ 1 := andi main_v26 main_v13
  let main_v28 : IVec S_ 1 := andi main_v27 main_v17
  let main_v29 : IVec S_ 1 := andi main_v28 main_v21
  let main_v30 : IVec S_ 1 := andi main_v29 main_v25
  main_v30

def fn {F : FTy → Type} [FloatOps F] (main_arg0 : FVec F S2x2048x7184 .f32) (main_arg1 : FVec F S2x2048x1024 .f32) (main_arg2 : FVec F S1x1024 .f32) (main_arg3 : FVec F S1x1024 .f32) (main_arg4 : FVec F S1x1024 .f32) (main_arg5 : FVec F S2x2048x2048 .f32) : IVec S_ 1 :=
  let main_v0 : FVec F S2x2048x1024 .f32 := (extractStridedSlice S2x2048x1024 ![0, 0, 6160] · slices_S2x2048x7184_S2x2048x1024_0_0_6160) main_arg0
  let main_v1 : FVec F S2x2048x1024 .f32 := (extractStridedSlice S2x2048x1024 ![0, 0, 1024] · slices_S2x2048x2048_S2x2048x1024_0_0_1024) main_arg5
  let main_v2 : FVec F S2x2048x1024 .f32 := Host.absf main_v0
  let main_cst : FVec F S_ .f32 := constant S_ .f32 0x7F800000#32
  let main_v3 : FVec F S2x2048x1024 .f32 := broadcastInDim S2x2048x1024 ![] bcast_S_S2x2048x1024 main_cst
  let main_v4 : IVec S2x2048x1024 1 := cmpf .olt main_v2 main_v3
  let main_c : IVec S_ 1 := constantI S_ 1 1#1
  let main_v5 : IVec S_ 1 := (fun x v => Host.reduce IntOp.andi x v reducesTo_S2x2048x1024_S_d0_1_2 h_S_) main_v4 main_c
  let main_v6 : FVec F S2x2048x1024 .f32 := Host.absf main_arg1
  let main_cst_0 : FVec F S_ .f32 := constant S_ .f32 0x7F800000#32
  let main_v7 : FVec F S2x2048x1024 .f32 := broadcastInDim S2x2048x1024 ![] bcast_S_S2x2048x1024 main_cst_0
  let main_v8 : IVec S2x2048x1024 1 := cmpf .olt main_v6 main_v7
  let main_c_1 : IVec S_ 1 := constantI S_ 1 1#1
  let main_v9 : IVec S_ 1 := (fun x v => Host.reduce IntOp.andi x v reducesTo_S2x2048x1024_S_d0_1_2 h_S_) main_v8 main_c_1
  let main_v10 : FVec F S1x1024 .f32 := Host.absf main_arg2
  let main_cst_2 : FVec F S_ .f32 := constant S_ .f32 0x7F800000#32
  let main_v11 : FVec F S1x1024 .f32 := broadcastInDim S1x1024 ![] bcast_S_S1x1024 main_cst_2
  let main_v12 : IVec S1x1024 1 := cmpf .olt main_v10 main_v11
  let main_c_3 : IVec S_ 1 := constantI S_ 1 1#1
  let main_v13 : IVec S_ 1 := (fun x v => Host.reduce IntOp.andi x v reducesTo_S1x1024_S_d0_1 h_S_) main_v12 main_c_3
  let main_v14 : FVec F S1x1024 .f32 := Host.absf main_arg3
  let main_cst_4 : FVec F S_ .f32 := constant S_ .f32 0x7F800000#32
  let main_v15 : FVec F S1x1024 .f32 := broadcastInDim S1x1024 ![] bcast_S_S1x1024 main_cst_4
  let main_v16 : IVec S1x1024 1 := cmpf .olt main_v14 main_v15
  fn_part1 (F := F) main_arg4 main_v1 main_v5 main_v9 main_v13 main_v16
-- ==== Pre_gate_finite.lean ====
abbrev S2x2048x7184 : Shape := ⟨3, ![2, 2048, 7184]⟩
abbrev S2x2048x16x64 : Shape := ⟨4, ![2, 2048, 16, 64]⟩
abbrev S2x2048x2048 : Shape := ⟨3, ![2, 2048, 2048]⟩
abbrev S2x2048x1024 : Shape := ⟨3, ![2, 2048, 1024]⟩
abbrev S_ : Shape := ⟨0, ![]⟩

class Facts : Prop where
  slices_S2x2048x7184_S2x2048x1024_0_0_3088 : S2x2048x7184.Slices ![0, 0, 3088] S2x2048x1024
  slices_S2x2048x2048_S2x2048x1024_0_0_0 : S2x2048x2048.Slices ![0, 0, 0] S2x2048x1024
  bcast_S_S2x2048x1024 : S_.BroadcastsInDim S2x2048x1024 (![] : Fin 0 → Fin S2x2048x1024.rank)
  reducesTo_S2x2048x1024_S_d0_1_2 : S2x2048x1024.ReducesTo [0, 1, 2] S_
  h_S_ : 0 < S_.numel
  bcast_S_S2x2048x16x64 : S_.BroadcastsInDim S2x2048x16x64 (![] : Fin 0 → Fin S2x2048x16x64.rank)
  reducesTo_S2x2048x16x64_S_d0_1_2_3 : S2x2048x16x64.ReducesTo [0, 1, 2, 3] S_

variable [Facts]

def fn {F : FTy → Type} [FloatOps F] (main_arg0 : FVec F S2x2048x7184 .f32) (main_arg1 : FVec F S2x2048x16x64 .f32) (main_arg2 : FVec F S2x2048x2048 .f32) : IVec S_ 1 :=
  let main_v0 : FVec F S2x2048x1024 .f32 := (extractStridedSlice S2x2048x1024 ![0, 0, 3088] · slices_S2x2048x7184_S2x2048x1024_0_0_3088) main_arg0
  let main_v1 : FVec F S2x2048x1024 .f32 := (extractStridedSlice S2x2048x1024 ![0, 0, 0] · slices_S2x2048x2048_S2x2048x1024_0_0_0) main_arg2
  let main_v2 : FVec F S2x2048x1024 .f32 := Host.absf main_v0
  let main_cst : FVec F S_ .f32 := constant S_ .f32 0x7F800000#32
  let main_v3 : FVec F S2x2048x1024 .f32 := broadcastInDim S2x2048x1024 ![] bcast_S_S2x2048x1024 main_cst
  let main_v4 : IVec S2x2048x1024 1 := cmpf .olt main_v2 main_v3
  let main_c : IVec S_ 1 := constantI S_ 1 1#1
  let main_v5 : IVec S_ 1 := (fun x v => Host.reduce IntOp.andi x v reducesTo_S2x2048x1024_S_d0_1_2 h_S_) main_v4 main_c
  let main_v6 : FVec F S2x2048x16x64 .f32 := Host.absf main_arg1
  let main_cst_0 : FVec F S_ .f32 := constant S_ .f32 0x7F800000#32
  let main_v7 : FVec F S2x2048x16x64 .f32 := broadcastInDim S2x2048x16x64 ![] bcast_S_S2x2048x16x64 main_cst_0
  let main_v8 : IVec S2x2048x16x64 1 := cmpf .olt main_v6 main_v7
  let main_c_1 : IVec S_ 1 := constantI S_ 1 1#1
  let main_v9 : IVec S_ 1 := (fun x v => Host.reduce IntOp.andi x v reducesTo_S2x2048x16x64_S_d0_1_2_3 h_S_) main_v8 main_c_1
  let main_v10 : FVec F S2x2048x1024 .f32 := Host.absf main_v1
  let main_cst_2 : FVec F S_ .f32 := constant S_ .f32 0x7F800000#32
  let main_v11 : FVec F S2x2048x1024 .f32 := broadcastInDim S2x2048x1024 ![] bcast_S_S2x2048x1024 main_cst_2
  let main_v12 : IVec S2x2048x1024 1 := cmpf .olt main_v10 main_v11
  let main_c_3 : IVec S_ 1 := constantI S_ 1 1#1
  let main_v13 : IVec S_ 1 := (fun x v => Host.reduce IntOp.andi x v reducesTo_S2x2048x1024_S_d0_1_2 h_S_) main_v12 main_c_3
  let main_v14 : IVec S_ 1 := andi main_v5 main_v9
  let main_v15 : IVec S_ 1 := andi main_v14 main_v13
  main_v15
-- ==== Pre_heads_finite.lean ====
abbrev S2x2048x7184 : Shape := ⟨3, ![2, 2048, 7184]⟩
abbrev S1x16 : Shape := ⟨2, ![1, 16]⟩
abbrev S1x16x64 : Shape := ⟨3, ![1, 16, 64]⟩
abbrev S2x16x2048x128 : Shape := ⟨4, ![2, 16, 2048, 128]⟩
abbrev S2x2048x2048 : Shape := ⟨3, ![2, 2048, 2048]⟩
abbrev S2x2048x16 : Shape := ⟨3, ![2, 2048, 16]⟩
abbrev S2x16x2048x65 : Shape := ⟨4, ![2, 16, 2048, 65]⟩
abbrev S2x16x2048x64 : Shape := ⟨4, ![2, 16, 2048, 64]⟩
abbrev S2x16x2048x1 : Shape := ⟨4, ![2, 16, 2048, 1]⟩
abbrev S_ : Shape := ⟨0, ![]⟩

class Facts : Prop where
  slices_S2x2048x7184_S2x2048x2048_0_0_0 : S2x2048x7184.Slices ![0, 0, 0] S2x2048x2048
  slices_S2x2048x7184_S2x2048x16_0_0_3072 : S2x2048x7184.Slices ![0, 0, 3072] S2x2048x16
  slices_S2x16x2048x128_S2x16x2048x65_0_0_0_0 : S2x16x2048x128.Slices ![0, 0, 0, 0] S2x16x2048x65
  slices_S2x16x2048x128_S2x16x2048x64_0_0_0_0 : S2x16x2048x128.Slices ![0, 0, 0, 0] S2x16x2048x64
  slices_S2x16x2048x128_S2x16x2048x1_0_0_0_67 : S2x16x2048x128.Slices ![0, 0, 0, 67] S2x16x2048x1
  bcast_S_S2x2048x2048 : S_.BroadcastsInDim S2x2048x2048 (![] : Fin 0 → Fin S2x2048x2048.rank)
  reducesTo_S2x2048x2048_S_d0_1_2 : S2x2048x2048.ReducesTo [0, 1, 2] S_
  h_S_ : 0 < S_.numel
  bcast_S_S2x2048x16 : S_.BroadcastsInDim S2x2048x16 (![] : Fin 0 → Fin S2x2048x16.rank)
  reducesTo_S2x2048x16_S_d0_1_2 : S2x2048x16.ReducesTo [0, 1, 2] S_
  bcast_S_S1x16 : S_.BroadcastsInDim S1x16 (![] : Fin 0 → Fin S1x16.rank)
  reducesTo_S1x16_S_d0_1 : S1x16.ReducesTo [0, 1] S_
  bcast_S_S1x16x64 : S_.BroadcastsInDim S1x16x64 (![] : Fin 0 → Fin S1x16x64.rank)
  reducesTo_S1x16x64_S_d0_1_2 : S1x16x64.ReducesTo [0, 1, 2] S_
  bcast_S_S2x16x2048x65 : S_.BroadcastsInDim S2x16x2048x65 (![] : Fin 0 → Fin S2x16x2048x65.rank)
  reducesTo_S2x16x2048x65_S_d0_1_2_3 : S2x16x2048x65.ReducesTo [0, 1, 2, 3] S_
  bcast_S_S2x16x2048x64 : S_.BroadcastsInDim S2x16x2048x64 (![] : Fin 0 → Fin S2x16x2048x64.rank)
  reducesTo_S2x16x2048x64_S_d0_1_2_3 : S2x16x2048x64.ReducesTo [0, 1, 2, 3] S_
  bcast_S_S2x16x2048x1 : S_.BroadcastsInDim S2x16x2048x1 (![] : Fin 0 → Fin S2x16x2048x1.rank)
  reducesTo_S2x16x2048x1_S_d0_1_2_3 : S2x16x2048x1.ReducesTo [0, 1, 2, 3] S_

variable [Facts]

def fn_part2 {F : FTy → Type} [FloatOps F] (main_v8 : IVec S_ 1) (main_v12 : IVec S_ 1) (main_v16 : IVec S_ 1) (main_v20 : IVec S_ 1) (main_v24 : IVec S_ 1) (main_v28 : IVec S_ 1) (main_v32 : IVec S_ 1) (main_v33 : FVec F S2x16x2048x1 .f32) : IVec S_ 1 :=
  let main_cst_12 : FVec F S_ .f32 := constant S_ .f32 0x7F800000#32
  let main_v34 : FVec F S2x16x2048x1 .f32 := broadcastInDim S2x16x2048x1 ![] bcast_S_S2x16x2048x1 main_cst_12
  let main_v35 : IVec S2x16x2048x1 1 := cmpf .olt main_v33 main_v34
  let main_c_13 : IVec S_ 1 := constantI S_ 1 1#1
  let main_v36 : IVec S_ 1 := (fun x v => Host.reduce IntOp.andi x v reducesTo_S2x16x2048x1_S_d0_1_2_3 h_S_) main_v35 main_c_13
  let main_v37 : IVec S_ 1 := andi main_v8 main_v12
  let main_v38 : IVec S_ 1 := andi main_v37 main_v16
  let main_v39 : IVec S_ 1 := andi main_v38 main_v20
  let main_v40 : IVec S_ 1 := andi main_v39 main_v24
  let main_v41 : IVec S_ 1 := andi main_v40 main_v28
  let main_v42 : IVec S_ 1 := andi main_v41 main_v32
  let main_v43 : IVec S_ 1 := andi main_v42 main_v36
  main_v43

def fn_part1 {F : FTy → Type} [FloatOps F] (main_arg3 : FVec F S1x16x64 .f32) (main_v2 : FVec F S2x16x2048x65 .f32) (main_v3 : FVec F S2x16x2048x64 .f32) (main_v4 : FVec F S2x16x2048x1 .f32) (main_v8 : IVec S_ 1) (main_v12 : IVec S_ 1) (main_v16 : IVec S_ 1) (main_v17 : FVec F S1x16x64 .f32) : IVec S_ 1 :=
  let main_cst_4 : FVec F S_ .f32 := constant S_ .f32 0x7F800000#32
  let main_v18 : FVec F S1x16x64 .f32 := broadcastInDim S1x16x64 ![] bcast_S_S1x16x64 main_cst_4
  let main_v19 : IVec S1x16x64 1 := cmpf .olt main_v17 main_v18
  let main_c_5 : IVec S_ 1 := constantI S_ 1 1#1
  let main_v20 : IVec S_ 1 := (fun x v => Host.reduce IntOp.andi x v reducesTo_S1x16x64_S_d0_1_2 h_S_) main_v19 main_c_5
  let main_v21 : FVec F S1x16x64 .f32 := Host.absf main_arg3
  let main_cst_6 : FVec F S_ .f32 := constant S_ .f32 0x7F800000#32
  let main_v22 : FVec F S1x16x64 .f32 := broadcastInDim S1x16x64 ![] bcast_S_S1x16x64 main_cst_6
  let main_v23 : IVec S1x16x64 1 := cmpf .olt main_v21 main_v22
  let main_c_7 : IVec S_ 1 := constantI S_ 1 1#1
  let main_v24 : IVec S_ 1 := (fun x v => Host.reduce IntOp.andi x v reducesTo_S1x16x64_S_d0_1_2 h_S_) main_v23 main_c_7
  let main_v25 : FVec F S2x16x2048x65 .f32 := Host.absf main_v2
  let main_cst_8 : FVec F S_ .f32 := constant S_ .f32 0x7F800000#32
  let main_v26 : FVec F S2x16x2048x65 .f32 := broadcastInDim S2x16x2048x65 ![] bcast_S_S2x16x2048x65 main_cst_8
  let main_v27 : IVec S2x16x2048x65 1 := cmpf .olt main_v25 main_v26
  let main_c_9 : IVec S_ 1 := constantI S_ 1 1#1
  let main_v28 : IVec S_ 1 := (fun x v => Host.reduce IntOp.andi x v reducesTo_S2x16x2048x65_S_d0_1_2_3 h_S_) main_v27 main_c_9
  let main_v29 : FVec F S2x16x2048x64 .f32 := Host.absf main_v3
  let main_cst_10 : FVec F S_ .f32 := constant S_ .f32 0x7F800000#32
  let main_v30 : FVec F S2x16x2048x64 .f32 := broadcastInDim S2x16x2048x64 ![] bcast_S_S2x16x2048x64 main_cst_10
  let main_v31 : IVec S2x16x2048x64 1 := cmpf .olt main_v29 main_v30
  let main_c_11 : IVec S_ 1 := constantI S_ 1 1#1
  let main_v32 : IVec S_ 1 := (fun x v => Host.reduce IntOp.andi x v reducesTo_S2x16x2048x64_S_d0_1_2_3 h_S_) main_v31 main_c_11
  let main_v33 : FVec F S2x16x2048x1 .f32 := Host.absf main_v4
  fn_part2 (F := F) main_v8 main_v12 main_v16 main_v20 main_v24 main_v28 main_v32 main_v33

def fn {F : FTy → Type} [FloatOps F] (main_arg0 : FVec F S2x2048x7184 .f32) (main_arg1 : FVec F S1x16 .f32) (main_arg2 : FVec F S1x16x64 .f32) (main_arg3 : FVec F S1x16x64 .f32) (main_arg4 : FVec F S2x16x2048x128 .f32) (main_arg5 : FVec F S2x16x2048x128 .f32) (main_arg6 : FVec F S2x16x2048x128 .f32) : IVec S_ 1 :=
  let main_v0 : FVec F S2x2048x2048 .f32 := (extractStridedSlice S2x2048x2048 ![0, 0, 0] · slices_S2x2048x7184_S2x2048x2048_0_0_0) main_arg0
  let main_v1 : FVec F S2x2048x16 .f32 := (extractStridedSlice S2x2048x16 ![0, 0, 3072] · slices_S2x2048x7184_S2x2048x16_0_0_3072) main_arg0
  let main_v2 : FVec F S2x16x2048x65 .f32 := (extractStridedSlice S2x16x2048x65 ![0, 0, 0, 0] · slices_S2x16x2048x128_S2x16x2048x65_0_0_0_0) main_arg4
  let main_v3 : FVec F S2x16x2048x64 .f32 := (extractStridedSlice S2x16x2048x64 ![0, 0, 0, 0] · slices_S2x16x2048x128_S2x16x2048x64_0_0_0_0) main_arg5
  let main_v4 : FVec F S2x16x2048x1 .f32 := (extractStridedSlice S2x16x2048x1 ![0, 0, 0, 67] · slices_S2x16x2048x128_S2x16x2048x1_0_0_0_67) main_arg5
  let main_v5 : FVec F S2x2048x2048 .f32 := Host.absf main_v0
  let main_cst : FVec F S_ .f32 := constant S_ .f32 0x7F800000#32
  let main_v6 : FVec F S2x2048x2048 .f32 := broadcastInDim S2x2048x2048 ![] bcast_S_S2x2048x2048 main_cst
  let main_v7 : IVec S2x2048x2048 1 := cmpf .olt main_v5 main_v6
  let main_c : IVec S_ 1 := constantI S_ 1 1#1
  let main_v8 : IVec S_ 1 := (fun x v => Host.reduce IntOp.andi x v reducesTo_S2x2048x2048_S_d0_1_2 h_S_) main_v7 main_c
  let main_v9 : FVec F S2x2048x16 .f32 := Host.absf main_v1
  let main_cst_0 : FVec F S_ .f32 := constant S_ .f32 0x7F800000#32
  let main_v10 : FVec F S2x2048x16 .f32 := broadcastInDim S2x2048x16 ![] bcast_S_S2x2048x16 main_cst_0
  let main_v11 : IVec S2x2048x16 1 := cmpf .olt main_v9 main_v10
  let main_c_1 : IVec S_ 1 := constantI S_ 1 1#1
  let main_v12 : IVec S_ 1 := (fun x v => Host.reduce IntOp.andi x v reducesTo_S2x2048x16_S_d0_1_2 h_S_) main_v11 main_c_1
  let main_v13 : FVec F S1x16 .f32 := Host.absf main_arg1
  let main_cst_2 : FVec F S_ .f32 := constant S_ .f32 0x7F800000#32
  let main_v14 : FVec F S1x16 .f32 := broadcastInDim S1x16 ![] bcast_S_S1x16 main_cst_2
  let main_v15 : IVec S1x16 1 := cmpf .olt main_v13 main_v14
  let main_c_3 : IVec S_ 1 := constantI S_ 1 1#1
  let main_v16 : IVec S_ 1 := (fun x v => Host.reduce IntOp.andi x v reducesTo_S1x16_S_d0_1 h_S_) main_v15 main_c_3
  let main_v17 : FVec F S1x16x64 .f32 := Host.absf main_arg2
  fn_part1 (F := F) main_arg3 main_v2 main_v3 main_v4 main_v8 main_v12 main_v16 main_v17
-- ==== Pre_inproj_finite.lean ====
abbrev S2x2048x1024 : Shape := ⟨3, ![2, 2048, 1024]⟩
abbrev S1x1024 : Shape := ⟨2, ![1, 1024]⟩
abbrev S1x1024x7184 : Shape := ⟨3, ![1, 1024, 7184]⟩
abbrev S2x2048x7184 : Shape := ⟨3, ![2, 2048, 7184]⟩
abbrev S_ : Shape := ⟨0, ![]⟩

class Facts : Prop where
  bcast_S_S2x2048x1024 : S_.BroadcastsInDim S2x2048x1024 (![] : Fin 0 → Fin S2x2048x1024.rank)
  reducesTo_S2x2048x1024_S_d0_1_2 : S2x2048x1024.ReducesTo [0, 1, 2] S_
  h_S_ : 0 < S_.numel
  bcast_S_S1x1024 : S_.BroadcastsInDim S1x1024 (![] : Fin 0 → Fin S1x1024.rank)
  reducesTo_S1x1024_S_d0_1 : S1x1024.ReducesTo [0, 1] S_
  bcast_S_S1x1024x7184 : S_.BroadcastsInDim S1x1024x7184 (![] : Fin 0 → Fin S1x1024x7184.rank)
  reducesTo_S1x1024x7184_S_d0_1_2 : S1x1024x7184.ReducesTo [0, 1, 2] S_
  bcast_S_S2x2048x7184 : S_.BroadcastsInDim S2x2048x7184 (![] : Fin 0 → Fin S2x2048x7184.rank)
  reducesTo_S2x2048x7184_S_d0_1_2 : S2x2048x7184.ReducesTo [0, 1, 2] S_

variable [Facts]

def fn_part1 {F : FTy → Type} [FloatOps F] (main_arg4 : FVec F S2x2048x1024 .f32) (main_v3 : IVec S_ 1) (main_v7 : IVec S_ 1) (main_v11 : IVec S_ 1) (main_v15 : IVec S_ 1) : IVec S_ 1 :=
  let main_v16 : FVec F S2x2048x1024 .f32 := Host.absf main_arg4
  let main_cst_6 : FVec F S_ .f32 := constant S_ .f32 0x7F800000#32
  let main_v17 : FVec F S2x2048x1024 .f32 := broadcastInDim S2x2048x1024 ![] bcast_S_S2x2048x1024 main_cst_6
  let main_v18 : IVec S2x2048x1024 1 := cmpf .olt main_v16 main_v17
  let main_c_7 : IVec S_ 1 := constantI S_ 1 1#1
  let main_v19 : IVec S_ 1 := (fun x v => Host.reduce IntOp.andi x v reducesTo_S2x2048x1024_S_d0_1_2 h_S_) main_v18 main_c_7
  let main_v20 : IVec S_ 1 := andi main_v3 main_v7
  let main_v21 : IVec S_ 1 := andi main_v20 main_v11
  let main_v22 : IVec S_ 1 := andi main_v21 main_v15
  let main_v23 : IVec S_ 1 := andi main_v22 main_v19
  main_v23

def fn {F : FTy → Type} [FloatOps F] (main_arg0 : FVec F S2x2048x1024 .f32) (main_arg1 : FVec F S1x1024 .f32) (main_arg2 : FVec F S1x1024x7184 .f32) (main_arg3 : FVec F S2x2048x7184 .f32) (main_arg4 : FVec F S2x2048x1024 .f32) : IVec S_ 1 :=
  let main_v0 : FVec F S2x2048x1024 .f32 := Host.absf main_arg0
  let main_cst : FVec F S_ .f32 := constant S_ .f32 0x7F800000#32
  let main_v1 : FVec F S2x2048x1024 .f32 := broadcastInDim S2x2048x1024 ![] bcast_S_S2x2048x1024 main_cst
  let main_v2 : IVec S2x2048x1024 1 := cmpf .olt main_v0 main_v1
  let main_c : IVec S_ 1 := constantI S_ 1 1#1
  let main_v3 : IVec S_ 1 := (fun x v => Host.reduce IntOp.andi x v reducesTo_S2x2048x1024_S_d0_1_2 h_S_) main_v2 main_c
  let main_v4 : FVec F S1x1024 .f32 := Host.absf main_arg1
  let main_cst_0 : FVec F S_ .f32 := constant S_ .f32 0x7F800000#32
  let main_v5 : FVec F S1x1024 .f32 := broadcastInDim S1x1024 ![] bcast_S_S1x1024 main_cst_0
  let main_v6 : IVec S1x1024 1 := cmpf .olt main_v4 main_v5
  let main_c_1 : IVec S_ 1 := constantI S_ 1 1#1
  let main_v7 : IVec S_ 1 := (fun x v => Host.reduce IntOp.andi x v reducesTo_S1x1024_S_d0_1 h_S_) main_v6 main_c_1
  let main_v8 : FVec F S1x1024x7184 .f32 := Host.absf main_arg2
  let main_cst_2 : FVec F S_ .f32 := constant S_ .f32 0x7F800000#32
  let main_v9 : FVec F S1x1024x7184 .f32 := broadcastInDim S1x1024x7184 ![] bcast_S_S1x1024x7184 main_cst_2
  let main_v10 : IVec S1x1024x7184 1 := cmpf .olt main_v8 main_v9
  let main_c_3 : IVec S_ 1 := constantI S_ 1 1#1
  let main_v11 : IVec S_ 1 := (fun x v => Host.reduce IntOp.andi x v reducesTo_S1x1024x7184_S_d0_1_2 h_S_) main_v10 main_c_3
  let main_v12 : FVec F S2x2048x7184 .f32 := Host.absf main_arg3
  let main_cst_4 : FVec F S_ .f32 := constant S_ .f32 0x7F800000#32
  let main_v13 : FVec F S2x2048x7184 .f32 := broadcastInDim S2x2048x7184 ![] bcast_S_S2x2048x7184 main_cst_4
  let main_v14 : IVec S2x2048x7184 1 := cmpf .olt main_v12 main_v13
  let main_c_5 : IVec S_ 1 := constantI S_ 1 1#1
  let main_v15 : IVec S_ 1 := (fun x v => Host.reduce IntOp.andi x v reducesTo_S2x2048x7184_S_d0_1_2 h_S_) main_v14 main_c_5
  fn_part1 (F := F) main_arg4 main_v3 main_v7 main_v11 main_v15
-- ==== Kernel.lean ====
abbrev S2x2048x7184 : Shape := ⟨3, ![2, 2048, 7184]⟩
abbrev S2x2048x1024 : Shape := ⟨3, ![2, 2048, 1024]⟩
abbrev S1x1024 : Shape := ⟨2, ![1, 1024]⟩
abbrev S2x2048x2048 : Shape := ⟨3, ![2, 2048, 2048]⟩
abbrev S1024 : Shape := ⟨1, ![1024]⟩
abbrev S1x1x1024 : Shape := ⟨3, ![1, 1, 1024]⟩
abbrev S4096x1024 : Shape := ⟨2, ![4096, 1024]⟩
abbrev S4096x2048 : Shape := ⟨2, ![4096, 2048]⟩
abbrev S2x2048x3072 : Shape := ⟨3, ![2, 2048, 3072]⟩
abbrev S2x2048x4096 : Shape := ⟨3, ![2, 2048, 4096]⟩
abbrev S2x2048x7168 : Shape := ⟨3, ![2, 2048, 7168]⟩
abbrev S4096x7168 : Shape := ⟨2, ![4096, 7168]⟩
abbrev S24x1024 : Shape := ⟨2, ![24, 1024]⟩
abbrev S256x1024 : Shape := ⟨2, ![256, 1024]⟩
abbrev S256 : Shape := ⟨1, ![256]⟩
abbrev S256x1 : Shape := ⟨2, ![256, 1]⟩

abbrev nBuf : Space → Nat
  | .hbm => 19
  | .vmem => 13
  | .smem => 0
  | _ => 0

abbrev bufTy : (tb : Table) → Fin (tcTables nBuf tb) → BufTy
  | .hbm, ⟨0, _⟩ => ⟨S2x2048x7184, .f32⟩
  | .hbm, ⟨1, _⟩ => ⟨S2x2048x1024, .f32⟩
  | .hbm, ⟨2, _⟩ => ⟨S1x1024, .f32⟩
  | .hbm, ⟨3, _⟩ => ⟨S1x1024, .f32⟩
  | .hbm, ⟨4, _⟩ => ⟨S1x1024, .f32⟩
  | .hbm, ⟨5, _⟩ => ⟨S2x2048x2048, .f32⟩
  | .hbm, ⟨6, _⟩ => ⟨S1024, .f32⟩
  | .hbm, ⟨7, _⟩ => ⟨S1x1x1024, .f32⟩
  | .hbm, ⟨8, _⟩ => ⟨S2x2048x1024, .f32⟩
  | .hbm, ⟨9, _⟩ => ⟨S2x2048x1024, .f32⟩
  | .hbm, ⟨10, _⟩ => ⟨S4096x1024, .f32⟩
  | .hbm, ⟨11, _⟩ => ⟨S4096x2048, .f32⟩
  | .hbm, ⟨12, _⟩ => ⟨S2x2048x3072, .f32⟩
  | .hbm, ⟨13, _⟩ => ⟨S2x2048x4096, .f32⟩
  | .hbm, ⟨14, _⟩ => ⟨S2x2048x7168, .f32⟩
  | .hbm, ⟨15, _⟩ => ⟨S4096x7168, .f32⟩
  | .hbm, ⟨16, _⟩ => ⟨S4096x1024, .bf16⟩
  | .hbm, ⟨17, _⟩ => ⟨S4096x1024, .f32⟩
  | .hbm, ⟨18, _⟩ => ⟨S24x1024, .f32⟩
  | .local _ .vmem, ⟨0, _⟩ => ⟨S256x1024, .f32⟩
  | .local _ .vmem, ⟨1, _⟩ => ⟨S256x1024, .f32⟩
  | .local _ .vmem, ⟨2, _⟩ => ⟨S256x1024, .f32⟩
  | .local _ .vmem, ⟨3, _⟩ => ⟨S256x1024, .f32⟩
  | .local _ .vmem, ⟨4, _⟩ => ⟨S256x1024, .f32⟩
  | .local _ .vmem, ⟨5, _⟩ => ⟨S256x1024, .f32⟩
  | .local _ .vmem, ⟨6, _⟩ => ⟨S1x1024, .f32⟩
  | .local _ .vmem, ⟨7, _⟩ => ⟨S1x1024, .f32⟩
  | .local _ .vmem, ⟨8, _⟩ => ⟨S256x1024, .bf16⟩
  | .local _ .vmem, ⟨9, _⟩ => ⟨S256x1024, .bf16⟩
  | .local _ .vmem, ⟨10, _⟩ => ⟨S256x1024, .f32⟩
  | .local _ .vmem, ⟨11, _⟩ => ⟨S256x1024, .f32⟩
  | .local _ .vmem, ⟨12, _⟩ => ⟨S24x1024, .f32⟩
  | _, _ => ⟨S2x2048x7184, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10_0 : Ref sig .tc := ⟨.hbm, 16, rfl⟩
abbrev main_v10_1 : Ref sig .tc := ⟨.hbm, 17, rfl⟩
abbrev main_v10_2 : Ref sig .tc := ⟨.hbm, 18, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg7_0 : Ref sig .tc := ⟨.vmem, 12, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem5_1 : DmaSem sig := 9
abbrev cc0_sem6_0 : DmaSem sig := 10
abbrev cc0_sem6_1 : DmaSem sig := 11
abbrev cc0_sem7_0 : DmaSem sig := 12

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c1_i32 : BitVec 32 := 1#32
  let c0_i32 : BitVec 32 := 0#32
  ![arg0.toNat, c1_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c6_i32 : BitVec 32 := 6#32
  let c0_i32 : BitVec 32 := 0#32
  ![arg0.toNat, c6_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S256x1024 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S256x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 1 → Memref sig .tc .vmem S24x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]
-- ==== ReferenceIdeal.lean ====
abbrev S2x2048x7184 : Shape := ⟨3, ![2, 2048, 7184]⟩
abbrev S2x2048x1024 : Shape := ⟨3, ![2, 2048, 1024]⟩
abbrev S1x1024 : Shape := ⟨2, ![1, 1024]⟩
abbrev S2x2048x2048 : Shape := ⟨3, ![2, 2048, 2048]⟩
abbrev S1024 : Shape := ⟨1, ![1024]⟩
abbrev S1x1x1024 : Shape := ⟨3, ![1, 1, 1024]⟩
abbrev S_ : Shape := ⟨0, ![]⟩
abbrev S2x2048 : Shape := ⟨2, ![2, 2048]⟩
abbrev S2x2048x1 : Shape := ⟨3, ![2, 2048, 1]⟩
abbrev S8x1024 : Shape := ⟨2, ![8, 1024]⟩
abbrev S4096x1024 : Shape := ⟨2, ![4096, 1024]⟩
abbrev S24x1024 : Shape := ⟨2, ![24, 1024]⟩

abbrev nBuf : Space → Nat
  | .hbm => 152
  | .vmem => 0
  | .smem => 0
  | _ => 0

abbrev hbmTy0_0 (i : Nat) : BufTy := match i % 128 with
  | 0 => ⟨S2x2048x7184, .f32⟩
  | 1 => ⟨S2x2048x1024, .f32⟩
  | 2 => ⟨S1x1024, .f32⟩
  | 3 => ⟨S1x1024, .f32⟩
  | 4 => ⟨S1x1024, .f32⟩
  | 5 => ⟨S2x2048x2048, .f32⟩
  | 6 => ⟨S2x2048x1024, .f32⟩
  | 7 => ⟨S1024, .f32⟩
  | 8 => ⟨S1x1x1024, .f32⟩
  | 9 => ⟨S2x2048x1024, .f32⟩
  | 10 => ⟨S2x2048x1024, .f32⟩
  | 11 => ⟨S1024, .f32⟩
  | 12 => ⟨S1024, .f32⟩
  | 13 => ⟨S_, .f32⟩
  | 14 => ⟨S2x2048, .f32⟩
  | 15 => ⟨S2x2048x1, .f32⟩
  | 16 => ⟨S_, .f32⟩
  | 17 => ⟨S2x2048x1, .f32⟩
  | 18 => ⟨S2x2048x1, .f32⟩
  | 19 => ⟨S2x2048x1024, .f32⟩
  | 20 => ⟨S2x2048x1024, .f32⟩
  | 21 => ⟨S2x2048x1024, .f32⟩
  | 22 => ⟨S_, .f32⟩
  | 23 => ⟨S2x2048x1024, .f32⟩
  | 24 => ⟨S2x2048x1024, .f32⟩
  | 25 => ⟨S_, .f32⟩
  | 26 => ⟨S2x2048, .f32⟩
  | 27 => ⟨S2x2048x1, .f32⟩
  | 28 => ⟨S_, .f32⟩
  | 29 => ⟨S2x2048x1, .f32⟩
  | 30 => ⟨S2x2048x1, .f32⟩
  | 31 => ⟨S2x2048x1024, .f32⟩
  | 32 => ⟨S2x2048x1024, .f32⟩
  | 33 => ⟨S_, .f32⟩
  | 34 => ⟨S2x2048x1, .f32⟩
  | 35 => ⟨S2x2048x1, .f32⟩
  | 36 => ⟨S2x2048x1, .f32⟩
  | 37 => ⟨S2x2048x1, .f32⟩
  | 38 => ⟨S_, .f32⟩
  | 39 => ⟨S2x2048x1, .f32⟩
  | 40 => ⟨S2x2048x1, .f32⟩
  | 41 => ⟨S2x2048x1024, .f32⟩
  | 42 => ⟨S2x2048x1024, .f32⟩
  | 43 => ⟨S1x1x1024, .f32⟩
  | 44 => ⟨S2x2048x1024, .f32⟩
  | 45 => ⟨S2x2048x1024, .f32⟩
  | 46 => ⟨S1x1x1024, .f32⟩
  | 47 => ⟨S2x2048x1024, .f32⟩
  | 48 => ⟨S2x2048x1024, .f32⟩
  | 49 => ⟨S2x2048x1024, .f32⟩
  | 50 => ⟨S2x2048x1024, .f32⟩
  | 51 => ⟨S_, .f32⟩
  | 52 => ⟨S2x2048x1024, .f32⟩
  | 53 => ⟨S2x2048x1024, .f32⟩
  | 54 => ⟨S_, .f32⟩
  | 55 => ⟨S2x2048x1024, .f32⟩
  | 56 => ⟨S2x2048x1024, .f32⟩
  | 57 => ⟨S_, .f32⟩
  | 58 => ⟨S2x2048x1024, .f32⟩
  | 59 => ⟨S2x2048x1024, .f32⟩
  | 60 => ⟨S2x2048x1024, .f32⟩
  | 61 => ⟨S2x2048x1024, .f32⟩
  | 62 => ⟨S2x2048x1024, .f32⟩
  | 63 => ⟨S2x2048x1024, .f32⟩
  | 64 => ⟨S_, .f32⟩
  | 65 => ⟨S2x2048x1024, .f32⟩
  | 66 => ⟨S2x2048x1024, .f32⟩
  | 67 => ⟨S_, .f32⟩
  | 68 => ⟨S2x2048x1024, .f32⟩
  | 69 => ⟨S2x2048x1024, .f32⟩
  | 70 => ⟨S_, .f32⟩
  | 71 => ⟨S2x2048x1024, .f32⟩
  | 72 => ⟨S2x2048x1024, .f32⟩
  | 73 => ⟨S2x2048x1024, .f32⟩
  | 74 => ⟨S2x2048x1024, .f32⟩
  | 75 => ⟨S2x2048x1024, .f32⟩
  | 76 => ⟨S2x2048x1024, .f32⟩
  | 77 => ⟨S2x2048x1024, .f32⟩
  | 78 => ⟨S2x2048x1024, .f32⟩
  | 79 => ⟨S2x2048x1024, .f32⟩
  | 80 => ⟨S2x2048x1024, .f32⟩
  | 81 => ⟨S2x2048x1024, .f32⟩
  | 82 => ⟨S2x2048x1024, .f32⟩
  | 83 => ⟨S2x2048x1024, .f32⟩
  | 84 => ⟨S2x2048x1024, .f32⟩
  | 85 => ⟨S2x2048x1024, .f32⟩
  | 86 => ⟨S2x2048x1024, .f32⟩
  | 87 => ⟨S_, .f32⟩
  | 88 => ⟨S1024, .f32⟩
  | 89 => ⟨S1x1x1024, .f32⟩
  | 90 => ⟨S_, .f32⟩
  | 91 => ⟨S1024, .f32⟩
  | 92 => ⟨S2x2048x1024, .f32⟩
  | 93 => ⟨S_, .f32⟩
  | 94 => ⟨S1024, .f32⟩
  | 95 => ⟨S1x1x1024, .f32⟩
  | 96 => ⟨S2x2048x1024, .f32⟩
  | 97 => ⟨S2x2048x1024, .f32⟩
  | 98 => ⟨S_, .f32⟩
  | 99 => ⟨S1024, .f32⟩
  | 100 => ⟨S2x2048x1024, .f32⟩
  | 101 => ⟨S_, .f32⟩
  | 102 => ⟨S2x2048, .f32⟩
  | 103 => ⟨S2x2048x1, .f32⟩
  | 104 => ⟨S2x2048x1024, .f32⟩
  | 105 => ⟨S2x2048x1024, .f32⟩
  | 106 => ⟨S2x2048x1, .f32⟩
  | 107 => ⟨S2x2048x1024, .f32⟩
  | 108 => ⟨S_, .f32⟩
  | 109 => ⟨S2x2048, .f32⟩
  | 110 => ⟨S2x2048x1, .f32⟩
  | 111 => ⟨S_, .f32⟩
  | 112 => ⟨S2x2048x1, .f32⟩
  | 113 => ⟨S2x2048x1, .f32⟩
  | 114 => ⟨S_, .f32⟩
  | 115 => ⟨S2x2048, .f32⟩
  | 116 => ⟨S2x2048x1024, .f32⟩
  | 117 => ⟨S2x2048x1024, .f32⟩
  | 118 => ⟨S2x2048x1024, .f32⟩
  | 119 => ⟨S_, .f32⟩
  | 120 => ⟨S2x2048, .f32⟩
  | 121 => ⟨S2x2048x1, .f32⟩
  | 122 => ⟨S2x2048x1024, .f32⟩
  | 123 => ⟨S2x2048x1, .f32⟩
  | 124 => ⟨S_, .f32⟩
  | 125 => ⟨S2x2048x1, .f32⟩
  | 126 => ⟨S2x2048x1, .f32⟩
  | 127 => ⟨S_, .f32⟩
  | _ => ⟨S2x2048x7184, .f32⟩

abbrev hbmTy0_1 (i : Nat) : BufTy := match i % 128 with
  | 0 => ⟨S2x2048, .f32⟩
  | 1 => ⟨S2x2048x1024, .f32⟩
  | 2 => ⟨S2x2048x1024, .f32⟩
  | 3 => ⟨S1x1024, .f32⟩
  | 4 => ⟨S1x1024, .f32⟩
  | 5 => ⟨S_, .f32⟩
  | 6 => ⟨S1024, .f32⟩
  | 7 => ⟨S1x1x1024, .f32⟩
  | 8 => ⟨S_, .f32⟩
  | 9 => ⟨S1024, .f32⟩
  | 10 => ⟨S1x1024, .f32⟩
  | 11 => ⟨S_, .i32⟩
  | 12 => ⟨S_, .f32⟩
  | 13 => ⟨S8x1024, .f32⟩
  | 14 => ⟨S_, .i32⟩
  | 15 => ⟨S_, .f32⟩
  | 16 => ⟨S8x1024, .f32⟩
  | 17 => ⟨S_, .i32⟩
  | 18 => ⟨S_, .f32⟩
  | 19 => ⟨S8x1024, .f32⟩
  | 20 => ⟨S4096x1024, .f32⟩
  | 21 => ⟨S4096x1024, .bf16⟩
  | 22 => ⟨S4096x1024, .f32⟩
  | 23 => ⟨S24x1024, .f32⟩
  | _ => ⟨S2x2048x7184, .f32⟩

abbrev hbmTy (i : Nat) : BufTy := match i / 128 with
  | 0 => hbmTy0_0 i
  | 1 => hbmTy0_1 i
  | _ => ⟨S2x2048x7184, .f32⟩

abbrev bufTy : (tb : Table) → Fin (tcTables nBuf tb) → BufTy
  | .hbm, ⟨i, _⟩ => hbmTy i
  | _, _ => ⟨S2x2048x7184, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_cst : Ref sig .tc := ⟨.hbm, 13, rfl⟩
abbrev main_v7 : Ref sig .tc := ⟨.hbm, 14, rfl⟩
abbrev main_v8 : Ref sig .tc := ⟨.hbm, 15, rfl⟩
abbrev main_cst_0 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_cst_1 : Ref sig .tc := ⟨.hbm, 22, rfl⟩
abbrev main_v14 : Ref sig .tc := ⟨.hbm, 23, rfl⟩
abbrev main_v15 : Ref sig .tc := ⟨.hbm, 24, rfl⟩
abbrev main_cst_2 : Ref sig .tc := ⟨.hbm, 25, rfl⟩
abbrev main_v16 : Ref sig .tc := ⟨.hbm, 26, rfl⟩
abbrev main_v17 : Ref sig .tc := ⟨.hbm, 27, rfl⟩
abbrev main_cst_3 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_cst_4 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_cst_5 : Ref sig .tc := ⟨.hbm, 38, rfl⟩
abbrev main_v26 : Ref sig .tc := ⟨.hbm, 39, rfl⟩
abbrev main_v27 : Ref sig .tc := ⟨.hbm, 40, rfl⟩
abbrev main_v28 : Ref sig .tc := ⟨.hbm, 41, rfl⟩
abbrev main_v29 : Ref sig .tc := ⟨.hbm, 42, rfl⟩
abbrev main_v30 : Ref sig .tc := ⟨.hbm, 43, rfl⟩
abbrev main_v31 : Ref sig .tc := ⟨.hbm, 44, rfl⟩
abbrev main_v32 : Ref sig .tc := ⟨.hbm, 45, rfl⟩
abbrev main_v33 : Ref sig .tc := ⟨.hbm, 46, rfl⟩
abbrev main_v34 : Ref sig .tc := ⟨.hbm, 47, rfl⟩
abbrev main_v35 : Ref sig .tc := ⟨.hbm, 48, rfl⟩
abbrev main_call0_v0 : Ref sig .tc := ⟨.hbm, 49, rfl⟩
abbrev main_call0_v1 : Ref sig .tc := ⟨.hbm, 50, rfl⟩
abbrev main_call0_cst : Ref sig .tc := ⟨.hbm, 51, rfl⟩
abbrev main_call0_v2 : Ref sig .tc := ⟨.hbm, 52, rfl⟩
abbrev main_call0_v3 : Ref sig .tc := ⟨.hbm, 53, rfl⟩
abbrev main_call0_cst_0 : Ref sig .tc := ⟨.hbm, 54, rfl⟩
abbrev main_call0_v4 : Ref sig .tc := ⟨.hbm, 55, rfl⟩
abbrev main_v36_2 : Ref sig .tc := ⟨.hbm, 56, rfl⟩
abbrev main_call0_cst_1 : Ref sig .tc := ⟨.hbm, 57, rfl⟩
abbrev main_call0_v6 : Ref sig .tc := ⟨.hbm, 58, rfl⟩
abbrev main_call0_v7 : Ref sig .tc := ⟨.hbm, 59, rfl⟩
abbrev main_v36_1 : Ref sig .tc := ⟨.hbm, 60, rfl⟩
abbrev main_v36_0 : Ref sig .tc := ⟨.hbm, 61, rfl⟩
abbrev main_call1_v0 : Ref sig .tc := ⟨.hbm, 62, rfl⟩
abbrev main_call1_v1 : Ref sig .tc := ⟨.hbm, 63, rfl⟩
abbrev main_call1_cst : Ref sig .tc := ⟨.hbm, 64, rfl⟩
abbrev main_call1_v2 : Ref sig .tc := ⟨.hbm, 65, rfl⟩
abbrev main_call1_v3 : Ref sig .tc := ⟨.hbm, 66, rfl⟩
abbrev main_call1_cst_0 : Ref sig .tc := ⟨.hbm, 67, rfl⟩
abbrev main_call1_v4 : Ref sig .tc := ⟨.hbm, 68, rfl⟩
abbrev main_v37_2 : Ref sig .tc := ⟨.hbm, 69, rfl⟩
abbrev main_call1_cst_1 : Ref sig .tc := ⟨.hbm, 70, rfl⟩
abbrev main_call1_v6 : Ref sig .tc := ⟨.hbm, 71, rfl⟩
abbrev main_call1_v7 : Ref sig .tc := ⟨.hbm, 72, rfl⟩
abbrev main_v37_1 : Ref sig .tc := ⟨.hbm, 73, rfl⟩
abbrev main_v37_0 : Ref sig .tc := ⟨.hbm, 74, rfl⟩
abbrev main_v38 : Ref sig .tc := ⟨.hbm, 75, rfl⟩
abbrev main_v39 : Ref sig .tc := ⟨.hbm, 76, rfl⟩
abbrev main_v40 : Ref sig .tc := ⟨.hbm, 77, rfl⟩
abbrev main_v41 : Ref sig .tc := ⟨.hbm, 78, rfl⟩
abbrev main_call2_v0 : Ref sig .tc := ⟨.hbm, 79, rfl⟩
abbrev main_call2_v1 : Ref sig .tc := ⟨.hbm, 80, rfl⟩
abbrev main_call2_v2 : Ref sig .tc := ⟨.hbm, 81, rfl⟩
abbrev main_v42 : Ref sig .tc := ⟨.hbm, 82, rfl⟩
abbrev main_call3_v0 : Ref sig .tc := ⟨.hbm, 83, rfl⟩
abbrev main_call3_v1 : Ref sig .tc := ⟨.hbm, 84, rfl⟩
abbrev main_call3_v2 : Ref sig .tc := ⟨.hbm, 85, rfl⟩
abbrev main_v43 : Ref sig .tc := ⟨.hbm, 86, rfl⟩
abbrev main_cst_6 : Ref sig .tc := ⟨.hbm, 87, rfl⟩
abbrev main_v44 : Ref sig .tc := ⟨.hbm, 88, rfl⟩
abbrev main_v45 : Ref sig .tc := ⟨.hbm, 89, rfl⟩
abbrev main_cst_7 : Ref sig .tc := ⟨.hbm, 90, rfl⟩
abbrev main_v46 : Ref sig .tc := ⟨.hbm, 91, rfl⟩
abbrev main_v47 : Ref sig .tc := ⟨.hbm, 92, rfl⟩
abbrev main_cst_8 : Ref sig .tc := ⟨.hbm, 93, rfl⟩
abbrev main_v48 : Ref sig .tc := ⟨.hbm, 94, rfl⟩
abbrev main_v49 : Ref sig .tc := ⟨.hbm, 95, rfl⟩
abbrev main_v50 : Ref sig .tc := ⟨.hbm, 96, rfl⟩
abbrev main_v51 : Ref sig .tc := ⟨.hbm, 97, rfl⟩
abbrev main_cst_9 : Ref sig .tc := ⟨.hbm, 98, rfl⟩
abbrev main_v52 : Ref sig .tc := ⟨.hbm, 99, rfl⟩
abbrev main_v53 : Ref sig .tc := ⟨.hbm, 100, rfl⟩
abbrev main_cst_10 : Ref sig .tc := ⟨.hbm, 101, rfl⟩
abbrev main_v54 : Ref sig .tc := ⟨.hbm, 102, rfl⟩
abbrev main_v55 : Ref sig .tc := ⟨.hbm, 103, rfl⟩
abbrev main_v56 : Ref sig .tc := ⟨.hbm, 104, rfl⟩
abbrev main_v57 : Ref sig .tc := ⟨.hbm, 105, rfl⟩
abbrev main_v58 : Ref sig .tc := ⟨.hbm, 106, rfl⟩
abbrev main_v59 : Ref sig .tc := ⟨.hbm, 107, rfl⟩
abbrev main_cst_11 : Ref sig .tc := ⟨.hbm, 108, rfl⟩
abbrev main_v60 : Ref sig .tc := ⟨.hbm, 109, rfl⟩
abbrev main_v61 : Ref sig .tc := ⟨.hbm, 110, rfl⟩
abbrev main_cst_12 : Ref sig .tc := ⟨.hbm, 111, rfl⟩
abbrev main_v62 : Ref sig .tc := ⟨.hbm, 112, rfl⟩
abbrev main_v63 : Ref sig .tc := ⟨.hbm, 113, rfl⟩
abbrev main_cst_13 : Ref sig .tc := ⟨.hbm, 114, rfl⟩
abbrev main_v64 : Ref sig .tc := ⟨.hbm, 115, rfl⟩
abbrev main_v65 : Ref sig .tc := ⟨.hbm, 116, rfl⟩
abbrev main_v66 : Ref sig .tc := ⟨.hbm, 117, rfl⟩
abbrev main_v67 : Ref sig .tc := ⟨.hbm, 118, rfl⟩
abbrev main_cst_14 : Ref sig .tc := ⟨.hbm, 119, rfl⟩
abbrev main_v68 : Ref sig .tc := ⟨.hbm, 120, rfl⟩
abbrev main_v69 : Ref sig .tc := ⟨.hbm, 121, rfl⟩
abbrev main_v70 : Ref sig .tc := ⟨.hbm, 122, rfl⟩
abbrev main_v71 : Ref sig .tc := ⟨.hbm, 123, rfl⟩
abbrev main_cst_15 : Ref sig .tc := ⟨.hbm, 124, rfl⟩
abbrev main_v72 : Ref sig .tc := ⟨.hbm, 125, rfl⟩
abbrev main_v73 : Ref sig .tc := ⟨.hbm, 126, rfl⟩
abbrev main_cst_16 : Ref sig .tc := ⟨.hbm, 127, rfl⟩
abbrev main_v74 : Ref sig .tc := ⟨.hbm, 128, rfl⟩
abbrev main_v75 : Ref sig .tc := ⟨.hbm, 129, rfl⟩
abbrev main_v76 : Ref sig .tc := ⟨.hbm, 130, rfl⟩
abbrev main_v77 : Ref sig .tc := ⟨.hbm, 131, rfl⟩
abbrev main_v78 : Ref sig .tc := ⟨.hbm, 132, rfl⟩
abbrev main_cst_17 : Ref sig .tc := ⟨.hbm, 133, rfl⟩
abbrev main_v79 : Ref sig .tc := ⟨.hbm, 134, rfl⟩
abbrev main_v80 : Ref sig .tc := ⟨.hbm, 135, rfl⟩
abbrev main_cst_18 : Ref sig .tc := ⟨.hbm, 136, rfl⟩
abbrev main_v81 : Ref sig .tc := ⟨.hbm, 137, rfl⟩
abbrev main_v82 : Ref sig .tc := ⟨.hbm, 138, rfl⟩
abbrev main_c : Ref sig .tc := ⟨.hbm, 139, rfl⟩
abbrev main_call4_v0 : Ref sig .tc := ⟨.hbm, 140, rfl⟩
abbrev main_v83 : Ref sig .tc := ⟨.hbm, 141, rfl⟩
abbrev main_c_19 : Ref sig .tc := ⟨.hbm, 142, rfl⟩
abbrev main_call5_v0 : Ref sig .tc := ⟨.hbm, 143, rfl⟩
abbrev main_v84 : Ref sig .tc := ⟨.hbm, 144, rfl⟩
abbrev main_c_20 : Ref sig .tc := ⟨.hbm, 145, rfl⟩
abbrev main_call6_v0 : Ref sig .tc := ⟨.hbm, 146, rfl⟩
abbrev main_v85 : Ref sig .tc := ⟨.hbm, 147, rfl⟩
abbrev main_v86 : Ref sig .tc := ⟨.hbm, 148, rfl⟩
abbrev main_v87 : Ref sig .tc := ⟨.hbm, 149, rfl⟩
abbrev main_v88 : Ref sig .tc := ⟨.hbm, 150, rfl⟩
abbrev main_v89 : Ref sig .tc := ⟨.hbm, 151, rfl⟩

abbrev nD : Nat := 1
abbrev τ : Topo := Topo.v7x

variable {F : FTy → Type} [FloatOps F]
-- ==== Kernel2.lean ====
abbrev S2x2048x16x64 : Shape := ⟨4, ![2, 2048, 16, 64]⟩
abbrev S2x2048x16 : Shape := ⟨3, ![2, 2048, 16]⟩
abbrev S2x16x2048x2048 : Shape := ⟨4, ![2, 16, 2048, 2048]⟩
abbrev S2x16x2048 : Shape := ⟨3, ![2, 16, 2048]⟩
abbrev S2x16x2048x1 : Shape := ⟨4, ![2, 16, 2048, 1]⟩
abbrev S2x16x1x2048 : Shape := ⟨4, ![2, 16, 1, 2048]⟩
abbrev S2048 : Shape := ⟨1, ![2048]⟩
abbrev S2048x1 : Shape := ⟨2, ![2048, 1]⟩
abbrev S1x2048 : Shape := ⟨2, ![1, 2048]⟩
abbrev S2048x2048 : Shape := ⟨2, ![2048, 2048]⟩
abbrev S_ : Shape := ⟨0, ![]⟩
abbrev S2x16x64x2048 : Shape := ⟨4, ![2, 16, 64, 2048]⟩
abbrev S2x2048x16x3 : Shape := ⟨4, ![2, 2048, 16, 3]⟩
abbrev S2x2048x16x1 : Shape := ⟨4, ![2, 2048, 16, 1]⟩
abbrev S2x2048x16x55 : Shape := ⟨4, ![2, 2048, 16, 55]⟩
abbrev S2x2048x16x128 : Shape := ⟨4, ![2, 2048, 16, 128]⟩
abbrev S2x16x2048x128 : Shape := ⟨4, ![2, 16, 2048, 128]⟩
abbrev S2x2048x16x61 : Shape := ⟨4, ![2, 2048, 16, 61]⟩
abbrev S1x4x2048x128 : Shape := ⟨4, ![1, 4, 2048, 128]⟩
abbrev S1x1x2048x128 : Shape := ⟨4, ![1, 1, 2048, 128]⟩
abbrev S2048x128 : Shape := ⟨2, ![2048, 128]⟩
abbrev S512x128 : Shape := ⟨2, ![512, 128]⟩
abbrev S1x1x512x128 : Shape := ⟨4, ![1, 1, 512, 128]⟩
abbrev S512x512 : Shape := ⟨2, ![512, 512]⟩
abbrev S1536x128 : Shape := ⟨2, ![1536, 128]⟩
abbrev S1024x128 : Shape := ⟨2, ![1024, 128]⟩
abbrev S1024x512 : Shape := ⟨2, ![1024, 512]⟩
abbrev S1536x512 : Shape := ⟨2, ![1536, 512]⟩
abbrev S2048x512 : Shape := ⟨2, ![2048, 512]⟩

abbrev nBuf : Space → Nat
  | .hbm => 122
  | .vmem => 14
  | .smem => 0
  | _ => 0

abbrev bufTy : (tb : Table) → Fin (tcTables nBuf tb) → BufTy
  | .hbm, ⟨0, _⟩ => ⟨S2x2048x16x64, .f32⟩
  | .hbm, ⟨1, _⟩ => ⟨S2x2048x16x64, .f32⟩
  | .hbm, ⟨2, _⟩ => ⟨S2x2048x16x64, .f32⟩
  | .hbm, ⟨3, _⟩ => ⟨S2x2048x16, .f32⟩
  | .hbm, ⟨4, _⟩ => ⟨S2x2048x16x64, .f32⟩
  | .hbm, ⟨5, _⟩ => ⟨S2x16x2048x2048, .f32⟩
  | .hbm, ⟨6, _⟩ => ⟨S2x16x2048, .f32⟩
  | .hbm, ⟨7, _⟩ => ⟨S2x16x2048x1, .f32⟩
  | .hbm, ⟨8, _⟩ => ⟨S2x16x2048, .f32⟩
  | .hbm, ⟨9, _⟩ => ⟨S2x16x1x2048, .f32⟩
  | .hbm, ⟨10, _⟩ => ⟨S2x16x2048x2048, .f32⟩
  | .hbm, ⟨11, _⟩ => ⟨S2x16x2048x2048, .f32⟩
  | .hbm, ⟨12, _⟩ => ⟨S2x16x2048x2048, .f32⟩
  | .hbm, ⟨13, _⟩ => ⟨S2048, .i32⟩
  | .hbm, ⟨14, _⟩ => ⟨S2048x1, .i32⟩
  | .hbm, ⟨15, _⟩ => ⟨S2048, .i32⟩
  | .hbm, ⟨16, _⟩ => ⟨S1x2048, .i32⟩
  | .hbm, ⟨17, _⟩ => ⟨S2048x2048, .i32⟩
  | .hbm, ⟨18, _⟩ => ⟨S2048x2048, .i32⟩
  | .hbm, ⟨19, _⟩ => ⟨S2048x2048, .i1⟩
  | .hbm, ⟨20, _⟩ => ⟨S2x16x2048x2048, .f32⟩
  | .hbm, ⟨21, _⟩ => ⟨S_, .f32⟩
  | .hbm, ⟨22, _⟩ => ⟨S_, .f32⟩
  | .hbm, ⟨23, _⟩ => ⟨S2x16x2048x2048, .i1⟩
  | .hbm, ⟨24, _⟩ => ⟨S2x16x2048x2048, .f32⟩
  | .hbm, ⟨25, _⟩ => ⟨S2x16x2048x2048, .f32⟩
  | .hbm, ⟨26, _⟩ => ⟨S_, .f32⟩
  | .hbm, ⟨27, _⟩ => ⟨S2x16x2048, .f32⟩
  | .hbm, ⟨28, _⟩ => ⟨S2x16x2048x1, .f32⟩
  | .hbm, ⟨29, _⟩ => ⟨S2x16x2048x2048, .f32⟩
  | .hbm, ⟨30, _⟩ => ⟨S2x16x2048x2048, .f32⟩
  | .hbm, ⟨31, _⟩ => ⟨S2x16x2048x2048, .f32⟩
  | .hbm, ⟨32, _⟩ => ⟨S_, .f32⟩
  | .hbm, ⟨33, _⟩ => ⟨S2x16x2048, .f32⟩
  | .hbm, ⟨34, _⟩ => ⟨S2x16x2048x1, .f32⟩
  | .hbm, ⟨35, _⟩ => ⟨S2x16x2048x2048, .f32⟩
  | .hbm, ⟨36, _⟩ => ⟨S2x16x2048x2048, .f32⟩
  | .hbm, ⟨37, _⟩ => ⟨S2x16x64x2048, .f32⟩
  | .hbm, ⟨38, _⟩ => ⟨S2x2048x16x64, .f32⟩
  | .hbm, ⟨39, _⟩ => ⟨S2x16x2048x1, .f32⟩
  | .hbm, ⟨40, _⟩ => ⟨S2x16x2048x1, .f32⟩
  | .hbm, ⟨41, _⟩ => ⟨S2x16x2048, .f32⟩
  | .hbm, ⟨42, _⟩ => ⟨S2x2048x16, .f32⟩
  | .hbm, ⟨43, _⟩ => ⟨S_, .f32⟩
  | .hbm, ⟨44, _⟩ => ⟨S2x2048x16x3, .f32⟩
  | .hbm, ⟨45, _⟩ => ⟨S2x2048x16x1, .f32⟩
  | .hbm, ⟨46, _⟩ => ⟨S2x2048x16x1, .bf16⟩
  | .hbm, ⟨47, _⟩ => ⟨S2x2048x16x1, .f32⟩
  | .hbm, ⟨48, _⟩ => ⟨S2x2048x16x1, .f32⟩
  | .hbm, ⟨49, _⟩ => ⟨S2x2048x16x1, .bf16⟩
  | .hbm, ⟨50, _⟩ => ⟨S2x2048x16x1, .f32⟩
  | .hbm, ⟨51, _⟩ => ⟨S2x2048x16x1, .f32⟩
  | .hbm, ⟨52, _⟩ => ⟨S2x2048x16x1, .bf16⟩
  | .hbm, ⟨53, _⟩ => ⟨S2x2048x16x1, .f32⟩
  | .hbm, ⟨54, _⟩ => ⟨S2x2048x16x1, .f32⟩
  | .hbm, ⟨55, _⟩ => ⟨S2x2048x16x1, .f32⟩
  | .hbm, ⟨56, _⟩ => ⟨S2x2048x16x3, .f32⟩
  | .hbm, ⟨57, _⟩ => ⟨S2x2048x16, .f32⟩
  | .hbm, ⟨58, _⟩ => ⟨S2x2048x16x1, .f32⟩
  | .hbm, ⟨59, _⟩ => ⟨S2x2048x16x1, .bf16⟩
  | .hbm, ⟨60, _⟩ => ⟨S2x2048x16x1, .f32⟩
  | .hbm, ⟨61, _⟩ => ⟨S2x2048x16x1, .f32⟩
  | .hbm, ⟨62, _⟩ => ⟨S2x2048x16x1, .bf16⟩
  | .hbm, ⟨63, _⟩ => ⟨S2x2048x16x1, .f32⟩
  | .hbm, ⟨64, _⟩ => ⟨S2x2048x16x1, .f32⟩
  | .hbm, ⟨65, _⟩ => ⟨S2x2048x16x1, .bf16⟩
  | .hbm, ⟨66, _⟩ => ⟨S2x2048x16x1, .f32⟩
  | .hbm, ⟨67, _⟩ => ⟨S2x2048x16x1, .f32⟩
  | .hbm, ⟨68, _⟩ => ⟨S2x2048x16x1, .f32⟩
  | .hbm, ⟨69, _⟩ => ⟨S2x2048x16x3, .f32⟩
  | .hbm, ⟨70, _⟩ => ⟨S_, .f32⟩
  | .hbm, ⟨71, _⟩ => ⟨S2x2048x16x55, .f32⟩
  | .hbm, ⟨72, _⟩ => ⟨S2x2048x16x128, .f32⟩
  | .hbm, ⟨73, _⟩ => ⟨S2x16x2048x128, .f32⟩
  | .hbm, ⟨74, _⟩ => ⟨S2x16x2048x128, .bf16⟩
  | .hbm, ⟨75, _⟩ => ⟨S2x2048x16, .f32⟩
  | .hbm, ⟨76, _⟩ => ⟨S2x2048x16x1, .f32⟩
  | .hbm, ⟨77, _⟩ => ⟨S2x2048x16x1, .bf16⟩
  | .hbm, ⟨78, _⟩ => ⟨S2x2048x16x1, .f32⟩
  | .hbm, ⟨79, _⟩ => ⟨S2x2048x16x1, .f32⟩
  | .hbm, ⟨80, _⟩ => ⟨S2x2048x16x1, .bf16⟩
  | .hbm, ⟨81, _⟩ => ⟨S2x2048x16x1, .f32⟩
  | .hbm, ⟨82, _⟩ => ⟨S2x2048x16x1, .f32⟩
  | .hbm, ⟨83, _⟩ => ⟨S2x2048x16x1, .bf16⟩
  | .hbm, ⟨84, _⟩ => ⟨S2x2048x16x1, .f32⟩
  | .hbm, ⟨85, _⟩ => ⟨S2x2048x16x1, .f32⟩
  | .hbm, ⟨86, _⟩ => ⟨S2x2048x16x1, .f32⟩
  | .hbm, ⟨87, _⟩ => ⟨S2x2048x16x3, .f32⟩
  | .hbm, ⟨88, _⟩ => ⟨S_, .f32⟩
  | .hbm, ⟨89, _⟩ => ⟨S2x2048x16x55, .f32⟩
  | .hbm, ⟨90, _⟩ => ⟨S2x2048x16x128, .f32⟩
  | .hbm, ⟨91, _⟩ => ⟨S2x16x2048x128, .f32⟩
  | .hbm, ⟨92, _⟩ => ⟨S2x16x2048x128, .bf16⟩
  | .hbm, ⟨93, _⟩ => ⟨S_, .f32⟩
  | .hbm, ⟨94, _⟩ => ⟨S2x2048x16x61, .f32⟩
  | .hbm, ⟨95, _⟩ => ⟨S2x2048x16x128, .f32⟩
  | .hbm, ⟨96, _⟩ => ⟨S2x16x2048x128, .f32⟩
  | .hbm, ⟨97, _⟩ => ⟨S2x16x2048x128, .bf16⟩
  | .hbm, ⟨98, _⟩ => ⟨S2x2048x16x64, .f32⟩
  | .hbm, ⟨99, _⟩ => ⟨S_, .f32⟩
  | .hbm, ⟨100, _⟩ => ⟨S2x2048x16, .f32⟩
  | .hbm, ⟨101, _⟩ => ⟨S2x2048x16, .f32⟩
  | .hbm, ⟨102, _⟩ => ⟨S2x2048x16x1, .f32⟩
  | .hbm, ⟨103, _⟩ => ⟨S2x2048x16x1, .bf16⟩
  | .hbm, ⟨104, _⟩ => ⟨S2x2048x16x1, .f32⟩
  | .hbm, ⟨105, _⟩ => ⟨S2x2048x16x1, .f32⟩
  | .hbm, ⟨106, _⟩ => ⟨S2x2048x16x1, .bf16⟩
  | .hbm, ⟨107, _⟩ => ⟨S2x2048x16x1, .f32⟩
  | .hbm, ⟨108, _⟩ => ⟨S2x2048x16x1, .f32⟩
  | .hbm, ⟨109, _⟩ => ⟨S2x2048x16x1, .bf16⟩
  | .hbm, ⟨110, _⟩ => ⟨S2x2048x16x1, .f32⟩
  | .hbm, ⟨111, _⟩ => ⟨S2x2048x16x1, .f32⟩
  | .hbm, ⟨112, _⟩ => ⟨S2x2048x16x1, .f32⟩
  | .hbm, ⟨113, _⟩ => ⟨S2x2048x16x3, .f32⟩
  | .hbm, ⟨114, _⟩ => ⟨S_, .f32⟩
  | .hbm, ⟨115, _⟩ => ⟨S2x2048x16x61, .f32⟩
  | .hbm, ⟨116, _⟩ => ⟨S2x2048x16x128, .f32⟩
  | .hbm, ⟨117, _⟩ => ⟨S2x16x2048x128, .f32⟩
  | .hbm, ⟨118, _⟩ => ⟨S2x16x2048x128, .bf16⟩
  | .hbm, ⟨119, _⟩ => ⟨S2x16x2048x128, .f32⟩
  | .hbm, ⟨120, _⟩ => ⟨S2x16x2048x128, .f32⟩
  | .hbm, ⟨121, _⟩ => ⟨S2x16x2048x128, .f32⟩
  | .local _ .vmem, ⟨0, _⟩ => ⟨S1x4x2048x128, .bf16⟩
  | .local _ .vmem, ⟨1, _⟩ => ⟨S1x4x2048x128, .bf16⟩
  | .local _ .vmem, ⟨2, _⟩ => ⟨S1x4x2048x128, .bf16⟩
  | .local _ .vmem, ⟨3, _⟩ => ⟨S1x4x2048x128, .bf16⟩
  | .local _ .vmem, ⟨4, _⟩ => ⟨S1x4x2048x128, .bf16⟩
  | .local _ .vmem, ⟨5, _⟩ => ⟨S1x4x2048x128, .bf16⟩
  | .local _ .vmem, ⟨6, _⟩ => ⟨S1x4x2048x128, .bf16⟩
  | .local _ .vmem, ⟨7, _⟩ => ⟨S1x4x2048x128, .bf16⟩
  | .local _ .vmem, ⟨8, _⟩ => ⟨S1x4x2048x128, .f32⟩
  | .local _ .vmem, ⟨9, _⟩ => ⟨S1x4x2048x128, .f32⟩
  | .local _ .vmem, ⟨10, _⟩ => ⟨S1x4x2048x128, .f32⟩
  | .local _ .vmem, ⟨11, _⟩ => ⟨S1x4x2048x128, .f32⟩
  | .local _ .vmem, ⟨12, _⟩ => ⟨S1x4x2048x128, .f32⟩
  | .local _ .vmem, ⟨13, _⟩ => ⟨S1x4x2048x128, .f32⟩
  | _, _ => ⟨S2x2048x16x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_v15 : Ref sig .tc := ⟨.hbm, 20, rfl⟩
abbrev main_cst : Ref sig .tc := ⟨.hbm, 21, rfl⟩
abbrev main_call0_v0 : Ref sig .tc := ⟨.hbm, 22, rfl⟩
abbrev main_call0_v1 : Ref sig .tc := ⟨.hbm, 23, rfl⟩
abbrev main_call0_v2 : Ref sig .tc := ⟨.hbm, 24, rfl⟩
abbrev main_v16 : Ref sig .tc := ⟨.hbm, 25, rfl⟩
abbrev main_cst_0 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_cst_1 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩
abbrev main_v30 : Ref sig .tc := ⟨.hbm, 41, rfl⟩
abbrev main_v31 : Ref sig .tc := ⟨.hbm, 42, rfl⟩
abbrev main_cst_2 : Ref sig .tc := ⟨.hbm, 43, rfl⟩
abbrev main_v32 : Ref sig .tc := ⟨.hbm, 44, rfl⟩
abbrev main_v33 : Ref sig .tc := ⟨.hbm, 45, rfl⟩
abbrev main_v34 : Ref sig .tc := ⟨.hbm, 46, rfl⟩
abbrev main_v35 : Ref sig .tc := ⟨.hbm, 47, rfl⟩
abbrev main_v36 : Ref sig .tc := ⟨.hbm, 48, rfl⟩
abbrev main_v37 : Ref sig .tc := ⟨.hbm, 49, rfl⟩
abbrev main_v38 : Ref sig .tc := ⟨.hbm, 50, rfl⟩
abbrev main_v39 : Ref sig .tc := ⟨.hbm, 51, rfl⟩
abbrev main_v40 : Ref sig .tc := ⟨.hbm, 52, rfl⟩
abbrev main_v41 : Ref sig .tc := ⟨.hbm, 53, rfl⟩
abbrev main_v42 : Ref sig .tc := ⟨.hbm, 54, rfl⟩
abbrev main_v43 : Ref sig .tc := ⟨.hbm, 55, rfl⟩
abbrev main_v44 : Ref sig .tc := ⟨.hbm, 56, rfl⟩
abbrev main_v45 : Ref sig .tc := ⟨.hbm, 57, rfl⟩
abbrev main_v46 : Ref sig .tc := ⟨.hbm, 58, rfl⟩
abbrev main_v47 : Ref sig .tc := ⟨.hbm, 59, rfl⟩
abbrev main_v48 : Ref sig .tc := ⟨.hbm, 60, rfl⟩
abbrev main_v49 : Ref sig .tc := ⟨.hbm, 61, rfl⟩
abbrev main_v50 : Ref sig .tc := ⟨.hbm, 62, rfl⟩
abbrev main_v51 : Ref sig .tc := ⟨.hbm, 63, rfl⟩
abbrev main_v52 : Ref sig .tc := ⟨.hbm, 64, rfl⟩
abbrev main_v53 : Ref sig .tc := ⟨.hbm, 65, rfl⟩
abbrev main_v54 : Ref sig .tc := ⟨.hbm, 66, rfl⟩
abbrev main_v55 : Ref sig .tc := ⟨.hbm, 67, rfl⟩
abbrev main_v56 : Ref sig .tc := ⟨.hbm, 68, rfl⟩
abbrev main_v57 : Ref sig .tc := ⟨.hbm, 69, rfl⟩
abbrev main_cst_3 : Ref sig .tc := ⟨.hbm, 70, rfl⟩
abbrev main_v58 : Ref sig .tc := ⟨.hbm, 71, rfl⟩
abbrev main_v59 : Ref sig .tc := ⟨.hbm, 72, rfl⟩
abbrev main_v60 : Ref sig .tc := ⟨.hbm, 73, rfl⟩
abbrev main_v61 : Ref sig .tc := ⟨.hbm, 74, rfl⟩
abbrev main_v62 : Ref sig .tc := ⟨.hbm, 75, rfl⟩
abbrev main_v63 : Ref sig .tc := ⟨.hbm, 76, rfl⟩
abbrev main_v64 : Ref sig .tc := ⟨.hbm, 77, rfl⟩
abbrev main_v65 : Ref sig .tc := ⟨.hbm, 78, rfl⟩
abbrev main_v66 : Ref sig .tc := ⟨.hbm, 79, rfl⟩
abbrev main_v67 : Ref sig .tc := ⟨.hbm, 80, rfl⟩
abbrev main_v68 : Ref sig .tc := ⟨.hbm, 81, rfl⟩
abbrev main_v69 : Ref sig .tc := ⟨.hbm, 82, rfl⟩
abbrev main_v70 : Ref sig .tc := ⟨.hbm, 83, rfl⟩
abbrev main_v71 : Ref sig .tc := ⟨.hbm, 84, rfl⟩
abbrev main_v72 : Ref sig .tc := ⟨.hbm, 85, rfl⟩
abbrev main_v73 : Ref sig .tc := ⟨.hbm, 86, rfl⟩
abbrev main_v74 : Ref sig .tc := ⟨.hbm, 87, rfl⟩
abbrev main_cst_4 : Ref sig .tc := ⟨.hbm, 88, rfl⟩
abbrev main_v75 : Ref sig .tc := ⟨.hbm, 89, rfl⟩
abbrev main_v76 : Ref sig .tc := ⟨.hbm, 90, rfl⟩
abbrev main_v77 : Ref sig .tc := ⟨.hbm, 91, rfl⟩
abbrev main_v78 : Ref sig .tc := ⟨.hbm, 92, rfl⟩
abbrev main_cst_5 : Ref sig .tc := ⟨.hbm, 93, rfl⟩
abbrev main_v79 : Ref sig .tc := ⟨.hbm, 94, rfl⟩
abbrev main_v80 : Ref sig .tc := ⟨.hbm, 95, rfl⟩
abbrev main_v81 : Ref sig .tc := ⟨.hbm, 96, rfl⟩
abbrev main_v82 : Ref sig .tc := ⟨.hbm, 97, rfl⟩
abbrev main_v83 : Ref sig .tc := ⟨.hbm, 98, rfl⟩
abbrev main_cst_6 : Ref sig .tc := ⟨.hbm, 99, rfl⟩
abbrev main_v84 : Ref sig .tc := ⟨.hbm, 100, rfl⟩
abbrev main_v85 : Ref sig .tc := ⟨.hbm, 101, rfl⟩
abbrev main_v86 : Ref sig .tc := ⟨.hbm, 102, rfl⟩
abbrev main_v87 : Ref sig .tc := ⟨.hbm, 103, rfl⟩
abbrev main_v88 : Ref sig .tc := ⟨.hbm, 104, rfl⟩
abbrev main_v89 : Ref sig .tc := ⟨.hbm, 105, rfl⟩
abbrev main_v90 : Ref sig .tc := ⟨.hbm, 106, rfl⟩
abbrev main_v91 : Ref sig .tc := ⟨.hbm, 107, rfl⟩
abbrev main_v92 : Ref sig .tc := ⟨.hbm, 108, rfl⟩
abbrev main_v93 : Ref sig .tc := ⟨.hbm, 109, rfl⟩
abbrev main_v94 : Ref sig .tc := ⟨.hbm, 110, rfl⟩
abbrev main_v95 : Ref sig .tc := ⟨.hbm, 111, rfl⟩
abbrev main_v96 : Ref sig .tc := ⟨.hbm, 112, rfl⟩
abbrev main_v97 : Ref sig .tc := ⟨.hbm, 113, rfl⟩
abbrev main_cst_7 : Ref sig .tc := ⟨.hbm, 114, rfl⟩
abbrev main_v98 : Ref sig .tc := ⟨.hbm, 115, rfl⟩
abbrev main_v99 : Ref sig .tc := ⟨.hbm, 116, rfl⟩
abbrev main_v100 : Ref sig .tc := ⟨.hbm, 117, rfl⟩
abbrev main_v101 : Ref sig .tc := ⟨.hbm, 118, rfl⟩
abbrev main_v102_0 : Ref sig .tc := ⟨.hbm, 119, rfl⟩
abbrev main_v102_1 : Ref sig .tc := ⟨.hbm, 120, rfl⟩
abbrev main_v102_2 : Ref sig .tc := ⟨.hbm, 121, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F]

abbrev grid0 : Pipeline.Grid := ⟨3, ![2, 4, 1], ![false, false, false]⟩

def k0_mult1 (i : grid0.Coords) : BitVec 32 :=
  let arg2 : BitVec 32 := BitVec.ofNat 32 (i 2).val
  let c2048_i32 : BitVec 32 := 2048#32
  let v20 : BitVec 32 := Scalar.muli arg2 c2048_i32
  let c0_i32_29 : BitVec 32 := 0#32
  let v21 : BitVec 32 := Scalar.addi v20 c0_i32_29
  v21
def k0_off1 (i : grid0.Coords) (c0_i32_29 : BitVec 32) : Fin 4 → Nat :=
  let c0_30 : Index := 0#32
  let c0_31 : Index := 0#32
  let arg2 : BitVec 32 := BitVec.ofNat 32 (i 2).val
  let c2048_i32 : BitVec 32 := 2048#32
  let v20 : BitVec 32 := Scalar.muli arg2 c2048_i32
  let v21 : BitVec 32 := Scalar.addi v20 c0_i32_29
  let v22 : BitVec 32 := v21
  let v25 : Index := Scalar.indexCast v22
  let c0_32 : Index := 0#32
  ![0, 0, v25.toNat, 0]
def k0_off2 (i : grid0.Coords) (c0_i32_29 : BitVec 32) : Fin 4 → Nat :=
  let c0_49 : Index := 0#32
  let c1_50 : Index := 1#32
  let arg2 : BitVec 32 := BitVec.ofNat 32 (i 2).val
  let c2048_i32 : BitVec 32 := 2048#32
  let v20 : BitVec 32 := Scalar.muli arg2 c2048_i32
  let v21 : BitVec 32 := Scalar.addi v20 c0_i32_29
  let v22 : BitVec 32 := v21
  let v65 : Index := Scalar.indexCast v22
  let c0_51 : Index := 0#32
  ![0, 1, v65.toNat, 0]
def k0_off3 (i : grid0.Coords) (c0_i32_29 : BitVec 32) : Fin 4 → Nat :=
  let c0_68 : Index := 0#32
  let c2_69 : Index := 2#32
  let arg2 : BitVec 32 := BitVec.ofNat 32 (i 2).val
  let c2048_i32 : BitVec 32 := 2048#32
  let v20 : BitVec 32 := Scalar.muli arg2 c2048_i32
  let v21 : BitVec 32 := Scalar.addi v20 c0_i32_29
  let v22 : BitVec 32 := v21
  let v105 : Index := Scalar.indexCast v22
  let c0_70 : Index := 0#32
  ![0, 2, v105.toNat, 0]
def k0_off4 (i : grid0.Coords) (c0_i32_29 : BitVec 32) : Fin 4 → Nat :=
  let c0_87 : Index := 0#32
  let c3_88 : Index := 3#32
  let arg2 : BitVec 32 := BitVec.ofNat 32 (i 2).val
  let c2048_i32 : BitVec 32 := 2048#32
  let v20 : BitVec 32 := Scalar.muli arg2 c2048_i32
  let v21 : BitVec 32 := Scalar.addi v20 c0_i32_29
  let v22 : BitVec 32 := v21
  let v145 : Index := Scalar.indexCast v22
  let c0_89 : Index := 0#32
  ![0, 3, v145.toNat, 0]
def k0_mult2 (i : grid0.Coords) : BitVec 32 :=
  let arg2 : BitVec 32 := BitVec.ofNat 32 (i 2).val
  let c2048_i32_106 : BitVec 32 := 2048#32
  let v183 : BitVec 32 := Scalar.muli arg2 c2048_i32_106
  let c512_i32 : BitVec 32 := 512#32
  let v184 : BitVec 32 := Scalar.addi v183 c512_i32
  v184
def k0_mult3 (i : grid0.Coords) : BitVec 32 :=
  let arg2 : BitVec 32 := BitVec.ofNat 32 (i 2).val
  let c2048_i32_183 : BitVec 32 := 2048#32
  let v346 : BitVec 32 := Scalar.muli arg2 c2048_i32_183
  let c1024_i32 : BitVec 32 := 1024#32
  let v347 : BitVec 32 := Scalar.addi v346 c1024_i32
  v347
def k0_mult4 (i : grid0.Coords) : BitVec 32 :=
  let arg2 : BitVec 32 := BitVec.ofNat 32 (i 2).val
  let c2048_i32_260 : BitVec 32 := 2048#32
  let v509 : BitVec 32 := Scalar.muli arg2 c2048_i32_260
  let c1536_i32 : BitVec 32 := 1536#32
  let v510 : BitVec 32 := Scalar.addi v509 c1536_i32
  v510
@[reducible] def k0_t1_loop (i : grid0.Coords) : Scf.Loop 32 :=
  let arg2 : BitVec 32 := BitVec.ofNat 32 (i 2).val
  let c1_i32 : BitVec 32 := 1#32
  let v640 : BitVec 32 := Scalar.addi arg2 c1_i32
  let c4_i32 : BitVec 32 := 4#32
  let v641 : BitVec 32 := Scalar.muli v640 c4_i32
  let c4_i32_337 : BitVec 32 := 4#32
  let v642 : BitVec 32 := Scalar.subi c4_i32_337 v641
  let c1_i32_338 : BitVec 32 := 1#32
  let v644 : BitVec 32 := Scalar.divsi v642 c1_i32_338
  let v645 : BitVec 32 := Scalar.muli v644 c1_i32_338
  let v646 : BitVec 32 := Scalar.addi v641 v645
  let c1_i32_339 : BitVec 32 := 1#32
  ⟨v641, v646, c1_i32_339⟩
def k0_mult5 (i : grid0.Coords) (k0_t1 : Fin (k0_t1_loop i).trips) : BitVec 32 :=
  let arg2 : BitVec 32 := BitVec.ofNat 32 (i 2).val
  let c1_i32 : BitVec 32 := 1#32
  let v640 : BitVec 32 := Scalar.addi arg2 c1_i32
  let c4_i32 : BitVec 32 := 4#32
  let v641 : BitVec 32 := Scalar.muli v640 c4_i32
  let c1_i32_339 : BitVec 32 := 1#32
  let arg10 : BitVec 32 := Scf.iv v641 c1_i32_339 k0_t1
  let c512_i32_373 : BitVec 32 := 512#32
  let v673 : BitVec 32 := Scalar.muli arg10 c512_i32_373
  v673
def k0_off5 (i : grid0.Coords) (k0_t1 : Fin (k0_t1_loop i).trips) : Fin 4 → Nat :=
  let c0_374 : Index := 0#32
  let c0_375 : Index := 0#32
  let arg2 : BitVec 32 := BitVec.ofNat 32 (i 2).val
  let c1_i32 : BitVec 32 := 1#32
  let v640 : BitVec 32 := Scalar.addi arg2 c1_i32
  let c4_i32 : BitVec 32 := 4#32
  let v641 : BitVec 32 := Scalar.muli v640 c4_i32
  let c1_i32_339 : BitVec 32 := 1#32
  let arg10 : BitVec 32 := Scf.iv v641 c1_i32_339 k0_t1
  let c512_i32_373 : BitVec 32 := 512#32
  let v673 : BitVec 32 := Scalar.muli arg10 c512_i32_373
  let v674 : BitVec 32 := v673
  let v675 : Index := Scalar.indexCast v674
  let c0_376 : Index := 0#32
  ![0, 0, v675.toNat, 0]
def k0_off6 (i : grid0.Coords) (k0_t1 : Fin (k0_t1_loop i).trips) : Fin 4 → Nat :=
  let c0_391 : Index := 0#32
  let c1_392 : Index := 1#32
  let arg2 : BitVec 32 := BitVec.ofNat 32 (i 2).val
  let c1_i32 : BitVec 32 := 1#32
  let v640 : BitVec 32 := Scalar.addi arg2 c1_i32
  let c4_i32 : BitVec 32 := 4#32
  let v641 : BitVec 32 := Scalar.muli v640 c4_i32
  let c1_i32_339 : BitVec 32 := 1#32
  let arg10 : BitVec 32 := Scf.iv v641 c1_i32_339 k0_t1
  let c512_i32_373 : BitVec 32 := 512#32
  let v673 : BitVec 32 := Scalar.muli arg10 c512_i32_373
  let v674 : BitVec 32 := v673
  let v700 : Index := Scalar.indexCast v674
  let c0_393 : Index := 0#32
  ![0, 1, v700.toNat, 0]
def k0_off7 (i : grid0.Coords) (k0_t1 : Fin (k0_t1_loop i).trips) : Fin 4 → Nat :=
  let c0_408 : Index := 0#32
  let c2_409 : Index := 2#32
  let arg2 : BitVec 32 := BitVec.ofNat 32 (i 2).val
  let c1_i32 : BitVec 32 := 1#32
  let v640 : BitVec 32 := Scalar.addi arg2 c1_i32
  let c4_i32 : BitVec 32 := 4#32
  let v641 : BitVec 32 := Scalar.muli v640 c4_i32
  let c1_i32_339 : BitVec 32 := 1#32
  let arg10 : BitVec 32 := Scf.iv v641 c1_i32_339 k0_t1
  let c512_i32_373 : BitVec 32 := 512#32
  let v673 : BitVec 32 := Scalar.muli arg10 c512_i32_373
  let v674 : BitVec 32 := v673
  let v725 : Index := Scalar.indexCast v674
  let c0_410 : Index := 0#32
  ![0, 2, v725.toNat, 0]
def k0_off8 (i : grid0.Coords) (k0_t1 : Fin (k0_t1_loop i).trips) : Fin 4 → Nat :=
  let c0_425 : Index := 0#32
  let c3_426 : Index := 3#32
  let arg2 : BitVec 32 := BitVec.ofNat 32 (i 2).val
  let c1_i32 : BitVec 32 := 1#32
  let v640 : BitVec 32 := Scalar.addi arg2 c1_i32
  let c4_i32 : BitVec 32 := 4#32
  let v641 : BitVec 32 := Scalar.muli v640 c4_i32
  let c1_i32_339 : BitVec 32 := 1#32
  let arg10 : BitVec 32 := Scf.iv v641 c1_i32_339 k0_t1
  let c512_i32_373 : BitVec 32 := 512#32
  let v673 : BitVec 32 := Scalar.muli arg10 c512_i32_373
  let v674 : BitVec 32 := v673
  let v750 : Index := Scalar.indexCast v674
  let c0_427 : Index := 0#32
  ![0, 3, v750.toNat, 0]
@[reducible] def k0_t2_loop (i : grid0.Coords) : Scf.Loop 32 :=
  let arg2 : BitVec 32 := BitVec.ofNat 32 (i 2).val
  let c1_i32 : BitVec 32 := 1#32
  let v640 : BitVec 32 := Scalar.addi arg2 c1_i32
  let c4_i32 : BitVec 32 := 4#32
  let v641 : BitVec 32 := Scalar.muli v640 c4_i32
  let c4_i32_337 : BitVec 32 := 4#32
  let v642 : BitVec 32 := Scalar.subi c4_i32_337 v641
  let c1_i32_338 : BitVec 32 := 1#32
  let v644 : BitVec 32 := Scalar.divsi v642 c1_i32_338
  let v645 : BitVec 32 := Scalar.muli v644 c1_i32_338
  let v646 : BitVec 32 := Scalar.addi v641 v645
  let v643 : BitVec 32 := Scalar.addi v641 v642
  let c1_i32_340 : BitVec 32 := 1#32
  ⟨v646, v643, c1_i32_340⟩
def k0_mult6 (i : grid0.Coords) (k0_t2 : Fin (k0_t2_loop i).trips) : BitVec 32 :=
  let arg2 : BitVec 32 := BitVec.ofNat 32 (i 2).val
  let c1_i32 : BitVec 32 := 1#32
  let v640 : BitVec 32 := Scalar.addi arg2 c1_i32
  let c4_i32 : BitVec 32 := 4#32
  let v641 : BitVec 32 := Scalar.muli v640 c4_i32
  let c4_i32_337 : BitVec 32 := 4#32
  let v642 : BitVec 32 := Scalar.subi c4_i32_337 v641
  let c1_i32_338 : BitVec 32 := 1#32
  let v644 : BitVec 32 := Scalar.divsi v642 c1_i32_338
  let v645 : BitVec 32 := Scalar.muli v644 c1_i32_338
  let v646 : BitVec 32 := Scalar.addi v641 v645
  let c1_i32_340 : BitVec 32 := 1#32
  let arg10 : BitVec 32 := Scf.iv v646 c1_i32_340 k0_t2
  let c512_i32_373 : BitVec 32 := 512#32
  let v673 : BitVec 32 := Scalar.muli arg10 c512_i32_373
  v673
def k0_off9 (i : grid0.Coords) (k0_t2 : Fin (k0_t2_loop i).trips) : Fin 4 → Nat :=
  let c0_374 : Index := 0#32
  let c0_375 : Index := 0#32
  let arg2 : BitVec 32 := BitVec.ofNat 32 (i 2).val
  let c1_i32 : BitVec 32 := 1#32
  let v640 : BitVec 32 := Scalar.addi arg2 c1_i32
  let c4_i32 : BitVec 32 := 4#32
  let v641 : BitVec 32 := Scalar.muli v640 c4_i32
  let c4_i32_337 : BitVec 32 := 4#32
  let v642 : BitVec 32 := Scalar.subi c4_i32_337 v641
  let c1_i32_338 : BitVec 32 := 1#32
  let v644 : BitVec 32 := Scalar.divsi v642 c1_i32_338
  let v645 : BitVec 32 := Scalar.muli v644 c1_i32_338
  let v646 : BitVec 32 := Scalar.addi v641 v645
  let c1_i32_340 : BitVec 32 := 1#32
  let arg10 : BitVec 32 := Scf.iv v646 c1_i32_340 k0_t2
  let c512_i32_373 : BitVec 32 := 512#32
  let v673 : BitVec 32 := Scalar.muli arg10 c512_i32_373
  let v674 : BitVec 32 := v673
  let v675 : Index := Scalar.indexCast v674
  let c0_376 : Index := 0#32
  ![0, 0, v675.toNat, 0]
def k0_off10 (i : grid0.Coords) (k0_t2 : Fin (k0_t2_loop i).trips) : Fin 4 → Nat :=
  let c0_391 : Index := 0#32
  let c1_392 : Index := 1#32
  let arg2 : BitVec 32 := BitVec.ofNat 32 (i 2).val
  let c1_i32 : BitVec 32 := 1#32
  let v640 : BitVec 32 := Scalar.addi arg2 c1_i32
  let c4_i32 : BitVec 32 := 4#32
  let v641 : BitVec 32 := Scalar.muli v640 c4_i32
  let c4_i32_337 : BitVec 32 := 4#32
  let v642 : BitVec 32 := Scalar.subi c4_i32_337 v641
  let c1_i32_338 : BitVec 32 := 1#32
  let v644 : BitVec 32 := Scalar.divsi v642 c1_i32_338
  let v645 : BitVec 32 := Scalar.muli v644 c1_i32_338
  let v646 : BitVec 32 := Scalar.addi v641 v645
  let c1_i32_340 : BitVec 32 := 1#32
  let arg10 : BitVec 32 := Scf.iv v646 c1_i32_340 k0_t2
  let c512_i32_373 : BitVec 32 := 512#32
  let v673 : BitVec 32 := Scalar.muli arg10 c512_i32_373
  let v674 : BitVec 32 := v673
  let v700 : Index := Scalar.indexCast v674
  let c0_393 : Index := 0#32
  ![0, 1, v700.toNat, 0]
def k0_off11 (i : grid0.Coords) (k0_t2 : Fin (k0_t2_loop i).trips) : Fin 4 → Nat :=
  let c0_408 : Index := 0#32
  let c2_409 : Index := 2#32
  let arg2 : BitVec 32 := BitVec.ofNat 32 (i 2).val
  let c1_i32 : BitVec 32 := 1#32
  let v640 : BitVec 32 := Scalar.addi arg2 c1_i32
  let c4_i32 : BitVec 32 := 4#32
  let v641 : BitVec 32 := Scalar.muli v640 c4_i32
  let c4_i32_337 : BitVec 32 := 4#32
  let v642 : BitVec 32 := Scalar.subi c4_i32_337 v641
  let c1_i32_338 : BitVec 32 := 1#32
  let v644 : BitVec 32 := Scalar.divsi v642 c1_i32_338
  let v645 : BitVec 32 := Scalar.muli v644 c1_i32_338
  let v646 : BitVec 32 := Scalar.addi v641 v645
  let c1_i32_340 : BitVec 32 := 1#32
  let arg10 : BitVec 32 := Scf.iv v646 c1_i32_340 k0_t2
  let c512_i32_373 : BitVec 32 := 512#32
  let v673 : BitVec 32 := Scalar.muli arg10 c512_i32_373
  let v674 : BitVec 32 := v673
  let v725 : Index := Scalar.indexCast v674
  let c0_410 : Index := 0#32
  ![0, 2, v725.toNat, 0]
def k0_off12 (i : grid0.Coords) (k0_t2 : Fin (k0_t2_loop i).trips) : Fin 4 → Nat :=
  let c0_425 : Index := 0#32
  let c3_426 : Index := 3#32
  let arg2 : BitVec 32 := BitVec.ofNat 32 (i 2).val
  let c1_i32 : BitVec 32 := 1#32
  let v640 : BitVec 32 := Scalar.addi arg2 c1_i32
  let c4_i32 : BitVec 32 := 4#32
  let v641 : BitVec 32 := Scalar.muli v640 c4_i32
  let c4_i32_337 : BitVec 32 := 4#32
  let v642 : BitVec 32 := Scalar.subi c4_i32_337 v641
  let c1_i32_338 : BitVec 32 := 1#32
  let v644 : BitVec 32 := Scalar.divsi v642 c1_i32_338
  let v645 : BitVec 32 := Scalar.muli v644 c1_i32_338
  let v646 : BitVec 32 := Scalar.addi v641 v645
  let c1_i32_340 : BitVec 32 := 1#32
  let arg10 : BitVec 32 := Scf.iv v646 c1_i32_340 k0_t2
  let c512_i32_373 : BitVec 32 := 512#32
  let v673 : BitVec 32 := Scalar.muli arg10 c512_i32_373
  let v674 : BitVec 32 := v673
  let v750 : Index := Scalar.indexCast v674
  let c0_427 : Index := 0#32
  ![0, 3, v750.toNat, 0]
def cc0_transform_0 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg0.toNat, arg1.toNat, c0_i32.toNat, c0_i32_0.toNat]

def cc0_transform_1 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, arg2.toNat, c0_i32.toNat]

def cc0_transform_2 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, arg2.toNat, c0_i32.toNat]

def cc0_transform_3 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg0.toNat, arg1.toNat, c0_i32.toNat, c0_i32_0.toNat]

def cc0_transform_4 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg0.toNat, arg1.toNat, c0_i32.toNat, c0_i32_0.toNat]

def cc0_transform_5 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, arg2.toNat, c0_i32.toNat]

def cc0_transform_6 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, arg2.toNat, c0_i32.toNat]

abbrev stage0_0 : Fin 2 → Memref sig .tc .vmem S1x4x2048x128 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true, false]

abbrev stage0_1 : Fin 2 → Memref sig .tc .vmem S1x4x2048x128 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true, true]

abbrev stage0_2 : Fin 2 → Memref sig .tc .vmem S1x4x2048x128 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, true]

abbrev stage0_3 : Fin 2 → Memref sig .tc .vmem S1x4x2048x128 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]

abbrev stage0_4 : Fin 2 → Memref sig .tc .vmem S1x4x2048x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true, false]

abbrev stage0_5 : Fin 2 → Memref sig .tc .vmem S1x4x2048x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true, true]

abbrev stage0_6 : Fin 2 → Memref sig .tc .vmem S1x4x2048x128 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true, true]
-- ==== Kernel2Ideal.lean ====
variable {F : FTy → Type} [FloatOps F] [Named F]
def κ : String → Option EReal := fun
  | "mask" => some ⊥
  | _ => none
-- ==== Reference2Ideal.lean ====
abbrev S2x2048x16x64 : Shape := ⟨4, ![2, 2048, 16, 64]⟩
abbrev S2x2048x16 : Shape := ⟨3, ![2, 2048, 16]⟩
abbrev S2x16x2048x2048 : Shape := ⟨4, ![2, 16, 2048, 2048]⟩
abbrev S2x16x2048 : Shape := ⟨3, ![2, 16, 2048]⟩
abbrev S2x16x2048x1 : Shape := ⟨4, ![2, 16, 2048, 1]⟩
abbrev S2x16x1x2048 : Shape := ⟨4, ![2, 16, 1, 2048]⟩
abbrev S2048 : Shape := ⟨1, ![2048]⟩
abbrev S2048x1 : Shape := ⟨2, ![2048, 1]⟩
abbrev S1x2048 : Shape := ⟨2, ![1, 2048]⟩
abbrev S2048x2048 : Shape := ⟨2, ![2048, 2048]⟩
abbrev S_ : Shape := ⟨0, ![]⟩
abbrev S2x16x64x2048 : Shape := ⟨4, ![2, 16, 64, 2048]⟩
abbrev S2x16x2048x64 : Shape := ⟨4, ![2, 16, 2048, 64]⟩
abbrev S2x2048x16x1 : Shape := ⟨4, ![2, 2048, 16, 1]⟩
abbrev S2x2048x16x63 : Shape := ⟨4, ![2, 2048, 16, 63]⟩
abbrev S2x2048x16x128 : Shape := ⟨4, ![2, 2048, 16, 128]⟩
abbrev S2x16x2048x128 : Shape := ⟨4, ![2, 16, 2048, 128]⟩
abbrev S2x2048x16x3 : Shape := ⟨4, ![2, 2048, 16, 3]⟩
abbrev S2x2048x16x60 : Shape := ⟨4, ![2, 2048, 16, 60]⟩

abbrev nBuf : Space → Nat
  | .hbm => 123
  | .vmem => 0
  | .smem => 0
  | _ => 0

abbrev bufTy : (tb : Table) → Fin (tcTables nBuf tb) → BufTy
  | .hbm, ⟨0, _⟩ => ⟨S2x2048x16x64, .f32⟩
  | .hbm, ⟨1, _⟩ => ⟨S2x2048x16x64, .f32⟩
  | .hbm, ⟨2, _⟩ => ⟨S2x2048x16x64, .f32⟩
  | .hbm, ⟨3, _⟩ => ⟨S2x2048x16, .f32⟩
  | .hbm, ⟨4, _⟩ => ⟨S2x2048x16x64, .f32⟩
  | .hbm, ⟨5, _⟩ => ⟨S2x16x2048x2048, .f32⟩
  | .hbm, ⟨6, _⟩ => ⟨S2x16x2048, .f32⟩
  | .hbm, ⟨7, _⟩ => ⟨S2x16x2048x1, .f32⟩
  | .hbm, ⟨8, _⟩ => ⟨S2x16x2048, .f32⟩
  | .hbm, ⟨9, _⟩ => ⟨S2x16x1x2048, .f32⟩
  | .hbm, ⟨10, _⟩ => ⟨S2x16x2048x2048, .f32⟩
  | .hbm, ⟨11, _⟩ => ⟨S2x16x2048x2048, .f32⟩
  | .hbm, ⟨12, _⟩ => ⟨S2x16x2048x2048, .f32⟩
  | .hbm, ⟨13, _⟩ => ⟨S2048, .i32⟩
  | .hbm, ⟨14, _⟩ => ⟨S2048x1, .i32⟩
  | .hbm, ⟨15, _⟩ => ⟨S2048, .i32⟩
  | .hbm, ⟨16, _⟩ => ⟨S1x2048, .i32⟩
  | .hbm, ⟨17, _⟩ => ⟨S2048x2048, .i32⟩
  | .hbm, ⟨18, _⟩ => ⟨S2048x2048, .i32⟩
  | .hbm, ⟨19, _⟩ => ⟨S2048x2048, .i1⟩
  | .hbm, ⟨20, _⟩ => ⟨S2x16x2048x2048, .f32⟩
  | .hbm, ⟨21, _⟩ => ⟨S_, .f32⟩
  | .hbm, ⟨22, _⟩ => ⟨S_, .f32⟩
  | .hbm, ⟨23, _⟩ => ⟨S2x16x2048x2048, .i1⟩
  | .hbm, ⟨24, _⟩ => ⟨S2x16x2048x2048, .f32⟩
  | .hbm, ⟨25, _⟩ => ⟨S2x16x2048x2048, .f32⟩
  | .hbm, ⟨26, _⟩ => ⟨S_, .f32⟩
  | .hbm, ⟨27, _⟩ => ⟨S2x16x2048x2048, .f32⟩
  | .hbm, ⟨28, _⟩ => ⟨S_, .f32⟩
  | .hbm, ⟨29, _⟩ => ⟨S2x16x2048, .f32⟩
  | .hbm, ⟨30, _⟩ => ⟨S2x16x2048x1, .f32⟩
  | .hbm, ⟨31, _⟩ => ⟨S2x16x2048x2048, .f32⟩
  | .hbm, ⟨32, _⟩ => ⟨S2x16x2048x2048, .i1⟩
  | .hbm, ⟨33, _⟩ => ⟨S2x16x2048x2048, .f32⟩
  | .hbm, ⟨34, _⟩ => ⟨S_, .f32⟩
  | .hbm, ⟨35, _⟩ => ⟨S2x16x2048, .f32⟩
  | .hbm, ⟨36, _⟩ => ⟨S_, .f32⟩
  | .hbm, ⟨37, _⟩ => ⟨S2x16x2048, .f32⟩
  | .hbm, ⟨38, _⟩ => ⟨S2x16x2048, .f32⟩
  | .hbm, ⟨39, _⟩ => ⟨S_, .f32⟩
  | .hbm, ⟨40, _⟩ => ⟨S2x16x2048, .f32⟩
  | .hbm, ⟨41, _⟩ => ⟨S2x16x2048, .i1⟩
  | .hbm, ⟨42, _⟩ => ⟨S_, .f32⟩
  | .hbm, ⟨43, _⟩ => ⟨S2x16x2048, .f32⟩
  | .hbm, ⟨44, _⟩ => ⟨S2x16x2048, .i1⟩
  | .hbm, ⟨45, _⟩ => ⟨S_, .f32⟩
  | .hbm, ⟨46, _⟩ => ⟨S2x16x2048, .f32⟩
  | .hbm, ⟨47, _⟩ => ⟨S_, .f32⟩
  | .hbm, ⟨48, _⟩ => ⟨S2x16x2048, .f32⟩
  | .hbm, ⟨49, _⟩ => ⟨S_, .f32⟩
  | .hbm, ⟨50, _⟩ => ⟨S2x16x2048, .f32⟩
  | .hbm, ⟨51, _⟩ => ⟨S2x16x2048, .f32⟩
  | .hbm, ⟨52, _⟩ => ⟨S2x16x2048, .f32⟩
  | .hbm, ⟨53, _⟩ => ⟨S2x16x2048x1, .f32⟩
  | .hbm, ⟨54, _⟩ => ⟨S2x16x2048x2048, .f32⟩
  | .hbm, ⟨55, _⟩ => ⟨S2x16x2048x2048, .f32⟩
  | .hbm, ⟨56, _⟩ => ⟨S2x16x2048x2048, .f32⟩
  | .hbm, ⟨57, _⟩ => ⟨S_, .f32⟩
  | .hbm, ⟨58, _⟩ => ⟨S2x16x2048, .f32⟩
  | .hbm, ⟨59, _⟩ => ⟨S2x16x2048x1, .f32⟩
  | .hbm, ⟨60, _⟩ => ⟨S2x16x2048x2048, .f32⟩
  | .hbm, ⟨61, _⟩ => ⟨S2x16x2048x2048, .f32⟩
  | .hbm, ⟨62, _⟩ => ⟨S2x16x2048x1, .f32⟩
  | .hbm, ⟨63, _⟩ => ⟨S_, .f32⟩
  | .hbm, ⟨64, _⟩ => ⟨S2x16x2048x1, .f32⟩
  | .hbm, ⟨65, _⟩ => ⟨S2x16x2048x1, .f32⟩
  | .hbm, ⟨66, _⟩ => ⟨S2x16x64x2048, .f32⟩
  | .hbm, ⟨67, _⟩ => ⟨S2x2048x16x64, .f32⟩
  | .hbm, ⟨68, _⟩ => ⟨S2x16x64x2048, .f32⟩
  | .hbm, ⟨69, _⟩ => ⟨S2x16x2048x2048, .f32⟩
  | .hbm, ⟨70, _⟩ => ⟨S2x16x64x2048, .f32⟩
  | .hbm, ⟨71, _⟩ => ⟨S2x2048x16x64, .f32⟩
  | .hbm, ⟨72, _⟩ => ⟨S2x16x2048x2048, .f32⟩
  | .hbm, ⟨73, _⟩ => ⟨S2x16x2048x2048, .f32⟩
  | .hbm, ⟨74, _⟩ => ⟨S2x16x2048x2048, .f32⟩
  | .hbm, ⟨75, _⟩ => ⟨S_, .f32⟩
  | .hbm, ⟨76, _⟩ => ⟨S2x16x2048, .f32⟩
  | .hbm, ⟨77, _⟩ => ⟨S2x16x2048x1, .f32⟩
  | .hbm, ⟨78, _⟩ => ⟨S2x16x2048x1, .f32⟩
  | .hbm, ⟨79, _⟩ => ⟨S2x16x2048x2048, .f32⟩
  | .hbm, ⟨80, _⟩ => ⟨S2x16x2048x2048, .f32⟩
  | .hbm, ⟨81, _⟩ => ⟨S_, .f32⟩
  | .hbm, ⟨82, _⟩ => ⟨S2x16x2048, .f32⟩
  | .hbm, ⟨83, _⟩ => ⟨S2x16x2048x2048, .f32⟩
  | .hbm, ⟨84, _⟩ => ⟨S2x16x2048x2048, .f32⟩
  | .hbm, ⟨85, _⟩ => ⟨S2x16x2048x2048, .f32⟩
  | .hbm, ⟨86, _⟩ => ⟨S_, .f32⟩
  | .hbm, ⟨87, _⟩ => ⟨S2x16x2048x2048, .f32⟩
  | .hbm, ⟨88, _⟩ => ⟨S2x16x2048x2048, .f32⟩
  | .hbm, ⟨89, _⟩ => ⟨S_, .f32⟩
  | .hbm, ⟨90, _⟩ => ⟨S2x16x2048, .f32⟩
  | .hbm, ⟨91, _⟩ => ⟨S2x16x2048x1, .f32⟩
  | .hbm, ⟨92, _⟩ => ⟨S2x16x2048x2048, .f32⟩
  | .hbm, ⟨93, _⟩ => ⟨S_, .f32⟩
  | .hbm, ⟨94, _⟩ => ⟨S2x16x2048, .f32⟩
  | .hbm, ⟨95, _⟩ => ⟨S2x16x1x2048, .f32⟩
  | .hbm, ⟨96, _⟩ => ⟨S_, .f32⟩
  | .hbm, ⟨97, _⟩ => ⟨S2x16x2048, .f32⟩
  | .hbm, ⟨98, _⟩ => ⟨S2x2048x16, .f32⟩
  | .hbm, ⟨99, _⟩ => ⟨S_, .f32⟩
  | .hbm, ⟨100, _⟩ => ⟨S2x16x2048, .f32⟩
  | .hbm, ⟨101, _⟩ => ⟨S2x2048x16, .f32⟩
  | .hbm, ⟨102, _⟩ => ⟨S2x16x2048x64, .f32⟩
  | .hbm, ⟨103, _⟩ => ⟨S2x2048x16x64, .f32⟩
  | .hbm, ⟨104, _⟩ => ⟨S2x16x2048x64, .f32⟩
  | .hbm, ⟨105, _⟩ => ⟨S2x2048x16x64, .f32⟩
  | .hbm, ⟨106, _⟩ => ⟨S2x2048x16x1, .f32⟩
  | .hbm, ⟨107, _⟩ => ⟨S_, .f32⟩
  | .hbm, ⟨108, _⟩ => ⟨S2x2048x16x63, .f32⟩
  | .hbm, ⟨109, _⟩ => ⟨S2x2048x16x128, .f32⟩
  | .hbm, ⟨110, _⟩ => ⟨S2x16x2048x128, .f32⟩
  | .hbm, ⟨111, _⟩ => ⟨S_, .f32⟩
  | .hbm, ⟨112, _⟩ => ⟨S2x2048x16x3, .f32⟩
  | .hbm, ⟨113, _⟩ => ⟨S2x2048x16x1, .f32⟩
  | .hbm, ⟨114, _⟩ => ⟨S2x2048x16x1, .f32⟩
  | .hbm, ⟨115, _⟩ => ⟨S_, .f32⟩
  | .hbm, ⟨116, _⟩ => ⟨S2x2048x16x60, .f32⟩
  | .hbm, ⟨117, _⟩ => ⟨S2x2048x16x128, .f32⟩
  | .hbm, ⟨118, _⟩ => ⟨S2x16x2048x128, .f32⟩
  | .hbm, ⟨119, _⟩ => ⟨S_, .f32⟩
  | .hbm, ⟨120, _⟩ => ⟨S2x2048x16x64, .f32⟩
  | .hbm, ⟨121, _⟩ => ⟨S2x2048x16x128, .f32⟩
  | .hbm, ⟨122, _⟩ => ⟨S2x16x2048x128, .f32⟩
  | _, _ => ⟨S2x2048x16x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_v15 : Ref sig .tc := ⟨.hbm, 20, rfl⟩
abbrev main_cst : Ref sig .tc := ⟨.hbm, 21, rfl⟩
abbrev main_call0_v0 : Ref sig .tc := ⟨.hbm, 22, rfl⟩
abbrev main_v16_1 : Ref sig .tc := ⟨.hbm, 23, rfl⟩
abbrev main_call0_v2 : Ref sig .tc := ⟨.hbm, 24, rfl⟩
abbrev main_v16_0 : Ref sig .tc := ⟨.hbm, 25, rfl⟩
abbrev main_call0_cst : Ref sig .tc := ⟨.hbm, 26, rfl⟩
abbrev main_v16_2 : Ref sig .tc := ⟨.hbm, 27, rfl⟩
abbrev main_cst_0 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_1 : Ref sig .tc := ⟨.hbm, 34, rfl⟩
abbrev main_v22 : Ref sig .tc := ⟨.hbm, 35, rfl⟩
abbrev main_cst_2 : Ref sig .tc := ⟨.hbm, 36, rfl⟩
abbrev main_v23 : Ref sig .tc := ⟨.hbm, 37, rfl⟩
abbrev main_v24 : Ref sig .tc := ⟨.hbm, 38, rfl⟩
abbrev main_cst_3 : Ref sig .tc := ⟨.hbm, 39, rfl⟩
abbrev main_v25 : Ref sig .tc := ⟨.hbm, 40, rfl⟩
abbrev main_v26 : Ref sig .tc := ⟨.hbm, 41, rfl⟩
abbrev main_cst_4 : Ref sig .tc := ⟨.hbm, 42, rfl⟩
abbrev main_v27 : Ref sig .tc := ⟨.hbm, 43, rfl⟩
abbrev main_v28 : Ref sig .tc := ⟨.hbm, 44, rfl⟩
abbrev main_cst_5 : Ref sig .tc := ⟨.hbm, 45, rfl⟩
abbrev main_v29 : Ref sig .tc := ⟨.hbm, 46, rfl⟩
abbrev main_cst_6 : Ref sig .tc := ⟨.hbm, 47, rfl⟩
abbrev main_v30 : Ref sig .tc := ⟨.hbm, 48, rfl⟩
abbrev main_cst_7 : Ref sig .tc := ⟨.hbm, 49, rfl⟩
abbrev main_v31 : Ref sig .tc := ⟨.hbm, 50, rfl⟩
abbrev main_v32 : Ref sig .tc := ⟨.hbm, 51, rfl⟩
abbrev main_v33 : Ref sig .tc := ⟨.hbm, 52, rfl⟩
abbrev main_v34 : Ref sig .tc := ⟨.hbm, 53, rfl⟩
abbrev main_v35 : Ref sig .tc := ⟨.hbm, 54, rfl⟩
abbrev main_v36 : Ref sig .tc := ⟨.hbm, 55, rfl⟩
abbrev main_v37 : Ref sig .tc := ⟨.hbm, 56, rfl⟩
abbrev main_cst_8 : Ref sig .tc := ⟨.hbm, 57, rfl⟩
abbrev main_v38 : Ref sig .tc := ⟨.hbm, 58, rfl⟩
abbrev main_v39 : Ref sig .tc := ⟨.hbm, 59, rfl⟩
abbrev main_v40 : Ref sig .tc := ⟨.hbm, 60, rfl⟩
abbrev main_v41 : Ref sig .tc := ⟨.hbm, 61, rfl⟩
abbrev main_v42 : Ref sig .tc := ⟨.hbm, 62, rfl⟩
abbrev main_cst_9 : Ref sig .tc := ⟨.hbm, 63, rfl⟩
abbrev main_v43 : Ref sig .tc := ⟨.hbm, 64, rfl⟩
abbrev main_v44 : Ref sig .tc := ⟨.hbm, 65, rfl⟩
abbrev main_v45 : Ref sig .tc := ⟨.hbm, 66, rfl⟩
abbrev main_v46 : Ref sig .tc := ⟨.hbm, 67, rfl⟩
abbrev main_v47 : Ref sig .tc := ⟨.hbm, 68, rfl⟩
abbrev main_v48 : Ref sig .tc := ⟨.hbm, 69, rfl⟩
abbrev main_v49 : Ref sig .tc := ⟨.hbm, 70, rfl⟩
abbrev main_v50 : Ref sig .tc := ⟨.hbm, 71, rfl⟩
abbrev main_v51 : Ref sig .tc := ⟨.hbm, 72, rfl⟩
abbrev main_v52 : Ref sig .tc := ⟨.hbm, 73, rfl⟩
abbrev main_v53 : Ref sig .tc := ⟨.hbm, 74, rfl⟩
abbrev main_cst_10 : Ref sig .tc := ⟨.hbm, 75, rfl⟩
abbrev main_v54 : Ref sig .tc := ⟨.hbm, 76, rfl⟩
abbrev main_v55 : Ref sig .tc := ⟨.hbm, 77, rfl⟩
abbrev main_v56 : Ref sig .tc := ⟨.hbm, 78, rfl⟩
abbrev main_v57 : Ref sig .tc := ⟨.hbm, 79, rfl⟩
abbrev main_v58 : Ref sig .tc := ⟨.hbm, 80, rfl⟩
abbrev main_cst_11 : Ref sig .tc := ⟨.hbm, 81, rfl⟩
abbrev main_v59 : Ref sig .tc := ⟨.hbm, 82, rfl⟩
abbrev main_v60 : Ref sig .tc := ⟨.hbm, 83, rfl⟩
abbrev main_v61 : Ref sig .tc := ⟨.hbm, 84, rfl⟩
abbrev main_v62 : Ref sig .tc := ⟨.hbm, 85, rfl⟩
abbrev main_call1_cst : Ref sig .tc := ⟨.hbm, 86, rfl⟩
abbrev main_call1_v0 : Ref sig .tc := ⟨.hbm, 87, rfl⟩
abbrev main_v63 : Ref sig .tc := ⟨.hbm, 88, rfl⟩
abbrev main_cst_12 : Ref sig .tc := ⟨.hbm, 89, rfl⟩
abbrev main_v64 : Ref sig .tc := ⟨.hbm, 90, rfl⟩
abbrev main_v65 : Ref sig .tc := ⟨.hbm, 91, rfl⟩
abbrev main_v66 : Ref sig .tc := ⟨.hbm, 92, rfl⟩
abbrev main_cst_13 : Ref sig .tc := ⟨.hbm, 93, rfl⟩
abbrev main_v67 : Ref sig .tc := ⟨.hbm, 94, rfl⟩
abbrev main_v68 : Ref sig .tc := ⟨.hbm, 95, rfl⟩
abbrev main_cst_14 : Ref sig .tc := ⟨.hbm, 96, rfl⟩
abbrev main_v69 : Ref sig .tc := ⟨.hbm, 97, rfl⟩
abbrev main_v70 : Ref sig .tc := ⟨.hbm, 98, rfl⟩
abbrev main_cst_15 : Ref sig .tc := ⟨.hbm, 99, rfl⟩
abbrev main_v71 : Ref sig .tc := ⟨.hbm, 100, rfl⟩
abbrev main_v72 : Ref sig .tc := ⟨.hbm, 101, rfl⟩
abbrev main_v73 : Ref sig .tc := ⟨.hbm, 102, rfl⟩
abbrev main_v74 : Ref sig .tc := ⟨.hbm, 103, rfl⟩
abbrev main_v75 : Ref sig .tc := ⟨.hbm, 104, rfl⟩
abbrev main_v76 : Ref sig .tc := ⟨.hbm, 105, rfl⟩
abbrev main_v77 : Ref sig .tc := ⟨.hbm, 106, rfl⟩
abbrev main_cst_16 : Ref sig .tc := ⟨.hbm, 107, rfl⟩
abbrev main_v78 : Ref sig .tc := ⟨.hbm, 108, rfl⟩
abbrev main_v79 : Ref sig .tc := ⟨.hbm, 109, rfl⟩
abbrev main_v80 : Ref sig .tc := ⟨.hbm, 110, rfl⟩
abbrev main_cst_17 : Ref sig .tc := ⟨.hbm, 111, rfl⟩
abbrev main_v81 : Ref sig .tc := ⟨.hbm, 112, rfl⟩
abbrev main_v82 : Ref sig .tc := ⟨.hbm, 113, rfl⟩
abbrev main_v83 : Ref sig .tc := ⟨.hbm, 114, rfl⟩
abbrev main_cst_18 : Ref sig .tc := ⟨.hbm, 115, rfl⟩
abbrev main_v84 : Ref sig .tc := ⟨.hbm, 116, rfl⟩
abbrev main_v85 : Ref sig .tc := ⟨.hbm, 117, rfl⟩
abbrev main_v86 : Ref sig .tc := ⟨.hbm, 118, rfl⟩
abbrev main_cst_19 : Ref sig .tc := ⟨.hbm, 119, rfl⟩
abbrev main_v87 : Ref sig .tc := ⟨.hbm, 120, rfl⟩
abbrev main_v88 : Ref sig .tc := ⟨.hbm, 121, rfl⟩
abbrev main_v89 : Ref sig .tc := ⟨.hbm, 122, rfl⟩

abbrev nD : Nat := 1
abbrev τ : Topo := Topo.v7x

variable {F : FTy → Type} [FloatOps F]
-- ==== Kernel3.lean ====
abbrev S2x2048x7184 : Shape := ⟨3, ![2, 2048, 7184]⟩
abbrev S2x2048x16x64 : Shape := ⟨4, ![2, 2048, 16, 64]⟩
abbrev S2x2048x2048 : Shape := ⟨3, ![2, 2048, 2048]⟩
abbrev S4096x2048 : Shape := ⟨2, ![4096, 2048]⟩
abbrev S4096x1024 : Shape := ⟨2, ![4096, 1024]⟩
abbrev S2x2048x3072 : Shape := ⟨3, ![2, 2048, 3072]⟩
abbrev S2x2048x4096 : Shape := ⟨3, ![2, 2048, 4096]⟩
abbrev S2x2048x7168 : Shape := ⟨3, ![2, 2048, 7168]⟩
abbrev S4096x7168 : Shape := ⟨2, ![4096, 7168]⟩
abbrev S2x16x2048x128 : Shape := ⟨4, ![2, 16, 2048, 128]⟩
abbrev S256x1024 : Shape := ⟨2, ![256, 1024]⟩
abbrev S1x16x256x128 : Shape := ⟨4, ![1, 16, 256, 128]⟩
abbrev S256x128 : Shape := ⟨2, ![256, 128]⟩
abbrev S128x128 : Shape := ⟨2, ![128, 128]⟩
abbrev S256x1 : Shape := ⟨2, ![256, 1]⟩
abbrev S1x1x256x128 : Shape := ⟨4, ![1, 1, 256, 128]⟩

abbrev nBuf : Space → Nat
  | .hbm => 11
  | .vmem => 10
  | .smem => 0
  | _ => 0

abbrev bufTy : (tb : Table) → Fin (tcTables nBuf tb) → BufTy
  | .hbm, ⟨0, _⟩ => ⟨S2x2048x7184, .f32⟩
  | .hbm, ⟨1, _⟩ => ⟨S2x2048x16x64, .f32⟩
  | .hbm, ⟨2, _⟩ => ⟨S2x2048x2048, .f32⟩
  | .hbm, ⟨3, _⟩ => ⟨S4096x2048, .f32⟩
  | .hbm, ⟨4, _⟩ => ⟨S4096x1024, .f32⟩
  | .hbm, ⟨5, _⟩ => ⟨S2x2048x3072, .f32⟩
  | .hbm, ⟨6, _⟩ => ⟨S2x2048x4096, .f32⟩
  | .hbm, ⟨7, _⟩ => ⟨S2x2048x7168, .f32⟩
  | .hbm, ⟨8, _⟩ => ⟨S4096x7168, .f32⟩
  | .hbm, ⟨9, _⟩ => ⟨S4096x1024, .bf16⟩
  | .hbm, ⟨10, _⟩ => ⟨S2x16x2048x128, .bf16⟩
  | .local _ .vmem, ⟨0, _⟩ => ⟨S256x1024, .f32⟩
  | .local _ .vmem, ⟨1, _⟩ => ⟨S256x1024, .f32⟩
  | .local _ .vmem, ⟨2, _⟩ => ⟨S256x1024, .f32⟩
  | .local _ .vmem, ⟨3, _⟩ => ⟨S256x1024, .f32⟩
  | .local _ .vmem, ⟨4, _⟩ => ⟨S256x1024, .f32⟩
  | .local _ .vmem, ⟨5, _⟩ => ⟨S256x1024, .f32⟩
  | .local _ .vmem, ⟨6, _⟩ => ⟨S256x1024, .bf16⟩
  | .local _ .vmem, ⟨7, _⟩ => ⟨S256x1024, .bf16⟩
  | .local _ .vmem, ⟨8, _⟩ => ⟨S1x16x256x128, .bf16⟩
  | .local _ .vmem, ⟨9, _⟩ => ⟨S1x16x256x128, .bf16⟩
  | _, _ => ⟨S2x2048x7184, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6_0 : Ref sig .tc := ⟨.hbm, 9, rfl⟩
abbrev main_v6_1 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨2, ![2, 8], ![false, false]⟩

def cc0_transform_0 (i : grid0.Coords) : Fin 2 → Nat :=
  let arg0 : BitVec 32 := BitVec.ofNat 32 (i 0).val
  let arg1 : BitVec 32 := BitVec.ofNat 32 (i 1).val
  let c8_i32 : BitVec 32 := 8#32
  let v0 : BitVec 32 := Scalar.muli arg0 c8_i32
  let v1 : BitVec 32 := Scalar.addi v0 arg1
  let c0_i32 : BitVec 32 := 0#32
  let c0_i32_0 : BitVec 32 := 0#32
  ![v1.toNat, c0_i32.toNat]

def cc0_transform_1 (i : grid0.Coords) : Fin 2 → Nat :=
  let arg0 : BitVec 32 := BitVec.ofNat 32 (i 0).val
  let arg1 : BitVec 32 := BitVec.ofNat 32 (i 1).val
  let c8_i32 : BitVec 32 := 8#32
  let v0 : BitVec 32 := Scalar.muli arg0 c8_i32
  let v1 : BitVec 32 := Scalar.addi v0 arg1
  let c0_i32 : BitVec 32 := 0#32
  let c0_i32_0 : BitVec 32 := 0#32
  ![v1.toNat, c0_i32.toNat]

def cc0_transform_2 (i : grid0.Coords) : Fin 2 → Nat :=
  let arg0 : BitVec 32 := BitVec.ofNat 32 (i 0).val
  let arg1 : BitVec 32 := BitVec.ofNat 32 (i 1).val
  let c8_i32 : BitVec 32 := 8#32
  let v0 : BitVec 32 := Scalar.muli arg0 c8_i32
  let v1 : BitVec 32 := Scalar.addi v0 arg1
  let c3_i32 : BitVec 32 := 3#32
  let c0_i32 : BitVec 32 := 0#32
  ![v1.toNat, c3_i32.toNat]

def cc0_transform_3 (i : grid0.Coords) : Fin 2 → Nat :=
  let arg0 : BitVec 32 := BitVec.ofNat 32 (i 0).val
  let arg1 : BitVec 32 := BitVec.ofNat 32 (i 1).val
  let c8_i32 : BitVec 32 := 8#32
  let v0 : BitVec 32 := Scalar.muli arg0 c8_i32
  let v1 : BitVec 32 := Scalar.addi v0 arg1
  let c0_i32 : BitVec 32 := 0#32
  let c0_i32_0 : BitVec 32 := 0#32
  ![v1.toNat, c0_i32.toNat]

def cc0_transform_4 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, arg1.toNat, c0_i32_0.toNat]

abbrev stage0_0 : Fin 2 → Memref sig .tc .vmem S256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S256x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S256x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S256x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x16x256x128 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]
-- ==== Reference3Ideal.lean ====
abbrev S2x2048x7184 : Shape := ⟨3, ![2, 2048, 7184]⟩
abbrev S2x2048x16x64 : Shape := ⟨4, ![2, 2048, 16, 64]⟩
abbrev S2x2048x2048 : Shape := ⟨3, ![2, 2048, 2048]⟩
abbrev S2x2048x1024 : Shape := ⟨3, ![2, 2048, 1024]⟩
abbrev S_ : Shape := ⟨0, ![]⟩
abbrev S2x2048x16 : Shape := ⟨3, ![2, 2048, 16]⟩
abbrev S2x2048x16x1 : Shape := ⟨4, ![2, 2048, 16, 1]⟩
abbrev S2x2048x16x63 : Shape := ⟨4, ![2, 2048, 16, 63]⟩
abbrev S2x2048x16x128 : Shape := ⟨4, ![2, 2048, 16, 128]⟩
abbrev S4096x1024 : Shape := ⟨2, ![4096, 1024]⟩
abbrev S2x16x2048x128 : Shape := ⟨4, ![2, 16, 2048, 128]⟩

abbrev nBuf : Space → Nat
  | .hbm => 39
  | .vmem => 0
  | .smem => 0
  | _ => 0

abbrev bufTy : (tb : Table) → Fin (tcTables nBuf tb) → BufTy
  | .hbm, ⟨0, _⟩ => ⟨S2x2048x7184, .f32⟩
  | .hbm, ⟨1, _⟩ => ⟨S2x2048x16x64, .f32⟩
  | .hbm, ⟨2, _⟩ => ⟨S2x2048x2048, .f32⟩
  | .hbm, ⟨3, _⟩ => ⟨S2x2048x1024, .f32⟩
  | .hbm, ⟨4, _⟩ => ⟨S2x2048x1024, .f32⟩
  | .hbm, ⟨5, _⟩ => ⟨S2x2048x1024, .f32⟩
  | .hbm, ⟨6, _⟩ => ⟨S2x2048x1024, .f32⟩
  | .hbm, ⟨7, _⟩ => ⟨S_, .f32⟩
  | .hbm, ⟨8, _⟩ => ⟨S2x2048x1024, .f32⟩
  | .hbm, ⟨9, _⟩ => ⟨S2x2048x1024, .f32⟩
  | .hbm, ⟨10, _⟩ => ⟨S_, .f32⟩
  | .hbm, ⟨11, _⟩ => ⟨S2x2048x1024, .f32⟩
  | .hbm, ⟨12, _⟩ => ⟨S2x2048x1024, .f32⟩
  | .hbm, ⟨13, _⟩ => ⟨S_, .f32⟩
  | .hbm, ⟨14, _⟩ => ⟨S2x2048x1024, .f32⟩
  | .hbm, ⟨15, _⟩ => ⟨S2x2048x1024, .f32⟩
  | .hbm, ⟨16, _⟩ => ⟨S2x2048x1024, .f32⟩
  | .hbm, ⟨17, _⟩ => ⟨S2x2048x1024, .f32⟩
  | .hbm, ⟨18, _⟩ => ⟨S2x2048x1024, .f32⟩
  | .hbm, ⟨19, _⟩ => ⟨S2x2048x1024, .f32⟩
  | .hbm, ⟨20, _⟩ => ⟨S2x2048x1024, .f32⟩
  | .hbm, ⟨21, _⟩ => ⟨S2x2048x1024, .f32⟩
  | .hbm, ⟨22, _⟩ => ⟨S2x2048x1024, .f32⟩
  | .hbm, ⟨23, _⟩ => ⟨S2x2048x1024, .f32⟩
  | .hbm, ⟨24, _⟩ => ⟨S2x2048x1024, .f32⟩
  | .hbm, ⟨25, _⟩ => ⟨S2x2048x1024, .f32⟩
  | .hbm, ⟨26, _⟩ => ⟨S2x2048x16x64, .f32⟩
  | .hbm, ⟨27, _⟩ => ⟨S2x2048x16x64, .f32⟩
  | .hbm, ⟨28, _⟩ => ⟨S_, .f32⟩
  | .hbm, ⟨29, _⟩ => ⟨S2x2048x16, .f32⟩
  | .hbm, ⟨30, _⟩ => ⟨S2x2048x16x1, .f32⟩
  | .hbm, ⟨31, _⟩ => ⟨S2x2048x16x1, .f32⟩
  | .hbm, ⟨32, _⟩ => ⟨S_, .f32⟩
  | .hbm, ⟨33, _⟩ => ⟨S2x2048x16x63, .f32⟩
  | .hbm, ⟨34, _⟩ => ⟨S2x2048x16x128, .f32⟩
  | .hbm, ⟨35, _⟩ => ⟨S4096x1024, .f32⟩
  | .hbm, ⟨36, _⟩ => ⟨S4096x1024, .bf16⟩
  | .hbm, ⟨37, _⟩ => ⟨S2x16x2048x128, .f32⟩
  | .hbm, ⟨38, _⟩ => ⟨S2x16x2048x128, .bf16⟩
  | _, _ => ⟨S2x2048x7184, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_call0_v0 : Ref sig .tc := ⟨.hbm, 5, rfl⟩
abbrev main_call0_v1 : Ref sig .tc := ⟨.hbm, 6, rfl⟩
abbrev main_call0_cst : Ref sig .tc := ⟨.hbm, 7, rfl⟩
abbrev main_call0_v2 : Ref sig .tc := ⟨.hbm, 8, rfl⟩
abbrev main_call0_v3 : Ref sig .tc := ⟨.hbm, 9, rfl⟩
abbrev main_call0_cst_0 : Ref sig .tc := ⟨.hbm, 10, rfl⟩
abbrev main_call0_v4 : Ref sig .tc := ⟨.hbm, 11, rfl⟩
abbrev main_v2_2 : Ref sig .tc := ⟨.hbm, 12, rfl⟩
abbrev main_call0_cst_1 : Ref sig .tc := ⟨.hbm, 13, rfl⟩
abbrev main_call0_v6 : Ref sig .tc := ⟨.hbm, 14, rfl⟩
abbrev main_call0_v7 : Ref sig .tc := ⟨.hbm, 15, rfl⟩
abbrev main_v2_1 : Ref sig .tc := ⟨.hbm, 16, rfl⟩
abbrev main_v2_0 : Ref sig .tc := ⟨.hbm, 17, rfl⟩
abbrev main_v3 : Ref sig .tc := ⟨.hbm, 18, rfl⟩
abbrev main_v4 : Ref sig .tc := ⟨.hbm, 19, rfl⟩
abbrev main_v5 : Ref sig .tc := ⟨.hbm, 20, rfl⟩
abbrev main_v6 : Ref sig .tc := ⟨.hbm, 21, rfl⟩
abbrev main_call1_v0 : Ref sig .tc := ⟨.hbm, 22, rfl⟩
abbrev main_call1_v1 : Ref sig .tc := ⟨.hbm, 23, rfl⟩
abbrev main_call1_v2 : Ref sig .tc := ⟨.hbm, 24, rfl⟩
abbrev main_v7 : Ref sig .tc := ⟨.hbm, 25, rfl⟩
abbrev main_v8 : Ref sig .tc := ⟨.hbm, 26, rfl⟩
abbrev main_v9 : Ref sig .tc := ⟨.hbm, 27, rfl⟩
abbrev main_cst : Ref sig .tc := ⟨.hbm, 28, rfl⟩
abbrev main_v10 : Ref sig .tc := ⟨.hbm, 29, rfl⟩
abbrev main_v11 : Ref sig .tc := ⟨.hbm, 30, rfl⟩
abbrev main_v12 : Ref sig .tc := ⟨.hbm, 31, rfl⟩
abbrev main_cst_0 : Ref sig .tc := ⟨.hbm, 32, rfl⟩
abbrev main_v13 : Ref sig .tc := ⟨.hbm, 33, rfl⟩
abbrev main_v14 : Ref sig .tc := ⟨.hbm, 34, rfl⟩
abbrev main_v15 : Ref sig .tc := ⟨.hbm, 35, rfl⟩
abbrev main_v16 : Ref sig .tc := ⟨.hbm, 36, rfl⟩
abbrev main_v17 : Ref sig .tc := ⟨.hbm, 37, rfl⟩
abbrev main_v18 : Ref sig .tc := ⟨.hbm, 38, rfl⟩

abbrev nD : Nat := 1
abbrev τ : Topo := Topo.v7x

variable {F : FTy → Type} [FloatOps F]
-- ==== Kernel4.lean ====
abbrev S2x2048x1024 : Shape := ⟨3, ![2, 2048, 1024]⟩
abbrev S1x1024 : Shape := ⟨2, ![1, 1024]⟩
abbrev S1x1024x7184 : Shape := ⟨3, ![1, 1024, 7184]⟩
abbrev S2x2048x7184 : Shape := ⟨3, ![2, 2048, 7184]⟩
abbrev S2x2048x3072 : Shape := ⟨3, ![2, 2048, 3072]⟩
abbrev S2x2048x4096 : Shape := ⟨3, ![2, 2048, 4096]⟩
abbrev S2x2048x7168 : Shape := ⟨3, ![2, 2048, 7168]⟩
abbrev S4096x7168 : Shape := ⟨2, ![4096, 7168]⟩
abbrev S4096x1024 : Shape := ⟨2, ![4096, 1024]⟩
abbrev S2x2048x16 : Shape := ⟨3, ![2, 2048, 16]⟩
abbrev S4096x16 : Shape := ⟨2, ![4096, 16]⟩
abbrev S_ : Shape := ⟨0, ![]⟩
abbrev S4096x128 : Shape := ⟨2, ![4096, 128]⟩
abbrev S1024x7184 : Shape := ⟨2, ![1024, 7184]⟩
abbrev S7184x1024 : Shape := ⟨2, ![7184, 1024]⟩
abbrev S3072x1024 : Shape := ⟨2, ![3072, 1024]⟩
abbrev S7168x1024 : Shape := ⟨2, ![7168, 1024]⟩
abbrev S16x1024 : Shape := ⟨2, ![16, 1024]⟩
abbrev S128x1024 : Shape := ⟨2, ![128, 1024]⟩
abbrev S8x1024 : Shape := ⟨2, ![8, 1024]⟩
abbrev S512x1024 : Shape := ⟨2, ![512, 1024]⟩
abbrev S512x128 : Shape := ⟨2, ![512, 128]⟩
abbrev S1024x1024 : Shape := ⟨2, ![1024, 1024]⟩
abbrev S512 : Shape := ⟨1, ![512]⟩
abbrev S512x1 : Shape := ⟨2, ![512, 1]⟩
abbrev S1024 : Shape := ⟨1, ![1024]⟩

abbrev nBuf : Space → Nat
  | .hbm => 37
  | .vmem => 27
  | .smem => 0
  | _ => 0

abbrev bufTy : (tb : Table) → Fin (tcTables nBuf tb) → BufTy
  | .hbm, ⟨0, _⟩ => ⟨S2x2048x1024, .f32⟩
  | .hbm, ⟨1, _⟩ => ⟨S1x1024, .f32⟩
  | .hbm, ⟨2, _⟩ => ⟨S1x1024x7184, .f32⟩
  | .hbm, ⟨3, _⟩ => ⟨S2x2048x7184, .f32⟩
  | .hbm, ⟨4, _⟩ => ⟨S2x2048x1024, .f32⟩
  | .hbm, ⟨5, _⟩ => ⟨S2x2048x3072, .f32⟩
  | .hbm, ⟨6, _⟩ => ⟨S2x2048x4096, .f32⟩
  | .hbm, ⟨7, _⟩ => ⟨S2x2048x7168, .f32⟩
  | .hbm, ⟨8, _⟩ => ⟨S4096x7168, .f32⟩
  | .hbm, ⟨9, _⟩ => ⟨S4096x7168, .bf16⟩
  | .hbm, ⟨10, _⟩ => ⟨S4096x1024, .bf16⟩
  | .hbm, ⟨11, _⟩ => ⟨S4096x1024, .bf16⟩
  | .hbm, ⟨12, _⟩ => ⟨S4096x1024, .bf16⟩
  | .hbm, ⟨13, _⟩ => ⟨S4096x1024, .bf16⟩
  | .hbm, ⟨14, _⟩ => ⟨S4096x1024, .bf16⟩
  | .hbm, ⟨15, _⟩ => ⟨S4096x1024, .bf16⟩
  | .hbm, ⟨16, _⟩ => ⟨S4096x1024, .bf16⟩
  | .hbm, ⟨17, _⟩ => ⟨S2x2048x16, .f32⟩
  | .hbm, ⟨18, _⟩ => ⟨S4096x16, .f32⟩
  | .hbm, ⟨19, _⟩ => ⟨S_, .i32⟩
  | .hbm, ⟨20, _⟩ => ⟨S_, .f32⟩
  | .hbm, ⟨21, _⟩ => ⟨S4096x128, .f32⟩
  | .hbm, ⟨22, _⟩ => ⟨S4096x128, .bf16⟩
  | .hbm, ⟨23, _⟩ => ⟨S1024x7184, .f32⟩
  | .hbm, ⟨24, _⟩ => ⟨S7184x1024, .f32⟩
  | .hbm, ⟨25, _⟩ => ⟨S7184x1024, .bf16⟩
  | .hbm, ⟨26, _⟩ => ⟨S3072x1024, .bf16⟩
  | .hbm, ⟨27, _⟩ => ⟨S4096x1024, .bf16⟩
  | .hbm, ⟨28, _⟩ => ⟨S7168x1024, .bf16⟩
  | .hbm, ⟨29, _⟩ => ⟨S16x1024, .bf16⟩
  | .hbm, ⟨30, _⟩ => ⟨S_, .i32⟩
  | .hbm, ⟨31, _⟩ => ⟨S_, .bf16⟩
  | .hbm, ⟨32, _⟩ => ⟨S128x1024, .bf16⟩
  | .hbm, ⟨33, _⟩ => ⟨S4096x1024, .f32⟩
  | .hbm, ⟨34, _⟩ => ⟨S4096x1024, .f32⟩
  | .hbm, ⟨35, _⟩ => ⟨S4096x1024, .f32⟩
  | .hbm, ⟨36, _⟩ => ⟨S8x1024, .f32⟩
  | .local _ .vmem, ⟨0, _⟩ => ⟨S512x1024, .bf16⟩
  | .local _ .vmem, ⟨1, _⟩ => ⟨S512x1024, .bf16⟩
  | .local _ .vmem, ⟨2, _⟩ => ⟨S512x1024, .bf16⟩
  | .local _ .vmem, ⟨3, _⟩ => ⟨S512x1024, .bf16⟩
  | .local _ .vmem, ⟨4, _⟩ => ⟨S512x1024, .bf16⟩
  | .local _ .vmem, ⟨5, _⟩ => ⟨S512x1024, .bf16⟩
  | .local _ .vmem, ⟨6, _⟩ => ⟨S512x1024, .bf16⟩
  | .local _ .vmem, ⟨7, _⟩ => ⟨S512x1024, .bf16⟩
  | .local _ .vmem, ⟨8, _⟩ => ⟨S512x1024, .bf16⟩
  | .local _ .vmem, ⟨9, _⟩ => ⟨S512x1024, .bf16⟩
  | .local _ .vmem, ⟨10, _⟩ => ⟨S512x1024, .bf16⟩
  | .local _ .vmem, ⟨11, _⟩ => ⟨S512x1024, .bf16⟩
  | .local _ .vmem, ⟨12, _⟩ => ⟨S512x1024, .bf16⟩
  | .local _ .vmem, ⟨13, _⟩ => ⟨S512x1024, .bf16⟩
  | .local _ .vmem, ⟨14, _⟩ => ⟨S512x128, .bf16⟩
  | .local _ .vmem, ⟨15, _⟩ => ⟨S512x128, .bf16⟩
  | .local _ .vmem, ⟨16, _⟩ => ⟨S1024x1024, .bf16⟩
  | .local _ .vmem, ⟨17, _⟩ => ⟨S1024x1024, .bf16⟩
  | .local _ .vmem, ⟨18, _⟩ => ⟨S128x1024, .bf16⟩
  | .local _ .vmem, ⟨19, _⟩ => ⟨S512x1024, .f32⟩
  | .local _ .vmem, ⟨20, _⟩ => ⟨S512x1024, .f32⟩
  | .local _ .vmem, ⟨21, _⟩ => ⟨S1x1024, .f32⟩
  | .local _ .vmem, ⟨22, _⟩ => ⟨S512x1024, .f32⟩
  | .local _ .vmem, ⟨23, _⟩ => ⟨S512x1024, .f32⟩
  | .local _ .vmem, ⟨24, _⟩ => ⟨S512x1024, .f32⟩
  | .local _ .vmem, ⟨25, _⟩ => ⟨S512x1024, .f32⟩
  | .local _ .vmem, ⟨26, _⟩ => ⟨S8x1024, .f32⟩
  | _, _ => ⟨S2x2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | _, _ => false

abbrev semScoped : Fin 0 → Bool
  | ⟨_, h⟩ => absurd h (Nat.not_lt_zero _)

abbrev dmaSemScoped : Fin 27 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | _ => false

abbrev sig : RefSig :=
  ofTc nBuf bufTy 0 27 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_c : Ref sig .tc := ⟨.hbm, 19, rfl⟩
abbrev main_call0_v0 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩
abbrev main_v21 : Ref sig .tc := ⟨.hbm, 28, rfl⟩
abbrev main_v22 : Ref sig .tc := ⟨.hbm, 29, rfl⟩
abbrev main_c_0 : Ref sig .tc := ⟨.hbm, 30, rfl⟩
abbrev main_call1_v0 : Ref sig .tc := ⟨.hbm, 31, rfl⟩
abbrev main_v23 : Ref sig .tc := ⟨.hbm, 32, rfl⟩
abbrev main_v24 : Ref sig .tc := ⟨.hbm, 33, rfl⟩
abbrev main_v25 : Ref sig .tc := ⟨.hbm, 34, rfl⟩
abbrev main_v26_0 : Ref sig .tc := ⟨.hbm, 35, rfl⟩
abbrev main_v26_1 : Ref sig .tc := ⟨.hbm, 36, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_stg9_0 : Ref sig .tc := ⟨.vmem, 18, rfl⟩
abbrev cc0_stg10_0 : Ref sig .tc := ⟨.vmem, 19, rfl⟩
abbrev cc0_stg10_1 : Ref sig .tc := ⟨.vmem, 20, rfl⟩
abbrev cc0_stg11_0 : Ref sig .tc := ⟨.vmem, 21, rfl⟩
abbrev cc0_stg12_0 : Ref sig .tc := ⟨.vmem, 22, rfl⟩
abbrev cc0_stg12_1 : Ref sig .tc := ⟨.vmem, 23, rfl⟩
abbrev cc0_stg13_0 : Ref sig .tc := ⟨.vmem, 24, rfl⟩
abbrev cc0_stg13_1 : Ref sig .tc := ⟨.vmem, 25, rfl⟩
abbrev cc0_stg14_0 : Ref sig .tc := ⟨.vmem, 26, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17
abbrev cc0_sem9_0 : DmaSem sig := 18
abbrev cc0_sem10_0 : DmaSem sig := 19
abbrev cc0_sem10_1 : DmaSem sig := 20
abbrev cc0_sem11_0 : DmaSem sig := 21
abbrev cc0_sem12_0 : DmaSem sig := 22
abbrev cc0_sem12_1 : DmaSem sig := 23
abbrev cc0_sem13_0 : DmaSem sig := 24
abbrev cc0_sem13_1 : DmaSem sig := 25
abbrev cc0_sem14_0 : DmaSem sig := 26

abbrev nD : Nat := 1
abbrev τ : Topo := Topo.v7x

variable {F : FTy → Type} [FloatOps F]

abbrev grid0 : Pipeline.Grid := ⟨2, ![8, 7], ![false, false]⟩

def k0_cond2 (i : grid0.Coords) : BitVec 1 :=
  let arg1 : BitVec 32 := BitVec.ofNat 32 (i 1).val
  let c0_i32_2 : BitVec 32 := 0#32
  let v5 : BitVec 1 := Scalar.cmpi .eq arg1 c0_i32_2
  let v6 : BitVec 32 := Scalar.extui v5
  let c0_i32_3 : BitVec 32 := 0#32
  let v7 : BitVec 1 := Scalar.cmpi .ne v6 c0_i32_3
  v7

def k0_cond3 (i : grid0.Coords) : BitVec 1 :=
  let arg1 : BitVec 32 := BitVec.ofNat 32 (i 1).val
  let c0_i32_4 : BitVec 32 := 0#32
  let v8 : BitVec 1 := Scalar.cmpi .eq arg1 c0_i32_4
  let v9 : BitVec 32 := Scalar.extui v8
  let c0_i32_5 : BitVec 32 := 0#32
  let v10 : BitVec 1 := Scalar.cmpi .ne v9 c0_i32_5
  v10

def k0_cond4 (i : grid0.Coords) : BitVec 1 :=
  let arg1 : BitVec 32 := BitVec.ofNat 32 (i 1).val
  let c1_i32 : BitVec 32 := 1#32
  let v11 : BitVec 1 := Scalar.cmpi .eq arg1 c1_i32
  let v12 : BitVec 32 := Scalar.extui v11
  let c0_i32_6 : BitVec 32 := 0#32
  let v13 : BitVec 1 := Scalar.cmpi .ne v12 c0_i32_6
  v13

def k0_cond5 (i : grid0.Coords) : BitVec 1 :=
  let arg1 : BitVec 32 := BitVec.ofNat 32 (i 1).val
  let c2_i32 : BitVec 32 := 2#32
  let v14 : BitVec 1 := Scalar.cmpi .eq arg1 c2_i32
  let v15 : BitVec 32 := Scalar.extui v14
  let c0_i32_7 : BitVec 32 := 0#32
  let v16 : BitVec 1 := Scalar.cmpi .ne v15 c0_i32_7
  v16

def k0_cond6 (i : grid0.Coords) : BitVec 1 :=
  let arg1 : BitVec 32 := BitVec.ofNat 32 (i 1).val
  let c3_i32 : BitVec 32 := 3#32
  let v17 : BitVec 1 := Scalar.cmpi .eq arg1 c3_i32
  let v18 : BitVec 32 := Scalar.extui v17
  let c0_i32_8 : BitVec 32 := 0#32
  let v19 : BitVec 1 := Scalar.cmpi .ne v18 c0_i32_8
  v19

def k0_cond7 (i : grid0.Coords) : BitVec 1 :=
  let arg1 : BitVec 32 := BitVec.ofNat 32 (i 1).val
  let c4_i32 : BitVec 32 := 4#32
  let v20 : BitVec 1 := Scalar.cmpi .eq arg1 c4_i32
  let v21 : BitVec 32 := Scalar.extui v20
  let c0_i32_9 : BitVec 32 := 0#32
  let v22 : BitVec 1 := Scalar.cmpi .ne v21 c0_i32_9
  v22

def k0_cond8 (i : grid0.Coords) : BitVec 1 :=
  let arg1 : BitVec 32 := BitVec.ofNat 32 (i 1).val
  let c5_i32 : BitVec 32 := 5#32
  let v23 : BitVec 1 := Scalar.cmpi .eq arg1 c5_i32
  let v24 : BitVec 32 := Scalar.extui v23
  let c0_i32_10 : BitVec 32 := 0#32
  let v25 : BitVec 1 := Scalar.cmpi .ne v24 c0_i32_10
  v25

def k0_cond9 (i : grid0.Coords) : BitVec 1 :=
  let arg1 : BitVec 32 := BitVec.ofNat 32 (i 1).val
  let c6_i32 : BitVec 32 := 6#32
  let v26 : BitVec 1 := Scalar.cmpi .eq arg1 c6_i32
  let v27 : BitVec 32 := Scalar.extui v26
  let c0_i32_11 : BitVec 32 := 0#32
  let v28 : BitVec 1 := Scalar.cmpi .ne v27 c0_i32_11
  v28

def k0_cond10 (i : grid0.Coords) : BitVec 1 :=
  let arg1 : BitVec 32 := BitVec.ofNat 32 (i 1).val
  let c6_i32_12 : BitVec 32 := 6#32
  let v29 : BitVec 1 := Scalar.cmpi .eq arg1 c6_i32_12
  let v30 : BitVec 32 := Scalar.extui v29
  let c0_i32_13 : BitVec 32 := 0#32
  let v31 : BitVec 1 := Scalar.cmpi .ne v30 c0_i32_13
  v31

def k0_cond1 (i : grid0.Coords) : BitVec 1 :=
  let arg0 : BitVec 32 := BitVec.ofNat 32 (i 0).val
  let c0_i32 : BitVec 32 := 0#32
  let v0 : BitVec 1 := Scalar.cmpi .eq arg0 c0_i32
  let arg1 : BitVec 32 := BitVec.ofNat 32 (i 1).val
  let c0_i32_0 : BitVec 32 := 0#32
  let v1 : BitVec 1 := Scalar.cmpi .eq arg1 c0_i32_0
  let v2 : BitVec 1 := Scalar.andi v0 v1
  let v3 : BitVec 32 := Scalar.extui v2
  let c0_i32_1 : BitVec 32 := 0#32
  let v4 : BitVec 1 := Scalar.cmpi .ne v3 c0_i32_1
  v4

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_9 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_11 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_13 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_14 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S512x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S512x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S512x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 2 → Memref sig .tc .vmem S512x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

abbrev stage0_5 : Fin 2 → Memref sig .tc .vmem S512x1024 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]

abbrev stage0_6 : Fin 2 → Memref sig .tc .vmem S512x1024 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, false]

abbrev stage0_7 : Fin 2 → Memref sig .tc .vmem S512x128 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, false]

abbrev stage0_8 : Fin 2 → Memref sig .tc .vmem S1024x1024 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![false, true]

abbrev stage0_9 : Fin 1 → Memref sig .tc .vmem S128x1024 .bf16 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false, false]

abbrev stage0_10 : Fin 2 → Memref sig .tc .vmem S512x1024 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, false]

abbrev stage0_11 : Fin 1 → Memref sig .tc .vmem S1x1024 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false, false]

abbrev stage0_12 : Fin 2 → Memref sig .tc .vmem S512x1024 .f32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true, false]

abbrev stage0_13 : Fin 2 → Memref sig .tc .vmem S512x1024 .f32 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true, false]

abbrev stage0_14 : Fin 1 → Memref sig .tc .vmem S8x1024 .f32 := fun | 0 => Memref.whole cc0_stg14_0 | ⟨_ + 1, h⟩ => absurd h (Nat.not_lt.2 (Nat.le_add_left _ _))
abbrev sem0_14 : Fin 1 → DmaSem sig := fun | 0 => cc0_sem14_0 | ⟨_ + 1, h⟩ => absurd h (Nat.not_lt.2 (Nat.le_add_left _ _))
abbrev reads0_14 : Fin grid0.rank → Bool := ![false, false]
-- ==== Reference4Ideal.lean ====
abbrev S2x2048x1024 : Shape := ⟨3, ![2, 2048, 1024]⟩
abbrev S1x1024 : Shape := ⟨2, ![1, 1024]⟩
abbrev S1x1024x7184 : Shape := ⟨3, ![1, 1024, 7184]⟩
abbrev S2x2048x7184 : Shape := ⟨3, ![2, 2048, 7184]⟩
abbrev S1024 : Shape := ⟨1, ![1024]⟩
abbrev S_ : Shape := ⟨0, ![]⟩
abbrev S2x2048 : Shape := ⟨2, ![2, 2048]⟩
abbrev S2x2048x1 : Shape := ⟨3, ![2, 2048, 1]⟩
abbrev S1x1x1024 : Shape := ⟨3, ![1, 1, 1024]⟩
abbrev S1024x7184 : Shape := ⟨2, ![1024, 7184]⟩
abbrev S7184x1024 : Shape := ⟨2, ![7184, 1024]⟩
abbrev S4096x1024 : Shape := ⟨2, ![4096, 1024]⟩
abbrev S8x1024 : Shape := ⟨2, ![8, 1024]⟩

abbrev nBuf : Space → Nat
  | .hbm => 63
  | .vmem => 0
  | .smem => 0
  | _ => 0

abbrev bufTy : (tb : Table) → Fin (tcTables nBuf tb) → BufTy
  | .hbm, ⟨0, _⟩ => ⟨S2x2048x1024, .f32⟩
  | .hbm, ⟨1, _⟩ => ⟨S1x1024, .f32⟩
  | .hbm, ⟨2, _⟩ => ⟨S1x1024x7184, .f32⟩
  | .hbm, ⟨3, _⟩ => ⟨S2x2048x7184, .f32⟩
  | .hbm, ⟨4, _⟩ => ⟨S2x2048x1024, .f32⟩
  | .hbm, ⟨5, _⟩ => ⟨S1024, .f32⟩
  | .hbm, ⟨6, _⟩ => ⟨S2x2048x1024, .f32⟩
  | .hbm, ⟨7, _⟩ => ⟨S_, .f32⟩
  | .hbm, ⟨8, _⟩ => ⟨S2x2048, .f32⟩
  | .hbm, ⟨9, _⟩ => ⟨S2x2048x1, .f32⟩
  | .hbm, ⟨10, _⟩ => ⟨S_, .f32⟩
  | .hbm, ⟨11, _⟩ => ⟨S2x2048x1, .f32⟩
  | .hbm, ⟨12, _⟩ => ⟨S2x2048x1, .f32⟩
  | .hbm, ⟨13, _⟩ => ⟨S_, .f32⟩
  | .hbm, ⟨14, _⟩ => ⟨S2x2048x1, .f32⟩
  | .hbm, ⟨15, _⟩ => ⟨S2x2048x1, .f32⟩
  | .hbm, ⟨16, _⟩ => ⟨S2x2048x1, .f32⟩
  | .hbm, ⟨17, _⟩ => ⟨S2x2048x1, .f32⟩
  | .hbm, ⟨18, _⟩ => ⟨S_, .f32⟩
  | .hbm, ⟨19, _⟩ => ⟨S2x2048x1, .f32⟩
  | .hbm, ⟨20, _⟩ => ⟨S2x2048x1, .f32⟩
  | .hbm, ⟨21, _⟩ => ⟨S2x2048x1024, .f32⟩
  | .hbm, ⟨22, _⟩ => ⟨S2x2048x1024, .f32⟩
  | .hbm, ⟨23, _⟩ => ⟨S1x1x1024, .f32⟩
  | .hbm, ⟨24, _⟩ => ⟨S2x2048x1024, .f32⟩
  | .hbm, ⟨25, _⟩ => ⟨S2x2048x1024, .f32⟩
  | .hbm, ⟨26, _⟩ => ⟨S1024x7184, .f32⟩
  | .hbm, ⟨27, _⟩ => ⟨S2x2048x7184, .f32⟩
  | .hbm, ⟨28, _⟩ => ⟨S7184x1024, .f32⟩
  | .hbm, ⟨29, _⟩ => ⟨S1024x7184, .f32⟩
  | .hbm, ⟨30, _⟩ => ⟨S2x2048x1024, .f32⟩
  | .hbm, ⟨31, _⟩ => ⟨S1x1024x7184, .f32⟩
  | .hbm, ⟨32, _⟩ => ⟨S2x2048x1024, .f32⟩
  | .hbm, ⟨33, _⟩ => ⟨S_, .f32⟩
  | .hbm, ⟨34, _⟩ => ⟨S1024, .f32⟩
  | .hbm, ⟨35, _⟩ => ⟨S1x1x1024, .f32⟩
  | .hbm, ⟨36, _⟩ => ⟨S2x2048x1024, .f32⟩
  | .hbm, ⟨37, _⟩ => ⟨S2x2048x1024, .f32⟩
  | .hbm, ⟨38, _⟩ => ⟨S_, .f32⟩
  | .hbm, ⟨39, _⟩ => ⟨S1024, .f32⟩
  | .hbm, ⟨40, _⟩ => ⟨S2x2048x1024, .f32⟩
  | .hbm, ⟨41, _⟩ => ⟨S_, .f32⟩
  | .hbm, ⟨42, _⟩ => ⟨S2x2048, .f32⟩
  | .hbm, ⟨43, _⟩ => ⟨S2x2048x1, .f32⟩
  | .hbm, ⟨44, _⟩ => ⟨S2x2048x1024, .f32⟩
  | .hbm, ⟨45, _⟩ => ⟨S2x2048x1024, .f32⟩
  | .hbm, ⟨46, _⟩ => ⟨S2x2048x1024, .f32⟩
  | .hbm, ⟨47, _⟩ => ⟨S2x2048x1, .f32⟩
  | .hbm, ⟨48, _⟩ => ⟨S_, .f32⟩
  | .hbm, ⟨49, _⟩ => ⟨S2x2048x1, .f32⟩
  | .hbm, ⟨50, _⟩ => ⟨S2x2048x1, .f32⟩
  | .hbm, ⟨51, _⟩ => ⟨S_, .f32⟩
  | .hbm, ⟨52, _⟩ => ⟨S2x2048, .f32⟩
  | .hbm, ⟨53, _⟩ => ⟨S2x2048x1024, .f32⟩
  | .hbm, ⟨54, _⟩ => ⟨S2x2048x1024, .f32⟩
  | .hbm, ⟨55, _⟩ => ⟨S2x2048x1024, .f32⟩
  | .hbm, ⟨56, _⟩ => ⟨S2x2048x1024, .f32⟩
  | .hbm, ⟨57, _⟩ => ⟨S2x2048x1024, .f32⟩
  | .hbm, ⟨58, _⟩ => ⟨S1x1024, .f32⟩
  | .hbm, ⟨59, _⟩ => ⟨S4096x1024, .f32⟩
  | .hbm, ⟨60, _⟩ => ⟨S_, .i32⟩
  | .hbm, ⟨61, _⟩ => ⟨S_, .f32⟩
  | .hbm, ⟨62, _⟩ => ⟨S8x1024, .f32⟩
  | _, _ => ⟨S2x2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_cst : Ref sig .tc := ⟨.hbm, 7, rfl⟩
abbrev main_v2 : Ref sig .tc := ⟨.hbm, 8, rfl⟩
abbrev main_v3 : Ref sig .tc := ⟨.hbm, 9, rfl⟩
abbrev main_cst_0 : Ref sig .tc := ⟨.hbm, 10, rfl⟩
abbrev main_v4 : Ref sig .tc := ⟨.hbm, 11, rfl⟩
abbrev main_v5 : Ref sig .tc := ⟨.hbm, 12, rfl⟩
abbrev main_cst_1 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_cst_2 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_cst_3 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_v27 : Ref sig .tc := ⟨.hbm, 37, rfl⟩
abbrev main_cst_4 : Ref sig .tc := ⟨.hbm, 38, rfl⟩
abbrev main_v28 : Ref sig .tc := ⟨.hbm, 39, rfl⟩
abbrev main_v29 : Ref sig .tc := ⟨.hbm, 40, rfl⟩
abbrev main_cst_5 : Ref sig .tc := ⟨.hbm, 41, rfl⟩
abbrev main_v30 : Ref sig .tc := ⟨.hbm, 42, rfl⟩
abbrev main_v31 : Ref sig .tc := ⟨.hbm, 43, rfl⟩
abbrev main_v32 : Ref sig .tc := ⟨.hbm, 44, rfl⟩
abbrev main_v33 : Ref sig .tc := ⟨.hbm, 45, rfl⟩
abbrev main_v34 : Ref sig .tc := ⟨.hbm, 46, rfl⟩
abbrev main_v35 : Ref sig .tc := ⟨.hbm, 47, rfl⟩
abbrev main_cst_6 : Ref sig .tc := ⟨.hbm, 48, rfl⟩
abbrev main_v36 : Ref sig .tc := ⟨.hbm, 49, rfl⟩
abbrev main_v37 : Ref sig .tc := ⟨.hbm, 50, rfl⟩
abbrev main_cst_7 : Ref sig .tc := ⟨.hbm, 51, rfl⟩
abbrev main_v38 : Ref sig .tc := ⟨.hbm, 52, rfl⟩
abbrev main_v39 : Ref sig .tc := ⟨.hbm, 53, rfl⟩
abbrev main_v40 : Ref sig .tc := ⟨.hbm, 54, rfl⟩
abbrev main_v41 : Ref sig .tc := ⟨.hbm, 55, rfl⟩
abbrev main_v42 : Ref sig .tc := ⟨.hbm, 56, rfl⟩
abbrev main_v43 : Ref sig .tc := ⟨.hbm, 57, rfl⟩
abbrev main_v44 : Ref sig .tc := ⟨.hbm, 58, rfl⟩
abbrev main_v45 : Ref sig .tc := ⟨.hbm, 59, rfl⟩
abbrev main_c : Ref sig .tc := ⟨.hbm, 60, rfl⟩
abbrev main_call0_v0 : Ref sig .tc := ⟨.hbm, 61, rfl⟩
abbrev main_v46 : Ref sig .tc := ⟨.hbm, 62, rfl⟩

abbrev nD : Nat := 1
abbrev τ : Topo := Topo.v7x

variable {F : FTy → Type} [FloatOps F]
-- ==== Kernel5.lean ====
abbrev S2x2048x7184 : Shape := ⟨3, ![2, 2048, 7184]⟩
abbrev S2x2048x1024 : Shape := ⟨3, ![2, 2048, 1024]⟩
abbrev S1x2048x1024 : Shape := ⟨3, ![1, 2048, 1024]⟩
abbrev S4096x1024 : Shape := ⟨2, ![4096, 1024]⟩
abbrev S2x2048x3072 : Shape := ⟨3, ![2, 2048, 3072]⟩
abbrev S2x2048x4096 : Shape := ⟨3, ![2, 2048, 4096]⟩
abbrev S2x2048x7168 : Shape := ⟨3, ![2, 2048, 7168]⟩
abbrev S4096x7168 : Shape := ⟨2, ![4096, 7168]⟩
abbrev S2048x1024 : Shape := ⟨2, ![2048, 1024]⟩
abbrev S4096x2048 : Shape := ⟨2, ![4096, 2048]⟩
abbrev S8x128 : Shape := ⟨2, ![8, 128]⟩
abbrev S256x1024 : Shape := ⟨2, ![256, 1024]⟩
abbrev S256x2048 : Shape := ⟨2, ![256, 2048]⟩
abbrev S1024x1024 : Shape := ⟨2, ![1024, 1024]⟩
abbrev S1x256x1024 : Shape := ⟨3, ![1, 256, 1024]⟩
abbrev S1 : Shape := ⟨1, ![1]⟩
abbrev S1x1x1 : Shape := ⟨3, ![1, 1, 1]⟩

abbrev nBuf : Space → Nat
  | .hbm => 21
  | .vmem => 17
  | .smem => 0
  | _ => 0

abbrev bufTy : (tb : Table) → Fin (tcTables nBuf tb) → BufTy
  | .hbm, ⟨0, _⟩ => ⟨S2x2048x7184, .f32⟩
  | .hbm, ⟨1, _⟩ => ⟨S2x2048x1024, .f32⟩
  | .hbm, ⟨2, _⟩ => ⟨S2x2048x1024, .f32⟩
  | .hbm, ⟨3, _⟩ => ⟨S2x2048x1024, .f32⟩
  | .hbm, ⟨4, _⟩ => ⟨S2x2048x1024, .f32⟩
  | .hbm, ⟨5, _⟩ => ⟨S1x2048x1024, .f32⟩
  | .hbm, ⟨6, _⟩ => ⟨S4096x1024, .f32⟩
  | .hbm, ⟨7, _⟩ => ⟨S2x2048x3072, .f32⟩
  | .hbm, ⟨8, _⟩ => ⟨S2x2048x4096, .f32⟩
  | .hbm, ⟨9, _⟩ => ⟨S2x2048x7168, .f32⟩
  | .hbm, ⟨10, _⟩ => ⟨S4096x7168, .f32⟩
  | .hbm, ⟨11, _⟩ => ⟨S4096x1024, .f32⟩
  | .hbm, ⟨12, _⟩ => ⟨S4096x1024, .bf16⟩
  | .hbm, ⟨13, _⟩ => ⟨S4096x1024, .f32⟩
  | .hbm, ⟨14, _⟩ => ⟨S4096x1024, .f32⟩
  | .hbm, ⟨15, _⟩ => ⟨S2048x1024, .f32⟩
  | .hbm, ⟨16, _⟩ => ⟨S2048x1024, .bf16⟩
  | .hbm, ⟨17, _⟩ => ⟨S4096x1024, .f32⟩
  | .hbm, ⟨18, _⟩ => ⟨S4096x2048, .f32⟩
  | .hbm, ⟨19, _⟩ => ⟨S2048x1024, .f32⟩
  | .hbm, ⟨20, _⟩ => ⟨S8x128, .f32⟩
  | .local _ .vmem, ⟨0, _⟩ => ⟨S256x1024, .f32⟩
  | .local _ .vmem, ⟨1, _⟩ => ⟨S256x1024, .f32⟩
  | .local _ .vmem, ⟨2, _⟩ => ⟨S256x1024, .f32⟩
  | .local _ .vmem, ⟨3, _⟩ => ⟨S256x1024, .f32⟩
  | .local _ .vmem, ⟨4, _⟩ => ⟨S256x1024, .bf16⟩
  | .local _ .vmem, ⟨5, _⟩ => ⟨S256x1024, .bf16⟩
  | .local _ .vmem, ⟨6, _⟩ => ⟨S256x1024, .f32⟩
  | .local _ .vmem, ⟨7, _⟩ => ⟨S256x1024, .f32⟩
  | .local _ .vmem, ⟨8, _⟩ => ⟨S256x1024, .f32⟩
  | .local _ .vmem, ⟨9, _⟩ => ⟨S256x1024, .f32⟩
  | .local _ .vmem, ⟨10, _⟩ => ⟨S2048x1024, .bf16⟩
  | .local _ .vmem, ⟨11, _⟩ => ⟨S256x1024, .f32⟩
  | .local _ .vmem, ⟨12, _⟩ => ⟨S256x1024, .f32⟩
  | .local _ .vmem, ⟨13, _⟩ => ⟨S256x2048, .f32⟩
  | .local _ .vmem, ⟨14, _⟩ => ⟨S256x2048, .f32⟩
  | .local _ .vmem, ⟨15, _⟩ => ⟨S2048x1024, .f32⟩
  | .local _ .vmem, ⟨16, _⟩ => ⟨S8x128, .f32⟩
  | _, _ => ⟨S2x2048x7184, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | _, _ => false

abbrev semScoped : Fin 0 → Bool
  | ⟨_, h⟩ => absurd h (Nat.not_lt_zero _)

abbrev dmaSemScoped : Fin 17 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | _ => false

abbrev sig : RefSig :=
  ofTc nBuf bufTy 0 17 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11_0 : Ref sig .tc := ⟨.hbm, 17, rfl⟩
abbrev main_v11_1 : Ref sig .tc := ⟨.hbm, 18, rfl⟩
abbrev main_v11_2 : Ref sig .tc := ⟨.hbm, 19, rfl⟩
abbrev main_v11_3 : Ref sig .tc := ⟨.hbm, 20, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg6_0 : Ref sig .tc := ⟨.vmem, 11, rfl⟩
abbrev cc0_stg6_1 : Ref sig .tc := ⟨.vmem, 12, rfl⟩
abbrev cc0_stg7_0 : Ref sig .tc := ⟨.vmem, 13, rfl⟩
abbrev cc0_stg7_1 : Ref sig .tc := ⟨.vmem, 14, rfl⟩
abbrev cc0_stg8_0 : Ref sig .tc := ⟨.vmem, 15, rfl⟩
abbrev cc0_stg9_0 : Ref sig .tc := ⟨.vmem, 16, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem6_0 : DmaSem sig := 11
abbrev cc0_sem6_1 : DmaSem sig := 12
abbrev cc0_sem7_0 : DmaSem sig := 13
abbrev cc0_sem7_1 : DmaSem sig := 14
abbrev cc0_sem8_0 : DmaSem sig := 15
abbrev cc0_sem9_0 : DmaSem sig := 16

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c3_i32 : BitVec 32 := 3#32
  let c0_i32 : BitVec 32 := 0#32
  ![arg0.toNat, c3_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 1 → Memref sig .tc .vmem S2048x1024 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S256x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S256x2048 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 1 → Memref sig .tc .vmem S2048x1024 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S8x128 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]
-- ==== Reference5Ideal.lean ====
abbrev S2x2048x7184 : Shape := ⟨3, ![2, 2048, 7184]⟩
abbrev S2x2048x1024 : Shape := ⟨3, ![2, 2048, 1024]⟩
abbrev S1x2048x1024 : Shape := ⟨3, ![1, 2048, 1024]⟩
abbrev S_ : Shape := ⟨0, ![]⟩
abbrev S2x2048x2048 : Shape := ⟨3, ![2, 2048, 2048]⟩
abbrev S2048x1024 : Shape := ⟨2, ![2048, 1024]⟩
abbrev S2x2048 : Shape := ⟨2, ![2, 2048]⟩
abbrev S1024x2048 : Shape := ⟨2, ![1024, 2048]⟩
abbrev S4096x1024 : Shape := ⟨2, ![4096, 1024]⟩
abbrev S4096x2048 : Shape := ⟨2, ![4096, 2048]⟩
abbrev S8x128 : Shape := ⟨2, ![8, 128]⟩

abbrev nBuf : Space → Nat
  | .hbm => 52
  | .vmem => 0
  | .smem => 0
  | _ => 0

abbrev bufTy : (tb : Table) → Fin (tcTables nBuf tb) → BufTy
  | .hbm, ⟨0, _⟩ => ⟨S2x2048x7184, .f32⟩
  | .hbm, ⟨1, _⟩ => ⟨S2x2048x1024, .f32⟩
  | .hbm, ⟨2, _⟩ => ⟨S2x2048x1024, .f32⟩
  | .hbm, ⟨3, _⟩ => ⟨S2x2048x1024, .f32⟩
  | .hbm, ⟨4, _⟩ => ⟨S2x2048x1024, .f32⟩
  | .hbm, ⟨5, _⟩ => ⟨S1x2048x1024, .f32⟩
  | .hbm, ⟨6, _⟩ => ⟨S2x2048x1024, .f32⟩
  | .hbm, ⟨7, _⟩ => ⟨S2x2048x1024, .f32⟩
  | .hbm, ⟨8, _⟩ => ⟨S2x2048x1024, .f32⟩
  | .hbm, ⟨9, _⟩ => ⟨S_, .f32⟩
  | .hbm, ⟨10, _⟩ => ⟨S2x2048x1024, .f32⟩
  | .hbm, ⟨11, _⟩ => ⟨S2x2048x1024, .f32⟩
  | .hbm, ⟨12, _⟩ => ⟨S_, .f32⟩
  | .hbm, ⟨13, _⟩ => ⟨S2x2048x1024, .f32⟩
  | .hbm, ⟨14, _⟩ => ⟨S2x2048x1024, .f32⟩
  | .hbm, ⟨15, _⟩ => ⟨S2x2048x1024, .f32⟩
  | .hbm, ⟨16, _⟩ => ⟨S2x2048x1024, .f32⟩
  | .hbm, ⟨17, _⟩ => ⟨S2x2048x2048, .f32⟩
  | .hbm, ⟨18, _⟩ => ⟨S2048x1024, .f32⟩
  | .hbm, ⟨19, _⟩ => ⟨S2x2048x1024, .f32⟩
  | .hbm, ⟨20, _⟩ => ⟨S2x2048x1024, .f32⟩
  | .hbm, ⟨21, _⟩ => ⟨S2x2048x1024, .f32⟩
  | .hbm, ⟨22, _⟩ => ⟨S2x2048x1024, .f32⟩
  | .hbm, ⟨23, _⟩ => ⟨S_, .f32⟩
  | .hbm, ⟨24, _⟩ => ⟨S2x2048x1024, .f32⟩
  | .hbm, ⟨25, _⟩ => ⟨S2x2048x1024, .f32⟩
  | .hbm, ⟨26, _⟩ => ⟨S_, .f32⟩
  | .hbm, ⟨27, _⟩ => ⟨S2x2048, .f32⟩
  | .hbm, ⟨28, _⟩ => ⟨S_, .f32⟩
  | .hbm, ⟨29, _⟩ => ⟨S2x2048, .f32⟩
  | .hbm, ⟨30, _⟩ => ⟨S2x2048, .f32⟩
  | .hbm, ⟨31, _⟩ => ⟨S_, .f32⟩
  | .hbm, ⟨32, _⟩ => ⟨S_, .f32⟩
  | .hbm, ⟨33, _⟩ => ⟨S_, .f32⟩
  | .hbm, ⟨34, _⟩ => ⟨S_, .f32⟩
  | .hbm, ⟨35, _⟩ => ⟨S_, .f32⟩
  | .hbm, ⟨36, _⟩ => ⟨S_, .f32⟩
  | .hbm, ⟨37, _⟩ => ⟨S_, .f32⟩
  | .hbm, ⟨38, _⟩ => ⟨S2x2048, .f32⟩
  | .hbm, ⟨39, _⟩ => ⟨S_, .f32⟩
  | .hbm, ⟨40, _⟩ => ⟨S2x2048, .f32⟩
  | .hbm, ⟨41, _⟩ => ⟨S2x2048, .f32⟩
  | .hbm, ⟨42, _⟩ => ⟨S2x2048x1024, .f32⟩
  | .hbm, ⟨43, _⟩ => ⟨S2x2048x1024, .f32⟩
  | .hbm, ⟨44, _⟩ => ⟨S1024x2048, .f32⟩
  | .hbm, ⟨45, _⟩ => ⟨S2048x1024, .f32⟩
  | .hbm, ⟨46, _⟩ => ⟨S2x2048x2048, .f32⟩
  | .hbm, ⟨47, _⟩ => ⟨S1x2048x1024, .f32⟩
  | .hbm, ⟨48, _⟩ => ⟨S4096x1024, .f32⟩
  | .hbm, ⟨49, _⟩ => ⟨S4096x2048, .f32⟩
  | .hbm, ⟨50, _⟩ => ⟨S2048x1024, .f32⟩
  | .hbm, ⟨51, _⟩ => ⟨S8x128, .f32⟩
  | _, _ => ⟨S2x2048x7184, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_call0_v0 : Ref sig .tc := ⟨.hbm, 7, rfl⟩
abbrev main_call0_v1 : Ref sig .tc := ⟨.hbm, 8, rfl⟩
abbrev main_call0_cst : Ref sig .tc := ⟨.hbm, 9, rfl⟩
abbrev main_call0_v2 : Ref sig .tc := ⟨.hbm, 10, rfl⟩
abbrev main_call0_v3 : Ref sig .tc := ⟨.hbm, 11, rfl⟩
abbrev main_call0_cst_0 : Ref sig .tc := ⟨.hbm, 12, rfl⟩
abbrev main_call0_v4 : Ref sig .tc := ⟨.hbm, 13, rfl⟩
abbrev main_call0_v5 : Ref sig .tc := ⟨.hbm, 14, rfl⟩
abbrev main_v1 : Ref sig .tc := ⟨.hbm, 15, rfl⟩
abbrev main_v2 : Ref sig .tc := ⟨.hbm, 16, rfl⟩
abbrev main_v3 : Ref sig .tc := ⟨.hbm, 17, rfl⟩
abbrev main_v4 : Ref sig .tc := ⟨.hbm, 18, rfl⟩
abbrev main_v5 : Ref sig .tc := ⟨.hbm, 19, rfl⟩
abbrev main_v6 : Ref sig .tc := ⟨.hbm, 20, rfl⟩
abbrev main_v7 : Ref sig .tc := ⟨.hbm, 21, rfl⟩
abbrev main_v8 : Ref sig .tc := ⟨.hbm, 22, rfl⟩
abbrev main_cst : Ref sig .tc := ⟨.hbm, 23, rfl⟩
abbrev main_v9 : Ref sig .tc := ⟨.hbm, 24, rfl⟩
abbrev main_v10 : Ref sig .tc := ⟨.hbm, 25, rfl⟩
abbrev main_cst_0 : Ref sig .tc := ⟨.hbm, 26, rfl⟩
abbrev main_v11 : Ref sig .tc := ⟨.hbm, 27, rfl⟩
abbrev main_cst_1 : Ref sig .tc := ⟨.hbm, 28, rfl⟩
abbrev main_v12 : Ref sig .tc := ⟨.hbm, 29, rfl⟩
abbrev main_v13 : Ref sig .tc := ⟨.hbm, 30, rfl⟩
abbrev main_cst_2 : Ref sig .tc := ⟨.hbm, 31, rfl⟩
abbrev main_v14 : Ref sig .tc := ⟨.hbm, 32, rfl⟩
abbrev main_cst_3 : Ref sig .tc := ⟨.hbm, 33, rfl⟩
abbrev main_v15 : Ref sig .tc := ⟨.hbm, 34, rfl⟩
abbrev main_cst_4 : Ref sig .tc := ⟨.hbm, 35, rfl⟩
abbrev main_cst_5 : Ref sig .tc := ⟨.hbm, 36, rfl⟩
abbrev main_v16 : Ref sig .tc := ⟨.hbm, 37, rfl⟩
abbrev main_v17 : Ref sig .tc := ⟨.hbm, 38, rfl⟩
abbrev main_cst_6 : Ref sig .tc := ⟨.hbm, 39, rfl⟩
abbrev main_v18 : Ref sig .tc := ⟨.hbm, 40, rfl⟩
abbrev main_v19 : Ref sig .tc := ⟨.hbm, 41, rfl⟩
abbrev main_v20 : Ref sig .tc := ⟨.hbm, 42, rfl⟩
abbrev main_v21 : Ref sig .tc := ⟨.hbm, 43, rfl⟩
abbrev main_v22 : Ref sig .tc := ⟨.hbm, 44, rfl⟩
abbrev main_v23 : Ref sig .tc := ⟨.hbm, 45, rfl⟩
abbrev main_v24 : Ref sig .tc := ⟨.hbm, 46, rfl⟩
abbrev main_v25 : Ref sig .tc := ⟨.hbm, 47, rfl⟩
abbrev main_v26 : Ref sig .tc := ⟨.hbm, 48, rfl⟩
abbrev main_v27 : Ref sig .tc := ⟨.hbm, 49, rfl⟩
abbrev main_v28 : Ref sig .tc := ⟨.hbm, 50, rfl⟩
abbrev main_v29 : Ref sig .tc := ⟨.hbm, 51, rfl⟩

abbrev nD : Nat := 1
abbrev τ : Topo := Topo.v7x

variable {F : FTy → Type} [FloatOps F]
-- ==== Kernel6.lean ====
abbrev S2x2048x7184 : Shape := ⟨3, ![2, 2048, 7184]⟩
abbrev S1x16 : Shape := ⟨2, ![1, 16]⟩
abbrev S1x16x64 : Shape := ⟨3, ![1, 16, 64]⟩
abbrev S2x16x2048x128 : Shape := ⟨4, ![2, 16, 2048, 128]⟩
abbrev S2x2048x16 : Shape := ⟨3, ![2, 2048, 16]⟩
abbrev S_ : Shape := ⟨0, ![]⟩
abbrev S2x2048x128 : Shape := ⟨3, ![2, 2048, 128]⟩
abbrev S4096x128 : Shape := ⟨2, ![4096, 128]⟩
abbrev S1x128 : Shape := ⟨2, ![1, 128]⟩
abbrev S1x1024 : Shape := ⟨2, ![1, 1024]⟩
abbrev S2x2048x3072 : Shape := ⟨3, ![2, 2048, 3072]⟩
abbrev S2x2048x4096 : Shape := ⟨3, ![2, 2048, 4096]⟩
abbrev S2x2048x7168 : Shape := ⟨3, ![2, 2048, 7168]⟩
abbrev S4096x7168 : Shape := ⟨2, ![4096, 7168]⟩
abbrev S4096x1024 : Shape := ⟨2, ![4096, 1024]⟩
abbrev S24x1024 : Shape := ⟨2, ![24, 1024]⟩
abbrev S1x16x256x128 : Shape := ⟨4, ![1, 16, 256, 128]⟩
abbrev S256x1024 : Shape := ⟨2, ![256, 1024]⟩
abbrev S256x128 : Shape := ⟨2, ![256, 128]⟩
abbrev S1x1x256x128 : Shape := ⟨4, ![1, 1, 256, 128]⟩
abbrev S128x128 : Shape := ⟨2, ![128, 128]⟩
abbrev S128 : Shape := ⟨1, ![128]⟩
abbrev S256 : Shape := ⟨1, ![256]⟩
abbrev S256x1 : Shape := ⟨2, ![256, 1]⟩
abbrev S256x256 : Shape := ⟨2, ![256, 256]⟩

abbrev nBuf : Space → Nat
  | .hbm => 26
  | .vmem => 25
  | .smem => 0
  | _ => 0

abbrev bufTy : (tb : Table) → Fin (tcTables nBuf tb) → BufTy
  | .hbm, ⟨0, _⟩ => ⟨S2x2048x7184, .f32⟩
  | .hbm, ⟨1, _⟩ => ⟨S1x16, .f32⟩
  | .hbm, ⟨2, _⟩ => ⟨S1x16x64, .f32⟩
  | .hbm, ⟨3, _⟩ => ⟨S1x16x64, .f32⟩
  | .hbm, ⟨4, _⟩ => ⟨S2x16x2048x128, .f32⟩
  | .hbm, ⟨5, _⟩ => ⟨S2x16x2048x128, .f32⟩
  | .hbm, ⟨6, _⟩ => ⟨S2x16x2048x128, .f32⟩
  | .hbm, ⟨7, _⟩ => ⟨S2x2048x16, .f32⟩
  | .hbm, ⟨8, _⟩ => ⟨S_, .i32⟩
  | .hbm, ⟨9, _⟩ => ⟨S_, .f32⟩
  | .hbm, ⟨10, _⟩ => ⟨S2x2048x128, .f32⟩
  | .hbm, ⟨11, _⟩ => ⟨S4096x128, .f32⟩
  | .hbm, ⟨12, _⟩ => ⟨S_, .i32⟩
  | .hbm, ⟨13, _⟩ => ⟨S_, .f32⟩
  | .hbm, ⟨14, _⟩ => ⟨S1x128, .f32⟩
  | .hbm, ⟨15, _⟩ => ⟨S1x1024, .f32⟩
  | .hbm, ⟨16, _⟩ => ⟨S1x1024, .f32⟩
  | .hbm, ⟨17, _⟩ => ⟨S2x2048x3072, .f32⟩
  | .hbm, ⟨18, _⟩ => ⟨S2x2048x4096, .f32⟩
  | .hbm, ⟨19, _⟩ => ⟨S2x2048x7168, .f32⟩
  | .hbm, ⟨20, _⟩ => ⟨S4096x7168, .f32⟩
  | .hbm, ⟨21, _⟩ => ⟨S4096x1024, .bf16⟩
  | .hbm, ⟨22, _⟩ => ⟨S4096x1024, .bf16⟩
  | .hbm, ⟨23, _⟩ => ⟨S4096x1024, .bf16⟩
  | .hbm, ⟨24, _⟩ => ⟨S4096x128, .bf16⟩
  | .hbm, ⟨25, _⟩ => ⟨S24x1024, .f32⟩
  | .local _ .vmem, ⟨0, _⟩ => ⟨S1x16x256x128, .f32⟩
  | .local _ .vmem, ⟨1, _⟩ => ⟨S1x16x256x128, .f32⟩
  | .local _ .vmem, ⟨2, _⟩ => ⟨S1x16x256x128, .f32⟩
  | .local _ .vmem, ⟨3, _⟩ => ⟨S1x16x256x128, .f32⟩
  | .local _ .vmem, ⟨4, _⟩ => ⟨S1x16x256x128, .f32⟩
  | .local _ .vmem, ⟨5, _⟩ => ⟨S1x16x256x128, .f32⟩
  | .local _ .vmem, ⟨6, _⟩ => ⟨S256x1024, .f32⟩
  | .local _ .vmem, ⟨7, _⟩ => ⟨S256x1024, .f32⟩
  | .local _ .vmem, ⟨8, _⟩ => ⟨S256x1024, .f32⟩
  | .local _ .vmem, ⟨9, _⟩ => ⟨S256x1024, .f32⟩
  | .local _ .vmem, ⟨10, _⟩ => ⟨S256x128, .f32⟩
  | .local _ .vmem, ⟨11, _⟩ => ⟨S256x128, .f32⟩
  | .local _ .vmem, ⟨12, _⟩ => ⟨S1x128, .f32⟩
  | .local _ .vmem, ⟨13, _⟩ => ⟨S1x1024, .f32⟩
  | .local _ .vmem, ⟨14, _⟩ => ⟨S1x1024, .f32⟩
  | .local _ .vmem, ⟨15, _⟩ => ⟨S256x1024, .bf16⟩
  | .local _ .vmem, ⟨16, _⟩ => ⟨S256x1024, .bf16⟩
  | .local _ .vmem, ⟨17, _⟩ => ⟨S256x1024, .bf16⟩
  | .local _ .vmem, ⟨18, _⟩ => ⟨S256x1024, .bf16⟩
  | .local _ .vmem, ⟨19, _⟩ => ⟨S256x1024, .bf16⟩
  | .local _ .vmem, ⟨20, _⟩ => ⟨S256x1024, .bf16⟩
  | .local _ .vmem, ⟨21, _⟩ => ⟨S256x128, .bf16⟩
  | .local _ .vmem, ⟨22, _⟩ => ⟨S256x128, .bf16⟩
  | .local _ .vmem, ⟨23, _⟩ => ⟨S24x1024, .f32⟩
  | .local _ .vmem, ⟨24, _⟩ => ⟨S1x128, .f32⟩
  | _, _ => ⟨S2x2048x7184, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | _, _ => false

abbrev semScoped : Fin 0 → Bool
  | ⟨_, h⟩ => absurd h (Nat.not_lt_zero _)

abbrev dmaSemScoped : Fin 24 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | _ => false

abbrev sig : RefSig :=
  ofTc nBuf bufTy 0 24 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_c : Ref sig .tc := ⟨.hbm, 8, rfl⟩
abbrev main_call0_v0 : Ref sig .tc := ⟨.hbm, 9, rfl⟩
abbrev main_v1 : Ref sig .tc := ⟨.hbm, 10, rfl⟩
abbrev main_v2 : Ref sig .tc := ⟨.hbm, 11, rfl⟩
abbrev main_c_0 : Ref sig .tc := ⟨.hbm, 12, rfl⟩
abbrev main_call1_v0 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_v10_0 : Ref sig .tc := ⟨.hbm, 21, rfl⟩
abbrev main_v10_1 : Ref sig .tc := ⟨.hbm, 22, rfl⟩
abbrev main_v10_2 : Ref sig .tc := ⟨.hbm, 23, rfl⟩
abbrev main_v10_3 : Ref sig .tc := ⟨.hbm, 24, rfl⟩
abbrev main_v10_4 : Ref sig .tc := ⟨.hbm, 25, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg7_0 : Ref sig .tc := ⟨.vmem, 13, rfl⟩
abbrev cc0_stg8_0 : Ref sig .tc := ⟨.vmem, 14, rfl⟩
abbrev cc0_stg9_0 : Ref sig .tc := ⟨.vmem, 15, rfl⟩
abbrev cc0_stg9_1 : Ref sig .tc := ⟨.vmem, 16, rfl⟩
abbrev cc0_stg10_0 : Ref sig .tc := ⟨.vmem, 17, rfl⟩
abbrev cc0_stg10_1 : Ref sig .tc := ⟨.vmem, 18, rfl⟩
abbrev cc0_stg11_0 : Ref sig .tc := ⟨.vmem, 19, rfl⟩
abbrev cc0_stg11_1 : Ref sig .tc := ⟨.vmem, 20, rfl⟩
abbrev cc0_stg12_0 : Ref sig .tc := ⟨.vmem, 21, rfl⟩
abbrev cc0_stg12_1 : Ref sig .tc := ⟨.vmem, 22, rfl⟩
abbrev cc0_stg13_0 : Ref sig .tc := ⟨.vmem, 23, rfl⟩
abbrev cc0_scratch0 : Ref sig .tc := ⟨.vmem, 24, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem7_0 : DmaSem sig := 13
abbrev cc0_sem8_0 : DmaSem sig := 14
abbrev cc0_sem9_0 : DmaSem sig := 15
abbrev cc0_sem9_1 : DmaSem sig := 16
abbrev cc0_sem10_0 : DmaSem sig := 17
abbrev cc0_sem10_1 : DmaSem sig := 18
abbrev cc0_sem11_0 : DmaSem sig := 19
abbrev cc0_sem11_1 : DmaSem sig := 20
abbrev cc0_sem12_0 : DmaSem sig := 21
abbrev cc0_sem12_1 : DmaSem sig := 22
abbrev cc0_sem13_0 : DmaSem sig := 23

abbrev nD : Nat := 1
abbrev τ : Topo := Topo.v7x

variable {F : FTy → Type} [FloatOps F]

abbrev grid0 : Pipeline.Grid := ⟨2, ![2, 8], ![false, false]⟩

def cc0_transform_0 (i : grid0.Coords) : Fin 4 → Nat :=
  let arg0 : BitVec 32 := BitVec.ofNat 32 (i 0).val
  let arg1 : BitVec 32 := BitVec.ofNat 32 (i 1).val
  let c7_i32 : BitVec 32 := 7#32
  let v0 : BitVec 32 := Scalar.subi c7_i32 arg1
  let c0_i32 : BitVec 32 := 0#32
  let c0_i32_0 : BitVec 32 := 0#32
  let c0_i32_1 : BitVec 32 := 0#32
  ![arg0.toNat, c0_i32.toNat, v0.toNat, c0_i32_0.toNat]

def cc0_transform_1 (i : grid0.Coords) : Fin 4 → Nat :=
  let arg0 : BitVec 32 := BitVec.ofNat 32 (i 0).val
  let arg1 : BitVec 32 := BitVec.ofNat 32 (i 1).val
  let c7_i32 : BitVec 32 := 7#32
  let v0 : BitVec 32 := Scalar.subi c7_i32 arg1
  let c0_i32 : BitVec 32 := 0#32
  let c0_i32_0 : BitVec 32 := 0#32
  let c0_i32_1 : BitVec 32 := 0#32
  ![arg0.toNat, c0_i32.toNat, v0.toNat, c0_i32_0.toNat]

def cc0_transform_2 (i : grid0.Coords) : Fin 4 → Nat :=
  let arg0 : BitVec 32 := BitVec.ofNat 32 (i 0).val
  let arg1 : BitVec 32 := BitVec.ofNat 32 (i 1).val
  let c7_i32 : BitVec 32 := 7#32
  let v0 : BitVec 32 := Scalar.subi c7_i32 arg1
  let c0_i32 : BitVec 32 := 0#32
  let c0_i32_0 : BitVec 32 := 0#32
  let c0_i32_1 : BitVec 32 := 0#32
  ![arg0.toNat, c0_i32.toNat, v0.toNat, c0_i32_0.toNat]

def cc0_transform_3 (i : grid0.Coords) : Fin 2 → Nat :=
  let arg0 : BitVec 32 := BitVec.ofNat 32 (i 0).val
  let arg1 : BitVec 32 := BitVec.ofNat 32 (i 1).val
  let c8_i32 : BitVec 32 := 8#32
  let v0 : BitVec 32 := Scalar.muli arg0 c8_i32
  let c8_i32_0 : BitVec 32 := 8#32
  let v1 : BitVec 32 := Scalar.addi v0 c8_i32_0
  let c1_i32 : BitVec 32 := 1#32
  let v2 : BitVec 32 := Scalar.subi v1 c1_i32
  let v3 : BitVec 32 := Scalar.subi v2 arg1
  let c0_i32 : BitVec 32 := 0#32
  let c0_i32_1 : BitVec 32 := 0#32
  ![v3.toNat, c0_i32.toNat]

def cc0_transform_4 (i : grid0.Coords) : Fin 2 → Nat :=
  let arg0 : BitVec 32 := BitVec.ofNat 32 (i 0).val
  let arg1 : BitVec 32 := BitVec.ofNat 32 (i 1).val
  let c8_i32 : BitVec 32 := 8#32
  let v0 : BitVec 32 := Scalar.muli arg0 c8_i32
  let c8_i32_0 : BitVec 32 := 8#32
  let v1 : BitVec 32 := Scalar.addi v0 c8_i32_0
  let c1_i32 : BitVec 32 := 1#32
  let v2 : BitVec 32 := Scalar.subi v1 c1_i32
  let v3 : BitVec 32 := Scalar.subi v2 arg1
  let c1_i32_1 : BitVec 32 := 1#32
  let c0_i32 : BitVec 32 := 0#32
  ![v3.toNat, c1_i32_1.toNat]

def cc0_transform_5 (i : grid0.Coords) : Fin 2 → Nat :=
  let arg0 : BitVec 32 := BitVec.ofNat 32 (i 0).val
  let arg1 : BitVec 32 := BitVec.ofNat 32 (i 1).val
  let c8_i32 : BitVec 32 := 8#32
  let v0 : BitVec 32 := Scalar.muli arg0 c8_i32
  let c8_i32_0 : BitVec 32 := 8#32
  let v1 : BitVec 32 := Scalar.addi v0 c8_i32_0
  let c1_i32 : BitVec 32 := 1#32
  let v2 : BitVec 32 := Scalar.subi v1 c1_i32
  let v3 : BitVec 32 := Scalar.subi v2 arg1
  let c0_i32 : BitVec 32 := 0#32
  let c0_i32_1 : BitVec 32 := 0#32
  ![v3.toNat, c0_i32.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let arg1 : BitVec 32 := BitVec.ofNat 32 (i 1).val
  let c8_i32 : BitVec 32 := 8#32
  let v0 : BitVec 32 := Scalar.muli arg0 c8_i32
  let c8_i32_0 : BitVec 32 := 8#32
  let v1 : BitVec 32 := Scalar.addi v0 c8_i32_0
  let c1_i32 : BitVec 32 := 1#32
  let v2 : BitVec 32 := Scalar.subi v1 c1_i32
  let v3 : BitVec 32 := Scalar.subi v2 arg1
  let c0_i32 : BitVec 32 := 0#32
  let c0_i32_1 : BitVec 32 := 0#32
  ![v3.toNat, c0_i32.toNat]

def cc0_transform_10 (i : grid0.Coords) : Fin 2 → Nat :=
  let arg0 : BitVec 32 := BitVec.ofNat 32 (i 0).val
  let arg1 : BitVec 32 := BitVec.ofNat 32 (i 1).val
  let c8_i32 : BitVec 32 := 8#32
  let v0 : BitVec 32 := Scalar.muli arg0 c8_i32
  let c8_i32_0 : BitVec 32 := 8#32
  let v1 : BitVec 32 := Scalar.addi v0 c8_i32_0
  let c1_i32 : BitVec 32 := 1#32
  let v2 : BitVec 32 := Scalar.subi v1 c1_i32
  let v3 : BitVec 32 := Scalar.subi v2 arg1
  let c0_i32 : BitVec 32 := 0#32
  let c0_i32_1 : BitVec 32 := 0#32
  ![v3.toNat, c0_i32.toNat]

def cc0_transform_11 (i : grid0.Coords) : Fin 2 → Nat :=
  let arg0 : BitVec 32 := BitVec.ofNat 32 (i 0).val
  let arg1 : BitVec 32 := BitVec.ofNat 32 (i 1).val
  let c8_i32 : BitVec 32 := 8#32
  let v0 : BitVec 32 := Scalar.muli arg0 c8_i32
  let c8_i32_0 : BitVec 32 := 8#32
  let v1 : BitVec 32 := Scalar.addi v0 c8_i32_0
  let c1_i32 : BitVec 32 := 1#32
  let v2 : BitVec 32 := Scalar.subi v1 c1_i32
  let v3 : BitVec 32 := Scalar.subi v2 arg1
  let c0_i32 : BitVec 32 := 0#32
  let c0_i32_1 : BitVec 32 := 0#32
  ![v3.toNat, c0_i32.toNat]

def cc0_transform_12 (i : grid0.Coords) : Fin 2 → Nat :=
  let arg0 : BitVec 32 := BitVec.ofNat 32 (i 0).val
  let arg1 : BitVec 32 := BitVec.ofNat 32 (i 1).val
  let c8_i32 : BitVec 32 := 8#32
  let v0 : BitVec 32 := Scalar.muli arg0 c8_i32
  let c8_i32_0 : BitVec 32 := 8#32
  let v1 : BitVec 32 := Scalar.addi v0 c8_i32_0
  let c1_i32 : BitVec 32 := 1#32
  let v2 : BitVec 32 := Scalar.subi v1 c1_i32
  let v3 : BitVec 32 := Scalar.subi v2 arg1
  let c0_i32 : BitVec 32 := 0#32
  let c0_i32_1 : BitVec 32 := 0#32
  ![v3.toNat, c0_i32.toNat]

def cc0_transform_13 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S1x16x256x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x16x256x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x16x256x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S256x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S256x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S256x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 1 → Memref sig .tc .vmem S1x128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 1 → Memref sig .tc .vmem S1x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false]

abbrev stage0_8 : Fin 1 → Memref sig .tc .vmem S1x1024 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false, false]

abbrev stage0_9 : Fin 2 → Memref sig .tc .vmem S256x1024 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, true]

abbrev stage0_10 : Fin 2 → Memref sig .tc .vmem S256x1024 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, true]

abbrev stage0_11 : Fin 2 → Memref sig .tc .vmem S256x1024 .bf16 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true, true]

abbrev stage0_12 : Fin 2 → Memref sig .tc .vmem S256x128 .bf16 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true, true]

abbrev stage0_13 : Fin 1 → Memref sig .tc .vmem S24x1024 .f32 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![false, false]
-- ==== Reference6Ideal.lean ====
abbrev S2x2048x7184 : Shape := ⟨3, ![2, 2048, 7184]⟩
abbrev S1x16 : Shape := ⟨2, ![1, 16]⟩
abbrev S1x16x64 : Shape := ⟨3, ![1, 16, 64]⟩
abbrev S2x16x2048x128 : Shape := ⟨4, ![2, 16, 2048, 128]⟩
abbrev S2x2048x16x128 : Shape := ⟨4, ![2, 2048, 16, 128]⟩
abbrev S2x2048x16x64 : Shape := ⟨4, ![2, 2048, 16, 64]⟩
abbrev S2x2048x16x1 : Shape := ⟨4, ![2, 2048, 16, 1]⟩
abbrev S2x2048x16 : Shape := ⟨3, ![2, 2048, 16]⟩
abbrev S2x2048x1024 : Shape := ⟨3, ![2, 2048, 1024]⟩
abbrev S16x64 : Shape := ⟨2, ![16, 64]⟩
abbrev S_ : Shape := ⟨0, ![]⟩
abbrev S1x1x16x64 : Shape := ⟨4, ![1, 1, 16, 64]⟩
abbrev S16 : Shape := ⟨1, ![16]⟩
abbrev S1x1x16 : Shape := ⟨3, ![1, 1, 16]⟩
abbrev S2x2048x128 : Shape := ⟨3, ![2, 2048, 128]⟩
abbrev S4096x1024 : Shape := ⟨2, ![4096, 1024]⟩
abbrev S4096x128 : Shape := ⟨2, ![4096, 128]⟩
abbrev S1x1024 : Shape := ⟨2, ![1, 1024]⟩
abbrev S8x1024 : Shape := ⟨2, ![8, 1024]⟩
abbrev S24x1024 : Shape := ⟨2, ![24, 1024]⟩

abbrev nBuf : Space → Nat
  | .hbm => 220
  | .vmem => 0
  | .smem => 0
  | _ => 0

abbrev hbmTy0_0 (i : Nat) : BufTy := match i % 128 with
  | 0 => ⟨S2x2048x7184, .f32⟩
  | 1 => ⟨S1x16, .f32⟩
  | 2 => ⟨S1x16x64, .f32⟩
  | 3 => ⟨S1x16x64, .f32⟩
  | 4 => ⟨S2x16x2048x128, .f32⟩
  | 5 => ⟨S2x16x2048x128, .f32⟩
  | 6 => ⟨S2x16x2048x128, .f32⟩
  | 7 => ⟨S2x2048x16x128, .f32⟩
  | 8 => ⟨S2x2048x16x64, .f32⟩
  | 9 => ⟨S2x2048x16x128, .f32⟩
  | 10 => ⟨S2x2048x16x64, .f32⟩
  | 11 => ⟨S2x2048x16x128, .f32⟩
  | 12 => ⟨S2x2048x16x64, .f32⟩
  | 13 => ⟨S2x2048x16x128, .f32⟩
  | 14 => ⟨S2x2048x16x1, .f32⟩
  | 15 => ⟨S2x2048x16, .f32⟩
  | 16 => ⟨S2x2048x16x128, .f32⟩
  | 17 => ⟨S2x2048x16x1, .f32⟩
  | 18 => ⟨S2x2048x16, .f32⟩
  | 19 => ⟨S2x2048x16, .f32⟩
  | 20 => ⟨S2x2048x1024, .f32⟩
  | 21 => ⟨S2x2048x1024, .f32⟩
  | 22 => ⟨S2x2048x1024, .f32⟩
  | 23 => ⟨S2x2048x16, .f32⟩
  | 24 => ⟨S2x2048x16x64, .f32⟩
  | 25 => ⟨S16x64, .f32⟩
  | 26 => ⟨S2x2048x16x64, .f32⟩
  | 27 => ⟨S_, .f32⟩
  | 28 => ⟨S2x2048x16, .f32⟩
  | 29 => ⟨S2x2048x16x1, .f32⟩
  | 30 => ⟨S_, .f32⟩
  | 31 => ⟨S2x2048x16x1, .f32⟩
  | 32 => ⟨S2x2048x16x1, .f32⟩
  | 33 => ⟨S_, .f32⟩
  | 34 => ⟨S2x2048x16x1, .f32⟩
  | 35 => ⟨S2x2048x16x1, .f32⟩
  | 36 => ⟨S2x2048x16x1, .f32⟩
  | 37 => ⟨S2x2048x16x1, .f32⟩
  | 38 => ⟨S_, .f32⟩
  | 39 => ⟨S2x2048x16x1, .f32⟩
  | 40 => ⟨S2x2048x16x1, .f32⟩
  | 41 => ⟨S2x2048x16x64, .f32⟩
  | 42 => ⟨S2x2048x16x64, .f32⟩
  | 43 => ⟨S1x1x16x64, .f32⟩
  | 44 => ⟨S2x2048x16x64, .f32⟩
  | 45 => ⟨S2x2048x16x64, .f32⟩
  | 46 => ⟨S2x2048x16x64, .f32⟩
  | 47 => ⟨S16x64, .f32⟩
  | 48 => ⟨S2x2048x16x64, .f32⟩
  | 49 => ⟨S_, .f32⟩
  | 50 => ⟨S2x2048x16, .f32⟩
  | 51 => ⟨S2x2048x16x1, .f32⟩
  | 52 => ⟨S_, .f32⟩
  | 53 => ⟨S2x2048x16x1, .f32⟩
  | 54 => ⟨S2x2048x16x1, .f32⟩
  | 55 => ⟨S_, .f32⟩
  | 56 => ⟨S2x2048x16x1, .f32⟩
  | 57 => ⟨S2x2048x16x1, .f32⟩
  | 58 => ⟨S2x2048x16x1, .f32⟩
  | 59 => ⟨S2x2048x16x1, .f32⟩
  | 60 => ⟨S_, .f32⟩
  | 61 => ⟨S2x2048x16x1, .f32⟩
  | 62 => ⟨S2x2048x16x1, .f32⟩
  | 63 => ⟨S2x2048x16x64, .f32⟩
  | 64 => ⟨S2x2048x16x64, .f32⟩
  | 65 => ⟨S1x1x16x64, .f32⟩
  | 66 => ⟨S2x2048x16x64, .f32⟩
  | 67 => ⟨S2x2048x16x64, .f32⟩
  | 68 => ⟨S2x2048x16x64, .f32⟩
  | 69 => ⟨S16, .f32⟩
  | 70 => ⟨S1x1x16, .f32⟩
  | 71 => ⟨S2x2048x16, .f32⟩
  | 72 => ⟨S2x2048x16, .f32⟩
  | 73 => ⟨S2x2048x16, .f32⟩
  | 74 => ⟨S_, .f32⟩
  | 75 => ⟨S2x2048x16, .f32⟩
  | 76 => ⟨S2x2048x16, .f32⟩
  | 77 => ⟨S2x2048x16, .f32⟩
  | 78 => ⟨S2x2048x16, .f32⟩
  | 79 => ⟨S2x2048x16, .i1⟩
  | 80 => ⟨S2x2048x16, .f32⟩
  | 81 => ⟨S2x2048x16, .f32⟩
  | 82 => ⟨S2x2048x16, .f32⟩
  | 83 => ⟨S2x2048x16, .f32⟩
  | 84 => ⟨S2x2048x16, .f32⟩
  | 85 => ⟨S2x2048x16, .f32⟩
  | 86 => ⟨S2x2048x16, .f32⟩
  | 87 => ⟨S2x2048x16, .f32⟩
  | 88 => ⟨S_, .f32⟩
  | 89 => ⟨S2x2048x16, .f32⟩
  | 90 => ⟨S2x2048x16, .i1⟩
  | 91 => ⟨S_, .f32⟩
  | 92 => ⟨S2x2048x16, .f32⟩
  | 93 => ⟨S2x2048x16, .f32⟩
  | 94 => ⟨S_, .f32⟩
  | 95 => ⟨S2x2048x16, .f32⟩
  | 96 => ⟨S2x2048x16, .i1⟩
  | 97 => ⟨S_, .f32⟩
  | 98 => ⟨S2x2048x16, .f32⟩
  | 99 => ⟨S2x2048x16, .f32⟩
  | 100 => ⟨S2x2048x16, .f32⟩
  | 101 => ⟨S2x2048x16, .f32⟩
  | 102 => ⟨S_, .f32⟩
  | 103 => ⟨S_, .f32⟩
  | 104 => ⟨S_, .i1⟩
  | 105 => ⟨S_, .f32⟩
  | 106 => ⟨S_, .f32⟩
  | 107 => ⟨S_, .f32⟩
  | 108 => ⟨S_, .f32⟩
  | 109 => ⟨S2x2048x16, .f32⟩
  | 110 => ⟨S2x2048x16, .i1⟩
  | 111 => ⟨S_, .f32⟩
  | 112 => ⟨S2x2048x16, .f32⟩
  | 113 => ⟨S2x2048x16, .f32⟩
  | 114 => ⟨S2x2048x16, .f32⟩
  | 115 => ⟨S2x2048x16, .f32⟩
  | 116 => ⟨S2x2048x16, .f32⟩
  | 117 => ⟨S_, .f32⟩
  | 118 => ⟨S2x2048x16, .f32⟩
  | 119 => ⟨S2x2048x16, .f32⟩
  | 120 => ⟨S2x2048x16, .f32⟩
  | 121 => ⟨S_, .f32⟩
  | 122 => ⟨S2x2048x16x64, .f32⟩
  | 123 => ⟨S2x2048x16x64, .f32⟩
  | 124 => ⟨S_, .f32⟩
  | 125 => ⟨S_, .f32⟩
  | 126 => ⟨S2x2048x16, .f32⟩
  | 127 => ⟨S_, .f32⟩
  | _ => ⟨S2x2048x7184, .f32⟩

abbrev hbmTy0_1 (i : Nat) : BufTy := match i % 128 with
  | 0 => ⟨S_, .f32⟩
  | 1 => ⟨S2x2048x16, .f32⟩
  | 2 => ⟨S_, .f32⟩
  | 3 => ⟨S2x2048x16x64, .f32⟩
  | 4 => ⟨S2x2048x16x64, .f32⟩
  | 5 => ⟨S2x2048x16, .f32⟩
  | 6 => ⟨S2x2048x16, .f32⟩
  | 7 => ⟨S2x2048x16, .f32⟩
  | 8 => ⟨S_, .f32⟩
  | 9 => ⟨S16, .f32⟩
  | 10 => ⟨S1x1x16, .f32⟩
  | 11 => ⟨S_, .f32⟩
  | 12 => ⟨S16, .f32⟩
  | 13 => ⟨S1x16, .f32⟩
  | 14 => ⟨S2x2048x1024, .f32⟩
  | 15 => ⟨S2x2048x16x64, .f32⟩
  | 16 => ⟨S_, .f32⟩
  | 17 => ⟨S16x64, .f32⟩
  | 18 => ⟨S1x1x16x64, .f32⟩
  | 19 => ⟨S2x2048x16x64, .f32⟩
  | 20 => ⟨S2x2048x16x64, .f32⟩
  | 21 => ⟨S_, .f32⟩
  | 22 => ⟨S16x64, .f32⟩
  | 23 => ⟨S2x2048x16x64, .f32⟩
  | 24 => ⟨S_, .f32⟩
  | 25 => ⟨S2x2048x16, .f32⟩
  | 26 => ⟨S2x2048x16x1, .f32⟩
  | 27 => ⟨S2x2048x16x64, .f32⟩
  | 28 => ⟨S2x2048x16x64, .f32⟩
  | 29 => ⟨S2x2048x16x1, .f32⟩
  | 30 => ⟨S_, .f32⟩
  | 31 => ⟨S2x2048x16x1, .f32⟩
  | 32 => ⟨S2x2048x16x1, .f32⟩
  | 33 => ⟨S_, .f32⟩
  | 34 => ⟨S2x2048x16, .f32⟩
  | 35 => ⟨S2x2048x16x64, .f32⟩
  | 36 => ⟨S2x2048x16x64, .f32⟩
  | 37 => ⟨S2x2048x16x64, .f32⟩
  | 38 => ⟨S2x2048x16x64, .f32⟩
  | 39 => ⟨S2x2048x16x64, .f32⟩
  | 40 => ⟨S1x16x64, .f32⟩
  | 41 => ⟨S2x2048x1024, .f32⟩
  | 42 => ⟨S2x2048x16x64, .f32⟩
  | 43 => ⟨S_, .f32⟩
  | 44 => ⟨S16x64, .f32⟩
  | 45 => ⟨S1x1x16x64, .f32⟩
  | 46 => ⟨S2x2048x16x64, .f32⟩
  | 47 => ⟨S2x2048x16x64, .f32⟩
  | 48 => ⟨S_, .f32⟩
  | 49 => ⟨S16x64, .f32⟩
  | 50 => ⟨S2x2048x16x64, .f32⟩
  | 51 => ⟨S_, .f32⟩
  | 52 => ⟨S2x2048x16, .f32⟩
  | 53 => ⟨S2x2048x16x1, .f32⟩
  | 54 => ⟨S2x2048x16x64, .f32⟩
  | 55 => ⟨S2x2048x16x64, .f32⟩
  | 56 => ⟨S2x2048x16x1, .f32⟩
  | 57 => ⟨S_, .f32⟩
  | 58 => ⟨S2x2048x16x1, .f32⟩
  | 59 => ⟨S2x2048x16x1, .f32⟩
  | 60 => ⟨S_, .f32⟩
  | 61 => ⟨S2x2048x16, .f32⟩
  | 62 => ⟨S2x2048x16x64, .f32⟩
  | 63 => ⟨S2x2048x16x64, .f32⟩
  | 64 => ⟨S2x2048x16x64, .f32⟩
  | 65 => ⟨S2x2048x16x64, .f32⟩
  | 66 => ⟨S2x2048x16x64, .f32⟩
  | 67 => ⟨S1x16x64, .f32⟩
  | 68 => ⟨S2x2048x1024, .f32⟩
  | 69 => ⟨S_, .i32⟩
  | 70 => ⟨S_, .f32⟩
  | 71 => ⟨S2x2048x128, .f32⟩
  | 72 => ⟨S4096x1024, .f32⟩
  | 73 => ⟨S4096x1024, .bf16⟩
  | 74 => ⟨S4096x1024, .f32⟩
  | 75 => ⟨S4096x1024, .bf16⟩
  | 76 => ⟨S4096x1024, .f32⟩
  | 77 => ⟨S4096x1024, .bf16⟩
  | 78 => ⟨S4096x128, .f32⟩
  | 79 => ⟨S4096x128, .bf16⟩
  | 80 => ⟨S1x1024, .f32⟩
  | 81 => ⟨S_, .i32⟩
  | 82 => ⟨S_, .f32⟩
  | 83 => ⟨S8x1024, .f32⟩
  | 84 => ⟨S1x1024, .f32⟩
  | 85 => ⟨S_, .i32⟩
  | 86 => ⟨S_, .f32⟩
  | 87 => ⟨S8x1024, .f32⟩
  | 88 => ⟨S_, .i32⟩
  | 89 => ⟨S_, .f32⟩
  | 90 => ⟨S8x1024, .f32⟩
  | 91 => ⟨S24x1024, .f32⟩
  | _ => ⟨S2x2048x7184, .f32⟩

abbrev hbmTy (i : Nat) : BufTy := match i / 128 with
  | 0 => hbmTy0_0 i
  | 1 => hbmTy0_1 i
  | _ => ⟨S2x2048x7184, .f32⟩

abbrev bufTy : (tb : Table) → Fin (tcTables nBuf tb) → BufTy
  | .hbm, ⟨i, _⟩ => hbmTy i
  | _, _ => ⟨S2x2048x7184, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_cst : Ref sig .tc := ⟨.hbm, 27, rfl⟩
abbrev main_v20 : Ref sig .tc := ⟨.hbm, 28, rfl⟩
abbrev main_v21 : Ref sig .tc := ⟨.hbm, 29, rfl⟩
abbrev main_cst_0 : Ref sig .tc := ⟨.hbm, 30, rfl⟩
abbrev main_v22 : Ref sig .tc := ⟨.hbm, 31, rfl⟩
abbrev main_v23 : Ref sig .tc := ⟨.hbm, 32, rfl⟩
abbrev main_cst_1 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_v27 : Ref sig .tc := ⟨.hbm, 37, rfl⟩
abbrev main_cst_2 : Ref sig .tc := ⟨.hbm, 38, rfl⟩
abbrev main_v28 : Ref sig .tc := ⟨.hbm, 39, rfl⟩
abbrev main_v29 : Ref sig .tc := ⟨.hbm, 40, rfl⟩
abbrev main_v30 : Ref sig .tc := ⟨.hbm, 41, rfl⟩
abbrev main_v31 : Ref sig .tc := ⟨.hbm, 42, rfl⟩
abbrev main_v32 : Ref sig .tc := ⟨.hbm, 43, rfl⟩
abbrev main_v33 : Ref sig .tc := ⟨.hbm, 44, rfl⟩
abbrev main_v34 : Ref sig .tc := ⟨.hbm, 45, rfl⟩
abbrev main_v35 : Ref sig .tc := ⟨.hbm, 46, rfl⟩
abbrev main_v36 : Ref sig .tc := ⟨.hbm, 47, rfl⟩
abbrev main_v37 : Ref sig .tc := ⟨.hbm, 48, rfl⟩
abbrev main_cst_3 : Ref sig .tc := ⟨.hbm, 49, rfl⟩
abbrev main_v38 : Ref sig .tc := ⟨.hbm, 50, rfl⟩
abbrev main_v39 : Ref sig .tc := ⟨.hbm, 51, rfl⟩
abbrev main_cst_4 : Ref sig .tc := ⟨.hbm, 52, rfl⟩
abbrev main_v40 : Ref sig .tc := ⟨.hbm, 53, rfl⟩
abbrev main_v41 : Ref sig .tc := ⟨.hbm, 54, rfl⟩
abbrev main_cst_5 : Ref sig .tc := ⟨.hbm, 55, rfl⟩
abbrev main_v42 : Ref sig .tc := ⟨.hbm, 56, rfl⟩
abbrev main_v43 : Ref sig .tc := ⟨.hbm, 57, rfl⟩
abbrev main_v44 : Ref sig .tc := ⟨.hbm, 58, rfl⟩
abbrev main_v45 : Ref sig .tc := ⟨.hbm, 59, rfl⟩
abbrev main_cst_6 : Ref sig .tc := ⟨.hbm, 60, rfl⟩
abbrev main_v46 : Ref sig .tc := ⟨.hbm, 61, rfl⟩
abbrev main_v47 : Ref sig .tc := ⟨.hbm, 62, rfl⟩
abbrev main_v48 : Ref sig .tc := ⟨.hbm, 63, rfl⟩
abbrev main_v49 : Ref sig .tc := ⟨.hbm, 64, rfl⟩
abbrev main_v50 : Ref sig .tc := ⟨.hbm, 65, rfl⟩
abbrev main_v51 : Ref sig .tc := ⟨.hbm, 66, rfl⟩
abbrev main_v52 : Ref sig .tc := ⟨.hbm, 67, rfl⟩
abbrev main_v53 : Ref sig .tc := ⟨.hbm, 68, rfl⟩
abbrev main_v54 : Ref sig .tc := ⟨.hbm, 69, rfl⟩
abbrev main_v55 : Ref sig .tc := ⟨.hbm, 70, rfl⟩
abbrev main_v56 : Ref sig .tc := ⟨.hbm, 71, rfl⟩
abbrev main_v57 : Ref sig .tc := ⟨.hbm, 72, rfl⟩
abbrev main_call0_v0 : Ref sig .tc := ⟨.hbm, 73, rfl⟩
abbrev main_call0_call0_cst : Ref sig .tc := ⟨.hbm, 74, rfl⟩
abbrev main_call0_call0_v0 : Ref sig .tc := ⟨.hbm, 75, rfl⟩
abbrev main_call0_call0_v1 : Ref sig .tc := ⟨.hbm, 76, rfl⟩
abbrev main_call0_call0_v2 : Ref sig .tc := ⟨.hbm, 77, rfl⟩
abbrev main_call0_call0_v3 : Ref sig .tc := ⟨.hbm, 78, rfl⟩
abbrev main_call0_call0_v4 : Ref sig .tc := ⟨.hbm, 79, rfl⟩
abbrev main_call0_call0_v5 : Ref sig .tc := ⟨.hbm, 80, rfl⟩
abbrev main_call0_call0_v6 : Ref sig .tc := ⟨.hbm, 81, rfl⟩
abbrev main_call0_call0_v7 : Ref sig .tc := ⟨.hbm, 82, rfl⟩
abbrev main_call0_call0_v8 : Ref sig .tc := ⟨.hbm, 83, rfl⟩
abbrev main_call0_call0_v9 : Ref sig .tc := ⟨.hbm, 84, rfl⟩
abbrev main_call0_call0_v10 : Ref sig .tc := ⟨.hbm, 85, rfl⟩
abbrev main_call0_call0_v11 : Ref sig .tc := ⟨.hbm, 86, rfl⟩
abbrev main_call0_v1_0 : Ref sig .tc := ⟨.hbm, 87, rfl⟩
abbrev main_call0_call0_cst_0 : Ref sig .tc := ⟨.hbm, 88, rfl⟩
abbrev main_call0_call0_v13 : Ref sig .tc := ⟨.hbm, 89, rfl⟩
abbrev main_call0_call0_v14 : Ref sig .tc := ⟨.hbm, 90, rfl⟩
abbrev main_call0_call0_cst_1 : Ref sig .tc := ⟨.hbm, 91, rfl⟩
abbrev main_call0_call0_v15 : Ref sig .tc := ⟨.hbm, 92, rfl⟩
abbrev main_call0_call0_v16 : Ref sig .tc := ⟨.hbm, 93, rfl⟩
abbrev main_call0_call0_cst_2 : Ref sig .tc := ⟨.hbm, 94, rfl⟩
abbrev main_call0_call0_v17 : Ref sig .tc := ⟨.hbm, 95, rfl⟩
abbrev main_call0_call0_v18 : Ref sig .tc := ⟨.hbm, 96, rfl⟩
abbrev main_call0_call0_cst_3 : Ref sig .tc := ⟨.hbm, 97, rfl⟩
abbrev main_call0_call0_v19 : Ref sig .tc := ⟨.hbm, 98, rfl⟩
abbrev main_call0_call0_v20 : Ref sig .tc := ⟨.hbm, 99, rfl⟩
abbrev main_call0_call0_v21 : Ref sig .tc := ⟨.hbm, 100, rfl⟩
abbrev main_v58_1 : Ref sig .tc := ⟨.hbm, 101, rfl⟩
abbrev main_call0_call0_cst_4 : Ref sig .tc := ⟨.hbm, 102, rfl⟩
abbrev main_call0_call0_cst_5 : Ref sig .tc := ⟨.hbm, 103, rfl⟩
abbrev main_call0_call0_v23 : Ref sig .tc := ⟨.hbm, 104, rfl⟩
abbrev main_call0_call0_cst_6 : Ref sig .tc := ⟨.hbm, 105, rfl⟩
abbrev main_call0_call0_cst_7 : Ref sig .tc := ⟨.hbm, 106, rfl⟩
abbrev main_call0_call0_v24 : Ref sig .tc := ⟨.hbm, 107, rfl⟩
abbrev main_call0_call0_cst_8 : Ref sig .tc := ⟨.hbm, 108, rfl⟩
abbrev main_call0_call0_v25 : Ref sig .tc := ⟨.hbm, 109, rfl⟩
abbrev main_call0_call0_v26 : Ref sig .tc := ⟨.hbm, 110, rfl⟩
abbrev main_call0_call0_cst_9 : Ref sig .tc := ⟨.hbm, 111, rfl⟩
abbrev main_call0_call0_v27 : Ref sig .tc := ⟨.hbm, 112, rfl⟩
abbrev main_call0_call0_v28 : Ref sig .tc := ⟨.hbm, 113, rfl⟩
abbrev main_call0_call0_v29 : Ref sig .tc := ⟨.hbm, 114, rfl⟩
abbrev main_call0_call0_v30 : Ref sig .tc := ⟨.hbm, 115, rfl⟩
abbrev main_call0_call0_v31 : Ref sig .tc := ⟨.hbm, 116, rfl⟩
abbrev main_call0_call0_cst_10 : Ref sig .tc := ⟨.hbm, 117, rfl⟩
abbrev main_call0_call0_v32 : Ref sig .tc := ⟨.hbm, 118, rfl⟩
abbrev main_v58_2 : Ref sig .tc := ⟨.hbm, 119, rfl⟩
abbrev main_v58_0 : Ref sig .tc := ⟨.hbm, 120, rfl⟩
abbrev main_cst_7 : Ref sig .tc := ⟨.hbm, 121, rfl⟩
abbrev main_v59 : Ref sig .tc := ⟨.hbm, 122, rfl⟩
abbrev main_v60 : Ref sig .tc := ⟨.hbm, 123, rfl⟩
abbrev main_call1_call0_cst : Ref sig .tc := ⟨.hbm, 124, rfl⟩
abbrev main_call1_call0_v0 : Ref sig .tc := ⟨.hbm, 125, rfl⟩
abbrev main_v61 : Ref sig .tc := ⟨.hbm, 126, rfl⟩
abbrev main_call2_call0_cst : Ref sig .tc := ⟨.hbm, 127, rfl⟩
abbrev main_call2_call0_v0 : Ref sig .tc := ⟨.hbm, 128, rfl⟩
abbrev main_v62 : Ref sig .tc := ⟨.hbm, 129, rfl⟩
abbrev main_cst_8 : Ref sig .tc := ⟨.hbm, 130, rfl⟩
abbrev main_v63 : Ref sig .tc := ⟨.hbm, 131, rfl⟩
abbrev main_v64 : Ref sig .tc := ⟨.hbm, 132, rfl⟩
abbrev main_call3_v0 : Ref sig .tc := ⟨.hbm, 133, rfl⟩
abbrev main_call3_v1 : Ref sig .tc := ⟨.hbm, 134, rfl⟩
abbrev main_v65 : Ref sig .tc := ⟨.hbm, 135, rfl⟩
abbrev main_cst_9 : Ref sig .tc := ⟨.hbm, 136, rfl⟩
abbrev main_v66 : Ref sig .tc := ⟨.hbm, 137, rfl⟩
abbrev main_v67 : Ref sig .tc := ⟨.hbm, 138, rfl⟩
abbrev main_cst_10 : Ref sig .tc := ⟨.hbm, 139, rfl⟩
abbrev main_v68 : Ref sig .tc := ⟨.hbm, 140, rfl⟩
abbrev main_v69 : Ref sig .tc := ⟨.hbm, 141, rfl⟩
abbrev main_v70 : Ref sig .tc := ⟨.hbm, 142, rfl⟩
abbrev main_v71 : Ref sig .tc := ⟨.hbm, 143, rfl⟩
abbrev main_cst_11 : Ref sig .tc := ⟨.hbm, 144, rfl⟩
abbrev main_v72 : Ref sig .tc := ⟨.hbm, 145, rfl⟩
abbrev main_v73 : Ref sig .tc := ⟨.hbm, 146, rfl⟩
abbrev main_v74 : Ref sig .tc := ⟨.hbm, 147, rfl⟩
abbrev main_v75 : Ref sig .tc := ⟨.hbm, 148, rfl⟩
abbrev main_cst_12 : Ref sig .tc := ⟨.hbm, 149, rfl⟩
abbrev main_v76 : Ref sig .tc := ⟨.hbm, 150, rfl⟩
abbrev main_v77 : Ref sig .tc := ⟨.hbm, 151, rfl⟩
abbrev main_cst_13 : Ref sig .tc := ⟨.hbm, 152, rfl⟩
abbrev main_v78 : Ref sig .tc := ⟨.hbm, 153, rfl⟩
abbrev main_v79 : Ref sig .tc := ⟨.hbm, 154, rfl⟩
abbrev main_v80 : Ref sig .tc := ⟨.hbm, 155, rfl⟩
abbrev main_v81 : Ref sig .tc := ⟨.hbm, 156, rfl⟩
abbrev main_v82 : Ref sig .tc := ⟨.hbm, 157, rfl⟩
abbrev main_cst_14 : Ref sig .tc := ⟨.hbm, 158, rfl⟩
abbrev main_v83 : Ref sig .tc := ⟨.hbm, 159, rfl⟩
abbrev main_v84 : Ref sig .tc := ⟨.hbm, 160, rfl⟩
abbrev main_cst_15 : Ref sig .tc := ⟨.hbm, 161, rfl⟩
abbrev main_v85 : Ref sig .tc := ⟨.hbm, 162, rfl⟩
abbrev main_v86 : Ref sig .tc := ⟨.hbm, 163, rfl⟩
abbrev main_v87 : Ref sig .tc := ⟨.hbm, 164, rfl⟩
abbrev main_v88 : Ref sig .tc := ⟨.hbm, 165, rfl⟩
abbrev main_v89 : Ref sig .tc := ⟨.hbm, 166, rfl⟩
abbrev main_v90 : Ref sig .tc := ⟨.hbm, 167, rfl⟩
abbrev main_v91 : Ref sig .tc := ⟨.hbm, 168, rfl⟩
abbrev main_v92 : Ref sig .tc := ⟨.hbm, 169, rfl⟩
abbrev main_v93 : Ref sig .tc := ⟨.hbm, 170, rfl⟩
abbrev main_cst_16 : Ref sig .tc := ⟨.hbm, 171, rfl⟩
abbrev main_v94 : Ref sig .tc := ⟨.hbm, 172, rfl⟩
abbrev main_v95 : Ref sig .tc := ⟨.hbm, 173, rfl⟩
abbrev main_v96 : Ref sig .tc := ⟨.hbm, 174, rfl⟩
abbrev main_v97 : Ref sig .tc := ⟨.hbm, 175, rfl⟩
abbrev main_cst_17 : Ref sig .tc := ⟨.hbm, 176, rfl⟩
abbrev main_v98 : Ref sig .tc := ⟨.hbm, 177, rfl⟩
abbrev main_v99 : Ref sig .tc := ⟨.hbm, 178, rfl⟩
abbrev main_cst_18 : Ref sig .tc := ⟨.hbm, 179, rfl⟩
abbrev main_v100 : Ref sig .tc := ⟨.hbm, 180, rfl⟩
abbrev main_v101 : Ref sig .tc := ⟨.hbm, 181, rfl⟩
abbrev main_v102 : Ref sig .tc := ⟨.hbm, 182, rfl⟩
abbrev main_v103 : Ref sig .tc := ⟨.hbm, 183, rfl⟩
abbrev main_v104 : Ref sig .tc := ⟨.hbm, 184, rfl⟩
abbrev main_cst_19 : Ref sig .tc := ⟨.hbm, 185, rfl⟩
abbrev main_v105 : Ref sig .tc := ⟨.hbm, 186, rfl⟩
abbrev main_v106 : Ref sig .tc := ⟨.hbm, 187, rfl⟩
abbrev main_cst_20 : Ref sig .tc := ⟨.hbm, 188, rfl⟩
abbrev main_v107 : Ref sig .tc := ⟨.hbm, 189, rfl⟩
abbrev main_v108 : Ref sig .tc := ⟨.hbm, 190, rfl⟩
abbrev main_v109 : Ref sig .tc := ⟨.hbm, 191, rfl⟩
abbrev main_v110 : Ref sig .tc := ⟨.hbm, 192, rfl⟩
abbrev main_v111 : Ref sig .tc := ⟨.hbm, 193, rfl⟩
abbrev main_v112 : Ref sig .tc := ⟨.hbm, 194, rfl⟩
abbrev main_v113 : Ref sig .tc := ⟨.hbm, 195, rfl⟩
abbrev main_v114 : Ref sig .tc := ⟨.hbm, 196, rfl⟩
abbrev main_c : Ref sig .tc := ⟨.hbm, 197, rfl⟩
abbrev main_call4_v0 : Ref sig .tc := ⟨.hbm, 198, rfl⟩
abbrev main_v115 : Ref sig .tc := ⟨.hbm, 199, rfl⟩
abbrev main_v116 : Ref sig .tc := ⟨.hbm, 200, rfl⟩
abbrev main_v117 : Ref sig .tc := ⟨.hbm, 201, rfl⟩
abbrev main_v118 : Ref sig .tc := ⟨.hbm, 202, rfl⟩
abbrev main_v119 : Ref sig .tc := ⟨.hbm, 203, rfl⟩
abbrev main_v120 : Ref sig .tc := ⟨.hbm, 204, rfl⟩
abbrev main_v121 : Ref sig .tc := ⟨.hbm, 205, rfl⟩
abbrev main_v122 : Ref sig .tc := ⟨.hbm, 206, rfl⟩
abbrev main_v123 : Ref sig .tc := ⟨.hbm, 207, rfl⟩
abbrev main_v124 : Ref sig .tc := ⟨.hbm, 208, rfl⟩
abbrev main_c_21 : Ref sig .tc := ⟨.hbm, 209, rfl⟩
abbrev main_call5_v0 : Ref sig .tc := ⟨.hbm, 210, rfl⟩
abbrev main_v125 : Ref sig .tc := ⟨.hbm, 211, rfl⟩
abbrev main_v126 : Ref sig .tc := ⟨.hbm, 212, rfl⟩
abbrev main_c_22 : Ref sig .tc := ⟨.hbm, 213, rfl⟩
abbrev main_call6_v0 : Ref sig .tc := ⟨.hbm, 214, rfl⟩
abbrev main_v127 : Ref sig .tc := ⟨.hbm, 215, rfl⟩
abbrev main_c_23 : Ref sig .tc := ⟨.hbm, 216, rfl⟩
abbrev main_call7_v0 : Ref sig .tc := ⟨.hbm, 217, rfl⟩
abbrev main_v128 : Ref sig .tc := ⟨.hbm, 218, rfl⟩
abbrev main_v129 : Ref sig .tc := ⟨.hbm, 219, rfl⟩

abbrev nD : Nat := 1
abbrev τ : Topo := Topo.v7x

variable {F : FTy → Type} [FloatOps F]
-- ==== Kernel7.lean ====
abbrev S2x2048x7184 : Shape := ⟨3, ![2, 2048, 7184]⟩
abbrev S1x31x1024 : Shape := ⟨3, ![1, 31, 1024]⟩
abbrev S2x2048x1024 : Shape := ⟨3, ![2, 2048, 1024]⟩
abbrev S4096x1024 : Shape := ⟨2, ![4096, 1024]⟩
abbrev S2x2048x3072 : Shape := ⟨3, ![2, 2048, 3072]⟩
abbrev S2x2048x4096 : Shape := ⟨3, ![2, 2048, 4096]⟩
abbrev S2x2048x7168 : Shape := ⟨3, ![2, 2048, 7168]⟩
abbrev S4096x7168 : Shape := ⟨2, ![4096, 7168]⟩
abbrev S31x1024 : Shape := ⟨2, ![31, 1024]⟩
abbrev S2048x128 : Shape := ⟨2, ![2048, 128]⟩
abbrev S31x128 : Shape := ⟨2, ![31, 128]⟩
abbrev S2080x128 : Shape := ⟨2, ![2080, 128]⟩
abbrev S32x128 : Shape := ⟨2, ![32, 128]⟩
abbrev S64x128 : Shape := ⟨2, ![64, 128]⟩
abbrev S1x128 : Shape := ⟨2, ![1, 128]⟩
abbrev S128 : Shape := ⟨1, ![128]⟩

abbrev nBuf : Space → Nat
  | .hbm => 12
  | .vmem => 16
  | .smem => 0
  | _ => 0

abbrev bufTy : (tb : Table) → Fin (tcTables nBuf tb) → BufTy
  | .hbm, ⟨0, _⟩ => ⟨S2x2048x7184, .f32⟩
  | .hbm, ⟨1, _⟩ => ⟨S1x31x1024, .f32⟩
  | .hbm, ⟨2, _⟩ => ⟨S2x2048x1024, .f32⟩
  | .hbm, ⟨3, _⟩ => ⟨S4096x1024, .f32⟩
  | .hbm, ⟨4, _⟩ => ⟨S2x2048x3072, .f32⟩
  | .hbm, ⟨5, _⟩ => ⟨S2x2048x4096, .f32⟩
  | .hbm, ⟨6, _⟩ => ⟨S2x2048x7168, .f32⟩
  | .hbm, ⟨7, _⟩ => ⟨S4096x7168, .f32⟩
  | .hbm, ⟨8, _⟩ => ⟨S31x1024, .f32⟩
  | .hbm, ⟨9, _⟩ => ⟨S4096x1024, .bf16⟩
  | .hbm, ⟨10, _⟩ => ⟨S4096x1024, .bf16⟩
  | .hbm, ⟨11, _⟩ => ⟨S31x1024, .f32⟩
  | .local _ .vmem, ⟨0, _⟩ => ⟨S2048x128, .f32⟩
  | .local _ .vmem, ⟨1, _⟩ => ⟨S2048x128, .f32⟩
  | .local _ .vmem, ⟨2, _⟩ => ⟨S2048x128, .f32⟩
  | .local _ .vmem, ⟨3, _⟩ => ⟨S2048x128, .f32⟩
  | .local _ .vmem, ⟨4, _⟩ => ⟨S2048x128, .f32⟩
  | .local _ .vmem, ⟨5, _⟩ => ⟨S2048x128, .f32⟩
  | .local _ .vmem, ⟨6, _⟩ => ⟨S31x128, .f32⟩
  | .local _ .vmem, ⟨7, _⟩ => ⟨S31x128, .f32⟩
  | .local _ .vmem, ⟨8, _⟩ => ⟨S2048x128, .bf16⟩
  | .local _ .vmem, ⟨9, _⟩ => ⟨S2048x128, .bf16⟩
  | .local _ .vmem, ⟨10, _⟩ => ⟨S2048x128, .bf16⟩
  | .local _ .vmem, ⟨11, _⟩ => ⟨S2048x128, .bf16⟩
  | .local _ .vmem, ⟨12, _⟩ => ⟨S31x128, .f32⟩
  | .local _ .vmem, ⟨13, _⟩ => ⟨S31x128, .f32⟩
  | .local _ .vmem, ⟨14, _⟩ => ⟨S2080x128, .f32⟩
  | .local _ .vmem, ⟨15, _⟩ => ⟨S2080x128, .f32⟩
  | _, _ => ⟨S2x2048x7184, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6_0 : Ref sig .tc := ⟨.hbm, 9, rfl⟩
abbrev main_v6_1 : Ref sig .tc := ⟨.hbm, 10, rfl⟩
abbrev main_v6_2 : Ref sig .tc := ⟨.hbm, 11, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_scratch0 : Ref sig .tc := ⟨.vmem, 14, rfl⟩
abbrev cc0_scratch1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F]

abbrev grid0 : Pipeline.Grid := ⟨2, ![8, 2], ![false, false]⟩

@[reducible] def k0_t1_loop : Scf.Loop 32 :=
  let c0_i32_13 : BitVec 32 := 0#32
  let c32_i32 : BitVec 32 := 32#32
  let v25 : BitVec 32 := Scalar.addi c0_i32_13 c32_i32
  let c1_i32 : BitVec 32 := 1#32
  ⟨c0_i32_13, v25, c1_i32⟩
def k0_mult1 (k0_t1 : Fin k0_t1_loop.trips) : BitVec 32 :=
  let c0_i32_13 : BitVec 32 := 0#32
  let c1_i32 : BitVec 32 := 1#32
  let arg11 : BitVec 32 := Scf.iv c0_i32_13 c1_i32 k0_t1
  let c64_i32 : BitVec 32 := 64#32
  let v276 : BitVec 32 := Scalar.muli arg11 c64_i32
  v276
def k0_off1 (k0_t1 : Fin k0_t1_loop.trips) (c30_i32 : BitVec 32) : Fin 2 → Nat :=
  let c0_i32_13 : BitVec 32 := 0#32
  let c1_i32 : BitVec 32 := 1#32
  let arg11 : BitVec 32 := Scf.iv c0_i32_13 c1_i32 k0_t1
  let c64_i32 : BitVec 32 := 64#32
  let v276 : BitVec 32 := Scalar.muli arg11 c64_i32
  let v277 : BitVec 32 := v276
  let v281 : BitVec 32 := Scalar.addi v277 c30_i32
  let v282 : Index := Scalar.indexCast v281
  let c0_206 : Index := 0#32
  ![v282.toNat, 0]
def k0_off2 (k0_t1 : Fin k0_t1_loop.trips) : Fin 2 → Nat :=
  let c0_i32_13 : BitVec 32 := 0#32
  let c1_i32 : BitVec 32 := 1#32
  let arg11 : BitVec 32 := Scf.iv c0_i32_13 c1_i32 k0_t1
  let c64_i32 : BitVec 32 := 64#32
  let v276 : BitVec 32 := Scalar.muli arg11 c64_i32
  let v277 : BitVec 32 := v276
  let v527 : Index := Scalar.indexCast v277
  let c0_299 : Index := 0#32
  ![v527.toNat, 0]
def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_1 (i : grid0.Coords) : Fin 2 → Nat :=
  let arg0 : BitVec 32 := BitVec.ofNat 32 (i 0).val
  let arg1 : BitVec 32 := BitVec.ofNat 32 (i 1).val
  let c32_i32 : BitVec 32 := 32#32
  let v0 : BitVec 32 := Scalar.addi c32_i32 arg0
  let c0_i32 : BitVec 32 := 0#32
  ![arg1.toNat, v0.toNat]

def cc0_transform_2 (i : grid0.Coords) : Fin 2 → Nat :=
  let arg0 : BitVec 32 := BitVec.ofNat 32 (i 0).val
  let arg1 : BitVec 32 := BitVec.ofNat 32 (i 1).val
  let c40_i32 : BitVec 32 := 40#32
  let v0 : BitVec 32 := Scalar.addi c40_i32 arg0
  let c0_i32 : BitVec 32 := 0#32
  ![arg1.toNat, v0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

abbrev stage0_0 : Fin 2 → Memref sig .tc .vmem S2048x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S2048x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S2048x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S31x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 2 → Memref sig .tc .vmem S2048x128 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S2048x128 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S31x128 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, false]
-- ==== Reference7Ideal.lean ====
abbrev S2x2048x7184 : Shape := ⟨3, ![2, 2048, 7184]⟩
abbrev S1x31x1024 : Shape := ⟨3, ![1, 31, 1024]⟩
abbrev S2x2048x1024 : Shape := ⟨3, ![2, 2048, 1024]⟩
abbrev S_ : Shape := ⟨0, ![]⟩
abbrev S2x30x1024 : Shape := ⟨3, ![2, 30, 1024]⟩
abbrev S2x2078x1024 : Shape := ⟨3, ![2, 2078, 1024]⟩
abbrev S1x1x1024 : Shape := ⟨3, ![1, 1, 1024]⟩
abbrev S1024 : Shape := ⟨1, ![1024]⟩
abbrev S4096x1024 : Shape := ⟨2, ![4096, 1024]⟩
abbrev S31x1024 : Shape := ⟨2, ![31, 1024]⟩

abbrev nBuf : Space → Nat
  | .hbm => 717
  | .vmem => 0
  | .smem => 0
  | _ => 0

abbrev hbmTy0_0 (i : Nat) : BufTy := match i % 128 with
  | 0 => ⟨S2x2048x7184, .f32⟩
  | 1 => ⟨S1x31x1024, .f32⟩
  | 2 => ⟨S2x2048x1024, .f32⟩
  | 3 => ⟨S2x2048x1024, .f32⟩
  | 4 => ⟨S2x2048x1024, .f32⟩
  | 5 => ⟨S2x2048x1024, .f32⟩
  | 6 => ⟨S2x2048x1024, .f32⟩
  | 7 => ⟨S_, .f32⟩
  | 8 => ⟨S2x2048x1024, .f32⟩
  | 9 => ⟨S2x2048x1024, .f32⟩
  | 10 => ⟨S_, .f32⟩
  | 11 => ⟨S2x2048x1024, .f32⟩
  | 12 => ⟨S2x2048x1024, .f32⟩
  | 13 => ⟨S_, .f32⟩
  | 14 => ⟨S2x2048x1024, .f32⟩
  | 15 => ⟨S2x2048x1024, .f32⟩
  | 16 => ⟨S2x2048x1024, .f32⟩
  | 17 => ⟨S2x2048x1024, .f32⟩
  | 18 => ⟨S_, .f32⟩
  | 19 => ⟨S2x30x1024, .f32⟩
  | 20 => ⟨S2x2078x1024, .f32⟩
  | 21 => ⟨S_, .f32⟩
  | 22 => ⟨S2x30x1024, .f32⟩
  | 23 => ⟨S_, .f32⟩
  | 24 => ⟨S2x2048x1024, .f32⟩
  | 25 => ⟨S1x1x1024, .f32⟩
  | 26 => ⟨S1024, .f32⟩
  | 27 => ⟨S2x2048x1024, .f32⟩
  | 28 => ⟨S1x1x1024, .f32⟩
  | 29 => ⟨S2x2048x1024, .f32⟩
  | 30 => ⟨S2x2048x1024, .f32⟩
  | 31 => ⟨S2x2048x1024, .f32⟩
  | 32 => ⟨S1x1x1024, .f32⟩
  | 33 => ⟨S1024, .f32⟩
  | 34 => ⟨S2x2048x1024, .f32⟩
  | 35 => ⟨S1x1x1024, .f32⟩
  | 36 => ⟨S2x2048x1024, .f32⟩
  | 37 => ⟨S2x2048x1024, .f32⟩
  | 38 => ⟨S2x2048x1024, .f32⟩
  | 39 => ⟨S1x1x1024, .f32⟩
  | 40 => ⟨S1024, .f32⟩
  | 41 => ⟨S2x2048x1024, .f32⟩
  | 42 => ⟨S1x1x1024, .f32⟩
  | 43 => ⟨S2x2048x1024, .f32⟩
  | 44 => ⟨S2x2048x1024, .f32⟩
  | 45 => ⟨S2x2048x1024, .f32⟩
  | 46 => ⟨S1x1x1024, .f32⟩
  | 47 => ⟨S1024, .f32⟩
  | 48 => ⟨S2x2048x1024, .f32⟩
  | 49 => ⟨S1x1x1024, .f32⟩
  | 50 => ⟨S2x2048x1024, .f32⟩
  | 51 => ⟨S2x2048x1024, .f32⟩
  | 52 => ⟨S2x2048x1024, .f32⟩
  | 53 => ⟨S1x1x1024, .f32⟩
  | 54 => ⟨S1024, .f32⟩
  | 55 => ⟨S2x2048x1024, .f32⟩
  | 56 => ⟨S1x1x1024, .f32⟩
  | 57 => ⟨S2x2048x1024, .f32⟩
  | 58 => ⟨S2x2048x1024, .f32⟩
  | 59 => ⟨S2x2048x1024, .f32⟩
  | 60 => ⟨S1x1x1024, .f32⟩
  | 61 => ⟨S1024, .f32⟩
  | 62 => ⟨S2x2048x1024, .f32⟩
  | 63 => ⟨S1x1x1024, .f32⟩
  | 64 => ⟨S2x2048x1024, .f32⟩
  | 65 => ⟨S2x2048x1024, .f32⟩
  | 66 => ⟨S2x2048x1024, .f32⟩
  | 67 => ⟨S1x1x1024, .f32⟩
  | 68 => ⟨S1024, .f32⟩
  | 69 => ⟨S2x2048x1024, .f32⟩
  | 70 => ⟨S1x1x1024, .f32⟩
  | 71 => ⟨S2x2048x1024, .f32⟩
  | 72 => ⟨S2x2048x1024, .f32⟩
  | 73 => ⟨S2x2048x1024, .f32⟩
  | 74 => ⟨S1x1x1024, .f32⟩
  | 75 => ⟨S1024, .f32⟩
  | 76 => ⟨S2x2048x1024, .f32⟩
  | 77 => ⟨S1x1x1024, .f32⟩
  | 78 => ⟨S2x2048x1024, .f32⟩
  | 79 => ⟨S2x2048x1024, .f32⟩
  | 80 => ⟨S2x2048x1024, .f32⟩
  | 81 => ⟨S1x1x1024, .f32⟩
  | 82 => ⟨S1024, .f32⟩
  | 83 => ⟨S2x2048x1024, .f32⟩
  | 84 => ⟨S1x1x1024, .f32⟩
  | 85 => ⟨S2x2048x1024, .f32⟩
  | 86 => ⟨S2x2048x1024, .f32⟩
  | 87 => ⟨S2x2048x1024, .f32⟩
  | 88 => ⟨S1x1x1024, .f32⟩
  | 89 => ⟨S1024, .f32⟩
  | 90 => ⟨S2x2048x1024, .f32⟩
  | 91 => ⟨S1x1x1024, .f32⟩
  | 92 => ⟨S2x2048x1024, .f32⟩
  | 93 => ⟨S2x2048x1024, .f32⟩
  | 94 => ⟨S2x2048x1024, .f32⟩
  | 95 => ⟨S1x1x1024, .f32⟩
  | 96 => ⟨S1024, .f32⟩
  | 97 => ⟨S2x2048x1024, .f32⟩
  | 98 => ⟨S1x1x1024, .f32⟩
  | 99 => ⟨S2x2048x1024, .f32⟩
  | 100 => ⟨S2x2048x1024, .f32⟩
  | 101 => ⟨S2x2048x1024, .f32⟩
  | 102 => ⟨S1x1x1024, .f32⟩
  | 103 => ⟨S1024, .f32⟩
  | 104 => ⟨S2x2048x1024, .f32⟩
  | 105 => ⟨S1x1x1024, .f32⟩
  | 106 => ⟨S2x2048x1024, .f32⟩
  | 107 => ⟨S2x2048x1024, .f32⟩
  | 108 => ⟨S2x2048x1024, .f32⟩
  | 109 => ⟨S1x1x1024, .f32⟩
  | 110 => ⟨S1024, .f32⟩
  | 111 => ⟨S2x2048x1024, .f32⟩
  | 112 => ⟨S1x1x1024, .f32⟩
  | 113 => ⟨S2x2048x1024, .f32⟩
  | 114 => ⟨S2x2048x1024, .f32⟩
  | 115 => ⟨S2x2048x1024, .f32⟩
  | 116 => ⟨S1x1x1024, .f32⟩
  | 117 => ⟨S1024, .f32⟩
  | 118 => ⟨S2x2048x1024, .f32⟩
  | 119 => ⟨S1x1x1024, .f32⟩
  | 120 => ⟨S2x2048x1024, .f32⟩
  | 121 => ⟨S2x2048x1024, .f32⟩
  | 122 => ⟨S2x2048x1024, .f32⟩
  | 123 => ⟨S1x1x1024, .f32⟩
  | 124 => ⟨S1024, .f32⟩
  | 125 => ⟨S2x2048x1024, .f32⟩
  | 126 => ⟨S1x1x1024, .f32⟩
  | 127 => ⟨S2x2048x1024, .f32⟩
  | _ => ⟨S2x2048x7184, .f32⟩

abbrev hbmTy0_1 (i : Nat) : BufTy := match i % 128 with
  | 0 => ⟨S2x2048x1024, .f32⟩
  | 1 => ⟨S2x2048x1024, .f32⟩
  | 2 => ⟨S1x1x1024, .f32⟩
  | 3 => ⟨S1024, .f32⟩
  | 4 => ⟨S2x2048x1024, .f32⟩
  | 5 => ⟨S1x1x1024, .f32⟩
  | 6 => ⟨S2x2048x1024, .f32⟩
  | 7 => ⟨S2x2048x1024, .f32⟩
  | 8 => ⟨S2x2048x1024, .f32⟩
  | 9 => ⟨S1x1x1024, .f32⟩
  | 10 => ⟨S1024, .f32⟩
  | 11 => ⟨S2x2048x1024, .f32⟩
  | 12 => ⟨S1x1x1024, .f32⟩
  | 13 => ⟨S2x2048x1024, .f32⟩
  | 14 => ⟨S2x2048x1024, .f32⟩
  | 15 => ⟨S2x2048x1024, .f32⟩
  | 16 => ⟨S1x1x1024, .f32⟩
  | 17 => ⟨S1024, .f32⟩
  | 18 => ⟨S2x2048x1024, .f32⟩
  | 19 => ⟨S1x1x1024, .f32⟩
  | 20 => ⟨S2x2048x1024, .f32⟩
  | 21 => ⟨S2x2048x1024, .f32⟩
  | 22 => ⟨S2x2048x1024, .f32⟩
  | 23 => ⟨S1x1x1024, .f32⟩
  | 24 => ⟨S1024, .f32⟩
  | 25 => ⟨S2x2048x1024, .f32⟩
  | 26 => ⟨S1x1x1024, .f32⟩
  | 27 => ⟨S2x2048x1024, .f32⟩
  | 28 => ⟨S2x2048x1024, .f32⟩
  | 29 => ⟨S2x2048x1024, .f32⟩
  | 30 => ⟨S1x1x1024, .f32⟩
  | 31 => ⟨S1024, .f32⟩
  | 32 => ⟨S2x2048x1024, .f32⟩
  | 33 => ⟨S1x1x1024, .f32⟩
  | 34 => ⟨S2x2048x1024, .f32⟩
  | 35 => ⟨S2x2048x1024, .f32⟩
  | 36 => ⟨S2x2048x1024, .f32⟩
  | 37 => ⟨S1x1x1024, .f32⟩
  | 38 => ⟨S1024, .f32⟩
  | 39 => ⟨S2x2048x1024, .f32⟩
  | 40 => ⟨S1x1x1024, .f32⟩
  | 41 => ⟨S2x2048x1024, .f32⟩
  | 42 => ⟨S2x2048x1024, .f32⟩
  | 43 => ⟨S2x2048x1024, .f32⟩
  | 44 => ⟨S1x1x1024, .f32⟩
  | 45 => ⟨S1024, .f32⟩
  | 46 => ⟨S2x2048x1024, .f32⟩
  | 47 => ⟨S1x1x1024, .f32⟩
  | 48 => ⟨S2x2048x1024, .f32⟩
  | 49 => ⟨S2x2048x1024, .f32⟩
  | 50 => ⟨S2x2048x1024, .f32⟩
  | 51 => ⟨S1x1x1024, .f32⟩
  | 52 => ⟨S1024, .f32⟩
  | 53 => ⟨S2x2048x1024, .f32⟩
  | 54 => ⟨S1x1x1024, .f32⟩
  | 55 => ⟨S2x2048x1024, .f32⟩
  | 56 => ⟨S2x2048x1024, .f32⟩
  | 57 => ⟨S2x2048x1024, .f32⟩
  | 58 => ⟨S1x1x1024, .f32⟩
  | 59 => ⟨S1024, .f32⟩
  | 60 => ⟨S2x2048x1024, .f32⟩
  | 61 => ⟨S1x1x1024, .f32⟩
  | 62 => ⟨S2x2048x1024, .f32⟩
  | 63 => ⟨S2x2048x1024, .f32⟩
  | 64 => ⟨S2x2048x1024, .f32⟩
  | 65 => ⟨S1x1x1024, .f32⟩
  | 66 => ⟨S1024, .f32⟩
  | 67 => ⟨S2x2048x1024, .f32⟩
  | 68 => ⟨S1x1x1024, .f32⟩
  | 69 => ⟨S2x2048x1024, .f32⟩
  | 70 => ⟨S2x2048x1024, .f32⟩
  | 71 => ⟨S2x2048x1024, .f32⟩
  | 72 => ⟨S1x1x1024, .f32⟩
  | 73 => ⟨S1024, .f32⟩
  | 74 => ⟨S2x2048x1024, .f32⟩
  | 75 => ⟨S1x1x1024, .f32⟩
  | 76 => ⟨S2x2048x1024, .f32⟩
  | 77 => ⟨S2x2048x1024, .f32⟩
  | 78 => ⟨S2x2048x1024, .f32⟩
  | 79 => ⟨S1x1x1024, .f32⟩
  | 80 => ⟨S1024, .f32⟩
  | 81 => ⟨S2x2048x1024, .f32⟩
  | 82 => ⟨S1x1x1024, .f32⟩
  | 83 => ⟨S2x2048x1024, .f32⟩
  | 84 => ⟨S2x2048x1024, .f32⟩
  | 85 => ⟨S2x2048x1024, .f32⟩
  | 86 => ⟨S1x1x1024, .f32⟩
  | 87 => ⟨S1024, .f32⟩
  | 88 => ⟨S2x2048x1024, .f32⟩
  | 89 => ⟨S1x1x1024, .f32⟩
  | 90 => ⟨S2x2048x1024, .f32⟩
  | 91 => ⟨S2x2048x1024, .f32⟩
  | 92 => ⟨S2x2048x1024, .f32⟩
  | 93 => ⟨S1x1x1024, .f32⟩
  | 94 => ⟨S1024, .f32⟩
  | 95 => ⟨S2x2048x1024, .f32⟩
  | 96 => ⟨S1x1x1024, .f32⟩
  | 97 => ⟨S2x2048x1024, .f32⟩
  | 98 => ⟨S2x2048x1024, .f32⟩
  | 99 => ⟨S2x2048x1024, .f32⟩
  | 100 => ⟨S1x1x1024, .f32⟩
  | 101 => ⟨S1024, .f32⟩
  | 102 => ⟨S2x2048x1024, .f32⟩
  | 103 => ⟨S1x1x1024, .f32⟩
  | 104 => ⟨S2x2048x1024, .f32⟩
  | 105 => ⟨S2x2048x1024, .f32⟩
  | 106 => ⟨S2x2048x1024, .f32⟩
  | 107 => ⟨S1x1x1024, .f32⟩
  | 108 => ⟨S1024, .f32⟩
  | 109 => ⟨S2x2048x1024, .f32⟩
  | 110 => ⟨S1x1x1024, .f32⟩
  | 111 => ⟨S2x2048x1024, .f32⟩
  | 112 => ⟨S2x2048x1024, .f32⟩
  | 113 => ⟨S2x2048x1024, .f32⟩
  | 114 => ⟨S2x2048x1024, .f32⟩
  | 115 => ⟨S2x2048x1024, .f32⟩
  | 116 => ⟨S2x2048x1024, .f32⟩
  | 117 => ⟨S2x2048x1024, .f32⟩
  | 118 => ⟨S2x2048x1024, .f32⟩
  | 119 => ⟨S_, .f32⟩
  | 120 => ⟨S1024, .f32⟩
  | 121 => ⟨S1x1x1024, .f32⟩
  | 122 => ⟨S_, .f32⟩
  | 123 => ⟨S1024, .f32⟩
  | 124 => ⟨S_, .f32⟩
  | 125 => ⟨S2x2078x1024, .f32⟩
  | 126 => ⟨S1x1x1024, .f32⟩
  | 127 => ⟨S_, .f32⟩
  | _ => ⟨S2x2048x7184, .f32⟩

abbrev hbmTy0_2 (i : Nat) : BufTy := match i % 128 with
  | 0 => ⟨S1x31x1024, .f32⟩
  | 1 => ⟨S2x2048x1024, .f32⟩
  | 2 => ⟨S2x2048x1024, .f32⟩
  | 3 => ⟨S2x2048x1024, .f32⟩
  | 4 => ⟨S_, .f32⟩
  | 5 => ⟨S1024, .f32⟩
  | 6 => ⟨S1x1x1024, .f32⟩
  | 7 => ⟨S_, .f32⟩
  | 8 => ⟨S1024, .f32⟩
  | 9 => ⟨S_, .f32⟩
  | 10 => ⟨S2x2078x1024, .f32⟩
  | 11 => ⟨S2x2078x1024, .f32⟩
  | 12 => ⟨S1x1x1024, .f32⟩
  | 13 => ⟨S_, .f32⟩
  | 14 => ⟨S1x31x1024, .f32⟩
  | 15 => ⟨S1x31x1024, .f32⟩
  | 16 => ⟨S2x2048x1024, .f32⟩
  | 17 => ⟨S2x2048x1024, .f32⟩
  | 18 => ⟨S2x2048x1024, .f32⟩
  | 19 => ⟨S_, .f32⟩
  | 20 => ⟨S1024, .f32⟩
  | 21 => ⟨S1x1x1024, .f32⟩
  | 22 => ⟨S_, .f32⟩
  | 23 => ⟨S1024, .f32⟩
  | 24 => ⟨S_, .f32⟩
  | 25 => ⟨S2x2078x1024, .f32⟩
  | 26 => ⟨S2x2078x1024, .f32⟩
  | 27 => ⟨S1x1x1024, .f32⟩
  | 28 => ⟨S_, .f32⟩
  | 29 => ⟨S1x31x1024, .f32⟩
  | 30 => ⟨S1x31x1024, .f32⟩
  | 31 => ⟨S2x2048x1024, .f32⟩
  | 32 => ⟨S2x2048x1024, .f32⟩
  | 33 => ⟨S2x2048x1024, .f32⟩
  | 34 => ⟨S_, .f32⟩
  | 35 => ⟨S1024, .f32⟩
  | 36 => ⟨S1x1x1024, .f32⟩
  | 37 => ⟨S_, .f32⟩
  | 38 => ⟨S1024, .f32⟩
  | 39 => ⟨S_, .f32⟩
  | 40 => ⟨S2x2078x1024, .f32⟩
  | 41 => ⟨S2x2078x1024, .f32⟩
  | 42 => ⟨S1x1x1024, .f32⟩
  | 43 => ⟨S_, .f32⟩
  | 44 => ⟨S1x31x1024, .f32⟩
  | 45 => ⟨S1x31x1024, .f32⟩
  | 46 => ⟨S2x2048x1024, .f32⟩
  | 47 => ⟨S2x2048x1024, .f32⟩
  | 48 => ⟨S2x2048x1024, .f32⟩
  | 49 => ⟨S_, .f32⟩
  | 50 => ⟨S1024, .f32⟩
  | 51 => ⟨S1x1x1024, .f32⟩
  | 52 => ⟨S_, .f32⟩
  | 53 => ⟨S1024, .f32⟩
  | 54 => ⟨S_, .f32⟩
  | 55 => ⟨S2x2078x1024, .f32⟩
  | 56 => ⟨S2x2078x1024, .f32⟩
  | 57 => ⟨S1x1x1024, .f32⟩
  | 58 => ⟨S_, .f32⟩
  | 59 => ⟨S1x31x1024, .f32⟩
  | 60 => ⟨S1x31x1024, .f32⟩
  | 61 => ⟨S2x2048x1024, .f32⟩
  | 62 => ⟨S2x2048x1024, .f32⟩
  | 63 => ⟨S2x2048x1024, .f32⟩
  | 64 => ⟨S_, .f32⟩
  | 65 => ⟨S1024, .f32⟩
  | 66 => ⟨S1x1x1024, .f32⟩
  | 67 => ⟨S_, .f32⟩
  | 68 => ⟨S1024, .f32⟩
  | 69 => ⟨S_, .f32⟩
  | 70 => ⟨S2x2078x1024, .f32⟩
  | 71 => ⟨S2x2078x1024, .f32⟩
  | 72 => ⟨S1x1x1024, .f32⟩
  | 73 => ⟨S_, .f32⟩
  | 74 => ⟨S1x31x1024, .f32⟩
  | 75 => ⟨S1x31x1024, .f32⟩
  | 76 => ⟨S2x2048x1024, .f32⟩
  | 77 => ⟨S2x2048x1024, .f32⟩
  | 78 => ⟨S2x2048x1024, .f32⟩
  | 79 => ⟨S_, .f32⟩
  | 80 => ⟨S1024, .f32⟩
  | 81 => ⟨S1x1x1024, .f32⟩
  | 82 => ⟨S_, .f32⟩
  | 83 => ⟨S1024, .f32⟩
  | 84 => ⟨S_, .f32⟩
  | 85 => ⟨S2x2078x1024, .f32⟩
  | 86 => ⟨S2x2078x1024, .f32⟩
  | 87 => ⟨S1x1x1024, .f32⟩
  | 88 => ⟨S_, .f32⟩
  | 89 => ⟨S1x31x1024, .f32⟩
  | 90 => ⟨S1x31x1024, .f32⟩
  | 91 => ⟨S2x2048x1024, .f32⟩
  | 92 => ⟨S2x2048x1024, .f32⟩
  | 93 => ⟨S2x2048x1024, .f32⟩
  | 94 => ⟨S_, .f32⟩
  | 95 => ⟨S1024, .f32⟩
  | 96 => ⟨S1x1x1024, .f32⟩
  | 97 => ⟨S_, .f32⟩
  | 98 => ⟨S1024, .f32⟩
  | 99 => ⟨S_, .f32⟩
  | 100 => ⟨S2x2078x1024, .f32⟩
  | 101 => ⟨S2x2078x1024, .f32⟩
  | 102 => ⟨S1x1x1024, .f32⟩
  | 103 => ⟨S_, .f32⟩
  | 104 => ⟨S1x31x1024, .f32⟩
  | 105 => ⟨S1x31x1024, .f32⟩
  | 106 => ⟨S2x2048x1024, .f32⟩
  | 107 => ⟨S2x2048x1024, .f32⟩
  | 108 => ⟨S2x2048x1024, .f32⟩
  | 109 => ⟨S_, .f32⟩
  | 110 => ⟨S1024, .f32⟩
  | 111 => ⟨S1x1x1024, .f32⟩
  | 112 => ⟨S_, .f32⟩
  | 113 => ⟨S1024, .f32⟩
  | 114 => ⟨S_, .f32⟩
  | 115 => ⟨S2x2078x1024, .f32⟩
  | 116 => ⟨S2x2078x1024, .f32⟩
  | 117 => ⟨S1x1x1024, .f32⟩
  | 118 => ⟨S_, .f32⟩
  | 119 => ⟨S1x31x1024, .f32⟩
  | 120 => ⟨S1x31x1024, .f32⟩
  | 121 => ⟨S2x2048x1024, .f32⟩
  | 122 => ⟨S2x2048x1024, .f32⟩
  | 123 => ⟨S2x2048x1024, .f32⟩
  | 124 => ⟨S_, .f32⟩
  | 125 => ⟨S1024, .f32⟩
  | 126 => ⟨S1x1x1024, .f32⟩
  | 127 => ⟨S_, .f32⟩
  | _ => ⟨S2x2048x7184, .f32⟩

abbrev hbmTy0_3 (i : Nat) : BufTy := match i % 128 with
  | 0 => ⟨S1024, .f32⟩
  | 1 => ⟨S_, .f32⟩
  | 2 => ⟨S2x2078x1024, .f32⟩
  | 3 => ⟨S2x2078x1024, .f32⟩
  | 4 => ⟨S1x1x1024, .f32⟩
  | 5 => ⟨S_, .f32⟩
  | 6 => ⟨S1x31x1024, .f32⟩
  | 7 => ⟨S1x31x1024, .f32⟩
  | 8 => ⟨S2x2048x1024, .f32⟩
  | 9 => ⟨S2x2048x1024, .f32⟩
  | 10 => ⟨S2x2048x1024, .f32⟩
  | 11 => ⟨S_, .f32⟩
  | 12 => ⟨S1024, .f32⟩
  | 13 => ⟨S1x1x1024, .f32⟩
  | 14 => ⟨S_, .f32⟩
  | 15 => ⟨S1024, .f32⟩
  | 16 => ⟨S_, .f32⟩
  | 17 => ⟨S2x2078x1024, .f32⟩
  | 18 => ⟨S2x2078x1024, .f32⟩
  | 19 => ⟨S1x1x1024, .f32⟩
  | 20 => ⟨S_, .f32⟩
  | 21 => ⟨S1x31x1024, .f32⟩
  | 22 => ⟨S1x31x1024, .f32⟩
  | 23 => ⟨S2x2048x1024, .f32⟩
  | 24 => ⟨S2x2048x1024, .f32⟩
  | 25 => ⟨S2x2048x1024, .f32⟩
  | 26 => ⟨S_, .f32⟩
  | 27 => ⟨S1024, .f32⟩
  | 28 => ⟨S1x1x1024, .f32⟩
  | 29 => ⟨S_, .f32⟩
  | 30 => ⟨S1024, .f32⟩
  | 31 => ⟨S_, .f32⟩
  | 32 => ⟨S2x2078x1024, .f32⟩
  | 33 => ⟨S2x2078x1024, .f32⟩
  | 34 => ⟨S1x1x1024, .f32⟩
  | 35 => ⟨S_, .f32⟩
  | 36 => ⟨S1x31x1024, .f32⟩
  | 37 => ⟨S1x31x1024, .f32⟩
  | 38 => ⟨S2x2048x1024, .f32⟩
  | 39 => ⟨S2x2048x1024, .f32⟩
  | 40 => ⟨S2x2048x1024, .f32⟩
  | 41 => ⟨S_, .f32⟩
  | 42 => ⟨S1024, .f32⟩
  | 43 => ⟨S1x1x1024, .f32⟩
  | 44 => ⟨S_, .f32⟩
  | 45 => ⟨S1024, .f32⟩
  | 46 => ⟨S_, .f32⟩
  | 47 => ⟨S2x2078x1024, .f32⟩
  | 48 => ⟨S2x2078x1024, .f32⟩
  | 49 => ⟨S1x1x1024, .f32⟩
  | 50 => ⟨S_, .f32⟩
  | 51 => ⟨S1x31x1024, .f32⟩
  | 52 => ⟨S1x31x1024, .f32⟩
  | 53 => ⟨S2x2048x1024, .f32⟩
  | 54 => ⟨S2x2048x1024, .f32⟩
  | 55 => ⟨S2x2048x1024, .f32⟩
  | 56 => ⟨S_, .f32⟩
  | 57 => ⟨S1024, .f32⟩
  | 58 => ⟨S1x1x1024, .f32⟩
  | 59 => ⟨S_, .f32⟩
  | 60 => ⟨S1024, .f32⟩
  | 61 => ⟨S_, .f32⟩
  | 62 => ⟨S2x2078x1024, .f32⟩
  | 63 => ⟨S2x2078x1024, .f32⟩
  | 64 => ⟨S1x1x1024, .f32⟩
  | 65 => ⟨S_, .f32⟩
  | 66 => ⟨S1x31x1024, .f32⟩
  | 67 => ⟨S1x31x1024, .f32⟩
  | 68 => ⟨S2x2048x1024, .f32⟩
  | 69 => ⟨S2x2048x1024, .f32⟩
  | 70 => ⟨S2x2048x1024, .f32⟩
  | 71 => ⟨S_, .f32⟩
  | 72 => ⟨S1024, .f32⟩
  | 73 => ⟨S1x1x1024, .f32⟩
  | 74 => ⟨S_, .f32⟩
  | 75 => ⟨S1024, .f32⟩
  | 76 => ⟨S_, .f32⟩
  | 77 => ⟨S2x2078x1024, .f32⟩
  | 78 => ⟨S2x2078x1024, .f32⟩
  | 79 => ⟨S1x1x1024, .f32⟩
  | 80 => ⟨S_, .f32⟩
  | 81 => ⟨S1x31x1024, .f32⟩
  | 82 => ⟨S1x31x1024, .f32⟩
  | 83 => ⟨S2x2048x1024, .f32⟩
  | 84 => ⟨S2x2048x1024, .f32⟩
  | 85 => ⟨S2x2048x1024, .f32⟩
  | 86 => ⟨S_, .f32⟩
  | 87 => ⟨S1024, .f32⟩
  | 88 => ⟨S1x1x1024, .f32⟩
  | 89 => ⟨S_, .f32⟩
  | 90 => ⟨S1024, .f32⟩
  | 91 => ⟨S_, .f32⟩
  | 92 => ⟨S2x2078x1024, .f32⟩
  | 93 => ⟨S2x2078x1024, .f32⟩
  | 94 => ⟨S1x1x1024, .f32⟩
  | 95 => ⟨S_, .f32⟩
  | 96 => ⟨S1x31x1024, .f32⟩
  | 97 => ⟨S1x31x1024, .f32⟩
  | 98 => ⟨S2x2048x1024, .f32⟩
  | 99 => ⟨S2x2048x1024, .f32⟩
  | 100 => ⟨S2x2048x1024, .f32⟩
  | 101 => ⟨S_, .f32⟩
  | 102 => ⟨S1024, .f32⟩
  | 103 => ⟨S1x1x1024, .f32⟩
  | 104 => ⟨S_, .f32⟩
  | 105 => ⟨S1024, .f32⟩
  | 106 => ⟨S_, .f32⟩
  | 107 => ⟨S2x2078x1024, .f32⟩
  | 108 => ⟨S2x2078x1024, .f32⟩
  | 109 => ⟨S1x1x1024, .f32⟩
  | 110 => ⟨S_, .f32⟩
  | 111 => ⟨S1x31x1024, .f32⟩
  | 112 => ⟨S1x31x1024, .f32⟩
  | 113 => ⟨S2x2048x1024, .f32⟩
  | 114 => ⟨S2x2048x1024, .f32⟩
  | 115 => ⟨S2x2048x1024, .f32⟩
  | 116 => ⟨S_, .f32⟩
  | 117 => ⟨S1024, .f32⟩
  | 118 => ⟨S1x1x1024, .f32⟩
  | 119 => ⟨S_, .f32⟩
  | 120 => ⟨S1024, .f32⟩
  | 121 => ⟨S_, .f32⟩
  | 122 => ⟨S2x2078x1024, .f32⟩
  | 123 => ⟨S2x2078x1024, .f32⟩
  | 124 => ⟨S1x1x1024, .f32⟩
  | 125 => ⟨S_, .f32⟩
  | 126 => ⟨S1x31x1024, .f32⟩
  | 127 => ⟨S1x31x1024, .f32⟩
  | _ => ⟨S2x2048x7184, .f32⟩

abbrev hbmTy0_4 (i : Nat) : BufTy := match i % 128 with
  | 0 => ⟨S2x2048x1024, .f32⟩
  | 1 => ⟨S2x2048x1024, .f32⟩
  | 2 => ⟨S2x2048x1024, .f32⟩
  | 3 => ⟨S_, .f32⟩
  | 4 => ⟨S1024, .f32⟩
  | 5 => ⟨S1x1x1024, .f32⟩
  | 6 => ⟨S_, .f32⟩
  | 7 => ⟨S1024, .f32⟩
  | 8 => ⟨S_, .f32⟩
  | 9 => ⟨S2x2078x1024, .f32⟩
  | 10 => ⟨S2x2078x1024, .f32⟩
  | 11 => ⟨S1x1x1024, .f32⟩
  | 12 => ⟨S_, .f32⟩
  | 13 => ⟨S1x31x1024, .f32⟩
  | 14 => ⟨S1x31x1024, .f32⟩
  | 15 => ⟨S2x2048x1024, .f32⟩
  | 16 => ⟨S2x2048x1024, .f32⟩
  | 17 => ⟨S2x2048x1024, .f32⟩
  | 18 => ⟨S_, .f32⟩
  | 19 => ⟨S1024, .f32⟩
  | 20 => ⟨S1x1x1024, .f32⟩
  | 21 => ⟨S_, .f32⟩
  | 22 => ⟨S1024, .f32⟩
  | 23 => ⟨S_, .f32⟩
  | 24 => ⟨S2x2078x1024, .f32⟩
  | 25 => ⟨S2x2078x1024, .f32⟩
  | 26 => ⟨S1x1x1024, .f32⟩
  | 27 => ⟨S_, .f32⟩
  | 28 => ⟨S1x31x1024, .f32⟩
  | 29 => ⟨S1x31x1024, .f32⟩
  | 30 => ⟨S2x2048x1024, .f32⟩
  | 31 => ⟨S2x2048x1024, .f32⟩
  | 32 => ⟨S2x2048x1024, .f32⟩
  | 33 => ⟨S_, .f32⟩
  | 34 => ⟨S1024, .f32⟩
  | 35 => ⟨S1x1x1024, .f32⟩
  | 36 => ⟨S_, .f32⟩
  | 37 => ⟨S1024, .f32⟩
  | 38 => ⟨S_, .f32⟩
  | 39 => ⟨S2x2078x1024, .f32⟩
  | 40 => ⟨S2x2078x1024, .f32⟩
  | 41 => ⟨S1x1x1024, .f32⟩
  | 42 => ⟨S_, .f32⟩
  | 43 => ⟨S1x31x1024, .f32⟩
  | 44 => ⟨S1x31x1024, .f32⟩
  | 45 => ⟨S2x2048x1024, .f32⟩
  | 46 => ⟨S2x2048x1024, .f32⟩
  | 47 => ⟨S2x2048x1024, .f32⟩
  | 48 => ⟨S_, .f32⟩
  | 49 => ⟨S1024, .f32⟩
  | 50 => ⟨S1x1x1024, .f32⟩
  | 51 => ⟨S_, .f32⟩
  | 52 => ⟨S1024, .f32⟩
  | 53 => ⟨S_, .f32⟩
  | 54 => ⟨S2x2078x1024, .f32⟩
  | 55 => ⟨S2x2078x1024, .f32⟩
  | 56 => ⟨S1x1x1024, .f32⟩
  | 57 => ⟨S_, .f32⟩
  | 58 => ⟨S1x31x1024, .f32⟩
  | 59 => ⟨S1x31x1024, .f32⟩
  | 60 => ⟨S2x2048x1024, .f32⟩
  | 61 => ⟨S2x2048x1024, .f32⟩
  | 62 => ⟨S2x2048x1024, .f32⟩
  | 63 => ⟨S_, .f32⟩
  | 64 => ⟨S1024, .f32⟩
  | 65 => ⟨S1x1x1024, .f32⟩
  | 66 => ⟨S_, .f32⟩
  | 67 => ⟨S1024, .f32⟩
  | 68 => ⟨S_, .f32⟩
  | 69 => ⟨S2x2078x1024, .f32⟩
  | 70 => ⟨S2x2078x1024, .f32⟩
  | 71 => ⟨S1x1x1024, .f32⟩
  | 72 => ⟨S_, .f32⟩
  | 73 => ⟨S1x31x1024, .f32⟩
  | 74 => ⟨S1x31x1024, .f32⟩
  | 75 => ⟨S2x2048x1024, .f32⟩
  | 76 => ⟨S2x2048x1024, .f32⟩
  | 77 => ⟨S2x2048x1024, .f32⟩
  | 78 => ⟨S_, .f32⟩
  | 79 => ⟨S1024, .f32⟩
  | 80 => ⟨S1x1x1024, .f32⟩
  | 81 => ⟨S_, .f32⟩
  | 82 => ⟨S1024, .f32⟩
  | 83 => ⟨S_, .f32⟩
  | 84 => ⟨S2x2078x1024, .f32⟩
  | 85 => ⟨S2x2078x1024, .f32⟩
  | 86 => ⟨S1x1x1024, .f32⟩
  | 87 => ⟨S_, .f32⟩
  | 88 => ⟨S1x31x1024, .f32⟩
  | 89 => ⟨S1x31x1024, .f32⟩
  | 90 => ⟨S2x2048x1024, .f32⟩
  | 91 => ⟨S2x2048x1024, .f32⟩
  | 92 => ⟨S2x2048x1024, .f32⟩
  | 93 => ⟨S_, .f32⟩
  | 94 => ⟨S1024, .f32⟩
  | 95 => ⟨S1x1x1024, .f32⟩
  | 96 => ⟨S_, .f32⟩
  | 97 => ⟨S1024, .f32⟩
  | 98 => ⟨S_, .f32⟩
  | 99 => ⟨S2x2078x1024, .f32⟩
  | 100 => ⟨S2x2078x1024, .f32⟩
  | 101 => ⟨S1x1x1024, .f32⟩
  | 102 => ⟨S_, .f32⟩
  | 103 => ⟨S1x31x1024, .f32⟩
  | 104 => ⟨S1x31x1024, .f32⟩
  | 105 => ⟨S2x2048x1024, .f32⟩
  | 106 => ⟨S2x2048x1024, .f32⟩
  | 107 => ⟨S2x2048x1024, .f32⟩
  | 108 => ⟨S_, .f32⟩
  | 109 => ⟨S1024, .f32⟩
  | 110 => ⟨S1x1x1024, .f32⟩
  | 111 => ⟨S_, .f32⟩
  | 112 => ⟨S1024, .f32⟩
  | 113 => ⟨S_, .f32⟩
  | 114 => ⟨S2x2078x1024, .f32⟩
  | 115 => ⟨S2x2078x1024, .f32⟩
  | 116 => ⟨S1x1x1024, .f32⟩
  | 117 => ⟨S_, .f32⟩
  | 118 => ⟨S1x31x1024, .f32⟩
  | 119 => ⟨S1x31x1024, .f32⟩
  | 120 => ⟨S2x2048x1024, .f32⟩
  | 121 => ⟨S2x2048x1024, .f32⟩
  | 122 => ⟨S2x2048x1024, .f32⟩
  | 123 => ⟨S_, .f32⟩
  | 124 => ⟨S1024, .f32⟩
  | 125 => ⟨S1x1x1024, .f32⟩
  | 126 => ⟨S_, .f32⟩
  | 127 => ⟨S1024, .f32⟩
  | _ => ⟨S2x2048x7184, .f32⟩

abbrev hbmTy0_5 (i : Nat) : BufTy := match i % 128 with
  | 0 => ⟨S_, .f32⟩
  | 1 => ⟨S2x2078x1024, .f32⟩
  | 2 => ⟨S2x2078x1024, .f32⟩
  | 3 => ⟨S1x1x1024, .f32⟩
  | 4 => ⟨S_, .f32⟩
  | 5 => ⟨S1x31x1024, .f32⟩
  | 6 => ⟨S1x31x1024, .f32⟩
  | 7 => ⟨S2x2048x1024, .f32⟩
  | 8 => ⟨S2x2048x1024, .f32⟩
  | 9 => ⟨S2x2048x1024, .f32⟩
  | 10 => ⟨S_, .f32⟩
  | 11 => ⟨S1024, .f32⟩
  | 12 => ⟨S1x1x1024, .f32⟩
  | 13 => ⟨S_, .f32⟩
  | 14 => ⟨S1024, .f32⟩
  | 15 => ⟨S_, .f32⟩
  | 16 => ⟨S2x2078x1024, .f32⟩
  | 17 => ⟨S2x2078x1024, .f32⟩
  | 18 => ⟨S1x1x1024, .f32⟩
  | 19 => ⟨S_, .f32⟩
  | 20 => ⟨S1x31x1024, .f32⟩
  | 21 => ⟨S1x31x1024, .f32⟩
  | 22 => ⟨S2x2048x1024, .f32⟩
  | 23 => ⟨S2x2048x1024, .f32⟩
  | 24 => ⟨S2x2048x1024, .f32⟩
  | 25 => ⟨S_, .f32⟩
  | 26 => ⟨S1024, .f32⟩
  | 27 => ⟨S1x1x1024, .f32⟩
  | 28 => ⟨S_, .f32⟩
  | 29 => ⟨S1024, .f32⟩
  | 30 => ⟨S_, .f32⟩
  | 31 => ⟨S2x2078x1024, .f32⟩
  | 32 => ⟨S2x2078x1024, .f32⟩
  | 33 => ⟨S1x1x1024, .f32⟩
  | 34 => ⟨S_, .f32⟩
  | 35 => ⟨S1x31x1024, .f32⟩
  | 36 => ⟨S1x31x1024, .f32⟩
  | 37 => ⟨S2x2048x1024, .f32⟩
  | 38 => ⟨S2x2048x1024, .f32⟩
  | 39 => ⟨S2x2048x1024, .f32⟩
  | 40 => ⟨S_, .f32⟩
  | 41 => ⟨S1024, .f32⟩
  | 42 => ⟨S1x1x1024, .f32⟩
  | 43 => ⟨S_, .f32⟩
  | 44 => ⟨S1024, .f32⟩
  | 45 => ⟨S_, .f32⟩
  | 46 => ⟨S2x2078x1024, .f32⟩
  | 47 => ⟨S2x2078x1024, .f32⟩
  | 48 => ⟨S1x1x1024, .f32⟩
  | 49 => ⟨S_, .f32⟩
  | 50 => ⟨S1x31x1024, .f32⟩
  | 51 => ⟨S1x31x1024, .f32⟩
  | 52 => ⟨S2x2048x1024, .f32⟩
  | 53 => ⟨S2x2048x1024, .f32⟩
  | 54 => ⟨S2x2048x1024, .f32⟩
  | 55 => ⟨S_, .f32⟩
  | 56 => ⟨S1024, .f32⟩
  | 57 => ⟨S1x1x1024, .f32⟩
  | 58 => ⟨S_, .f32⟩
  | 59 => ⟨S1024, .f32⟩
  | 60 => ⟨S_, .f32⟩
  | 61 => ⟨S2x2078x1024, .f32⟩
  | 62 => ⟨S2x2078x1024, .f32⟩
  | 63 => ⟨S1x1x1024, .f32⟩
  | 64 => ⟨S_, .f32⟩
  | 65 => ⟨S1x31x1024, .f32⟩
  | 66 => ⟨S1x31x1024, .f32⟩
  | 67 => ⟨S2x30x1024, .f32⟩
  | 68 => ⟨S2x2048x1024, .f32⟩
  | 69 => ⟨S2x2048x1024, .f32⟩
  | 70 => ⟨S2x2048x1024, .f32⟩
  | 71 => ⟨S2x2048x1024, .f32⟩
  | 72 => ⟨S4096x1024, .f32⟩
  | 73 => ⟨S4096x1024, .bf16⟩
  | 74 => ⟨S4096x1024, .f32⟩
  | 75 => ⟨S4096x1024, .bf16⟩
  | 76 => ⟨S31x1024, .f32⟩
  | _ => ⟨S2x2048x7184, .f32⟩

abbrev hbmTy (i : Nat) : BufTy := match i / 128 with
  | 0 => hbmTy0_0 i
  | 1 => hbmTy0_1 i
  | 2 => hbmTy0_2 i
  | 3 => hbmTy0_3 i
  | 4 => hbmTy0_4 i
  | 5 => hbmTy0_5 i
  | _ => ⟨S2x2048x7184, .f32⟩

abbrev bufTy : (tb : Table) → Fin (tcTables nBuf tb) → BufTy
  | .hbm, ⟨i, _⟩ => hbmTy i
  | _, _ => ⟨S2x2048x7184, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_cst : Ref sig .tc := ⟨.hbm, 7, rfl⟩
abbrev main_v4 : Ref sig .tc := ⟨.hbm, 8, rfl⟩
abbrev main_v5 : Ref sig .tc := ⟨.hbm, 9, rfl⟩
abbrev main_cst_0 : Ref sig .tc := ⟨.hbm, 10, rfl⟩
abbrev main_v6 : Ref sig .tc := ⟨.hbm, 11, rfl⟩
abbrev main_v7 : Ref sig .tc := ⟨.hbm, 12, rfl⟩
abbrev main_cst_1 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_cst_2 : Ref sig .tc := ⟨.hbm, 18, rfl⟩
abbrev main_v12 : Ref sig .tc := ⟨.hbm, 19, rfl⟩
abbrev main_v13 : Ref sig .tc := ⟨.hbm, 20, rfl⟩
abbrev main_cst_3 : Ref sig .tc := ⟨.hbm, 21, rfl⟩
abbrev main_v14 : Ref sig .tc := ⟨.hbm, 22, rfl⟩
abbrev main_cst_4 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩
abbrev main_v25 : Ref sig .tc := ⟨.hbm, 34, rfl⟩
abbrev main_v26 : Ref sig .tc := ⟨.hbm, 35, rfl⟩
abbrev main_v27 : Ref sig .tc := ⟨.hbm, 36, rfl⟩
abbrev main_v28 : Ref sig .tc := ⟨.hbm, 37, rfl⟩
abbrev main_v29 : Ref sig .tc := ⟨.hbm, 38, rfl⟩
abbrev main_v30 : Ref sig .tc := ⟨.hbm, 39, rfl⟩
abbrev main_v31 : Ref sig .tc := ⟨.hbm, 40, rfl⟩
abbrev main_v32 : Ref sig .tc := ⟨.hbm, 41, rfl⟩
abbrev main_v33 : Ref sig .tc := ⟨.hbm, 42, rfl⟩
abbrev main_v34 : Ref sig .tc := ⟨.hbm, 43, rfl⟩
abbrev main_v35 : Ref sig .tc := ⟨.hbm, 44, rfl⟩
abbrev main_v36 : Ref sig .tc := ⟨.hbm, 45, rfl⟩
abbrev main_v37 : Ref sig .tc := ⟨.hbm, 46, rfl⟩
abbrev main_v38 : Ref sig .tc := ⟨.hbm, 47, rfl⟩
abbrev main_v39 : Ref sig .tc := ⟨.hbm, 48, rfl⟩
abbrev main_v40 : Ref sig .tc := ⟨.hbm, 49, rfl⟩
abbrev main_v41 : Ref sig .tc := ⟨.hbm, 50, rfl⟩
abbrev main_v42 : Ref sig .tc := ⟨.hbm, 51, rfl⟩
abbrev main_v43 : Ref sig .tc := ⟨.hbm, 52, rfl⟩
abbrev main_v44 : Ref sig .tc := ⟨.hbm, 53, rfl⟩
abbrev main_v45 : Ref sig .tc := ⟨.hbm, 54, rfl⟩
abbrev main_v46 : Ref sig .tc := ⟨.hbm, 55, rfl⟩
abbrev main_v47 : Ref sig .tc := ⟨.hbm, 56, rfl⟩
abbrev main_v48 : Ref sig .tc := ⟨.hbm, 57, rfl⟩
abbrev main_v49 : Ref sig .tc := ⟨.hbm, 58, rfl⟩
abbrev main_v50 : Ref sig .tc := ⟨.hbm, 59, rfl⟩
abbrev main_v51 : Ref sig .tc := ⟨.hbm, 60, rfl⟩
abbrev main_v52 : Ref sig .tc := ⟨.hbm, 61, rfl⟩
abbrev main_v53 : Ref sig .tc := ⟨.hbm, 62, rfl⟩
abbrev main_v54 : Ref sig .tc := ⟨.hbm, 63, rfl⟩
abbrev main_v55 : Ref sig .tc := ⟨.hbm, 64, rfl⟩
abbrev main_v56 : Ref sig .tc := ⟨.hbm, 65, rfl⟩
abbrev main_v57 : Ref sig .tc := ⟨.hbm, 66, rfl⟩
abbrev main_v58 : Ref sig .tc := ⟨.hbm, 67, rfl⟩
abbrev main_v59 : Ref sig .tc := ⟨.hbm, 68, rfl⟩
abbrev main_v60 : Ref sig .tc := ⟨.hbm, 69, rfl⟩
abbrev main_v61 : Ref sig .tc := ⟨.hbm, 70, rfl⟩
abbrev main_v62 : Ref sig .tc := ⟨.hbm, 71, rfl⟩
abbrev main_v63 : Ref sig .tc := ⟨.hbm, 72, rfl⟩
abbrev main_v64 : Ref sig .tc := ⟨.hbm, 73, rfl⟩
abbrev main_v65 : Ref sig .tc := ⟨.hbm, 74, rfl⟩
abbrev main_v66 : Ref sig .tc := ⟨.hbm, 75, rfl⟩
abbrev main_v67 : Ref sig .tc := ⟨.hbm, 76, rfl⟩
abbrev main_v68 : Ref sig .tc := ⟨.hbm, 77, rfl⟩
abbrev main_v69 : Ref sig .tc := ⟨.hbm, 78, rfl⟩
abbrev main_v70 : Ref sig .tc := ⟨.hbm, 79, rfl⟩
abbrev main_v71 : Ref sig .tc := ⟨.hbm, 80, rfl⟩
abbrev main_v72 : Ref sig .tc := ⟨.hbm, 81, rfl⟩
abbrev main_v73 : Ref sig .tc := ⟨.hbm, 82, rfl⟩
abbrev main_v74 : Ref sig .tc := ⟨.hbm, 83, rfl⟩
abbrev main_v75 : Ref sig .tc := ⟨.hbm, 84, rfl⟩
abbrev main_v76 : Ref sig .tc := ⟨.hbm, 85, rfl⟩
abbrev main_v77 : Ref sig .tc := ⟨.hbm, 86, rfl⟩
abbrev main_v78 : Ref sig .tc := ⟨.hbm, 87, rfl⟩
abbrev main_v79 : Ref sig .tc := ⟨.hbm, 88, rfl⟩
abbrev main_v80 : Ref sig .tc := ⟨.hbm, 89, rfl⟩
abbrev main_v81 : Ref sig .tc := ⟨.hbm, 90, rfl⟩
abbrev main_v82 : Ref sig .tc := ⟨.hbm, 91, rfl⟩
abbrev main_v83 : Ref sig .tc := ⟨.hbm, 92, rfl⟩
abbrev main_v84 : Ref sig .tc := ⟨.hbm, 93, rfl⟩
abbrev main_v85 : Ref sig .tc := ⟨.hbm, 94, rfl⟩
abbrev main_v86 : Ref sig .tc := ⟨.hbm, 95, rfl⟩
abbrev main_v87 : Ref sig .tc := ⟨.hbm, 96, rfl⟩
abbrev main_v88 : Ref sig .tc := ⟨.hbm, 97, rfl⟩
abbrev main_v89 : Ref sig .tc := ⟨.hbm, 98, rfl⟩
abbrev main_v90 : Ref sig .tc := ⟨.hbm, 99, rfl⟩
abbrev main_v91 : Ref sig .tc := ⟨.hbm, 100, rfl⟩
abbrev main_v92 : Ref sig .tc := ⟨.hbm, 101, rfl⟩
abbrev main_v93 : Ref sig .tc := ⟨.hbm, 102, rfl⟩
abbrev main_v94 : Ref sig .tc := ⟨.hbm, 103, rfl⟩
abbrev main_v95 : Ref sig .tc := ⟨.hbm, 104, rfl⟩
abbrev main_v96 : Ref sig .tc := ⟨.hbm, 105, rfl⟩
abbrev main_v97 : Ref sig .tc := ⟨.hbm, 106, rfl⟩
abbrev main_v98 : Ref sig .tc := ⟨.hbm, 107, rfl⟩
abbrev main_v99 : Ref sig .tc := ⟨.hbm, 108, rfl⟩
abbrev main_v100 : Ref sig .tc := ⟨.hbm, 109, rfl⟩
abbrev main_v101 : Ref sig .tc := ⟨.hbm, 110, rfl⟩
abbrev main_v102 : Ref sig .tc := ⟨.hbm, 111, rfl⟩
abbrev main_v103 : Ref sig .tc := ⟨.hbm, 112, rfl⟩
abbrev main_v104 : Ref sig .tc := ⟨.hbm, 113, rfl⟩
abbrev main_v105 : Ref sig .tc := ⟨.hbm, 114, rfl⟩
abbrev main_v106 : Ref sig .tc := ⟨.hbm, 115, rfl⟩
abbrev main_v107 : Ref sig .tc := ⟨.hbm, 116, rfl⟩
abbrev main_v108 : Ref sig .tc := ⟨.hbm, 117, rfl⟩
abbrev main_v109 : Ref sig .tc := ⟨.hbm, 118, rfl⟩
abbrev main_v110 : Ref sig .tc := ⟨.hbm, 119, rfl⟩
abbrev main_v111 : Ref sig .tc := ⟨.hbm, 120, rfl⟩
abbrev main_v112 : Ref sig .tc := ⟨.hbm, 121, rfl⟩
abbrev main_v113 : Ref sig .tc := ⟨.hbm, 122, rfl⟩
abbrev main_v114 : Ref sig .tc := ⟨.hbm, 123, rfl⟩
abbrev main_v115 : Ref sig .tc := ⟨.hbm, 124, rfl⟩
abbrev main_v116 : Ref sig .tc := ⟨.hbm, 125, rfl⟩
abbrev main_v117 : Ref sig .tc := ⟨.hbm, 126, rfl⟩
abbrev main_v118 : Ref sig .tc := ⟨.hbm, 127, rfl⟩
abbrev main_v119 : Ref sig .tc := ⟨.hbm, 128, rfl⟩
abbrev main_v120 : Ref sig .tc := ⟨.hbm, 129, rfl⟩
abbrev main_v121 : Ref sig .tc := ⟨.hbm, 130, rfl⟩
abbrev main_v122 : Ref sig .tc := ⟨.hbm, 131, rfl⟩
abbrev main_v123 : Ref sig .tc := ⟨.hbm, 132, rfl⟩
abbrev main_v124 : Ref sig .tc := ⟨.hbm, 133, rfl⟩
abbrev main_v125 : Ref sig .tc := ⟨.hbm, 134, rfl⟩
abbrev main_v126 : Ref sig .tc := ⟨.hbm, 135, rfl⟩
abbrev main_v127 : Ref sig .tc := ⟨.hbm, 136, rfl⟩
abbrev main_v128 : Ref sig .tc := ⟨.hbm, 137, rfl⟩
abbrev main_v129 : Ref sig .tc := ⟨.hbm, 138, rfl⟩
abbrev main_v130 : Ref sig .tc := ⟨.hbm, 139, rfl⟩
abbrev main_v131 : Ref sig .tc := ⟨.hbm, 140, rfl⟩
abbrev main_v132 : Ref sig .tc := ⟨.hbm, 141, rfl⟩
abbrev main_v133 : Ref sig .tc := ⟨.hbm, 142, rfl⟩
abbrev main_v134 : Ref sig .tc := ⟨.hbm, 143, rfl⟩
abbrev main_v135 : Ref sig .tc := ⟨.hbm, 144, rfl⟩
abbrev main_v136 : Ref sig .tc := ⟨.hbm, 145, rfl⟩
abbrev main_v137 : Ref sig .tc := ⟨.hbm, 146, rfl⟩
abbrev main_v138 : Ref sig .tc := ⟨.hbm, 147, rfl⟩
abbrev main_v139 : Ref sig .tc := ⟨.hbm, 148, rfl⟩
abbrev main_v140 : Ref sig .tc := ⟨.hbm, 149, rfl⟩
abbrev main_v141 : Ref sig .tc := ⟨.hbm, 150, rfl⟩
abbrev main_v142 : Ref sig .tc := ⟨.hbm, 151, rfl⟩
abbrev main_v143 : Ref sig .tc := ⟨.hbm, 152, rfl⟩
abbrev main_v144 : Ref sig .tc := ⟨.hbm, 153, rfl⟩
abbrev main_v145 : Ref sig .tc := ⟨.hbm, 154, rfl⟩
abbrev main_v146 : Ref sig .tc := ⟨.hbm, 155, rfl⟩
abbrev main_v147 : Ref sig .tc := ⟨.hbm, 156, rfl⟩
abbrev main_v148 : Ref sig .tc := ⟨.hbm, 157, rfl⟩
abbrev main_v149 : Ref sig .tc := ⟨.hbm, 158, rfl⟩
abbrev main_v150 : Ref sig .tc := ⟨.hbm, 159, rfl⟩
abbrev main_v151 : Ref sig .tc := ⟨.hbm, 160, rfl⟩
abbrev main_v152 : Ref sig .tc := ⟨.hbm, 161, rfl⟩
abbrev main_v153 : Ref sig .tc := ⟨.hbm, 162, rfl⟩
abbrev main_v154 : Ref sig .tc := ⟨.hbm, 163, rfl⟩
abbrev main_v155 : Ref sig .tc := ⟨.hbm, 164, rfl⟩
abbrev main_v156 : Ref sig .tc := ⟨.hbm, 165, rfl⟩
abbrev main_v157 : Ref sig .tc := ⟨.hbm, 166, rfl⟩
abbrev main_v158 : Ref sig .tc := ⟨.hbm, 167, rfl⟩
abbrev main_v159 : Ref sig .tc := ⟨.hbm, 168, rfl⟩
abbrev main_v160 : Ref sig .tc := ⟨.hbm, 169, rfl⟩
abbrev main_v161 : Ref sig .tc := ⟨.hbm, 170, rfl⟩
abbrev main_v162 : Ref sig .tc := ⟨.hbm, 171, rfl⟩
abbrev main_v163 : Ref sig .tc := ⟨.hbm, 172, rfl⟩
abbrev main_v164 : Ref sig .tc := ⟨.hbm, 173, rfl⟩
abbrev main_v165 : Ref sig .tc := ⟨.hbm, 174, rfl⟩
abbrev main_v166 : Ref sig .tc := ⟨.hbm, 175, rfl⟩
abbrev main_v167 : Ref sig .tc := ⟨.hbm, 176, rfl⟩
abbrev main_v168 : Ref sig .tc := ⟨.hbm, 177, rfl⟩
abbrev main_v169 : Ref sig .tc := ⟨.hbm, 178, rfl⟩
abbrev main_v170 : Ref sig .tc := ⟨.hbm, 179, rfl⟩
abbrev main_v171 : Ref sig .tc := ⟨.hbm, 180, rfl⟩
abbrev main_v172 : Ref sig .tc := ⟨.hbm, 181, rfl⟩
abbrev main_v173 : Ref sig .tc := ⟨.hbm, 182, rfl⟩
abbrev main_v174 : Ref sig .tc := ⟨.hbm, 183, rfl⟩
abbrev main_v175 : Ref sig .tc := ⟨.hbm, 184, rfl⟩
abbrev main_v176 : Ref sig .tc := ⟨.hbm, 185, rfl⟩
abbrev main_v177 : Ref sig .tc := ⟨.hbm, 186, rfl⟩
abbrev main_v178 : Ref sig .tc := ⟨.hbm, 187, rfl⟩
abbrev main_v179 : Ref sig .tc := ⟨.hbm, 188, rfl⟩
abbrev main_v180 : Ref sig .tc := ⟨.hbm, 189, rfl⟩
abbrev main_v181 : Ref sig .tc := ⟨.hbm, 190, rfl⟩
abbrev main_v182 : Ref sig .tc := ⟨.hbm, 191, rfl⟩
abbrev main_v183 : Ref sig .tc := ⟨.hbm, 192, rfl⟩
abbrev main_v184 : Ref sig .tc := ⟨.hbm, 193, rfl⟩
abbrev main_v185 : Ref sig .tc := ⟨.hbm, 194, rfl⟩
abbrev main_v186 : Ref sig .tc := ⟨.hbm, 195, rfl⟩
abbrev main_v187 : Ref sig .tc := ⟨.hbm, 196, rfl⟩
abbrev main_v188 : Ref sig .tc := ⟨.hbm, 197, rfl⟩
abbrev main_v189 : Ref sig .tc := ⟨.hbm, 198, rfl⟩
abbrev main_v190 : Ref sig .tc := ⟨.hbm, 199, rfl⟩
abbrev main_v191 : Ref sig .tc := ⟨.hbm, 200, rfl⟩
abbrev main_v192 : Ref sig .tc := ⟨.hbm, 201, rfl⟩
abbrev main_v193 : Ref sig .tc := ⟨.hbm, 202, rfl⟩
abbrev main_v194 : Ref sig .tc := ⟨.hbm, 203, rfl⟩
abbrev main_v195 : Ref sig .tc := ⟨.hbm, 204, rfl⟩
abbrev main_v196 : Ref sig .tc := ⟨.hbm, 205, rfl⟩
abbrev main_v197 : Ref sig .tc := ⟨.hbm, 206, rfl⟩
abbrev main_v198 : Ref sig .tc := ⟨.hbm, 207, rfl⟩
abbrev main_v199 : Ref sig .tc := ⟨.hbm, 208, rfl⟩
abbrev main_v200 : Ref sig .tc := ⟨.hbm, 209, rfl⟩
abbrev main_v201 : Ref sig .tc := ⟨.hbm, 210, rfl⟩
abbrev main_v202 : Ref sig .tc := ⟨.hbm, 211, rfl⟩
abbrev main_v203 : Ref sig .tc := ⟨.hbm, 212, rfl⟩
abbrev main_v204 : Ref sig .tc := ⟨.hbm, 213, rfl⟩
abbrev main_v205 : Ref sig .tc := ⟨.hbm, 214, rfl⟩
abbrev main_v206 : Ref sig .tc := ⟨.hbm, 215, rfl⟩
abbrev main_v207 : Ref sig .tc := ⟨.hbm, 216, rfl⟩
abbrev main_v208 : Ref sig .tc := ⟨.hbm, 217, rfl⟩
abbrev main_v209 : Ref sig .tc := ⟨.hbm, 218, rfl⟩
abbrev main_v210 : Ref sig .tc := ⟨.hbm, 219, rfl⟩
abbrev main_v211 : Ref sig .tc := ⟨.hbm, 220, rfl⟩
abbrev main_v212 : Ref sig .tc := ⟨.hbm, 221, rfl⟩
abbrev main_v213 : Ref sig .tc := ⟨.hbm, 222, rfl⟩
abbrev main_v214 : Ref sig .tc := ⟨.hbm, 223, rfl⟩
abbrev main_v215 : Ref sig .tc := ⟨.hbm, 224, rfl⟩
abbrev main_v216 : Ref sig .tc := ⟨.hbm, 225, rfl⟩
abbrev main_v217 : Ref sig .tc := ⟨.hbm, 226, rfl⟩
abbrev main_v218 : Ref sig .tc := ⟨.hbm, 227, rfl⟩
abbrev main_v219 : Ref sig .tc := ⟨.hbm, 228, rfl⟩
abbrev main_v220 : Ref sig .tc := ⟨.hbm, 229, rfl⟩
abbrev main_v221 : Ref sig .tc := ⟨.hbm, 230, rfl⟩
abbrev main_v222 : Ref sig .tc := ⟨.hbm, 231, rfl⟩
abbrev main_v223 : Ref sig .tc := ⟨.hbm, 232, rfl⟩
abbrev main_v224 : Ref sig .tc := ⟨.hbm, 233, rfl⟩
abbrev main_v225 : Ref sig .tc := ⟨.hbm, 234, rfl⟩
abbrev main_v226 : Ref sig .tc := ⟨.hbm, 235, rfl⟩
abbrev main_v227 : Ref sig .tc := ⟨.hbm, 236, rfl⟩
abbrev main_v228 : Ref sig .tc := ⟨.hbm, 237, rfl⟩
abbrev main_v229 : Ref sig .tc := ⟨.hbm, 238, rfl⟩
abbrev main_v230 : Ref sig .tc := ⟨.hbm, 239, rfl⟩
abbrev main_v231 : Ref sig .tc := ⟨.hbm, 240, rfl⟩
abbrev main_v232 : Ref sig .tc := ⟨.hbm, 241, rfl⟩
abbrev main_v233 : Ref sig .tc := ⟨.hbm, 242, rfl⟩
abbrev main_v234 : Ref sig .tc := ⟨.hbm, 243, rfl⟩
abbrev main_v235 : Ref sig .tc := ⟨.hbm, 244, rfl⟩
abbrev main_v236 : Ref sig .tc := ⟨.hbm, 245, rfl⟩
abbrev main_v237 : Ref sig .tc := ⟨.hbm, 246, rfl⟩
abbrev main_cst_5 : Ref sig .tc := ⟨.hbm, 247, rfl⟩
abbrev main_v238 : Ref sig .tc := ⟨.hbm, 248, rfl⟩
abbrev main_v239 : Ref sig .tc := ⟨.hbm, 249, rfl⟩
abbrev main_cst_6 : Ref sig .tc := ⟨.hbm, 250, rfl⟩
abbrev main_v240 : Ref sig .tc := ⟨.hbm, 251, rfl⟩
abbrev main_cst_7 : Ref sig .tc := ⟨.hbm, 252, rfl⟩
abbrev main_v241 : Ref sig .tc := ⟨.hbm, 253, rfl⟩
abbrev main_v242 : Ref sig .tc := ⟨.hbm, 254, rfl⟩
abbrev main_cst_8 : Ref sig .tc := ⟨.hbm, 255, rfl⟩
abbrev main_v243 : Ref sig .tc := ⟨.hbm, 256, rfl⟩
abbrev main_v244 : Ref sig .tc := ⟨.hbm, 257, rfl⟩
abbrev main_v245 : Ref sig .tc := ⟨.hbm, 258, rfl⟩
abbrev main_v246 : Ref sig .tc := ⟨.hbm, 259, rfl⟩
abbrev main_cst_9 : Ref sig .tc := ⟨.hbm, 260, rfl⟩
abbrev main_v247 : Ref sig .tc := ⟨.hbm, 261, rfl⟩
abbrev main_v248 : Ref sig .tc := ⟨.hbm, 262, rfl⟩
abbrev main_cst_10 : Ref sig .tc := ⟨.hbm, 263, rfl⟩
abbrev main_v249 : Ref sig .tc := ⟨.hbm, 264, rfl⟩
abbrev main_cst_11 : Ref sig .tc := ⟨.hbm, 265, rfl⟩
abbrev main_v250 : Ref sig .tc := ⟨.hbm, 266, rfl⟩
abbrev main_v251 : Ref sig .tc := ⟨.hbm, 267, rfl⟩
abbrev main_v252 : Ref sig .tc := ⟨.hbm, 268, rfl⟩
abbrev main_cst_12 : Ref sig .tc := ⟨.hbm, 269, rfl⟩
abbrev main_v253 : Ref sig .tc := ⟨.hbm, 270, rfl⟩
abbrev main_v254 : Ref sig .tc := ⟨.hbm, 271, rfl⟩
abbrev main_v255 : Ref sig .tc := ⟨.hbm, 272, rfl⟩
abbrev main_v256 : Ref sig .tc := ⟨.hbm, 273, rfl⟩
abbrev main_v257 : Ref sig .tc := ⟨.hbm, 274, rfl⟩
abbrev main_cst_13 : Ref sig .tc := ⟨.hbm, 275, rfl⟩
abbrev main_v258 : Ref sig .tc := ⟨.hbm, 276, rfl⟩
abbrev main_v259 : Ref sig .tc := ⟨.hbm, 277, rfl⟩
abbrev main_cst_14 : Ref sig .tc := ⟨.hbm, 278, rfl⟩
abbrev main_v260 : Ref sig .tc := ⟨.hbm, 279, rfl⟩
abbrev main_cst_15 : Ref sig .tc := ⟨.hbm, 280, rfl⟩
abbrev main_v261 : Ref sig .tc := ⟨.hbm, 281, rfl⟩
abbrev main_v262 : Ref sig .tc := ⟨.hbm, 282, rfl⟩
abbrev main_v263 : Ref sig .tc := ⟨.hbm, 283, rfl⟩
abbrev main_cst_16 : Ref sig .tc := ⟨.hbm, 284, rfl⟩
abbrev main_v264 : Ref sig .tc := ⟨.hbm, 285, rfl⟩
abbrev main_v265 : Ref sig .tc := ⟨.hbm, 286, rfl⟩
abbrev main_v266 : Ref sig .tc := ⟨.hbm, 287, rfl⟩
abbrev main_v267 : Ref sig .tc := ⟨.hbm, 288, rfl⟩
abbrev main_v268 : Ref sig .tc := ⟨.hbm, 289, rfl⟩
abbrev main_cst_17 : Ref sig .tc := ⟨.hbm, 290, rfl⟩
abbrev main_v269 : Ref sig .tc := ⟨.hbm, 291, rfl⟩
abbrev main_v270 : Ref sig .tc := ⟨.hbm, 292, rfl⟩
abbrev main_cst_18 : Ref sig .tc := ⟨.hbm, 293, rfl⟩
abbrev main_v271 : Ref sig .tc := ⟨.hbm, 294, rfl⟩
abbrev main_cst_19 : Ref sig .tc := ⟨.hbm, 295, rfl⟩
abbrev main_v272 : Ref sig .tc := ⟨.hbm, 296, rfl⟩
abbrev main_v273 : Ref sig .tc := ⟨.hbm, 297, rfl⟩
abbrev main_v274 : Ref sig .tc := ⟨.hbm, 298, rfl⟩
abbrev main_cst_20 : Ref sig .tc := ⟨.hbm, 299, rfl⟩
abbrev main_v275 : Ref sig .tc := ⟨.hbm, 300, rfl⟩
abbrev main_v276 : Ref sig .tc := ⟨.hbm, 301, rfl⟩
abbrev main_v277 : Ref sig .tc := ⟨.hbm, 302, rfl⟩
abbrev main_v278 : Ref sig .tc := ⟨.hbm, 303, rfl⟩
abbrev main_v279 : Ref sig .tc := ⟨.hbm, 304, rfl⟩
abbrev main_cst_21 : Ref sig .tc := ⟨.hbm, 305, rfl⟩
abbrev main_v280 : Ref sig .tc := ⟨.hbm, 306, rfl⟩
abbrev main_v281 : Ref sig .tc := ⟨.hbm, 307, rfl⟩
abbrev main_cst_22 : Ref sig .tc := ⟨.hbm, 308, rfl⟩
abbrev main_v282 : Ref sig .tc := ⟨.hbm, 309, rfl⟩
abbrev main_cst_23 : Ref sig .tc := ⟨.hbm, 310, rfl⟩
abbrev main_v283 : Ref sig .tc := ⟨.hbm, 311, rfl⟩
abbrev main_v284 : Ref sig .tc := ⟨.hbm, 312, rfl⟩
abbrev main_v285 : Ref sig .tc := ⟨.hbm, 313, rfl⟩
abbrev main_cst_24 : Ref sig .tc := ⟨.hbm, 314, rfl⟩
abbrev main_v286 : Ref sig .tc := ⟨.hbm, 315, rfl⟩
abbrev main_v287 : Ref sig .tc := ⟨.hbm, 316, rfl⟩
abbrev main_v288 : Ref sig .tc := ⟨.hbm, 317, rfl⟩
abbrev main_v289 : Ref sig .tc := ⟨.hbm, 318, rfl⟩
abbrev main_v290 : Ref sig .tc := ⟨.hbm, 319, rfl⟩
abbrev main_cst_25 : Ref sig .tc := ⟨.hbm, 320, rfl⟩
abbrev main_v291 : Ref sig .tc := ⟨.hbm, 321, rfl⟩
abbrev main_v292 : Ref sig .tc := ⟨.hbm, 322, rfl⟩
abbrev main_cst_26 : Ref sig .tc := ⟨.hbm, 323, rfl⟩
abbrev main_v293 : Ref sig .tc := ⟨.hbm, 324, rfl⟩
abbrev main_cst_27 : Ref sig .tc := ⟨.hbm, 325, rfl⟩
abbrev main_v294 : Ref sig .tc := ⟨.hbm, 326, rfl⟩
abbrev main_v295 : Ref sig .tc := ⟨.hbm, 327, rfl⟩
abbrev main_v296 : Ref sig .tc := ⟨.hbm, 328, rfl⟩
abbrev main_cst_28 : Ref sig .tc := ⟨.hbm, 329, rfl⟩
abbrev main_v297 : Ref sig .tc := ⟨.hbm, 330, rfl⟩
abbrev main_v298 : Ref sig .tc := ⟨.hbm, 331, rfl⟩
abbrev main_v299 : Ref sig .tc := ⟨.hbm, 332, rfl⟩
abbrev main_v300 : Ref sig .tc := ⟨.hbm, 333, rfl⟩
abbrev main_v301 : Ref sig .tc := ⟨.hbm, 334, rfl⟩
abbrev main_cst_29 : Ref sig .tc := ⟨.hbm, 335, rfl⟩
abbrev main_v302 : Ref sig .tc := ⟨.hbm, 336, rfl⟩
abbrev main_v303 : Ref sig .tc := ⟨.hbm, 337, rfl⟩
abbrev main_cst_30 : Ref sig .tc := ⟨.hbm, 338, rfl⟩
abbrev main_v304 : Ref sig .tc := ⟨.hbm, 339, rfl⟩
abbrev main_cst_31 : Ref sig .tc := ⟨.hbm, 340, rfl⟩
abbrev main_v305 : Ref sig .tc := ⟨.hbm, 341, rfl⟩
abbrev main_v306 : Ref sig .tc := ⟨.hbm, 342, rfl⟩
abbrev main_v307 : Ref sig .tc := ⟨.hbm, 343, rfl⟩
abbrev main_cst_32 : Ref sig .tc := ⟨.hbm, 344, rfl⟩
abbrev main_v308 : Ref sig .tc := ⟨.hbm, 345, rfl⟩
abbrev main_v309 : Ref sig .tc := ⟨.hbm, 346, rfl⟩
abbrev main_v310 : Ref sig .tc := ⟨.hbm, 347, rfl⟩
abbrev main_v311 : Ref sig .tc := ⟨.hbm, 348, rfl⟩
abbrev main_v312 : Ref sig .tc := ⟨.hbm, 349, rfl⟩
abbrev main_cst_33 : Ref sig .tc := ⟨.hbm, 350, rfl⟩
abbrev main_v313 : Ref sig .tc := ⟨.hbm, 351, rfl⟩
abbrev main_v314 : Ref sig .tc := ⟨.hbm, 352, rfl⟩
abbrev main_cst_34 : Ref sig .tc := ⟨.hbm, 353, rfl⟩
abbrev main_v315 : Ref sig .tc := ⟨.hbm, 354, rfl⟩
abbrev main_cst_35 : Ref sig .tc := ⟨.hbm, 355, rfl⟩
abbrev main_v316 : Ref sig .tc := ⟨.hbm, 356, rfl⟩
abbrev main_v317 : Ref sig .tc := ⟨.hbm, 357, rfl⟩
abbrev main_v318 : Ref sig .tc := ⟨.hbm, 358, rfl⟩
abbrev main_cst_36 : Ref sig .tc := ⟨.hbm, 359, rfl⟩
abbrev main_v319 : Ref sig .tc := ⟨.hbm, 360, rfl⟩
abbrev main_v320 : Ref sig .tc := ⟨.hbm, 361, rfl⟩
abbrev main_v321 : Ref sig .tc := ⟨.hbm, 362, rfl⟩
abbrev main_v322 : Ref sig .tc := ⟨.hbm, 363, rfl⟩
abbrev main_v323 : Ref sig .tc := ⟨.hbm, 364, rfl⟩
abbrev main_cst_37 : Ref sig .tc := ⟨.hbm, 365, rfl⟩
abbrev main_v324 : Ref sig .tc := ⟨.hbm, 366, rfl⟩
abbrev main_v325 : Ref sig .tc := ⟨.hbm, 367, rfl⟩
abbrev main_cst_38 : Ref sig .tc := ⟨.hbm, 368, rfl⟩
abbrev main_v326 : Ref sig .tc := ⟨.hbm, 369, rfl⟩
abbrev main_cst_39 : Ref sig .tc := ⟨.hbm, 370, rfl⟩
abbrev main_v327 : Ref sig .tc := ⟨.hbm, 371, rfl⟩
abbrev main_v328 : Ref sig .tc := ⟨.hbm, 372, rfl⟩
abbrev main_v329 : Ref sig .tc := ⟨.hbm, 373, rfl⟩
abbrev main_cst_40 : Ref sig .tc := ⟨.hbm, 374, rfl⟩
abbrev main_v330 : Ref sig .tc := ⟨.hbm, 375, rfl⟩
abbrev main_v331 : Ref sig .tc := ⟨.hbm, 376, rfl⟩
abbrev main_v332 : Ref sig .tc := ⟨.hbm, 377, rfl⟩
abbrev main_v333 : Ref sig .tc := ⟨.hbm, 378, rfl⟩
abbrev main_v334 : Ref sig .tc := ⟨.hbm, 379, rfl⟩
abbrev main_cst_41 : Ref sig .tc := ⟨.hbm, 380, rfl⟩
abbrev main_v335 : Ref sig .tc := ⟨.hbm, 381, rfl⟩
abbrev main_v336 : Ref sig .tc := ⟨.hbm, 382, rfl⟩
abbrev main_cst_42 : Ref sig .tc := ⟨.hbm, 383, rfl⟩
abbrev main_v337 : Ref sig .tc := ⟨.hbm, 384, rfl⟩
abbrev main_cst_43 : Ref sig .tc := ⟨.hbm, 385, rfl⟩
abbrev main_v338 : Ref sig .tc := ⟨.hbm, 386, rfl⟩
abbrev main_v339 : Ref sig .tc := ⟨.hbm, 387, rfl⟩
abbrev main_v340 : Ref sig .tc := ⟨.hbm, 388, rfl⟩
abbrev main_cst_44 : Ref sig .tc := ⟨.hbm, 389, rfl⟩
abbrev main_v341 : Ref sig .tc := ⟨.hbm, 390, rfl⟩
abbrev main_v342 : Ref sig .tc := ⟨.hbm, 391, rfl⟩
abbrev main_v343 : Ref sig .tc := ⟨.hbm, 392, rfl⟩
abbrev main_v344 : Ref sig .tc := ⟨.hbm, 393, rfl⟩
abbrev main_v345 : Ref sig .tc := ⟨.hbm, 394, rfl⟩
abbrev main_cst_45 : Ref sig .tc := ⟨.hbm, 395, rfl⟩
abbrev main_v346 : Ref sig .tc := ⟨.hbm, 396, rfl⟩
abbrev main_v347 : Ref sig .tc := ⟨.hbm, 397, rfl⟩
abbrev main_cst_46 : Ref sig .tc := ⟨.hbm, 398, rfl⟩
abbrev main_v348 : Ref sig .tc := ⟨.hbm, 399, rfl⟩
abbrev main_cst_47 : Ref sig .tc := ⟨.hbm, 400, rfl⟩
abbrev main_v349 : Ref sig .tc := ⟨.hbm, 401, rfl⟩
abbrev main_v350 : Ref sig .tc := ⟨.hbm, 402, rfl⟩
abbrev main_v351 : Ref sig .tc := ⟨.hbm, 403, rfl⟩
abbrev main_cst_48 : Ref sig .tc := ⟨.hbm, 404, rfl⟩
abbrev main_v352 : Ref sig .tc := ⟨.hbm, 405, rfl⟩
abbrev main_v353 : Ref sig .tc := ⟨.hbm, 406, rfl⟩
abbrev main_v354 : Ref sig .tc := ⟨.hbm, 407, rfl⟩
abbrev main_v355 : Ref sig .tc := ⟨.hbm, 408, rfl⟩
abbrev main_v356 : Ref sig .tc := ⟨.hbm, 409, rfl⟩
abbrev main_cst_49 : Ref sig .tc := ⟨.hbm, 410, rfl⟩
abbrev main_v357 : Ref sig .tc := ⟨.hbm, 411, rfl⟩
abbrev main_v358 : Ref sig .tc := ⟨.hbm, 412, rfl⟩
abbrev main_cst_50 : Ref sig .tc := ⟨.hbm, 413, rfl⟩
abbrev main_v359 : Ref sig .tc := ⟨.hbm, 414, rfl⟩
abbrev main_cst_51 : Ref sig .tc := ⟨.hbm, 415, rfl⟩
abbrev main_v360 : Ref sig .tc := ⟨.hbm, 416, rfl⟩
abbrev main_v361 : Ref sig .tc := ⟨.hbm, 417, rfl⟩
abbrev main_v362 : Ref sig .tc := ⟨.hbm, 418, rfl⟩
abbrev main_cst_52 : Ref sig .tc := ⟨.hbm, 419, rfl⟩
abbrev main_v363 : Ref sig .tc := ⟨.hbm, 420, rfl⟩
abbrev main_v364 : Ref sig .tc := ⟨.hbm, 421, rfl⟩
abbrev main_v365 : Ref sig .tc := ⟨.hbm, 422, rfl⟩
abbrev main_v366 : Ref sig .tc := ⟨.hbm, 423, rfl⟩
abbrev main_v367 : Ref sig .tc := ⟨.hbm, 424, rfl⟩
abbrev main_cst_53 : Ref sig .tc := ⟨.hbm, 425, rfl⟩
abbrev main_v368 : Ref sig .tc := ⟨.hbm, 426, rfl⟩
abbrev main_v369 : Ref sig .tc := ⟨.hbm, 427, rfl⟩
abbrev main_cst_54 : Ref sig .tc := ⟨.hbm, 428, rfl⟩
abbrev main_v370 : Ref sig .tc := ⟨.hbm, 429, rfl⟩
abbrev main_cst_55 : Ref sig .tc := ⟨.hbm, 430, rfl⟩
abbrev main_v371 : Ref sig .tc := ⟨.hbm, 431, rfl⟩
abbrev main_v372 : Ref sig .tc := ⟨.hbm, 432, rfl⟩
abbrev main_v373 : Ref sig .tc := ⟨.hbm, 433, rfl⟩
abbrev main_cst_56 : Ref sig .tc := ⟨.hbm, 434, rfl⟩
abbrev main_v374 : Ref sig .tc := ⟨.hbm, 435, rfl⟩
abbrev main_v375 : Ref sig .tc := ⟨.hbm, 436, rfl⟩
abbrev main_v376 : Ref sig .tc := ⟨.hbm, 437, rfl⟩
abbrev main_v377 : Ref sig .tc := ⟨.hbm, 438, rfl⟩
abbrev main_v378 : Ref sig .tc := ⟨.hbm, 439, rfl⟩
abbrev main_cst_57 : Ref sig .tc := ⟨.hbm, 440, rfl⟩
abbrev main_v379 : Ref sig .tc := ⟨.hbm, 441, rfl⟩
abbrev main_v380 : Ref sig .tc := ⟨.hbm, 442, rfl⟩
abbrev main_cst_58 : Ref sig .tc := ⟨.hbm, 443, rfl⟩
abbrev main_v381 : Ref sig .tc := ⟨.hbm, 444, rfl⟩
abbrev main_cst_59 : Ref sig .tc := ⟨.hbm, 445, rfl⟩
abbrev main_v382 : Ref sig .tc := ⟨.hbm, 446, rfl⟩
abbrev main_v383 : Ref sig .tc := ⟨.hbm, 447, rfl⟩
abbrev main_v384 : Ref sig .tc := ⟨.hbm, 448, rfl⟩
abbrev main_cst_60 : Ref sig .tc := ⟨.hbm, 449, rfl⟩
abbrev main_v385 : Ref sig .tc := ⟨.hbm, 450, rfl⟩
abbrev main_v386 : Ref sig .tc := ⟨.hbm, 451, rfl⟩
abbrev main_v387 : Ref sig .tc := ⟨.hbm, 452, rfl⟩
abbrev main_v388 : Ref sig .tc := ⟨.hbm, 453, rfl⟩
abbrev main_v389 : Ref sig .tc := ⟨.hbm, 454, rfl⟩
abbrev main_cst_61 : Ref sig .tc := ⟨.hbm, 455, rfl⟩
abbrev main_v390 : Ref sig .tc := ⟨.hbm, 456, rfl⟩
abbrev main_v391 : Ref sig .tc := ⟨.hbm, 457, rfl⟩
abbrev main_cst_62 : Ref sig .tc := ⟨.hbm, 458, rfl⟩
abbrev main_v392 : Ref sig .tc := ⟨.hbm, 459, rfl⟩
abbrev main_cst_63 : Ref sig .tc := ⟨.hbm, 460, rfl⟩
abbrev main_v393 : Ref sig .tc := ⟨.hbm, 461, rfl⟩
abbrev main_v394 : Ref sig .tc := ⟨.hbm, 462, rfl⟩
abbrev main_v395 : Ref sig .tc := ⟨.hbm, 463, rfl⟩
abbrev main_cst_64 : Ref sig .tc := ⟨.hbm, 464, rfl⟩
abbrev main_v396 : Ref sig .tc := ⟨.hbm, 465, rfl⟩
abbrev main_v397 : Ref sig .tc := ⟨.hbm, 466, rfl⟩
abbrev main_v398 : Ref sig .tc := ⟨.hbm, 467, rfl⟩
abbrev main_v399 : Ref sig .tc := ⟨.hbm, 468, rfl⟩
abbrev main_v400 : Ref sig .tc := ⟨.hbm, 469, rfl⟩
abbrev main_cst_65 : Ref sig .tc := ⟨.hbm, 470, rfl⟩
abbrev main_v401 : Ref sig .tc := ⟨.hbm, 471, rfl⟩
abbrev main_v402 : Ref sig .tc := ⟨.hbm, 472, rfl⟩
abbrev main_cst_66 : Ref sig .tc := ⟨.hbm, 473, rfl⟩
abbrev main_v403 : Ref sig .tc := ⟨.hbm, 474, rfl⟩
abbrev main_cst_67 : Ref sig .tc := ⟨.hbm, 475, rfl⟩
abbrev main_v404 : Ref sig .tc := ⟨.hbm, 476, rfl⟩
abbrev main_v405 : Ref sig .tc := ⟨.hbm, 477, rfl⟩
abbrev main_v406 : Ref sig .tc := ⟨.hbm, 478, rfl⟩
abbrev main_cst_68 : Ref sig .tc := ⟨.hbm, 479, rfl⟩
abbrev main_v407 : Ref sig .tc := ⟨.hbm, 480, rfl⟩
abbrev main_v408 : Ref sig .tc := ⟨.hbm, 481, rfl⟩
abbrev main_v409 : Ref sig .tc := ⟨.hbm, 482, rfl⟩
abbrev main_v410 : Ref sig .tc := ⟨.hbm, 483, rfl⟩
abbrev main_v411 : Ref sig .tc := ⟨.hbm, 484, rfl⟩
abbrev main_cst_69 : Ref sig .tc := ⟨.hbm, 485, rfl⟩
abbrev main_v412 : Ref sig .tc := ⟨.hbm, 486, rfl⟩
abbrev main_v413 : Ref sig .tc := ⟨.hbm, 487, rfl⟩
abbrev main_cst_70 : Ref sig .tc := ⟨.hbm, 488, rfl⟩
abbrev main_v414 : Ref sig .tc := ⟨.hbm, 489, rfl⟩
abbrev main_cst_71 : Ref sig .tc := ⟨.hbm, 490, rfl⟩
abbrev main_v415 : Ref sig .tc := ⟨.hbm, 491, rfl⟩
abbrev main_v416 : Ref sig .tc := ⟨.hbm, 492, rfl⟩
abbrev main_v417 : Ref sig .tc := ⟨.hbm, 493, rfl⟩
abbrev main_cst_72 : Ref sig .tc := ⟨.hbm, 494, rfl⟩
abbrev main_v418 : Ref sig .tc := ⟨.hbm, 495, rfl⟩
abbrev main_v419 : Ref sig .tc := ⟨.hbm, 496, rfl⟩
abbrev main_v420 : Ref sig .tc := ⟨.hbm, 497, rfl⟩
abbrev main_v421 : Ref sig .tc := ⟨.hbm, 498, rfl⟩
abbrev main_v422 : Ref sig .tc := ⟨.hbm, 499, rfl⟩
abbrev main_cst_73 : Ref sig .tc := ⟨.hbm, 500, rfl⟩
abbrev main_v423 : Ref sig .tc := ⟨.hbm, 501, rfl⟩
abbrev main_v424 : Ref sig .tc := ⟨.hbm, 502, rfl⟩
abbrev main_cst_74 : Ref sig .tc := ⟨.hbm, 503, rfl⟩
abbrev main_v425 : Ref sig .tc := ⟨.hbm, 504, rfl⟩
abbrev main_cst_75 : Ref sig .tc := ⟨.hbm, 505, rfl⟩
abbrev main_v426 : Ref sig .tc := ⟨.hbm, 506, rfl⟩
abbrev main_v427 : Ref sig .tc := ⟨.hbm, 507, rfl⟩
abbrev main_v428 : Ref sig .tc := ⟨.hbm, 508, rfl⟩
abbrev main_cst_76 : Ref sig .tc := ⟨.hbm, 509, rfl⟩
abbrev main_v429 : Ref sig .tc := ⟨.hbm, 510, rfl⟩
abbrev main_v430 : Ref sig .tc := ⟨.hbm, 511, rfl⟩
abbrev main_v431 : Ref sig .tc := ⟨.hbm, 512, rfl⟩
abbrev main_v432 : Ref sig .tc := ⟨.hbm, 513, rfl⟩
abbrev main_v433 : Ref sig .tc := ⟨.hbm, 514, rfl⟩
abbrev main_cst_77 : Ref sig .tc := ⟨.hbm, 515, rfl⟩
abbrev main_v434 : Ref sig .tc := ⟨.hbm, 516, rfl⟩
abbrev main_v435 : Ref sig .tc := ⟨.hbm, 517, rfl⟩
abbrev main_cst_78 : Ref sig .tc := ⟨.hbm, 518, rfl⟩
abbrev main_v436 : Ref sig .tc := ⟨.hbm, 519, rfl⟩
abbrev main_cst_79 : Ref sig .tc := ⟨.hbm, 520, rfl⟩
abbrev main_v437 : Ref sig .tc := ⟨.hbm, 521, rfl⟩
abbrev main_v438 : Ref sig .tc := ⟨.hbm, 522, rfl⟩
abbrev main_v439 : Ref sig .tc := ⟨.hbm, 523, rfl⟩
abbrev main_cst_80 : Ref sig .tc := ⟨.hbm, 524, rfl⟩
abbrev main_v440 : Ref sig .tc := ⟨.hbm, 525, rfl⟩
abbrev main_v441 : Ref sig .tc := ⟨.hbm, 526, rfl⟩
abbrev main_v442 : Ref sig .tc := ⟨.hbm, 527, rfl⟩
abbrev main_v443 : Ref sig .tc := ⟨.hbm, 528, rfl⟩
abbrev main_v444 : Ref sig .tc := ⟨.hbm, 529, rfl⟩
abbrev main_cst_81 : Ref sig .tc := ⟨.hbm, 530, rfl⟩
abbrev main_v445 : Ref sig .tc := ⟨.hbm, 531, rfl⟩
abbrev main_v446 : Ref sig .tc := ⟨.hbm, 532, rfl⟩
abbrev main_cst_82 : Ref sig .tc := ⟨.hbm, 533, rfl⟩
abbrev main_v447 : Ref sig .tc := ⟨.hbm, 534, rfl⟩
abbrev main_cst_83 : Ref sig .tc := ⟨.hbm, 535, rfl⟩
abbrev main_v448 : Ref sig .tc := ⟨.hbm, 536, rfl⟩
abbrev main_v449 : Ref sig .tc := ⟨.hbm, 537, rfl⟩
abbrev main_v450 : Ref sig .tc := ⟨.hbm, 538, rfl⟩
abbrev main_cst_84 : Ref sig .tc := ⟨.hbm, 539, rfl⟩
abbrev main_v451 : Ref sig .tc := ⟨.hbm, 540, rfl⟩
abbrev main_v452 : Ref sig .tc := ⟨.hbm, 541, rfl⟩
abbrev main_v453 : Ref sig .tc := ⟨.hbm, 542, rfl⟩
abbrev main_v454 : Ref sig .tc := ⟨.hbm, 543, rfl⟩
abbrev main_v455 : Ref sig .tc := ⟨.hbm, 544, rfl⟩
abbrev main_cst_85 : Ref sig .tc := ⟨.hbm, 545, rfl⟩
abbrev main_v456 : Ref sig .tc := ⟨.hbm, 546, rfl⟩
abbrev main_v457 : Ref sig .tc := ⟨.hbm, 547, rfl⟩
abbrev main_cst_86 : Ref sig .tc := ⟨.hbm, 548, rfl⟩
abbrev main_v458 : Ref sig .tc := ⟨.hbm, 549, rfl⟩
abbrev main_cst_87 : Ref sig .tc := ⟨.hbm, 550, rfl⟩
abbrev main_v459 : Ref sig .tc := ⟨.hbm, 551, rfl⟩
abbrev main_v460 : Ref sig .tc := ⟨.hbm, 552, rfl⟩
abbrev main_v461 : Ref sig .tc := ⟨.hbm, 553, rfl⟩
abbrev main_cst_88 : Ref sig .tc := ⟨.hbm, 554, rfl⟩
abbrev main_v462 : Ref sig .tc := ⟨.hbm, 555, rfl⟩
abbrev main_v463 : Ref sig .tc := ⟨.hbm, 556, rfl⟩
abbrev main_v464 : Ref sig .tc := ⟨.hbm, 557, rfl⟩
abbrev main_v465 : Ref sig .tc := ⟨.hbm, 558, rfl⟩
abbrev main_v466 : Ref sig .tc := ⟨.hbm, 559, rfl⟩
abbrev main_cst_89 : Ref sig .tc := ⟨.hbm, 560, rfl⟩
abbrev main_v467 : Ref sig .tc := ⟨.hbm, 561, rfl⟩
abbrev main_v468 : Ref sig .tc := ⟨.hbm, 562, rfl⟩
abbrev main_cst_90 : Ref sig .tc := ⟨.hbm, 563, rfl⟩
abbrev main_v469 : Ref sig .tc := ⟨.hbm, 564, rfl⟩
abbrev main_cst_91 : Ref sig .tc := ⟨.hbm, 565, rfl⟩
abbrev main_v470 : Ref sig .tc := ⟨.hbm, 566, rfl⟩
abbrev main_v471 : Ref sig .tc := ⟨.hbm, 567, rfl⟩
abbrev main_v472 : Ref sig .tc := ⟨.hbm, 568, rfl⟩
abbrev main_cst_92 : Ref sig .tc := ⟨.hbm, 569, rfl⟩
abbrev main_v473 : Ref sig .tc := ⟨.hbm, 570, rfl⟩
abbrev main_v474 : Ref sig .tc := ⟨.hbm, 571, rfl⟩
abbrev main_v475 : Ref sig .tc := ⟨.hbm, 572, rfl⟩
abbrev main_v476 : Ref sig .tc := ⟨.hbm, 573, rfl⟩
abbrev main_v477 : Ref sig .tc := ⟨.hbm, 574, rfl⟩
abbrev main_cst_93 : Ref sig .tc := ⟨.hbm, 575, rfl⟩
abbrev main_v478 : Ref sig .tc := ⟨.hbm, 576, rfl⟩
abbrev main_v479 : Ref sig .tc := ⟨.hbm, 577, rfl⟩
abbrev main_cst_94 : Ref sig .tc := ⟨.hbm, 578, rfl⟩
abbrev main_v480 : Ref sig .tc := ⟨.hbm, 579, rfl⟩
abbrev main_cst_95 : Ref sig .tc := ⟨.hbm, 580, rfl⟩
abbrev main_v481 : Ref sig .tc := ⟨.hbm, 581, rfl⟩
abbrev main_v482 : Ref sig .tc := ⟨.hbm, 582, rfl⟩
abbrev main_v483 : Ref sig .tc := ⟨.hbm, 583, rfl⟩
abbrev main_cst_96 : Ref sig .tc := ⟨.hbm, 584, rfl⟩
abbrev main_v484 : Ref sig .tc := ⟨.hbm, 585, rfl⟩
abbrev main_v485 : Ref sig .tc := ⟨.hbm, 586, rfl⟩
abbrev main_v486 : Ref sig .tc := ⟨.hbm, 587, rfl⟩
abbrev main_v487 : Ref sig .tc := ⟨.hbm, 588, rfl⟩
abbrev main_v488 : Ref sig .tc := ⟨.hbm, 589, rfl⟩
abbrev main_cst_97 : Ref sig .tc := ⟨.hbm, 590, rfl⟩
abbrev main_v489 : Ref sig .tc := ⟨.hbm, 591, rfl⟩
abbrev main_v490 : Ref sig .tc := ⟨.hbm, 592, rfl⟩
abbrev main_cst_98 : Ref sig .tc := ⟨.hbm, 593, rfl⟩
abbrev main_v491 : Ref sig .tc := ⟨.hbm, 594, rfl⟩
abbrev main_cst_99 : Ref sig .tc := ⟨.hbm, 595, rfl⟩
abbrev main_v492 : Ref sig .tc := ⟨.hbm, 596, rfl⟩
abbrev main_v493 : Ref sig .tc := ⟨.hbm, 597, rfl⟩
abbrev main_v494 : Ref sig .tc := ⟨.hbm, 598, rfl⟩
abbrev main_cst_100 : Ref sig .tc := ⟨.hbm, 599, rfl⟩
abbrev main_v495 : Ref sig .tc := ⟨.hbm, 600, rfl⟩
abbrev main_v496 : Ref sig .tc := ⟨.hbm, 601, rfl⟩
abbrev main_v497 : Ref sig .tc := ⟨.hbm, 602, rfl⟩
abbrev main_v498 : Ref sig .tc := ⟨.hbm, 603, rfl⟩
abbrev main_v499 : Ref sig .tc := ⟨.hbm, 604, rfl⟩
abbrev main_cst_101 : Ref sig .tc := ⟨.hbm, 605, rfl⟩
abbrev main_v500 : Ref sig .tc := ⟨.hbm, 606, rfl⟩
abbrev main_v501 : Ref sig .tc := ⟨.hbm, 607, rfl⟩
abbrev main_cst_102 : Ref sig .tc := ⟨.hbm, 608, rfl⟩
abbrev main_v502 : Ref sig .tc := ⟨.hbm, 609, rfl⟩
abbrev main_cst_103 : Ref sig .tc := ⟨.hbm, 610, rfl⟩
abbrev main_v503 : Ref sig .tc := ⟨.hbm, 611, rfl⟩
abbrev main_v504 : Ref sig .tc := ⟨.hbm, 612, rfl⟩
abbrev main_v505 : Ref sig .tc := ⟨.hbm, 613, rfl⟩
abbrev main_cst_104 : Ref sig .tc := ⟨.hbm, 614, rfl⟩
abbrev main_v506 : Ref sig .tc := ⟨.hbm, 615, rfl⟩
abbrev main_v507 : Ref sig .tc := ⟨.hbm, 616, rfl⟩
abbrev main_v508 : Ref sig .tc := ⟨.hbm, 617, rfl⟩
abbrev main_v509 : Ref sig .tc := ⟨.hbm, 618, rfl⟩
abbrev main_v510 : Ref sig .tc := ⟨.hbm, 619, rfl⟩
abbrev main_cst_105 : Ref sig .tc := ⟨.hbm, 620, rfl⟩
abbrev main_v511 : Ref sig .tc := ⟨.hbm, 621, rfl⟩
abbrev main_v512 : Ref sig .tc := ⟨.hbm, 622, rfl⟩
abbrev main_cst_106 : Ref sig .tc := ⟨.hbm, 623, rfl⟩
abbrev main_v513 : Ref sig .tc := ⟨.hbm, 624, rfl⟩
abbrev main_cst_107 : Ref sig .tc := ⟨.hbm, 625, rfl⟩
abbrev main_v514 : Ref sig .tc := ⟨.hbm, 626, rfl⟩
abbrev main_v515 : Ref sig .tc := ⟨.hbm, 627, rfl⟩
abbrev main_v516 : Ref sig .tc := ⟨.hbm, 628, rfl⟩
abbrev main_cst_108 : Ref sig .tc := ⟨.hbm, 629, rfl⟩
abbrev main_v517 : Ref sig .tc := ⟨.hbm, 630, rfl⟩
abbrev main_v518 : Ref sig .tc := ⟨.hbm, 631, rfl⟩
abbrev main_v519 : Ref sig .tc := ⟨.hbm, 632, rfl⟩
abbrev main_v520 : Ref sig .tc := ⟨.hbm, 633, rfl⟩
abbrev main_v521 : Ref sig .tc := ⟨.hbm, 634, rfl⟩
abbrev main_cst_109 : Ref sig .tc := ⟨.hbm, 635, rfl⟩
abbrev main_v522 : Ref sig .tc := ⟨.hbm, 636, rfl⟩
abbrev main_v523 : Ref sig .tc := ⟨.hbm, 637, rfl⟩
abbrev main_cst_110 : Ref sig .tc := ⟨.hbm, 638, rfl⟩
abbrev main_v524 : Ref sig .tc := ⟨.hbm, 639, rfl⟩
abbrev main_cst_111 : Ref sig .tc := ⟨.hbm, 640, rfl⟩
abbrev main_v525 : Ref sig .tc := ⟨.hbm, 641, rfl⟩
abbrev main_v526 : Ref sig .tc := ⟨.hbm, 642, rfl⟩
abbrev main_v527 : Ref sig .tc := ⟨.hbm, 643, rfl⟩
abbrev main_cst_112 : Ref sig .tc := ⟨.hbm, 644, rfl⟩
abbrev main_v528 : Ref sig .tc := ⟨.hbm, 645, rfl⟩
abbrev main_v529 : Ref sig .tc := ⟨.hbm, 646, rfl⟩
abbrev main_v530 : Ref sig .tc := ⟨.hbm, 647, rfl⟩
abbrev main_v531 : Ref sig .tc := ⟨.hbm, 648, rfl⟩
abbrev main_v532 : Ref sig .tc := ⟨.hbm, 649, rfl⟩
abbrev main_cst_113 : Ref sig .tc := ⟨.hbm, 650, rfl⟩
abbrev main_v533 : Ref sig .tc := ⟨.hbm, 651, rfl⟩
abbrev main_v534 : Ref sig .tc := ⟨.hbm, 652, rfl⟩
abbrev main_cst_114 : Ref sig .tc := ⟨.hbm, 653, rfl⟩
abbrev main_v535 : Ref sig .tc := ⟨.hbm, 654, rfl⟩
abbrev main_cst_115 : Ref sig .tc := ⟨.hbm, 655, rfl⟩
abbrev main_v536 : Ref sig .tc := ⟨.hbm, 656, rfl⟩
abbrev main_v537 : Ref sig .tc := ⟨.hbm, 657, rfl⟩
abbrev main_v538 : Ref sig .tc := ⟨.hbm, 658, rfl⟩
abbrev main_cst_116 : Ref sig .tc := ⟨.hbm, 659, rfl⟩
abbrev main_v539 : Ref sig .tc := ⟨.hbm, 660, rfl⟩
abbrev main_v540 : Ref sig .tc := ⟨.hbm, 661, rfl⟩
abbrev main_v541 : Ref sig .tc := ⟨.hbm, 662, rfl⟩
abbrev main_v542 : Ref sig .tc := ⟨.hbm, 663, rfl⟩
abbrev main_v543 : Ref sig .tc := ⟨.hbm, 664, rfl⟩
abbrev main_cst_117 : Ref sig .tc := ⟨.hbm, 665, rfl⟩
abbrev main_v544 : Ref sig .tc := ⟨.hbm, 666, rfl⟩
abbrev main_v545 : Ref sig .tc := ⟨.hbm, 667, rfl⟩
abbrev main_cst_118 : Ref sig .tc := ⟨.hbm, 668, rfl⟩
abbrev main_v546 : Ref sig .tc := ⟨.hbm, 669, rfl⟩
abbrev main_cst_119 : Ref sig .tc := ⟨.hbm, 670, rfl⟩
abbrev main_v547 : Ref sig .tc := ⟨.hbm, 671, rfl⟩
abbrev main_v548 : Ref sig .tc := ⟨.hbm, 672, rfl⟩
abbrev main_v549 : Ref sig .tc := ⟨.hbm, 673, rfl⟩
abbrev main_cst_120 : Ref sig .tc := ⟨.hbm, 674, rfl⟩
abbrev main_v550 : Ref sig .tc := ⟨.hbm, 675, rfl⟩
abbrev main_v551 : Ref sig .tc := ⟨.hbm, 676, rfl⟩
abbrev main_v552 : Ref sig .tc := ⟨.hbm, 677, rfl⟩
abbrev main_v553 : Ref sig .tc := ⟨.hbm, 678, rfl⟩
abbrev main_v554 : Ref sig .tc := ⟨.hbm, 679, rfl⟩
abbrev main_cst_121 : Ref sig .tc := ⟨.hbm, 680, rfl⟩
abbrev main_v555 : Ref sig .tc := ⟨.hbm, 681, rfl⟩
abbrev main_v556 : Ref sig .tc := ⟨.hbm, 682, rfl⟩
abbrev main_cst_122 : Ref sig .tc := ⟨.hbm, 683, rfl⟩
abbrev main_v557 : Ref sig .tc := ⟨.hbm, 684, rfl⟩
abbrev main_cst_123 : Ref sig .tc := ⟨.hbm, 685, rfl⟩
abbrev main_v558 : Ref sig .tc := ⟨.hbm, 686, rfl⟩
abbrev main_v559 : Ref sig .tc := ⟨.hbm, 687, rfl⟩
abbrev main_v560 : Ref sig .tc := ⟨.hbm, 688, rfl⟩
abbrev main_cst_124 : Ref sig .tc := ⟨.hbm, 689, rfl⟩
abbrev main_v561 : Ref sig .tc := ⟨.hbm, 690, rfl⟩
abbrev main_v562 : Ref sig .tc := ⟨.hbm, 691, rfl⟩
abbrev main_v563 : Ref sig .tc := ⟨.hbm, 692, rfl⟩
abbrev main_v564 : Ref sig .tc := ⟨.hbm, 693, rfl⟩
abbrev main_v565 : Ref sig .tc := ⟨.hbm, 694, rfl⟩
abbrev main_cst_125 : Ref sig .tc := ⟨.hbm, 695, rfl⟩
abbrev main_v566 : Ref sig .tc := ⟨.hbm, 696, rfl⟩
abbrev main_v567 : Ref sig .tc := ⟨.hbm, 697, rfl⟩
abbrev main_cst_126 : Ref sig .tc := ⟨.hbm, 698, rfl⟩
abbrev main_v568 : Ref sig .tc := ⟨.hbm, 699, rfl⟩
abbrev main_cst_127 : Ref sig .tc := ⟨.hbm, 700, rfl⟩
abbrev main_v569 : Ref sig .tc := ⟨.hbm, 701, rfl⟩
abbrev main_v570 : Ref sig .tc := ⟨.hbm, 702, rfl⟩
abbrev main_v571 : Ref sig .tc := ⟨.hbm, 703, rfl⟩
abbrev main_cst_128 : Ref sig .tc := ⟨.hbm, 704, rfl⟩
abbrev main_v572 : Ref sig .tc := ⟨.hbm, 705, rfl⟩
abbrev main_v573 : Ref sig .tc := ⟨.hbm, 706, rfl⟩
abbrev main_v574 : Ref sig .tc := ⟨.hbm, 707, rfl⟩
abbrev main_v575 : Ref sig .tc := ⟨.hbm, 708, rfl⟩
abbrev main_v576 : Ref sig .tc := ⟨.hbm, 709, rfl⟩
abbrev main_v577 : Ref sig .tc := ⟨.hbm, 710, rfl⟩
abbrev main_v578 : Ref sig .tc := ⟨.hbm, 711, rfl⟩
abbrev main_v579 : Ref sig .tc := ⟨.hbm, 712, rfl⟩
abbrev main_v580 : Ref sig .tc := ⟨.hbm, 713, rfl⟩
abbrev main_v581 : Ref sig .tc := ⟨.hbm, 714, rfl⟩
abbrev main_v582 : Ref sig .tc := ⟨.hbm, 715, rfl⟩
abbrev main_v583 : Ref sig .tc := ⟨.hbm, 716, rfl⟩

abbrev nD : Nat := 1
abbrev τ : Topo := Topo.v7x

variable {F : FTy → Type} [FloatOps F]
-- ==== Kernel8.lean ====
abbrev S2x2048x16x64 : Shape := ⟨4, ![2, 2048, 16, 64]⟩
abbrev S2x2048x16 : Shape := ⟨3, ![2, 2048, 16]⟩
abbrev S_ : Shape := ⟨0, ![]⟩
abbrev S2x2048x16x3 : Shape := ⟨4, ![2, 2048, 16, 3]⟩
abbrev S2x2048x16x1 : Shape := ⟨4, ![2, 2048, 16, 1]⟩
abbrev S2x2048x16x58 : Shape := ⟨4, ![2, 2048, 16, 58]⟩
abbrev S2x2048x16x128 : Shape := ⟨4, ![2, 2048, 16, 128]⟩
abbrev S2x16x2048x128 : Shape := ⟨4, ![2, 16, 2048, 128]⟩
abbrev S2x2048x16x55 : Shape := ⟨4, ![2, 2048, 16, 55]⟩
abbrev S2x2048x16x61 : Shape := ⟨4, ![2, 2048, 16, 61]⟩
abbrev S4096x1024 : Shape := ⟨2, ![4096, 1024]⟩
abbrev S1x4x512x128 : Shape := ⟨4, ![1, 4, 512, 128]⟩
abbrev S1x4x2048x128 : Shape := ⟨4, ![1, 4, 2048, 128]⟩
abbrev S512x256 : Shape := ⟨2, ![512, 256]⟩
abbrev S512x128 : Shape := ⟨2, ![512, 128]⟩
abbrev S1x1x512x128 : Shape := ⟨4, ![1, 1, 512, 128]⟩
abbrev S512x1 : Shape := ⟨2, ![512, 1]⟩
abbrev S512x512 : Shape := ⟨2, ![512, 512]⟩
abbrev S512 : Shape := ⟨1, ![512]⟩

abbrev nBuf : Space → Nat
  | .hbm => 48
  | .vmem => 10
  | .smem => 0
  | _ => 0

abbrev bufTy : (tb : Table) → Fin (tcTables nBuf tb) → BufTy
  | .hbm, ⟨0, _⟩ => ⟨S2x2048x16x64, .f32⟩
  | .hbm, ⟨1, _⟩ => ⟨S2x2048x16x64, .f32⟩
  | .hbm, ⟨2, _⟩ => ⟨S2x2048x16x64, .f32⟩
  | .hbm, ⟨3, _⟩ => ⟨S2x2048x16, .f32⟩
  | .hbm, ⟨4, _⟩ => ⟨S_, .f32⟩
  | .hbm, ⟨5, _⟩ => ⟨S2x2048x16x3, .f32⟩
  | .hbm, ⟨6, _⟩ => ⟨S2x2048x16x1, .f32⟩
  | .hbm, ⟨7, _⟩ => ⟨S2x2048x16x1, .bf16⟩
  | .hbm, ⟨8, _⟩ => ⟨S2x2048x16x1, .f32⟩
  | .hbm, ⟨9, _⟩ => ⟨S2x2048x16x1, .f32⟩
  | .hbm, ⟨10, _⟩ => ⟨S2x2048x16x1, .bf16⟩
  | .hbm, ⟨11, _⟩ => ⟨S2x2048x16x1, .f32⟩
  | .hbm, ⟨12, _⟩ => ⟨S2x2048x16x1, .f32⟩
  | .hbm, ⟨13, _⟩ => ⟨S2x2048x16x1, .bf16⟩
  | .hbm, ⟨14, _⟩ => ⟨S2x2048x16x1, .f32⟩
  | .hbm, ⟨15, _⟩ => ⟨S2x2048x16x1, .f32⟩
  | .hbm, ⟨16, _⟩ => ⟨S2x2048x16x1, .f32⟩
  | .hbm, ⟨17, _⟩ => ⟨S2x2048x16x3, .f32⟩
  | .hbm, ⟨18, _⟩ => ⟨S_, .f32⟩
  | .hbm, ⟨19, _⟩ => ⟨S2x2048x16x58, .f32⟩
  | .hbm, ⟨20, _⟩ => ⟨S2x2048x16x128, .f32⟩
  | .hbm, ⟨21, _⟩ => ⟨S2x16x2048x128, .f32⟩
  | .hbm, ⟨22, _⟩ => ⟨S2x16x2048x128, .bf16⟩
  | .hbm, ⟨23, _⟩ => ⟨S2x2048x16, .f32⟩
  | .hbm, ⟨24, _⟩ => ⟨S2x2048x16x1, .f32⟩
  | .hbm, ⟨25, _⟩ => ⟨S2x2048x16x1, .bf16⟩
  | .hbm, ⟨26, _⟩ => ⟨S2x2048x16x1, .f32⟩
  | .hbm, ⟨27, _⟩ => ⟨S2x2048x16x1, .f32⟩
  | .hbm, ⟨28, _⟩ => ⟨S2x2048x16x1, .bf16⟩
  | .hbm, ⟨29, _⟩ => ⟨S2x2048x16x1, .f32⟩
  | .hbm, ⟨30, _⟩ => ⟨S2x2048x16x1, .f32⟩
  | .hbm, ⟨31, _⟩ => ⟨S2x2048x16x1, .bf16⟩
  | .hbm, ⟨32, _⟩ => ⟨S2x2048x16x1, .f32⟩
  | .hbm, ⟨33, _⟩ => ⟨S2x2048x16x1, .f32⟩
  | .hbm, ⟨34, _⟩ => ⟨S2x2048x16x1, .f32⟩
  | .hbm, ⟨35, _⟩ => ⟨S2x2048x16x3, .f32⟩
  | .hbm, ⟨36, _⟩ => ⟨S_, .f32⟩
  | .hbm, ⟨37, _⟩ => ⟨S2x2048x16x55, .f32⟩
  | .hbm, ⟨38, _⟩ => ⟨S2x2048x16x128, .f32⟩
  | .hbm, ⟨39, _⟩ => ⟨S2x16x2048x128, .f32⟩
  | .hbm, ⟨40, _⟩ => ⟨S2x16x2048x128, .bf16⟩
  | .hbm, ⟨41, _⟩ => ⟨S_, .f32⟩
  | .hbm, ⟨42, _⟩ => ⟨S2x2048x16x61, .f32⟩
  | .hbm, ⟨43, _⟩ => ⟨S2x2048x16x128, .f32⟩
  | .hbm, ⟨44, _⟩ => ⟨S2x16x2048x128, .f32⟩
  | .hbm, ⟨45, _⟩ => ⟨S2x16x2048x128, .bf16⟩
  | .hbm, ⟨46, _⟩ => ⟨S4096x1024, .f32⟩
  | .hbm, ⟨47, _⟩ => ⟨S2x16x2048x128, .bf16⟩
  | .local _ .vmem, ⟨0, _⟩ => ⟨S1x4x512x128, .bf16⟩
  | .local _ .vmem, ⟨1, _⟩ => ⟨S1x4x512x128, .bf16⟩
  | .local _ .vmem, ⟨2, _⟩ => ⟨S1x4x2048x128, .bf16⟩
  | .local _ .vmem, ⟨3, _⟩ => ⟨S1x4x2048x128, .bf16⟩
  | .local _ .vmem, ⟨4, _⟩ => ⟨S1x4x2048x128, .bf16⟩
  | .local _ .vmem, ⟨5, _⟩ => ⟨S1x4x2048x128, .bf16⟩
  | .local _ .vmem, ⟨6, _⟩ => ⟨S512x256, .f32⟩
  | .local _ .vmem, ⟨7, _⟩ => ⟨S512x256, .f32⟩
  | .local _ .vmem, ⟨8, _⟩ => ⟨S1x4x512x128, .bf16⟩
  | .local _ .vmem, ⟨9, _⟩ => ⟨S1x4x512x128, .bf16⟩
  | _, _ => ⟨S2x2048x16x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_cst_0 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev main_v20 : Ref sig .tc := ⟨.hbm, 26, rfl⟩
abbrev main_v21 : Ref sig .tc := ⟨.hbm, 27, rfl⟩
abbrev main_v22 : Ref sig .tc := ⟨.hbm, 28, rfl⟩
abbrev main_v23 : Ref sig .tc := ⟨.hbm, 29, rfl⟩
abbrev main_v24 : Ref sig .tc := ⟨.hbm, 30, rfl⟩
abbrev main_v25 : Ref sig .tc := ⟨.hbm, 31, rfl⟩
abbrev main_v26 : Ref sig .tc := ⟨.hbm, 32, rfl⟩
abbrev main_v27 : Ref sig .tc := ⟨.hbm, 33, rfl⟩
abbrev main_v28 : Ref sig .tc := ⟨.hbm, 34, rfl⟩
abbrev main_v29 : Ref sig .tc := ⟨.hbm, 35, rfl⟩
abbrev main_cst_1 : Ref sig .tc := ⟨.hbm, 36, rfl⟩
abbrev main_v30 : Ref sig .tc := ⟨.hbm, 37, rfl⟩
abbrev main_v31 : Ref sig .tc := ⟨.hbm, 38, rfl⟩
abbrev main_v32 : Ref sig .tc := ⟨.hbm, 39, rfl⟩
abbrev main_v33 : Ref sig .tc := ⟨.hbm, 40, rfl⟩
abbrev main_cst_2 : Ref sig .tc := ⟨.hbm, 41, rfl⟩
abbrev main_v34 : Ref sig .tc := ⟨.hbm, 42, rfl⟩
abbrev main_v35 : Ref sig .tc := ⟨.hbm, 43, rfl⟩
abbrev main_v36 : Ref sig .tc := ⟨.hbm, 44, rfl⟩
abbrev main_v37 : Ref sig .tc := ⟨.hbm, 45, rfl⟩
abbrev main_v38_0 : Ref sig .tc := ⟨.hbm, 46, rfl⟩
abbrev main_v38_1 : Ref sig .tc := ⟨.hbm, 47, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨3, ![2, 4, 4], ![false, false, false]⟩

@[reducible] def k0_t1_loop (i : grid0.Coords) : Scf.Loop 32 :=
  let c0_i32 : BitVec 32 := 0#32
  let arg2 : BitVec 32 := BitVec.ofNat 32 (i 2).val
  let c1_i32 : BitVec 32 := 1#32
  let v17 : BitVec 32 := Scalar.muli arg2 c1_i32
  let v18 : BitVec 32 := Scalar.subi v17 c0_i32
  let c1_i32_19 : BitVec 32 := 1#32
  let v20 : BitVec 32 := Scalar.divsi v18 c1_i32_19
  let v21 : BitVec 32 := Scalar.muli v20 c1_i32_19
  let v22 : BitVec 32 := Scalar.addi c0_i32 v21
  let c1_i32_20 : BitVec 32 := 1#32
  ⟨c0_i32, v22, c1_i32_20⟩
def k0_mult1 (i : grid0.Coords) (k0_t1 : Fin (k0_t1_loop i).trips) : BitVec 32 :=
  let c0_i32 : BitVec 32 := 0#32
  let c1_i32_20 : BitVec 32 := 1#32
  let arg8 : BitVec 32 := Scf.iv c0_i32 c1_i32_20 k0_t1
  let c512_i32_110 : BitVec 32 := 512#32
  let v306 : BitVec 32 := Scalar.muli arg8 c512_i32_110
  v306
def k0_off1 (i : grid0.Coords) (k0_t1 : Fin (k0_t1_loop i).trips) : Fin 4 → Nat :=
  let c0_111 : Index := 0#32
  let c0_112 : Index := 0#32
  let c0_i32 : BitVec 32 := 0#32
  let c1_i32_20 : BitVec 32 := 1#32
  let arg8 : BitVec 32 := Scf.iv c0_i32 c1_i32_20 k0_t1
  let c512_i32_110 : BitVec 32 := 512#32
  let v306 : BitVec 32 := Scalar.muli arg8 c512_i32_110
  let v307 : BitVec 32 := v306
  let v308 : Index := Scalar.indexCast v307
  let c0_113 : Index := 0#32
  ![0, 0, v308.toNat, 0]
def k0_off2 (i : grid0.Coords) (k0_t1 : Fin (k0_t1_loop i).trips) : Fin 4 → Nat :=
  let c0_120 : Index := 0#32
  let c1_121 : Index := 1#32
  let c0_i32 : BitVec 32 := 0#32
  let c1_i32_20 : BitVec 32 := 1#32
  let arg8 : BitVec 32 := Scf.iv c0_i32 c1_i32_20 k0_t1
  let c512_i32_110 : BitVec 32 := 512#32
  let v306 : BitVec 32 := Scalar.muli arg8 c512_i32_110
  let v307 : BitVec 32 := v306
  let v328 : Index := Scalar.indexCast v307
  let c0_122 : Index := 0#32
  ![0, 1, v328.toNat, 0]
def k0_off3 (i : grid0.Coords) (k0_t1 : Fin (k0_t1_loop i).trips) : Fin 4 → Nat :=
  let c0_129 : Index := 0#32
  let c2_130 : Index := 2#32
  let c0_i32 : BitVec 32 := 0#32
  let c1_i32_20 : BitVec 32 := 1#32
  let arg8 : BitVec 32 := Scf.iv c0_i32 c1_i32_20 k0_t1
  let c512_i32_110 : BitVec 32 := 512#32
  let v306 : BitVec 32 := Scalar.muli arg8 c512_i32_110
  let v307 : BitVec 32 := v306
  let v348 : Index := Scalar.indexCast v307
  let c0_131 : Index := 0#32
  ![0, 2, v348.toNat, 0]
def k0_off4 (i : grid0.Coords) (k0_t1 : Fin (k0_t1_loop i).trips) : Fin 4 → Nat :=
  let c0_138 : Index := 0#32
  let c3_139 : Index := 3#32
  let c0_i32 : BitVec 32 := 0#32
  let c1_i32_20 : BitVec 32 := 1#32
  let arg8 : BitVec 32 := Scf.iv c0_i32 c1_i32_20 k0_t1
  let c512_i32_110 : BitVec 32 := 512#32
  let v306 : BitVec 32 := Scalar.muli arg8 c512_i32_110
  let v307 : BitVec 32 := v306
  let v368 : Index := Scalar.indexCast v307
  let c0_140 : Index := 0#32
  ![0, 3, v368.toNat, 0]
@[reducible] def k0_t2_loop (i : grid0.Coords) : Scf.Loop 32 :=
  let c0_i32 : BitVec 32 := 0#32
  let arg2 : BitVec 32 := BitVec.ofNat 32 (i 2).val
  let c1_i32 : BitVec 32 := 1#32
  let v17 : BitVec 32 := Scalar.muli arg2 c1_i32
  let v18 : BitVec 32 := Scalar.subi v17 c0_i32
  let c1_i32_19 : BitVec 32 := 1#32
  let v20 : BitVec 32 := Scalar.divsi v18 c1_i32_19
  let v21 : BitVec 32 := Scalar.muli v20 c1_i32_19
  let v22 : BitVec 32 := Scalar.addi c0_i32 v21
  let v19 : BitVec 32 := Scalar.addi c0_i32 v18
  let c1_i32_21 : BitVec 32 := 1#32
  ⟨v22, v19, c1_i32_21⟩
def k0_mult2 (i : grid0.Coords) (k0_t2 : Fin (k0_t2_loop i).trips) : BitVec 32 :=
  let c0_i32 : BitVec 32 := 0#32
  let arg2 : BitVec 32 := BitVec.ofNat 32 (i 2).val
  let c1_i32 : BitVec 32 := 1#32
  let v17 : BitVec 32 := Scalar.muli arg2 c1_i32
  let v18 : BitVec 32 := Scalar.subi v17 c0_i32
  let c1_i32_19 : BitVec 32 := 1#32
  let v20 : BitVec 32 := Scalar.divsi v18 c1_i32_19
  let v21 : BitVec 32 := Scalar.muli v20 c1_i32_19
  let v22 : BitVec 32 := Scalar.addi c0_i32 v21
  let c1_i32_21 : BitVec 32 := 1#32
  let arg8 : BitVec 32 := Scf.iv v22 c1_i32_21 k0_t2
  let c512_i32_110 : BitVec 32 := 512#32
  let v306 : BitVec 32 := Scalar.muli arg8 c512_i32_110
  v306
def k0_off5 (i : grid0.Coords) (k0_t2 : Fin (k0_t2_loop i).trips) : Fin 4 → Nat :=
  let c0_111 : Index := 0#32
  let c0_112 : Index := 0#32
  let c0_i32 : BitVec 32 := 0#32
  let arg2 : BitVec 32 := BitVec.ofNat 32 (i 2).val
  let c1_i32 : BitVec 32 := 1#32
  let v17 : BitVec 32 := Scalar.muli arg2 c1_i32
  let v18 : BitVec 32 := Scalar.subi v17 c0_i32
  let c1_i32_19 : BitVec 32 := 1#32
  let v20 : BitVec 32 := Scalar.divsi v18 c1_i32_19
  let v21 : BitVec 32 := Scalar.muli v20 c1_i32_19
  let v22 : BitVec 32 := Scalar.addi c0_i32 v21
  let c1_i32_21 : BitVec 32 := 1#32
  let arg8 : BitVec 32 := Scf.iv v22 c1_i32_21 k0_t2
  let c512_i32_110 : BitVec 32 := 512#32
  let v306 : BitVec 32 := Scalar.muli arg8 c512_i32_110
  let v307 : BitVec 32 := v306
  let v308 : Index := Scalar.indexCast v307
  let c0_113 : Index := 0#32
  ![0, 0, v308.toNat, 0]
def k0_off6 (i : grid0.Coords) (k0_t2 : Fin (k0_t2_loop i).trips) : Fin 4 → Nat :=
  let c0_120 : Index := 0#32
  let c1_121 : Index := 1#32
  let c0_i32 : BitVec 32 := 0#32
  let arg2 : BitVec 32 := BitVec.ofNat 32 (i 2).val
  let c1_i32 : BitVec 32 := 1#32
  let v17 : BitVec 32 := Scalar.muli arg2 c1_i32
  let v18 : BitVec 32 := Scalar.subi v17 c0_i32
  let c1_i32_19 : BitVec 32 := 1#32
  let v20 : BitVec 32 := Scalar.divsi v18 c1_i32_19
  let v21 : BitVec 32 := Scalar.muli v20 c1_i32_19
  let v22 : BitVec 32 := Scalar.addi c0_i32 v21
  let c1_i32_21 : BitVec 32 := 1#32
  let arg8 : BitVec 32 := Scf.iv v22 c1_i32_21 k0_t2
  let c512_i32_110 : BitVec 32 := 512#32
  let v306 : BitVec 32 := Scalar.muli arg8 c512_i32_110
  let v307 : BitVec 32 := v306
  let v328 : Index := Scalar.indexCast v307
  let c0_122 : Index := 0#32
  ![0, 1, v328.toNat, 0]
def k0_off7 (i : grid0.Coords) (k0_t2 : Fin (k0_t2_loop i).trips) : Fin 4 → Nat :=
  let c0_129 : Index := 0#32
  let c2_130 : Index := 2#32
  let c0_i32 : BitVec 32 := 0#32
  let arg2 : BitVec 32 := BitVec.ofNat 32 (i 2).val
  let c1_i32 : BitVec 32 := 1#32
  let v17 : BitVec 32 := Scalar.muli arg2 c1_i32
  let v18 : BitVec 32 := Scalar.subi v17 c0_i32
  let c1_i32_19 : BitVec 32 := 1#32
  let v20 : BitVec 32 := Scalar.divsi v18 c1_i32_19
  let v21 : BitVec 32 := Scalar.muli v20 c1_i32_19
  let v22 : BitVec 32 := Scalar.addi c0_i32 v21
  let c1_i32_21 : BitVec 32 := 1#32
  let arg8 : BitVec 32 := Scf.iv v22 c1_i32_21 k0_t2
  let c512_i32_110 : BitVec 32 := 512#32
  let v306 : BitVec 32 := Scalar.muli arg8 c512_i32_110
  let v307 : BitVec 32 := v306
  let v348 : Index := Scalar.indexCast v307
  let c0_131 : Index := 0#32
  ![0, 2, v348.toNat, 0]
def k0_off8 (i : grid0.Coords) (k0_t2 : Fin (k0_t2_loop i).trips) : Fin 4 → Nat :=
  let c0_138 : Index := 0#32
  let c3_139 : Index := 3#32
  let c0_i32 : BitVec 32 := 0#32
  let arg2 : BitVec 32 := BitVec.ofNat 32 (i 2).val
  let c1_i32 : BitVec 32 := 1#32
  let v17 : BitVec 32 := Scalar.muli arg2 c1_i32
  let v18 : BitVec 32 := Scalar.subi v17 c0_i32
  let c1_i32_19 : BitVec 32 := 1#32
  let v20 : BitVec 32 := Scalar.divsi v18 c1_i32_19
  let v21 : BitVec 32 := Scalar.muli v20 c1_i32_19
  let v22 : BitVec 32 := Scalar.addi c0_i32 v21
  let c1_i32_21 : BitVec 32 := 1#32
  let arg8 : BitVec 32 := Scf.iv v22 c1_i32_21 k0_t2
  let c512_i32_110 : BitVec 32 := 512#32
  let v306 : BitVec 32 := Scalar.muli arg8 c512_i32_110
  let v307 : BitVec 32 := v306
  let v368 : Index := Scalar.indexCast v307
  let c0_140 : Index := 0#32
  ![0, 3, v368.toNat, 0]
def k0_mult3 (i : grid0.Coords) : BitVec 32 :=
  let arg2 : BitVec 32 := BitVec.ofNat 32 (i 2).val
  let c512_i32 : BitVec 32 := 512#32
  let v25 : BitVec 32 := Scalar.muli arg2 c512_i32
  let c0_i32_22 : BitVec 32 := 0#32
  let v26 : BitVec 32 := Scalar.addi v25 c0_i32_22
  v26
def k0_off9 (i : grid0.Coords) : Fin 4 → Nat :=
  let c0_23 : Index := 0#32
  let c0_24 : Index := 0#32
  let arg2 : BitVec 32 := BitVec.ofNat 32 (i 2).val
  let c512_i32 : BitVec 32 := 512#32
  let v25 : BitVec 32 := Scalar.muli arg2 c512_i32
  let c0_i32_22 : BitVec 32 := 0#32
  let v26 : BitVec 32 := Scalar.addi v25 c0_i32_22
  let v27 : BitVec 32 := v26
  let v28 : Index := Scalar.indexCast v27
  let c0_25 : Index := 0#32
  ![0, 0, v28.toNat, 0]
def k0_off10 (i : grid0.Coords) : Fin 4 → Nat :=
  let c0_33 : Index := 0#32
  let c1_34 : Index := 1#32
  let arg2 : BitVec 32 := BitVec.ofNat 32 (i 2).val
  let c512_i32 : BitVec 32 := 512#32
  let v25 : BitVec 32 := Scalar.muli arg2 c512_i32
  let c0_i32_22 : BitVec 32 := 0#32
  let v26 : BitVec 32 := Scalar.addi v25 c0_i32_22
  let v27 : BitVec 32 := v26
  let v53 : Index := Scalar.indexCast v27
  let c0_35 : Index := 0#32
  ![0, 1, v53.toNat, 0]
def k0_off11 (i : grid0.Coords) : Fin 4 → Nat :=
  let c0_43 : Index := 0#32
  let c2_44 : Index := 2#32
  let arg2 : BitVec 32 := BitVec.ofNat 32 (i 2).val
  let c512_i32 : BitVec 32 := 512#32
  let v25 : BitVec 32 := Scalar.muli arg2 c512_i32
  let c0_i32_22 : BitVec 32 := 0#32
  let v26 : BitVec 32 := Scalar.addi v25 c0_i32_22
  let v27 : BitVec 32 := v26
  let v78 : Index := Scalar.indexCast v27
  let c0_45 : Index := 0#32
  ![0, 2, v78.toNat, 0]
def k0_off12 (i : grid0.Coords) : Fin 4 → Nat :=
  let c0_53 : Index := 0#32
  let c3_54 : Index := 3#32
  let arg2 : BitVec 32 := BitVec.ofNat 32 (i 2).val
  let c512_i32 : BitVec 32 := 512#32
  let v25 : BitVec 32 := Scalar.muli arg2 c512_i32
  let c0_i32_22 : BitVec 32 := 0#32
  let v26 : BitVec 32 := Scalar.addi v25 c0_i32_22
  let v27 : BitVec 32 := v26
  let v103 : Index := Scalar.indexCast v27
  let c0_55 : Index := 0#32
  ![0, 3, v103.toNat, 0]
def cc0_transform_0 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, arg2.toNat, c0_i32.toNat]

def cc0_transform_1 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg0.toNat, arg1.toNat, c0_i32.toNat, c0_i32_0.toNat]

def cc0_transform_2 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg0.toNat, arg1.toNat, c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c4_i32 : BitVec 32 := 4#32
  let v0 : BitVec 32 := Scalar.muli arg0 c4_i32
  let v1 : BitVec 32 := Scalar.addi v0 arg2
  let c0_i32 : BitVec 32 := 0#32
  ![v1.toNat, arg1.toNat]

def cc0_transform_4 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, arg2.toNat, c0_i32.toNat]

abbrev stage0_0 : Fin 2 → Memref sig .tc .vmem S1x4x512x128 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true, true]

abbrev stage0_1 : Fin 2 → Memref sig .tc .vmem S1x4x2048x128 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true, false]

abbrev stage0_2 : Fin 2 → Memref sig .tc .vmem S1x4x2048x128 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S512x256 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, true]

abbrev stage0_4 : Fin 2 → Memref sig .tc .vmem S1x4x512x128 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true, true]
-- ==== Kernel8Ideal.lean ====
variable {F : FTy → Type} [FloatOps F] [Named F]
def κ : String → Option EReal := fun
  | "mask" => some ⊥
  | _ => none
-- ==== Reference8Ideal.lean ====
abbrev S2x2048x16x64 : Shape := ⟨4, ![2, 2048, 16, 64]⟩
abbrev S2x2048x16 : Shape := ⟨3, ![2, 2048, 16]⟩
abbrev S2x16x2048x2048 : Shape := ⟨4, ![2, 16, 2048, 2048]⟩
abbrev S2x16x2048 : Shape := ⟨3, ![2, 16, 2048]⟩
abbrev S2x16x2048x1 : Shape := ⟨4, ![2, 16, 2048, 1]⟩
abbrev S2x16x1x2048 : Shape := ⟨4, ![2, 16, 1, 2048]⟩
abbrev S2048 : Shape := ⟨1, ![2048]⟩
abbrev S2048x1 : Shape := ⟨2, ![2048, 1]⟩
abbrev S1x2048 : Shape := ⟨2, ![1, 2048]⟩
abbrev S2048x2048 : Shape := ⟨2, ![2048, 2048]⟩
abbrev S_ : Shape := ⟨0, ![]⟩
abbrev S2x2048x16x1 : Shape := ⟨4, ![2, 2048, 16, 1]⟩
abbrev S2x2048x16x2 : Shape := ⟨4, ![2, 2048, 16, 2]⟩
abbrev S2x2048x16x3 : Shape := ⟨4, ![2, 2048, 16, 3]⟩
abbrev S2x2048x16x57 : Shape := ⟨4, ![2, 2048, 16, 57]⟩
abbrev S2x2048x16x128 : Shape := ⟨4, ![2, 2048, 16, 128]⟩
abbrev S2x16x64x2048 : Shape := ⟨4, ![2, 16, 64, 2048]⟩
abbrev S4096x1024 : Shape := ⟨2, ![4096, 1024]⟩
abbrev S2x16x2048x128 : Shape := ⟨4, ![2, 16, 2048, 128]⟩

abbrev nBuf : Space → Nat
  | .hbm => 91
  | .vmem => 0
  | .smem => 0
  | _ => 0

abbrev bufTy : (tb : Table) → Fin (tcTables nBuf tb) → BufTy
  | .hbm, ⟨0, _⟩ => ⟨S2x2048x16x64, .f32⟩
  | .hbm, ⟨1, _⟩ => ⟨S2x2048x16x64, .f32⟩
  | .hbm, ⟨2, _⟩ => ⟨S2x2048x16x64, .f32⟩
  | .hbm, ⟨3, _⟩ => ⟨S2x2048x16, .f32⟩
  | .hbm, ⟨4, _⟩ => ⟨S2x16x2048x2048, .f32⟩
  | .hbm, ⟨5, _⟩ => ⟨S2x16x2048, .f32⟩
  | .hbm, ⟨6, _⟩ => ⟨S2x16x2048x1, .f32⟩
  | .hbm, ⟨7, _⟩ => ⟨S2x16x2048, .f32⟩
  | .hbm, ⟨8, _⟩ => ⟨S2x16x1x2048, .f32⟩
  | .hbm, ⟨9, _⟩ => ⟨S2x16x2048x2048, .f32⟩
  | .hbm, ⟨10, _⟩ => ⟨S2x16x2048x2048, .f32⟩
  | .hbm, ⟨11, _⟩ => ⟨S2x16x2048x2048, .f32⟩
  | .hbm, ⟨12, _⟩ => ⟨S2048, .i32⟩
  | .hbm, ⟨13, _⟩ => ⟨S2048x1, .i32⟩
  | .hbm, ⟨14, _⟩ => ⟨S2048, .i32⟩
  | .hbm, ⟨15, _⟩ => ⟨S1x2048, .i32⟩
  | .hbm, ⟨16, _⟩ => ⟨S2048x2048, .i32⟩
  | .hbm, ⟨17, _⟩ => ⟨S2048x2048, .i32⟩
  | .hbm, ⟨18, _⟩ => ⟨S2048x2048, .i1⟩
  | .hbm, ⟨19, _⟩ => ⟨S2x16x2048x2048, .f32⟩
  | .hbm, ⟨20, _⟩ => ⟨S_, .f32⟩
  | .hbm, ⟨21, _⟩ => ⟨S_, .f32⟩
  | .hbm, ⟨22, _⟩ => ⟨S2x16x2048x2048, .i1⟩
  | .hbm, ⟨23, _⟩ => ⟨S2x16x2048x2048, .f32⟩
  | .hbm, ⟨24, _⟩ => ⟨S2x16x2048x2048, .f32⟩
  | .hbm, ⟨25, _⟩ => ⟨S_, .f32⟩
  | .hbm, ⟨26, _⟩ => ⟨S2x16x2048, .f32⟩
  | .hbm, ⟨27, _⟩ => ⟨S2x16x2048x1, .f32⟩
  | .hbm, ⟨28, _⟩ => ⟨S2x16x2048x2048, .f32⟩
  | .hbm, ⟨29, _⟩ => ⟨S2x16x2048x2048, .f32⟩
  | .hbm, ⟨30, _⟩ => ⟨S2x16x2048x2048, .f32⟩
  | .hbm, ⟨31, _⟩ => ⟨S_, .f32⟩
  | .hbm, ⟨32, _⟩ => ⟨S2x16x2048, .f32⟩
  | .hbm, ⟨33, _⟩ => ⟨S2x16x2048x1, .f32⟩
  | .hbm, ⟨34, _⟩ => ⟨S2x16x2048x1, .f32⟩
  | .hbm, ⟨35, _⟩ => ⟨S2x16x2048x1, .f32⟩
  | .hbm, ⟨36, _⟩ => ⟨S2x16x2048, .f32⟩
  | .hbm, ⟨37, _⟩ => ⟨S2x2048x16, .f32⟩
  | .hbm, ⟨38, _⟩ => ⟨S2x2048x16x1, .f32⟩
  | .hbm, ⟨39, _⟩ => ⟨S_, .f32⟩
  | .hbm, ⟨40, _⟩ => ⟨S2x2048x16x2, .f32⟩
  | .hbm, ⟨41, _⟩ => ⟨S_, .f32⟩
  | .hbm, ⟨42, _⟩ => ⟨S2x2048x16x3, .f32⟩
  | .hbm, ⟨43, _⟩ => ⟨S_, .f32⟩
  | .hbm, ⟨44, _⟩ => ⟨S2x2048x16x3, .f32⟩
  | .hbm, ⟨45, _⟩ => ⟨S2x2048x16x3, .f32⟩
  | .hbm, ⟨46, _⟩ => ⟨S2x2048x16x1, .f32⟩
  | .hbm, ⟨47, _⟩ => ⟨S2x2048x16x1, .f32⟩
  | .hbm, ⟨48, _⟩ => ⟨S_, .f32⟩
  | .hbm, ⟨49, _⟩ => ⟨S2x2048x16x57, .f32⟩
  | .hbm, ⟨50, _⟩ => ⟨S2x2048x16x128, .f32⟩
  | .hbm, ⟨51, _⟩ => ⟨S2x16x2048x2048, .f32⟩
  | .hbm, ⟨52, _⟩ => ⟨S2x16x2048, .f32⟩
  | .hbm, ⟨53, _⟩ => ⟨S2x16x2048x1, .f32⟩
  | .hbm, ⟨54, _⟩ => ⟨S2x16x2048, .f32⟩
  | .hbm, ⟨55, _⟩ => ⟨S2x16x1x2048, .f32⟩
  | .hbm, ⟨56, _⟩ => ⟨S2x16x2048x2048, .f32⟩
  | .hbm, ⟨57, _⟩ => ⟨S2x16x2048x2048, .f32⟩
  | .hbm, ⟨58, _⟩ => ⟨S2x16x2048x2048, .f32⟩
  | .hbm, ⟨59, _⟩ => ⟨S2048, .i32⟩
  | .hbm, ⟨60, _⟩ => ⟨S2048x1, .i32⟩
  | .hbm, ⟨61, _⟩ => ⟨S2048, .i32⟩
  | .hbm, ⟨62, _⟩ => ⟨S1x2048, .i32⟩
  | .hbm, ⟨63, _⟩ => ⟨S2048x2048, .i32⟩
  | .hbm, ⟨64, _⟩ => ⟨S2048x2048, .i32⟩
  | .hbm, ⟨65, _⟩ => ⟨S2048x2048, .i1⟩
  | .hbm, ⟨66, _⟩ => ⟨S2x16x2048x2048, .f32⟩
  | .hbm, ⟨67, _⟩ => ⟨S_, .f32⟩
  | .hbm, ⟨68, _⟩ => ⟨S_, .f32⟩
  | .hbm, ⟨69, _⟩ => ⟨S2x16x2048x2048, .i1⟩
  | .hbm, ⟨70, _⟩ => ⟨S2x16x2048x2048, .f32⟩
  | .hbm, ⟨71, _⟩ => ⟨S2x16x2048x2048, .f32⟩
  | .hbm, ⟨72, _⟩ => ⟨S_, .f32⟩
  | .hbm, ⟨73, _⟩ => ⟨S2x16x2048, .f32⟩
  | .hbm, ⟨74, _⟩ => ⟨S_, .f32⟩
  | .hbm, ⟨75, _⟩ => ⟨S2x16x2048, .f32⟩
  | .hbm, ⟨76, _⟩ => ⟨S2x16x2048, .f32⟩
  | .hbm, ⟨77, _⟩ => ⟨S2x16x2048x1, .f32⟩
  | .hbm, ⟨78, _⟩ => ⟨S2x16x2048x2048, .f32⟩
  | .hbm, ⟨79, _⟩ => ⟨S2x16x2048x2048, .f32⟩
  | .hbm, ⟨80, _⟩ => ⟨S2x16x2048x2048, .f32⟩
  | .hbm, ⟨81, _⟩ => ⟨S_, .f32⟩
  | .hbm, ⟨82, _⟩ => ⟨S2x16x2048, .f32⟩
  | .hbm, ⟨83, _⟩ => ⟨S2x16x2048x1, .f32⟩
  | .hbm, ⟨84, _⟩ => ⟨S2x16x2048x2048, .f32⟩
  | .hbm, ⟨85, _⟩ => ⟨S2x16x2048x2048, .f32⟩
  | .hbm, ⟨86, _⟩ => ⟨S2x16x64x2048, .f32⟩
  | .hbm, ⟨87, _⟩ => ⟨S2x2048x16x64, .f32⟩
  | .hbm, ⟨88, _⟩ => ⟨S4096x1024, .f32⟩
  | .hbm, ⟨89, _⟩ => ⟨S2x16x2048x128, .f32⟩
  | .hbm, ⟨90, _⟩ => ⟨S2x16x2048x128, .bf16⟩
  | _, _ => ⟨S2x2048x16x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_v12 : Ref sig .tc := ⟨.hbm, 16, rfl⟩
abbrev main_v13 : Ref sig .tc := ⟨.hbm, 17, rfl⟩
abbrev main_v14 : Ref sig .tc := ⟨.hbm, 18, rfl⟩
abbrev main_v15 : Ref sig .tc := ⟨.hbm, 19, rfl⟩
abbrev main_cst : Ref sig .tc := ⟨.hbm, 20, rfl⟩
abbrev main_call0_v0 : Ref sig .tc := ⟨.hbm, 21, rfl⟩
abbrev main_call0_v1 : Ref sig .tc := ⟨.hbm, 22, rfl⟩
abbrev main_call0_v2 : Ref sig .tc := ⟨.hbm, 23, rfl⟩
abbrev main_v16 : Ref sig .tc := ⟨.hbm, 24, rfl⟩
abbrev main_cst_0 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_cst_1 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_v27 : Ref sig .tc := ⟨.hbm, 37, rfl⟩
abbrev main_v28 : Ref sig .tc := ⟨.hbm, 38, rfl⟩
abbrev main_cst_2 : Ref sig .tc := ⟨.hbm, 39, rfl⟩
abbrev main_v29 : Ref sig .tc := ⟨.hbm, 40, rfl⟩
abbrev main_cst_3 : Ref sig .tc := ⟨.hbm, 41, rfl⟩
abbrev main_v30 : Ref sig .tc := ⟨.hbm, 42, rfl⟩
abbrev main_cst_4 : Ref sig .tc := ⟨.hbm, 43, rfl⟩
abbrev main_v31 : Ref sig .tc := ⟨.hbm, 44, rfl⟩
abbrev main_v32 : Ref sig .tc := ⟨.hbm, 45, rfl⟩
abbrev main_v33 : Ref sig .tc := ⟨.hbm, 46, rfl⟩
abbrev main_v34 : Ref sig .tc := ⟨.hbm, 47, rfl⟩
abbrev main_cst_5 : Ref sig .tc := ⟨.hbm, 48, rfl⟩
abbrev main_v35 : Ref sig .tc := ⟨.hbm, 49, rfl⟩
abbrev main_v36 : Ref sig .tc := ⟨.hbm, 50, rfl⟩
abbrev main_v37 : Ref sig .tc := ⟨.hbm, 51, rfl⟩
abbrev main_v38 : Ref sig .tc := ⟨.hbm, 52, rfl⟩
abbrev main_v39 : Ref sig .tc := ⟨.hbm, 53, rfl⟩
abbrev main_v40 : Ref sig .tc := ⟨.hbm, 54, rfl⟩
abbrev main_v41 : Ref sig .tc := ⟨.hbm, 55, rfl⟩
abbrev main_v42 : Ref sig .tc := ⟨.hbm, 56, rfl⟩
abbrev main_v43 : Ref sig .tc := ⟨.hbm, 57, rfl⟩
abbrev main_v44 : Ref sig .tc := ⟨.hbm, 58, rfl⟩
abbrev main_v45 : Ref sig .tc := ⟨.hbm, 59, rfl⟩
abbrev main_v46 : Ref sig .tc := ⟨.hbm, 60, rfl⟩
abbrev main_v47 : Ref sig .tc := ⟨.hbm, 61, rfl⟩
abbrev main_v48 : Ref sig .tc := ⟨.hbm, 62, rfl⟩
abbrev main_v49 : Ref sig .tc := ⟨.hbm, 63, rfl⟩
abbrev main_v50 : Ref sig .tc := ⟨.hbm, 64, rfl⟩
abbrev main_v51 : Ref sig .tc := ⟨.hbm, 65, rfl⟩
abbrev main_v52 : Ref sig .tc := ⟨.hbm, 66, rfl⟩
abbrev main_cst_6 : Ref sig .tc := ⟨.hbm, 67, rfl⟩
abbrev main_call1_v0 : Ref sig .tc := ⟨.hbm, 68, rfl⟩
abbrev main_call1_v1 : Ref sig .tc := ⟨.hbm, 69, rfl⟩
abbrev main_call1_v2 : Ref sig .tc := ⟨.hbm, 70, rfl⟩
abbrev main_v53 : Ref sig .tc := ⟨.hbm, 71, rfl⟩
abbrev main_cst_7 : Ref sig .tc := ⟨.hbm, 72, rfl⟩
abbrev main_v54 : Ref sig .tc := ⟨.hbm, 73, rfl⟩
abbrev main_cst_8 : Ref sig .tc := ⟨.hbm, 74, rfl⟩
abbrev main_v55 : Ref sig .tc := ⟨.hbm, 75, rfl⟩
abbrev main_v56 : Ref sig .tc := ⟨.hbm, 76, rfl⟩
abbrev main_v57 : Ref sig .tc := ⟨.hbm, 77, rfl⟩
abbrev main_v58 : Ref sig .tc := ⟨.hbm, 78, rfl⟩
abbrev main_v59 : Ref sig .tc := ⟨.hbm, 79, rfl⟩
abbrev main_v60 : Ref sig .tc := ⟨.hbm, 80, rfl⟩
abbrev main_cst_9 : Ref sig .tc := ⟨.hbm, 81, rfl⟩
abbrev main_v61 : Ref sig .tc := ⟨.hbm, 82, rfl⟩
abbrev main_v62 : Ref sig .tc := ⟨.hbm, 83, rfl⟩
abbrev main_v63 : Ref sig .tc := ⟨.hbm, 84, rfl⟩
abbrev main_v64 : Ref sig .tc := ⟨.hbm, 85, rfl⟩
abbrev main_v65 : Ref sig .tc := ⟨.hbm, 86, rfl⟩
abbrev main_v66 : Ref sig .tc := ⟨.hbm, 87, rfl⟩
abbrev main_v67 : Ref sig .tc := ⟨.hbm, 88, rfl⟩
abbrev main_v68 : Ref sig .tc := ⟨.hbm, 89, rfl⟩
abbrev main_v69 : Ref sig .tc := ⟨.hbm, 90, rfl⟩

abbrev nD : Nat := 1
abbrev τ : Topo := Topo.v7x

variable {F : FTy → Type} [FloatOps F]
-- ==== Kernel9.lean ====
abbrev S2x2048x7184 : Shape := ⟨3, ![2, 2048, 7184]⟩
abbrev S1x31x1024 : Shape := ⟨3, ![1, 31, 1024]⟩
abbrev S1x1024 : Shape := ⟨2, ![1, 1024]⟩
abbrev S2x2048x3072 : Shape := ⟨3, ![2, 2048, 3072]⟩
abbrev S2x2048x4096 : Shape := ⟨3, ![2, 2048, 4096]⟩
abbrev S2x2048x7168 : Shape := ⟨3, ![2, 2048, 7168]⟩
abbrev S4096x7168 : Shape := ⟨2, ![4096, 7168]⟩
abbrev S31x1024 : Shape := ⟨2, ![31, 1024]⟩
abbrev S4096x1024 : Shape := ⟨2, ![4096, 1024]⟩
abbrev S2048x128 : Shape := ⟨2, ![2048, 128]⟩
abbrev S31x128 : Shape := ⟨2, ![31, 128]⟩
abbrev S1x128 : Shape := ⟨2, ![1, 128]⟩
abbrev S2080x128 : Shape := ⟨2, ![2080, 128]⟩
abbrev S32x128 : Shape := ⟨2, ![32, 128]⟩
abbrev S64x128 : Shape := ⟨2, ![64, 128]⟩

abbrev nBuf : Space → Nat
  | .hbm => 9
  | .vmem => 11
  | .smem => 0
  | _ => 0

abbrev bufTy : (tb : Table) → Fin (tcTables nBuf tb) → BufTy
  | .hbm, ⟨0, _⟩ => ⟨S2x2048x7184, .f32⟩
  | .hbm, ⟨1, _⟩ => ⟨S1x31x1024, .f32⟩
  | .hbm, ⟨2, _⟩ => ⟨S1x1024, .f32⟩
  | .hbm, ⟨3, _⟩ => ⟨S2x2048x3072, .f32⟩
  | .hbm, ⟨4, _⟩ => ⟨S2x2048x4096, .f32⟩
  | .hbm, ⟨5, _⟩ => ⟨S2x2048x7168, .f32⟩
  | .hbm, ⟨6, _⟩ => ⟨S4096x7168, .f32⟩
  | .hbm, ⟨7, _⟩ => ⟨S31x1024, .f32⟩
  | .hbm, ⟨8, _⟩ => ⟨S4096x1024, .f32⟩
  | .local _ .vmem, ⟨0, _⟩ => ⟨S2048x128, .f32⟩
  | .local _ .vmem, ⟨1, _⟩ => ⟨S2048x128, .f32⟩
  | .local _ .vmem, ⟨2, _⟩ => ⟨S2048x128, .f32⟩
  | .local _ .vmem, ⟨3, _⟩ => ⟨S2048x128, .f32⟩
  | .local _ .vmem, ⟨4, _⟩ => ⟨S31x128, .f32⟩
  | .local _ .vmem, ⟨5, _⟩ => ⟨S31x128, .f32⟩
  | .local _ .vmem, ⟨6, _⟩ => ⟨S1x128, .f32⟩
  | .local _ .vmem, ⟨7, _⟩ => ⟨S1x128, .f32⟩
  | .local _ .vmem, ⟨8, _⟩ => ⟨S2048x128, .f32⟩
  | .local _ .vmem, ⟨9, _⟩ => ⟨S2048x128, .f32⟩
  | .local _ .vmem, ⟨10, _⟩ => ⟨S2080x128, .f32⟩
  | _, _ => ⟨S2x2048x7184, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_scratch0 : Ref sig .tc := ⟨.vmem, 10, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨2, ![2, 8], ![false, false]⟩

@[reducible] def k0_t1_loop : Scf.Loop 32 :=
  let c0_i32 : BitVec 32 := 0#32
  let c32_i32 : BitVec 32 := 32#32
  let v13 : BitVec 32 := Scalar.addi c0_i32 c32_i32
  let c1_i32 : BitVec 32 := 1#32
  ⟨c0_i32, v13, c1_i32⟩
def k0_mult1 (k0_t1 : Fin k0_t1_loop.trips) : BitVec 32 :=
  let c0_i32 : BitVec 32 := 0#32
  let c1_i32 : BitVec 32 := 1#32
  let arg8 : BitVec 32 := Scf.iv c0_i32 c1_i32 k0_t1
  let c64_i32 : BitVec 32 := 64#32
  let v14 : BitVec 32 := Scalar.muli arg8 c64_i32
  v14
def k0_off1 (k0_t1 : Fin k0_t1_loop.trips) (c2_i32 : BitVec 32) : Fin 2 → Nat :=
  let c0_i32 : BitVec 32 := 0#32
  let c1_i32 : BitVec 32 := 1#32
  let arg8 : BitVec 32 := Scf.iv c0_i32 c1_i32 k0_t1
  let c64_i32 : BitVec 32 := 64#32
  let v14 : BitVec 32 := Scalar.muli arg8 c64_i32
  let v15 : BitVec 32 := v14
  let v19 : BitVec 32 := Scalar.addi v15 c2_i32
  let v20 : Index := Scalar.indexCast v19
  let c0_10 : Index := 0#32
  ![v20.toNat, 0]
def k0_off2 (k0_t1 : Fin k0_t1_loop.trips) : Fin 2 → Nat :=
  let c0_i32 : BitVec 32 := 0#32
  let c1_i32 : BitVec 32 := 1#32
  let arg8 : BitVec 32 := Scf.iv c0_i32 c1_i32 k0_t1
  let c64_i32 : BitVec 32 := 64#32
  let v14 : BitVec 32 := Scalar.muli arg8 c64_i32
  let v15 : BitVec 32 := v14
  let v268 : Index := Scalar.indexCast v15
  let c0_74 : Index := 0#32
  ![v268.toNat, 0]
def cc0_transform_0 (i : grid0.Coords) : Fin 2 → Nat :=
  let arg0 : BitVec 32 := BitVec.ofNat 32 (i 0).val
  let arg1 : BitVec 32 := BitVec.ofNat 32 (i 1).val
  let c32_i32 : BitVec 32 := 32#32
  let v0 : BitVec 32 := Scalar.addi c32_i32 arg1
  let c0_i32 : BitVec 32 := 0#32
  ![arg0.toNat, v0.toNat]

def cc0_transform_1 (i : grid0.Coords) : Fin 2 → Nat :=
  let arg0 : BitVec 32 := BitVec.ofNat 32 (i 0).val
  let arg1 : BitVec 32 := BitVec.ofNat 32 (i 1).val
  let c40_i32 : BitVec 32 := 40#32
  let v0 : BitVec 32 := Scalar.addi c40_i32 arg1
  let c0_i32 : BitVec 32 := 0#32
  ![arg0.toNat, v0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S2048x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S2048x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S31x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S1x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 2 → Memref sig .tc .vmem S2048x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]
-- ==== Reference9Ideal.lean ====
abbrev S2x2048x7184 : Shape := ⟨3, ![2, 2048, 7184]⟩
abbrev S1x31x1024 : Shape := ⟨3, ![1, 31, 1024]⟩
abbrev S1x1024 : Shape := ⟨2, ![1, 1024]⟩
abbrev S2x2048x1024 : Shape := ⟨3, ![2, 2048, 1024]⟩
abbrev S_ : Shape := ⟨0, ![]⟩
abbrev S2x30x1024 : Shape := ⟨3, ![2, 30, 1024]⟩
abbrev S2x2078x1024 : Shape := ⟨3, ![2, 2078, 1024]⟩
abbrev S1x1x1024 : Shape := ⟨3, ![1, 1, 1024]⟩
abbrev S1024 : Shape := ⟨1, ![1024]⟩
abbrev S4096x1024 : Shape := ⟨2, ![4096, 1024]⟩

abbrev nBuf : Space → Nat
  | .hbm => 240
  | .vmem => 0
  | .smem => 0
  | _ => 0

abbrev hbmTy0_0 (i : Nat) : BufTy := match i % 128 with
  | 0 => ⟨S2x2048x7184, .f32⟩
  | 1 => ⟨S1x31x1024, .f32⟩
  | 2 => ⟨S1x1024, .f32⟩
  | 3 => ⟨S2x2048x1024, .f32⟩
  | 4 => ⟨S2x2048x1024, .f32⟩
  | 5 => ⟨S2x2048x1024, .f32⟩
  | 6 => ⟨S2x2048x1024, .f32⟩
  | 7 => ⟨S_, .f32⟩
  | 8 => ⟨S2x2048x1024, .f32⟩
  | 9 => ⟨S2x2048x1024, .f32⟩
  | 10 => ⟨S_, .f32⟩
  | 11 => ⟨S2x2048x1024, .f32⟩
  | 12 => ⟨S2x2048x1024, .f32⟩
  | 13 => ⟨S2x2048x1024, .f32⟩
  | 14 => ⟨S_, .f32⟩
  | 15 => ⟨S2x30x1024, .f32⟩
  | 16 => ⟨S2x2078x1024, .f32⟩
  | 17 => ⟨S_, .f32⟩
  | 18 => ⟨S2x2048x1024, .f32⟩
  | 19 => ⟨S1x1x1024, .f32⟩
  | 20 => ⟨S1024, .f32⟩
  | 21 => ⟨S2x2048x1024, .f32⟩
  | 22 => ⟨S1x1x1024, .f32⟩
  | 23 => ⟨S2x2048x1024, .f32⟩
  | 24 => ⟨S2x2048x1024, .f32⟩
  | 25 => ⟨S2x2048x1024, .f32⟩
  | 26 => ⟨S1x1x1024, .f32⟩
  | 27 => ⟨S1024, .f32⟩
  | 28 => ⟨S2x2048x1024, .f32⟩
  | 29 => ⟨S1x1x1024, .f32⟩
  | 30 => ⟨S2x2048x1024, .f32⟩
  | 31 => ⟨S2x2048x1024, .f32⟩
  | 32 => ⟨S2x2048x1024, .f32⟩
  | 33 => ⟨S1x1x1024, .f32⟩
  | 34 => ⟨S1024, .f32⟩
  | 35 => ⟨S2x2048x1024, .f32⟩
  | 36 => ⟨S1x1x1024, .f32⟩
  | 37 => ⟨S2x2048x1024, .f32⟩
  | 38 => ⟨S2x2048x1024, .f32⟩
  | 39 => ⟨S2x2048x1024, .f32⟩
  | 40 => ⟨S1x1x1024, .f32⟩
  | 41 => ⟨S1024, .f32⟩
  | 42 => ⟨S2x2048x1024, .f32⟩
  | 43 => ⟨S1x1x1024, .f32⟩
  | 44 => ⟨S2x2048x1024, .f32⟩
  | 45 => ⟨S2x2048x1024, .f32⟩
  | 46 => ⟨S2x2048x1024, .f32⟩
  | 47 => ⟨S1x1x1024, .f32⟩
  | 48 => ⟨S1024, .f32⟩
  | 49 => ⟨S2x2048x1024, .f32⟩
  | 50 => ⟨S1x1x1024, .f32⟩
  | 51 => ⟨S2x2048x1024, .f32⟩
  | 52 => ⟨S2x2048x1024, .f32⟩
  | 53 => ⟨S2x2048x1024, .f32⟩
  | 54 => ⟨S1x1x1024, .f32⟩
  | 55 => ⟨S1024, .f32⟩
  | 56 => ⟨S2x2048x1024, .f32⟩
  | 57 => ⟨S1x1x1024, .f32⟩
  | 58 => ⟨S2x2048x1024, .f32⟩
  | 59 => ⟨S2x2048x1024, .f32⟩
  | 60 => ⟨S2x2048x1024, .f32⟩
  | 61 => ⟨S1x1x1024, .f32⟩
  | 62 => ⟨S1024, .f32⟩
  | 63 => ⟨S2x2048x1024, .f32⟩
  | 64 => ⟨S1x1x1024, .f32⟩
  | 65 => ⟨S2x2048x1024, .f32⟩
  | 66 => ⟨S2x2048x1024, .f32⟩
  | 67 => ⟨S2x2048x1024, .f32⟩
  | 68 => ⟨S1x1x1024, .f32⟩
  | 69 => ⟨S1024, .f32⟩
  | 70 => ⟨S2x2048x1024, .f32⟩
  | 71 => ⟨S1x1x1024, .f32⟩
  | 72 => ⟨S2x2048x1024, .f32⟩
  | 73 => ⟨S2x2048x1024, .f32⟩
  | 74 => ⟨S2x2048x1024, .f32⟩
  | 75 => ⟨S1x1x1024, .f32⟩
  | 76 => ⟨S1024, .f32⟩
  | 77 => ⟨S2x2048x1024, .f32⟩
  | 78 => ⟨S1x1x1024, .f32⟩
  | 79 => ⟨S2x2048x1024, .f32⟩
  | 80 => ⟨S2x2048x1024, .f32⟩
  | 81 => ⟨S2x2048x1024, .f32⟩
  | 82 => ⟨S1x1x1024, .f32⟩
  | 83 => ⟨S1024, .f32⟩
  | 84 => ⟨S2x2048x1024, .f32⟩
  | 85 => ⟨S1x1x1024, .f32⟩
  | 86 => ⟨S2x2048x1024, .f32⟩
  | 87 => ⟨S2x2048x1024, .f32⟩
  | 88 => ⟨S2x2048x1024, .f32⟩
  | 89 => ⟨S1x1x1024, .f32⟩
  | 90 => ⟨S1024, .f32⟩
  | 91 => ⟨S2x2048x1024, .f32⟩
  | 92 => ⟨S1x1x1024, .f32⟩
  | 93 => ⟨S2x2048x1024, .f32⟩
  | 94 => ⟨S2x2048x1024, .f32⟩
  | 95 => ⟨S2x2048x1024, .f32⟩
  | 96 => ⟨S1x1x1024, .f32⟩
  | 97 => ⟨S1024, .f32⟩
  | 98 => ⟨S2x2048x1024, .f32⟩
  | 99 => ⟨S1x1x1024, .f32⟩
  | 100 => ⟨S2x2048x1024, .f32⟩
  | 101 => ⟨S2x2048x1024, .f32⟩
  | 102 => ⟨S2x2048x1024, .f32⟩
  | 103 => ⟨S1x1x1024, .f32⟩
  | 104 => ⟨S1024, .f32⟩
  | 105 => ⟨S2x2048x1024, .f32⟩
  | 106 => ⟨S1x1x1024, .f32⟩
  | 107 => ⟨S2x2048x1024, .f32⟩
  | 108 => ⟨S2x2048x1024, .f32⟩
  | 109 => ⟨S2x2048x1024, .f32⟩
  | 110 => ⟨S1x1x1024, .f32⟩
  | 111 => ⟨S1024, .f32⟩
  | 112 => ⟨S2x2048x1024, .f32⟩
  | 113 => ⟨S1x1x1024, .f32⟩
  | 114 => ⟨S2x2048x1024, .f32⟩
  | 115 => ⟨S2x2048x1024, .f32⟩
  | 116 => ⟨S2x2048x1024, .f32⟩
  | 117 => ⟨S1x1x1024, .f32⟩
  | 118 => ⟨S1024, .f32⟩
  | 119 => ⟨S2x2048x1024, .f32⟩
  | 120 => ⟨S1x1x1024, .f32⟩
  | 121 => ⟨S2x2048x1024, .f32⟩
  | 122 => ⟨S2x2048x1024, .f32⟩
  | 123 => ⟨S2x2048x1024, .f32⟩
  | 124 => ⟨S1x1x1024, .f32⟩
  | 125 => ⟨S1024, .f32⟩
  | 126 => ⟨S2x2048x1024, .f32⟩
  | 127 => ⟨S1x1x1024, .f32⟩
  | _ => ⟨S2x2048x7184, .f32⟩

abbrev hbmTy0_1 (i : Nat) : BufTy := match i % 128 with
  | 0 => ⟨S2x2048x1024, .f32⟩
  | 1 => ⟨S2x2048x1024, .f32⟩
  | 2 => ⟨S2x2048x1024, .f32⟩
  | 3 => ⟨S1x1x1024, .f32⟩
  | 4 => ⟨S1024, .f32⟩
  | 5 => ⟨S2x2048x1024, .f32⟩
  | 6 => ⟨S1x1x1024, .f32⟩
  | 7 => ⟨S2x2048x1024, .f32⟩
  | 8 => ⟨S2x2048x1024, .f32⟩
  | 9 => ⟨S2x2048x1024, .f32⟩
  | 10 => ⟨S1x1x1024, .f32⟩
  | 11 => ⟨S1024, .f32⟩
  | 12 => ⟨S2x2048x1024, .f32⟩
  | 13 => ⟨S1x1x1024, .f32⟩
  | 14 => ⟨S2x2048x1024, .f32⟩
  | 15 => ⟨S2x2048x1024, .f32⟩
  | 16 => ⟨S2x2048x1024, .f32⟩
  | 17 => ⟨S1x1x1024, .f32⟩
  | 18 => ⟨S1024, .f32⟩
  | 19 => ⟨S2x2048x1024, .f32⟩
  | 20 => ⟨S1x1x1024, .f32⟩
  | 21 => ⟨S2x2048x1024, .f32⟩
  | 22 => ⟨S2x2048x1024, .f32⟩
  | 23 => ⟨S2x2048x1024, .f32⟩
  | 24 => ⟨S1x1x1024, .f32⟩
  | 25 => ⟨S1024, .f32⟩
  | 26 => ⟨S2x2048x1024, .f32⟩
  | 27 => ⟨S1x1x1024, .f32⟩
  | 28 => ⟨S2x2048x1024, .f32⟩
  | 29 => ⟨S2x2048x1024, .f32⟩
  | 30 => ⟨S2x2048x1024, .f32⟩
  | 31 => ⟨S1x1x1024, .f32⟩
  | 32 => ⟨S1024, .f32⟩
  | 33 => ⟨S2x2048x1024, .f32⟩
  | 34 => ⟨S1x1x1024, .f32⟩
  | 35 => ⟨S2x2048x1024, .f32⟩
  | 36 => ⟨S2x2048x1024, .f32⟩
  | 37 => ⟨S2x2048x1024, .f32⟩
  | 38 => ⟨S1x1x1024, .f32⟩
  | 39 => ⟨S1024, .f32⟩
  | 40 => ⟨S2x2048x1024, .f32⟩
  | 41 => ⟨S1x1x1024, .f32⟩
  | 42 => ⟨S2x2048x1024, .f32⟩
  | 43 => ⟨S2x2048x1024, .f32⟩
  | 44 => ⟨S2x2048x1024, .f32⟩
  | 45 => ⟨S1x1x1024, .f32⟩
  | 46 => ⟨S1024, .f32⟩
  | 47 => ⟨S2x2048x1024, .f32⟩
  | 48 => ⟨S1x1x1024, .f32⟩
  | 49 => ⟨S2x2048x1024, .f32⟩
  | 50 => ⟨S2x2048x1024, .f32⟩
  | 51 => ⟨S2x2048x1024, .f32⟩
  | 52 => ⟨S1x1x1024, .f32⟩
  | 53 => ⟨S1024, .f32⟩
  | 54 => ⟨S2x2048x1024, .f32⟩
  | 55 => ⟨S1x1x1024, .f32⟩
  | 56 => ⟨S2x2048x1024, .f32⟩
  | 57 => ⟨S2x2048x1024, .f32⟩
  | 58 => ⟨S2x2048x1024, .f32⟩
  | 59 => ⟨S1x1x1024, .f32⟩
  | 60 => ⟨S1024, .f32⟩
  | 61 => ⟨S2x2048x1024, .f32⟩
  | 62 => ⟨S1x1x1024, .f32⟩
  | 63 => ⟨S2x2048x1024, .f32⟩
  | 64 => ⟨S2x2048x1024, .f32⟩
  | 65 => ⟨S2x2048x1024, .f32⟩
  | 66 => ⟨S1x1x1024, .f32⟩
  | 67 => ⟨S1024, .f32⟩
  | 68 => ⟨S2x2048x1024, .f32⟩
  | 69 => ⟨S1x1x1024, .f32⟩
  | 70 => ⟨S2x2048x1024, .f32⟩
  | 71 => ⟨S2x2048x1024, .f32⟩
  | 72 => ⟨S2x2048x1024, .f32⟩
  | 73 => ⟨S1x1x1024, .f32⟩
  | 74 => ⟨S1024, .f32⟩
  | 75 => ⟨S2x2048x1024, .f32⟩
  | 76 => ⟨S1x1x1024, .f32⟩
  | 77 => ⟨S2x2048x1024, .f32⟩
  | 78 => ⟨S2x2048x1024, .f32⟩
  | 79 => ⟨S2x2048x1024, .f32⟩
  | 80 => ⟨S1x1x1024, .f32⟩
  | 81 => ⟨S1024, .f32⟩
  | 82 => ⟨S2x2048x1024, .f32⟩
  | 83 => ⟨S1x1x1024, .f32⟩
  | 84 => ⟨S2x2048x1024, .f32⟩
  | 85 => ⟨S2x2048x1024, .f32⟩
  | 86 => ⟨S2x2048x1024, .f32⟩
  | 87 => ⟨S1x1x1024, .f32⟩
  | 88 => ⟨S1024, .f32⟩
  | 89 => ⟨S2x2048x1024, .f32⟩
  | 90 => ⟨S1x1x1024, .f32⟩
  | 91 => ⟨S2x2048x1024, .f32⟩
  | 92 => ⟨S2x2048x1024, .f32⟩
  | 93 => ⟨S2x2048x1024, .f32⟩
  | 94 => ⟨S1x1x1024, .f32⟩
  | 95 => ⟨S1024, .f32⟩
  | 96 => ⟨S2x2048x1024, .f32⟩
  | 97 => ⟨S1x1x1024, .f32⟩
  | 98 => ⟨S2x2048x1024, .f32⟩
  | 99 => ⟨S2x2048x1024, .f32⟩
  | 100 => ⟨S2x2048x1024, .f32⟩
  | 101 => ⟨S1x1x1024, .f32⟩
  | 102 => ⟨S1024, .f32⟩
  | 103 => ⟨S2x2048x1024, .f32⟩
  | 104 => ⟨S1x1x1024, .f32⟩
  | 105 => ⟨S2x2048x1024, .f32⟩
  | 106 => ⟨S2x2048x1024, .f32⟩
  | 107 => ⟨S2x2048x1024, .f32⟩
  | 108 => ⟨S1x1x1024, .f32⟩
  | 109 => ⟨S2x2048x1024, .f32⟩
  | 110 => ⟨S2x2048x1024, .f32⟩
  | 111 => ⟨S4096x1024, .f32⟩
  | _ => ⟨S2x2048x7184, .f32⟩

abbrev hbmTy (i : Nat) : BufTy := match i / 128 with
  | 0 => hbmTy0_0 i
  | 1 => hbmTy0_1 i
  | _ => ⟨S2x2048x7184, .f32⟩

abbrev bufTy : (tb : Table) → Fin (tcTables nBuf tb) → BufTy
  | .hbm, ⟨i, _⟩ => hbmTy i
  | _, _ => ⟨S2x2048x7184, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_cst : Ref sig .tc := ⟨.hbm, 7, rfl⟩
abbrev main_v4 : Ref sig .tc := ⟨.hbm, 8, rfl⟩
abbrev main_v5 : Ref sig .tc := ⟨.hbm, 9, rfl⟩
abbrev main_cst_0 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_cst_1 : Ref sig .tc := ⟨.hbm, 14, rfl⟩
abbrev main_v9 : Ref sig .tc := ⟨.hbm, 15, rfl⟩
abbrev main_v10 : Ref sig .tc := ⟨.hbm, 16, rfl⟩
abbrev main_cst_2 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩
abbrev main_v21 : Ref sig .tc := ⟨.hbm, 28, rfl⟩
abbrev main_v22 : Ref sig .tc := ⟨.hbm, 29, rfl⟩
abbrev main_v23 : Ref sig .tc := ⟨.hbm, 30, rfl⟩
abbrev main_v24 : Ref sig .tc := ⟨.hbm, 31, rfl⟩
abbrev main_v25 : Ref sig .tc := ⟨.hbm, 32, rfl⟩
abbrev main_v26 : Ref sig .tc := ⟨.hbm, 33, rfl⟩
abbrev main_v27 : Ref sig .tc := ⟨.hbm, 34, rfl⟩
abbrev main_v28 : Ref sig .tc := ⟨.hbm, 35, rfl⟩
abbrev main_v29 : Ref sig .tc := ⟨.hbm, 36, rfl⟩
abbrev main_v30 : Ref sig .tc := ⟨.hbm, 37, rfl⟩
abbrev main_v31 : Ref sig .tc := ⟨.hbm, 38, rfl⟩
abbrev main_v32 : Ref sig .tc := ⟨.hbm, 39, rfl⟩
abbrev main_v33 : Ref sig .tc := ⟨.hbm, 40, rfl⟩
abbrev main_v34 : Ref sig .tc := ⟨.hbm, 41, rfl⟩
abbrev main_v35 : Ref sig .tc := ⟨.hbm, 42, rfl⟩
abbrev main_v36 : Ref sig .tc := ⟨.hbm, 43, rfl⟩
abbrev main_v37 : Ref sig .tc := ⟨.hbm, 44, rfl⟩
abbrev main_v38 : Ref sig .tc := ⟨.hbm, 45, rfl⟩
abbrev main_v39 : Ref sig .tc := ⟨.hbm, 46, rfl⟩
abbrev main_v40 : Ref sig .tc := ⟨.hbm, 47, rfl⟩
abbrev main_v41 : Ref sig .tc := ⟨.hbm, 48, rfl⟩
abbrev main_v42 : Ref sig .tc := ⟨.hbm, 49, rfl⟩
abbrev main_v43 : Ref sig .tc := ⟨.hbm, 50, rfl⟩
abbrev main_v44 : Ref sig .tc := ⟨.hbm, 51, rfl⟩
abbrev main_v45 : Ref sig .tc := ⟨.hbm, 52, rfl⟩
abbrev main_v46 : Ref sig .tc := ⟨.hbm, 53, rfl⟩
abbrev main_v47 : Ref sig .tc := ⟨.hbm, 54, rfl⟩
abbrev main_v48 : Ref sig .tc := ⟨.hbm, 55, rfl⟩
abbrev main_v49 : Ref sig .tc := ⟨.hbm, 56, rfl⟩
abbrev main_v50 : Ref sig .tc := ⟨.hbm, 57, rfl⟩
abbrev main_v51 : Ref sig .tc := ⟨.hbm, 58, rfl⟩
abbrev main_v52 : Ref sig .tc := ⟨.hbm, 59, rfl⟩
abbrev main_v53 : Ref sig .tc := ⟨.hbm, 60, rfl⟩
abbrev main_v54 : Ref sig .tc := ⟨.hbm, 61, rfl⟩
abbrev main_v55 : Ref sig .tc := ⟨.hbm, 62, rfl⟩
abbrev main_v56 : Ref sig .tc := ⟨.hbm, 63, rfl⟩
abbrev main_v57 : Ref sig .tc := ⟨.hbm, 64, rfl⟩
abbrev main_v58 : Ref sig .tc := ⟨.hbm, 65, rfl⟩
abbrev main_v59 : Ref sig .tc := ⟨.hbm, 66, rfl⟩
abbrev main_v60 : Ref sig .tc := ⟨.hbm, 67, rfl⟩
abbrev main_v61 : Ref sig .tc := ⟨.hbm, 68, rfl⟩
abbrev main_v62 : Ref sig .tc := ⟨.hbm, 69, rfl⟩
abbrev main_v63 : Ref sig .tc := ⟨.hbm, 70, rfl⟩
abbrev main_v64 : Ref sig .tc := ⟨.hbm, 71, rfl⟩
abbrev main_v65 : Ref sig .tc := ⟨.hbm, 72, rfl⟩
abbrev main_v66 : Ref sig .tc := ⟨.hbm, 73, rfl⟩
abbrev main_v67 : Ref sig .tc := ⟨.hbm, 74, rfl⟩
abbrev main_v68 : Ref sig .tc := ⟨.hbm, 75, rfl⟩
abbrev main_v69 : Ref sig .tc := ⟨.hbm, 76, rfl⟩
abbrev main_v70 : Ref sig .tc := ⟨.hbm, 77, rfl⟩
abbrev main_v71 : Ref sig .tc := ⟨.hbm, 78, rfl⟩
abbrev main_v72 : Ref sig .tc := ⟨.hbm, 79, rfl⟩
abbrev main_v73 : Ref sig .tc := ⟨.hbm, 80, rfl⟩
abbrev main_v74 : Ref sig .tc := ⟨.hbm, 81, rfl⟩
abbrev main_v75 : Ref sig .tc := ⟨.hbm, 82, rfl⟩
abbrev main_v76 : Ref sig .tc := ⟨.hbm, 83, rfl⟩
abbrev main_v77 : Ref sig .tc := ⟨.hbm, 84, rfl⟩
abbrev main_v78 : Ref sig .tc := ⟨.hbm, 85, rfl⟩
abbrev main_v79 : Ref sig .tc := ⟨.hbm, 86, rfl⟩
abbrev main_v80 : Ref sig .tc := ⟨.hbm, 87, rfl⟩
abbrev main_v81 : Ref sig .tc := ⟨.hbm, 88, rfl⟩
abbrev main_v82 : Ref sig .tc := ⟨.hbm, 89, rfl⟩
abbrev main_v83 : Ref sig .tc := ⟨.hbm, 90, rfl⟩
abbrev main_v84 : Ref sig .tc := ⟨.hbm, 91, rfl⟩
abbrev main_v85 : Ref sig .tc := ⟨.hbm, 92, rfl⟩
abbrev main_v86 : Ref sig .tc := ⟨.hbm, 93, rfl⟩
abbrev main_v87 : Ref sig .tc := ⟨.hbm, 94, rfl⟩
abbrev main_v88 : Ref sig .tc := ⟨.hbm, 95, rfl⟩
abbrev main_v89 : Ref sig .tc := ⟨.hbm, 96, rfl⟩
abbrev main_v90 : Ref sig .tc := ⟨.hbm, 97, rfl⟩
abbrev main_v91 : Ref sig .tc := ⟨.hbm, 98, rfl⟩
abbrev main_v92 : Ref sig .tc := ⟨.hbm, 99, rfl⟩
abbrev main_v93 : Ref sig .tc := ⟨.hbm, 100, rfl⟩
abbrev main_v94 : Ref sig .tc := ⟨.hbm, 101, rfl⟩
abbrev main_v95 : Ref sig .tc := ⟨.hbm, 102, rfl⟩
abbrev main_v96 : Ref sig .tc := ⟨.hbm, 103, rfl⟩
abbrev main_v97 : Ref sig .tc := ⟨.hbm, 104, rfl⟩
abbrev main_v98 : Ref sig .tc := ⟨.hbm, 105, rfl⟩
abbrev main_v99 : Ref sig .tc := ⟨.hbm, 106, rfl⟩
abbrev main_v100 : Ref sig .tc := ⟨.hbm, 107, rfl⟩
abbrev main_v101 : Ref sig .tc := ⟨.hbm, 108, rfl⟩
abbrev main_v102 : Ref sig .tc := ⟨.hbm, 109, rfl⟩
abbrev main_v103 : Ref sig .tc := ⟨.hbm, 110, rfl⟩
abbrev main_v104 : Ref sig .tc := ⟨.hbm, 111, rfl⟩
abbrev main_v105 : Ref sig .tc := ⟨.hbm, 112, rfl⟩
abbrev main_v106 : Ref sig .tc := ⟨.hbm, 113, rfl⟩
abbrev main_v107 : Ref sig .tc := ⟨.hbm, 114, rfl⟩
abbrev main_v108 : Ref sig .tc := ⟨.hbm, 115, rfl⟩
abbrev main_v109 : Ref sig .tc := ⟨.hbm, 116, rfl⟩
abbrev main_v110 : Ref sig .tc := ⟨.hbm, 117, rfl⟩
abbrev main_v111 : Ref sig .tc := ⟨.hbm, 118, rfl⟩
abbrev main_v112 : Ref sig .tc := ⟨.hbm, 119, rfl⟩
abbrev main_v113 : Ref sig .tc := ⟨.hbm, 120, rfl⟩
abbrev main_v114 : Ref sig .tc := ⟨.hbm, 121, rfl⟩
abbrev main_v115 : Ref sig .tc := ⟨.hbm, 122, rfl⟩
abbrev main_v116 : Ref sig .tc := ⟨.hbm, 123, rfl⟩
abbrev main_v117 : Ref sig .tc := ⟨.hbm, 124, rfl⟩
abbrev main_v118 : Ref sig .tc := ⟨.hbm, 125, rfl⟩
abbrev main_v119 : Ref sig .tc := ⟨.hbm, 126, rfl⟩
abbrev main_v120 : Ref sig .tc := ⟨.hbm, 127, rfl⟩
abbrev main_v121 : Ref sig .tc := ⟨.hbm, 128, rfl⟩
abbrev main_v122 : Ref sig .tc := ⟨.hbm, 129, rfl⟩
abbrev main_v123 : Ref sig .tc := ⟨.hbm, 130, rfl⟩
abbrev main_v124 : Ref sig .tc := ⟨.hbm, 131, rfl⟩
abbrev main_v125 : Ref sig .tc := ⟨.hbm, 132, rfl⟩
abbrev main_v126 : Ref sig .tc := ⟨.hbm, 133, rfl⟩
abbrev main_v127 : Ref sig .tc := ⟨.hbm, 134, rfl⟩
abbrev main_v128 : Ref sig .tc := ⟨.hbm, 135, rfl⟩
abbrev main_v129 : Ref sig .tc := ⟨.hbm, 136, rfl⟩
abbrev main_v130 : Ref sig .tc := ⟨.hbm, 137, rfl⟩
abbrev main_v131 : Ref sig .tc := ⟨.hbm, 138, rfl⟩
abbrev main_v132 : Ref sig .tc := ⟨.hbm, 139, rfl⟩
abbrev main_v133 : Ref sig .tc := ⟨.hbm, 140, rfl⟩
abbrev main_v134 : Ref sig .tc := ⟨.hbm, 141, rfl⟩
abbrev main_v135 : Ref sig .tc := ⟨.hbm, 142, rfl⟩
abbrev main_v136 : Ref sig .tc := ⟨.hbm, 143, rfl⟩
abbrev main_v137 : Ref sig .tc := ⟨.hbm, 144, rfl⟩
abbrev main_v138 : Ref sig .tc := ⟨.hbm, 145, rfl⟩
abbrev main_v139 : Ref sig .tc := ⟨.hbm, 146, rfl⟩
abbrev main_v140 : Ref sig .tc := ⟨.hbm, 147, rfl⟩
abbrev main_v141 : Ref sig .tc := ⟨.hbm, 148, rfl⟩
abbrev main_v142 : Ref sig .tc := ⟨.hbm, 149, rfl⟩
abbrev main_v143 : Ref sig .tc := ⟨.hbm, 150, rfl⟩
abbrev main_v144 : Ref sig .tc := ⟨.hbm, 151, rfl⟩
abbrev main_v145 : Ref sig .tc := ⟨.hbm, 152, rfl⟩
abbrev main_v146 : Ref sig .tc := ⟨.hbm, 153, rfl⟩
abbrev main_v147 : Ref sig .tc := ⟨.hbm, 154, rfl⟩
abbrev main_v148 : Ref sig .tc := ⟨.hbm, 155, rfl⟩
abbrev main_v149 : Ref sig .tc := ⟨.hbm, 156, rfl⟩
abbrev main_v150 : Ref sig .tc := ⟨.hbm, 157, rfl⟩
abbrev main_v151 : Ref sig .tc := ⟨.hbm, 158, rfl⟩
abbrev main_v152 : Ref sig .tc := ⟨.hbm, 159, rfl⟩
abbrev main_v153 : Ref sig .tc := ⟨.hbm, 160, rfl⟩
abbrev main_v154 : Ref sig .tc := ⟨.hbm, 161, rfl⟩
abbrev main_v155 : Ref sig .tc := ⟨.hbm, 162, rfl⟩
abbrev main_v156 : Ref sig .tc := ⟨.hbm, 163, rfl⟩
abbrev main_v157 : Ref sig .tc := ⟨.hbm, 164, rfl⟩
abbrev main_v158 : Ref sig .tc := ⟨.hbm, 165, rfl⟩
abbrev main_v159 : Ref sig .tc := ⟨.hbm, 166, rfl⟩
abbrev main_v160 : Ref sig .tc := ⟨.hbm, 167, rfl⟩
abbrev main_v161 : Ref sig .tc := ⟨.hbm, 168, rfl⟩
abbrev main_v162 : Ref sig .tc := ⟨.hbm, 169, rfl⟩
abbrev main_v163 : Ref sig .tc := ⟨.hbm, 170, rfl⟩
abbrev main_v164 : Ref sig .tc := ⟨.hbm, 171, rfl⟩
abbrev main_v165 : Ref sig .tc := ⟨.hbm, 172, rfl⟩
abbrev main_v166 : Ref sig .tc := ⟨.hbm, 173, rfl⟩
abbrev main_v167 : Ref sig .tc := ⟨.hbm, 174, rfl⟩
abbrev main_v168 : Ref sig .tc := ⟨.hbm, 175, rfl⟩
abbrev main_v169 : Ref sig .tc := ⟨.hbm, 176, rfl⟩
abbrev main_v170 : Ref sig .tc := ⟨.hbm, 177, rfl⟩
abbrev main_v171 : Ref sig .tc := ⟨.hbm, 178, rfl⟩
abbrev main_v172 : Ref sig .tc := ⟨.hbm, 179, rfl⟩
abbrev main_v173 : Ref sig .tc := ⟨.hbm, 180, rfl⟩
abbrev main_v174 : Ref sig .tc := ⟨.hbm, 181, rfl⟩
abbrev main_v175 : Ref sig .tc := ⟨.hbm, 182, rfl⟩
abbrev main_v176 : Ref sig .tc := ⟨.hbm, 183, rfl⟩
abbrev main_v177 : Ref sig .tc := ⟨.hbm, 184, rfl⟩
abbrev main_v178 : Ref sig .tc := ⟨.hbm, 185, rfl⟩
abbrev main_v179 : Ref sig .tc := ⟨.hbm, 186, rfl⟩
abbrev main_v180 : Ref sig .tc := ⟨.hbm, 187, rfl⟩
abbrev main_v181 : Ref sig .tc := ⟨.hbm, 188, rfl⟩
abbrev main_v182 : Ref sig .tc := ⟨.hbm, 189, rfl⟩
abbrev main_v183 : Ref sig .tc := ⟨.hbm, 190, rfl⟩
abbrev main_v184 : Ref sig .tc := ⟨.hbm, 191, rfl⟩
abbrev main_v185 : Ref sig .tc := ⟨.hbm, 192, rfl⟩
abbrev main_v186 : Ref sig .tc := ⟨.hbm, 193, rfl⟩
abbrev main_v187 : Ref sig .tc := ⟨.hbm, 194, rfl⟩
abbrev main_v188 : Ref sig .tc := ⟨.hbm, 195, rfl⟩
abbrev main_v189 : Ref sig .tc := ⟨.hbm, 196, rfl⟩
abbrev main_v190 : Ref sig .tc := ⟨.hbm, 197, rfl⟩
abbrev main_v191 : Ref sig .tc := ⟨.hbm, 198, rfl⟩
abbrev main_v192 : Ref sig .tc := ⟨.hbm, 199, rfl⟩
abbrev main_v193 : Ref sig .tc := ⟨.hbm, 200, rfl⟩
abbrev main_v194 : Ref sig .tc := ⟨.hbm, 201, rfl⟩
abbrev main_v195 : Ref sig .tc := ⟨.hbm, 202, rfl⟩
abbrev main_v196 : Ref sig .tc := ⟨.hbm, 203, rfl⟩
abbrev main_v197 : Ref sig .tc := ⟨.hbm, 204, rfl⟩
abbrev main_v198 : Ref sig .tc := ⟨.hbm, 205, rfl⟩
abbrev main_v199 : Ref sig .tc := ⟨.hbm, 206, rfl⟩
abbrev main_v200 : Ref sig .tc := ⟨.hbm, 207, rfl⟩
abbrev main_v201 : Ref sig .tc := ⟨.hbm, 208, rfl⟩
abbrev main_v202 : Ref sig .tc := ⟨.hbm, 209, rfl⟩
abbrev main_v203 : Ref sig .tc := ⟨.hbm, 210, rfl⟩
abbrev main_v204 : Ref sig .tc := ⟨.hbm, 211, rfl⟩
abbrev main_v205 : Ref sig .tc := ⟨.hbm, 212, rfl⟩
abbrev main_v206 : Ref sig .tc := ⟨.hbm, 213, rfl⟩
abbrev main_v207 : Ref sig .tc := ⟨.hbm, 214, rfl⟩
abbrev main_v208 : Ref sig .tc := ⟨.hbm, 215, rfl⟩
abbrev main_v209 : Ref sig .tc := ⟨.hbm, 216, rfl⟩
abbrev main_v210 : Ref sig .tc := ⟨.hbm, 217, rfl⟩
abbrev main_v211 : Ref sig .tc := ⟨.hbm, 218, rfl⟩
abbrev main_v212 : Ref sig .tc := ⟨.hbm, 219, rfl⟩
abbrev main_v213 : Ref sig .tc := ⟨.hbm, 220, rfl⟩
abbrev main_v214 : Ref sig .tc := ⟨.hbm, 221, rfl⟩
abbrev main_v215 : Ref sig .tc := ⟨.hbm, 222, rfl⟩
abbrev main_v216 : Ref sig .tc := ⟨.hbm, 223, rfl⟩
abbrev main_v217 : Ref sig .tc := ⟨.hbm, 224, rfl⟩
abbrev main_v218 : Ref sig .tc := ⟨.hbm, 225, rfl⟩
abbrev main_v219 : Ref sig .tc := ⟨.hbm, 226, rfl⟩
abbrev main_v220 : Ref sig .tc := ⟨.hbm, 227, rfl⟩
abbrev main_v221 : Ref sig .tc := ⟨.hbm, 228, rfl⟩
abbrev main_v222 : Ref sig .tc := ⟨.hbm, 229, rfl⟩
abbrev main_v223 : Ref sig .tc := ⟨.hbm, 230, rfl⟩
abbrev main_v224 : Ref sig .tc := ⟨.hbm, 231, rfl⟩
abbrev main_v225 : Ref sig .tc := ⟨.hbm, 232, rfl⟩
abbrev main_v226 : Ref sig .tc := ⟨.hbm, 233, rfl⟩
abbrev main_v227 : Ref sig .tc := ⟨.hbm, 234, rfl⟩
abbrev main_v228 : Ref sig .tc := ⟨.hbm, 235, rfl⟩
abbrev main_v229 : Ref sig .tc := ⟨.hbm, 236, rfl⟩
abbrev main_v230 : Ref sig .tc := ⟨.hbm, 237, rfl⟩
abbrev main_v231 : Ref sig .tc := ⟨.hbm, 238, rfl⟩
abbrev main_v232 : Ref sig .tc := ⟨.hbm, 239, rfl⟩

abbrev nD : Nat := 1
abbrev τ : Topo := Topo.v7x

variable {F : FTy → Type} [FloatOps F]
-- ==== Proof.Reals.lean ====
/- Real numbers inside the extended reals: how each operation of the programs acts on real numbers, and how a
   precondition "every element is finite" gives the real numbers to compute with. -/
module

public import Idealize.ShloMosaic.Lib.Pointwise
public import Idealize.ShloMosaic.Lib.ReduceAll
public import Idealize.ShloMosaic.PureOps.Ideal.Laws
public import Mathlib.Tactic.FieldSimp
public import Mathlib.Tactic.Ring
public import Mathlib.Tactic.Positivity

@[expose] public section

set_option maxRecDepth 16384

noncomputable section

namespace Cert.Reals

open Idealize.ShloMosaic

/-- A finite sum of real numbers is the same number among the extended reals. -/
@[norm_cast] theorem coe_sum {ι : Type*} (s : Finset ι) (f : ι → ℝ) : ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

/-- Division of reals by a real other than zero. -/
theorem div_real {a b : ℝ} (h : b ≠ 0) : Ideal.div (a : EReal) (b : EReal) = ((a / b : ℝ) : EReal) := by
  rw [Ideal.div_coe h, ← EReal.coe_mul, mul_one_div]

/-- The reciprocal root of a positive real. -/
theorem rsqrt_real {a : ℝ} (h : 0 < a) : Ideal.rsqrt (a : EReal) = (((Real.sqrt a)⁻¹ : ℝ) : EReal) := by
  rw [Ideal.rsqrt_coe, if_neg h.not_gt, if_neg h.ne']

/-- The logistic function. -/
def sg (x : ℝ) : ℝ := (1 + Real.exp (-x))⁻¹

/-- The derivative of `x · sg x`. -/
def dsilu (x : ℝ) : ℝ := sg x * (1 + x * (1 - sg x))

theorem logistic_sg (x : ℝ) : Ideal.logistic (x : EReal) = (sg x : EReal) := Ideal.logistic_coe x

/-- The logistic function written out. -/
theorem logistic_real (x : ℝ) : Ideal.div 1 (1 + Ideal.exp (-(x : EReal))) = (sg x : EReal) := by
  have h : 1 + Real.exp (-x) ≠ 0 := by positivity
  rw [← EReal.coe_neg, Ideal.exp_coe, ← EReal.coe_one, ← EReal.coe_add, div_real h, one_div]
  rfl

/-- An extended real is the real it stands for, when its absolute value is less than the infinity. -/
theorem exists_real {x : EReal} (h : max x (-x) < ⊤) : ∃ r : ℝ, x = (r : EReal) := by
  induction x with
  | bot => simp at h
  | coe r => exact ⟨r, rfl⟩
  | top => simp at h

/-- The number whose bits are those of the infinity. -/
theorem ofBits_inf : Ideal.ofBits .f32 0x7F800000#32 = ⊤ := by
  simp [Ideal.ofBits, Ideal.ieee]

theorem ofBits_1024 : Ideal.ofBits .f32 0x44800000#32 = ((1024 : ℝ) : EReal) := by
  simp [Ideal.ofBits, Ideal.ieee, -EReal.coe_mul]; norm_num

theorem ofBits_two : Ideal.ofBits .f32 0x40000000#32 = ((2 : ℝ) : EReal) := by
  simp [Ideal.ofBits, Ideal.ieee, -EReal.coe_mul]; norm_num

theorem ofBits_neg_half : Ideal.ofBits .f32 0xBF000000#32 = ((-(1 / 2) : ℝ) : EReal) := by
  simp [Ideal.ofBits, Ideal.ieee, -EReal.coe_mul]; norm_num

/-- The small number under the roots. -/
def eps : ℝ := 8796093 * 2 ^ (-43 : ℤ)

theorem eps_pos : 0 < eps := by unfold eps; positivity

theorem ofBits_eps : Ideal.ofBits .f32 0x358637BD#32 = (eps : EReal) := by
  simp [Ideal.ofBits, Ideal.ieee, eps]

/-- An array all of whose elements are below the infinity in absolute value is an array of real numbers. -/
theorem real_of_all {s t : Shape} {axes : List (Fin s.rank)} [Subsingleton t.Idx] (x : FVec Ideal s .f32)
    (hb : (⟨0, ![]⟩ : Shape).BroadcastsInDim s (![] : Fin 0 → Fin s.rank)) {u : Shape} (init : u.Idx → BitVec 1)
    (h : s.ReducesTo axes t) (hu : 0 < u.numel) (j : t.Idx)
    (e : Host.reduce IntOp.andi (cmpf .olt (Host.absf x)
      (broadcastInDim s ![] hb (constant (F := Ideal) ⟨0, ![]⟩ .f32 0x7F800000#32))) init h hu j = 1#1) :
    ∃ r : s.Idx → ℝ, ∀ i, x i = (r i : EReal) := by
  refine Classical.axiomOfChoice fun i => exists_real ?_
  have hi := Host.reduce_andi_all _ init h hu j e i
  have hi' : Ideal.cmp .olt (max (x i) (-(x i))) (Ideal.ofBits .f32 0x7F800000#32) = 1#1 := hi
  rw [ofBits_inf] at hi'
  have h' : BitVec.ofBool (decide (max (x i) (-(x i)) < ⊤)) = 1#1 := hi'
  by_contra hn
  rw [decide_eq_false hn] at h'
  exact absurd h' (by decide)

/-- Two conditions that hold together hold each. -/
theorem andi_one {s : Shape} {x y : IVec s 1} {j : s.Idx} (h : andi x y j = 1#1) : x j = 1#1 ∧ y j = 1#1 := by
  have h' : x j &&& y j = 1#1 := h
  generalize x j = p at *
  generalize y j = q at *
  revert p q
  decide

/-- A sum over the first two of three axes. -/
theorem reduceAdd_rows {n0 n1 n2 : Nat} (h : (⟨3, ![n0, n1, n2]⟩ : Shape).ReducesTo [0, 1] ⟨1, ![n2]⟩)
    (v : (⟨3, ![n0, n1, n2]⟩ : Shape).Idx → EReal) (init : EReal) (j : Fin n2) :
    Ideal.hostReduceAdd h v init (ix1 j) = init + ∑ a : Fin n0, ∑ b : Fin n1, v (ix3 a b j) := by
  refine congrArg (init + ·) ((Finset.sum_filter_eq_sum_of_fiber _ (fun k : Fin n0 × Fin n1 => ix3 k.1 k.2 j)
    (fun _ _ e => Prod.ext (congrFun e 0) (congrFun e 1)) (fun i => ?_) v).trans ?_)
  · constructor
    · intro e
      refine ⟨(i 0, i 1), ?_⟩
      funext a; apply Fin.ext
      match a with
      | ⟨0, _⟩ => rfl
      | ⟨1, _⟩ => rfl
      | ⟨2, _⟩ => exact (congrArg Fin.val (congrFun e 0)).symm
    · rintro ⟨k, rfl⟩
      funext b
      apply Fin.ext
      match b with
      | ⟨0, _⟩ => rfl
  · simp only [Fintype.sum_prod_type]

end Cert.Reals
end
-- ==== Proof.ConvPost.Math.lean ====
/- The real functions behind the gradient of norm, swish and gate: one row of 1024 channels at a time. -/
module

public import proofs.«01_k».proof.Proof.Reals
public import Mathlib.Analysis.SpecialFunctions.Exp

@[expose] public section

set_option maxRecDepth 16384

noncomputable section

namespace Cert.ConvPost

open Cert.Reals

/-- One row: a number for each of the 1024 channels. -/
abbrev Row := Fin 1024 → ℝ

def mean (x : Row) : ℝ := (∑ j, x j) / 1024

/-- A row less its mean. -/
def dev (x : Row) : Row := fun j => x j - mean x

def var (x : Row) : ℝ := (∑ j, dev x j * dev x j) / 1024

def rs (x : Row) : ℝ := (√(var x + eps))⁻¹

/-- The normalised row. -/
def un (x : Row) : Row := fun j => dev x j * rs x

/-- The normalised row, scaled and shifted. -/
def ul (x g b : Row) : Row := fun j => un x j * g j + b j

/-- The gradient at the gate. -/
def dgc (x g b gc dy : Row) : Row := fun j => dy j * (ul x g b j * sg (ul x g b j)) * dsilu (gc j)

/-- The gradient at the norm's result. -/
def dul (x g b gc dy : Row) : Row := fun j => dy j * (gc j * sg (gc j)) * dsilu (ul x g b j)

/-- What a gradient `d` at the normalised row is at the row itself. -/
def dx (x d : Row) : Row := fun j => rs x * (d j - mean d - un x j * mean fun i => d i * un x i)

theorem var_nonneg (x : Row) : 0 ≤ var x :=
  div_nonneg (Finset.sum_nonneg fun j _ => mul_self_nonneg _) (by norm_num)

theorem var_eps_pos (x : Row) : 0 < var x + eps := add_pos_of_nonneg_of_pos (var_nonneg x) eps_pos

theorem sum_dev (x : Row) : ∑ j, dev x j = 0 := by
  simp only [dev, Finset.sum_sub_distrib, Finset.sum_const, Finset.card_univ, Fintype.card_fin, nsmul_eq_mul, mean]
  push_cast
  ring

theorem rs_sq (x : Row) : rs x / (var x + eps) = rs x * (rs x * rs x) := by
  have h := Real.mul_self_sqrt (var_eps_pos x).le
  rw [div_eq_mul_inv]
  congr 1
  conv_lhs => rw [← h]
  exact mul_inv _ _

/-- The gradient at the norm's argument, as the chain rule through mean, variance and root writes it. -/
theorem dx_eq (x d : Row) (j : Fin 1024) :
    d j * rs x + (∑ i, dev x i * d i) * (-(1 / 2) * (rs x / (var x + eps))) / 1024 * (2 * dev x j)
      + (∑ i, -(d i * rs x) + ∑ i, -((∑ i, dev x i * d i) * (-(1 / 2) * (rs x / (var x + eps))) / 1024 * (2 * dev x i))) / 1024 = dx x d j := by
  have h2 : ∑ i, -((∑ i, dev x i * d i) * (-(1 / 2) * (rs x / (var x + eps))) / 1024 * (2 * dev x i)) = 0 := by
    rw [Finset.sum_neg_distrib, ← Finset.mul_sum, ← Finset.mul_sum, sum_dev]
    ring
  have h3 : ∑ i, d i * un x i = (∑ i, dev x i * d i) * rs x := by
    rw [Finset.sum_mul]
    exact Finset.sum_congr rfl fun i _ => by unfold un; ring
  rw [h2, rs_sq, Finset.sum_neg_distrib, ← Finset.sum_mul]
  unfold dx
  simp only [mean, h3]
  unfold un
  ring

end Cert.ConvPost

end
-- ==== Proof.ConvPost.Payload.lean ====
/- What the kernel of norm, swish and gate computes of one block of rows, as real numbers. -/
module

public import proofs.«01_k».proof.Proof.ConvPost.Math
public import proofs.«01_k».proof.Proof.Gen.KernelIdeal.Skeleton

@[expose] public section

set_option maxRecDepth 16384

noncomputable section

namespace Cert.KernelIdeal.ConvPost

open Idealize.ShloMosaic Idealize.ShloMosaic.TcCoe
open Cert.Reals Cert.ConvPost
open Cert.KernelIdeal Cert.KernelIdeal.Gen

variable {X C Y : Vec Ideal S256x1024 .f32} {G B : Vec Ideal S1x1024 .f32}
variable {x c y : Fin 256 → Row} {g b : Row}

theorem pay4_at (hX : ∀ r j, X (ix2 r j) = (x r j : EReal)) (r : Fin 256) (j : Fin 1024) :
    k0_pay4 X (ix2 r j) = (dev (x r) j : EReal) := by
  pointwise [k0_pay4]
  simp only [hX, ofBits_1024, ← coe_sum, zero_add, div_real (by norm_num : (1024 : ℝ) ≠ 0), ← EReal.coe_sub]
  rfl

theorem pay5_at (hX : ∀ r j, X (ix2 r j) = (x r j : EReal)) (r : Fin 256) (j : Fin 1) :
    k0_pay5 X (ix2 r j) = (rs (x r) : EReal) := by
  pointwise [k0_pay5]
  simp only [pay4_at hX, ofBits_1024, ofBits_eps, ← EReal.coe_mul, ← coe_sum, zero_add, div_real (by norm_num : (1024 : ℝ) ≠ 0), ← EReal.coe_add]
  exact rsqrt_real (var_eps_pos (x r))

theorem pay6_at (hX : ∀ r j, X (ix2 r j) = (x r j : EReal)) (r : Fin 256) (j : Fin 1024) :
    k0_pay6 X (ix2 r j) = (un (x r) j : EReal) := by
  pointwise [k0_pay6]
  rw [pay4_at hX, pay5_at hX, ← EReal.coe_mul]
  rfl

theorem pay7_at (hX : ∀ r j, X (ix2 r j) = (x r j : EReal)) (hG : ∀ j, G (ix2 0 j) = (g j : EReal)) (hB : ∀ j, B (ix2 0 j) = (b j : EReal))
    (r : Fin 256) (j : Fin 1024) : k0_pay7 G X B (ix2 r j) = (ul (x r) g b j : EReal) := by
  pointwise [k0_pay7]
  rw [pay6_at hX, hG, hB, ← EReal.coe_mul, ← EReal.coe_add]
  rfl

theorem pay8_at (hX : ∀ r j, X (ix2 r j) = (x r j : EReal)) (hG : ∀ j, G (ix2 0 j) = (g j : EReal)) (hB : ∀ j, B (ix2 0 j) = (b j : EReal))
    (r : Fin 256) (j : Fin 1024) : k0_pay8 G X B (ix2 r j) = (sg (ul (x r) g b j) : EReal) := by
  pointwise [k0_pay8]
  rw [pay7_at hX hG hB, logistic_sg]

theorem pay9_at (C : Vec Ideal S256x1024 .f32) (r : Fin 256) (j : Fin 1024) : k0_pay9 C (ix2 r j) = C (ix2 r j) := by
  pointwise [k0_pay9]

theorem pay10_at (hC : ∀ r j, C (ix2 r j) = (c r j : EReal)) (r : Fin 256) (j : Fin 1024) :
    k0_pay10 C (ix2 r j) = (sg (c r j) : EReal) := by
  pointwise [k0_pay10]
  rw [pay9_at, hC, logistic_sg]

theorem pay11_at (Y : Vec Ideal S256x1024 .f32) (r : Fin 256) (j : Fin 1024) : k0_pay11 Y (ix2 r j) = Y (ix2 r j) := by
  pointwise [k0_pay11]

/-- The gradient at the gate. -/
theorem pay15_at (hX : ∀ r j, X (ix2 r j) = (x r j : EReal)) (hG : ∀ j, G (ix2 0 j) = (g j : EReal)) (hB : ∀ j, B (ix2 0 j) = (b j : EReal))
    (hC : ∀ r j, C (ix2 r j) = (c r j : EReal)) (hY : ∀ r j, Y (ix2 r j) = (y r j : EReal)) (r : Fin 256) (j : Fin 1024) :
    k0_pay15 (F := Ideal) (k0_pay10 C) (k0_pay12 G X B Y) (k0_pay13 C) k0_pay14 (ix2 r j) = (dgc (x r) g b (c r) (y r) j : EReal) := by
  pointwise [k0_pay15, k0_pay12, k0_pay13, k0_pay14]
  rw [pay11_at, pay9_at, hY, hC, pay7_at hX hG hB, pay8_at hX hG hB, pay10_at hC]
  norm_cast

/-- The gradient at the norm's result. -/
theorem pay16_at (hX : ∀ r j, X (ix2 r j) = (x r j : EReal)) (hG : ∀ j, G (ix2 0 j) = (g j : EReal)) (hB : ∀ j, B (ix2 0 j) = (b j : EReal))
    (hC : ∀ r j, C (ix2 r j) = (c r j : EReal)) (hY : ∀ r j, Y (ix2 r j) = (y r j : EReal)) (r : Fin 256) (j : Fin 1024) :
    k0_pay16 (F := Ideal) (k0_pay7 G X B) (k0_pay8 G X B) (k0_pay9 C) (k0_pay10 C) (k0_pay11 Y) (ix2 r j) = (dul (x r) g b (c r) (y r) j : EReal) := by
  pointwise [k0_pay16]
  rw [pay11_at, pay9_at, hY, hC, pay7_at hX hG hB, pay8_at hX hG hB, pay10_at hC]
  norm_cast

/-- The gradient at the norm's argument. -/
theorem pay17_at (hX : ∀ r j, X (ix2 r j) = (x r j : EReal)) (hG : ∀ j, G (ix2 0 j) = (g j : EReal)) (hB : ∀ j, B (ix2 0 j) = (b j : EReal))
    (hC : ∀ r j, C (ix2 r j) = (c r j : EReal)) (hY : ∀ r j, Y (ix2 r j) = (y r j : EReal)) (r : Fin 256) (j : Fin 1024) :
    k0_pay17 (F := Ideal) G (k0_pay5 X) (k0_pay6 X) (k0_pay7 G X B) (k0_pay8 G X B) (k0_pay9 C) (k0_pay10 C) (k0_pay11 Y) (ix2 r j)
      = (dx (x r) (fun i => dul (x r) g b (c r) (y r) i * g i) j : EReal) := by
  pointwise [k0_pay17]
  simp only [pay16_at hX hG hB hC hY, pay5_at hX, pay6_at hX, hG, ofBits_1024, ← EReal.coe_mul, ← coe_sum,
    div_real (by norm_num : (1024 : ℝ) ≠ 0), ← EReal.coe_sub]
  rfl

/-- A running row plus the column sums of a block. -/
theorem pay2_at {N : Vec Ideal S256x1024 .f32} {n : Fin 256 → Row} (hN : ∀ r j, N (ix2 r j) = (n r j : EReal)) (L : Vec Ideal S1x1024 .f32)
    (r : Fin 1) (j : Fin 1024) : k0_pay2 N L (ix2 r j) = L (ix2 r j) + ((∑ i, n i j : ℝ) : EReal) := by
  pointwise [k0_pay2]
  simp only [hN, ← coe_sum]

theorem pay1_at {N : Vec Ideal S256x1024 .f32} {n : Fin 256 → Row} (hN : ∀ r j, N (ix2 r j) = (n r j : EReal)) (L : Vec Ideal S1x1024 .f32)
    (r : Fin 1) (j : Fin 1024) : k0_pay1 N L (ix2 r j) = L (ix2 r j) + ((∑ i, n i j : ℝ) : EReal) := by
  pointwise [k0_pay1]
  simp only [hN, ← coe_sum]

theorem pay18_at (hX : ∀ r j, X (ix2 r j) = (x r j : EReal)) (hG : ∀ j, G (ix2 0 j) = (g j : EReal)) (hB : ∀ j, B (ix2 0 j) = (b j : EReal))
    (hC : ∀ r j, C (ix2 r j) = (c r j : EReal)) (hY : ∀ r j, Y (ix2 r j) = (y r j : EReal)) (L : Vec Ideal S1x1024 .f32) (r : Fin 1) (j : Fin 1024) :
    k0_pay18 (F := Ideal) (k0_pay6 X) (k0_pay7 G X B) (k0_pay8 G X B) (k0_pay9 C) (k0_pay10 C) (k0_pay11 Y) L (ix2 r j)
      = L (ix2 r j) + ((∑ i, dul (x i) g b (c i) (y i) j * un (x i) j : ℝ) : EReal) := by
  pointwise [k0_pay18]
  simp only [pay16_at hX hG hB hC hY, pay6_at hX, ← EReal.coe_mul, ← coe_sum]

end Cert.KernelIdeal.ConvPost

end
-- ==== Proof.ConvPost.Blocks.lean ====
/- The blocks that the kernel of norm, swish and gate reads at a grid point, in terms of the argument arrays. -/
module

public import proofs.«01_k».proof.Proof.ConvPost.Math
public import proofs.«01_k».proof.Proof.Gen.KernelIdeal.Frame
public import Idealize.ShloMosaic.Lib.Pipeline.ValueKit
public import Idealize.ShloMosaic.Lib.Claim

@[expose] public section

set_option maxRecDepth 16384

noncomputable section

namespace Cert.KernelIdeal.ConvPost

open Idealize.ShloMosaic Idealize.ShloMosaic.TcCoe Idealize.SL.Sem
open Idealize.ShloMosaic.Pipeline (Dat)
open Cert.Reals Cert.ConvPost
open Cert.KernelIdeal Cert.KernelIdeal.Gen

/-- The sequence and the frame of a token, tokens being numbered through both sequences. -/
def seq (t : Fin cfg0.N) (r : Fin 256) : Fin 2 := ⟨(t.val * 256 + r.val) / 2048, by have := lt_of_lt_of_eq t.isLt N_0; omega⟩
def frame (t : Fin cfg0.N) (r : Fin 256) : Fin 2048 := ⟨(t.val * 256 + r.val) % 2048, by omega⟩

theorem idx : ∀ t : Fin cfg0.N, win0_0.index t = ![t.val, 1] ∧ win0_1.index t = ![t.val, 0] ∧ win0_2.index t = ![t.val, 6]
    ∧ win0_3.index t = ![0, 0] ∧ win0_4.index t = ![0, 0] ∧ win0_5.index t = ![t.val, 0] ∧ win0_6.index t = ![t.val, 0] ∧ win0_7.index t = ![0, 0] :=
  (by decide +kernel : ∀ t : Fin grid0.N, _)

variable (m : (ℓ : Loc nD τ sig) → Buf (Elt Ideal) ℓ) (c : Dev nD)

theorem block_dy (t : Fin cfg0.N) (r : Fin 256) (j : Fin 1024) :
    iblk m c 0 t (ix2 r j) = m ((c : Thread nD τ).loc main_arg5) (ix3 (seq t r) (frame t r) ⟨1024 + j.val, by omega⟩) := by
  have ht := lt_of_lt_of_eq t.isLt N_0
  blk_simp [iblk, idx t]
  entry_read
  pointwise
  blk_ext [idx t, seq, frame]

theorem block_u {u : Fin 2 → Fin 2048 → Row} {b : Row}
    (hu : ∀ a s j, m ((c : Thread nD τ).loc main_arg1) (ix3 a s j) = (u a s j : EReal)) (hb : ∀ j, m ((c : Thread nD τ).loc main_arg2) (ix2 0 j) = (b j : EReal))
    (t : Fin cfg0.N) (r : Fin 256) (j : Fin 1024) : iblk m c 1 t (ix2 r j) = ((u (seq t r) (frame t r) j + b j : ℝ) : EReal) := by
  have ht := lt_of_lt_of_eq t.isLt N_0
  rw [EReal.coe_add, ← hu, ← hb]
  blk_simp [iblk, idx t]
  entry_read
  pointwise
  blk_point [idx t, seq, frame]

theorem block_gc (t : Fin cfg0.N) (r : Fin 256) (j : Fin 1024) :
    iblk m c 2 t (ix2 r j) = m ((c : Thread nD τ).loc main_arg0) (ix3 (seq t r) (frame t r) ⟨6160 + j.val, by omega⟩) := by
  have ht := lt_of_lt_of_eq t.isLt N_0
  blk_simp [iblk, idx t]
  entry_read
  pointwise
  rw [dif_neg (by blk_simp [idx t]; omega)]
  blk_ext [idx t, seq, frame]

theorem block_g (t : Fin cfg0.N) (j : Fin 1024) :
    iblk m c 3 t (ix2 0 j) = m ((c : Thread nD τ).loc main_arg3) (ix2 0 j) := by
  blk_simp [iblk, idx t, V]
  blk_ext [idx t, seq, frame]

theorem block_b (t : Fin cfg0.N) (j : Fin 1024) :
    iblk m c 4 t (ix2 0 j) = m ((c : Thread nD τ).loc main_arg4) (ix2 0 j) := by
  blk_simp [iblk, idx t, V]
  blk_ext [idx t, seq, frame]

end Cert.KernelIdeal.ConvPost

end
-- ==== Proof.Rows.lean ====
/- A buffer of rows written one row at a time: what a row holds after the writes, and what a load of a row gives. -/
module

public import Idealize.ShloMosaic.Lib.Pipeline.ValueKit
public import Idealize.ShloMosaic.Lib.WritesUnit

@[expose] public section

set_option maxRecDepth 16384

noncomputable section

namespace Cert.Rows

open Idealize.ShloMosaic

variable {Val : EltTy → Type} {e : EltTy} {R C o : ℕ}

/-- The rectangle of one row. -/
abbrev row (inb : ∀ a, (![o, 0] : Fin 2 → ℕ) a + (![1, C] : Fin 2 → ℕ) a ≤ (⟨2, ![R, C]⟩ : Shape).size a) : Rect (⟨2, ![R, C]⟩ : Shape) :=
  Rect.unit ![o, 0] ![1, C] inb

theorem row_lt (inb : ∀ a, (![o, 0] : Fin 2 → ℕ) a + (![1, C] : Fin 2 → ℕ) a ≤ (⟨2, ![R, C]⟩ : Shape).size a) : o < R := by
  have h := inb 0
  simpa using h

theorem row_emb (inb : ∀ a, (![o, 0] : Fin 2 → ℕ) a + (![1, C] : Fin 2 → ℕ) a ≤ (⟨2, ![R, C]⟩ : Shape).size a) (b : Fin C) :
    (row inb).emb (ix2 (0 : Fin 1) b) = ix2 (⟨o, row_lt inb⟩ : Fin R) b := by
  funext a
  apply Fin.ext
  match a with
  | ⟨0, _⟩ => show o + 1 * 0 = o; omega
  | ⟨1, _⟩ => show 0 + 1 * b.val = b.val; omega

theorem not_mem_row (inb : ∀ a, (![o, 0] : Fin 2 → ℕ) a + (![1, C] : Fin 2 → ℕ) a ≤ (⟨2, ![R, C]⟩ : Shape).size a) (a : Fin R) (b : Fin C) (h : a.val ≠ o) :
    ix2 a b ∉ (row inb).set := by
  rw [Rect.mem_set_unit]
  intro hall
  have h0 : o ≤ a.val ∧ a.val < o + 1 := hall 0
  omega

variable [∀ e, Nonempty (Val e)]

/-- The newest row, or what the earlier writes left. -/
theorem canon_row (inb : ∀ a, (![o, 0] : Fin 2 → ℕ) a + (![1, C] : Fin 2 → ℕ) a ≤ (⟨2, ![R, C]⟩ : Shape).size a) (w : (row inb).shape.Idx → Val e)
    (L : List (View.Piece Val (⟨2, ![R, C]⟩ : Shape) e)) (a : Fin R) (b : Fin C) :
    View.canon (Val := Val) (s := ⟨2, ![R, C]⟩) (e := e) (⟨row inb, w⟩ :: L) (ix2 a b)
      = if a.val = o then w (ix2 (0 : Fin 1) b) else View.canon (Val := Val) (s := ⟨2, ![R, C]⟩) (e := e) L (ix2 a b) := by
  split
  · rename_i h
    obtain rfl : a = ⟨o, row_lt inb⟩ := Fin.ext h
    rw [← row_emb inb b]
    exact View.canon_cons_emb _ _ _ _
  · rename_i h
    exact View.canon_cons_of_not_mem _ _ (not_mem_row inb a b h)

/-- The same over earlier contents that no write covered. -/
theorem read_row {sig : RefSig} {κ : Kind} {sp : Space} (v : View sig κ sp (⟨2, ![R, C]⟩ : Shape) e) (f : v.ty.Contents Val)
    (inb : ∀ a, (![o, 0] : Fin 2 → ℕ) a + (![1, C] : Fin 2 → ℕ) a ≤ (⟨2, ![R, C]⟩ : Shape).size a) (w : (row inb).shape.Idx → Val e)
    (L : List (View.Piece Val (⟨2, ![R, C]⟩ : Shape) e)) (a : Fin R) (b : Fin C) :
    v.read Val (v.writes Val f (⟨row inb, w⟩ :: L)) (ix2 a b)
      = if a.val = o then w (ix2 (0 : Fin 1) b) else v.read Val (v.writes Val f L) (ix2 a b) := by
  split
  · rename_i h
    exact View.read_writes_cons_rows_of_mem v f inb w L _ (ix2 (0 : Fin 1) b) rfl (h.trans (Nat.add_zero o).symm) rfl
  · rename_i h
    exact View.read_writes_cons_rows_of_not_mem (W := 1) v f inb w L _ rfl rfl (by show a.val < o ∨ o + 1 ≤ a.val; omega)

/-- A load of a row after writes. -/
theorem readCov_row {sig : RefSig} {κ : Kind} {sp : Space} (v : View sig κ sp (⟨2, ![R, C]⟩ : Shape) e)
    (inb : ∀ a, (![o, 0] : Fin 2 → ℕ) a + (![1, C] : Fin 2 → ℕ) a ≤ (⟨2, ![R, C]⟩ : Shape).size a)
    (L : List (View.Piece Val (⟨2, ![R, C]⟩ : Shape) e)) (b : Fin C) :
    v.readCov L (row inb).toLoadRect (ix2 (0 : Fin 1) b) = View.canon (Val := Val) (s := ⟨2, ![R, C]⟩) (e := e) L (ix2 (⟨o, row_lt inb⟩ : Fin R) b) := by
  rw [View.readCov_eq_canon', ← row_emb inb b]
  rfl

/-- A load of a row of known contents. -/
theorem ld_row (X : (⟨2, ![R, C]⟩ : Shape).Idx → Val e)
    (inb : ∀ a, (![o, 0] : Fin 2 → ℕ) a + (![1, C] : Fin 2 → ℕ) a ≤ (⟨2, ![R, C]⟩ : Shape).size a) (b : Fin C) :
    View.ld X (row inb) (ix2 (0 : Fin 1) b) = X (ix2 (⟨o, row_lt inb⟩ : Fin R) b) := by
  rw [← row_emb inb b]
  rfl

end Cert.Rows

end
-- ==== Proof.ConvPost.Kernel.lean ====
/- What the kernel of norm, swish and gate leaves in its three result arrays, for real arguments. -/
module

public import proofs.«01_k».proof.Proof.ConvPost.Payload
public import proofs.«01_k».proof.Proof.ConvPost.Blocks
public import proofs.«01_k».proof.Proof.Rows

@[expose] public section

set_option maxRecDepth 16384

noncomputable section

namespace Cert.KernelIdeal.ConvPost

open Idealize.ShloMosaic Idealize.ShloMosaic.TcCoe Idealize.SL.Sem
open Idealize.ShloMosaic.Pipeline (Dat)
open Cert.Reals Cert.ConvPost
open Cert.KernelIdeal Cert.KernelIdeal.Gen

variable (m : (ℓ : Loc nD τ sig) → Buf (Elt Ideal) ℓ) (c : Dev nD)

/-- The parts of the argument arrays that the kernel uses hold these real numbers. -/
structure Real (u gc dy : Fin 2 → Fin 2048 → Row) (b g lb : Row) : Prop where
  hu : ∀ a s j, m ((c : Thread nD τ).loc main_arg1) (ix3 a s j) = (u a s j : EReal)
  hc : ∀ a s (j : Fin 1024), m ((c : Thread nD τ).loc main_arg0) (ix3 a s ⟨6160 + j.val, by omega⟩) = (gc a s j : EReal)
  hy : ∀ a s (j : Fin 1024), m ((c : Thread nD τ).loc main_arg5) (ix3 a s ⟨1024 + j.val, by omega⟩) = (dy a s j : EReal)
  hb : ∀ j, m ((c : Thread nD τ).loc main_arg2) (ix2 0 j) = (b j : EReal)
  hg : ∀ j, m ((c : Thread nD τ).loc main_arg3) (ix2 0 j) = (g j : EReal)
  hl : ∀ j, m ((c : Thread nD τ).loc main_arg4) (ix2 0 j) = (lb j : EReal)

variable {m c} {u gc dy : Fin 2 → Fin 2048 → Row} {b g lb : Row} (H : Real m c u gc dy b g lb)

/-- The convolution's result with its bias. -/
abbrev pre (u : Fin 2 → Fin 2048 → Row) (b : Row) (a : Fin 2) (s : Fin 2048) : Row := fun j => u a s j + b j

/-- The three gradients at one token. -/
abbrev tgc (u gc dy : Fin 2 → Fin 2048 → Row) (b g lb : Row) (a : Fin 2) (s : Fin 2048) : Row := dgc (pre u b a s) g lb (gc a s) (dy a s)
abbrev tul (u gc dy : Fin 2 → Fin 2048 → Row) (b g lb : Row) (a : Fin 2) (s : Fin 2048) : Row := dul (pre u b a s) g lb (gc a s) (dy a s)
abbrev tu (u gc dy : Fin 2 → Fin 2048 → Row) (b g lb : Row) (a : Fin 2) (s : Fin 2048) : Row :=
  dx (pre u b a s) fun i => tul u gc dy b g lb a s i * g i

section
include H
variable (t : Fin cfg0.N)

theorem rX (r : Fin 256) (j : Fin 1024) : iblk m c 1 t (ix2 r j) = (pre u b (seq t r) (frame t r) j : EReal) := block_u m c H.hu H.hb t r j
theorem rC (r : Fin 256) (j : Fin 1024) : iblk m c 2 t (ix2 r j) = (gc (seq t r) (frame t r) j : EReal) := (block_gc m c t r j).trans (H.hc _ _ j)
theorem rY (r : Fin 256) (j : Fin 1024) : iblk m c 0 t (ix2 r j) = (dy (seq t r) (frame t r) j : EReal) := (block_dy m c t r j).trans (H.hy _ _ j)
theorem rG (j : Fin 1024) : iblk m c 3 t (ix2 0 j) = (g j : EReal) := (block_g m c t j).trans (H.hg j)
theorem rB (j : Fin 1024) : iblk m c 4 t (ix2 0 j) = (lb j : EReal) := (block_b m c t j).trans (H.hl j)

/-- The block of the gradient at the gate. -/
theorem out5 (r : Fin 256) (j : Fin 1024) : (outsAt0 m c t.val t.isLt).1 (ix2 r j) = (tgc u gc dy b g lb (seq t r) (frame t r) j : EReal) := by
  by_cases h : t.val % 16 = 0
  · rw [outsAt0_A m c t h]
    frame_out
    exact pay15_at (rX H t) (rG H t) (rB H t) (rC H t) (rY H t) r j
  · rw [outsAt0_B m c t h]
    frame_out
    exact pay15_at (rX H t) (rG H t) (rB H t) (rC H t) (rY H t) r j

/-- The block of the gradient at the convolution's result. -/
theorem out6 (r : Fin 256) (j : Fin 1024) : (outsAt0 m c t.val t.isLt).2.1 (ix2 r j) = (tu u gc dy b g lb (seq t r) (frame t r) j : EReal) := by
  by_cases h : t.val % 16 = 0
  · rw [outsAt0_A m c t h]
    frame_out
    exact pay17_at (rX H t) (rG H t) (rB H t) (rC H t) (rY H t) r j
  · rw [outsAt0_B m c t h]
    frame_out
    exact pay17_at (rX H t) (rG H t) (rB H t) (rC H t) (rY H t) r j

end

/-- What a grid point adds to the block of small gradients. -/
def part (u gc dy : Fin 2 → Fin 2048 → Row) (b g lb : Row) (t : Fin cfg0.N) (y : S24x1024.Idx) : ℝ :=
  if (y 0).val = 16 then ∑ r : Fin 256, tu u gc dy b g lb (seq t r) (frame t r) (y 1)
  else if (y 0).val = 8 then ∑ r : Fin 256, tul u gc dy b g lb (seq t r) (frame t r) (y 1)
  else if (y 0).val = 0 then ∑ r : Fin 256, tul u gc dy b g lb (seq t r) (frame t r) (y 1) * un (pre u b (seq t r) (frame t r)) (y 1)
  else 0

theorem zero_at (y : S24x1024.Idx) : k0_pay3 (F := Ideal) y = (0 : EReal) := by
  pointwise [k0_pay3]

section
include H

theorem small_A (t : Fin cfg0.N) (h : t.val % 16 = 0) (y : S24x1024.Idx) :
    (outsAt0 m c t.val t.isLt).2.2 y = (0 : EReal) + (part u gc dy b g lb t y : EReal) := by
  rw [outsAt0_A m c t h]
  frame_out
  obtain ⟨a, j, rfl⟩ : ∃ (a : Fin 24) (j : Fin 1024), y = ix2 a j := ⟨y 0, y 1, by funext i; fin_cases i <;> rfl⟩
  rw [Rows.canon_row, Rows.canon_row, Rows.canon_row, View.canon_cons_unit_lit' _ _ _ (by decide)]
  unfold part
  show _ = (0 : EReal) + ((if a.val = 16 then _ else if a.val = 8 then _ else if a.val = 0 then _ else _ : ℝ) : EReal)
  split_ifs
  · rw [pay2_at (pay17_at (rX H t) (rG H t) (rB H t) (rC H t) (rY H t)), Rows.readCov_row, Rows.canon_row, if_neg (by decide), Rows.canon_row,
      if_neg (by decide), View.canon_cons_unit_lit' _ _ _ (by decide), zero_at]
    rfl
  · rw [pay1_at (pay16_at (rX H t) (rG H t) (rB H t) (rC H t) (rY H t)), Rows.readCov_row, Rows.canon_row,
      if_neg (by decide), View.canon_cons_unit_lit' _ _ _ (by decide), zero_at]
    rfl
  · rw [pay18_at (rX H t) (rG H t) (rB H t) (rC H t) (rY H t), Rows.readCov_row, View.canon_cons_unit_lit' _ _ _ (by decide), zero_at]
    rfl
  · rw [zero_at, EReal.coe_zero, add_zero]

theorem small_B (t : Fin cfg0.N) (h : ¬ t.val % 16 = 0) (y : S24x1024.Idx) :
    (outsAt0 m c t.val t.isLt).2.2 y = ((outsAt0 m c (t.val - 1) (Nat.lt_of_le_of_lt (Nat.sub_le _ _) t.isLt)).2.2 y : EReal) + (part u gc dy b g lb t y : EReal) := by
  rw [outsAt0_B m c t h]
  frame_out
  obtain ⟨a, j, rfl⟩ : ∃ (a : Fin 24) (j : Fin 1024), y = ix2 a j := ⟨y 0, y 1, by funext i; fin_cases i <;> rfl⟩
  rw [Rows.read_row, Rows.read_row, Rows.read_row]
  unfold part
  show _ = (_ : EReal) + ((if a.val = 16 then _ else if a.val = 8 then _ else if a.val = 0 then _ else _ : ℝ) : EReal)
  split_ifs with h1 h2 h3
  · obtain rfl : a = 16 := Fin.ext h1
    rw [pay2_at (pay17_at (rX H t) (rG H t) (rB H t) (rC H t) (rY H t)), Rows.ld_row]
    rfl
  · obtain rfl : a = 8 := Fin.ext h2
    rw [pay1_at (pay16_at (rX H t) (rG H t) (rB H t) (rC H t) (rY H t)), Rows.ld_row]
    rfl
  · obtain rfl : a = 0 := Fin.ext h3
    rw [pay18_at (rX H t) (rG H t) (rB H t) (rC H t) (rY H t), Rows.ld_row]
    rfl
  · rw [View.writes_nil, Memref.IsWhole.read_unread, EReal.coe_zero, add_zero]

/-- The sequence and the frame of a row of the results. -/
def sq (n : Fin 4096) : Fin 2 := ⟨n.val / 2048, by omega⟩
def fr (n : Fin 4096) : Fin 2048 := ⟨n.val % 2048, by omega⟩

omit H in
theorem emb5 (t : Fin cfg0.N) (r : Fin 256) (j : Fin 1024) : (win0_5.blk t).view.emb (ix2 r j)
    = (ix2 (⟨t.val * 256 + r.val, by have := lt_of_lt_of_eq t.isLt N_0; omega⟩ : Fin 4096) j : S4096x1024.Idx) := by
  blk_ext [idx t]

omit H in
theorem emb6 (t : Fin cfg0.N) (r : Fin 256) (j : Fin 1024) : (win0_6.blk t).view.emb (ix2 r j)
    = (ix2 (⟨t.val * 256 + r.val, by have := lt_of_lt_of_eq t.isLt N_0; omega⟩ : Fin 4096) j : S4096x1024.Idx) := by
  blk_ext [idx t]

/-- The first result: the gradient at the gate. -/
theorem final5 : (dats m 0 c).arrAt 5 cfg0.N = (fun y : S4096x1024.Idx => (tgc u gc dy b g lb (sq (y 0)) (fr (y 0)) (y 1) : EReal)) := by
  refine (dats m 0 c).arrAt_eq_of_covers 5 _ (by decide +kernel) fun t _ y => ?_
  rw [after0_5]
  obtain ⟨r, j, rfl⟩ : ∃ (r : Fin 256) (j : Fin 1024), y = ix2 r j := ⟨y 0, y 1, by funext i; fin_cases i <;> rfl⟩
  refine (out5 H t r j).trans ?_
  exact (congrArg (fun y : S4096x1024.Idx => (tgc u gc dy b g lb (sq (y 0)) (fr (y 0)) (y 1) : EReal)) (emb5 t r j)).symm

/-- The second result: the gradient at the convolution's result. -/
theorem final6 : (dats m 0 c).arrAt 6 cfg0.N = (fun y : S4096x1024.Idx => (tu u gc dy b g lb (sq (y 0)) (fr (y 0)) (y 1) : EReal)) := by
  refine (dats m 0 c).arrAt_eq_of_covers 6 _ (by decide +kernel) fun t _ y => ?_
  rw [after0_6]
  obtain ⟨r, j, rfl⟩ : ∃ (r : Fin 256) (j : Fin 1024), y = ix2 r j := ⟨y 0, y 1, by funext i; fin_cases i <;> rfl⟩
  refine (out6 H t r j).trans ?_
  exact (congrArg (fun y : S4096x1024.Idx => (tu u gc dy b g lb (sq (y 0)) (fr (y 0)) (y 1) : EReal)) (emb6 t r j)).symm

/-- The third result: the sums over all tokens, and nothing in the rows between them. -/
theorem final7 : (dats m 0 c).arrAt 7 cfg0.N = (fun y : S24x1024.Idx => ((∑ t : Fin cfg0.N, part u gc dy b g lb t y : ℝ) : EReal)) := by
  refine (dats m 0 c).arrAt_eq_of_after_last 7 t0_15 (by decide +kernel) _ fun y => ?_
  rw [after0_7]
  refine (Pipeline.eq_sum_fin_of_reset_step_apply_last (fun n h => (outsAt0 m c n h).2.2) 16 (fun _ => 0) _ (small_A H) (small_B H) (le_of_eq N_0) t0_15 rfl y).trans ?_
  rw [zero_add, ← coe_sum]
  rfl

omit H in
/-- A sum over the grid and the rows of a block is a sum over the sequences and their frames. -/
theorem sum_tokens (f : Fin 2 → Fin 2048 → ℝ) : ∑ t : Fin cfg0.N, ∑ r : Fin 256, f (seq t r) (frame t r) = ∑ a, ∑ s, f a s := by
  refine Fin.sum_points_lanes_congr 8 (fun t k ha hl => ?_) N_0
  have e1 : seq t k = ⟨t.val / 8, ha⟩ := Fin.ext (by show (t.val * 256 + k.val) / 2048 = t.val / 8; omega)
  have e2 : frame t k = ⟨t.val % 8 * 256 + k.val, hl⟩ := Fin.ext (by show (t.val * 256 + k.val) % 2048 = t.val % 8 * 256 + k.val; omega)
  rw [e1, e2]

/-- The third result's rows. -/
theorem final7_at (a : Fin 24) (j : Fin 1024) : ((dats m 0 c).arrAt 7 cfg0.N : S24x1024.Idx → EReal) (ix2 a j) = ((
    if a.val = 16 then ∑ q, ∑ s, tu u gc dy b g lb q s j else if a.val = 8 then ∑ q, ∑ s, tul u gc dy b g lb q s j
    else if a.val = 0 then ∑ q, ∑ s, tul u gc dy b g lb q s j * un (pre u b q s) j else 0 : ℝ) : EReal) := by
  rw [final7 H]
  refine congrArg _ (Eq.trans (b := ∑ t : Fin cfg0.N, if a.val = 16 then ∑ r : Fin 256, tu u gc dy b g lb (seq t r) (frame t r) j
    else if a.val = 8 then ∑ r : Fin 256, tul u gc dy b g lb (seq t r) (frame t r) j
    else if a.val = 0 then ∑ r : Fin 256, tul u gc dy b g lb (seq t r) (frame t r) j * un (pre u b (seq t r) (frame t r)) j
    else 0) rfl ?_)
  split_ifs
  · exact sum_tokens fun q s => tu u gc dy b g lb q s j
  · exact sum_tokens fun q s => tul u gc dy b g lb q s j
  · exact sum_tokens fun q s => tul u gc dy b g lb q s j * un (pre u b q s) j
  · exact Finset.sum_const_zero

end

end Cert.KernelIdeal.ConvPost

end
-- ==== Proof.ConvPost.Reference.lean ====
/- What the reference of norm, swish and gate computes, as real numbers. -/
module

public import proofs.«01_k».proof.Proof.ConvPost.Math
public import proofs.«01_k».proof.Proof.Gen.ReferenceIdeal.Read

@[expose] public section

set_option maxRecDepth 16384

noncomputable section

namespace Cert.ReferenceIdeal.ConvPost

open Idealize.ShloMosaic Idealize.ShloMosaic.TcCoe
open Cert.Reals Cert.ConvPost
open Cert.ReferenceIdeal Cert.ReferenceIdeal.Read

/-- The parts of the argument arrays that the reference uses hold these real numbers. -/
structure Real (x0 : Vec Ideal S2x2048x7184 .f32) (x1 : Vec Ideal S2x2048x1024 .f32) (x2 x3 x4 : Vec Ideal S1x1024 .f32) (x5 : Vec Ideal S2x2048x2048 .f32)
    (u gc dy : Fin 2 → Fin 2048 → Row) (b g lb : Row) : Prop where
  hu : ∀ a s j, x1 (ix3 a s j) = (u a s j : EReal)
  hc : ∀ a s (j : Fin 1024), x0 (ix3 a s ⟨6160 + j.val, by omega⟩) = (gc a s j : EReal)
  hy : ∀ a s (j : Fin 1024), x5 (ix3 a s ⟨1024 + j.val, by omega⟩) = (dy a s j : EReal)
  hb : ∀ j, x2 (ix2 0 j) = (b j : EReal)
  hg : ∀ j, x3 (ix2 0 j) = (g j : EReal)
  hl : ∀ j, x4 (ix2 0 j) = (lb j : EReal)

variable {x0 : Vec Ideal S2x2048x7184 .f32} {x1 : Vec Ideal S2x2048x1024 .f32} {x2 x3 x4 : Vec Ideal S1x1024 .f32} {x5 : Vec Ideal S2x2048x2048 .f32}
variable {u gc dy : Fin 2 → Fin 2048 → Row} {b g lb : Row} (H : Real x0 x1 x2 x3 x4 x5 u gc dy b g lb)
include H

theorem v4_at (a : Fin 2) (s : Fin 2048) (j : Fin 1024) : val_main_v4 (F := Ideal) x1 x2 (ix3 a s j) = ((u a s j + b j : ℝ) : EReal) := by
  pointwise [val_main_v4, val_main_v3, val_main_v2, val_main_v1]
  rw [H.hu, H.hb, ← EReal.coe_add]

theorem v12_at (a : Fin 2) (s : Fin 2048) (j : Fin 1024) : val_main_v12 (F := Ideal) x1 x2 (ix3 a s j) = (dev (fun j => u a s j + b j) j : EReal) := by
  pointwise [val_main_v12, val_main_v11, val_main_v10, val_main_v9, val_main_v8, val_main_v7, val_main_cst, val_main_cst_0]
  simp only [v4_at H, ofBits_1024, ← coe_sum, div_real (by norm_num : (1024 : ℝ) ≠ 0), ← EReal.coe_sub]
  rfl

theorem v21_at (a : Fin 2) (s : Fin 2048) (j : Fin 1024) : val_main_v21 (F := Ideal) x1 x2 (ix3 a s j) = (dev (fun j => u a s j + b j) j : EReal) :=
  v12_at H a s j

theorem v23_at (a : Fin 2) (s : Fin 2048) (z : Fin 1) : val_main_v23 (F := Ideal) x1 x2 (ix3 a s z) = ((var (fun j => u a s j + b j) + eps : ℝ) : EReal) := by
  pointwise [val_main_v23, val_main_v22, val_main_v19, val_main_v18, val_main_v17, val_main_v16, val_main_v13, val_main_cst_2, val_main_cst_3, val_main_cst_4]
  simp only [v12_at H, ofBits_1024, ofBits_eps, ← EReal.coe_mul, ← coe_sum, div_real (by norm_num : (1024 : ℝ) ≠ 0), ← EReal.coe_add]
  rfl

theorem v24_at (a : Fin 2) (s : Fin 2048) (z : Fin 1) : val_main_v24 (F := Ideal) x1 x2 (ix3 a s z) = (rs (fun j => u a s j + b j) : EReal) := by
  pointwise [val_main_v24]
  rw [v23_at H]
  exact rsqrt_real (var_eps_pos _)

theorem v27_at (a : Fin 2) (s : Fin 2048) (z : Fin 1) : val_main_v27 (F := Ideal) x1 x2 (ix3 a s z)
    = ((-(1 / 2) * (rs (fun j => u a s j + b j) / (var (fun j => u a s j + b j) + eps)) : ℝ) : EReal) := by
  pointwise [val_main_v27, val_main_v26, val_main_v25, val_main_cst_5]
  rw [v24_at H, v23_at H, ofBits_neg_half, div_real (var_eps_pos _).ne', ← EReal.coe_mul]

theorem v29_at (a : Fin 2) (s : Fin 2048) (j : Fin 1024) : val_main_v29 (F := Ideal) x1 x2 (ix3 a s j) = (un (fun j => u a s j + b j) j : EReal) := by
  pointwise [val_main_v29, val_main_v28]
  rw [v21_at H, v24_at H, ← EReal.coe_mul]
  rfl

theorem v35_at (a : Fin 2) (s : Fin 2048) (j : Fin 1024) : val_main_v35 (F := Ideal) x1 x2 x3 x4 (ix3 a s j) = (ul (fun j => u a s j + b j) g lb j : EReal) := by
  pointwise [val_main_v35, val_main_v34, val_main_v33, val_main_v32, val_main_v31, val_main_v30, val_main_v5, val_main_v6]
  rw [v29_at H, H.hg, H.hl, ← EReal.coe_mul, ← EReal.coe_add]
  rfl

theorem v36_2_at (a : Fin 2) (s : Fin 2048) (j : Fin 1024) : val_main_v36_2 (F := Ideal) x1 x2 x3 x4 (ix3 a s j) = (sg (ul (fun j => u a s j + b j) g lb j) : EReal) := by
  pointwise [val_main_v36_2, val_main_call0_v4, val_main_call0_v3, val_main_call0_v2, val_main_call0_v1, val_main_call0_v0, val_main_call0_cst, val_main_call0_cst_0]
  rw [v35_at H, logistic_real]

theorem v37_2_at (a : Fin 2) (s : Fin 2048) (j : Fin 1024) : val_main_v37_2 (F := Ideal) x0 (ix3 a s j) = (sg (gc a s j) : EReal) := by
  pointwise [val_main_v37_2, val_main_call1_v4, val_main_call1_v3, val_main_call1_v2, val_main_call1_v1, val_main_call1_v0, val_main_call1_cst, val_main_call1_cst_0, val_main_v0]
  rw [H.hc, logistic_real]

theorem v36_1_at (a : Fin 2) (s : Fin 2048) (j : Fin 1024) : val_main_v36_1 (F := Ideal) x1 x2 x3 x4 (ix3 a s j)
    = ((sg (ul (fun j => u a s j + b j) g lb j) * (1 - sg (ul (fun j => u a s j + b j) g lb j)) : ℝ) : EReal) := by
  pointwise [val_main_v36_1, val_main_call0_v7, val_main_call0_v6, val_main_call0_cst_1]
  rw [v36_2_at H]
  norm_cast

theorem v37_1_at (a : Fin 2) (s : Fin 2048) (j : Fin 1024) : val_main_v37_1 (F := Ideal) x0 (ix3 a s j) = ((sg (gc a s j) * (1 - sg (gc a s j)) : ℝ) : EReal) := by
  pointwise [val_main_v37_1, val_main_call1_v7, val_main_call1_v6, val_main_call1_cst_1]
  rw [v37_2_at H]
  norm_cast

/-- The gradient at the gate. -/
theorem v42_at (a : Fin 2) (s : Fin 2048) (j : Fin 1024) : val_main_v42 (F := Ideal) x0 x1 x2 x3 x4 x5 (ix3 a s j)
    = (dgc (fun j => u a s j + b j) g lb (gc a s) (dy a s) j : EReal) := by
  pointwise [val_main_v42, val_main_call2_v2, val_main_call2_v1, val_main_call2_v0, val_main_v40, val_main_v39, val_main_v36_0, val_main_v0]
  rw [v35_at H, v36_2_at H, H.hy, H.hc, v37_2_at H, v37_1_at H]
  norm_cast
  unfold dgc dsilu
  ring_nf

/-- The gradient at the norm's result. -/
theorem v43_at (a : Fin 2) (s : Fin 2048) (j : Fin 1024) : val_main_v43 (F := Ideal) x0 x1 x2 x3 x4 x5 (ix3 a s j)
    = (dul (fun j => u a s j + b j) g lb (gc a s) (dy a s) j : EReal) := by
  pointwise [val_main_v43, val_main_call3_v2, val_main_call3_v1, val_main_call3_v0, val_main_v41, val_main_v39, val_main_v37_0, val_main_v0]
  rw [v35_at H, v36_2_at H, H.hy, H.hc, v37_2_at H, v36_1_at H]
  norm_cast
  unfold dul dsilu
  ring_nf

theorem v51_at (a : Fin 2) (s : Fin 2048) (j : Fin 1024) : val_main_v51 (F := Ideal) x0 x1 x2 x3 x4 x5 (ix3 a s j)
    = ((dul (fun j => u a s j + b j) g lb (gc a s) (dy a s) j * g j : ℝ) : EReal) := by
  pointwise [val_main_v51, val_main_v50, val_main_v30, val_main_v5]
  rw [v43_at H, H.hg, ← EReal.coe_mul]

theorem v15_at (a : Fin 2) (s : Fin 2048) (j : Fin 1024) : val_main_v15 (F := Ideal) x1 x2 (ix3 a s j) = ((2 * dev (fun j => u a s j + b j) j : ℝ) : EReal) := by
  pointwise [val_main_v15, val_main_v14, val_main_cst_1]
  rw [v12_at H, ofBits_two, ← EReal.coe_mul]

/-- The gradient at the norm's argument. -/
theorem v76_at (a : Fin 2) (s : Fin 2048) (j : Fin 1024) : val_main_v76 (F := Ideal) x0 x1 x2 x3 x4 x5 (ix3 a s j)
    = (dx (fun j => u a s j + b j) (fun i => dul (fun j => u a s j + b j) g lb (gc a s) (dy a s) i * g i) j : EReal) := by
  pointwise [val_main_v76, val_main_v75, val_main_v74, val_main_v73, val_main_v72, val_main_v71, val_main_v70, val_main_v69, val_main_v68, val_main_v67,
    val_main_v66, val_main_v65, val_main_v64, val_main_v63, val_main_v62, val_main_v61, val_main_v60, val_main_v59, val_main_v58, val_main_v57, val_main_v56,
    val_main_v55, val_main_v54, val_main_v53, val_main_cst_10, val_main_cst_11, val_main_cst_12, val_main_cst_13, val_main_cst_14, val_main_cst_15, val_main_cst_16]
  simp only [v51_at H, v24_at H, v21_at H, v27_at H, v15_at H, ofBits_1024, Fin.sum_univ_one, ← EReal.coe_mul, ← EReal.coe_neg, ← coe_sum,
    div_real (by norm_num : (1024 : ℝ) ≠ 0), ← EReal.coe_add]
  rw [← dx_eq]

/-- The sums over all tokens. -/
theorem v46_at (j : Fin 1024) : val_main_v46 (F := Ideal) x0 x1 x2 x3 x4 x5 (ix1 j)
    = ((∑ a, ∑ s, dul (fun j => u a s j + b j) g lb (gc a s) (dy a s) j : ℝ) : EReal) := by
  have h : val_main_v44 (F := Ideal) x0 x1 x2 x3 x4 x5 (ix1 j) = ((∑ a, ∑ s, dul (fun j => u a s j + b j) g lb (gc a s) (dy a s) j : ℝ) : EReal) := by
    refine (reduceAdd_rows _ _ _ j).trans ?_
    pointwise [val_main_cst_6]
    simp only [v43_at H, ← coe_sum]
  refine (reduceAdd_rows _ _ _ j).trans ?_
  pointwise [val_main_v45, val_main_cst_7]
  rw [Fin.sum_univ_one, Fin.sum_univ_one, h]

theorem v52_at (j : Fin 1024) : val_main_v52 (F := Ideal) x0 x1 x2 x3 x4 x5 (ix1 j)
    = ((∑ a, ∑ s, dul (fun j => u a s j + b j) g lb (gc a s) (dy a s) j * un (fun j => u a s j + b j) j : ℝ) : EReal) := by
  have h : val_main_v48 (F := Ideal) x0 x1 x2 x3 x4 x5 (ix1 j)
      = ((∑ a, ∑ s, dul (fun j => u a s j + b j) g lb (gc a s) (dy a s) j * un (fun j => u a s j + b j) j : ℝ) : EReal) := by
    refine (reduceAdd_rows _ _ _ j).trans ?_
    pointwise [val_main_cst_8, val_main_v47]
    simp only [v43_at H, v29_at H, ← EReal.coe_mul, ← coe_sum]
    exact congrArg _ (Finset.sum_congr rfl fun a _ => Finset.sum_congr rfl fun s _ => mul_comm _ _)
  refine (reduceAdd_rows _ _ _ j).trans ?_
  pointwise [val_main_v49, val_main_cst_9]
  rw [Fin.sum_univ_one, Fin.sum_univ_one, h]

theorem v81_at (j : Fin 1024) : val_main_v81 (F := Ideal) x0 x1 x2 x3 x4 x5 (ix1 j)
    = ((∑ a, ∑ s, dx (fun j => u a s j + b j) (fun i => dul (fun j => u a s j + b j) g lb (gc a s) (dy a s) i * g i) j : ℝ) : EReal) := by
  have h : val_main_v79 (F := Ideal) x0 x1 x2 x3 x4 x5 (ix1 j)
      = ((∑ a, ∑ s, dx (fun j => u a s j + b j) (fun i => dul (fun j => u a s j + b j) g lb (gc a s) (dy a s) i * g i) j : ℝ) : EReal) := by
    refine (reduceAdd_rows _ _ _ j).trans ?_
    pointwise [val_main_cst_17]
    simp only [v76_at H, ← coe_sum]
  refine (reduceAdd_rows _ _ _ j).trans ?_
  pointwise [val_main_v80, val_main_cst_18]
  rw [Fin.sum_univ_one, Fin.sum_univ_one, h]

/-- The three results. -/
theorem v87_at (n : Fin 4096) (j : Fin 1024) : val_main_v87 (F := Ideal) x0 x1 x2 x3 x4 x5 (ix2 n j)
    = (dgc (fun j => u ⟨n.val / 2048, by omega⟩ ⟨n.val % 2048, by omega⟩ j + b j) g lb (gc ⟨n.val / 2048, by omega⟩ ⟨n.val % 2048, by omega⟩)
        (dy ⟨n.val / 2048, by omega⟩ ⟨n.val % 2048, by omega⟩) j : EReal) := by
  rw [← v42_at H]
  pointwise [val_main_v87, val_main_v86]

theorem v88_at (n : Fin 4096) (j : Fin 1024) : val_main_v88 (F := Ideal) x0 x1 x2 x3 x4 x5 (ix2 n j)
    = (dx (fun j => u ⟨n.val / 2048, by omega⟩ ⟨n.val % 2048, by omega⟩ j + b j)
        (fun i => dul (fun j => u ⟨n.val / 2048, by omega⟩ ⟨n.val % 2048, by omega⟩ j + b j) g lb (gc ⟨n.val / 2048, by omega⟩ ⟨n.val % 2048, by omega⟩)
          (dy ⟨n.val / 2048, by omega⟩ ⟨n.val % 2048, by omega⟩) i * g i) j : EReal) := by
  rw [← v76_at H]
  pointwise [val_main_v88]

theorem v89_at (r : Fin 24) (j : Fin 1024) : val_main_v89 (F := Ideal) x0 x1 x2 x3 x4 x5 (ix2 r j)
    = ((if r.val = 16 then ∑ a, ∑ s, dx (fun j => u a s j + b j) (fun i => dul (fun j => u a s j + b j) g lb (gc a s) (dy a s) i * g i) j
      else if r.val = 8 then ∑ a, ∑ s, dul (fun j => u a s j + b j) g lb (gc a s) (dy a s) j
      else if r.val = 0 then ∑ a, ∑ s, dul (fun j => u a s j + b j) g lb (gc a s) (dy a s) j * un (fun j => u a s j + b j) j else 0 : ℝ) : EReal) := by
  rw [apply_ite (fun r : ℝ => (r : EReal)), apply_ite (fun r : ℝ => (r : EReal)), apply_ite (fun r : ℝ => (r : EReal)), ← v46_at H, ← v52_at H, ← v81_at H, EReal.coe_zero]
  pointwise [val_main_v89, val_main_v83, val_main_v84, val_main_v85, val_main_v82, val_main_v78, val_main_v77, val_main_call4_v0, val_main_call5_v0, val_main_call6_v0,
    val_main_c, val_main_c_19, val_main_c_20]
  have z : FloatOps.sitofp (F := Ideal) .f32 0#32 = (0 : EReal) := by simp [FloatOps.sitofp]
  simp only [z]
  generalize val_main_v52 (F := Ideal) x0 x1 x2 x3 x4 x5 (ix1 j) = p, val_main_v46 (F := Ideal) x0 x1 x2 x3 x4 x5 (ix1 j) = q,
    val_main_v81 (F := Ideal) x0 x1 x2 x3 x4 x5 (ix1 j) = w
  split_ifs <;> first | omega | rfl

end Cert.ReferenceIdeal.ConvPost

end
-- ==== Proof.ConvPost.Claim.lean ====
/- The gradient of norm, swish and gate: the kernel computes what the chain rule gives. -/
module

public import proofs.«01_k».proof.Defs
public import proofs.«01_k».proof.Proof.ConvPost.Kernel
public import proofs.«01_k».proof.Proof.ConvPost.Reference
public import proofs.«01_k».proof.Proof.Gen.KernelIdeal.Value
public import proofs.«01_k».proof.Proof.Gen.ReferenceIdeal.Run
public import proofs.«01_k».proof.Proof.Gen.Pre_conv_post_finite

@[expose] public section

set_option maxRecDepth 16384

noncomputable section

namespace Cert.ConvPost

open Idealize.ShloMosaic Idealize.ShloMosaic.TcCoe Idealize.SL.Sem
open Cert.Reals

/-- Finite arguments are arrays of real numbers. -/
theorem real_of_pre (m : (ℓ : Loc KernelIdeal.nD KernelIdeal.τ KernelIdeal.sig) → Buf (Elt Ideal) ℓ)
    (h : Pre_KernelIdeal_conv_post_finite (hPre_conv_post_finite := Pre_conv_post_finite.Gen.facts) m) (c : Dev KernelIdeal.nD) :
    ∃ (u gc dy : Fin 2 → Fin 2048 → Row) (b g lb : Row), KernelIdeal.ConvPost.Real m c u gc dy b g lb := by
  have h0 := congrFun (h c) ix0
  unfold Pre_conv_post_finite.fn Pre_conv_post_finite.fn_part1 at h0
  obtain ⟨h0, h5⟩ := andi_one h0
  obtain ⟨h0, h4⟩ := andi_one h0
  obtain ⟨h0, h3⟩ := andi_one h0
  obtain ⟨h0, h2⟩ := andi_one h0
  obtain ⟨h0, h1⟩ := andi_one h0
  obtain ⟨r0, e0⟩ := real_of_all _ _ _ _ _ _ h0
  obtain ⟨r1, e1⟩ := real_of_all _ _ _ _ _ _ h1
  obtain ⟨r2, e2⟩ := real_of_all _ _ _ _ _ _ h2
  obtain ⟨r3, e3⟩ := real_of_all _ _ _ _ _ _ h3
  obtain ⟨r4, e4⟩ := real_of_all _ _ _ _ _ _ h4
  obtain ⟨r5, e5⟩ := real_of_all _ _ _ _ _ _ h5
  refine ⟨fun a s j => r1 (ix3 a s j), fun a s j => r0 (ix3 a s j), fun a s j => r5 (ix3 a s j), fun j => r2 (ix2 0 j), fun j => r3 (ix2 0 j), fun j => r4 (ix2 0 j),
    fun a s j => e1 _, fun a s j => ?_, fun a s j => ?_, fun j => e2 _, fun j => e3 _, fun j => e4 _⟩
  · rw [← e0]
    pointwise
  · rw [← e5]
    pointwise

theorem algebraic : algebraic_KernelIdeal_ReferenceIdeal_pre_conv_post_finite (hKernelIdeal := KernelIdeal.Gen.facts) (hReferenceIdeal := ReferenceIdeal.Gen.facts)
    (hPre_conv_post_finite := Pre_conv_post_finite.Gen.facts) := by
  intro m g m' g' hpre hargs
  refine ⟨fun c => (KernelIdeal.Gen.dats m 0 c).arrAt 5 KernelIdeal.cfg0.N, fun c => (KernelIdeal.Gen.dats m 0 c).arrAt 6 KernelIdeal.cfg0.N,
    fun c => (KernelIdeal.Gen.dats m 0 c).arrAt 7 KernelIdeal.cfg0.N, KernelIdeal.Value.run_blocks m g,
    (θ_run ReferenceIdeal.defs _ _).mono (fun r h c => ?_) (ReferenceIdeal.Value.run m' g')⟩
  obtain ⟨u, gc, dy, b, g, lb, H⟩ := real_of_pre m hpre c
  obtain ⟨a0, a1, a2, a3, a4, a5⟩ := hargs c
  have R : ReferenceIdeal.ConvPost.Real (m' ((c.tc : Thread ReferenceIdeal.nD ReferenceIdeal.τ).loc ReferenceIdeal.main_arg0))
      (m' ((c.tc : Thread ReferenceIdeal.nD ReferenceIdeal.τ).loc ReferenceIdeal.main_arg1)) (m' ((c.tc : Thread ReferenceIdeal.nD ReferenceIdeal.τ).loc ReferenceIdeal.main_arg2))
      (m' ((c.tc : Thread ReferenceIdeal.nD ReferenceIdeal.τ).loc ReferenceIdeal.main_arg3)) (m' ((c.tc : Thread ReferenceIdeal.nD ReferenceIdeal.τ).loc ReferenceIdeal.main_arg4))
      (m' ((c.tc : Thread ReferenceIdeal.nD ReferenceIdeal.τ).loc ReferenceIdeal.main_arg5)) u gc dy b g lb := by
    rw [a0, a1, a2, a3, a4, a5]
    exact ⟨H.hu, H.hc, H.hy, H.hb, H.hg, H.hl⟩
  obtain ⟨h0, h1, h2, h3⟩ := h c
  refine ⟨h0.trans ((ReferenceIdeal.Read.val_main_v87_eq _).trans ?_), h1.trans ((ReferenceIdeal.Read.val_main_v88_eq _).trans ?_),
    h2.trans ((ReferenceIdeal.Read.val_main_v89_eq _).trans ?_), h3⟩
  · refine Eq.trans (funext fun y => ?_) (KernelIdeal.ConvPost.final5 H).symm
    obtain ⟨n, j, rfl⟩ : ∃ (n : Fin 4096) (j : Fin 1024), y = ix2 n j := ⟨y 0, y 1, by funext i; fin_cases i <;> rfl⟩
    exact ReferenceIdeal.ConvPost.v87_at R n j
  · refine Eq.trans (funext fun y => ?_) (KernelIdeal.ConvPost.final6 H).symm
    obtain ⟨n, j, rfl⟩ : ∃ (n : Fin 4096) (j : Fin 1024), y = ix2 n j := ⟨y 0, y 1, by funext i; fin_cases i <;> rfl⟩
    exact ReferenceIdeal.ConvPost.v88_at R n j
  · refine funext fun y => ?_
    obtain ⟨n, j, rfl⟩ : ∃ (n : Fin 24) (j : Fin 1024), y = ix2 n j := ⟨y 0, y 1, by funext i; fin_cases i <;> rfl⟩
    exact (ReferenceIdeal.ConvPost.v89_at R n j).trans (KernelIdeal.ConvPost.final7_at H n j).symm

end Cert.ConvPost

end
-- ==== Proof.AttnBwd.Run.lean ====
/- One run of the attention backward body on staged blocks: the loops past the diagonal are empty, and the rest is loads, stores and arithmetic. -/
module

public import proofs.«01_k».proof.Proof.Gen.Kernel2Ideal.Frame
public import proofs.«01_k».proof.Proof.Gen.Kernel2Ideal.Skeleton

@[expose] public section

set_option maxRecDepth 16384

noncomputable section

namespace Cert.Kernel2Ideal.AttnBwd

open Cert.Kernel2Ideal Cert.Kernel2Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F] [Named F]

local notation "𝕄" => MT nD τ sig Unit (Elt F) ℕ (UR sig nD τ) ℕ

/-- Every grid point is the first of its row of key tiles, so the body starts by clearing the query gradient. -/
theorem clears : ∀ i : grid0.Coords,
    Scalar.cmpi .ne (Scalar.extui (Scalar.cmpi .eq (BitVec.ofNat 32 (i 2).val) 0#32) : BitVec 32) 0#32 = 1#1 := by
  decide +kernel

/-- The first loop over the query tiles past the diagonal is empty: one key tile spans the sequence. -/
theorem trips1 : ∀ i : grid0.Coords, (k0_t1_loop i).trips = 0 := by decide +kernel

/-- The second loop is the remainder of the first, and is empty too. -/
theorem trips2 : ∀ i : grid0.Coords, (k0_t2_loop i).trips = 0 := by decide +kernel

/-- A counted loop of no trips returns what it was started from. -/
theorem loop_none {E : Type → Type} {σ : Type} (l : Scf.Loop 32) (h : l.trips = 0) (ok : l.OK) (init : σ)
    (body : Fin l.trips → σ → Prog E σ) : Scf.Loop.for l ok init body = .ret init := by
  have e : List.finRange l.trips = [] := List.eq_nil_of_length_eq_zero (by simpa using h)
  rw [show Scf.Loop.for l ok init body = _ from Scf.for_eq _ _ _ _ _ _, e]
  rfl

set_option maxHeartbeats 2000000 in
/-- One run of the body on whole staging buffers, the four inputs at their contents and the three outputs at
anything: what is written into each output, as pieces, and the proof that the body writes them and leaves the
inputs alone. -/
noncomputable def bodyRun (c : Dev nD) (i : grid0.Coords) (arg3 : Memref sig .tc .vmem S1x4x2048x128 .bf16) (harg3 : arg3.IsWhole) (arg4 : Memref sig .tc .vmem S1x4x2048x128 .bf16) (harg4 : arg4.IsWhole) (arg5 : Memref sig .tc .vmem S1x4x2048x128 .bf16) (harg5 : arg5.IsWhole) (arg6 : Memref sig .tc .vmem S1x4x2048x128 .bf16) (harg6 : arg6.IsWhole) (arg7 : Memref sig .tc .vmem S1x4x2048x128 .f32) (harg7 : arg7.IsWhole) (arg8 : Memref sig .tc .vmem S1x4x2048x128 .f32) (harg8 : arg8.IsWhole) (arg9 : Memref sig .tc .vmem S1x4x2048x128 .f32) (harg9 : arg9.IsWhole)
    (x3 x4 x5 x6 : Vec F S1x4x2048x128 .bf16) :
    Σ' (L7 L8 : List (View.Piece (Elt F) S1x4x2048x128 .f32)), { L9 : List (View.Piece (Elt F) S1x4x2048x128 .f32) //
      ∀ (E : Set ℕ) (K : PUnit → sProp 𝕄),
        iprop(owns (c : Thread nD τ) arg3 fullShare x3 ∗ owns (c : Thread nD τ) arg4 fullShare x4 ∗ owns (c : Thread nD τ) arg5 fullShare x5 ∗ owns (c : Thread nD τ) arg6 fullShare x6 ∗ (∃ d, owns (c : Thread nD τ) arg7 fullShare d) ∗ (∃ d, owns (c : Thread nD τ) arg8 fullShare d) ∗ (∃ d, owns (c : Thread nD τ) arg9 fullShare d)
            ∗ (iprop(owns (c : Thread nD τ) arg3 fullShare x3 ∗ owns (c : Thread nD τ) arg4 fullShare x4 ∗ owns (c : Thread nD τ) arg5 fullShare x5 ∗ owns (c : Thread nD τ) arg6 fullShare x6 ∗ (∃ f, arg7.view.loc (c : Thread nD τ) ↦[arg7.view.set]{fullShare} arg7.view.writes (Elt F) f L7)
                ∗ (∃ f, arg8.view.loc (c : Thread nD τ) ↦[arg8.view.set]{fullShare} arg8.view.writes (Elt F) f L8)
                ∗ (∃ f, arg9.view.loc (c : Thread nD τ) ↦[arg9.view.set]{fullShare} arg9.view.writes (Elt F) f L9)) -∗ K ⟨⟩))
          ⊢ wp frame (wpE (defs₀ (F := F)) Variants.none c none) E
              (cc0_attn_bwd i arg3 harg3 arg4 harg4 arg5 harg5 arg6 harg6 arg7 harg7 arg8 harg8 arg9 harg9) K } := by
  refine ⟨?_, ?_, ?_, fun E K => ?run⟩
  case run =>
    simp only [cc0_attn_bwd_eq_skeleton]; unfold cc0_attn_bwd_skel
    simp only [k0_part5_eq_skeleton, k0_part6_eq_skeleton, k0_part7_eq_skeleton, k0_part8_eq_skeleton, k0_part9_eq_skeleton, k0_part10_eq_skeleton, k0_part11_eq_skeleton, k0_part12_eq_skeleton, k0_part13_eq_skeleton, k0_part14_eq_skeleton, k0_part15_eq_skeleton, k0_part16_eq_skeleton, k0_part17_eq_skeleton, k0_part18_eq_skeleton, k0_part19_eq_skeleton, k0_part20_eq_skeleton, k0_part21_eq_skeleton, k0_part22_eq_skeleton]
    unfold k0_part21_skel k0_part22_skel
    simp only [loop_none _ (trips1 i), loop_none _ (trips2 i)]
    unfold owns
    iintro ⟨⟨%f3, %hf3, H3⟩, ⟨%f4, %hf4, H4⟩, ⟨%f5, %hf5, H5⟩, ⟨%f6, %hf6, H6⟩, ⟨%d7, %f7, -, H7⟩, ⟨%d8, %f8, -, H8⟩, ⟨%d9, %f9, -, H9⟩, Hk⟩
    obtain rfl := harg3.eq_unread hf3; obtain rfl := harg4.eq_unread hf4
    obtain rfl := harg5.eq_unread hf5; obtain rfl := harg6.eq_unread hf6
    sl_exec (disch := first | sl_exact clears i)
    sl_step
    iapply Hk
    isplitl [H3]
    · iexists _; isplitr; · ipureintro; exact harg3.read_unread _
      iexact H3
    isplitl [H4]
    · iexists _; isplitr; · ipureintro; exact harg4.read_unread _
      iexact H4
    isplitl [H5]
    · iexists _; isplitr; · ipureintro; exact harg5.read_unread _
      iexact H5
    isplitl [H6]
    · iexists _; isplitr; · ipureintro; exact harg6.read_unread _
      iexact H6
    isplitl [H7]; · iexists _; iexact H7
    isplitl [H8]; · iexists _; iexact H8
    iexists _; iexact H9

end Cert.Kernel2Ideal.AttnBwd

end
-- ==== Proof.AttnBwd.Frame.lean ====
/- The attention backward kernel runs to the end, leaves its arguments alone and its outputs as the grid points write them. -/
module

public import proofs.«01_k».proof.Proof.AttnBwd.Run
public import Idealize.ShloMosaic.Lib.Claim

@[expose] public section

set_option maxRecDepth 16384

noncomputable section

namespace Cert.Kernel2Ideal.AttnBwd

open Cert.Kernel2Ideal Cert.Kernel2Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline

variable {F : FTy → Type} [FloatOps F] [Named F]

local notation "𝕄" => MT nD τ sig Unit (Elt F) ℕ (UR sig nD τ) ℕ

section

variable (c : Dev nD) (i : grid0.Coords) {arg3 : Memref sig .tc .vmem S1x4x2048x128 .bf16} (harg3 : arg3.IsWhole) {arg4 : Memref sig .tc .vmem S1x4x2048x128 .bf16} (harg4 : arg4.IsWhole) {arg5 : Memref sig .tc .vmem S1x4x2048x128 .bf16} (harg5 : arg5.IsWhole) {arg6 : Memref sig .tc .vmem S1x4x2048x128 .bf16} (harg6 : arg6.IsWhole) {arg7 : Memref sig .tc .vmem S1x4x2048x128 .f32} (harg7 : arg7.IsWhole) {arg8 : Memref sig .tc .vmem S1x4x2048x128 .f32} (harg8 : arg8.IsWhole) {arg9 : Memref sig .tc .vmem S1x4x2048x128 .f32} (harg9 : arg9.IsWhole)
    (x3 x4 x5 x6 : Vec F S1x4x2048x128 .bf16)

/-- The query gradient is cleared whole before anything is added to it. -/
theorem cover_dq (y : S1x4x2048x128.Idx) :
    ∃ p ∈ (bodyRun c i arg3 harg3 arg4 harg4 arg5 harg5 arg6 harg6 arg7 harg7 arg8 harg8 arg9 harg9 x3 x4 x5 x6).1, y ∈ p.1.set :=
  ⟨_, List.getLast_mem (l := (bodyRun c i arg3 harg3 arg4 harg4 arg5 harg5 arg6 harg6 arg7 harg7 arg8 harg8 arg9 harg9 x3 x4 x5 x6).1) (List.cons_ne_nil _ _),
    (Rect.mem_set_unit (inb := inb_S1x4x2048x128_S1x4x2048x128_0_0_0_0)).mpr fun a => ⟨by fin_cases a <;> exact Nat.zero_le _, by fin_cases a <;> exact lt_of_lt_of_eq (y _).isLt (Nat.zero_add _).symm⟩⟩

/-- The four heads' key gradients make up the block. -/
theorem cover_dk (y : S1x4x2048x128.Idx) :
    ∃ p ∈ (bodyRun c i arg3 harg3 arg4 harg4 arg5 harg5 arg6 harg6 arg7 harg7 arg8 harg8 arg9 harg9 x3 x4 x5 x6).2.1, y ∈ p.1.set :=
  View.cover_of_tiledL (bodyRun c i arg3 harg3 arg4 harg4 arg5 harg5 arg6 harg6 arg7 harg7 arg8 harg8 arg9 harg9 x3 x4 x5 x6).2.1 S1x1x2048x128.size (by sl_kernel_rfl) y

/-- The four heads' value gradients make up the block. -/
theorem cover_dv (y : S1x4x2048x128.Idx) :
    ∃ p ∈ (bodyRun c i arg3 harg3 arg4 harg4 arg5 harg5 arg6 harg6 arg7 harg7 arg8 harg8 arg9 harg9 x3 x4 x5 x6).2.2.1, y ∈ p.1.set :=
  View.cover_of_tiledL (bodyRun c i arg3 harg3 arg4 harg4 arg5 harg5 arg6 harg6 arg7 harg7 arg8 harg8 arg9 harg9 x3 x4 x5 x6).2.2.1 S1x1x2048x128.size (by sl_kernel_rfl) y

end

variable (m : (ℓ : Loc nD τ sig) → Buf (Elt F) ℓ) (ρ : Dev nD → PrngReg)

/-- The body's run at a grid point. -/
abbrev runAt (c : Dev nD) (t : Fin cfg0.N) :=
  bodyRun (F := F) c (grid0.coords t) (st0_0 t) (hstage0_0 ((cfg0.slots t 0).cast nbuf0_0)) (st0_1 t) (hstage0_1 ((cfg0.slots t 1).cast nbuf0_1)) (st0_2 t) (hstage0_2 ((cfg0.slots t 2).cast nbuf0_2)) (st0_3 t) (hstage0_3 ((cfg0.slots t 3).cast nbuf0_3)) (st0_4 t) (hstage0_4 ((cfg0.slots t 4).cast nbuf0_4)) (st0_5 t) (hstage0_5 ((cfg0.slots t 5).cast nbuf0_5)) (st0_6 t) (hstage0_6 ((cfg0.slots t 6).cast nbuf0_6)) (iblk m c 0 t) (iblk m c 1 t) (iblk m c 2 t) (iblk m c 3 t)

/-- What a grid point leaves of the gradient at the queries. -/
def dqAt (c : Dev nD) (t : Fin cfg0.N) : Vec F S1x4x2048x128 .f32 := View.canon (runAt m c t).1
/-- What a grid point leaves of the gradient at the keys. -/
def dkAt (c : Dev nD) (t : Fin cfg0.N) : Vec F S1x4x2048x128 .f32 := View.canon (runAt m c t).2.1
/-- What a grid point leaves of the gradient at the values. -/
def dvAt (c : Dev nD) (t : Fin cfg0.N) : Vec F S1x4x2048x128 .f32 := View.canon (runAt m c t).2.2.1

/-- The inputs' buffers keep their blocks; the outputs' hold the gradients. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => dqAt m c t
    | ⟨5, _⟩ => dkAt m c t
    | ⟨6, _⟩ => dvAt m c t
  Φ _ := Pipeline.ΦA spec0 c
  q _ := fullShare
  owed _ := 0

theorem arrays (c : Dev nD) (w : Fin cfg0.W) : (dats m 0 c).A w = V m c (Pipeline.arrRef spec0 w) := by dsimp only [dats]
theorem after0 (c : Dev nD) (t : Fin cfg0.N) : (dats m 0 c).after 0 t = iblk m c 0 t := by dsimp only [dats]
theorem after1 (c : Dev nD) (t : Fin cfg0.N) : (dats m 0 c).after 1 t = iblk m c 1 t := by dsimp only [dats]
theorem after2 (c : Dev nD) (t : Fin cfg0.N) : (dats m 0 c).after 2 t = iblk m c 2 t := by dsimp only [dats]
theorem after3 (c : Dev nD) (t : Fin cfg0.N) : (dats m 0 c).after 3 t = iblk m c 3 t := by dsimp only [dats]
theorem after4 (c : Dev nD) (t : Fin cfg0.N) : (dats m 0 c).after 4 t = dqAt m c t := by dsimp only [dats]
theorem after5 (c : Dev nD) (t : Fin cfg0.N) : (dats m 0 c).after 5 t = dkAt m c t := by dsimp only [dats]
theorem after6 (c : Dev nD) (t : Fin cfg0.N) : (dats m 0 c).after 6 t = dvAt m c t := by dsimp only [dats]
theorem before0 (c : Dev nD) (t : Fin cfg0.N) (d) : (dats m 0 c).before 0 t d = iblk m c 0 t :=
  before0_0_of m (dats m 0 c) (arrays m c 0) (after0 m c) t d
theorem before1 (c : Dev nD) (t : Fin cfg0.N) (d) : (dats m 0 c).before 1 t d = iblk m c 1 t :=
  before0_1_of m (dats m 0 c) (arrays m c 1) (after1 m c) t d
theorem before2 (c : Dev nD) (t : Fin cfg0.N) (d) : (dats m 0 c).before 2 t d = iblk m c 2 t :=
  before0_2_of m (dats m 0 c) (arrays m c 2) (after2 m c) t d
theorem before3 (c : Dev nD) (t : Fin cfg0.N) (d) : (dats m 0 c).before 3 t d = iblk m c 3 t :=
  before0_3_of m (dats m 0 c) (arrays m c 3) (after3 m c) t d

/-- What the body is given at a grid point. -/
def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d))
    ∗ (∃ d, owns (c : Thread nD τ) (st0_5 t) fullShare ((dats m 0 c).before 5 t d))
    ∗ (∃ d, owns (c : Thread nD τ) (st0_6 t) fullShare ((dats m 0 c).before 6 t d)))

/-- What it gives back. -/
def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t)
    ∗ owns (c : Thread nD τ) (st0_4 t) fullShare ((dats m 0 c).after 4 t)
    ∗ owns (c : Thread nD τ) (st0_5 t) fullShare ((dats m 0 c).after 5 t)
    ∗ owns (c : Thread nD τ) (st0_6 t) fullShare ((dats m 0 c).after 6 t))

set_option maxHeartbeats 1600000 in
/-- The body at a grid point. -/
theorem body_sound (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0, before1, before2, before3]
  rw [show (dats m 0 c).Φ t.succ = (dats m 0 c).Φ t.castSucc from rfl,
    show (dats m 0 c).owesAt () t.succ = (dats m 0 c).owesAt () t.castSucc from rfl,
    after0, after1, after2, after3, after4, after5, after6]
  iintro ⟨HΦ, Ho, ⟨%d0, H0⟩, ⟨%d1, H1⟩, ⟨%d2, H2⟩, ⟨%d3, H3⟩, ⟨%d4, H4⟩, ⟨%d5, H5⟩, ⟨%d6, H6⟩⟩
  iapply ((runAt m c t).2.2.2 Set.univ _)
  isplitl [H0]; · iexact H0
  isplitl [H1]; · iexact H1
  isplitl [H2]; · iexact H2
  isplitl [H3]; · iexact H3
  isplitl [H4]; · iexists _; iexact H4
  isplitl [H5]; · iexists _; iexact H5
  isplitl [H6]; · iexists _; iexact H6
  iintro ⟨H0, H1, H2, H3, ⟨%e4, H4⟩, ⟨%e5, H5⟩, ⟨%e6, H6⟩⟩
  isplitl [HΦ]; · iexact HΦ
  isplitl [Ho]; · iexact Ho
  isplitl [H0]; · iexact H0
  isplitl [H1]; · iexact H1
  isplitl [H2]; · iexact H2
  isplitl [H3]; · iexact H3
  isplitl [H4]
  · unfold owns; iexists _; isplitr
    swap; · iexact H4
    ipureintro; exact View.read_writes_eq_canon _ _ _ (cover_dq c _ _ _ _ _ _ _ _ _ _ _ _)
  isplitl [H5]
  · unfold owns; iexists _; isplitr
    swap; · iexact H5
    ipureintro; exact View.read_writes_eq_canon _ _ _ (cover_dk c _ _ _ _ _ _ _ _ _ _ _ _)
  unfold owns; iexists _; isplitr
  swap; · iexact H6
  ipureintro; exact View.read_writes_eq_canon _ _ _ (cover_dv c _ _ _ _ _ _ _ _ _ _ _ _)

/-- What the pipeline asks of the body. -/
theorem obligation (c : Dev nD) : BodyObligation (dats (F := F) m 0 c) (defs₀ (F := F)) Variants.none () Set.univ := fun t => by
  rw [bigSep_W0, bigSep_W0, show defs₀ (F := F) .tc cfg0.body (cfg0.bodyArgs t (cfg0.slots t)) = bodyAt0 t by unfold defs₀; rw [Defs.onTc_tc]]
  exact triple_restated (body_sound m c t) rfl .rfl fun _ => .rfl

set_option backward.isDefEq.respectTransparency.types false in
/-- Every run ends with the arrays as the grid points leave them and all counters at zero. -/
theorem run : θ_run defs (onTc (τ := τ) (main (F := F))) (s₀ m ρ) (fun r => (Pipeline.FramePost cfgs (dats m) 0 (V m)) r ∧ r.2.sem = fun _ => 0) :=
  Pipeline.θ_run_frame (Q' := _) cfgs (dats m) (0 : Fin 1) launch0 defs₀ Variants.none m ρ main
    (hbody := fun c => (obligation m c).loose) (hshare := fun c => (dats m 0 c).share_full fun _ => rfl)
    (howed := fun _ _ => rfl) (V := V m) (hmain := hmain m Variants.none) (hA := arrays m) (hΦ := fun _ _ => rfl)

/-- Every run leaves the arguments alone and ends with all counters at zero. -/
theorem quiet : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4))
      ∧ r.2.sem = fun _ => 0) :=
  θ_run_and (frame_of m ρ (dats m) (arrays m) ((θ_run defs _ _).mono (fun _ h => h.1) (run m ρ)))
    ((θ_run defs _ _).mono (fun _ h => h.2) (run m ρ))

end Cert.Kernel2Ideal.AttnBwd

end
-- ==== Proof.AttnBwd.Math.lean ====
/- One head of the attention backward over the reals. -/
module

public import proofs.«01_k».proof.Proof.Reals
public import Mathlib.Analysis.SpecialFunctions.Exp

@[expose] public section

set_option maxRecDepth 16384

noncomputable section

namespace Cert.Attn

/-- The exponentials of the scores of one head, masked to the keys up to the query. -/
def W (K Q : Fin 2048 → Fin 128 → ℝ) (s t : Fin 2048) : ℝ := if s ≤ t then Real.exp (∑ l, K s l * Q t l) else 0

/-- The gradient at the scores of one head. -/
def DS (K V Q D : Fin 2048 → Fin 128 → ℝ) (s t : Fin 2048) : ℝ := W K Q s t * ∑ l, V s l * D t l

theorem W_eq_zero (K Q : Fin 2048 → Fin 128 → ℝ) (s t : Fin 2048) (h : t < s) : W K Q s t = 0 := if_neg (not_le.mpr h)

theorem DS_eq_zero (K V Q D : Fin 2048 → Fin 128 → ℝ) (s t : Fin 2048) (h : t < s) : DS K V Q D s t = 0 := by
  rw [DS, W_eq_zero K Q s t h, zero_mul]

/-- A sum over the first rows is the sum over all where the later ones give nothing. -/
theorem sum_first {n : ℕ} (h : n ≤ 2048) (f : Fin 2048 → ℝ) (hf : ∀ s : Fin 2048, n ≤ s.val → f s = 0) :
    ∑ s : Fin n, f (Fin.castLE h s) = ∑ s, f s := by
  let g : ℕ → ℝ := fun i => if hi : i < 2048 then f ⟨i, hi⟩ else 0
  have e1 : ∑ s : Fin n, f (Fin.castLE h s) = ∑ i ∈ Finset.range n, g i := by
    rw [← Fin.sum_univ_eq_sum_range]
    exact Finset.sum_congr rfl fun s _ => by simp only [g]; rw [dif_pos (lt_of_lt_of_le s.isLt h)]; rfl
  have e2 : ∑ s, f s = ∑ i ∈ Finset.range 2048, g i := by
    rw [← Fin.sum_univ_eq_sum_range]
    exact Finset.sum_congr rfl fun s _ => by simp only [g]; rw [dif_pos s.isLt]
  rw [e1, e2]
  refine Finset.sum_subset (Finset.range_mono h) fun i hi hn => ?_
  rw [Finset.mem_range] at hi hn
  exact (dif_pos hi).trans (hf ⟨i, hi⟩ (not_lt.mp hn))

end Cert.Attn

end
-- ==== Proof.AttnBwd.Softmax.lean ====
/- Causal softmax with decay and its gradient, over the reals, one head at a time. -/
module

public import proofs.«01_k».proof.Proof.AttnBwd.Math
public import Mathlib.Analysis.SpecialFunctions.Log.Basic

@[expose] public section

set_option maxRecDepth 16384

noncomputable section

namespace Cert.Attn

open Cert.Reals Idealize.ShloMosaic

/-! ### A row of the softmax, of which only the scores up to `t` count -/

/-- The exponentials of the scores up to `t`. -/
def row (x : Fin 2048 → ℝ) (t s : Fin 2048) : ℝ := if s ≤ t then Real.exp (x s) else 0

/-- Their sum. -/
def tot (x : Fin 2048 → ℝ) (t : Fin 2048) : ℝ := ∑ s, row x t s

theorem row_nonneg (x : Fin 2048 → ℝ) (t s : Fin 2048) : 0 ≤ row x t s := by
  unfold row
  split_ifs
  · exact (Real.exp_pos _).le
  · exact le_rfl

theorem tot_pos (x : Fin 2048 → ℝ) (t : Fin 2048) : 0 < tot x t :=
  Finset.sum_pos' (fun s _ => row_nonneg x t s) ⟨t, Finset.mem_univ t, by rw [row, if_pos le_rfl]; exact Real.exp_pos _⟩

/-- A score as the programs write it: nothing after `t`. -/
def masked (x : Fin 2048 → ℝ) (t s : Fin 2048) : EReal := if s ≤ t then (x s : EReal) else ⊥

/-- The greatest score of a row is a real number. -/
theorem exists_max (x : Fin 2048 → ℝ) (t : Fin 2048) : ∃ M : ℝ, (Finset.univ.fold max ⊥ fun s => masked x t s) = (M : EReal) := by
  have lo : (x t : EReal) ≤ Finset.univ.fold max ⊥ fun s => masked x t s :=
    (Finset.le_fold_max _).mpr (Or.inr ⟨t, Finset.mem_univ t, by rw [masked, if_pos le_rfl]⟩)
  have hi : (Finset.univ.fold max ⊥ fun s => masked x t s) < ⊤ := by
    refine (Finset.fold_max_lt _).mpr ⟨bot_lt_top, fun s _ => ?_⟩
    unfold masked
    split_ifs
    · exact EReal.coe_lt_top _
    · exact bot_lt_top
  exact ⟨_, (EReal.coe_toReal hi.ne (ne_bot_of_le_ne_bot (EReal.coe_ne_bot _) lo)).symm⟩

/-- The greatest score of a row. -/
def top (x : Fin 2048 → ℝ) (t : Fin 2048) : ℝ := (exists_max x t).choose

theorem top_eq (x : Fin 2048 → ℝ) (t : Fin 2048) : (Finset.univ.fold max ⊥ fun s => masked x t s) = (top x t : EReal) := (exists_max x t).choose_spec

theorem ofBits_neg_inf : Ideal.ofBits .f32 0xFF800000#32 = ⊥ := by
  simp [Ideal.ofBits, Ideal.ieee]

/-- A choice by the order of two positions. -/
theorem select_le {α : Type} (s t : Fin 2048) (x y : α) :
    Scalar.select (IntOp.cmpi .sle (BitVec.ofNat 32 s.val) (BitVec.ofNat 32 t.val)) x y = if s ≤ t then x else y := by
  have e : IntOp.cmpi .sle (BitVec.ofNat 32 s.val) (BitVec.ofNat 32 t.val) = if s ≤ t then 1#1 else 0#1 := by
    simp only [IntOp.cmpi, BitVec.sle]
    rw [show (BitVec.ofNat 32 s.val).toInt = (s.val : ℤ) by rw [BitVec.toInt_eq_toNat_of_lt] <;> simp <;> omega,
      show (BitVec.ofNat 32 t.val).toInt = (t.val : ℤ) by rw [BitVec.toInt_eq_toNat_of_lt] <;> simp <;> omega]
    by_cases h : s ≤ t
    · rw [if_pos h, decide_eq_true (by omega)]; rfl
    · rw [if_neg h, decide_eq_false (by omega)]; rfl
  rw [e]
  by_cases h : s ≤ t
  · rw [if_pos h, if_pos h]; rfl
  · rw [if_neg h, if_neg h]; rfl

/-- The exponential of a score less a number. -/
theorem exp_masked_sub (x : Fin 2048 → ℝ) (t s : Fin 2048) (M : ℝ) :
    Ideal.exp (masked x t s - (M : EReal)) = ((Real.exp (-M) * row x t s : ℝ) : EReal) := by
  unfold masked row
  split_ifs
  · rw [← EReal.coe_sub, Ideal.exp_coe, ← Real.exp_add, neg_add_eq_sub]
  · rw [EReal.bot_sub, Ideal.exp_bot, mul_zero]
    rfl

theorem sum_weights (x : Fin 2048 → ℝ) (t : Fin 2048) (M : ℝ) : ∑ s, Real.exp (-M) * row x t s = Real.exp (-M) * tot x t :=
  (Finset.mul_sum _ _ _).symm

theorem log_weights (x : Fin 2048 → ℝ) (t : Fin 2048) (M : ℝ) : M + Real.log (Real.exp (-M) * tot x t) = Real.log (tot x t) := by
  rw [Real.log_mul (Real.exp_pos _).ne' (tot_pos x t).ne', Real.log_exp]
  ring

theorem div_weights (x : Fin 2048 → ℝ) (t s : Fin 2048) (M : ℝ) :
    Real.exp (-M) * row x t s / (Real.exp (-M) * tot x t) = row x t s / tot x t :=
  mul_div_mul_left _ _ (Real.exp_pos _).ne'

/-! ### One head -/

/-- The queries, keys, values and decays of a head, and the gradient at its output. -/
structure Head where
  q : Fin 2048 → Fin 64 → ℝ
  k : Fin 2048 → Fin 64 → ℝ
  v : Fin 2048 → Fin 64 → ℝ
  c : Fin 2048 → ℝ
  o : Fin 2048 → Fin 64 → ℝ

namespace Head

variable (a : Head)

def score (t s : Fin 2048) : ℝ := ∑ d, a.q t d * a.k s d + (a.c t - a.c s)
def prob (t s : Fin 2048) : ℝ := row (a.score t) t s / tot (a.score t) t
def out (t : Fin 2048) (d : Fin 64) : ℝ := ∑ s, a.v s d * a.prob t s
def dot (t : Fin 2048) : ℝ := ∑ d, a.o t d * a.out t d
def dprob (t s : Fin 2048) : ℝ := ∑ d, a.o t d * a.v s d
def dscore (t s : Fin 2048) : ℝ := a.prob t s * (a.dprob t s - a.dot t)

theorem dot_eq (t : Fin 2048) : a.dot t = ∑ s, a.prob t s * a.dprob t s := by
  unfold dot out dprob
  simp only [Finset.mul_sum]
  rw [Finset.sum_comm]
  exact Finset.sum_congr rfl fun s _ => Finset.sum_congr rfl fun d _ => by ring

/-! The lanes of the kernel's arrays. -/

def qLane (t : Fin 2048) (l : Fin 128) : ℝ :=
  if h : l.val < 64 then a.q t ⟨l.val, h⟩ else if l.val = 64 then a.c t else if l.val < 67 then 0 else if l.val < 70 then 1
    else if l.val = 70 then -Real.log (tot (a.score t) t) else 0
def kLane (s : Fin 2048) (l : Fin 128) : ℝ :=
  if h : l.val < 64 then a.k s ⟨l.val, h⟩ else if l.val < 67 then 1 else if l.val = 67 then -a.c s else if l.val < 70 then 0
    else if l.val < 73 then 1 else 0
def vLane (s : Fin 2048) (l : Fin 128) : ℝ :=
  if h : l.val < 64 then a.v s ⟨l.val, h⟩ else if l.val < 67 then 1 else 0
def oLane (t : Fin 2048) (l : Fin 128) : ℝ :=
  if h : l.val < 64 then a.o t ⟨l.val, h⟩ else if l.val = 64 then -a.dot t else 0

/-- A sum over the lanes of which those from 73 on are zero. -/
theorem sum_lanes (f : Fin 128 → ℝ) (h : ∀ l, 73 ≤ l.val → f l = 0) :
    ∑ l, f l = ∑ d : Fin 64, f ⟨d.val, by omega⟩ + ∑ i : Fin 9, f ⟨64 + i.val, by omega⟩ := by
  have e := Fin.sum_univ_add (a := 73) (b := 55) f
  rw [Finset.sum_eq_zero (s := Finset.univ) (f := fun i : Fin 55 => f (Fin.natAdd 73 i)) (fun i _ => h _ (by simp)), add_zero] at e
  exact e.trans (Fin.sum_univ_add (a := 64) (b := 9) (fun i : Fin 73 => f (Fin.castAdd 55 i)))

theorem score_lanes (t s : Fin 2048) : ∑ l, a.kLane s l * a.qLane t l = a.score t s - Real.log (tot (a.score t) t) := by
  rw [sum_lanes _ fun l hl => by
    have h : ¬ l.val < 64 ∧ ¬ l.val < 67 ∧ l.val ≠ 67 ∧ ¬ l.val < 70 ∧ ¬ l.val < 73 := by omega
    simp [kLane, h]]
  have head (d : Fin 64) : a.kLane s ⟨d.val, by omega⟩ * a.qLane t ⟨d.val, by omega⟩ = a.q t d * a.k s d := by
    simp [kLane, qLane, mul_comm]
  rw [Finset.sum_congr rfl fun d _ => head d]
  simp [Fin.sum_univ_succ, kLane, qLane, score]
  ring

theorem dprob_lanes (t s : Fin 2048) : ∑ l, a.vLane s l * a.oLane t l = a.dprob t s - a.dot t := by
  rw [sum_lanes _ fun l hl => by
    have h : ¬ l.val < 64 ∧ ¬ l.val < 67 := by omega
    simp [vLane, h]]
  have head (d : Fin 64) : a.vLane s ⟨d.val, by omega⟩ * a.oLane t ⟨d.val, by omega⟩ = a.o t d * a.v s d := by
    simp [vLane, oLane, mul_comm]
  rw [Finset.sum_congr rfl fun d _ => head d]
  simp [Fin.sum_univ_succ, vLane, oLane, dprob]
  ring

theorem W_lanes (s t : Fin 2048) : W a.kLane a.qLane s t = a.prob t s := by
  unfold W prob
  rw [score_lanes]
  unfold row
  split_ifs
  · rw [Real.exp_sub, Real.exp_log (tot_pos _ _)]
  · rw [zero_div]

theorem DS_lanes (s t : Fin 2048) : DS a.kLane a.vLane a.qLane a.oLane s t = a.dscore t s := by
  unfold DS dscore
  rw [W_lanes, dprob_lanes]

/-! The gradients, lane by lane. -/

theorem grad_q (t : Fin 2048) (d : Fin 64) :
    ∑ s, DS a.kLane a.vLane a.qLane a.oLane s t * a.kLane s ⟨d.val, by omega⟩ = ∑ s, a.dscore t s * a.k s d := by
  refine Finset.sum_congr rfl fun s _ => ?_
  rw [DS_lanes]
  simp [kLane]

theorem grad_cq (t : Fin 2048) : ∑ s, DS a.kLane a.vLane a.qLane a.oLane s t * a.kLane s 64 = ∑ s, a.dscore t s := by
  refine Finset.sum_congr rfl fun s _ => ?_
  rw [DS_lanes]
  simp [kLane]

theorem grad_k (s : Fin 2048) (d : Fin 64) :
    ∑ t, DS a.kLane a.vLane a.qLane a.oLane s t * a.qLane t ⟨d.val, by omega⟩ = ∑ t, a.dscore t s * a.q t d := by
  refine Finset.sum_congr rfl fun t _ => ?_
  rw [DS_lanes]
  simp [qLane]

theorem grad_ck (s : Fin 2048) : ∑ t, DS a.kLane a.vLane a.qLane a.oLane s t * a.qLane t 67 = ∑ t, a.dscore t s := by
  refine Finset.sum_congr rfl fun t _ => ?_
  rw [DS_lanes]
  simp [qLane]

theorem grad_v (s : Fin 2048) (d : Fin 64) :
    ∑ t, W a.kLane a.qLane s t * a.oLane t ⟨d.val, by omega⟩ = ∑ t, a.prob t s * a.o t d := by
  refine Finset.sum_congr rfl fun t _ => ?_
  rw [W_lanes]
  simp [oLane]

end Head

end Cert.Attn

end
-- ==== Proof.AttnBwd.Host.lean ====
/- The arrays that the program prepares for the kernel. -/
module

public import proofs.«01_k».proof.Proof.AttnBwd.Frame
public import Idealize.ShloMosaic.Lib.Pipeline.ValueKit
public import Idealize.ShloMosaic.Lib.Claim
public import Idealize.ShloMosaic.Lib.StableHlo.RunRead
public import proofs.«01_k».proof.Proof.AttnBwd.Softmax

@[expose] public section

set_option maxRecDepth 16384

noncomputable section

namespace Cert.Kernel2Ideal.AttnBwd

open Cert.Kernel2Ideal Cert.Kernel2Ideal.Gen Cert.Attn Cert.Reals
open Idealize.ShloMosaic Idealize.ShloMosaic.TcCoe Idealize.ShloMosaic.Tactic

/-! The arrays that the program prepares for the kernel, as functions of the arguments. -/

section arrays

variable (q k v o : FVec Ideal S2x2048x16x64 .f32) (c : FVec Ideal S2x2048x16 .f32) (x : FVec Ideal S2x16x2048x2048 .f32)

/-- The masked scores. -/
def scores : FVec Ideal S2x16x2048x2048 .f32 :=
  select
    (broadcastInDim S2x16x2048x2048 ![2, 3] bcast_S2048x2048_S2x16x2048x2048_2_3
      (cmpi .sle (broadcastInDim S2048x2048 ![0, 1] bcast_S1x2048_S2048x2048_0_1 (broadcastInDim S1x2048 ![1] bcast_S2048_S1x2048_1 (iotaInDim S2048 32 0)))
        (broadcastInDim S2048x2048 ![0, 1] bcast_S2048x1_S2048x2048_0_1 (broadcastInDim S2048x1 ![0] bcast_S2048_S2048x1_0 (iotaInDim S2048 32 0)))))
    (addf (Host.dotGeneral dot_S2x2048x16x64_S2x2048x16x64_S2x16x2048x2048_3_3_1_1_02_02 none q k)
      (subf
        (broadcastInDim S2x16x2048x2048 ![0, 1, 2, 3] bcast_S2x16x2048x1_S2x16x2048x2048_0_1_2_3
          (broadcastInDim S2x16x2048x1 ![0, 1, 2] bcast_S2x16x2048_S2x16x2048x1_0_1_2 (transpose S2x16x2048 [0, 2, 1] c transposes_S2x2048x16_S2x16x2048_0_2_1)))
        (broadcastInDim S2x16x2048x2048 ![0, 1, 2, 3] bcast_S2x16x1x2048_S2x16x2048x2048_0_1_2_3
          (broadcastInDim S2x16x1x2048 ![0, 1, 3] bcast_S2x16x2048_S2x16x1x2048_0_1_3 (transpose S2x16x2048 [0, 2, 1] c transposes_S2x2048x16_S2x16x2048_0_2_1)))))
    (broadcastInDim S2x16x2048x2048 ![] bcast_S_S2x16x2048x2048 (constant S_ .f32 0xFF800000#32))

/-- The greatest score of every row. -/
def maxCol : FVec Ideal S2x16x2048x1 .f32 :=
  broadcastInDim S2x16x2048x1 ![0, 1, 2] bcast_S2x16x2048_S2x16x2048x1_0_1_2
    (Host.reduce FloatOps.maximumf x (constant S_ .f32 0xFF800000#32) reducesTo_S2x16x2048x2048_S2x16x2048_d3 h_S_)

/-- The exponentials of the scores less the greatest of their row. -/
def weight : FVec Ideal S2x16x2048x2048 .f32 :=
  Host.exp (subf x (broadcastInDim S2x16x2048x2048 ![0, 1, 2, 3] bcast_S2x16x2048x1_S2x16x2048x2048_0_1_2_3 (maxCol x)))

/-- Their sum in every row. -/
def totCol : FVec Ideal S2x16x2048x1 .f32 :=
  broadcastInDim S2x16x2048x1 ![0, 1, 2] bcast_S2x16x2048_S2x16x2048x1_0_1_2
    (Host.reduceAdd (weight x) (constant S_ .f32 0x00000000#32) reducesTo_S2x16x2048x2048_S2x16x2048_d3 h_S_)

/-- The attention's output. -/
def outArr : FVec Ideal S2x2048x16x64 .f32 :=
  transpose S2x2048x16x64 [0, 3, 1, 2]
    (Host.dotGeneral dot_S2x2048x16x64_S2x16x2048x2048_S2x16x64x2048_1_3_3_2_02_01 none v
      (Host.divf (weight x) (broadcastInDim S2x16x2048x2048 ![0, 1, 2, 3] bcast_S2x16x2048x1_S2x16x2048x2048_0_1_2_3 (totCol x))))
    transposes_S2x16x64x2048_S2x2048x16x64_0_3_1_2

/-- The logarithm of the sum of the exponentials of every row. -/
def lseArr : FVec Ideal S2x2048x16 .f32 :=
  transpose S2x2048x16 [0, 2, 1] (shapeCast S2x16x2048 (addf (maxCol x) (Host.log (totCol x))) shapeCasts_S2x16x2048x1_S2x16x2048)
    transposes_S2x16x2048_S2x2048x16_0_2_1

def cat3 (a b d : FVec Ideal S2x2048x16x1 .f32) : FVec Ideal S2x2048x16x3 .f32 :=
  concatenate S2x2048x16x3 3 [⟨S2x2048x16x1, a⟩, ⟨S2x2048x16x1, b⟩, ⟨S2x2048x16x1, d⟩] concatenates_S2x2048x16x1_S2x2048x16x1_S2x2048x16x1_S2x2048x16x3_d3

theorem cat3_congr {a b d a' b' d' : FVec Ideal S2x2048x16x1 .f32} (ha : a = a') (hb : b = b') (hd : d = d') : cat3 a b d = cat3 a' b' d' := by
  rw [ha, hb, hd]

def cat5 (x : FVec Ideal S2x2048x16x64 .f32) (a b d : FVec Ideal S2x2048x16x3 .f32) (z : FVec Ideal S2x2048x16x55 .f32) : FVec Ideal S2x2048x16x128 .f32 :=
  concatenate S2x2048x16x128 3 [⟨S2x2048x16x64, x⟩, ⟨S2x2048x16x3, a⟩, ⟨S2x2048x16x3, b⟩, ⟨S2x2048x16x3, d⟩, ⟨S2x2048x16x55, z⟩]
    concatenates_S2x2048x16x64_S2x2048x16x3_S2x2048x16x3_S2x2048x16x3_S2x2048x16x55_S2x2048x16x128_d3

theorem cat5_congr {x x' : FVec Ideal S2x2048x16x64 .f32} {a b d a' b' d' : FVec Ideal S2x2048x16x3 .f32} {z z' : FVec Ideal S2x2048x16x55 .f32}
    (hx : x = x') (ha : a = a') (hb : b = b') (hd : d = d') (hz : z = z') : cat5 x a b d z = cat5 x' a' b' d' z' := by
  rw [hx, ha, hb, hd, hz]

/-- A number as three of lower precision. -/
def three : FVec Ideal S2x2048x16x3 .f32 :=
  have a : FVec Ideal S2x2048x16x1 .f32 := broadcastInDim S2x2048x16x1 ![0, 1, 2] bcast_S2x2048x16_S2x2048x16x1_0_1_2 c
  have a1 : FVec Ideal S2x2048x16x1 .f32 := extf .f32 (truncf .bf16 a bitsLt_bf16_f32) bitsLt_bf16_f32
  have b : FVec Ideal S2x2048x16x1 .f32 := subf a a1
  have b1 : FVec Ideal S2x2048x16x1 .f32 := extf .f32 (truncf .bf16 b bitsLt_bf16_f32) bitsLt_bf16_f32
  have d : FVec Ideal S2x2048x16x1 .f32 := subf b b1
  cat3 a1 b1 (extf .f32 (truncf .bf16 d bitsLt_bf16_f32) bitsLt_bf16_f32)

def ones : FVec Ideal S2x2048x16x3 .f32 := broadcastInDim S2x2048x16x3 ![] bcast_S_S2x2048x16x3 (constant S_ .f32 0x3F800000#32)

/-- A packed array: the heads before the tokens, in the kernel's precision. -/
def packed (y : FVec Ideal S2x2048x16x128 .f32) : FVec Ideal S2x16x2048x128 .bf16 :=
  truncf .bf16 (transpose S2x16x2048x128 [0, 2, 1, 3] y transposes_S2x2048x16x128_S2x16x2048x128_0_2_1_3) bitsLt_bf16_f32

def qArr (y : FVec Ideal S2x2048x16 .f32) : FVec Ideal S2x2048x16x128 .f32 :=
  cat5 q (three c) ones (three (Host.negf y)) (broadcastInDim S2x2048x16x55 ![] bcast_S_S2x2048x16x55 (constant S_ .f32 0x00000000#32))

def kArr : FVec Ideal S2x2048x16x128 .f32 :=
  cat5 k ones (three (Host.negf c)) ones (broadcastInDim S2x2048x16x55 ![] bcast_S_S2x2048x16x55 (constant S_ .f32 0x00000000#32))

def wide (y : FVec Ideal S2x2048x16x3 .f32) : FVec Ideal S2x2048x16x128 .f32 :=
  concatenate S2x2048x16x128 3 [⟨S2x2048x16x64, v⟩, ⟨S2x2048x16x3, y⟩,
      ⟨S2x2048x16x61, broadcastInDim S2x2048x16x61 ![] bcast_S_S2x2048x16x61 (constant S_ .f32 0x00000000#32)⟩]
    concatenates_S2x2048x16x64_S2x2048x16x3_S2x2048x16x61_S2x2048x16x128_d3

/-- The gradient at the output times the output, summed over a head's width. -/
def dotArr (y : FVec Ideal S2x2048x16x64 .f32) : FVec Ideal S2x2048x16 .f32 :=
  Host.reduceAdd (mulf o y) (constant S_ .f32 0x00000000#32) reducesTo_S2x2048x16x64_S2x2048x16_d3 h_S_

end arrays

/-! The kernel's operands hold these arrays. -/

variable (m : (ℓ : Loc nD τ sig) → Buf (Elt Ideal) ℓ) (c : Dev nD)

abbrev arg0 : FVec Ideal S2x2048x16x64 .f32 := m ((c : Thread nD τ).loc main_arg0)
abbrev arg1 : FVec Ideal S2x2048x16x64 .f32 := m ((c : Thread nD τ).loc main_arg1)
abbrev arg2 : FVec Ideal S2x2048x16x64 .f32 := m ((c : Thread nD τ).loc main_arg2)
abbrev arg3 : FVec Ideal S2x2048x16 .f32 := m ((c : Thread nD τ).loc main_arg3)
abbrev arg4 : FVec Ideal S2x2048x16x64 .f32 := m ((c : Thread nD τ).loc main_arg4)

set_option maxHeartbeats 2000000 in
theorem operand_v : V m c main_v82 = packed (wide (arg2 m c) ones) := by
  unfold V
  simp only [List.flatten_cons, List.flatten_nil, List.append_nil]
  after_reads_simp
  rfl

set_option maxHeartbeats 2000000 in
theorem operand_k : V m c main_v78 = packed (kArr (arg1 m c) (arg3 m c)) := by
  unfold V
  simp only [List.flatten_cons, List.flatten_nil, List.append_nil]
  after_reads_simp
  rfl

/-- The valuation after the scores have been computed. -/
def mid : Valuation τ sig (Elt Ideal) := StableHlo.after (hostOps0 ++ hostOps0_1) (fun b => m (c, b))

theorem V_mid (b : Ref sig .tc) : V m c b = StableHlo.after hostOps0_2 (mid m c) b := by
  unfold V mid
  simp only [List.flatten_cons, List.flatten_nil, List.append_nil]
  rw [← List.append_assoc, StableHlo.after_append]

theorem mid_scores : mid m c main_v16 = scores (arg0 m c) (arg1 m c) (arg3 m c) := by
  unfold mid
  after_reads_simp
  rfl

theorem mid_arg0 : mid m c main_arg0 = arg0 m c := by
  unfold mid
  after_reads_simp
theorem mid_arg2 : mid m c main_arg2 = arg2 m c := by
  unfold mid
  after_reads_simp
theorem mid_arg3 : mid m c main_arg3 = arg3 m c := by
  unfold mid
  after_reads_simp
theorem mid_arg4 : mid m c main_arg4 = arg4 m c := by
  unfold mid
  after_reads_simp

/-- The valuation after the output and the rows' logarithms have been computed. -/
def late : Valuation τ sig (Elt Ideal) := StableHlo.after (hostOps0_2.take 75) (mid m c)

theorem V_late (b : Ref sig .tc) : V m c b = StableHlo.after (hostOps0_2.drop 75) (late m c) b := by
  rw [V_mid]
  unfold late
  rw [← StableHlo.after_append, List.take_append_drop]

theorem late_dot : late m c main_v84 = dotArr (arg4 m c) (outArr (arg2 m c) (scores (arg0 m c) (arg1 m c) (arg3 m c))) := by
  rw [← mid_scores, ← mid_arg2, ← mid_arg4]
  unfold late
  after_reads_simp
  rfl
theorem late_arg4 : late m c main_arg4 = arg4 m c := by
  rw [← mid_arg4]
  unfold late
  after_reads_simp

theorem operand_o : V m c main_v101
    = packed (wide (arg4 m c) (three (Host.negf (dotArr (arg4 m c) (outArr (arg2 m c) (scores (arg0 m c) (arg1 m c) (arg3 m c))))))) := by
  rw [V_late, ← late_dot, ← late_arg4]
  generalize late m c = W
  after_reads_simp
  rfl

/-- The valuation after the rows' logarithms have been computed. -/
def early : Valuation τ sig (Elt Ideal) := StableHlo.after (hostOps0_2.take 17) (mid m c)

theorem V_early (b : Ref sig .tc) : V m c b = StableHlo.after (hostOps0_2.drop 17) (early m c) b := by
  rw [V_mid]
  unfold early
  rw [← StableHlo.after_append, List.take_append_drop]

theorem early_lse : early m c main_v31 = lseArr (scores (arg0 m c) (arg1 m c) (arg3 m c)) := by
  rw [← mid_scores]
  unfold early
  after_reads_simp
  rfl
theorem early_arg0 : early m c main_arg0 = arg0 m c := by
  rw [← mid_arg0]
  unfold early
  after_reads_simp
theorem early_arg3 : early m c main_arg3 = arg3 m c := by
  rw [← mid_arg3]
  unfold early
  after_reads_simp
theorem operand_q : V m c main_v61 = packed (qArr (arg0 m c) (arg3 m c) (lseArr (scores (arg0 m c) (arg1 m c) (arg3 m c)))) := by
  rw [V_early, ← early_lse, ← early_arg0, ← early_arg3]
  generalize early m c = W
  after_reads_simp
  show packed (cat5 _ _ _ _ _) = packed (cat5 _ _ _ _ _)
  refine congrArg packed (cat5_congr ?_ ?_ ?_ ?_ ?_) <;> dsimp only [Matrix.cons_val] <;> after_reads_simp
  · show cat3 _ _ _ = cat3 _ _ _
    refine cat3_congr ?_ ?_ ?_ <;> dsimp only [Matrix.cons_val] <;> after_reads_simp
  · rfl
  · show cat3 _ _ _ = cat3 _ _ _
    refine cat3_congr ?_ ?_ ?_ <;> dsimp only [Matrix.cons_val] <;> after_reads_simp

end Cert.Kernel2Ideal.AttnBwd

end
-- ==== Proof.AttnBwd.Lanes.lean ====
/- The arrays the kernel reads, element by element, over the reals. -/
module

public import proofs.«01_k».proof.Proof.AttnBwd.Host
public import proofs.«01_k».proof.Proof.Reals
public import Idealize.ShloMosaic.Lib.Pipeline.ValueKit
public import Idealize.ShloMosaic.Lib.WordCmp

@[expose] public section

set_option maxRecDepth 16384

noncomputable section

namespace Cert.Kernel2Ideal.AttnBwd

open Cert.Kernel2Ideal Cert.Kernel2Ideal.Gen Cert.Attn Cert.Reals
open Idealize.ShloMosaic Idealize.ShloMosaic.TcCoe Idealize.ShloMosaic.Tactic

/-- The arguments hold the numbers of these heads. -/
structure Args (q k v o : FVec Ideal S2x2048x16x64 .f32) (c : FVec Ideal S2x2048x16 .f32) (a : Fin 2 → Fin 16 → Head) : Prop where
  hq : ∀ b s h d, q (ix4 b s h d) = ((a b h).q s d : EReal)
  hk : ∀ b s h d, k (ix4 b s h d) = ((a b h).k s d : EReal)
  hv : ∀ b s h d, v (ix4 b s h d) = ((a b h).v s d : EReal)
  hc : ∀ b s h, c (ix3 b s h) = ((a b h).c s : EReal)
  ho : ∀ b s h d, o (ix4 b s h d) = ((a b h).o s d : EReal)

variable {q k v o : FVec Ideal S2x2048x16x64 .f32} {c : FVec Ideal S2x2048x16 .f32} {a : Fin 2 → Fin 16 → Head} (H : Args q k v o c a)
include H

theorem scores_at (b : Fin 2) (h : Fin 16) (t s : Fin 2048) : scores q k c (ix4 b h t s) = masked ((a b h).score t) t s := by
  pointwise [scores]
  simp only [H.hq, H.hk, H.hc, ← EReal.coe_mul, ← coe_sum, ← EReal.coe_sub, ← EReal.coe_add]
  rw [select_le, ofBits_neg_inf]
  rfl

theorem maxCol_at (b : Fin 2) (h : Fin 16) (t : Fin 2048) : maxCol (scores q k c) (ix4 b h t 0) = (top ((a b h).score t) t : EReal) := by
  pointwise [maxCol]
  simp only [scores_at H, ofBits_neg_inf]
  exact top_eq _ _

theorem weight_at (b : Fin 2) (h : Fin 16) (t s : Fin 2048) : weight (scores q k c) (ix4 b h t s)
    = ((Real.exp (-top ((a b h).score t) t) * row ((a b h).score t) t s : ℝ) : EReal) := by
  pointwise [weight]
  rw [scores_at H, maxCol_at H]
  exact exp_masked_sub _ _ _ _

theorem totCol_at (b : Fin 2) (h : Fin 16) (t : Fin 2048) : totCol (scores q k c) (ix4 b h t 0)
    = ((Real.exp (-top ((a b h).score t) t) * tot ((a b h).score t) t : ℝ) : EReal) := by
  pointwise [totCol]
  simp only [weight_at H, ← coe_sum, sum_weights]

omit H in
theorem shapeCast_at (y : FVec Ideal S2x16x2048x1 .f32) (b : Fin 2) (h : Fin 16) (t : Fin 2048) :
    shapeCast S2x16x2048 y shapeCasts_S2x16x2048x1_S2x16x2048 (ix3 b h t) = y (ix4 b h t 0) := by
  pointwise

omit H in
theorem swap_at (y : FVec Ideal S2x16x2048 .f32) (b : Fin 2) (h : Fin 16) (t : Fin 2048) :
    transpose S2x2048x16 [0, 2, 1] y transposes_S2x16x2048_S2x2048x16_0_2_1 (ix3 b t h) = y (ix3 b h t) := by
  pointwise

omit H in
theorem add_log_at (x y : FVec Ideal S2x16x2048x1 .f32) (j : S2x16x2048x1.Idx) : addf x (Host.log y) j = x j + Ideal.log (y j) := by
  pointwise

theorem lse_at (b : Fin 2) (h : Fin 16) (t : Fin 2048) : lseArr (scores q k c) (ix3 b t h) = (Real.log (tot ((a b h).score t) t) : EReal) := by
  refine (swap_at _ b h t).trans ((shapeCast_at _ b h t).trans ((add_log_at _ _ _).trans ?_))
  rw [maxCol_at H, totCol_at H, Ideal.log_coe, if_neg (mul_pos (Real.exp_pos _) (tot_pos _ _)).not_ge, ← EReal.coe_add, log_weights]

theorem out_at (b : Fin 2) (h : Fin 16) (t : Fin 2048) (d : Fin 64) : outArr v (scores q k c) (ix4 b t h d) = ((a b h).out t d : EReal) := by
  pointwise [outArr]
  simp only [weight_at H, totCol_at H, H.hv, div_real (mul_pos (Real.exp_pos _) (tot_pos _ _)).ne', div_weights, ← EReal.coe_mul, ← coe_sum]
  rfl

theorem dot_at (b : Fin 2) (h : Fin 16) (t : Fin 2048) : dotArr o (outArr v (scores q k c)) (ix3 b t h) = ((a b h).dot t : EReal) := by
  pointwise [dotArr]
  simp only [out_at H, H.ho, ← EReal.coe_mul, ← coe_sum]
  rfl

omit H in
theorem three_at {y : FVec Ideal S2x2048x16 .f32} {r : ℝ} {b : Fin 2} {s : Fin 2048} {h : Fin 16} (hy : y (ix3 b s h) = (r : EReal)) (i : Fin 3) :
    three y (ix4 b s h i) = ((if i.val = 0 then r else 0 : ℝ) : EReal) := by
  pointwise [three, cat3]
  simp only [hy, ← EReal.coe_sub, sub_self]
  by_cases h0 : i.val = 0
  · rw [dif_pos (by omega), if_pos h0]
  · rw [dif_neg (by omega), if_neg h0]
    split_ifs <;> rfl

omit H in
theorem packed_at (y : FVec Ideal S2x2048x16x128 .f32) (b : Fin 2) (h : Fin 16) (s : Fin 2048) (l : Fin 128) :
    packed y (ix4 b h s l) = y (ix4 b s h l) := by
  pointwise [packed]

omit H in
theorem ones_at (b : Fin 2) (s : Fin 2048) (h : Fin 16) (i : Fin 3) : ones (ix4 b s h i) = ((1 : ℝ) : EReal) := by
  pointwise [ones]
  rfl

omit H in
theorem neg_at (y : FVec Ideal S2x2048x16 .f32) {r : ℝ} {j : S2x2048x16.Idx} (hy : y j = (r : EReal)) : Host.negf y j = ((-r : ℝ) : EReal) := by
  pointwise
  rw [hy, EReal.coe_neg]

omit H in
/-- The five parts of a packed row. -/
theorem cat5_at {x : FVec Ideal S2x2048x16x64 .f32} {y1 y2 y3 : FVec Ideal S2x2048x16x3 .f32} {z : FVec Ideal S2x2048x16x55 .f32}
    {b : Fin 2} {s : Fin 2048} {h : Fin 16} {x' : Fin 64 → ℝ} {f1 f2 f3 : Fin 3 → ℝ} (hx : ∀ d, x (ix4 b s h d) = (x' d : EReal))
    (h1 : ∀ i, y1 (ix4 b s h i) = (f1 i : EReal)) (h2 : ∀ i, y2 (ix4 b s h i) = (f2 i : EReal)) (h3 : ∀ i, y3 (ix4 b s h i) = (f3 i : EReal))
    (hz : ∀ i, z (ix4 b s h i) = 0) (l : Fin 128) :
    cat5 x y1 y2 y3 z (ix4 b s h l) = ((if h : l.val < 64 then x' ⟨l.val, h⟩ else if h : l.val < 67 then f1 ⟨l.val - 64, by omega⟩
      else if h : l.val < 70 then f2 ⟨l.val - 67, by omega⟩ else if h : l.val < 73 then f3 ⟨l.val - 70, by omega⟩ else 0 : ℝ) : EReal) := by
  pointwise [cat5]
  by_cases c1 : l.val < 64
  · rw [dif_pos c1, dif_pos c1]
    exact hx _
  rw [dif_neg c1, dif_neg c1]
  by_cases c2 : l.val < 67
  · rw [dif_pos (by omega), dif_pos c2]
    exact h1 _
  rw [dif_neg (by omega), dif_neg c2]
  by_cases c3 : l.val < 70
  · rw [dif_pos (by omega), dif_pos c3]
    exact h2 ⟨l.val - 67, by omega⟩
  rw [dif_neg (by omega), dif_neg c3]
  by_cases c4 : l.val < 73
  · rw [dif_pos (by omega), dif_pos c4]
    exact h3 ⟨l.val - 70, by omega⟩
  rw [dif_neg (by omega), dif_neg c4]
  exact hz _

omit H in
/-- The two parts of a packed row that is zero after them. -/
theorem wide_at {x : FVec Ideal S2x2048x16x64 .f32} {y : FVec Ideal S2x2048x16x3 .f32}
    {b : Fin 2} {s : Fin 2048} {h : Fin 16} {x' : Fin 64 → ℝ} {f : Fin 3 → ℝ} (hx : ∀ d, x (ix4 b s h d) = (x' d : EReal))
    (h1 : ∀ i, y (ix4 b s h i) = (f i : EReal)) (l : Fin 128) :
    wide x y (ix4 b s h l) = ((if h : l.val < 64 then x' ⟨l.val, h⟩ else if h : l.val < 67 then f ⟨l.val - 64, by omega⟩ else 0 : ℝ) : EReal) := by
  pointwise [wide]
  by_cases c1 : l.val < 64
  · rw [dif_pos c1, dif_pos c1]
    exact hx _
  rw [dif_neg c1, dif_neg c1]
  by_cases c2 : l.val < 67
  · rw [dif_pos (by omega), dif_pos c2]
    exact h1 _
  rw [dif_neg (by omega), dif_neg c2]
  rfl

omit H in
theorem zero55_at (j : S2x2048x16x55.Idx) :
    (broadcastInDim S2x2048x16x55 ![] bcast_S_S2x2048x16x55 (constant S_ .f32 0x00000000#32) : FVec Ideal S2x2048x16x55 .f32) j = 0 := by
  pointwise

theorem q_at (b : Fin 2) (h : Fin 16) (s : Fin 2048) (l : Fin 128) :
    packed (qArr q c (lseArr (scores q k c))) (ix4 b h s l) = ((a b h).qLane s l : EReal) := by
  refine (packed_at _ b h s l).trans ((cat5_at (H.hq b s h) (three_at (H.hc b s h)) (ones_at b s h)
    (three_at (neg_at _ (lse_at H b h s))) (fun i => zero55_at _) l).trans (congrArg _ ?_))
  simp only [Head.qLane]
  split_ifs <;> first | rfl | omega

theorem k_at (b : Fin 2) (h : Fin 16) (s : Fin 2048) (l : Fin 128) :
    packed (kArr k c) (ix4 b h s l) = ((a b h).kLane s l : EReal) := by
  refine (packed_at _ b h s l).trans ((cat5_at (H.hk b s h) (ones_at b s h) (three_at (neg_at _ (H.hc b s h))) (ones_at b s h)
    (fun i => zero55_at _) l).trans (congrArg _ ?_))
  simp only [Head.kLane]
  split_ifs <;> first | rfl | omega

theorem v_at (b : Fin 2) (h : Fin 16) (s : Fin 2048) (l : Fin 128) :
    packed (wide v ones) (ix4 b h s l) = ((a b h).vLane s l : EReal) := by
  refine (packed_at _ b h s l).trans ((wide_at (H.hv b s h) (ones_at b s h) l).trans (congrArg _ ?_))
  simp only [Head.vLane]
  split_ifs <;> rfl

theorem o_at (b : Fin 2) (h : Fin 16) (s : Fin 2048) (l : Fin 128) :
    packed (wide o (three (Host.negf (dotArr o (outArr v (scores q k c)))))) (ix4 b h s l) = ((a b h).oLane s l : EReal) := by
  refine (packed_at _ b h s l).trans ((wide_at (H.ho b s h) (three_at (neg_at _ (dot_at H b h s))) l).trans (congrArg _ ?_))
  simp only [Head.oLane]
  split_ifs <;> first | rfl | omega

end Cert.Kernel2Ideal.AttnBwd

end
-- ==== Proof.AttnBwd.Pieces.lean ====
/- The gradients the body writes, tile by tile and head by head. -/
module

public import proofs.«01_k».proof.Proof.AttnBwd.Frame
public import Idealize.ShloMosaic.Lib.Pipeline.ValueKit

@[expose] public section

set_option maxRecDepth 16384

noncomputable section

namespace Cert.Kernel2Ideal.AttnBwd

open Cert.Kernel2Ideal Cert.Kernel2Ideal.Gen
open Idealize.ShloMosaic Idealize.ShloMosaic.TcCoe Idealize.ShloMosaic.Tactic

variable {F : FTy → Type} [FloatOps F] [Named F]

/-! ### One head, from its four query tiles -/

/-- The query gradient of tile `d`, added to what the tile held. -/
def dqStep (K V : FVec F S2048x128 .bf16) (d : Fin 4) (q D : Vec F S1x1x512x128 .bf16) (z : Vec F S1x1x512x128 .f32) :
    Vec F S1x1x512x128 .f32 :=
  match d with
  | ⟨0, _⟩ => k0_pay55 K V q D z
  | ⟨1, _⟩ => k0_pay95 K V q D z
  | ⟨2, _⟩ => k0_pay131 K V q D z
  | ⟨3, _⟩ => k0_pay163 (k0_pay162 K V q D z)

/-- The key gradient after the four query tiles. -/
def dkHead (K V : FVec F S2048x128 .bf16) (q D : Fin 4 → Vec F S1x1x512x128 .bf16) : FVec F S2048x128 .f32 :=
  have c0 := k0_pay58 k0_pay49 (k0_pay56 K V k0_pay49 (q 0) (D 0))
  have c1 := k0_pay97 c0 (k0_pay96 K V c0 (q 1) (D 1))
  have c2 := k0_pay132 c1 (k0_pay127 (q 2)) (k0_pay130 K V (q 2) (D 2))
  k0_pay164 c2 (k0_pay158 (q 3)) (k0_pay161 K V (q 3) (D 3))

/-- The value gradient after the four query tiles. -/
def dvHead (K : FVec F S2048x128 .bf16) (q D : Fin 4 → Vec F S1x1x512x128 .bf16) : FVec F S2048x128 .f32 :=
  have c0 := k0_pay59 k0_pay49 (k0_pay57 K k0_pay49 (q 0) (D 0))
  have c1 := k0_pay98 c0 (k0_pay92 (D 1)) (k0_pay93 K (q 1))
  have c2 := k0_pay133 c1 (k0_pay128 (D 2)) (k0_pay129 K (q 2))
  k0_pay165 c2 (k0_pay159 (D 3)) (k0_pay160 K (q 3))

/-! ### The tiles in the blocks -/

/-- Where query tile `d` of head `e` starts. -/
def offs (i : grid0.Coords) (e d : Fin 4) : Fin 4 → ℕ :=
  match e with
  | ⟨0, _⟩ => k0_off1 i (BitVec.ofNat 32 (512 * d.val))
  | ⟨1, _⟩ => k0_off2 i (BitVec.ofNat 32 (512 * d.val))
  | ⟨2, _⟩ => k0_off3 i (BitVec.ofNat 32 (512 * d.val))
  | ⟨3, _⟩ => k0_off4 i (BitVec.ofNat 32 (512 * d.val))

theorem offs_eq : ∀ (i : grid0.Coords) (e d : Fin 4), offs i e d = ![0, e.val, 512 * d.val, 0] := by
  decide +kernel

theorem offs_inb (i : grid0.Coords) (e d : Fin 4) : ∀ a, offs i e d a + S1x1x512x128.size a ≤ S1x4x2048x128.size a := by
  rw [offs_eq]
  revert e d
  decide +kernel

theorem head_inb : ∀ (e : Fin 4) (a), (![0, e.val, 0, 0] : Fin 4 → ℕ) a + S1x1x2048x128.size a ≤ S1x4x2048x128.size a := by
  decide +kernel

/-- The rectangle of query tile `d` of head `e`. -/
abbrev tileRect (i : grid0.Coords) (e d : Fin 4) : Rect S1x4x2048x128 := Rect.unit (offs i e d) S1x1x512x128.size (offs_inb i e d)

/-- The rectangle of head `e`. -/
abbrev headRect (e : Fin 4) : Rect S1x4x2048x128 := Rect.unit ![0, e.val, 0, 0] S1x1x2048x128.size (head_inb e)

/-- Row `t` of tile `d`. -/
abbrev at_ (d : Fin 4) (t : Fin 512) : Fin 2048 := ⟨512 * d.val + t.val, by omega⟩

theorem tile_emb (i : grid0.Coords) (e d : Fin 4) (t : Fin 512) (l : Fin 128) :
    (tileRect i e d).emb (ix4 (0 : Fin 1) (0 : Fin 1) t l) = ix4 (0 : Fin 1) e (at_ d t) l := by
  funext a
  apply Fin.ext
  show offs i e d a + 1 * _ = _
  rw [offs_eq]
  match a with
  | ⟨0, _⟩ => rfl
  | ⟨1, _⟩ => show e.val + 1 * 0 = e.val; omega
  | ⟨2, _⟩ => show 512 * d.val + 1 * t.val = 512 * d.val + t.val; omega
  | ⟨3, _⟩ => show 0 + 1 * l.val = l.val; omega

theorem head_emb (e : Fin 4) (s : Fin 2048) (l : Fin 128) :
    (headRect e).emb (ix4 (0 : Fin 1) (0 : Fin 1) s l) = ix4 (0 : Fin 1) e s l := by
  funext a
  apply Fin.ext
  match a with
  | ⟨0, _⟩ => rfl
  | ⟨1, _⟩ => show e.val + 1 * 0 = e.val; omega
  | ⟨2, _⟩ => show 0 + 1 * s.val = s.val; omega
  | ⟨3, _⟩ => show 0 + 1 * l.val = l.val; omega

theorem whole_emb (e : Fin 4) (s : Fin 2048) (l : Fin 128) :
    (Rect.unit (s := S1x4x2048x128) ![0, 0, 0, 0] S1x4x2048x128.size inb_S1x4x2048x128_S1x4x2048x128_0_0_0_0).emb (ix4 (0 : Fin 1) e s l) = ix4 (0 : Fin 1) e s l := by
  funext a
  apply Fin.ext
  match a with
  | ⟨0, _⟩ => rfl
  | ⟨1, _⟩ => show 0 + 1 * e.val = e.val; omega
  | ⟨2, _⟩ => show 0 + 1 * s.val = s.val; omega
  | ⟨3, _⟩ => show 0 + 1 * l.val = l.val; omega

theorem not_mem_tile (i : grid0.Coords) (e d e' d' : Fin 4) (t : Fin 512) (l : Fin 128) (h : (e, d) ≠ (e', d')) :
    ix4 (0 : Fin 1) e (at_ d t) l ∉ (tileRect i e' d').set := by
  rw [Rect.mem_set_unit]
  intro hall
  rw [offs_eq] at hall
  have h1 : e'.val ≤ e.val ∧ e.val < e'.val + 1 := hall 1
  have h2 : 512 * d'.val ≤ 512 * d.val + t.val ∧ 512 * d.val + t.val < 512 * d'.val + 512 := hall 2
  exact h (Prod.ext (Fin.ext (by show e.val = e'.val; omega)) (Fin.ext (by show d.val = d'.val; omega)))

theorem not_mem_head (e e' : Fin 4) (s : Fin 2048) (l : Fin 128) (h : e ≠ e') :
    ix4 (0 : Fin 1) e s l ∉ (headRect e').set := by
  rw [Rect.mem_set_unit]
  intro hall
  have h1 : e'.val ≤ e.val ∧ e.val < e'.val + 1 := hall 1
  exact h (Fin.ext (by omega))

/-! ### The pieces -/

/-- A tile that is read, changed and written back. -/
structure Update (F : FTy → Type) where
  e : Fin 4
  d : Fin 4
  f : Vec F S1x1x512x128 .f32 → Vec F S1x1x512x128 .f32

/-- The pieces of a block that is cleared and then updated tile by tile, the last update first. -/
def updates (i : grid0.Coords) (v : View sig .tc .vmem S1x4x2048x128 .f32) : List (Update F) → List (View.Piece (Elt F) S1x4x2048x128 .f32)
  | [] => [⟨Rect.unit ![0, 0, 0, 0] S1x4x2048x128.size inb_S1x4x2048x128_S1x4x2048x128_0_0_0_0, k0_pay40⟩]
  | u :: L => ⟨tileRect i u.e u.d, u.f (View.readAt (Elt F) v (tileRect i u.e u.d).toLoadRect (v.writes (Elt F) v.junk (updates i v L)))⟩ :: updates i v L

/-- The contents a list of pieces leaves. -/
abbrev left (L : List (View.Piece (Elt F) S1x4x2048x128 .f32)) : Vec F S1x4x2048x128 .f32 := View.canon (Val := Elt F) (s := S1x4x2048x128) (e := .f32) L

theorem left_hit (r : Rect S1x4x2048x128) (w : Vec F r.shape .f32) (L : List (View.Piece (Elt F) S1x4x2048x128 .f32)) (x : r.shape.Idx) (y : S1x4x2048x128.Idx) (h : r.emb x = y) :
    left (⟨r, w⟩ :: L) y = w x := by
  subst h
  exact View.canon_cons_emb r w L x

theorem left_miss (r : Rect S1x4x2048x128) (w : Vec F r.shape .f32) (L : List (View.Piece (Elt F) S1x4x2048x128 .f32)) (y : S1x4x2048x128.Idx) (h : y ∉ r.set) :
    left (⟨r, w⟩ :: L) y = left L y :=
  View.canon_cons_of_not_mem (Val := Elt F) (e := .f32) ⟨r, w⟩ L h

theorem read_left (i : grid0.Coords) (v : View sig .tc .vmem S1x4x2048x128 .f32) (e d : Fin 4) (t : Fin 512) (l : Fin 128) (L : List (View.Piece (Elt F) S1x4x2048x128 .f32)) :
    View.readAt (Elt F) v (tileRect i e d).toLoadRect (v.writes (Elt F) v.junk L) (ix4 (0 : Fin 1) (0 : Fin 1) t l)
      = left L (ix4 (0 : Fin 1) e (at_ d t) l) :=
  (congrFun (View.readCov_eq_canon' v L (tileRect i e d).toLoadRect) _).trans (congrArg (left L) (tile_emb i e d t l))

theorem left_updates_clear (i : grid0.Coords) (v : View sig .tc .vmem S1x4x2048x128 .f32) (e d : Fin 4) (t : Fin 512) (l : Fin 128)
    (L : List (Update F)) (h : ∀ u ∈ L, (e, d) ≠ (u.e, u.d)) :
    left (updates i v L) (ix4 (0 : Fin 1) e (at_ d t) l) = k0_pay40 (ix4 (0 : Fin 1) e (at_ d t) l) := by
  induction L with
  | nil =>
    rw [updates]
    exact left_hit _ _ _ _ _ (whole_emb e (at_ d t) l)
  | cons u L ih =>
    rw [updates, left_miss _ _ _ _ (not_mem_tile i e d u.e u.d t l (h u (List.mem_cons_self ..)))]
    exact ih fun w hw => h w (List.mem_cons_of_mem _ hw)

/-- Each tile is updated once, so its update finds the cleared block. -/
theorem left_updates (i : grid0.Coords) (v : View sig .tc .vmem S1x4x2048x128 .f32) (t : Fin 512) (l : Fin 128)
    (L : List (Update F)) (h : L.Pairwise fun u w => (u.e, u.d) ≠ (w.e, w.d)) (u : Update F) (hu : u ∈ L) :
    left (updates i v L) (ix4 (0 : Fin 1) u.e (at_ u.d t) l)
      = u.f (fun y => k0_pay40 (ix4 (0 : Fin 1) u.e (at_ u.d (y 2)) (y 3))) (ix4 (0 : Fin 1) (0 : Fin 1) t l) := by
  induction L with
  | nil => cases hu
  | cons w L ih =>
    rw [List.pairwise_cons] at h
    rcases List.mem_cons.mp hu with e | hu
    · subst e
      rw [updates, left_hit _ _ _ _ _ (tile_emb i u.e u.d t l)]
      refine congrFun (congrArg u.f (funext fun y => ?_)) _
      obtain ⟨a, b, t', l', rfl⟩ : ∃ (a b : Fin 1) (t' : Fin 512) (l' : Fin 128), y = ix4 a b t' l' :=
        ⟨y 0, y 1, y 2, y 3, by funext i; fin_cases i <;> rfl⟩
      obtain rfl := Subsingleton.elim a 0
      obtain rfl := Subsingleton.elim b 0
      exact (read_left i v u.e u.d t' l' _).trans (left_updates_clear i v u.e u.d t' l' L fun w hw => h.1 w hw)
    · rw [updates, left_miss _ _ _ _ (not_mem_tile i u.e u.d w.e w.d t l (h.1 u hu).symm)]
      exact ih h.2 hu

/-- The pieces of a block written head by head. -/
def heads (f : Fin 4 → Vec F S1x1x2048x128 .f32) : List (View.Piece (Elt F) S1x4x2048x128 .f32) :=
  [⟨headRect 3, f 3⟩, ⟨headRect 2, f 2⟩, ⟨headRect 1, f 1⟩, ⟨headRect 0, f 0⟩]

theorem left_heads (f : Fin 4 → Vec F S1x1x2048x128 .f32) (e : Fin 4) (s : Fin 2048) (l : Fin 128) :
    left (heads f) (ix4 (0 : Fin 1) e s l) = f e (ix4 (0 : Fin 1) (0 : Fin 1) s l) := by
  have hit (e : Fin 4) (L : List (View.Piece (Elt F) S1x4x2048x128 .f32)) := left_hit (headRect e) (f e) L _ _ (head_emb e s l)
  have miss (e e' : Fin 4) (h : e ≠ e') (L : List (View.Piece (Elt F) S1x4x2048x128 .f32)) := left_miss (headRect e') (f e') L _ (not_mem_head e e' s l h)
  unfold heads
  match e with
  | ⟨3, _⟩ => exact hit 3 _
  | ⟨2, _⟩ => exact (miss 2 3 (by decide) _).trans (hit 2 _)
  | ⟨1, _⟩ => exact (miss 1 3 (by decide) _).trans ((miss 1 2 (by decide) _).trans (hit 1 _))
  | ⟨0, _⟩ => exact (miss 0 3 (by decide) _).trans ((miss 0 2 (by decide) _).trans ((miss 0 1 (by decide) _).trans (hit 0 _)))

section

variable (c : Dev nD) (i : grid0.Coords) {arg3 : Memref sig .tc .vmem S1x4x2048x128 .bf16} (harg3 : arg3.IsWhole) {arg4 : Memref sig .tc .vmem S1x4x2048x128 .bf16} (harg4 : arg4.IsWhole)
    {arg5 : Memref sig .tc .vmem S1x4x2048x128 .bf16} (harg5 : arg5.IsWhole) {arg6 : Memref sig .tc .vmem S1x4x2048x128 .bf16} (harg6 : arg6.IsWhole)
    {arg7 : Memref sig .tc .vmem S1x4x2048x128 .f32} (harg7 : arg7.IsWhole) {arg8 : Memref sig .tc .vmem S1x4x2048x128 .f32} (harg8 : arg8.IsWhole)
    {arg9 : Memref sig .tc .vmem S1x4x2048x128 .f32} (harg9 : arg9.IsWhole) (x3 x4 x5 x6 : Vec F S1x4x2048x128 .bf16)

/-- A head of the keys or values as the body loads it. -/
def headOf {arg : Memref sig .tc .vmem S1x4x2048x128 .bf16} (harg : arg.IsWhole) (x : Vec F S1x4x2048x128 .bf16) (e : Fin 4) : FVec F S2048x128 .bf16 :=
  k0_pay41 (View.readAt (Elt F) arg.view (headRect e).toLoadRect (harg.unread x))

/-- A query tile as the body loads it. -/
def tileOf {arg : Memref sig .tc .vmem S1x4x2048x128 .bf16} (harg : arg.IsWhole) (x : Vec F S1x4x2048x128 .bf16) (e d : Fin 4) : Vec F S1x1x512x128 .bf16 :=
  View.readAt (Elt F) arg.view (tileRect i e d).toLoadRect (harg.unread x)

/-- The update of query tile `d` of head `e`. -/
def dqUpdate (e d : Fin 4) : Update F where
  e := e
  d := d
  f := dqStep (headOf harg4 x4 e) (headOf harg5 x5 e) d (tileOf i harg3 x3 e d) (tileOf i harg6 x6 e d)

/-- All sixteen updates, the last first. -/
def dqUpdates : List (Update F) :=
  have u := dqUpdate i harg3 harg4 harg5 harg6 x3 x4 x5 x6
  [u 3 3, u 2 3, u 1 3, u 0 3, u 3 2, u 2 2, u 1 2, u 0 2, u 3 1, u 2 1, u 1 1, u 0 1, u 3 0, u 2 0, u 1 0, u 0 0]

set_option maxHeartbeats 2000000 in
theorem dq_pieces : (bodyRun c i arg3 harg3 arg4 harg4 arg5 harg5 arg6 harg6 arg7 harg7 arg8 harg8 arg9 harg9 x3 x4 x5 x6).1
    = updates i arg7.view (dqUpdates i harg3 harg4 harg5 harg6 x3 x4 x5 x6) := rfl

set_option maxHeartbeats 2000000 in
theorem dk_pieces : (bodyRun c i arg3 harg3 arg4 harg4 arg5 harg5 arg6 harg6 arg7 harg7 arg8 harg8 arg9 harg9 x3 x4 x5 x6).2.1
    = heads fun e => k0_pay208 (dkHead (headOf harg4 x4 e) (headOf harg5 x5 e) (tileOf i harg3 x3 e) (tileOf i harg6 x6 e)) := rfl

set_option maxHeartbeats 2000000 in
theorem dv_pieces : (bodyRun c i arg3 harg3 arg4 harg4 arg5 harg5 arg6 harg6 arg7 harg7 arg8 harg8 arg9 harg9 x3 x4 x5 x6).2.2.1
    = heads fun e => k0_pay209 (dvHead (headOf harg4 x4 e) (tileOf i harg3 x3 e) (tileOf i harg6 x6 e)) := rfl

/-- What the query gradient's buffer holds in the end. -/
theorem dq_left (e d : Fin 4) (t : Fin 512) (l : Fin 128) :
    left (bodyRun c i arg3 harg3 arg4 harg4 arg5 harg5 arg6 harg6 arg7 harg7 arg8 harg8 arg9 harg9 x3 x4 x5 x6).1 (ix4 (0 : Fin 1) e (at_ d t) l)
      = dqStep (headOf harg4 x4 e) (headOf harg5 x5 e) d (tileOf i harg3 x3 e d) (tileOf i harg6 x6 e d)
          (fun y => k0_pay40 (ix4 (0 : Fin 1) e (at_ d (y 2)) (y 3))) (ix4 (0 : Fin 1) (0 : Fin 1) t l) := by
  rw [dq_pieces]
  refine left_updates i arg7.view t l _ ?_ (dqUpdate i harg3 harg4 harg5 harg6 x3 x4 x5 x6 e d) ?_
  · have distinct : List.Pairwise (· ≠ ·) ((dqUpdates i harg3 harg4 harg5 harg6 x3 x4 x5 x6).map fun u => (u.e, u.d)) := by
      show List.Pairwise (· ≠ ·) [((3 : Fin 4), (3 : Fin 4)), (2, 3), (1, 3), (0, 3), (3, 2), (2, 2), (1, 2), (0, 2), (3, 1), (2, 1), (1, 1), (0, 1), (3, 0), (2, 0), (1, 0), (0, 0)]
      decide
    exact List.pairwise_map.mp distinct
  · unfold dqUpdates
    fin_cases e <;> fin_cases d <;> simp

/-- What the key gradient's buffer holds in the end. -/
theorem dk_left (e : Fin 4) (s : Fin 2048) (l : Fin 128) :
    left (bodyRun c i arg3 harg3 arg4 harg4 arg5 harg5 arg6 harg6 arg7 harg7 arg8 harg8 arg9 harg9 x3 x4 x5 x6).2.1 (ix4 (0 : Fin 1) e s l)
      = k0_pay208 (dkHead (headOf harg4 x4 e) (headOf harg5 x5 e) (tileOf i harg3 x3 e) (tileOf i harg6 x6 e)) (ix4 (0 : Fin 1) (0 : Fin 1) s l) := by
  rw [dk_pieces]
  exact left_heads _ e s l

/-- What the value gradient's buffer holds in the end. -/
theorem dv_left (e : Fin 4) (s : Fin 2048) (l : Fin 128) :
    left (bodyRun c i arg3 harg3 arg4 harg4 arg5 harg5 arg6 harg6 arg7 harg7 arg8 harg8 arg9 harg9 x3 x4 x5 x6).2.2.1 (ix4 (0 : Fin 1) e s l)
      = k0_pay209 (dvHead (headOf harg4 x4 e) (tileOf i harg3 x3 e) (tileOf i harg6 x6 e)) (ix4 (0 : Fin 1) (0 : Fin 1) s l) := by
  rw [dv_pieces]
  exact left_heads _ e s l

end

end Cert.Kernel2Ideal.AttnBwd

end
-- ==== Proof.AttnBwd.Payload.lean ====
/- What the body computes of a tile, over the reals. -/
module

public import proofs.«01_k».proof.Proof.AttnBwd.Pieces
public import proofs.«01_k».proof.Proof.AttnBwd.Math
public import proofs.«01_k».proof.Proof.Reals
public import Idealize.ShloMosaic.Lib.Pipeline.ValueKit

@[expose] public section

set_option maxRecDepth 16384

noncomputable section

namespace Cert.Kernel2Ideal.AttnBwd

open Cert.Kernel2Ideal Cert.Kernel2Ideal.Gen Cert.Attn Cert.Reals
open Idealize.ShloMosaic Idealize.ShloMosaic.TcCoe Idealize.ShloMosaic.Tactic

/-- The exponential of a masked score. -/
theorem exp_masked (a b o : ℕ) (ha : a < 4096) (hb : b < 4096) (ho : o < 4096) (r : ℝ) :
    Ideal.exp (Scalar.select (IntOp.cmpi .sle (BitVec.ofNat 32 a) (IntOp.addi (BitVec.ofNat 32 b) (BitVec.ofNat 32 o)))
      (r : EReal) (Named.named (F := Ideal) κ "mask" (φ := .f32) 0xF149F2CA#32)) = ((if a ≤ o + b then Real.exp r else 0 : ℝ) : EReal) := by
  have e : IntOp.cmpi .sle (BitVec.ofNat 32 a) (IntOp.addi (BitVec.ofNat 32 b) (BitVec.ofNat 32 o)) = if a ≤ o + b then 1#1 else 0#1 := by
    simp only [IntOp.cmpi, IntOp.addi, BitVec.sle, ← BitVec.ofNat_add]
    rw [show (BitVec.ofNat 32 a).toInt = (a : ℤ) by rw [BitVec.toInt_eq_toNat_of_lt] <;> simp <;> omega,
      show (BitVec.ofNat 32 (b + o)).toInt = ((b + o : ℕ) : ℤ) by rw [BitVec.toInt_eq_toNat_of_lt] <;> simp <;> omega]
    by_cases h : a ≤ o + b
    · rw [if_pos h, decide_eq_true (by omega)]; rfl
    · rw [if_neg h, decide_eq_false (by omega)]; rfl
  rw [e]
  by_cases h : a ≤ o + b
  · rw [if_pos h, if_pos h]
    exact Ideal.exp_coe r
  · rw [if_neg h, if_neg h]
    exact Ideal.exp_bot

variable {Kx Vx : FVec Ideal S2048x128 .bf16} {qx Dx : Vec Ideal S1x1x512x128 .bf16} {K V Q D : Fin 2048 → Fin 128 → ℝ}

theorem pay53_at (hK : ∀ s l, Kx (ix2 s l) = (K s l : EReal)) (hq : ∀ t l, qx (ix4 0 0 t l) = (Q (at_ 0 t) l : EReal))
    (s t : Fin 512) : k0_pay53 Kx qx (ix2 s t) = ((W K Q (Fin.castLE (by decide) s) (at_ 0 t) : ℝ) : EReal) := by
  pointwise [k0_pay53, k0_pay50, k0_pay51]
  simp only [hK, hq, ← EReal.coe_mul, ← coe_sum]
  rw [exp_masked s.val t.val 0 (by omega) (by omega) (by omega)]
  rfl

theorem pay93_at (hK : ∀ s l, Kx (ix2 s l) = (K s l : EReal)) (hq : ∀ t l, qx (ix4 0 0 t l) = (Q (at_ 1 t) l : EReal))
    (s : Fin 1024) (t : Fin 512) : k0_pay93 Kx qx (ix2 s t) = ((W K Q (Fin.castLE (by decide) s) (at_ 1 t) : ℝ) : EReal) := by
  pointwise [k0_pay93, k0_pay90, k0_pay91]
  simp only [hK, hq, ← EReal.coe_mul, ← coe_sum]
  rw [exp_masked s.val t.val 512 (by omega) (by omega) (by omega)]
  rfl

theorem pay129_at (hK : ∀ s l, Kx (ix2 s l) = (K s l : EReal)) (hq : ∀ t l, qx (ix4 0 0 t l) = (Q (at_ 2 t) l : EReal))
    (s : Fin 1536) (t : Fin 512) : k0_pay129 Kx qx (ix2 s t) = ((W K Q (Fin.castLE (by decide) s) (at_ 2 t) : ℝ) : EReal) := by
  pointwise [k0_pay129, k0_pay126, k0_pay127]
  simp only [hK, hq, ← EReal.coe_mul, ← coe_sum]
  rw [exp_masked s.val t.val 1024 (by omega) (by omega) (by omega)]
  rfl

theorem pay160_at (hK : ∀ s l, Kx (ix2 s l) = (K s l : EReal)) (hq : ∀ t l, qx (ix4 0 0 t l) = (Q (at_ 3 t) l : EReal))
    (s : Fin 2048) (t : Fin 512) : k0_pay160 Kx qx (ix2 s t) = ((W K Q s (at_ 3 t) : ℝ) : EReal) := by
  pointwise [k0_pay160, k0_pay158]
  simp only [hK, hq, ← EReal.coe_mul, ← coe_sum]
  rw [exp_masked s.val t.val 1536 (by omega) (by omega) (by omega)]
  rfl

variable {z : Vec Ideal S1x1x512x128 .f32} {c : FVec Ideal S2048x128 .f32} {r : Fin 2048 → Fin 128 → ℝ}

theorem pay54_at (hK : ∀ s l, Kx (ix2 s l) = (K s l : EReal)) (hV : ∀ s l, Vx (ix2 s l) = (V s l : EReal))
    (hq : ∀ t l, qx (ix4 0 0 t l) = (Q (at_ 0 t) l : EReal)) (hD : ∀ t l, Dx (ix4 0 0 t l) = (D (at_ 0 t) l : EReal))
    (s : Fin 512) (t : Fin 512) : k0_pay54 Kx Vx qx Dx (ix2 s t) = ((DS K V Q D (Fin.castLE (by decide) s) (at_ 0 t) : ℝ) : EReal) := by
  pointwise [k0_pay54, k0_pay52]
  simp only [pay53_at hK hq, hV, hD, ← EReal.coe_mul, ← coe_sum]
  rfl

theorem pay94_at (hK : ∀ s l, Kx (ix2 s l) = (K s l : EReal)) (hV : ∀ s l, Vx (ix2 s l) = (V s l : EReal))
    (hq : ∀ t l, qx (ix4 0 0 t l) = (Q (at_ 1 t) l : EReal)) (hD : ∀ t l, Dx (ix4 0 0 t l) = (D (at_ 1 t) l : EReal))
    (s : Fin 1024) (t : Fin 512) : k0_pay94 Kx Vx qx Dx (ix2 s t) = ((DS K V Q D (Fin.castLE (by decide) s) (at_ 1 t) : ℝ) : EReal) := by
  pointwise [k0_pay94, k0_pay92]
  simp only [pay93_at hK hq, hV, hD, ← EReal.coe_mul, ← coe_sum]
  rfl

theorem pay130_at (hK : ∀ s l, Kx (ix2 s l) = (K s l : EReal)) (hV : ∀ s l, Vx (ix2 s l) = (V s l : EReal))
    (hq : ∀ t l, qx (ix4 0 0 t l) = (Q (at_ 2 t) l : EReal)) (hD : ∀ t l, Dx (ix4 0 0 t l) = (D (at_ 2 t) l : EReal))
    (s : Fin 1536) (t : Fin 512) : k0_pay130 Kx Vx qx Dx (ix2 s t) = ((DS K V Q D (Fin.castLE (by decide) s) (at_ 2 t) : ℝ) : EReal) := by
  pointwise [k0_pay130, k0_pay128]
  simp only [pay129_at hK hq, hV, hD, ← EReal.coe_mul, ← coe_sum]
  rfl

theorem pay161_at (hK : ∀ s l, Kx (ix2 s l) = (K s l : EReal)) (hV : ∀ s l, Vx (ix2 s l) = (V s l : EReal))
    (hq : ∀ t l, qx (ix4 0 0 t l) = (Q (at_ 3 t) l : EReal)) (hD : ∀ t l, Dx (ix4 0 0 t l) = (D (at_ 3 t) l : EReal))
    (s : Fin 2048) (t : Fin 512) : k0_pay161 Kx Vx qx Dx (ix2 s t) = ((DS K V Q D s (at_ 3 t) : ℝ) : EReal) := by
  pointwise [k0_pay161, k0_pay159]
  simp only [pay160_at hK hq, hV, hD, ← EReal.coe_mul, ← coe_sum]
  rfl

theorem dq0_at (hK : ∀ s l, Kx (ix2 s l) = (K s l : EReal)) (hV : ∀ s l, Vx (ix2 s l) = (V s l : EReal))
    (hq : ∀ t l, qx (ix4 0 0 t l) = (Q (at_ 0 t) l : EReal)) (hD : ∀ t l, Dx (ix4 0 0 t l) = (D (at_ 0 t) l : EReal))
    (hz : ∀ t l, z (ix4 0 0 t l) = 0) (t : Fin 512) (l : Fin 128) :
    k0_pay55 Kx Vx qx Dx z (ix4 0 0 t l) = ((∑ s, DS K V Q D s (at_ 0 t) * K s l : ℝ) : EReal) := by
  pointwise [k0_pay55, k0_pay50]
  simp only [pay54_at hK hV hq hD, hK, hz, zero_add, ← EReal.coe_mul, ← coe_sum]
  refine congrArg _ ?_
  exact sum_first (by decide) (fun s => DS K V Q D s (at_ 0 t) * K s l) fun s hs => by
    rw [DS_eq_zero K V Q D s _ (Fin.lt_def.mpr (by show 512 * 0 + t.val < s.val; omega)), zero_mul]

theorem dq1_at (hK : ∀ s l, Kx (ix2 s l) = (K s l : EReal)) (hV : ∀ s l, Vx (ix2 s l) = (V s l : EReal))
    (hq : ∀ t l, qx (ix4 0 0 t l) = (Q (at_ 1 t) l : EReal)) (hD : ∀ t l, Dx (ix4 0 0 t l) = (D (at_ 1 t) l : EReal))
    (hz : ∀ t l, z (ix4 0 0 t l) = 0) (t : Fin 512) (l : Fin 128) :
    k0_pay95 Kx Vx qx Dx z (ix4 0 0 t l) = ((∑ s, DS K V Q D s (at_ 1 t) * K s l : ℝ) : EReal) := by
  pointwise [k0_pay95, k0_pay90]
  simp only [pay94_at hK hV hq hD, hK, hz, zero_add, ← EReal.coe_mul, ← coe_sum]
  refine congrArg _ ?_
  exact sum_first (by decide) (fun s => DS K V Q D s (at_ 1 t) * K s l) fun s hs => by
    rw [DS_eq_zero K V Q D s _ (Fin.lt_def.mpr (by show 512 * 1 + t.val < s.val; omega)), zero_mul]

theorem dq2_at (hK : ∀ s l, Kx (ix2 s l) = (K s l : EReal)) (hV : ∀ s l, Vx (ix2 s l) = (V s l : EReal))
    (hq : ∀ t l, qx (ix4 0 0 t l) = (Q (at_ 2 t) l : EReal)) (hD : ∀ t l, Dx (ix4 0 0 t l) = (D (at_ 2 t) l : EReal))
    (hz : ∀ t l, z (ix4 0 0 t l) = 0) (t : Fin 512) (l : Fin 128) :
    k0_pay131 Kx Vx qx Dx z (ix4 0 0 t l) = ((∑ s, DS K V Q D s (at_ 2 t) * K s l : ℝ) : EReal) := by
  pointwise [k0_pay131, k0_pay126]
  simp only [pay130_at hK hV hq hD, hK, hz, zero_add, ← EReal.coe_mul, ← coe_sum]
  refine congrArg _ ?_
  exact sum_first (by decide) (fun s => DS K V Q D s (at_ 2 t) * K s l) fun s hs => by
    rw [DS_eq_zero K V Q D s _ (Fin.lt_def.mpr (by show 512 * 2 + t.val < s.val; omega)), zero_mul]

theorem dq3_at (hK : ∀ s l, Kx (ix2 s l) = (K s l : EReal)) (hV : ∀ s l, Vx (ix2 s l) = (V s l : EReal))
    (hq : ∀ t l, qx (ix4 0 0 t l) = (Q (at_ 3 t) l : EReal)) (hD : ∀ t l, Dx (ix4 0 0 t l) = (D (at_ 3 t) l : EReal))
    (hz : ∀ t l, z (ix4 0 0 t l) = 0) (t : Fin 512) (l : Fin 128) :
    k0_pay163 (k0_pay162 Kx Vx qx Dx z) (ix4 0 0 t l) = ((∑ s, DS K V Q D s (at_ 3 t) * K s l : ℝ) : EReal) := by
  pointwise [k0_pay163, k0_pay162]
  simp only [pay161_at hK hV hq hD, hK, hz, zero_add, ← EReal.coe_mul, ← coe_sum]

theorem dk0_at (hK : ∀ s l, Kx (ix2 s l) = (K s l : EReal)) (hV : ∀ s l, Vx (ix2 s l) = (V s l : EReal))
    (hq : ∀ t l, qx (ix4 0 0 t l) = (Q (at_ 0 t) l : EReal)) (hD : ∀ t l, Dx (ix4 0 0 t l) = (D (at_ 0 t) l : EReal))
    (hc : ∀ s l, c (ix2 s l) = (r s l : EReal)) (s : Fin 2048) (l : Fin 128) :
    k0_pay58 c (k0_pay56 Kx Vx c qx Dx) (ix2 s l) = ((r s l + ∑ t : Fin 512, DS K V Q D s (at_ 0 t) * Q (at_ 0 t) l : ℝ) : EReal) := by
  pointwise [k0_pay58, k0_pay56, k0_pay51]
  simp only [pay54_at hK hV hq hD, hq, hc, ← EReal.coe_mul, ← coe_sum, ← EReal.coe_add]
  by_cases h : s.val < 512
  · rw [dif_pos h]; rfl
  · rw [dif_neg h, Finset.sum_eq_zero fun t _ => by rw [DS_eq_zero K V Q D s _ (Fin.lt_def.mpr (by show 512 * 0 + t.val < s.val; omega)), zero_mul], add_zero]
    exact congrArg (fun i => (r i l : EReal)) (Fin.ext (by show 512 + (s.val - 512) = s.val; omega))

theorem dk1_at (hK : ∀ s l, Kx (ix2 s l) = (K s l : EReal)) (hV : ∀ s l, Vx (ix2 s l) = (V s l : EReal))
    (hq : ∀ t l, qx (ix4 0 0 t l) = (Q (at_ 1 t) l : EReal)) (hD : ∀ t l, Dx (ix4 0 0 t l) = (D (at_ 1 t) l : EReal))
    (hc : ∀ s l, c (ix2 s l) = (r s l : EReal)) (s : Fin 2048) (l : Fin 128) :
    k0_pay97 c (k0_pay96 Kx Vx c qx Dx) (ix2 s l) = ((r s l + ∑ t : Fin 512, DS K V Q D s (at_ 1 t) * Q (at_ 1 t) l : ℝ) : EReal) := by
  pointwise [k0_pay97, k0_pay96, k0_pay91]
  simp only [pay94_at hK hV hq hD, hq, hc, ← EReal.coe_mul, ← coe_sum, ← EReal.coe_add]
  by_cases h : s.val < 1024
  · rw [dif_pos h]; rfl
  · rw [dif_neg h, Finset.sum_eq_zero fun t _ => by rw [DS_eq_zero K V Q D s _ (Fin.lt_def.mpr (by show 512 * 1 + t.val < s.val; omega)), zero_mul], add_zero]
    exact congrArg (fun i => (r i l : EReal)) (Fin.ext (by show 1024 + (s.val - 1024) = s.val; omega))

theorem dk2_at (hK : ∀ s l, Kx (ix2 s l) = (K s l : EReal)) (hV : ∀ s l, Vx (ix2 s l) = (V s l : EReal))
    (hq : ∀ t l, qx (ix4 0 0 t l) = (Q (at_ 2 t) l : EReal)) (hD : ∀ t l, Dx (ix4 0 0 t l) = (D (at_ 2 t) l : EReal))
    (hc : ∀ s l, c (ix2 s l) = (r s l : EReal)) (s : Fin 2048) (l : Fin 128) :
    k0_pay132 c (k0_pay127 qx) (k0_pay130 Kx Vx qx Dx) (ix2 s l) = ((r s l + ∑ t : Fin 512, DS K V Q D s (at_ 2 t) * Q (at_ 2 t) l : ℝ) : EReal) := by
  pointwise [k0_pay132, k0_pay127]
  simp only [pay130_at hK hV hq hD, hq, hc, ← EReal.coe_mul, ← coe_sum, ← EReal.coe_add]
  by_cases h : s.val < 1536
  · rw [dif_pos h]; rfl
  · rw [dif_neg h, Finset.sum_eq_zero fun t _ => by rw [DS_eq_zero K V Q D s _ (Fin.lt_def.mpr (by show 512 * 2 + t.val < s.val; omega)), zero_mul], add_zero]
    exact congrArg (fun i => (r i l : EReal)) (Fin.ext (by show 1536 + (s.val - 1536) = s.val; omega))

theorem dk3_at (hK : ∀ s l, Kx (ix2 s l) = (K s l : EReal)) (hV : ∀ s l, Vx (ix2 s l) = (V s l : EReal))
    (hq : ∀ t l, qx (ix4 0 0 t l) = (Q (at_ 3 t) l : EReal)) (hD : ∀ t l, Dx (ix4 0 0 t l) = (D (at_ 3 t) l : EReal))
    (hc : ∀ s l, c (ix2 s l) = (r s l : EReal)) (s : Fin 2048) (l : Fin 128) :
    k0_pay164 c (k0_pay158 qx) (k0_pay161 Kx Vx qx Dx) (ix2 s l) = ((r s l + ∑ t : Fin 512, DS K V Q D s (at_ 3 t) * Q (at_ 3 t) l : ℝ) : EReal) := by
  pointwise [k0_pay164, k0_pay158]
  simp only [pay161_at hK hV hq hD, hq, hc, ← EReal.coe_mul, ← coe_sum, ← EReal.coe_add]

theorem dv0_at (hK : ∀ s l, Kx (ix2 s l) = (K s l : EReal))
    (hq : ∀ t l, qx (ix4 0 0 t l) = (Q (at_ 0 t) l : EReal)) (hD : ∀ t l, Dx (ix4 0 0 t l) = (D (at_ 0 t) l : EReal))
    (hc : ∀ s l, c (ix2 s l) = (r s l : EReal)) (s : Fin 2048) (l : Fin 128) :
    k0_pay59 c (k0_pay57 Kx c qx Dx) (ix2 s l) = ((r s l + ∑ t : Fin 512, W K Q s (at_ 0 t) * D (at_ 0 t) l : ℝ) : EReal) := by
  pointwise [k0_pay59, k0_pay57, k0_pay52]
  simp only [pay53_at hK hq, hD, hc, ← EReal.coe_mul, ← coe_sum, ← EReal.coe_add]
  by_cases h : s.val < 512
  · rw [dif_pos h]; rfl
  · rw [dif_neg h, Finset.sum_eq_zero fun t _ => by rw [W_eq_zero K Q s _ (Fin.lt_def.mpr (by show 512 * 0 + t.val < s.val; omega)), zero_mul], add_zero]
    exact congrArg (fun i => (r i l : EReal)) (Fin.ext (by show 512 + (s.val - 512) = s.val; omega))

theorem dv1_at (hK : ∀ s l, Kx (ix2 s l) = (K s l : EReal))
    (hq : ∀ t l, qx (ix4 0 0 t l) = (Q (at_ 1 t) l : EReal)) (hD : ∀ t l, Dx (ix4 0 0 t l) = (D (at_ 1 t) l : EReal))
    (hc : ∀ s l, c (ix2 s l) = (r s l : EReal)) (s : Fin 2048) (l : Fin 128) :
    k0_pay98 c (k0_pay92 Dx) (k0_pay93 Kx qx) (ix2 s l) = ((r s l + ∑ t : Fin 512, W K Q s (at_ 1 t) * D (at_ 1 t) l : ℝ) : EReal) := by
  pointwise [k0_pay98, k0_pay92]
  simp only [pay93_at hK hq, hD, hc, ← EReal.coe_mul, ← coe_sum, ← EReal.coe_add]
  by_cases h : s.val < 1024
  · rw [dif_pos h]; rfl
  · rw [dif_neg h, Finset.sum_eq_zero fun t _ => by rw [W_eq_zero K Q s _ (Fin.lt_def.mpr (by show 512 * 1 + t.val < s.val; omega)), zero_mul], add_zero]
    exact congrArg (fun i => (r i l : EReal)) (Fin.ext (by show 1024 + (s.val - 1024) = s.val; omega))

theorem dv2_at (hK : ∀ s l, Kx (ix2 s l) = (K s l : EReal))
    (hq : ∀ t l, qx (ix4 0 0 t l) = (Q (at_ 2 t) l : EReal)) (hD : ∀ t l, Dx (ix4 0 0 t l) = (D (at_ 2 t) l : EReal))
    (hc : ∀ s l, c (ix2 s l) = (r s l : EReal)) (s : Fin 2048) (l : Fin 128) :
    k0_pay133 c (k0_pay128 Dx) (k0_pay129 Kx qx) (ix2 s l) = ((r s l + ∑ t : Fin 512, W K Q s (at_ 2 t) * D (at_ 2 t) l : ℝ) : EReal) := by
  pointwise [k0_pay133, k0_pay128]
  simp only [pay129_at hK hq, hD, hc, ← EReal.coe_mul, ← coe_sum, ← EReal.coe_add]
  by_cases h : s.val < 1536
  · rw [dif_pos h]; rfl
  · rw [dif_neg h, Finset.sum_eq_zero fun t _ => by rw [W_eq_zero K Q s _ (Fin.lt_def.mpr (by show 512 * 2 + t.val < s.val; omega)), zero_mul], add_zero]
    exact congrArg (fun i => (r i l : EReal)) (Fin.ext (by show 1536 + (s.val - 1536) = s.val; omega))

set_option maxHeartbeats 1000000 in
theorem dv3_at (hK : ∀ s l, Kx (ix2 s l) = (K s l : EReal))
    (hq : ∀ t l, qx (ix4 0 0 t l) = (Q (at_ 3 t) l : EReal)) (hD : ∀ t l, Dx (ix4 0 0 t l) = (D (at_ 3 t) l : EReal))
    (hc : ∀ s l, c (ix2 s l) = (r s l : EReal)) (s : Fin 2048) (l : Fin 128) :
    k0_pay165 c (k0_pay159 Dx) (k0_pay160 Kx qx) (ix2 s l) = ((r s l + ∑ t : Fin 512, W K Q s (at_ 3 t) * D (at_ 3 t) l : ℝ) : EReal) := by
  pointwise [k0_pay165, k0_pay159]
  simp only [pay160_at hK hq, hD, hc, ← EReal.coe_mul, ← coe_sum, ← EReal.coe_add]

end Cert.Kernel2Ideal.AttnBwd

end
-- ==== Proof.AttnBwd.Head.lean ====
/- The three gradients of one block of four heads, over the reals. -/
module

public import proofs.«01_k».proof.Proof.AttnBwd.Payload
public import Idealize.ShloMosaic.Lib.WholeRead
public import Idealize.ShloMosaic.Lib.Pointwise.Sums

@[expose] public section

set_option maxRecDepth 16384

noncomputable section

namespace Cert.Kernel2Ideal.AttnBwd

open Cert.Kernel2Ideal Cert.Kernel2Ideal.Gen Cert.Attn Cert.Reals
open Idealize.ShloMosaic Idealize.ShloMosaic.TcCoe Idealize.ShloMosaic.Tactic

variable {Kx Vx : FVec Ideal S2048x128 .bf16} {qx Dx : Fin 4 → Vec Ideal S1x1x512x128 .bf16} {K V Q D : Fin 2048 → Fin 128 → ℝ}
  {z : Vec Ideal S1x1x512x128 .f32}

theorem cleared_at (y : S1x4x2048x128.Idx) : (k0_pay40 : FVec Ideal S1x4x2048x128 .f32) y = 0 := by
  pointwise [k0_pay40]

theorem zero_at (s : Fin 2048) (l : Fin 128) : (k0_pay49 : FVec Ideal S2048x128 .f32) (ix2 s l) = ((0 : ℝ) : EReal) := by
  pointwise [k0_pay49]
  rfl

theorem dqStep_at (hK : ∀ s l, Kx (ix2 s l) = (K s l : EReal)) (hV : ∀ s l, Vx (ix2 s l) = (V s l : EReal))
    (hq : ∀ d t l, qx d (ix4 0 0 t l) = (Q (at_ d t) l : EReal)) (hD : ∀ d t l, Dx d (ix4 0 0 t l) = (D (at_ d t) l : EReal))
    (hz : ∀ t l, z (ix4 0 0 t l) = 0) (d : Fin 4) (t : Fin 512) (l : Fin 128) :
    dqStep Kx Vx d (qx d) (Dx d) z (ix4 0 0 t l) = ((∑ s, DS K V Q D s (at_ d t) * K s l : ℝ) : EReal) :=
  match d with
  | ⟨0, _⟩ => dq0_at hK hV (hq 0) (hD 0) hz t l
  | ⟨1, _⟩ => dq1_at hK hV (hq 1) (hD 1) hz t l
  | ⟨2, _⟩ => dq2_at hK hV (hq 2) (hD 2) hz t l
  | ⟨3, _⟩ => dq3_at hK hV (hq 3) (hD 3) hz t l

/-- The sum over the queries is the sum over the four tiles. -/
theorem sum_tiles (f : Fin 2048 → ℝ) :
    0 + ∑ t, f (at_ 0 t) + ∑ t, f (at_ 1 t) + ∑ t, f (at_ 2 t) + ∑ t, f (at_ 3 t) = ∑ t, f t := by
  rw [Fin.sum_univ_tiles 4 512 (by decide) f, Fin.sum_univ_four, zero_add]
  rfl

theorem dkHead_at (hK : ∀ s l, Kx (ix2 s l) = (K s l : EReal)) (hV : ∀ s l, Vx (ix2 s l) = (V s l : EReal))
    (hq : ∀ d t l, qx d (ix4 0 0 t l) = (Q (at_ d t) l : EReal)) (hD : ∀ d t l, Dx d (ix4 0 0 t l) = (D (at_ d t) l : EReal))
    (s : Fin 2048) (l : Fin 128) : dkHead Kx Vx qx Dx (ix2 s l) = ((∑ t, DS K V Q D s t * Q t l : ℝ) : EReal) := by
  have h0 := dk0_at hK hV (hq 0) (hD 0) zero_at
  have h1 := dk1_at hK hV (hq 1) (hD 1) h0
  have h2 := dk2_at hK hV (hq 2) (hD 2) h1
  exact (dk3_at hK hV (hq 3) (hD 3) h2 s l).trans (congrArg _ (sum_tiles fun t => DS K V Q D s t * Q t l))

theorem dvHead_at (hK : ∀ s l, Kx (ix2 s l) = (K s l : EReal))
    (hq : ∀ d t l, qx d (ix4 0 0 t l) = (Q (at_ d t) l : EReal)) (hD : ∀ d t l, Dx d (ix4 0 0 t l) = (D (at_ d t) l : EReal))
    (s : Fin 2048) (l : Fin 128) : dvHead Kx qx Dx (ix2 s l) = ((∑ t, W K Q s t * D t l : ℝ) : EReal) := by
  have h0 := dv0_at hK (hq 0) (hD 0) zero_at
  have h1 := dv1_at hK (hq 1) (hD 1) h0
  have h2 := dv2_at hK (hq 2) (hD 2) h1
  exact (dv3_at hK (hq 3) (hD 3) h2 s l).trans (congrArg _ (sum_tiles fun t => W K Q s t * D t l))

/-! ### The blocks -/

variable (m : (ℓ : Loc nD τ sig) → Buf (Elt Ideal) ℓ) (c : Dev nD) (t : Fin cfg0.N)

/-- The four input blocks of a grid point hold four heads of real numbers. -/
structure Block (Q K V D : Fin 4 → Fin 2048 → Fin 128 → ℝ) : Prop where
  hQ : ∀ e s l, iblk m c 0 t (ix4 0 e s l) = (Q e s l : EReal)
  hK : ∀ e s l, iblk m c 1 t (ix4 0 e s l) = (K e s l : EReal)
  hV : ∀ e s l, iblk m c 2 t (ix4 0 e s l) = (V e s l : EReal)
  hD : ∀ e s l, iblk m c 3 t (ix4 0 e s l) = (D e s l : EReal)

omit m c t in
theorem tileOf_at (i : grid0.Coords) {arg : Memref sig .tc .vmem S1x4x2048x128 .bf16} (harg : arg.IsWhole) (x : Vec Ideal S1x4x2048x128 .bf16)
    (e d : Fin 4) (t : Fin 512) (l : Fin 128) : tileOf i harg x e d (ix4 0 0 t l) = x (ix4 0 e (at_ d t) l) :=
  (harg.readAt_unread x _ _).trans (congrArg x (tile_emb i e d t l))

omit m c t in
theorem headOf_at {arg : Memref sig .tc .vmem S1x4x2048x128 .bf16} (harg : arg.IsWhole) (x : Vec Ideal S1x4x2048x128 .bf16)
    (e : Fin 4) (s : Fin 2048) (l : Fin 128) : headOf harg x e (ix2 s l) = x (ix4 0 e s l) := by
  unfold headOf
  pointwise [k0_pay41]
  exact (harg.readAt_unread x _ _).trans (congrArg x (head_emb e s l))

variable {m c t} {Q K V D : Fin 4 → Fin 2048 → Fin 128 → ℝ} (H : Block m c t Q K V D)
include H

theorem dq_block (e d : Fin 4) (s : Fin 512) (l : Fin 128) :
    dqAt m c t (ix4 0 e (at_ d s) l) = ((∑ r, DS (K e) (V e) (Q e) (D e) r (at_ d s) * K e r l : ℝ) : EReal) := by
  unfold dqAt
  refine (dq_left _ _ _ _ _ _ _ _ _ _ _ _ _ e d s l).trans ?_
  exact dqStep_at (fun s l => (headOf_at _ _ e s l).trans (H.hK e s l)) (fun s l => (headOf_at _ _ e s l).trans (H.hV e s l))
      (fun d t l => (tileOf_at _ _ _ e d t l).trans (H.hQ e _ l)) (fun d t l => (tileOf_at _ _ _ e d t l).trans (H.hD e _ l))
      (fun t l => cleared_at _) d s l

theorem dk_block (e : Fin 4) (s : Fin 2048) (l : Fin 128) :
    dkAt m c t (ix4 0 e s l) = ((∑ r, DS (K e) (V e) (Q e) (D e) s r * Q e r l : ℝ) : EReal) := by
  unfold dkAt
  refine (dk_left _ _ _ _ _ _ _ _ _ _ _ _ _ e s l).trans ?_
  pointwise [k0_pay208]
  exact dkHead_at (fun s l => (headOf_at _ _ e s l).trans (H.hK e s l)) (fun s l => (headOf_at _ _ e s l).trans (H.hV e s l))
      (fun d t l => (tileOf_at _ _ _ e d t l).trans (H.hQ e _ l)) (fun d t l => (tileOf_at _ _ _ e d t l).trans (H.hD e _ l)) s l

theorem dv_block (e : Fin 4) (s : Fin 2048) (l : Fin 128) :
    dvAt m c t (ix4 0 e s l) = ((∑ r, W (K e) (Q e) s r * D e r l : ℝ) : EReal) := by
  unfold dvAt
  refine (dv_left _ _ _ _ _ _ _ _ _ _ _ _ _ e s l).trans ?_
  pointwise [k0_pay209]
  exact dvHead_at (fun s l => (headOf_at _ _ e s l).trans (H.hK e s l))
      (fun d t l => (tileOf_at _ _ _ e d t l).trans (H.hQ e _ l)) (fun d t l => (tileOf_at _ _ _ e d t l).trans (H.hD e _ l)) s l

end Cert.Kernel2Ideal.AttnBwd

end
-- ==== Proof.AttnBwd.Kernel.lean ====
/- What the kernel leaves in its three results. -/
module

public import proofs.«01_k».proof.Proof.AttnBwd.Lanes
public import proofs.«01_k».proof.Proof.AttnBwd.Head
public import Idealize.ShloMosaic.Lib.Pipeline.ValueKit

@[expose] public section

set_option maxRecDepth 16384

noncomputable section

namespace Cert.Kernel2Ideal.AttnBwd

open Cert.Kernel2Ideal Cert.Kernel2Ideal.Gen Cert.Attn Cert.Reals
open Idealize.ShloMosaic Idealize.ShloMosaic.TcCoe Idealize.ShloMosaic.Tactic Idealize.SL.Sem
open Idealize.ShloMosaic.Pipeline (Dat)

/-- The sequence of a grid point, and its four heads. -/
def seq (t : Fin cfg0.N) : Fin 2 := ⟨t.val / 4, by have := lt_of_lt_of_eq t.isLt N_0; omega⟩
def head (t : Fin cfg0.N) (e : Fin 4) : Fin 16 := ⟨t.val % 4 * 4 + e.val, by omega⟩

theorem idx : ∀ t : Fin cfg0.N, win0_0.index t = ![t.val / 4, t.val % 4, 0, 0] ∧ win0_1.index t = ![t.val / 4, t.val % 4, 0, 0]
    ∧ win0_2.index t = ![t.val / 4, t.val % 4, 0, 0] ∧ win0_3.index t = ![t.val / 4, t.val % 4, 0, 0] ∧ win0_4.index t = ![t.val / 4, t.val % 4, 0, 0]
    ∧ win0_5.index t = ![t.val / 4, t.val % 4, 0, 0] ∧ win0_6.index t = ![t.val / 4, t.val % 4, 0, 0] :=
  (by decide +kernel : ∀ t : Fin grid0.N, _)

variable {m : (ℓ : Loc nD τ sig) → Buf (Elt Ideal) ℓ} {c : Dev nD}

theorem block_q (t : Fin cfg0.N) (e : Fin 4) (s : Fin 2048) (l : Fin 128) : iblk m c 0 t (ix4 0 e s l) = V m c main_v61 (ix4 (seq t) (head t e) s l) := by
  blk_simp [iblk, idx t]
  generalize V m c main_v61 = A
  blk_ext [idx t, seq, head]

theorem block_k (t : Fin cfg0.N) (e : Fin 4) (s : Fin 2048) (l : Fin 128) : iblk m c 1 t (ix4 0 e s l) = V m c main_v78 (ix4 (seq t) (head t e) s l) := by
  blk_simp [iblk, idx t]
  generalize V m c main_v78 = A
  blk_ext [idx t, seq, head]

theorem block_v (t : Fin cfg0.N) (e : Fin 4) (s : Fin 2048) (l : Fin 128) : iblk m c 2 t (ix4 0 e s l) = V m c main_v82 (ix4 (seq t) (head t e) s l) := by
  blk_simp [iblk, idx t]
  generalize V m c main_v82 = A
  blk_ext [idx t, seq, head]

theorem block_o (t : Fin cfg0.N) (e : Fin 4) (s : Fin 2048) (l : Fin 128) : iblk m c 3 t (ix4 0 e s l) = V m c main_v101 (ix4 (seq t) (head t e) s l) := by
  blk_simp [iblk, idx t]
  generalize V m c main_v101 = A
  blk_ext [idx t, seq, head]

/-- The arguments of the program hold the numbers of these heads. -/
abbrev Real (m : (ℓ : Loc nD τ sig) → Buf (Elt Ideal) ℓ) (c : Dev nD) (a : Fin 2 → Fin 16 → Head) : Prop :=
  Args (arg0 m c) (arg1 m c) (arg2 m c) (arg4 m c) (arg3 m c) a

variable {a : Fin 2 → Fin 16 → Head} (H : Real m c a)
include H

theorem block_at (t : Fin cfg0.N) : Block m c t (fun e => (a (seq t) (head t e)).qLane) (fun e => (a (seq t) (head t e)).kLane)
    (fun e => (a (seq t) (head t e)).vLane) (fun e => (a (seq t) (head t e)).oLane) where
  hQ e s l := by rw [block_q, operand_q]; exact q_at H _ _ s l
  hK e s l := by rw [block_k, operand_k]; exact k_at H _ _ s l
  hV e s l := by rw [block_v, operand_v]; exact v_at H _ _ s l
  hD e s l := by rw [block_o, operand_o]; exact o_at H _ _ s l

omit H in
theorem emb4 (t : Fin cfg0.N) (e : Fin 4) (s : Fin 2048) (l : Fin 128) : (win0_4.blk t).view.emb (ix4 0 e s l)
    = (ix4 (seq t) (head t e) s l : S2x16x2048x128.Idx) := by
  blk_ext [idx t, seq, head]

omit H in
theorem emb5 (t : Fin cfg0.N) (e : Fin 4) (s : Fin 2048) (l : Fin 128) : (win0_5.blk t).view.emb (ix4 0 e s l)
    = (ix4 (seq t) (head t e) s l : S2x16x2048x128.Idx) := by
  blk_ext [idx t, seq, head]

omit H in
theorem emb6 (t : Fin cfg0.N) (e : Fin 4) (s : Fin 2048) (l : Fin 128) : (win0_6.blk t).view.emb (ix4 0 e s l)
    = (ix4 (seq t) (head t e) s l : S2x16x2048x128.Idx) := by
  blk_ext [idx t, seq, head]

omit H m c a in
theorem at_split (s : Fin 2048) : ∃ (d : Fin 4) (r : Fin 512), s = at_ d r :=
  ⟨⟨s.val / 512, by omega⟩, ⟨s.val % 512, by omega⟩, Fin.ext (by simp only [at_]; omega)⟩

omit H m c a in
theorem block_idx (y : S1x4x2048x128.Idx) : ∃ (e : Fin 4) (s : Fin 2048) (l : Fin 128), y = ix4 0 e s l :=
  ⟨y 1, y 2, y 3, by funext i; fin_cases i <;> first | rfl | exact Fin.ext (by have := (y 0).isLt; simpa using this)⟩

/-- What the three results hold. -/
def gradQ (a : Fin 2 → Fin 16 → Head) (y : S2x16x2048x128.Idx) : EReal :=
  ((∑ s, (a (y 0) (y 1)).dscore (y 2) s * (a (y 0) (y 1)).kLane s (y 3) : ℝ) : EReal)
def gradK (a : Fin 2 → Fin 16 → Head) (y : S2x16x2048x128.Idx) : EReal :=
  ((∑ t, (a (y 0) (y 1)).dscore t (y 2) * (a (y 0) (y 1)).qLane t (y 3) : ℝ) : EReal)
def gradV (a : Fin 2 → Fin 16 → Head) (y : S2x16x2048x128.Idx) : EReal :=
  ((∑ t, (a (y 0) (y 1)).prob t (y 2) * (a (y 0) (y 1)).oLane t (y 3) : ℝ) : EReal)

theorem dq_at (t : Fin cfg0.N) (y : S1x4x2048x128.Idx) : dqAt m c t y = gradQ a ((win0_4.blk t).view.emb y) := by
  obtain ⟨e, s, l, rfl⟩ := block_idx y
  obtain ⟨d, r, rfl⟩ := at_split s
  rw [emb4]
  refine (dq_block (block_at H t) e d r l).trans ?_
  simp only [Head.DS_lanes]
  rfl

theorem dk_at (t : Fin cfg0.N) (y : S1x4x2048x128.Idx) : dkAt m c t y = gradK a ((win0_5.blk t).view.emb y) := by
  obtain ⟨e, s, l, rfl⟩ := block_idx y
  rw [emb5]
  refine (dk_block (block_at H t) e s l).trans ?_
  simp only [Head.DS_lanes]
  rfl

theorem dv_at (t : Fin cfg0.N) (y : S1x4x2048x128.Idx) : dvAt m c t y = gradV a ((win0_6.blk t).view.emb y) := by
  obtain ⟨e, s, l, rfl⟩ := block_idx y
  rw [emb6]
  refine (dv_block (block_at H t) e s l).trans ?_
  simp only [Head.W_lanes]
  rfl

/-- The first result: the gradient at the queries, and at the decay of the query. -/
theorem final_q : (dats m 0 c).arrAt 4 cfg0.N = gradQ a := by
  refine (dats m 0 c).arrAt_eq_of_covers 4 _ (by decide +kernel) fun t _ y => ?_
  rw [after4]
  have key := dq_at H t
  generalize dqAt m c t = A at key ⊢
  generalize gradQ a = B at key ⊢
  exact key y

/-- The second result: the gradient at the keys, and less that at the decay of the key. -/
theorem final_k : (dats m 0 c).arrAt 5 cfg0.N = gradK a := by
  refine (dats m 0 c).arrAt_eq_of_covers 5 _ (by decide +kernel) fun t _ y => ?_
  rw [after5]
  have key := dk_at H t
  generalize dkAt m c t = A at key ⊢
  generalize gradK a = B at key ⊢
  exact key y

/-- The third result: the gradient at the values. -/
theorem final_v : (dats m 0 c).arrAt 6 cfg0.N = gradV a := by
  refine (dats m 0 c).arrAt_eq_of_covers 6 _ (by decide +kernel) fun t _ y => ?_
  rw [after6]
  have key := dv_at H t
  generalize dvAt m c t = A at key ⊢
  generalize gradV a = B at key ⊢
  exact key y

end Cert.Kernel2Ideal.AttnBwd

end
-- ==== Proof.AttnBwd.Ops.lean ====
/- Operations of the attention reference, read at an index. -/
module

public import proofs.«01_k».proof.Proof.AttnBwd.Softmax
public import proofs.«01_k».proof.Proof.Gen.Reference2Ideal.Read
public import Idealize.ShloMosaic.Lib.Pipeline.ValueKit

@[expose] public section

set_option maxRecDepth 16384

noncomputable section

namespace Cert.Reference2Ideal.AttnBwd

open Cert.Reals Cert.Attn
open Cert.Reference2Ideal Cert.Reference2Ideal.Gen Cert.Reference2Ideal.Read
open Idealize.ShloMosaic Idealize.ShloMosaic.TcCoe Idealize.ShloMosaic.Tactic

/-! ### Single operations, read at an index -/

theorem max_at (y : FVec Ideal S2x16x2048x2048 .f32) (z : FVec Ideal S_ .f32) (b : Fin 2) (h : Fin 16) (t : Fin 2048) :
    Host.reduce FloatOps.maximumf y z reducesTo_S2x16x2048x2048_S2x16x2048_d3 h_S_ (ix3 b h t)
      = (Finset.univ : Finset (Fin 2048)).fold max (z ix0) fun s => y (ix4 b h t s) := by
  pointwise
  rw [show Shape.Idx.first h_S_ = ix0 from funext fun i => i.elim0]

theorem sum_last (y : FVec Ideal S2x16x2048x2048 .f32) (b : Fin 2) (h : Fin 16) (t : Fin 2048) :
    Host.reduceAdd y (constant S_ .f32 0x00000000#32) reducesTo_S2x16x2048x2048_S2x16x2048_d3 h_S_ (ix3 b h t)
      = ∑ s : Fin 2048, y (ix4 b h t s) := by
  pointwise

theorem sum_third (y : FVec Ideal S2x16x2048x2048 .f32) (b : Fin 2) (h : Fin 16) (s : Fin 2048) :
    Host.reduceAdd y (constant S_ .f32 0x00000000#32) reducesTo_S2x16x2048x2048_S2x16x2048_d2 h_S_ (ix3 b h s)
      = ∑ t : Fin 2048, y (ix4 b h t s) := by
  pointwise

theorem sum_col (y : FVec Ideal S2x16x2048x1 .f32) (b : Fin 2) (h : Fin 16) (t : Fin 2048) :
    Host.reduceAdd y (constant S_ .f32 0x00000000#32) reducesTo_S2x16x2048x1_S2x16x2048_d3 h_S_ (ix3 b h t) = y (ix4 b h t 0) := by
  pointwise
  exact Fin.sum_univ_one _

theorem sum_row (y : FVec Ideal S2x16x1x2048 .f32) (b : Fin 2) (h : Fin 16) (s : Fin 2048) :
    Host.reduceAdd y (constant S_ .f32 0x00000000#32) reducesTo_S2x16x1x2048_S2x16x2048_d2 h_S_ (ix3 b h s) = y (ix4 b h 0 s) := by
  pointwise
  exact Fin.sum_univ_one _

theorem col_at (y : FVec Ideal S2x16x2048 .f32) (b : Fin 2) (h : Fin 16) (t : Fin 2048) :
    shapeCast S2x16x2048x1 y shapeCasts_S2x16x2048_S2x16x2048x1 (ix4 b h t 0) = y (ix3 b h t) := by
  pointwise

theorem line_at (y : FVec Ideal S2x16x2048 .f32) (b : Fin 2) (h : Fin 16) (s : Fin 2048) :
    shapeCast S2x16x1x2048 y shapeCasts_S2x16x2048_S2x16x1x2048 (ix4 b h 0 s) = y (ix3 b h s) := by
  pointwise

theorem swap_at (y : FVec Ideal S2x16x2048 .f32) (b : Fin 2) (h : Fin 16) (s : Fin 2048) :
    transpose S2x2048x16 [0, 2, 1] y transposes_S2x16x2048_S2x2048x16_0_2_1 (ix3 b s h) = y (ix3 b h s) := by
  pointwise

theorem heads_at (y : FVec Ideal S2x16x2048x64 .f32) (b : Fin 2) (h : Fin 16) (s : Fin 2048) (d : Fin 64) :
    transpose S2x2048x16x64 [0, 2, 1, 3] y transposes_S2x16x2048x64_S2x2048x16x64_0_2_1_3 (ix4 b s h d) = y (ix4 b h s d) := by
  pointwise

theorem packed_at (y : FVec Ideal S2x2048x16x128 .f32) (b : Fin 2) (h : Fin 16) (s : Fin 2048) (l : Fin 128) :
    transpose S2x16x2048x128 [0, 2, 1, 3] y transposes_S2x2048x16x128_S2x16x2048x128_0_2_1_3 (ix4 b h s l) = y (ix4 b s h l) := by
  pointwise

theorem cast_at (y : FVec Ideal S2x2048x16 .f32) (b : Fin 2) (h : Fin 16) (s : Fin 2048) :
    broadcastInDim S2x2048x16x1 ![0, 1, 2] bcast_S2x2048x16_S2x2048x16x1_0_1_2 y (ix4 b s h 0) = y (ix3 b s h) := by
  pointwise

theorem mask_at (b : Fin 2) (h : Fin 16) (t s : Fin 2048) :
    val_main_v16_1 (F := Ideal) (ix4 b h t s) = IntOp.cmpi .sle (BitVec.ofNat 32 s.val) (BitVec.ofNat 32 t.val) := by
  pointwise [val_main_v16_1, val_main_v15, val_main_v14, val_main_v13, val_main_v12, val_main_v11, val_main_v10, val_main_v9, val_main_v8]

end Cert.Reference2Ideal.AttnBwd

end
-- ==== Proof.AttnBwd.Reference.lean ====
/- What the attention reference leaves in its results. -/
module

public import proofs.«01_k».proof.Proof.AttnBwd.Ops
public import proofs.«01_k».proof.Proof.Gen.Reference2Ideal.Read
public import Idealize.ShloMosaic.Lib.Pipeline.ValueKit

@[expose] public section

set_option maxRecDepth 16384

noncomputable section

namespace Cert.Reference2Ideal.AttnBwd

open Cert.Reals Cert.Attn
open Cert.Reference2Ideal Cert.Reference2Ideal.Gen Cert.Reference2Ideal.Read
open Idealize.ShloMosaic Idealize.ShloMosaic.TcCoe Idealize.ShloMosaic.Tactic

/-- The arguments hold the numbers of these heads. -/
structure Args (q k v o : FVec Ideal S2x2048x16x64 .f32) (c : FVec Ideal S2x2048x16 .f32) (a : Fin 2 → Fin 16 → Head) : Prop where
  hq : ∀ b s h d, q (ix4 b s h d) = ((a b h).q s d : EReal)
  hk : ∀ b s h d, k (ix4 b s h d) = ((a b h).k s d : EReal)
  hv : ∀ b s h d, v (ix4 b s h d) = ((a b h).v s d : EReal)
  hc : ∀ b s h, c (ix3 b s h) = ((a b h).c s : EReal)
  ho : ∀ b s h d, o (ix4 b s h d) = ((a b h).o s d : EReal)

/-- The derivative of the softmax: through the weights and their sum. -/
theorem softmax_deriv (a : Head) (t s : Fin 2048) {E : ℝ} (hE : E ≠ 0) :
    (a.dprob t s / (E * tot (a.score t) t) + -∑ r, a.dprob t r * (1 / ((E * tot (a.score t) t) * (E * tot (a.score t) t))) * (E * row (a.score t) t r))
      * (E * row (a.score t) t s) = a.dscore t s := by
  have hT := (tot_pos (a.score t) t).ne'
  have e (r : Fin 2048) : a.dprob t r * (1 / ((E * tot (a.score t) t) * (E * tot (a.score t) t))) * (E * row (a.score t) t r)
      = 1 / (E * tot (a.score t) t) * (a.prob t r * a.dprob t r) := by
    unfold Head.prob
    field_simp
  rw [Finset.sum_congr rfl fun r _ => e r, ← Finset.mul_sum, ← a.dot_eq]
  unfold Head.dscore Head.prob
  field_simp
  ring

/-- The sum of a query's weights is not zero. -/
theorem weight_ne (a : Head) (t : Fin 2048) : Real.exp (-top (a.score t) t) * tot (a.score t) t ≠ 0 :=
  (mul_pos (Real.exp_pos _) (tot_pos _ _)).ne'

theorem one_div_real {x : ℝ} (h : x ≠ 0) : Ideal.div 1 (x : EReal) = ((1 / x : ℝ) : EReal) := by
  rw [← EReal.coe_one, div_real h]

variable {q k v o : FVec Ideal S2x2048x16x64 .f32} {c : FVec Ideal S2x2048x16 .f32} {a : Fin 2 → Fin 16 → Head} (H : Args q k v o c a)
include H

theorem v16_at (b : Fin 2) (h : Fin 16) (t s : Fin 2048) : val_main_v16_0 (F := Ideal) q k c (ix4 b h t s) = masked ((a b h).score t) t s := by
  pointwise [val_main_v16_0, val_main_v16_1, val_main_v15, val_main_v14, val_main_v13, val_main_v12, val_main_v11, val_main_v10, val_main_v9, val_main_v8,
    val_main_v7, val_main_v6, val_main_v5, val_main_v4, val_main_v3, val_main_v2, val_main_v1, val_main_v0, val_main_cst, val_main_call0_v0, val_main_call0_v2]
  simp only [H.hq, H.hk, H.hc, ← EReal.coe_mul, ← coe_sum, ← EReal.coe_sub, ← EReal.coe_add]
  rw [select_le]
  exact if_congr Iff.rfl rfl ofBits_neg_inf

theorem v24_at (b : Fin 2) (h : Fin 16) (t : Fin 2048) : val_main_v24 (F := Ideal) q k c (ix3 b h t) = (top ((a b h).score t) t : EReal) := by
  have e : val_main_v17 (F := Ideal) q k c (ix3 b h t) = (top ((a b h).score t) t : EReal) := by
    rw [val_main_v17, max_at]
    simp only [v16_at H]
    exact (congrArg (fun z => Finset.univ.fold max z fun s => masked ((a b h).score t) t s) ofBits_neg_inf).trans (top_eq _ _)
  rw [val_main_v24_apply, e]
  refine max_eq_right ?_
  exact ofBits_neg_inf.trans_le bot_le

theorem v37_at (b : Fin 2) (h : Fin 16) (t s : Fin 2048) : val_main_v37 (F := Ideal) q k c (ix4 b h t s)
    = ((Real.exp (-top ((a b h).score t) t) * row ((a b h).score t) t s : ℝ) : EReal) := by
  pointwise [val_main_v37, val_main_v36, val_main_v35, val_main_v34]
  rw [v16_at H, v24_at H]
  exact exp_masked_sub _ _ _ _

theorem v39_at (b : Fin 2) (h : Fin 16) (t : Fin 2048) : val_main_v39 (F := Ideal) q k c (ix4 b h t 0)
    = ((Real.exp (-top ((a b h).score t) t) * tot ((a b h).score t) t : ℝ) : EReal) := by
  pointwise [val_main_v39, val_main_v38, val_main_cst_8]
  simp only [v37_at H, ← coe_sum, sum_weights]

theorem v41_at (b : Fin 2) (h : Fin 16) (t s : Fin 2048) : val_main_v41 (F := Ideal) q k c (ix4 b h t s) = ((a b h).prob t s : EReal) := by
  pointwise [val_main_v41, val_main_v40]
  rw [v37_at H, v39_at H, div_real (mul_pos (Real.exp_pos _) (tot_pos _ _)).ne', div_weights]
  rfl

theorem v48_at (b : Fin 2) (h : Fin 16) (t s : Fin 2048) : val_main_v48 (F := Ideal) v o (ix4 b h t s) = ((a b h).dprob t s : EReal) := by
  pointwise [val_main_v48, val_main_v47]
  simp only [H.hv, H.ho, ← EReal.coe_mul, ← coe_sum]
  rfl

theorem v53_at (b : Fin 2) (h : Fin 16) (t s : Fin 2048) : val_main_v53 (F := Ideal) q k v c o (ix4 b h t s)
    = (((a b h).dprob t s * (1 / ((Real.exp (-top ((a b h).score t) t) * tot ((a b h).score t) t) * (Real.exp (-top ((a b h).score t) t) * tot ((a b h).score t) t)))
        * (Real.exp (-top ((a b h).score t) t) * row ((a b h).score t) t s) : ℝ) : EReal) := by
  pointwise [val_main_v53, val_main_v52, val_main_v51, val_main_v44, val_main_v43, val_main_v42, val_main_cst_9]
  rw [v48_at H, v37_at H, v39_at H, ← EReal.coe_mul, one_div_real (mul_ne_zero (weight_ne (a b h) t) (weight_ne (a b h) t)), ← EReal.coe_mul, ← EReal.coe_mul]

theorem v59_at (b : Fin 2) (h : Fin 16) (t : Fin 2048) : val_main_v59 (F := Ideal) q k v c o (ix3 b h t)
    = ((-∑ s, (a b h).dprob t s * (1 / ((Real.exp (-top ((a b h).score t) t) * tot ((a b h).score t) t) * (Real.exp (-top ((a b h).score t) t) * tot ((a b h).score t) t)))
        * (Real.exp (-top ((a b h).score t) t) * row ((a b h).score t) t s) : ℝ) : EReal) := by
  rw [val_main_v59, val_main_cst_11, sum_col, val_main_v56_apply, val_main_v55, col_at, val_main_v54, val_main_cst_10, sum_last]
  rw [Finset.sum_congr rfl fun s _ => v53_at H b h t s, ← coe_sum]
  rfl

theorem v63_at (b : Fin 2) (h : Fin 16) (t s : Fin 2048) : val_main_v63 (F := Ideal) q k v c o (ix4 b h t s) = ((a b h).dscore t s : EReal) := by
  pointwise [val_main_v63, val_main_v62, val_main_v61, val_main_v60, val_main_v58, val_main_v57, val_main_call1_v0, val_main_call1_cst]
  rw [mask_at, v48_at H, v37_at H, v39_at H, v59_at H, div_real (weight_ne (a b h) t), ← EReal.coe_add, ← EReal.coe_mul,
    softmax_deriv _ _ _ (Real.exp_pos _).ne', select_le]
  split_ifs with hst
  · rfl
  · simp [Head.dscore, Head.prob, row, hst]

theorem v50_at (b : Fin 2) (h : Fin 16) (s : Fin 2048) (d : Fin 64) :
    val_main_v50 (F := Ideal) q k c o (ix4 b s h d) = ((∑ t, (a b h).prob t s * (a b h).o t d : ℝ) : EReal) := by
  pointwise [val_main_v50, val_main_v49, val_main_v47]
  simp only [v41_at H, H.ho, ← EReal.coe_mul, ← coe_sum, mul_comm]

theorem v74_at (b : Fin 2) (h : Fin 16) (s : Fin 2048) (d : Fin 64) :
    val_main_v74 (F := Ideal) q k v c o (ix4 b s h d) = ((∑ t, (a b h).dscore t s * (a b h).q t d : ℝ) : EReal) := by
  refine (heads_at _ b h s d).trans ?_
  pointwise [val_main_v73]
  simp only [v63_at H, H.hq, ← EReal.coe_mul, ← coe_sum]

theorem v76_at (b : Fin 2) (h : Fin 16) (t : Fin 2048) (d : Fin 64) :
    val_main_v76 (F := Ideal) q k v c o (ix4 b t h d) = ((∑ s, (a b h).dscore t s * (a b h).k s d : ℝ) : EReal) := by
  refine (heads_at _ b h t d).trans ?_
  pointwise [val_main_v75]
  simp only [v63_at H, H.hk, ← EReal.coe_mul, ← coe_sum]

theorem v77_at (b : Fin 2) (h : Fin 16) (t : Fin 2048) :
    val_main_v77 (F := Ideal) q k v c o (ix4 b t h 0) = ((∑ s, (a b h).dscore t s : ℝ) : EReal) := by
  rw [val_main_v77, cast_at, val_main_v72, swap_at, val_main_v71, val_main_cst_15, sum_col, val_main_v65, col_at, val_main_v64, val_main_cst_12, sum_last]
  simp only [v63_at H, ← coe_sum]

theorem v83_at (b : Fin 2) (h : Fin 16) (s : Fin 2048) :
    val_main_v83 (F := Ideal) q k v c o (ix4 b s h 0) = ((∑ t, (a b h).dscore t s : ℝ) : EReal) := by
  rw [val_main_v83_apply, val_main_v82, cast_at, val_main_v70, swap_at, val_main_v69, val_main_cst_14, sum_row, val_main_v68, line_at, val_main_v67,
    val_main_cst_13, sum_third]
  have e (t : Fin 2048) : val_main_v66 (F := Ideal) q k v c o (ix4 b h t s) = ((-(a b h).dscore t s : ℝ) : EReal) :=
    congrArg (- ·) (v63_at H b h t s)
  simp only [e, ← coe_sum, Finset.sum_neg_distrib]
  exact congrArg Real.toEReal (neg_neg (∑ t, (a b h).dscore t s))

/-! ### The three results, at the lanes that hold gradients -/

theorem dq_at (b : Fin 2) (h : Fin 16) (t : Fin 2048) (l : Fin 128) (hl : l.val ≤ 64) :
    val_main_v80 (F := Ideal) q k v c o (ix4 b h t l) = ((∑ s, (a b h).dscore t s * (a b h).kLane s l : ℝ) : EReal) := by
  refine (packed_at _ b h t l).trans ?_
  pointwise [val_main_v79]
  by_cases h1 : l.val < 64
  · rw [dif_pos h1]
    refine (v76_at H b h t ⟨l.val, h1⟩).trans ?_
    simp [Head.kLane, h1]
  · rw [dif_neg h1, dif_pos (by omega)]
    have h2 : l.val = 64 := by omega
    refine (congrArg _ (?_ : _ = ix4 b t h 0)).trans ((v77_at H b h t).trans ?_)
    · exact congrArg (ix4 b t h) (Fin.ext (by simp [h2]))
    · simp [Head.kLane, h2]

theorem dk_at (b : Fin 2) (h : Fin 16) (s : Fin 2048) (l : Fin 128) (hl : l.val < 64 ∨ l.val = 67) :
    val_main_v86 (F := Ideal) q k v c o (ix4 b h s l) = ((∑ t, (a b h).dscore t s * (a b h).qLane t l : ℝ) : EReal) := by
  refine (packed_at _ b h s l).trans ?_
  pointwise [val_main_v85]
  by_cases h1 : l.val < 64
  · rw [dif_pos h1]
    refine (v74_at H b h s ⟨l.val, h1⟩).trans ?_
    simp [Head.qLane, h1]
  · rw [dif_neg h1, dif_neg (by omega), dif_pos (by omega)]
    have h2 : l.val = 67 := by omega
    refine (congrArg _ (?_ : _ = ix4 b s h 0)).trans ((v83_at H b h s).trans ?_)
    · exact congrArg (ix4 b s h) (Fin.ext (by simp [h2]))
    · simp [Head.qLane, h2]

theorem dv_at (b : Fin 2) (h : Fin 16) (s : Fin 2048) (l : Fin 128) (hl : l.val < 64) :
    val_main_v89 (F := Ideal) q k c o (ix4 b h s l) = ((∑ t, (a b h).prob t s * (a b h).oLane t l : ℝ) : EReal) := by
  refine (packed_at _ b h s l).trans ?_
  pointwise [val_main_v88]
  rw [dif_pos hl]
  refine (v50_at H b h s ⟨l.val, hl⟩).trans ?_
  simp [Head.oLane, hl]

end Cert.Reference2Ideal.AttnBwd

end
-- ==== Proof.AttnBwd.Claim.lean ====
/- The gradient of attention: the kernel computes what the chain rule gives. -/
module

public import proofs.«01_k».proof.Defs
public import proofs.«01_k».proof.Proof.AttnBwd.Kernel
public import proofs.«01_k».proof.Proof.AttnBwd.Reference
public import proofs.«01_k».proof.Proof.Gen.Reference2Ideal.Run
public import proofs.«01_k».proof.Proof.Gen.Pre_attention_finite
public import proofs.«01_k».proof.Proof.Gen.On_attention_lanes
public import Idealize.ShloMosaic.Lib.Claim

@[expose] public section

set_option maxRecDepth 16384

noncomputable section

namespace Cert.AttnBwd

open Idealize.ShloMosaic Idealize.ShloMosaic.TcCoe Idealize.SL.Sem Idealize.ShloMosaic.Tactic
open Cert.Reals Cert.Attn

section run
open Cert.Kernel2Ideal Cert.Kernel2Ideal.Gen Cert.Kernel2Ideal.AttnBwd

/-- Every run leaves in the results what the grid points leave there. -/
theorem run_blocks (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c.tc : Thread nD τ).loc main_v102_0) = (dats m 0 c).arrAt 4 cfg0.N
      ∧ r.2.mem ((c.tc : Thread nD τ).loc main_v102_1) = (dats m 0 c).arrAt 5 cfg0.N
      ∧ r.2.mem ((c.tc : Thread nD τ).loc main_v102_2) = (dats m 0 c).arrAt 6 cfg0.N
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4) :=
  (θ_run defs _ _).mono (fun _ h c => ⟨(h.1 c).1 4, (h.1 c).1 5, (h.1 c).1 6, h.2 c⟩)
    (θ_run_and ((θ_run defs _ _).mono (fun _ h => h.1) (run m ρ)) ((θ_run defs _ _).mono (fun _ (h : _ ∧ _) => h.1) (quiet m ρ)))

end run

theorem real_of_pre (m : (ℓ : Loc Kernel2Ideal.nD Kernel2Ideal.τ Kernel2Ideal.sig) → Buf (Elt Ideal) ℓ)
    (h : Pre_Kernel2Ideal_attention_finite (hPre_attention_finite := Pre_attention_finite.Gen.facts) m) (c : Dev Kernel2Ideal.nD) :
    ∃ a : Fin 2 → Fin 16 → Head, Kernel2Ideal.AttnBwd.Real m c a := by
  have h0 := congrFun (h c) ix0
  unfold Pre_attention_finite.fn Pre_attention_finite.fn_part1 at h0
  obtain ⟨h0, h4⟩ := andi_one h0
  obtain ⟨h0, h3⟩ := andi_one h0
  obtain ⟨h0, h2⟩ := andi_one h0
  obtain ⟨h0, h1⟩ := andi_one h0
  obtain ⟨r0, e0⟩ := real_of_all _ _ _ _ _ _ h0
  obtain ⟨r1, e1⟩ := real_of_all _ _ _ _ _ _ h1
  obtain ⟨r2, e2⟩ := real_of_all _ _ _ _ _ _ h2
  obtain ⟨r3, e3⟩ := real_of_all _ _ _ _ _ _ h3
  obtain ⟨r4, e4⟩ := real_of_all _ _ _ _ _ _ h4
  exact ⟨fun b h => ⟨fun s d => r0 (ix4 b s h d), fun s d => r1 (ix4 b s h d), fun s d => r2 (ix4 b s h d), fun s => r3 (ix3 b s h), fun s d => r4 (ix4 b s h d)⟩,
    fun b s h d => e0 _, fun b s h d => e1 _, fun b s h d => e2 _, fun b s h => e3 _, fun b s h d => e4 _⟩

/-! ### The lanes that are compared -/

variable (q k v o : FVec Ideal On_attention_lanes.S2x2048x16x64 .f32) (c : FVec Ideal On_attention_lanes.S2x2048x16 .f32) (b : Fin 2) (h : Fin 16) (s : Fin 2048) (l : Fin 128)

theorem lanes_q (H : (On_attention_lanes.fn (F := Ideal) q k v c o).1 (ix4 b h s l) = 1#1) : l.val ≤ 64 :=
  (by decide +kernel : ∀ l : Fin 128, IntOp.cmpi .sle (BitVec.ofNat 32 l.val) 64#32 = 1#1 → l.val ≤ 64) l H

theorem lanes_k (H : (On_attention_lanes.fn (F := Ideal) q k v c o).2.1 (ix4 b h s l) = 1#1) : l.val < 64 ∨ l.val = 67 :=
  (by decide +kernel : ∀ l : Fin 128, IntOp.ori (IntOp.cmpi .slt (BitVec.ofNat 32 l.val) 64#32) (IntOp.cmpi .eq (BitVec.ofNat 32 l.val) 67#32) = 1#1 → l.val < 64 ∨ l.val = 67) l H

theorem lanes_v (H : (On_attention_lanes.fn (F := Ideal) q k v c o).2.2 (ix4 b h s l) = 1#1) : l.val < 64 :=
  (by decide +kernel : ∀ l : Fin 128, IntOp.cmpi .slt (BitVec.ofNat 32 l.val) 64#32 = 1#1 → l.val < 64) l H

section agree
open Cert.Kernel2Ideal.AttnBwd (gradQ gradK gradV)
open Cert.Reference2Ideal Cert.Reference2Ideal.Read Cert.Reference2Ideal.AttnBwd

variable {q k v o : FVec Ideal S2x2048x16x64 .f32} {c : FVec Ideal S2x2048x16 .f32} {a : Fin 2 → Fin 16 → Head} (R : Args q k v o c a)
include R

theorem agree_q (y : S2x16x2048x128.Idx) (hy : (On_attention_lanes.fn (F := Ideal) q k v c o).1 y = 1#1) :
    val_main_v80 (F := Ideal) q k v c o y = gradQ a y := by
  obtain ⟨b, h, s, l, rfl⟩ : ∃ (b : Fin 2) (h : Fin 16) (s : Fin 2048) (l : Fin 128), y = ix4 b h s l := ⟨y 0, y 1, y 2, y 3, by funext i; fin_cases i <;> rfl⟩
  exact dq_at R b h s l (lanes_q _ _ _ _ _ b h s l hy)

theorem agree_k (y : S2x16x2048x128.Idx) (hy : (On_attention_lanes.fn (F := Ideal) q k v c o).2.1 y = 1#1) :
    val_main_v86 (F := Ideal) q k v c o y = gradK a y := by
  obtain ⟨b, h, s, l, rfl⟩ : ∃ (b : Fin 2) (h : Fin 16) (s : Fin 2048) (l : Fin 128), y = ix4 b h s l := ⟨y 0, y 1, y 2, y 3, by funext i; fin_cases i <;> rfl⟩
  exact dk_at R b h s l (lanes_k _ _ _ _ _ b h s l hy)

theorem agree_v (y : S2x16x2048x128.Idx) (hy : (On_attention_lanes.fn (F := Ideal) q k v c o).2.2 y = 1#1) :
    val_main_v89 (F := Ideal) q k c o y = gradV a y := by
  obtain ⟨b, h, s, l, rfl⟩ : ∃ (b : Fin 2) (h : Fin 16) (s : Fin 2048) (l : Fin 128), y = ix4 b h s l := ⟨y 0, y 1, y 2, y 3, by funext i; fin_cases i <;> rfl⟩
  exact dv_at R b h s l (lanes_v _ _ _ _ _ b h s l hy)

end agree

set_option maxHeartbeats 2000000 in
theorem algebraic : algebraic_Kernel2Ideal_Reference2Ideal_on_attention_lanes_pre_attention_finite (hKernel2Ideal := Kernel2Ideal.Gen.facts)
    (hReference2Ideal := Reference2Ideal.Gen.facts) (hPre_attention_finite := Pre_attention_finite.Gen.facts) (hOn_attention_lanes := On_attention_lanes.Gen.facts) := by
  intro m g m' g' hpre hargs
  refine ⟨fun c => (Kernel2Ideal.AttnBwd.dats m 0 c).arrAt 4 Kernel2Ideal.cfg0.N, fun c => (Kernel2Ideal.AttnBwd.dats m 0 c).arrAt 5 Kernel2Ideal.cfg0.N,
    fun c => (Kernel2Ideal.AttnBwd.dats m 0 c).arrAt 6 Kernel2Ideal.cfg0.N, (θ_run Kernel2Ideal.defs _ _).mono (fun r h c => ?_) (run_blocks m g),
    (θ_run Reference2Ideal.defs _ _).mono (fun r h c => ?_) (Reference2Ideal.Value.run m' g')⟩
  · obtain ⟨h0, h1, h2, h3⟩ := h c
    exact ⟨fun i _ => congrFun h0 i, fun i _ => congrFun h1 i, fun i _ => congrFun h2 i, h3⟩
  obtain ⟨a, H⟩ := real_of_pre m hpre c
  obtain ⟨a0, a1, a2, a3, a4⟩ := hargs c
  have R : Reference2Ideal.AttnBwd.Args (m ((c.tc : Thread Kernel2Ideal.nD Kernel2Ideal.τ).loc Kernel2Ideal.main_arg0))
      (m ((c.tc : Thread Kernel2Ideal.nD Kernel2Ideal.τ).loc Kernel2Ideal.main_arg1)) (m ((c.tc : Thread Kernel2Ideal.nD Kernel2Ideal.τ).loc Kernel2Ideal.main_arg2))
      (m ((c.tc : Thread Kernel2Ideal.nD Kernel2Ideal.τ).loc Kernel2Ideal.main_arg4)) (m ((c.tc : Thread Kernel2Ideal.nD Kernel2Ideal.τ).loc Kernel2Ideal.main_arg3)) a :=
    ⟨H.hq, H.hk, H.hv, H.hc, H.ho⟩
  obtain ⟨h0, h1, h2, h3⟩ := h c
  rw [Reference2Ideal.Read.val_main_v80_eq, a0, a1, a2, a3, a4] at h0
  rw [Reference2Ideal.Read.val_main_v86_eq, a0, a1, a2, a3, a4] at h1
  rw [Reference2Ideal.Read.val_main_v89_eq, a0, a1, a3, a4] at h2
  have f0 := Kernel2Ideal.AttnBwd.final_q H
  have f1 := Kernel2Ideal.AttnBwd.final_k H
  have f2 := Kernel2Ideal.AttnBwd.final_v H
  have g0 := agree_q R
  have g1 := agree_k R
  have g2 := agree_v R
  exact ⟨fun y hy => (congrFun h0 y).trans ((g0 y hy).trans (congrFun f0 y).symm), fun y hy => (congrFun h1 y).trans ((g1 y hy).trans (congrFun f1 y).symm),
    fun y hy => (congrFun h2 y).trans ((g2 y hy).trans (congrFun f2 y).symm), h3⟩

end Cert.AttnBwd

end
-- ==== Proof.AttnGate.Math.lean ====
/- The gradient of the attention's gate over the real numbers. -/
module

public import proofs.«01_k».proof.Proof.Reals

@[expose] public section

set_option maxRecDepth 16384

noncomputable section

namespace Cert.AttnGate

open Idealize.ShloMosaic
open Cert.Reals

abbrev Row := Fin 1024 → ℝ

/-- The channel of head `h` at place `d`. -/
def ch (h : Fin 16) (d : Fin 64) : Fin 1024 := ⟨h.val * 64 + d.val, by omega⟩

/-- The gradient at the gate. -/
def dgate (y a f : ℝ) : ℝ := y * a * dsilu f

/-- The gradient at the attention's output, and its product with that output. -/
def dout (y f : ℝ) : ℝ := y * (f * sg f)

/-- The lanes of one head: the gradient, the negated product, zeros. -/
def lanes (y a f : Row) (h : Fin 16) (l : Fin 128) : ℝ :=
  if hl : l.val < 64 then dout (y (ch h ⟨l.val, hl⟩)) (f (ch h ⟨l.val, hl⟩))
  else if l.val = 64 then -∑ d, dout (y (ch h d)) (f (ch h d)) * a (ch h d)
  else 0

/-- A sum over 128 lanes, half by half. -/
theorem sum_halves (f : Fin 128 → ℝ) : ∑ k, f k = ∑ d : Fin 64, f ⟨d.val, by omega⟩ + ∑ d : Fin 64, f ⟨64 + d.val, by omega⟩ :=
  Fin.sum_univ_add (a := 64) (b := 64) f

/-- A sum over 128 lanes of which one half is kept. -/
theorem sum_low (g : Fin 128 → ℝ) : ∑ k : Fin 128, g k * (if k.val < 64 then 1 else 0) = ∑ d : Fin 64, g ⟨d.val, by omega⟩ := by
  rw [sum_halves]
  have h (d : Fin 64) : ¬(64 + d.val < 64) := by omega
  simp only [Fin.is_lt, if_true, mul_one, h, if_false, mul_zero, Finset.sum_const_zero, add_zero]

theorem sum_high (g : Fin 128 → ℝ) : ∑ k : Fin 128, g k * (if k.val < 64 then 0 else 1) = ∑ d : Fin 64, g ⟨64 + d.val, by omega⟩ := by
  rw [sum_halves]
  have h (d : Fin 64) : ¬(64 + d.val < 64) := by omega
  simp only [Fin.is_lt, if_true, mul_one, h, if_false, mul_zero, Finset.sum_const_zero, zero_add]

end Cert.AttnGate

end

end
-- ==== Proof.AttnGate.Payload.lean ====
/- The values that one step of the gate computes. -/
module

public import proofs.«01_k».proof.Proof.AttnGate.Math
public import proofs.«01_k».proof.Proof.Gen.Kernel3Ideal.Skeleton

@[expose] public section

set_option maxRecDepth 16384

noncomputable section

namespace Cert.Kernel3Ideal.AttnGate

open Idealize.ShloMosaic Idealize.ShloMosaic.TcCoe
open Cert.Reals Cert.AttnGate
open Cert.Kernel3Ideal Cert.Kernel3Ideal.Gen

variable {F : FTy → Type} [FloatOps F]

/-- The lanes' numbers. -/
def lane : IVec S256x128 32 := iota .tc S256x128 32 [1] iota_S256x128_d1_w32

/-- What a step computes for one pair of heads: the gradient at the gate, and the lanes of either head. -/
def gate (f a y : Vec F S256x128 .f32) : FVec F S256x128 .bf16 := k0_pay6 f a y
def even (f a y : Vec F S256x128 .f32) : FVec F S1x1x256x128 .bf16 :=
  k0_pay17 lane (k0_pay7 f y) (k0_pay9 (F := F)) (k0_pay13 f a y) (k0_pay14 f a y)
def odd (f a y : Vec F S256x128 .f32) : FVec F S1x1x256x128 .bf16 :=
  k0_pay18 lane (k0_pay15 (k0_pay9 (F := F)) (k0_pay13 f a y) (k0_pay14 f a y)) (k0_pay16 (k0_pay7 f y))

variable {f a y : Fin 256 → Fin 128 → ℝ} {A B C : Vec Ideal S256x128 .f32}
  (hf : ∀ r l, A (ix2 r l) = (f r l : EReal)) (ha : ∀ r l, B (ix2 r l) = (a r l : EReal)) (hy : ∀ r l, C (ix2 r l) = (y r l : EReal))

include hf ha hy

theorem gate_at (r : Fin 256) (l : Fin 128) : gate A B C (ix2 r l) = (dgate (y r l) (a r l) (f r l) : EReal) := by
  pointwise [gate, k0_pay6, k0_pay2, k0_pay3, k0_pay4, k0_pay5]
  simp only [hf, ha, hy, logistic_sg]
  norm_cast

omit ha in
theorem pay7_at (r : Fin 256) (l : Fin 128) : k0_pay7 A C (ix2 r l) = (dout (y r l) (f r l) : EReal) := by
  pointwise [k0_pay7, k0_pay2, k0_pay4, k0_pay5]
  simp only [hf, hy, logistic_sg]
  norm_cast

omit hf ha hy

theorem sitofp_ite (p : Prop) [Decidable p] : FloatOps.sitofp (F := Ideal) .f32 (if p then 1#32 else 0#32) = ((if p then 1 else 0 : ℝ) : EReal) := by
  split_ifs <;> simp [FloatOps.sitofp]

/-- The mask of the lanes of one half. -/
def mask (k l : Fin 128) : ℝ := if (k.val < 64 ↔ l.val < 64) then 1 else 0

theorem pay9_at (k l : Fin 128) : k0_pay9 (F := Ideal) (ix2 k l) = (mask k l : EReal) := by
  pointwise [k0_pay9]
  rw [(by decide +kernel : ∀ k l : Fin 128, BitVec.setWidth 32 (IntOp.xori (IntOp.xori (IntOp.cmpi .slt (BitVec.ofNat 32 k.val) 64#32)
    (IntOp.cmpi .slt (BitVec.ofNat 32 l.val) 64#32)) 1#1) = if (k.val < 64 ↔ l.val < 64) then 1#32 else 0#32) k l]
  exact sitofp_ite _

include hf ha hy

theorem pay8_at (r : Fin 256) (l : Fin 128) : k0_pay8 A B C (ix2 r l) = ((dout (y r l) (f r l) * a r l : ℝ) : EReal) := by
  pointwise [k0_pay8, k0_pay3]
  rw [pay7_at hf hy, ha, EReal.coe_mul]

/-- The second and the third of the three pieces vanish: a piece is what the first leaves over. -/
theorem pay11_at (r : Fin 256) (l : Fin 128) : k0_pay11 A B C (ix2 r l) = (0 : EReal) := by
  pointwise [k0_pay11, k0_pay10]
  rw [pay8_at hf ha hy, ← EReal.coe_sub, sub_self, EReal.coe_zero]

theorem pay13_at (r : Fin 256) (l : Fin 128) : k0_pay13 A B C (ix2 r l) = (0 : EReal) := by
  pointwise [k0_pay13, k0_pay12]
  rw [pay11_at hf ha hy]
  simp

theorem pay14_at (r : Fin 256) (l : Fin 128) : k0_pay14 A B C (ix2 r l)
    = ((∑ k : Fin 128, dout (y r k) (f r k) * a r k * mask k l : ℝ) : EReal) := by
  pointwise [k0_pay14, k0_pay10, k0_pay12]
  simp only [pay8_at hf ha hy, pay11_at hf ha hy, pay9_at, zero_mul, ← EReal.coe_mul, ← coe_sum]
  rw [Finset.sum_const_zero, add_zero]

theorem pay15_at (r : Fin 256) (l : Fin 128) : k0_pay15 (k0_pay9 (F := Ideal)) (k0_pay13 A B C) (k0_pay14 A B C) (ix2 r l)
    = ((-∑ k : Fin 128, dout (y r k) (f r k) * a r k * mask k l : ℝ) : EReal) := by
  pointwise [k0_pay15]
  simp only [pay13_at hf ha hy, pay14_at hf ha hy, zero_mul]
  rw [Finset.sum_const_zero, add_zero, zero_sub, EReal.coe_neg]

omit hf ha hy

/-- The product that takes the lanes of one head out of a pair's. -/
theorem taken (c : Fin 65) (hc : c = 0 ∨ c = 64) (g : Fin 128 → ℝ) (l : Fin 128) :
    ∑ x : Fin 128, (g x : EReal) * FloatOps.sitofp (F := Ideal) .f32 (BitVec.setWidth 32 (IntOp.andi
      (IntOp.cmpi .eq (BitVec.ofNat 32 x.val) (IntOp.addi (BitVec.ofNat 32 l.val) (BitVec.ofNat 32 c.val))) (IntOp.cmpi .slt (BitVec.ofNat 32 l.val) 64#32)))
      = ((if hl : l.val < 64 then g ⟨c.val + l.val, by omega⟩ else 0 : ℝ) : EReal) := by
  have e (x : Fin 128) : BitVec.setWidth 32 (IntOp.andi (IntOp.cmpi .eq (BitVec.ofNat 32 x.val) (IntOp.addi (BitVec.ofNat 32 l.val) (BitVec.ofNat 32 c.val)))
      (IntOp.cmpi .slt (BitVec.ofNat 32 l.val) 64#32)) = if (x.val = c.val + l.val ∧ l.val < 64) then 1#32 else 0#32 := by
    rcases hc with rfl | rfl
    · exact (by decide +kernel : ∀ x l : Fin 128, BitVec.setWidth 32 (IntOp.andi (IntOp.cmpi .eq (BitVec.ofNat 32 x.val) (IntOp.addi (BitVec.ofNat 32 l.val) 0#32))
        (IntOp.cmpi .slt (BitVec.ofNat 32 l.val) 64#32)) = if (x.val = 0 + l.val ∧ l.val < 64) then 1#32 else 0#32) x l
    · exact (by decide +kernel : ∀ x l : Fin 128, BitVec.setWidth 32 (IntOp.andi (IntOp.cmpi .eq (BitVec.ofNat 32 x.val) (IntOp.addi (BitVec.ofNat 32 l.val) 64#32))
        (IntOp.cmpi .slt (BitVec.ofNat 32 l.val) 64#32)) = if (x.val = 64 + l.val ∧ l.val < 64) then 1#32 else 0#32) x l
  simp only [e, sitofp_ite, ← EReal.coe_mul, ← coe_sum]
  congr 1
  split_ifs with hl
  · rw [Finset.sum_eq_single (⟨c.val + l.val, by omega⟩ : Fin 128)]
    · simp [hl]
    · intro b _ hb
      rw [if_neg (fun h => hb (Fin.ext h.1)), mul_zero]
    · simp
  · simp [hl]

/-- The lanes after the head's: the first piece, then the two that vanish. -/
theorem put (l : Fin 128) (s : ℝ) (g : EReal) :
    Scalar.select (IntOp.cmpi .eq (BitVec.ofNat 32 l.val) 66#32) ((s : EReal) - s - (s - s))
      (Scalar.select (IntOp.cmpi .eq (BitVec.ofNat 32 l.val) 65#32) ((s : EReal) - s) (Scalar.select (IntOp.cmpi .eq (BitVec.ofNat 32 l.val) 64#32) (s : EReal) g))
      = if l.val = 64 then (s : EReal) else if l.val = 65 ∨ l.val = 66 then 0 else g := by
  have e (n : Fin 128) : IntOp.cmpi .eq (BitVec.ofNat 32 l.val) (BitVec.ofNat 32 n.val) = if l.val = n.val then 1#1 else 0#1 :=
    (by decide +kernel : ∀ l n : Fin 128, IntOp.cmpi .eq (BitVec.ofNat 32 l.val) (BitVec.ofNat 32 n.val) = if l.val = n.val then 1#1 else 0#1) l n
  have e64 := e 64
  have e65 := e 65
  have e66 := e 66
  rw [show (64#32) = BitVec.ofNat 32 (64 : Fin 128).val from rfl, show (65#32) = BitVec.ofNat 32 (65 : Fin 128).val from rfl, show (66#32) = BitVec.ofNat 32 (66 : Fin 128).val from rfl,
    e64, e65, e66]
  have h0 : (s : EReal) - s = 0 := by rw [← EReal.coe_sub, sub_self, EReal.coe_zero]
  rw [h0]
  show Scalar.select (if l.val = 66 then 1#1 else 0#1) _ (Scalar.select (if l.val = 65 then 1#1 else 0#1) _ (Scalar.select (if l.val = 64 then 1#1 else 0#1) _ _)) = _
  split_ifs <;> first | omega | simp [Scalar.select]

include hf ha hy

/-- The lanes of the pair's first head, and of its second. -/
theorem even_at (z w : Fin 1) (r : Fin 256) (l : Fin 128) : even A B C (ix4 z w r l)
    = ((if hl : l.val < 64 then dout (y r ⟨l.val, l.isLt⟩) (f r ⟨l.val, l.isLt⟩)
        else if l.val = 64 then -∑ d : Fin 64, dout (y r ⟨d.val, by omega⟩) (f r ⟨d.val, by omega⟩) * a r ⟨d.val, by omega⟩ else 0 : ℝ) : EReal) := by
  pointwise [even, k0_pay17, lane, k0_pay16]
  simp only [pay15_at hf ha hy, pay7_at hf hy]
  have h := taken 0 (Or.inl rfl) (fun x => dout (y r x) (f r x)) l
  refine (put l _ _).trans ?_
  refine (congrArg (fun g => if l.val = 64 then _ else if l.val = 65 ∨ l.val = 66 then 0 else g) h).trans ?_
  have hs : ∑ k, dout (y r k) (f r k) * a r k * mask k 0 = _ :=
    (Finset.sum_congr rfl fun k _ => by simp [mask]).trans (sum_low (fun k => dout (y r k) (f r k) * a r k))
  split_ifs <;> first | omega | exact congrArg (fun x : ℝ => ((-x : ℝ) : EReal)) hs | simp

theorem odd_at (z w : Fin 1) (r : Fin 256) (l : Fin 128) : odd A B C (ix4 z w r l)
    = ((if hl : l.val < 64 then dout (y r ⟨64 + l.val, by omega⟩) (f r ⟨64 + l.val, by omega⟩)
        else if l.val = 64 then -∑ d : Fin 64, dout (y r ⟨64 + d.val, by omega⟩) (f r ⟨64 + d.val, by omega⟩) * a r ⟨64 + d.val, by omega⟩ else 0 : ℝ) : EReal) := by
  pointwise [odd, k0_pay18, lane, k0_pay16]
  simp only [pay15_at hf ha hy, pay7_at hf hy]
  have h := taken 64 (Or.inr rfl) (fun x => dout (y r x) (f r x)) l
  refine (put l _ _).trans ?_
  refine (congrArg (fun g => if l.val = 64 then _ else if l.val = 65 ∨ l.val = 66 then 0 else g) h).trans ?_
  have hs : ∑ k, dout (y r k) (f r k) * a r k * mask k 64 = _ :=
    (Finset.sum_congr rfl fun k _ => by by_cases h : k.val < 64 <;> simp [mask, h]).trans (sum_high (fun k => dout (y r k) (f r k) * a r k))
  split_ifs <;> first | omega | exact congrArg (fun x : ℝ => ((-x : ℝ) : EReal)) hs | simp

end Cert.Kernel3Ideal.AttnGate

end

end
-- ==== Proof.AttnGate.Blocks.lean ====
/- The blocks that one step of the gate reads. -/
module

public import proofs.«01_k».proof.Proof.AttnGate.Math
public import proofs.«01_k».proof.Proof.Gen.Kernel3Ideal.Frame
public import Idealize.ShloMosaic.Lib.Pipeline.ValueKit
public import Idealize.ShloMosaic.Lib.Claim
public import Idealize.ShloMosaic.Lib.StableHlo.RunRead

@[expose] public section

set_option maxRecDepth 16384

noncomputable section

namespace Cert.Kernel3Ideal.AttnGate

open Idealize.ShloMosaic Idealize.ShloMosaic.TcCoe Idealize.SL.Sem
open Cert.Reals Cert.AttnGate
open Cert.Kernel3Ideal Cert.Kernel3Ideal.Gen
open Idealize.ShloMosaic.Tactic

/-- The sequence and the frame of a token of a step. -/
def seq (t : Fin cfg0.N) : Fin 2 := ⟨t.val / 8, by have := lt_of_lt_of_eq t.isLt N_0; omega⟩
def frame (t : Fin cfg0.N) (r : Fin 256) : Fin 2048 := ⟨t.val % 8 * 256 + r.val, by omega⟩
def head (j : Fin 1024) : Fin 16 := ⟨j.val / 64, by omega⟩
def place (j : Fin 1024) : Fin 64 := ⟨j.val % 64, by omega⟩

theorem idx : ∀ t : Fin cfg0.N, win0_0.index t = ![t.val, 0] ∧ win0_1.index t = ![t.val, 0] ∧ win0_2.index t = ![t.val, 3]
    ∧ win0_3.index t = ![t.val, 0] ∧ win0_4.index t = ![t.val / 8, 0, t.val % 8, 0] :=
  (by decide +kernel : ∀ t : Fin grid0.N, _)

variable (m : (ℓ : Loc nD τ sig) → Buf (Elt Ideal) ℓ) (c : Dev nD)

theorem block_y (t : Fin cfg0.N) (r : Fin 256) (j : Fin 1024) :
    iblk m c 0 t (ix2 r j) = m ((c : Thread nD τ).loc main_arg2) (ix3 (seq t) (frame t r) (⟨j.val, by omega⟩ : Fin 2048)) := by
  have ht := lt_of_lt_of_eq t.isLt N_0
  blk_simp [iblk, idx t]
  entry_read
  pointwise
  blk_ext [idx t, seq, frame]

theorem block_a (t : Fin cfg0.N) (r : Fin 256) (j : Fin 1024) :
    iblk m c 1 t (ix2 r j) = m ((c : Thread nD τ).loc main_arg1) (ix4 (seq t) (frame t r) (head j) (place j)) := by
  have ht := lt_of_lt_of_eq t.isLt N_0
  blk_simp [iblk, idx t]
  entry_read
  pointwise
  blk_ext [idx t, seq, frame, head, place]

theorem block_f (t : Fin cfg0.N) (r : Fin 256) (j : Fin 1024) :
    iblk m c 2 t (ix2 r j) = m ((c : Thread nD τ).loc main_arg0) (ix3 (seq t) (frame t r) (⟨3088 + j.val, by omega⟩ : Fin 7184)) := by
  have ht := lt_of_lt_of_eq t.isLt N_0
  blk_simp [iblk, idx t]
  entry_read
  pointwise
  rw [dif_neg (by blk_simp [idx t]; omega)]
  blk_ext [idx t, seq, frame]

end Cert.Kernel3Ideal.AttnGate

end

end
-- ==== Proof.Tiles.lean ====
/- A buffer written one box of rows and columns at a time: what an entry holds after the writes, and what a load of a box gives. -/
module

public import Idealize.ShloMosaic.Lib.Pipeline.ValueKit
public import Idealize.ShloMosaic.Lib.WritesUnit

@[expose] public section

set_option maxRecDepth 16384

noncomputable section

namespace Cert.Tiles

open Idealize.ShloMosaic

variable {Val : EltTy → Type} {e : EltTy} {R C o p W V : ℕ}

/-- A box that fits ends before the last row and the last column. -/
theorem row_lt (inb : ∀ a, (![o, p] : Fin 2 → ℕ) a + (![W, V] : Fin 2 → ℕ) a ≤ (⟨2, ![R, C]⟩ : Shape).size a) (a : Fin W) : o + a.val < R := by
  have h : o + W ≤ R := inb 0
  omega

theorem col_lt (inb : ∀ a, (![o, p] : Fin 2 → ℕ) a + (![W, V] : Fin 2 → ℕ) a ≤ (⟨2, ![R, C]⟩ : Shape).size a) (b : Fin V) : p + b.val < C := by
  have h : p + V ≤ C := inb 1
  omega

/-- The rectangle of a box of rows and columns. -/
abbrev box (inb : ∀ a, (![o, p] : Fin 2 → ℕ) a + (![W, V] : Fin 2 → ℕ) a ≤ (⟨2, ![R, C]⟩ : Shape).size a) : Rect (⟨2, ![R, C]⟩ : Shape) :=
  Rect.unit ![o, p] ![W, V] inb

theorem box_emb (inb : ∀ a, (![o, p] : Fin 2 → ℕ) a + (![W, V] : Fin 2 → ℕ) a ≤ (⟨2, ![R, C]⟩ : Shape).size a) (a : Fin W) (b : Fin V) :
    (box inb).emb (ix2 a b) = ix2 (⟨o + a.val, row_lt inb a⟩ : Fin R) (⟨p + b.val, col_lt inb b⟩ : Fin C) := by
  funext x
  apply Fin.ext
  match x with
  | ⟨0, _⟩ => show o + 1 * a.val = o + a.val; omega
  | ⟨1, _⟩ => show p + 1 * b.val = p + b.val; omega

/-- The same the other way round: an entry inside the box is the image of its place in the box. -/
theorem eq_emb (inb : ∀ a, (![o, p] : Fin 2 → ℕ) a + (![W, V] : Fin 2 → ℕ) a ≤ (⟨2, ![R, C]⟩ : Shape).size a) (a : Fin R) (b : Fin C)
    (h : (o ≤ a.val ∧ a.val < o + W) ∧ p ≤ b.val ∧ b.val < p + V) :
    ix2 a b = (box inb).emb (ix2 (⟨a.val - o, by omega⟩ : Fin W) (⟨b.val - p, by omega⟩ : Fin V)) := by
  rw [box_emb]
  congr 1
  · exact Fin.ext (by show a.val = o + (a.val - o); omega)
  · exact Fin.ext (by show b.val = p + (b.val - p); omega)

theorem not_mem_box (inb : ∀ a, (![o, p] : Fin 2 → ℕ) a + (![W, V] : Fin 2 → ℕ) a ≤ (⟨2, ![R, C]⟩ : Shape).size a) (a : Fin R) (b : Fin C)
    (h : ¬((o ≤ a.val ∧ a.val < o + W) ∧ p ≤ b.val ∧ b.val < p + V)) : ix2 a b ∉ (box inb).set := by
  rw [Rect.mem_set_unit]
  intro hall
  exact h ⟨hall 0, hall 1⟩

/-- A load of a box of known contents. -/
theorem ld_box (X : (⟨2, ![R, C]⟩ : Shape).Idx → Val e)
    (inb : ∀ a, (![o, p] : Fin 2 → ℕ) a + (![W, V] : Fin 2 → ℕ) a ≤ (⟨2, ![R, C]⟩ : Shape).size a) (a : Fin W) (b : Fin V) :
    View.ld X (box inb) (ix2 a b) = X (ix2 (⟨o + a.val, row_lt inb a⟩ : Fin R) (⟨p + b.val, col_lt inb b⟩ : Fin C)) := by
  rw [← box_emb inb a b]
  rfl

variable [∀ e, Nonempty (Val e)]

/-- The newest box, or what the earlier writes left. -/
theorem canon_box (inb : ∀ a, (![o, p] : Fin 2 → ℕ) a + (![W, V] : Fin 2 → ℕ) a ≤ (⟨2, ![R, C]⟩ : Shape).size a) (w : (box inb).shape.Idx → Val e)
    (L : List (View.Piece Val (⟨2, ![R, C]⟩ : Shape) e)) (a : Fin R) (b : Fin C) :
    View.canon (Val := Val) (s := ⟨2, ![R, C]⟩) (e := e) (⟨box inb, w⟩ :: L) (ix2 a b)
      = if h : (o ≤ a.val ∧ a.val < o + W) ∧ p ≤ b.val ∧ b.val < p + V
        then w (ix2 (⟨a.val - o, by omega⟩ : Fin W) (⟨b.val - p, by omega⟩ : Fin V))
        else View.canon (Val := Val) (s := ⟨2, ![R, C]⟩) (e := e) L (ix2 a b) := by
  split
  · rename_i h
    rw [eq_emb inb a b h]
    exact View.canon_cons_emb _ _ _ _
  · rename_i h
    exact View.canon_cons_of_not_mem _ _ (not_mem_box inb a b h)

/-- The same over earlier contents that no write covered. -/
theorem read_box {sig : RefSig} {κ : Kind} {sp : Space} (v : View sig κ sp (⟨2, ![R, C]⟩ : Shape) e) (f : v.ty.Contents Val)
    (inb : ∀ a, (![o, p] : Fin 2 → ℕ) a + (![W, V] : Fin 2 → ℕ) a ≤ (⟨2, ![R, C]⟩ : Shape).size a) (w : (box inb).shape.Idx → Val e)
    (L : List (View.Piece Val (⟨2, ![R, C]⟩ : Shape) e)) (a : Fin R) (b : Fin C) :
    v.read Val (v.writes Val f (⟨box inb, w⟩ :: L)) (ix2 a b)
      = if h : (o ≤ a.val ∧ a.val < o + W) ∧ p ≤ b.val ∧ b.val < p + V
        then w (ix2 (⟨a.val - o, by omega⟩ : Fin W) (⟨b.val - p, by omega⟩ : Fin V))
        else v.read Val (v.writes Val f L) (ix2 a b) := by
  split
  · rename_i h
    rw [eq_emb inb a b h]
    exact View.read_writes_cons_emb _ _ _ _ _ _
  · rename_i h
    by_cases h0 : o ≤ a.val ∧ a.val < o + W
    · exact View.read_writes_cons_unit_of_not_mem v f inb w L _ rfl 1 (by show b.val < p ∨ p + V ≤ b.val; omega)
    · exact View.read_writes_cons_unit_of_not_mem v f inb w L _ rfl 0 (by show a.val < o ∨ o + W ≤ a.val; omega)

/-- A load of a box after writes. -/
theorem readCov_box {sig : RefSig} {κ : Kind} {sp : Space} (v : View sig κ sp (⟨2, ![R, C]⟩ : Shape) e)
    (inb : ∀ a, (![o, p] : Fin 2 → ℕ) a + (![W, V] : Fin 2 → ℕ) a ≤ (⟨2, ![R, C]⟩ : Shape).size a)
    (L : List (View.Piece Val (⟨2, ![R, C]⟩ : Shape) e)) (a : Fin W) (b : Fin V) :
    v.readCov L (box inb).toLoadRect (ix2 a b)
      = View.canon (Val := Val) (s := ⟨2, ![R, C]⟩) (e := e) L (ix2 (⟨o + a.val, row_lt inb a⟩ : Fin R) (⟨p + b.val, col_lt inb b⟩ : Fin C)) := by
  rw [View.readCov_eq_canon', ← box_emb inb a b]
  rfl

end Cert.Tiles

end
-- ==== Proof.AttnGate.Kernel.lean ====
/- What the kernel of the gate leaves in its results. -/
module

public import proofs.«01_k».proof.Proof.AttnGate.Payload
public import proofs.«01_k».proof.Proof.AttnGate.Blocks
public import proofs.«01_k».proof.Proof.Tiles

@[expose] public section

set_option maxRecDepth 16384

noncomputable section

namespace Cert.Kernel3Ideal.AttnGate

open Idealize.ShloMosaic Idealize.ShloMosaic.TcCoe Idealize.SL.Sem
open Idealize.ShloMosaic.Pipeline (Dat)
open Cert.Reals Cert.AttnGate
open Cert.Kernel3Ideal Cert.Kernel3Ideal.Gen
open Idealize.ShloMosaic.Tactic

/-- Every pair of heads goes through the same operations. -/
theorem out3_eq (x0 x1 x2 : Vec Ideal S256x1024 .f32) : out0_3 x0 x1 x2 = View.canon [
    ⟨r0_21, gate (View.ld x2 r0_21) (View.ld x1 r0_21) (View.ld x0 r0_21)⟩,
    ⟨r0_18, gate (View.ld x2 r0_18) (View.ld x1 r0_18) (View.ld x0 r0_18)⟩,
    ⟨r0_15, gate (View.ld x2 r0_15) (View.ld x1 r0_15) (View.ld x0 r0_15)⟩,
    ⟨r0_12, gate (View.ld x2 r0_12) (View.ld x1 r0_12) (View.ld x0 r0_12)⟩,
    ⟨r0_9, gate (View.ld x2 r0_9) (View.ld x1 r0_9) (View.ld x0 r0_9)⟩,
    ⟨r0_6, gate (View.ld x2 r0_6) (View.ld x1 r0_6) (View.ld x0 r0_6)⟩,
    ⟨r0_3, gate (View.ld x2 r0_3) (View.ld x1 r0_3) (View.ld x0 r0_3)⟩,
    ⟨r0_0, gate (View.ld x2 r0_0) (View.ld x1 r0_0) (View.ld x0 r0_0)⟩] := by
  rfl

theorem out4_eq (x0 x1 x2 : Vec Ideal S256x1024 .f32) : out0_4 x0 x1 x2 = View.canon [
    ⟨r0_23, odd (View.ld x2 r0_21) (View.ld x1 r0_21) (View.ld x0 r0_21)⟩, ⟨r0_22, even (View.ld x2 r0_21) (View.ld x1 r0_21) (View.ld x0 r0_21)⟩,
    ⟨r0_20, odd (View.ld x2 r0_18) (View.ld x1 r0_18) (View.ld x0 r0_18)⟩, ⟨r0_19, even (View.ld x2 r0_18) (View.ld x1 r0_18) (View.ld x0 r0_18)⟩,
    ⟨r0_17, odd (View.ld x2 r0_15) (View.ld x1 r0_15) (View.ld x0 r0_15)⟩, ⟨r0_16, even (View.ld x2 r0_15) (View.ld x1 r0_15) (View.ld x0 r0_15)⟩,
    ⟨r0_14, odd (View.ld x2 r0_12) (View.ld x1 r0_12) (View.ld x0 r0_12)⟩, ⟨r0_13, even (View.ld x2 r0_12) (View.ld x1 r0_12) (View.ld x0 r0_12)⟩,
    ⟨r0_11, odd (View.ld x2 r0_9) (View.ld x1 r0_9) (View.ld x0 r0_9)⟩, ⟨r0_10, even (View.ld x2 r0_9) (View.ld x1 r0_9) (View.ld x0 r0_9)⟩,
    ⟨r0_8, odd (View.ld x2 r0_6) (View.ld x1 r0_6) (View.ld x0 r0_6)⟩, ⟨r0_7, even (View.ld x2 r0_6) (View.ld x1 r0_6) (View.ld x0 r0_6)⟩,
    ⟨r0_5, odd (View.ld x2 r0_3) (View.ld x1 r0_3) (View.ld x0 r0_3)⟩, ⟨r0_4, even (View.ld x2 r0_3) (View.ld x1 r0_3) (View.ld x0 r0_3)⟩,
    ⟨r0_2, odd (View.ld x2 r0_0) (View.ld x1 r0_0) (View.ld x0 r0_0)⟩, ⟨r0_1, even (View.ld x2 r0_0) (View.ld x1 r0_0) (View.ld x0 r0_0)⟩] := by
  rfl

/-- The newest head's lanes, or what the earlier writes left. -/
theorem canon_head {Val : EltTy → Type} {e : EltTy} [∀ e, Nonempty (Val e)] {o : ℕ}
    (inb : ∀ a, (![0, o, 0, 0] : Fin 4 → ℕ) a + S1x1x256x128.size a ≤ S1x16x256x128.size a) (w : S1x1x256x128.Idx → Val e)
    (L : List (View.Piece Val S1x16x256x128 e)) (z : Fin 1) (h : Fin 16) (r : Fin 256) (l : Fin 128) :
    View.canon (Val := Val) (s := S1x16x256x128) (e := e) (⟨Rect.unit (s := S1x16x256x128) ![0, o, 0, 0] S1x1x256x128.size inb, w⟩ :: L) (ix4 z h r l)
      = if h.val = o then w (ix4 0 0 r l) else View.canon (Val := Val) (s := S1x16x256x128) (e := e) L (ix4 z h r l) := by
  split
  · rename_i e0
    have : ix4 z h r l = (Rect.unit (s := S1x16x256x128) ![0, o, 0, 0] S1x1x256x128.size inb).emb (ix4 0 0 r l) := by
      funext a
      apply Fin.ext
      match a with
      | ⟨0, _⟩ => show z.val = 0 + 1 * 0; omega
      | ⟨1, _⟩ => show h.val = o + 1 * 0; omega
      | ⟨2, _⟩ => show r.val = 0 + 1 * r.val; omega
      | ⟨3, _⟩ => show l.val = 0 + 1 * l.val; omega
    rw [this]
    exact View.canon_cons_emb _ _ _ _
  · rename_i e0
    refine View.canon_cons_of_not_mem _ _ ?_
    rw [Rect.mem_set_unit]
    intro hall
    have h1 : o ≤ h.val ∧ h.val < o + 1 := hall 1
    omega

section block

variable {f a y : Fin 256 → Row} {X0 X1 X2 : Vec Ideal S256x1024 .f32}
  (hy : ∀ r j, X0 (ix2 r j) = (y r j : EReal)) (ha : ∀ r j, X1 (ix2 r j) = (a r j : EReal)) (hf : ∀ r j, X2 (ix2 r j) = (f r j : EReal))

/-- The columns of one pair of heads. -/
theorem pair_lt {p : ℕ} (inb : ∀ a, (![0, p] : Fin 2 → ℕ) a + (![256, 128] : Fin 2 → ℕ) a ≤ S256x1024.size a) (l : Fin 128) : p + l.val < 1024 := by
  have h : p + 128 ≤ 1024 := inb 1
  omega

theorem ld_pair {X : Vec Ideal S256x1024 .f32} {x : Fin 256 → Row} (hx : ∀ r j, X (ix2 r j) = (x r j : EReal)) {p : ℕ}
    (inb : ∀ a, (![0, p] : Fin 2 → ℕ) a + (![256, 128] : Fin 2 → ℕ) a ≤ S256x1024.size a) (r : Fin 256) (l : Fin 128) :
    View.ld X (Rect.unit (s := S256x1024) ![0, p] ![256, 128] inb) (ix2 r l) = (x r ⟨p + l.val, pair_lt inb l⟩ : EReal) := by
  refine (Cert.Tiles.ld_box X inb r l).trans ?_
  rw [← hx]
  congr 2
  exact Fin.ext (Nat.zero_add _)

include hy ha hf

theorem gate_piece {p : ℕ} (inb : ∀ a, (![0, p] : Fin 2 → ℕ) a + (![256, 128] : Fin 2 → ℕ) a ≤ S256x1024.size a) (r r' : Fin 256) (j : Fin 1024) (l : Fin 128)
    (hr : r' = r) (hl : j.val = p + l.val) :
    gate (View.ld X2 (Rect.unit (s := S256x1024) ![0, p] ![256, 128] inb)) (View.ld X1 (Rect.unit (s := S256x1024) ![0, p] ![256, 128] inb))
      (View.ld X0 (Rect.unit (s := S256x1024) ![0, p] ![256, 128] inb)) (ix2 r' l) = (dgate (y r j) (a r j) (f r j) : EReal) := by
  obtain rfl : j = ⟨p + l.val, pair_lt inb l⟩ := Fin.ext hl
  subst hr
  exact gate_at (ld_pair hf inb) (ld_pair ha inb) (ld_pair hy inb) _ l

theorem even_piece {p : ℕ} (inb : ∀ a, (![0, p] : Fin 2 → ℕ) a + (![256, 128] : Fin 2 → ℕ) a ≤ S256x1024.size a) (h : Fin 16) (hp : h.val * 64 = p) (r : Fin 256) (l : Fin 128) :
    even (View.ld X2 (Rect.unit (s := S256x1024) ![0, p] ![256, 128] inb)) (View.ld X1 (Rect.unit (s := S256x1024) ![0, p] ![256, 128] inb))
      (View.ld X0 (Rect.unit (s := S256x1024) ![0, p] ![256, 128] inb)) (ix4 0 0 r l) = (lanes (y r) (a r) (f r) h l : EReal) := by
  subst hp
  exact even_at (ld_pair hf inb) (ld_pair ha inb) (ld_pair hy inb) 0 0 r l

theorem odd_piece {p : ℕ} (inb : ∀ a, (![0, p] : Fin 2 → ℕ) a + (![256, 128] : Fin 2 → ℕ) a ≤ S256x1024.size a) (h : Fin 16) (hp : h.val * 64 = p + 64) (r : Fin 256) (l : Fin 128) :
    odd (View.ld X2 (Rect.unit (s := S256x1024) ![0, p] ![256, 128] inb)) (View.ld X1 (Rect.unit (s := S256x1024) ![0, p] ![256, 128] inb))
      (View.ld X0 (Rect.unit (s := S256x1024) ![0, p] ![256, 128] inb)) (ix4 0 0 r l) = (lanes (y r) (a r) (f r) h l : EReal) := by
  refine (odd_at (ld_pair hf inb) (ld_pair ha inb) (ld_pair hy inb) 0 0 r l).trans ?_
  have e (d : ℕ) (h0 : p + (64 + d) < 1024) (h1 : h.val * 64 + d < 1024) : (⟨p + (64 + d), h0⟩ : Fin 1024) = ⟨h.val * 64 + d, h1⟩ := Fin.ext (by show p + (64 + d) = h.val * 64 + d; omega)
  unfold lanes ch
  congr 1
  split_ifs with h0 h1
  · rw [e l.val _ (by omega)]
  · refine congrArg _ (Finset.sum_congr rfl fun d _ => ?_)
    rw [e d.val _ (by omega)]
  · rfl

/-- What a step leaves in its two results. -/
theorem out3_at (r : Fin 256) (j : Fin 1024) : out0_3 X0 X1 X2 (ix2 r j) = (dgate (y r j) (a r j) (f r j) : EReal) := by
  rw [out3_eq]
  iterate 8
    refine (Cert.Tiles.canon_box _ _ _ r j).trans ?_
    split
    · rename_i h
      exact gate_piece hy ha hf _ r _ j _ (Fin.ext (Nat.sub_zero _)) (by show j.val = _ + (j.val - _); omega)
  omega

theorem out4_at (z : Fin 1) (h : Fin 16) (r : Fin 256) (l : Fin 128) : out0_4 X0 X1 X2 (ix4 z h r l) = (lanes (y r) (a r) (f r) h l : EReal) := by
  rw [out4_eq]
  iterate 8
    refine (canon_head _ _ _ z h r l).trans ?_
    split
    · rename_i e
      exact odd_piece hy ha hf _ h (by omega) r l
    refine (canon_head _ _ _ z h r l).trans ?_
    split
    · rename_i e
      exact even_piece hy ha hf _ h (by omega) r l
  omega

end block

variable (m : (ℓ : Loc nD τ sig) → Buf (Elt Ideal) ℓ) (c : Dev nD)

/-- The arguments as arrays of real numbers. -/
structure Real (f a y : Fin 2 → Fin 2048 → Row) : Prop where
  hf : ∀ q s (j : Fin 1024), m ((c : Thread nD τ).loc main_arg0) (ix3 q s (⟨3088 + j.val, by omega⟩ : Fin 7184)) = (f q s j : EReal)
  ha : ∀ q s h d, m ((c : Thread nD τ).loc main_arg1) (ix4 q s h d) = (a q s (ch h d) : EReal)
  hy : ∀ q s (j : Fin 1024), m ((c : Thread nD τ).loc main_arg2) (ix3 q s (⟨j.val, by omega⟩ : Fin 2048)) = (y q s j : EReal)

variable {m c} {f a y : Fin 2 → Fin 2048 → Row} (H : Real m c f a y)

def sq (n : Fin 4096) : Fin 2 := ⟨n.val / 2048, by omega⟩
def fr (n : Fin 4096) : Fin 2048 := ⟨n.val % 2048, by omega⟩

theorem emb3 (t : Fin cfg0.N) (r : Fin 256) (j : Fin 1024) :
    (win0_3.blk t).view.emb (ix2 r j) = (ix2 (⟨t.val * 256 + r.val, by have := lt_of_lt_of_eq t.isLt N_0; omega⟩ : Fin 4096) j : S4096x1024.Idx) := by
  blk_ext [idx t]

theorem emb4 (t : Fin cfg0.N) (z : Fin 1) (h : Fin 16) (r : Fin 256) (l : Fin 128) :
    (win0_4.blk t).view.emb (ix4 z h r l) = (ix4 (seq t) h (frame t r) l : S2x16x2048x128.Idx) := by
  blk_ext [idx t, seq, frame]

theorem ch_head (j : Fin 1024) : ch (head j) (place j) = j := Fin.ext (by show j.val / 64 * 64 + j.val % 64 = j.val; omega)

include H

theorem after3_at (t : Fin cfg0.N) (r : Fin 256) (j : Fin 1024) : (dats m 0 c).after 3 t (ix2 r j)
    = (dgate (y (seq t) (frame t r) j) (a (seq t) (frame t r) j) (f (seq t) (frame t r) j) : EReal) := by
  rw [after0_3]
  exact out3_at (y := fun r => y (seq t) (frame t r)) (a := fun r => a (seq t) (frame t r)) (f := fun r => f (seq t) (frame t r))
    (fun r j => (block_y m c t r j).trans (H.hy _ _ _)) (fun r j => (block_a m c t r j).trans ((H.ha _ _ _ _).trans (by rw [ch_head])))
    (fun r j => (block_f m c t r j).trans (H.hf _ _ _)) r j

theorem after4_at (t : Fin cfg0.N) (z : Fin 1) (h : Fin 16) (r : Fin 256) (l : Fin 128) : (dats m 0 c).after 4 t (ix4 z h r l)
    = (lanes (y (seq t) (frame t r)) (a (seq t) (frame t r)) (f (seq t) (frame t r)) h l : EReal) := by
  rw [after0_4]
  exact out4_at (y := fun r => y (seq t) (frame t r)) (a := fun r => a (seq t) (frame t r)) (f := fun r => f (seq t) (frame t r))
    (fun r j => (block_y m c t r j).trans (H.hy _ _ _)) (fun r j => (block_a m c t r j).trans ((H.ha _ _ _ _).trans (by rw [ch_head])))
    (fun r j => (block_f m c t r j).trans (H.hf _ _ _)) z h r l

theorem final3 : (dats m 0 c).arrAt 3 cfg0.N = (fun x : S4096x1024.Idx =>
    (dgate (y (sq (x 0)) (fr (x 0)) (x 1)) (a (sq (x 0)) (fr (x 0)) (x 1)) (f (sq (x 0)) (fr (x 0)) (x 1)) : EReal)) := by
  refine (dats m 0 c).arrAt_eq_of_covers 3 _ (by decide +kernel) fun t hf x => ?_
  obtain ⟨r, j, rfl⟩ : ∃ (r : Fin 256) (j : Fin 1024), x = ix2 r j := ⟨x 0, x 1, by funext i; fin_cases i <;> rfl⟩
  refine (after3_at H t r j).trans (Eq.trans ?_ (congrArg (fun x : S4096x1024.Idx =>
    (dgate (y (sq (x 0)) (fr (x 0)) (x 1)) (a (sq (x 0)) (fr (x 0)) (x 1)) (f (sq (x 0)) (fr (x 0)) (x 1)) : EReal)) (emb3 t r j)).symm)
  have ht := lt_of_lt_of_eq t.isLt N_0
  have h1 : sq (⟨t.val * 256 + r.val, by omega⟩ : Fin 4096) = seq t := Fin.ext (by show (t.val * 256 + r.val) / 2048 = t.val / 8; omega)
  have h2 : fr (⟨t.val * 256 + r.val, by omega⟩ : Fin 4096) = frame t r := Fin.ext (by show (t.val * 256 + r.val) % 2048 = t.val % 8 * 256 + r.val; omega)
  show _ = (dgate (y (sq ⟨t.val * 256 + r.val, _⟩) (fr ⟨t.val * 256 + r.val, _⟩) j) (a (sq ⟨t.val * 256 + r.val, _⟩) (fr ⟨t.val * 256 + r.val, _⟩) j)
    (f (sq ⟨t.val * 256 + r.val, _⟩) (fr ⟨t.val * 256 + r.val, _⟩) j) : EReal)
  rw [h1, h2]

theorem final4 : (dats m 0 c).arrAt 4 cfg0.N = (fun x : S2x16x2048x128.Idx =>
    (lanes (y (x 0) (x 2)) (a (x 0) (x 2)) (f (x 0) (x 2)) (x 1) (x 3) : EReal)) := by
  refine (dats m 0 c).arrAt_eq_of_covers 4 _ (by decide +kernel) fun t hf x => ?_
  obtain ⟨z, h, r, l, rfl⟩ : ∃ (z : Fin 1) (h : Fin 16) (r : Fin 256) (l : Fin 128), x = ix4 z h r l := ⟨x 0, x 1, x 2, x 3, by funext i; fin_cases i <;> rfl⟩
  exact (after4_at H t z h r l).trans (congrArg (fun x : S2x16x2048x128.Idx =>
    (lanes (y (x 0) (x 2)) (a (x 0) (x 2)) (f (x 0) (x 2)) (x 1) (x 3) : EReal)) (emb4 t z h r l)).symm

end Cert.Kernel3Ideal.AttnGate

end

end
-- ==== Proof.AttnGate.Reference.lean ====
/- The gradient of the gate that the reference computes. -/
module

public import proofs.«01_k».proof.Proof.AttnGate.Math
public import proofs.«01_k».proof.Proof.Gen.Reference3Ideal.Read

@[expose] public section

set_option maxRecDepth 16384

noncomputable section

namespace Cert.Reference3Ideal.AttnGate

open Idealize.ShloMosaic Idealize.ShloMosaic.TcCoe
open Cert.Reals Cert.AttnGate
open Cert.Reference3Ideal Cert.Reference3Ideal.Gen Cert.Reference3Ideal.Read

/-- The arguments as arrays of real numbers. -/
structure Real (x0 : Vec Ideal S2x2048x7184 .f32) (x1 : Vec Ideal S2x2048x16x64 .f32) (x2 : Vec Ideal S2x2048x2048 .f32) (f a y : Fin 2 → Fin 2048 → Row) : Prop where
  hf : ∀ q s (j : Fin 1024), x0 (ix3 q s (⟨3088 + j.val, by omega⟩ : Fin 7184)) = (f q s j : EReal)
  ha : ∀ q s h d, x1 (ix4 q s h d) = (a q s (ch h d) : EReal)
  hy : ∀ q s (j : Fin 1024), x2 (ix3 q s (⟨j.val, by omega⟩ : Fin 2048)) = (y q s j : EReal)

variable {x0 : Vec Ideal S2x2048x7184 .f32} {x1 : Vec Ideal S2x2048x16x64 .f32} {x2 : Vec Ideal S2x2048x2048 .f32} {f a y : Fin 2 → Fin 2048 → Row}
variable (H : Real x0 x1 x2 f a y)
include H

theorem f_at (q : Fin 2) (s : Fin 2048) (j : Fin 1024) : val_main_v0 (F := Ideal) x0 (ix3 q s j) = (f q s j : EReal) := by
  pointwise [val_main_v0]
  exact H.hf q s j

theorem y_at (q : Fin 2) (s : Fin 2048) (j : Fin 1024) : val_main_v4 (F := Ideal) x2 (ix3 q s j) = (y q s j : EReal) := by
  pointwise [val_main_v4]
  exact H.hy q s j

theorem a_at (q : Fin 2) (s : Fin 2048) (j : Fin 1024) : val_main_v1 (F := Ideal) x1 (ix3 q s j) = (a q s j : EReal) := by
  pointwise [val_main_v1]
  rw [H.ha]
  exact congrArg (fun k => (a q s k : EReal)) (Fin.ext (by show j.val / 64 * 64 + j.val % 64 = j.val; omega))

theorem sg_at (q : Fin 2) (s : Fin 2048) (j : Fin 1024) : val_main_v2_2 (F := Ideal) x0 (ix3 q s j) = (sg (f q s j) : EReal) := by
  pointwise [val_main_v2_2, val_main_call0_v4, val_main_call0_cst_0, val_main_call0_v3, val_main_call0_v2, val_main_call0_cst, val_main_call0_v1, val_main_call0_v0]
  rw [f_at H]
  exact logistic_real _

theorem da_at (q : Fin 2) (s : Fin 2048) (j : Fin 1024) : val_main_v6 (F := Ideal) x0 x2 (ix3 q s j) = (dout (y q s j) (f q s j) : EReal) := by
  pointwise [val_main_v6, val_main_v2_0]
  rw [f_at H, y_at H, sg_at H]
  norm_cast

theorem dgf_at (q : Fin 2) (s : Fin 2048) (j : Fin 1024) : val_main_v7 (F := Ideal) x0 x1 x2 (ix3 q s j) = (dgate (y q s j) (a q s j) (f q s j) : EReal) := by
  pointwise [val_main_v7, val_main_call1_v1, val_main_call1_v2, val_main_call1_v0, val_main_v5, val_main_v2_1, val_main_call0_v7, val_main_call0_v6, val_main_call0_cst_1]
  simp only [f_at H, y_at H, sg_at H, a_at H]
  norm_cast
  congr 1
  unfold dgate dsilu
  ring

theorem dah_at (q : Fin 2) (s : Fin 2048) (h : Fin 16) (d : Fin 64) :
    val_main_v8 (F := Ideal) x0 x2 (ix4 q s h d) = (dout (y q s (ch h d)) (f q s (ch h d)) : EReal) := by
  rw [← da_at H]
  pointwise [val_main_v8]
  rfl

theorem v12_at (q : Fin 2) (s : Fin 2048) (h : Fin 16) (z : Fin 1) :
    val_main_v12 (F := Ideal) x0 x1 x2 (ix4 q s h z) = ((-∑ d, dout (y q s (ch h d)) (f q s (ch h d)) * a q s (ch h d) : ℝ) : EReal) := by
  pointwise [val_main_v12, val_main_v11, val_main_v10, val_main_v9, val_main_cst]
  simp only [dah_at H, H.ha]
  norm_cast

theorem v16_at (n : Fin 4096) (j : Fin 1024) : val_main_v16 (F := Ideal) x0 x1 x2 (ix2 n j)
    = (dgate (y ⟨n.val / 2048, by omega⟩ ⟨n.val % 2048, by omega⟩ j) (a ⟨n.val / 2048, by omega⟩ ⟨n.val % 2048, by omega⟩ j)
        (f ⟨n.val / 2048, by omega⟩ ⟨n.val % 2048, by omega⟩ j) : EReal) := by
  rw [← dgf_at H]
  pointwise [val_main_v16, val_main_v15]

theorem v18_at (q : Fin 2) (h : Fin 16) (s : Fin 2048) (l : Fin 128) : val_main_v18 (F := Ideal) x0 x1 x2 (ix4 q h s l)
    = (lanes (y q s) (a q s) (f q s) h l : EReal) := by
  pointwise [val_main_v18, val_main_v17, val_main_v14]
  unfold lanes
  by_cases h0 : l.val < 64
  · rw [dif_pos h0, dif_pos h0]
    exact dah_at H q s h ⟨l.val, h0⟩
  · rw [dif_neg h0]
    rw [dif_neg h0]
    by_cases h1 : l.val = 64
    · rw [if_pos h1]
      exact (dif_pos (by omega)).trans (v12_at H q s h _)
    · rw [if_neg h1]
      refine (dif_neg (by omega)).trans ?_
      pointwise [val_main_v13, val_main_cst_0]
      exact EReal.coe_zero.symm

end Cert.Reference3Ideal.AttnGate

end

end
-- ==== Proof.AttnGate.Claim.lean ====
/- The claim about the gradient of the gate. -/
module

public import proofs.«01_k».proof.Proof.AttnGate.Kernel
public import proofs.«01_k».proof.Proof.AttnGate.Reference
public import proofs.«01_k».proof.Defs
public import proofs.«01_k».proof.Proof.Gen.Kernel3Ideal.Value
public import proofs.«01_k».proof.Proof.Gen.Reference3Ideal.Run
public import proofs.«01_k».proof.Proof.Gen.Kernel3Ideal.Launch
public import proofs.«01_k».proof.Proof.Gen.Pre_gate_finite

@[expose] public section

set_option maxRecDepth 16384

noncomputable section

namespace Cert.AttnGate

open Idealize.ShloMosaic Idealize.ShloMosaic.TcCoe Idealize.SL.Sem
open Cert.Reals

/-- Finite arguments are arrays of real numbers. -/
theorem real_of_pre (m : (ℓ : Loc Kernel3Ideal.nD Kernel3Ideal.τ Kernel3Ideal.sig) → Buf (Elt Ideal) ℓ)
    (h : Pre_Kernel3Ideal_gate_finite (hPre_gate_finite := Pre_gate_finite.Gen.facts) m) (c : Dev Kernel3Ideal.nD) :
    ∃ (f a y : Fin 2 → Fin 2048 → Row), Kernel3Ideal.AttnGate.Real m c f a y := by
  have h0 := congrFun (h c) ix0
  unfold Pre_gate_finite.fn at h0
  obtain ⟨h0, h2⟩ := andi_one h0
  obtain ⟨h0, h1⟩ := andi_one h0
  obtain ⟨r0, e0⟩ := real_of_all _ _ _ _ _ _ h0
  obtain ⟨r1, e1⟩ := real_of_all _ _ _ _ _ _ h1
  obtain ⟨r2, e2⟩ := real_of_all _ _ _ _ _ _ h2
  refine ⟨fun q s j => r0 (ix3 q s j), fun q s j => r1 (ix4 q s (Kernel3Ideal.AttnGate.head j) (Kernel3Ideal.AttnGate.place j)), fun q s j => r2 (ix3 q s j),
    fun q s j => ?_, fun q s h d => ?_, fun q s j => ?_⟩
  · rw [← e0]
    pointwise
  · have h1 : Kernel3Ideal.AttnGate.head (ch h d) = h := Fin.ext (by show (h.val * 64 + d.val) / 64 = h.val; omega)
    have h2 : Kernel3Ideal.AttnGate.place (ch h d) = d := Fin.ext (by show (h.val * 64 + d.val) % 64 = d.val; omega)
    rw [h1, h2]
    exact e1 _
  · rw [← e2]
    pointwise

theorem algebraic : algebraic_Kernel3Ideal_Reference3Ideal_pre_gate_finite (hKernel3Ideal := Kernel3Ideal.Gen.facts) (hReference3Ideal := Reference3Ideal.Gen.facts)
    (hPre_gate_finite := Pre_gate_finite.Gen.facts) := by
  intro m g m' g' hpre hargs
  refine ⟨fun c => (Kernel3Ideal.Gen.dats m 0 c).arrAt 3 Kernel3Ideal.cfg0.N, fun c => (Kernel3Ideal.Gen.dats m 0 c).arrAt 4 Kernel3Ideal.cfg0.N,
    Kernel3Ideal.Value.run_blocks m g, (θ_run Reference3Ideal.defs _ _).mono (fun r h c => ?_) (Reference3Ideal.Value.run m' g')⟩
  obtain ⟨f, a, y, H⟩ := real_of_pre m hpre c
  obtain ⟨a0, a1, a2⟩ := hargs c
  have R : Reference3Ideal.AttnGate.Real (m' ((c.tc : Thread Reference3Ideal.nD Reference3Ideal.τ).loc Reference3Ideal.main_arg0))
      (m' ((c.tc : Thread Reference3Ideal.nD Reference3Ideal.τ).loc Reference3Ideal.main_arg1)) (m' ((c.tc : Thread Reference3Ideal.nD Reference3Ideal.τ).loc Reference3Ideal.main_arg2))
      f a y := by
    rw [a0, a1, a2]
    exact ⟨H.hf, H.ha, H.hy⟩
  obtain ⟨h0, h1, h2⟩ := h c
  refine ⟨h0.trans ((Reference3Ideal.Read.val_main_v16_eq _ _ _).trans ?_), h1.trans ((Reference3Ideal.Read.val_main_v18_eq _ _ _).trans ?_), h2⟩
  · refine Eq.trans (funext fun x => ?_) (Kernel3Ideal.AttnGate.final3 H).symm
    obtain ⟨n, j, rfl⟩ : ∃ (n : Fin 4096) (j : Fin 1024), x = ix2 n j := ⟨x 0, x 1, by funext i; fin_cases i <;> rfl⟩
    exact Reference3Ideal.AttnGate.v16_at R n j
  · refine Eq.trans (funext fun x => ?_) (Kernel3Ideal.AttnGate.final4 H).symm
    obtain ⟨q, h, s, l, rfl⟩ : ∃ (q : Fin 2) (h : Fin 16) (s : Fin 2048) (l : Fin 128), x = ix4 q h s l := ⟨x 0, x 1, x 2, x 3, by funext i; fin_cases i <;> rfl⟩
    exact Reference3Ideal.AttnGate.v18_at R q h s l

end Cert.AttnGate

end

end
-- ==== Proof.Inproj.Math.lean ====
/- The gradient of the norm before the input projection, over the reals. -/
module

public import proofs.«01_k».proof.Proof.Reals

@[expose] public section

set_option maxRecDepth 16384

noncomputable section

namespace Cert.Inproj

open Idealize.ShloMosaic
open Cert.Reals

abbrev Row := Fin 1024 → ℝ
abbrev Wide := Fin 7184 → ℝ

/-- A column of the projection: seven sections of 1024, with the sixteen columns of the decay after the third. -/
def col (s : ℕ) (k : Fin 1024) : Fin 7184 := ⟨(if s < 3 then s * 1024 + k.val else 16 + (s * 1024 + k.val)) % 7184, Nat.mod_lt _ (by decide)⟩
def decay (l : Fin 16) : Fin 7184 := ⟨3072 + l.val, by omega⟩

/-- The product with the projection's transpose, the whole and its parts. -/
def dh (z : Wide) (v : Fin 1024 → Wide) (j : Fin 1024) : ℝ := ∑ c, z c * v j c
def first (z : Wide) (v : Fin 1024 → Wide) (j : Fin 1024) : ℝ := ∑ l, z (decay l) * v j (decay l)
def part (z : Wide) (v : Fin 1024 → Wide) (j : Fin 1024) (s : ℕ) : ℝ := ∑ k, z (col s k) * v j (col s k)
def upto (z : Wide) (v : Fin 1024 → Wide) (j : Fin 1024) (n : ℕ) : ℝ := first z v j + ∑ s ∈ Finset.range n, part z v j s

/-- A sum over the columns, section by section. -/
theorem sum_cols (f : Fin 7184 → ℝ) : ∑ c, f c = ∑ l, f (decay l) + ∑ s ∈ Finset.range 7, ∑ k, f (col s k) := by
  let g : ℕ → ℝ := fun n => f ⟨n % 7184, Nat.mod_lt _ (by decide)⟩
  have h (m n p : ℕ) (hp : m + n = p) : ∑ x ∈ Finset.range p, g x = ∑ x ∈ Finset.range m, g x + ∑ x ∈ Finset.range n, g (m + x) := by
    rw [← hp]
    exact Finset.sum_range_add g m n
  have hs (s o : ℕ) (ho : o = if s < 3 then s * 1024 else 16 + s * 1024) : ∑ k : Fin 1024, f (col s k) = ∑ x ∈ Finset.range 1024, g (o + x) := by
    rw [← Fin.sum_univ_eq_sum_range fun x => g (o + x)]
    refine Finset.sum_congr rfl fun k _ => congrArg f (Fin.ext ?_)
    show (if s < 3 then s * 1024 + k.val else 16 + (s * 1024 + k.val)) % 7184 = (o + k.val) % 7184
    rw [ho]
    split_ifs
    · rfl
    · rw [Nat.add_assoc]
  have hd : ∑ l : Fin 16, f (decay l) = ∑ x ∈ Finset.range 16, g (3072 + x) := by
    rw [← Fin.sum_univ_eq_sum_range fun x => g (3072 + x)]
    exact Finset.sum_congr rfl fun l _ => congrArg f (Fin.ext (Nat.mod_eq_of_lt (by omega)).symm)
  have ha : ∑ c, f c = ∑ x ∈ Finset.range 7184, g x := by
    rw [← Fin.sum_univ_eq_sum_range g]
    exact Finset.sum_congr rfl fun c _ => congrArg f (Fin.ext (Nat.mod_eq_of_lt c.isLt).symm)
  rw [ha, hd, h 6160 1024 7184 (by norm_num), h 5136 1024 6160 (by norm_num), h 4112 1024 5136 (by norm_num), h 3088 1024 4112 (by norm_num),
    h 3072 16 3088 (by norm_num), h 2048 1024 3072 (by norm_num), h 1024 1024 2048 (by norm_num)]
  have h7 (p : ℕ → ℝ) : ∑ s ∈ Finset.range 7, p s = p 0 + p 1 + p 2 + p 3 + p 4 + p 5 + p 6 := by
    simp only [Finset.sum_range_succ, Finset.sum_range_zero, zero_add]
  rw [h7, hs 0 0 (by norm_num), hs 1 1024 (by norm_num), hs 2 2048 (by norm_num), hs 3 3088 (by norm_num), hs 4 4112 (by norm_num), hs 5 5136 (by norm_num),
    hs 6 6160 (by norm_num)]
  simp only [zero_add]
  ring

/-- The mean square of a row, the factor of its norm, and the gradient at the row. -/
def ms (x : Row) : ℝ := (∑ i, x i * x i) / 1024
def rs (x : Row) : ℝ := (Real.sqrt (ms x + eps))⁻¹

theorem ms_eps_pos (x : Row) : 0 < ms x + eps := by
  have : 0 ≤ ms x := div_nonneg (Finset.sum_nonneg fun i _ => mul_self_nonneg _) (by norm_num)
  have := eps_pos
  linarith

theorem rs_sq (x : Row) : rs x * rs x = (ms x + eps)⁻¹ := by
  rw [rs, ← mul_inv, Real.mul_self_sqrt (ms_eps_pos x).le]

def gx (o x g d : Row) (j : Fin 1024) : ℝ :=
  o j + rs x * (d j * g j - x j * (rs x * rs x) * ((∑ i, d i * g i * x i) / 1024))

/-- The same gradient in the order of a derivative of the norm. -/
theorem gx_eq (o x g d : Row) (j : Fin 1024) :
    o j + d j * g j * rs x + x j * ((∑ i, x i * (d i * g i)) * (-(1 / 2) * (rs x / (ms x + eps))) / 1024)
      + (∑ i, x i * (d i * g i)) * (-(1 / 2) * (rs x / (ms x + eps))) / 1024 * x j = gx o x g d j := by
  have e : ∑ i, x i * (d i * g i) = ∑ i, d i * g i * x i := Finset.sum_congr rfl fun i _ => mul_comm _ _
  rw [gx, e, rs_sq]
  field_simp [(ms_eps_pos x).ne']
  ring

/-- The gradient at the norm's scale, of one token. -/
def dg (x d : Row) (j : Fin 1024) : ℝ := d j * x j * rs x

end Cert.Inproj

end
-- ==== Proof.Inproj.Payload.lean ====
/- What the kernel of the norm before the input projection computes of one block of tokens. -/
module

public import proofs.«01_k».proof.Proof.Inproj.Math
public import proofs.«01_k».proof.Proof.Gen.Kernel4Ideal.Skeleton

@[expose] public section

set_option maxRecDepth 16384

noncomputable section

namespace Cert.Kernel4Ideal.Inproj

open Idealize.ShloMosaic Idealize.ShloMosaic.TcCoe
open Cert.Reals Cert.Inproj
open Cert.Kernel4Ideal Cert.Kernel4Ideal.Gen

theorem pay6_at (y : S8x1024.Idx) : k0_pay6 (F := Ideal) y = (0 : EReal) := by
  pointwise [k0_pay6]

/-- The product of the decay's columns. -/
theorem pay7_at {Z : Vec Ideal S512x128 .bf16} {W : Vec Ideal S128x1024 .bf16} {z : Fin 512 → Fin 128 → ℝ} {w : Fin 128 → Row}
    (hZ : ∀ r l, Z (ix2 r l) = (z r l : EReal)) (hW : ∀ l j, W (ix2 l j) = (w l j : EReal)) (r : Fin 512) (j : Fin 1024) :
    k0_pay7 Z W (ix2 r j) = ((∑ l, z r l * w l j : ℝ) : EReal) := by
  pointwise [k0_pay7]
  simp only [hZ, hW, ← EReal.coe_mul, ← coe_sum]

/-- The product of one section, added to the running sum. -/
theorem pay8_at {A : Vec Ideal S512x1024 .f32} {Z : Vec Ideal S512x1024 .bf16} {W : Vec Ideal S1024x1024 .bf16} {a z : Fin 512 → Row} {w : Fin 1024 → Row}
    (hA : ∀ r j, A (ix2 r j) = (a r j : EReal)) (hZ : ∀ r l, Z (ix2 r l) = (z r l : EReal)) (hW : ∀ l j, W (ix2 l j) = (w l j : EReal)) (r : Fin 512) (j : Fin 1024) :
    k0_pay8 A Z W (ix2 r j) = ((a r j + ∑ l, z r l * w l j : ℝ) : EReal) := by
  pointwise [k0_pay8]
  simp only [hA, hZ, hW, ← EReal.coe_mul, ← coe_sum, ← EReal.coe_add]

variable {D X O : Vec Ideal S512x1024 .f32} {G : Vec Ideal S1x1024 .f32} {d x o : Fin 512 → Row} {g : Row}

/-- The factor of a row's norm. -/
theorem pay3_at (hX : ∀ r j, X (ix2 r j) = (x r j : EReal)) (r : Fin 512) (z : Fin 1) : k0_pay3 X (ix2 r z) = (rs (x r) : EReal) := by
  pointwise [k0_pay3, k0_pay2]
  simp only [hX, ofBits_1024, ofBits_eps, ← EReal.coe_mul, ← coe_sum, div_real (by norm_num : (1024 : ℝ) ≠ 0), ← EReal.coe_add]
  exact rsqrt_real (ms_eps_pos _)

/-- The gradient at the input's row. -/
theorem pay4_at (hD : ∀ r j, D (ix2 r j) = (d r j : EReal)) (hX : ∀ r j, X (ix2 r j) = (x r j : EReal)) (hG : ∀ j, G (ix2 0 j) = (g j : EReal))
    (hO : ∀ r j, O (ix2 r j) = (o r j : EReal)) (r : Fin 512) (j : Fin 1024) : k0_pay4 D X G O (ix2 r j) = (gx (o r) (x r) g (d r) j : EReal) := by
  pointwise [k0_pay4, k0_pay1, k0_pay2]
  simp only [pay3_at hX, hX, hD, hG, hO, ofBits_1024, ← EReal.coe_mul, ← coe_sum, div_real (by norm_num : (1024 : ℝ) ≠ 0), ← EReal.coe_add, ← EReal.coe_sub]
  rfl

/-- The gradient at the norm's scale, summed over a block and added to the running sum. -/
theorem pay5_at (hD : ∀ r j, D (ix2 r j) = (d r j : EReal)) (hX : ∀ r j, X (ix2 r j) = (x r j : EReal)) (L : Vec Ideal S1x1024 .f32) (z : Fin 1) (j : Fin 1024) :
    k0_pay5 D X L (ix2 z j) = L (ix2 z j) + ((∑ r, dg (x r) (d r) j : ℝ) : EReal) := by
  pointwise [k0_pay5, k0_pay1, k0_pay2]
  simp only [pay3_at hX, hX, hD, ← EReal.coe_mul, ← coe_sum]
  rfl

end Cert.Kernel4Ideal.Inproj

end
-- ==== Proof.Inproj.Blocks.lean ====
/- The blocks that the kernel of the norm before the input projection reads. -/
module

public import proofs.«01_k».proof.Proof.Inproj.Math
public import proofs.«01_k».proof.Proof.Gen.Kernel4Ideal.Frame
public import Idealize.ShloMosaic.Lib.Pipeline.ValueKit
public import Idealize.ShloMosaic.Lib.Claim
public import Idealize.ShloMosaic.Lib.StableHlo.RunRead

@[expose] public section

set_option maxRecDepth 16384

noncomputable section

namespace Cert.Kernel4Ideal.Inproj

open Idealize.ShloMosaic Idealize.ShloMosaic.TcCoe Idealize.SL.Sem
open Idealize.ShloMosaic.Pipeline (Dat)
open Cert.Reals Cert.Inproj
open Cert.Kernel4Ideal Cert.Kernel4Ideal.Gen
open Idealize.ShloMosaic.Tactic

/-- The sequence and the frame of a token, tokens being numbered through both sequences. -/
def seq (t : Fin cfg0.N) (r : Fin 512) : Fin 2 := ⟨(t.val / 7 * 512 + r.val) / 2048, by have := lt_of_lt_of_eq t.isLt N_0; omega⟩
def frame (t : Fin cfg0.N) (r : Fin 512) : Fin 2048 := ⟨(t.val / 7 * 512 + r.val) % 2048, by omega⟩

theorem idx : ∀ t : Fin cfg0.N, win0_0.index t = ![t.val / 7, 0] ∧ win0_1.index t = ![t.val / 7, 0] ∧ win0_2.index t = ![t.val / 7, 0]
    ∧ win0_3.index t = ![t.val / 7, 0] ∧ win0_4.index t = ![t.val / 7, 0] ∧ win0_5.index t = ![t.val / 7, 0] ∧ win0_6.index t = ![t.val / 7, 0]
    ∧ win0_7.index t = ![t.val / 7, 0] ∧ win0_8.index t = ![t.val % 7, 0] ∧ win0_9.index t = ![0, 0] ∧ win0_10.index t = ![t.val / 7, 0]
    ∧ win0_11.index t = ![0, 0] ∧ win0_12.index t = ![t.val / 7, 0] ∧ win0_13.index t = ![t.val / 7, 0] ∧ win0_14.index t = ![0, 0] :=
  (by decide +kernel : ∀ t : Fin grid0.N, _)

variable (m : (ℓ : Loc nD τ sig) → Buf (Elt Ideal) ℓ) (c : Dev nD)

theorem block_x (t : Fin cfg0.N) (r : Fin 512) (j : Fin 1024) :
    iblk m c 10 t (ix2 r j) = m ((c : Thread nD τ).loc main_arg0) (ix3 (seq t r) (frame t r) j) := by
  have ht := lt_of_lt_of_eq t.isLt N_0
  blk_simp [iblk, idx t]
  unfold V
  simp only [List.flatten_cons, List.flatten_nil, List.append_nil, StableHlo.after_append, StableHlo.after_cons, StableHlo.after_nil]
  after_results_simp
  try after_results_loop
  try simp only [StableHlo.TRef.ofBuf_toBuf, StableHlo.TRef.ofBuf, StableHlo.TRef.toBuf, cast_eq]
  pointwise
  blk_ext [idx t, seq, frame]

theorem block_o (t : Fin cfg0.N) (r : Fin 512) (j : Fin 1024) :
    iblk m c 12 t (ix2 r j) = m ((c : Thread nD τ).loc main_arg4) (ix3 (seq t r) (frame t r) j) := by
  have ht := lt_of_lt_of_eq t.isLt N_0
  blk_simp [iblk, idx t]
  unfold V
  simp only [List.flatten_cons, List.flatten_nil, List.append_nil, StableHlo.after_append, StableHlo.after_cons, StableHlo.after_nil]
  after_results_simp
  try after_results_loop
  try simp only [StableHlo.TRef.ofBuf_toBuf, StableHlo.TRef.ofBuf, StableHlo.TRef.toBuf, cast_eq]
  pointwise
  blk_ext [idx t, seq, frame]

theorem block_g (t : Fin cfg0.N) (j : Fin 1024) : iblk m c 11 t (ix2 0 j) = m ((c : Thread nD τ).loc main_arg1) (ix2 0 j) := by
  blk_simp [iblk, idx t, V]
  blk_ext [idx t, seq, frame]

set_option maxHeartbeats 2000000 in
theorem block_z0 (t : Fin cfg0.N) (r : Fin 512) (k : Fin 1024) :
    iblk m c 0 t (ix2 r k) = m ((c : Thread nD τ).loc main_arg3) (ix3 (seq t r) (frame t r) (col 0 k)) := by
  have ht := lt_of_lt_of_eq t.isLt N_0
  blk_simp [iblk, idx t]
  unfold V
  simp only [List.flatten_cons, List.flatten_nil, List.append_nil, StableHlo.after_append, StableHlo.after_cons, StableHlo.after_nil]
  after_results_simp
  try after_results_loop
  pointwise
  rw [dif_pos (by blk_simp [idx t]; omega)]
  blk_ext [idx t, seq, frame, col]
  split_ifs <;> omega

set_option maxHeartbeats 2000000 in
theorem block_z1 (t : Fin cfg0.N) (r : Fin 512) (k : Fin 1024) :
    iblk m c 1 t (ix2 r k) = m ((c : Thread nD τ).loc main_arg3) (ix3 (seq t r) (frame t r) (col 1 k)) := by
  have ht := lt_of_lt_of_eq t.isLt N_0
  blk_simp [iblk, idx t]
  unfold V
  simp only [List.flatten_cons, List.flatten_nil, List.append_nil, StableHlo.after_append, StableHlo.after_cons, StableHlo.after_nil]
  after_results_simp
  try after_results_loop
  pointwise
  rw [dif_pos (by blk_simp [idx t]; omega)]
  blk_ext [idx t, seq, frame, col]
  split_ifs <;> omega

set_option maxHeartbeats 2000000 in
theorem block_z2 (t : Fin cfg0.N) (r : Fin 512) (k : Fin 1024) :
    iblk m c 2 t (ix2 r k) = m ((c : Thread nD τ).loc main_arg3) (ix3 (seq t r) (frame t r) (col 2 k)) := by
  have ht := lt_of_lt_of_eq t.isLt N_0
  blk_simp [iblk, idx t]
  unfold V
  simp only [List.flatten_cons, List.flatten_nil, List.append_nil, StableHlo.after_append, StableHlo.after_cons, StableHlo.after_nil]
  after_results_simp
  try after_results_loop
  pointwise
  rw [dif_pos (by blk_simp [idx t]; omega)]
  blk_ext [idx t, seq, frame, col]
  split_ifs <;> omega

set_option maxHeartbeats 2000000 in
theorem block_z3 (t : Fin cfg0.N) (r : Fin 512) (k : Fin 1024) :
    iblk m c 3 t (ix2 r k) = m ((c : Thread nD τ).loc main_arg3) (ix3 (seq t r) (frame t r) (col 3 k)) := by
  have ht := lt_of_lt_of_eq t.isLt N_0
  blk_simp [iblk, idx t]
  unfold V
  simp only [List.flatten_cons, List.flatten_nil, List.append_nil, StableHlo.after_append, StableHlo.after_cons, StableHlo.after_nil]
  after_results_simp
  try after_results_loop
  pointwise
  blk_ext [idx t, seq, frame, col]
  split_ifs <;> omega

set_option maxHeartbeats 2000000 in
theorem block_z4 (t : Fin cfg0.N) (r : Fin 512) (k : Fin 1024) :
    iblk m c 4 t (ix2 r k) = m ((c : Thread nD τ).loc main_arg3) (ix3 (seq t r) (frame t r) (col 4 k)) := by
  have ht := lt_of_lt_of_eq t.isLt N_0
  blk_simp [iblk, idx t]
  unfold V
  simp only [List.flatten_cons, List.flatten_nil, List.append_nil, StableHlo.after_append, StableHlo.after_cons, StableHlo.after_nil]
  after_results_simp
  try after_results_loop
  pointwise
  rw [dif_neg (by blk_simp [idx t]; omega)]
  blk_ext [idx t, seq, frame, col]
  split_ifs <;> omega

set_option maxHeartbeats 2000000 in
theorem block_z5 (t : Fin cfg0.N) (r : Fin 512) (k : Fin 1024) :
    iblk m c 5 t (ix2 r k) = m ((c : Thread nD τ).loc main_arg3) (ix3 (seq t r) (frame t r) (col 5 k)) := by
  have ht := lt_of_lt_of_eq t.isLt N_0
  blk_simp [iblk, idx t]
  unfold V
  simp only [List.flatten_cons, List.flatten_nil, List.append_nil, StableHlo.after_append, StableHlo.after_cons, StableHlo.after_nil]
  after_results_simp
  try after_results_loop
  pointwise
  rw [dif_neg (by blk_simp [idx t]; omega)]
  blk_ext [idx t, seq, frame, col]
  split_ifs <;> omega

set_option maxHeartbeats 2000000 in
theorem block_z6 (t : Fin cfg0.N) (r : Fin 512) (k : Fin 1024) :
    iblk m c 6 t (ix2 r k) = m ((c : Thread nD τ).loc main_arg3) (ix3 (seq t r) (frame t r) (col 6 k)) := by
  have ht := lt_of_lt_of_eq t.isLt N_0
  blk_simp [iblk, idx t]
  unfold V
  simp only [List.flatten_cons, List.flatten_nil, List.append_nil, StableHlo.after_append, StableHlo.after_cons, StableHlo.after_nil]
  after_results_simp
  try after_results_loop
  pointwise
  rw [dif_neg (by blk_simp [idx t]; omega)]
  blk_ext [idx t, seq, frame, col]
  split_ifs <;> omega

set_option maxHeartbeats 2000000 in
theorem block_w (t : Fin cfg0.N) (k j : Fin 1024) :
    iblk m c 8 t (ix2 k j) = m ((c : Thread nD τ).loc main_arg2) (ix3 0 j (col (t.val % 7) k)) := by
  have ht := lt_of_lt_of_eq t.isLt N_0
  blk_simp [iblk, idx t]
  unfold V
  simp only [List.flatten_cons, List.flatten_nil, List.append_nil, StableHlo.after_append, StableHlo.after_cons, StableHlo.after_nil]
  after_results_simp
  try after_results_loop
  pointwise
  by_cases h3 : t.val % 7 < 3
  · rw [dif_pos (by blk_simp [idx t]; omega)]
    blk_ext [idx t, seq, frame, col]
    split_ifs <;> omega
  · rw [dif_neg (by blk_simp [idx t]; omega)]
    blk_ext [idx t, seq, frame, col]
    split_ifs <;> omega

set_option maxHeartbeats 2000000 in
theorem block_f (t : Fin cfg0.N) (r : Fin 512) (l : Fin 128) :
    iblk m c 7 t (ix2 r l) = if h : l.val < 16 then m ((c : Thread nD τ).loc main_arg3) (ix3 (seq t r) (frame t r) (decay ⟨l.val, h⟩)) else (0 : EReal) := by
  have ht := lt_of_lt_of_eq t.isLt N_0
  blk_simp [iblk, idx t]
  unfold V
  simp only [List.flatten_cons, List.flatten_nil, List.append_nil, StableHlo.after_append, StableHlo.after_cons, StableHlo.after_nil]
  after_results_simp
  try after_results_loop
  simp only [StableHlo.TRef.ofBuf_toBuf, StableHlo.TRef.ofBuf, StableHlo.TRef.toBuf, cast_eq]
  pointwise
  by_cases h : l.val < 16
  · rw [dif_pos (by blk_simp [idx t]; omega)]
    refine Eq.trans ?_ (dif_pos h).symm
    blk_ext [idx t, seq, frame, decay]
  · rw [dif_neg (by blk_simp [idx t]; omega)]
    refine Eq.trans ?_ (dif_neg h).symm
    show (((0#32 : BitVec 32).toInt : ℝ) : EReal) = 0
    simp

set_option maxHeartbeats 2000000 in
theorem block_v (t : Fin cfg0.N) (l : Fin 128) (j : Fin 1024) :
    iblk m c 9 t (ix2 l j) = if h : l.val < 16 then m ((c : Thread nD τ).loc main_arg2) (ix3 0 j (decay ⟨l.val, h⟩)) else (0 : EReal) := by
  have ht := lt_of_lt_of_eq t.isLt N_0
  blk_simp [iblk, idx t]
  unfold V
  simp only [List.flatten_cons, List.flatten_nil, List.append_nil, StableHlo.after_append, StableHlo.after_cons, StableHlo.after_nil]
  after_results_simp
  try after_results_loop
  simp only [StableHlo.TRef.ofBuf_toBuf, StableHlo.TRef.ofBuf, StableHlo.TRef.toBuf, cast_eq]
  pointwise
  by_cases h : l.val < 16
  · rw [dif_pos (by blk_simp [idx t]; omega)]
    refine Eq.trans ?_ (dif_pos h).symm
    blk_ext [idx t, seq, frame, decay]
  · rw [dif_neg (by blk_simp [idx t]; omega)]
    refine Eq.trans ?_ (dif_neg h).symm
    show (((0#32 : BitVec 32).toInt : ℝ) : EReal) = 0
    simp

end Cert.Kernel4Ideal.Inproj

end
-- ==== Proof.Inproj.Kernel.lean ====
/- What the kernel of the norm before the input projection leaves in its two result arrays, for real arguments. -/
module

public import proofs.«01_k».proof.Proof.Inproj.Payload
public import proofs.«01_k».proof.Proof.Inproj.Blocks
public import proofs.«01_k».proof.Proof.Rows

@[expose] public section

set_option maxRecDepth 16384

noncomputable section

namespace Cert.Kernel4Ideal.Inproj

open Idealize.ShloMosaic Idealize.ShloMosaic.TcCoe Idealize.SL.Sem
open Idealize.ShloMosaic.Pipeline (Dat)
open Cert.Reals Cert.Inproj
open Cert.Kernel4Ideal Cert.Kernel4Ideal.Gen

variable (m : (ℓ : Loc nD τ sig) → Buf (Elt Ideal) ℓ) (c : Dev nD)

/-- The argument arrays hold these real numbers. -/
structure Real (x o : Fin 2 → Fin 2048 → Row) (g : Row) (v : Fin 1024 → Wide) (z : Fin 2 → Fin 2048 → Wide) : Prop where
  hx : ∀ q s j, m ((c : Thread nD τ).loc main_arg0) (ix3 q s j) = (x q s j : EReal)
  hg : ∀ j, m ((c : Thread nD τ).loc main_arg1) (ix2 0 j) = (g j : EReal)
  hv : ∀ j e, m ((c : Thread nD τ).loc main_arg2) (ix3 0 j e) = (v j e : EReal)
  hz : ∀ q s e, m ((c : Thread nD τ).loc main_arg3) (ix3 q s e) = (z q s e : EReal)
  ho : ∀ q s j, m ((c : Thread nD τ).loc main_arg4) (ix3 q s j) = (o q s j : EReal)

variable {m c} {x o : Fin 2 → Fin 2048 → Row} {g : Row} {v : Fin 1024 → Wide} {z : Fin 2 → Fin 2048 → Wide} (H : Real m c x o g v z)

/-- A row of the decay's operands, filled up with zeros. -/
def filled (f : Fin 16 → ℝ) (l : Fin 128) : ℝ := if h : l.val < 16 then f ⟨l.val, h⟩ else 0

theorem sum_filled (f h : Fin 16 → ℝ) : ∑ l, filled f l * filled h l = ∑ l, f l * h l := by
  have e := Fin.sum_univ_add (a := 16) (b := 112) fun l : Fin 128 => filled f l * filled h l
  refine e.trans ?_
  have e2 : ∀ i : Fin 112, filled f (Fin.natAdd 16 i) * filled h (Fin.natAdd 16 i) = 0 := fun i => by
    rw [filled, dif_neg (by show ¬ 16 + i.val < 16; omega), zero_mul]
  rw [Finset.sum_eq_zero fun i _ => e2 i, add_zero]
  refine Finset.sum_congr rfl fun i _ => ?_
  rw [filled, filled, dif_pos (by show i.val < 16; omega), dif_pos (by show i.val < 16; omega)]
  rfl

/-- What a grid point adds to the gradient at the norm's scale. -/
def partG (x : Fin 2 → Fin 2048 → Row) (v : Fin 1024 → Wide) (z : Fin 2 → Fin 2048 → Wide) (n : ℕ) (i : ℕ) (j : Fin 1024) : ℝ :=
  if n % 7 = 6 ∧ i = 0 then ∑ r : Fin 512, dg (x ⟨(n / 7 * 512 + r.val) / 2048 % 2, Nat.mod_lt _ (by decide)⟩ ⟨(n / 7 * 512 + r.val) % 2048, Nat.mod_lt _ (by decide)⟩)
    (dh (z ⟨(n / 7 * 512 + r.val) / 2048 % 2, Nat.mod_lt _ (by decide)⟩ ⟨(n / 7 * 512 + r.val) % 2048, Nat.mod_lt _ (by decide)⟩) v) j else 0

section
include H
variable (t : Fin cfg0.N)

theorem rX (r : Fin 512) (j : Fin 1024) : iblk m c 10 t (ix2 r j) = (x (seq t r) (frame t r) j : EReal) := (block_x m c t r j).trans (H.hx _ _ j)
theorem rO (r : Fin 512) (j : Fin 1024) : iblk m c 12 t (ix2 r j) = (o (seq t r) (frame t r) j : EReal) := (block_o m c t r j).trans (H.ho _ _ j)
theorem rG (j : Fin 1024) : iblk m c 11 t (ix2 0 j) = (g j : EReal) := (block_g m c t j).trans (H.hg j)
theorem rZ0 (r : Fin 512) (k : Fin 1024) : iblk m c 0 t (ix2 r k) = (z (seq t r) (frame t r) (col 0 k) : EReal) := (block_z0 m c t r k).trans (H.hz _ _ _)
theorem rZ1 (r : Fin 512) (k : Fin 1024) : iblk m c 1 t (ix2 r k) = (z (seq t r) (frame t r) (col 1 k) : EReal) := (block_z1 m c t r k).trans (H.hz _ _ _)
theorem rZ2 (r : Fin 512) (k : Fin 1024) : iblk m c 2 t (ix2 r k) = (z (seq t r) (frame t r) (col 2 k) : EReal) := (block_z2 m c t r k).trans (H.hz _ _ _)
theorem rZ3 (r : Fin 512) (k : Fin 1024) : iblk m c 3 t (ix2 r k) = (z (seq t r) (frame t r) (col 3 k) : EReal) := (block_z3 m c t r k).trans (H.hz _ _ _)
theorem rZ4 (r : Fin 512) (k : Fin 1024) : iblk m c 4 t (ix2 r k) = (z (seq t r) (frame t r) (col 4 k) : EReal) := (block_z4 m c t r k).trans (H.hz _ _ _)
theorem rZ5 (r : Fin 512) (k : Fin 1024) : iblk m c 5 t (ix2 r k) = (z (seq t r) (frame t r) (col 5 k) : EReal) := (block_z5 m c t r k).trans (H.hz _ _ _)
theorem rZ6 (r : Fin 512) (k : Fin 1024) : iblk m c 6 t (ix2 r k) = (z (seq t r) (frame t r) (col 6 k) : EReal) := (block_z6 m c t r k).trans (H.hz _ _ _)
theorem rW {s : ℕ} (hs : t.val % 7 = s) (k j : Fin 1024) : iblk m c 8 t (ix2 k j) = (v j (col s k) : EReal) := by
  subst hs
  exact (block_w m c t k j).trans (H.hv _ _)
theorem rF (r : Fin 512) (l : Fin 128) : iblk m c 7 t (ix2 r l) = (filled (fun l => z (seq t r) (frame t r) (decay l)) l : EReal) := by
  rw [block_f, filled]
  split_ifs
  · exact H.hz _ _ _
  · rfl
theorem rV (l : Fin 128) (j : Fin 1024) : iblk m c 9 t (ix2 l j) = (filled (fun l => v j (decay l)) l : EReal) := by
  rw [block_v, filled]
  split_ifs
  · exact H.hv _ _
  · rfl

/-- The running product after its first section, which follows the decay's columns. -/
theorem start (hs : t.val % 7 = 0) (r : Fin 512) (j : Fin 1024) : (outsAt0 m c t.val t.isLt).1 (ix2 r j)
    = (upto (z (seq t r) (frame t r)) v j 1 : EReal) := by
  have e : k0_pay8 (k0_pay7 (iblk m c 7 t) (iblk m c 9 t)) (iblk m c 0 t) (iblk m c 8 t) (ix2 r j) = (upto (z (seq t r) (frame t r)) v j 1 : EReal) := by
    rw [pay8_at (pay7_at (rF H t) (rV H t)) (rZ0 H t) (rW H t hs), sum_filled, upto, Finset.sum_range_one]
    rfl
  by_cases h : t.val % 56 = 0
  · rw [outsAt0_A m c t h hs hs (by omega) (by omega) (by omega) (by omega) (by omega) (by omega) (by omega)]
    frame_out
    exact e
  · rw [outsAt0_H m c t h hs hs (by omega) (by omega) (by omega) (by omega) (by omega) (by omega) (by omega)]
    frame_out
    exact e

omit H in
/-- The point before is of the same tokens. -/
theorem before_lt : t.val - 1 < cfg0.N := Nat.lt_of_le_of_lt (Nat.sub_le _ _) t.isLt
omit H in
theorem same_tokens (hs : ¬ t.val % 7 = 0) (r : Fin 512) : seq ⟨t.val - 1, before_lt t⟩ r = seq t r ∧ frame ⟨t.val - 1, before_lt t⟩ r = frame t r := by
  have e : (t.val - 1) / 7 = t.val / 7 := by omega
  constructor
  · refine Fin.ext ?_
    show ((t.val - 1) / 7 * 512 + r.val) / 2048 = _
    rw [e]
    rfl
  · refine Fin.ext ?_
    show ((t.val - 1) / 7 * 512 + r.val) % 2048 = _
    rw [e]
    rfl

/-- One section more. -/
theorem more {s : ℕ} (hs : t.val % 7 = s + 1) {Z : Vec Ideal S512x1024 .bf16} (hZ : ∀ r k, Z (ix2 r k) = (z (seq t r) (frame t r) (col (s + 1) k) : EReal))
    (hp : ∀ r j, (outsAt0 m c (t.val - 1) (before_lt t)).1 (ix2 r j)
      = (upto (z (seq ⟨t.val - 1, before_lt t⟩ r) (frame ⟨t.val - 1, before_lt t⟩ r)) v j (s + 1) : EReal)) (r : Fin 512) (j : Fin 1024) :
    k0_pay8 (outsAt0 m c (t.val - 1) (before_lt t)).1 Z (iblk m c 8 t) (ix2 r j) = (upto (z (seq t r) (frame t r)) v j (s + 2) : EReal) := by
  have hq (r : Fin 512) (j : Fin 1024) : (outsAt0 m c (t.val - 1) (before_lt t)).1 (ix2 r j) = (upto (z (seq t r) (frame t r)) v j (s + 1) : EReal) := by
    rw [hp, (same_tokens t (by omega) r).1, (same_tokens t (by omega) r).2]
  rw [pay8_at hq hZ (rW H t hs), upto, upto, Finset.sum_range_succ _ (s + 1), ← add_assoc]
  rfl

theorem step1 (hs : t.val % 7 = 1) (r : Fin 512) (j : Fin 1024) : (outsAt0 m c t.val t.isLt).1 (ix2 r j)
    = (upto (z (seq t r) (frame t r)) v j 2 : EReal) := by
  rw [outsAt0_B m c t (by omega) (by omega) (by omega) hs (by omega) (by omega) (by omega) (by omega) (by omega) (by omega)]
  frame_out
  exact more H t hs (rZ1 H t) (start H ⟨t.val - 1, before_lt t⟩ (by show (t.val - 1) % 7 = 0; omega)) r j
theorem step2 (hs : t.val % 7 = 2) (r : Fin 512) (j : Fin 1024) : (outsAt0 m c t.val t.isLt).1 (ix2 r j)
    = (upto (z (seq t r) (frame t r)) v j 3 : EReal) := by
  rw [outsAt0_C m c t (by omega) (by omega) (by omega) (by omega) hs (by omega) (by omega) (by omega) (by omega) (by omega)]
  frame_out
  exact more H t hs (rZ2 H t) (step1 H ⟨t.val - 1, before_lt t⟩ (by show (t.val - 1) % 7 = 1; omega)) r j
theorem step3 (hs : t.val % 7 = 3) (r : Fin 512) (j : Fin 1024) : (outsAt0 m c t.val t.isLt).1 (ix2 r j)
    = (upto (z (seq t r) (frame t r)) v j 4 : EReal) := by
  rw [outsAt0_D m c t (by omega) (by omega) (by omega) (by omega) (by omega) hs (by omega) (by omega) (by omega) (by omega)]
  frame_out
  exact more H t hs (rZ3 H t) (step2 H ⟨t.val - 1, before_lt t⟩ (by show (t.val - 1) % 7 = 2; omega)) r j
theorem step4 (hs : t.val % 7 = 4) (r : Fin 512) (j : Fin 1024) : (outsAt0 m c t.val t.isLt).1 (ix2 r j)
    = (upto (z (seq t r) (frame t r)) v j 5 : EReal) := by
  rw [outsAt0_E m c t (by omega) (by omega) (by omega) (by omega) (by omega) (by omega) hs (by omega) (by omega) (by omega)]
  frame_out
  exact more H t hs (rZ4 H t) (step3 H ⟨t.val - 1, before_lt t⟩ (by show (t.val - 1) % 7 = 3; omega)) r j
theorem step5 (hs : t.val % 7 = 5) (r : Fin 512) (j : Fin 1024) : (outsAt0 m c t.val t.isLt).1 (ix2 r j)
    = (upto (z (seq t r) (frame t r)) v j 6 : EReal) := by
  rw [outsAt0_F m c t (by omega) (by omega) (by omega) (by omega) (by omega) (by omega) (by omega) hs (by omega) (by omega)]
  frame_out
  exact more H t hs (rZ5 H t) (step4 H ⟨t.val - 1, before_lt t⟩ (by show (t.val - 1) % 7 = 4; omega)) r j

omit H in
theorem upto_all (z : Wide) (v : Fin 1024 → Wide) (j : Fin 1024) : upto z v j 7 = dh z v j := (sum_cols fun e => z e * v j e).symm

/-- The whole product, at the last point of a block of tokens. -/
theorem whole (hs : t.val % 7 = 6) (r : Fin 512) (j : Fin 1024) :
    k0_pay14 (outsAt0 m c (t.val - 1) (before_lt t)).1 (iblk m c 6 t) (iblk m c 8 t) (ix2 r j) = (dh (z (seq t r) (frame t r)) v j : EReal) := by
  rw [← upto_all]
  exact more H t hs (rZ6 H t) (step5 H ⟨t.val - 1, before_lt t⟩ (by show (t.val - 1) % 7 = 5; omega)) r j

theorem out13 (hs : t.val % 7 = 6) (r : Fin 512) (j : Fin 1024) : (outsAt0 m c t.val t.isLt).1 (ix2 r j)
    = (gx (o (seq t r) (frame t r)) (x (seq t r) (frame t r)) g (dh (z (seq t r) (frame t r)) v) j : EReal) := by
  rw [outsAt0_G m c t (by omega) (by omega) (by omega) (by omega) (by omega) (by omega) (by omega) (by omega) hs hs]
  frame_out
  exact pay4_at (whole H t hs) (rX H t) (rG H t) (rO H t) r j

theorem scale_A (h : t.val % 56 = 0) (y : S8x1024.Idx) : (outsAt0 m c t.val t.isLt).2 y = (0 : EReal) + (partG x v z t.val (y 0).val (y 1) : EReal) := by
  have hs : t.val % 7 = 0 := by omega
  rw [outsAt0_A m c t h hs hs (by omega) (by omega) (by omega) (by omega) (by omega) (by omega) (by omega)]
  have e : partG x v z t.val (y 0).val (y 1) = 0 := if_neg fun k => absurd k.1 (by omega)
  frame_out
  rw [pay6_at, e, EReal.coe_zero, add_zero]

theorem scale_step (h : ¬ t.val % 56 = 0) (y : S8x1024.Idx) : (outsAt0 m c t.val t.isLt).2 y
    = ((outsAt0 m c (t.val - 1) (before_lt t)).2 y : EReal) + (partG x v z t.val (y 0).val (y 1) : EReal) := by
  by_cases h6 : t.val % 7 = 6
  · rw [outsAt0_G m c t (by omega) (by omega) (by omega) (by omega) (by omega) (by omega) (by omega) (by omega) h6 h6]
    frame_out
    obtain ⟨i, j, rfl⟩ : ∃ (i : Fin 8) (j : Fin 1024), y = ix2 i j := ⟨y 0, y 1, by funext i; fin_cases i <;> rfl⟩
    rw [Rows.read_row]
    split_ifs with hi
    · obtain rfl : i = 0 := Fin.ext hi
      rw [pay5_at (whole H t h6) (rX H t), Rows.ld_row]
      refine congrArg (fun b : ℝ => _ + (b : EReal)) (Eq.trans ?_ (if_pos ⟨h6, rfl⟩).symm)
      refine (Finset.sum_congr rfl fun r _ => ?_)
      have e : seq t r = ⟨(t.val / 7 * 512 + r.val) / 2048 % 2, Nat.mod_lt _ (by decide)⟩ := Fin.ext (Nat.mod_eq_of_lt (seq t r).isLt).symm
      rw [e]
      rfl
    · have e : partG x v z t.val i.val j = 0 := if_neg fun k => hi k.2
      refine Eq.trans ?_ (congrArg (fun b : ℝ => ((outsAt0 m c (t.val - 1) (before_lt t)).2 (ix2 i j) : EReal) + (b : EReal)) e).symm
      rw [EReal.coe_zero, add_zero]
      exact congrFun (Memref.IsWhole.read_unread _ _) _
  · have e : partG x v z t.val (y 0).val (y 1) = 0 := if_neg fun k => h6 k.1
    rw [e, EReal.coe_zero, add_zero]
    have ht : t.val % 7 = 0 ∨ t.val % 7 = 1 ∨ t.val % 7 = 2 ∨ t.val % 7 = 3 ∨ t.val % 7 = 4 ∨ t.val % 7 = 5 := by omega
    rcases ht with hs | hs | hs | hs | hs | hs
    · rw [outsAt0_H m c t h hs hs (by omega) (by omega) (by omega) (by omega) (by omega) (by omega) (by omega)]
      rfl
    · rw [outsAt0_B m c t h (by omega) (by omega) hs (by omega) (by omega) (by omega) (by omega) (by omega) (by omega)]
      rfl
    · rw [outsAt0_C m c t h (by omega) (by omega) (by omega) hs (by omega) (by omega) (by omega) (by omega) (by omega)]
      rfl
    · rw [outsAt0_D m c t h (by omega) (by omega) (by omega) (by omega) hs (by omega) (by omega) (by omega) (by omega)]
      rfl
    · rw [outsAt0_E m c t h (by omega) (by omega) (by omega) (by omega) (by omega) hs (by omega) (by omega) (by omega)]
      rfl
    · rw [outsAt0_F m c t h (by omega) (by omega) (by omega) (by omega) (by omega) (by omega) hs (by omega) (by omega)]
      rfl
end

/-- The sequence and the frame of a row of the results. -/
def sq (n : Fin 4096) : Fin 2 := ⟨n.val / 2048, by omega⟩
def fr (n : Fin 4096) : Fin 2048 := ⟨n.val % 2048, by omega⟩

theorem emb13 (t : Fin cfg0.N) (r : Fin 512) (j : Fin 1024) : (win0_13.blk t).view.emb (ix2 r j)
    = (ix2 (⟨t.val / 7 * 512 + r.val, by have := lt_of_lt_of_eq t.isLt N_0; omega⟩ : Fin 4096) j : S4096x1024.Idx) := by
  blk_ext [idx t]

theorem flush13 : ∀ t : Fin cfg0.N, (cfg0.win 13).flush t = true → t.val % 7 = 6 := by decide +kernel

/-- A sum over the grid, of which only the last points of the blocks count. -/
theorem sum_last (f : ℕ → ℝ) : ∑ t : Fin 56, (if t.val % 7 = 6 then f (t.val / 7) else 0) = ∑ b : Fin 8, f b.val := by
  rw [Fin.sum_univ_eq_sum_range (fun n => if n % 7 = 6 then f (n / 7) else 0) 56, Fin.sum_univ_eq_sum_range f 8]
  simp [Finset.sum_range_succ]

theorem sum_tokens (f : Fin 2 → Fin 2048 → ℝ) : ∑ b : Fin 8, ∑ r : Fin 512, f ⟨(b.val * 512 + r.val) / 2048 % 2, Nat.mod_lt _ (by decide)⟩ ⟨(b.val * 512 + r.val) % 2048, Nat.mod_lt _ (by decide)⟩
    = ∑ q, ∑ s, f q s := by
  refine Fin.sum_points_lanes_congr 4 (fun t k ha hl => ?_) rfl
  have e1 : (⟨(t.val * 512 + k.val) / 2048 % 2, Nat.mod_lt _ (by decide)⟩ : Fin 2) = ⟨t.val / 4, ha⟩ := Fin.ext (by show (t.val * 512 + k.val) / 2048 % 2 = t.val / 4; omega)
  have e2 : (⟨(t.val * 512 + k.val) % 2048, Nat.mod_lt _ (by decide)⟩ : Fin 2048) = ⟨t.val % 4 * 512 + k.val, hl⟩ := Fin.ext (by show (t.val * 512 + k.val) % 2048 = t.val % 4 * 512 + k.val; omega)
  rw [e1, e2]

theorem sum_partG (x : Fin 2 → Fin 2048 → Row) (v : Fin 1024 → Wide) (z : Fin 2 → Fin 2048 → Wide) (i : ℕ) (j : Fin 1024) :
    ∑ t : Fin cfg0.N, partG x v z t.val i j = if i = 0 then ∑ q, ∑ s, dg (x q s) (dh (z q s) v) j else 0 := by
  split_ifs with hi
  · rw [← sum_tokens fun q s => dg (x q s) (dh (z q s) v) j]
    refine Eq.trans ?_ (sum_last fun n => ∑ r : Fin 512, dg (x ⟨(n * 512 + r.val) / 2048 % 2, Nat.mod_lt _ (by decide)⟩ ⟨(n * 512 + r.val) % 2048, Nat.mod_lt _ (by decide)⟩)
      (dh (z ⟨(n * 512 + r.val) / 2048 % 2, Nat.mod_lt _ (by decide)⟩ ⟨(n * 512 + r.val) % 2048, Nat.mod_lt _ (by decide)⟩) v) j)
    refine Finset.sum_congr rfl fun t _ => ?_
    rw [partG]
    by_cases h : t.val % 7 = 6
    · rw [if_pos ⟨h, hi⟩, if_pos h]
    · rw [if_neg (fun k => h k.1), if_neg h]
  · exact Finset.sum_eq_zero fun t _ => if_neg fun k => hi k.2

/-- The grid's last point. -/
def last : Fin cfg0.N := ⟨55, lt_of_lt_of_eq (by decide : 55 < 56) N_0.symm⟩

include H
/-- The first result: the gradient at the input. -/
theorem final13 : (dats m 0 c).arrAt 13 cfg0.N = (fun y : S4096x1024.Idx =>
    (gx (o (sq (y 0)) (fr (y 0))) (x (sq (y 0)) (fr (y 0))) g (dh (z (sq (y 0)) (fr (y 0))) v) (y 1) : EReal)) := by
  refine (dats m 0 c).arrAt_eq_of_covers 13 _ (by decide +kernel) fun t hf y => ?_
  rw [after0_13]
  obtain ⟨r, j, rfl⟩ : ∃ (r : Fin 512) (j : Fin 1024), y = ix2 r j := ⟨y 0, y 1, by funext i; fin_cases i <;> rfl⟩
  refine (out13 H t (flush13 t hf) r j).trans ?_
  exact (congrArg (fun y : S4096x1024.Idx => (gx (o (sq (y 0)) (fr (y 0))) (x (sq (y 0)) (fr (y 0))) g (dh (z (sq (y 0)) (fr (y 0))) v) (y 1) : EReal)) (emb13 t r j)).symm

/-- The second result: the gradient at the norm's scale, in the first of eight rows. -/
theorem final14 : (dats m 0 c).arrAt 14 cfg0.N = (fun y : S8x1024.Idx =>
    ((if (y 0).val = 0 then ∑ q, ∑ s, dg (x q s) (dh (z q s) v) (y 1) else 0 : ℝ) : EReal)) := by
  refine (dats m 0 c).arrAt_eq_of_after_last 14 last (by decide +kernel) _ fun y => ?_
  rw [after0_14]
  refine (Pipeline.eq_sum_fin_of_reset_step_apply_last (fun n h => (outsAt0 m c n h).2) 56 (fun _ => 0) (fun t y => (partG x v z t.val (y 0).val (y 1) : EReal))
    (scale_A H) (scale_step H) (le_of_eq N_0) last rfl y).trans ?_
  rw [zero_add, ← coe_sum]
  exact congrArg _ (sum_partG x v z _ _)

end Cert.Kernel4Ideal.Inproj

end
-- ==== Proof.Inproj.Reference.lean ====
/- What the reference of the norm before the input projection leaves in its results, for real arguments. -/
module

public import proofs.«01_k».proof.Proof.Inproj.Math
public import proofs.«01_k».proof.Proof.Gen.Reference4Ideal.Read

@[expose] public section

set_option maxRecDepth 16384

noncomputable section

namespace Cert.Reference4Ideal.Inproj

open Idealize.ShloMosaic Idealize.ShloMosaic.TcCoe Idealize.ShloMosaic.Tactic
open Cert.Reals Cert.Inproj
open Cert.Reference4Ideal Cert.Reference4Ideal.Gen Cert.Reference4Ideal.Read

theorem back_at (d : FVec Ideal S2x2048x7184 .f32) (w : FVec Ideal S1024x7184 .f32) (q : Fin 2) (s : Fin 2048) (j : Fin 1024) :
    Host.dotGeneral (F := Ideal) (φ₁ := .f32) (φ₂ := .f32) dot_S2x2048x7184_S1024x7184_S2x2048x1024_2_1_01_0_n_n none d w (ix3 q s j) = ∑ e : Fin 7184, (d (ix3 q s e) * w (ix2 j e) : EReal) := by
  pointwise

/-- The argument arrays hold these real numbers. -/
structure Real (x0 : Vec Ideal S2x2048x1024 .f32) (x1 : Vec Ideal S1x1024 .f32) (x2 : Vec Ideal S1x1024x7184 .f32) (x3 : Vec Ideal S2x2048x7184 .f32)
    (x4 : Vec Ideal S2x2048x1024 .f32) (x o : Fin 2 → Fin 2048 → Row) (g : Row) (v : Fin 1024 → Wide) (z : Fin 2 → Fin 2048 → Wide) : Prop where
  hx : ∀ q s j, x0 (ix3 q s j) = (x q s j : EReal)
  hg : ∀ j, x1 (ix2 0 j) = (g j : EReal)
  hv : ∀ j e, x2 (ix3 0 j e) = (v j e : EReal)
  hz : ∀ q s e, x3 (ix3 q s e) = (z q s e : EReal)
  ho : ∀ q s j, x4 (ix3 q s j) = (o q s j : EReal)

variable {x0 : Vec Ideal S2x2048x1024 .f32} {x1 : Vec Ideal S1x1024 .f32} {x2 : Vec Ideal S1x1024x7184 .f32} {x3 : Vec Ideal S2x2048x7184 .f32}
variable {x4 : Vec Ideal S2x2048x1024 .f32} {x o : Fin 2 → Fin 2048 → Row} {g : Row} {v : Fin 1024 → Wide} {z : Fin 2 → Fin 2048 → Wide}
variable (H : Real x0 x1 x2 x3 x4 x o g v z)
include H

theorem v7_at (q : Fin 2) (s : Fin 2048) (u : Fin 1) : val_main_v7 (F := Ideal) x0 (ix3 q s u) = ((ms (x q s) + eps : ℝ) : EReal) := by
  pointwise [val_main_v7, val_main_v6, val_main_v5, val_main_v4, val_main_v3, val_main_v2, val_main_v1, val_main_cst, val_main_cst_0, val_main_cst_1]
  simp only [H.hx, ofBits_1024, ofBits_eps, ← EReal.coe_mul, ← coe_sum, div_real (by norm_num : (1024 : ℝ) ≠ 0), ← EReal.coe_add]
  rfl

theorem v8_at (q : Fin 2) (s : Fin 2048) (u : Fin 1) : val_main_v8 (F := Ideal) x0 (ix3 q s u) = (rs (x q s) : EReal) := by
  pointwise [val_main_v8]
  rw [v7_at H]
  exact rsqrt_real (ms_eps_pos _)

theorem v11_at (q : Fin 2) (s : Fin 2048) (u : Fin 1) : val_main_v11 (F := Ideal) x0 (ix3 q s u)
    = ((-(1 / 2) * (rs (x q s) / (ms (x q s) + eps)) : ℝ) : EReal) := by
  pointwise [val_main_v11, val_main_v10, val_main_v9, val_main_cst_2]
  rw [v8_at H, v7_at H, ofBits_neg_half, div_real (ms_eps_pos _).ne', ← EReal.coe_mul]

theorem v13_at (q : Fin 2) (s : Fin 2048) (j : Fin 1024) : val_main_v13 (F := Ideal) x0 (ix3 q s j) = ((x q s j * rs (x q s) : ℝ) : EReal) := by
  pointwise [val_main_v13, val_main_v12]
  rw [v8_at H, H.hx, ← EReal.coe_mul]

theorem v17_at (j : Fin 1024) (e : Fin 7184) : val_main_v17 (F := Ideal) x2 (ix2 j e) = (v j e : EReal) := by
  rw [← H.hv]
  pointwise [val_main_v17]

theorem v21_at (q : Fin 2) (s : Fin 2048) (j : Fin 1024) : val_main_v21 (F := Ideal) x2 x3 (ix3 q s j) = (dh (z q s) v j : EReal) := by
  rw [val_main_v21, back_at]
  simp only [v17_at H, H.hz, ← EReal.coe_mul, ← coe_sum]
  rfl

theorem v27_at (q : Fin 2) (s : Fin 2048) (j : Fin 1024) : val_main_v27 (F := Ideal) x1 x2 x3 (ix3 q s j) = ((dh (z q s) v j * g j : ℝ) : EReal) := by
  pointwise [val_main_v27, val_main_v26, val_main_v14, val_main_v0]
  rw [v21_at H, H.hg, ← EReal.coe_mul]

theorem v30_at (q : Fin 2) (s : Fin 2048) : val_main_v30 (F := Ideal) x0 x1 x2 x3 (ix2 q s) = ((∑ i, x q s i * (dh (z q s) v i * g i) : ℝ) : EReal) := by
  pointwise [val_main_v30, val_main_v29, val_main_cst_5]
  simp only [v27_at H, H.hx, ← EReal.coe_mul, ← coe_sum]

theorem v38_at (q : Fin 2) (s : Fin 2048) : val_main_v38 (F := Ideal) x0 x1 x2 x3 (ix2 q s)
    = (((∑ i, x q s i * (dh (z q s) v i * g i)) * (-(1 / 2) * (rs (x q s) / (ms (x q s) + eps))) / 1024 : ℝ) : EReal) := by
  pointwise [val_main_v38, val_main_v37, val_main_v36, val_main_v35, val_main_v31, val_main_cst_6, val_main_cst_7]
  first | rw [Fin.sum_univ_one] | skip
  rw [v30_at H, v11_at H, ofBits_1024, ← EReal.coe_mul, div_real (by norm_num : (1024 : ℝ) ≠ 0)]

theorem v43_at (q : Fin 2) (s : Fin 2048) (j : Fin 1024) : val_main_v43 (F := Ideal) x0 x1 x2 x3 x4 (ix3 q s j)
    = (gx (o q s) (x q s) g (dh (z q s) v) j : EReal) := by
  pointwise [val_main_v43, val_main_v42, val_main_v41, val_main_v40, val_main_v39, val_main_v34, val_main_v33, val_main_v32]
  rw [v38_at H, v27_at H, v8_at H, H.hx, H.ho]
  simp only [← EReal.coe_mul, ← EReal.coe_add]
  exact congrArg _ (gx_eq _ _ _ _ _)

theorem v45_at (n : Fin 4096) (j : Fin 1024) : val_main_v45 (F := Ideal) x0 x1 x2 x3 x4 (ix2 n j)
    = (gx (o ⟨n.val / 2048, by omega⟩ ⟨n.val % 2048, by omega⟩) (x ⟨n.val / 2048, by omega⟩ ⟨n.val % 2048, by omega⟩) g
        (dh (z ⟨n.val / 2048, by omega⟩ ⟨n.val % 2048, by omega⟩) v) j : EReal) := by
  rw [← v43_at H]
  pointwise [val_main_v45]

theorem v28_at (j : Fin 1024) : val_main_v28 (F := Ideal) x0 x2 x3 (ix1 j) = ((∑ q, ∑ s, dg (x q s) (dh (z q s) v) j : ℝ) : EReal) := by
  have h : val_main_v24 (F := Ideal) x0 x2 x3 (ix1 j) = ((∑ q, ∑ s, dg (x q s) (dh (z q s) v) j : ℝ) : EReal) := by
    refine (reduceAdd_rows _ _ _ j).trans ?_
    pointwise [val_main_cst_3, val_main_v23]
    simp only [v13_at H, v21_at H, ← EReal.coe_mul, ← coe_sum]
    refine congrArg _ (Finset.sum_congr rfl fun q _ => Finset.sum_congr rfl fun s _ => ?_)
    rw [dg]
    ring
  refine (reduceAdd_rows _ _ _ j).trans ?_
  pointwise [val_main_v25, val_main_cst_4]
  rw [Fin.sum_univ_one, Fin.sum_univ_one, h]

theorem v46_at (r : Fin 8) (j : Fin 1024) : val_main_v46 (F := Ideal) x0 x2 x3 (ix2 r j)
    = ((if r.val = 0 then ∑ q, ∑ s, dg (x q s) (dh (z q s) v) j else 0 : ℝ) : EReal) := by
  rw [apply_ite (fun r : ℝ => (r : EReal)), ← v28_at H, EReal.coe_zero]
  pointwise [val_main_v46, val_main_v44, val_main_call0_v0, val_main_c]
  have e : FloatOps.sitofp (F := Ideal) .f32 0#32 = (0 : EReal) := by simp [FloatOps.sitofp]
  rw [e]
  split_ifs <;> first | rfl | omega

end Cert.Reference4Ideal.Inproj

end
-- ==== Proof.Inproj.Claim.lean ====
/- The claim about the input projection. -/
module

public import proofs.«01_k».proof.Proof.Inproj.Kernel
public import proofs.«01_k».proof.Proof.Inproj.Reference
public import proofs.«01_k».proof.Defs
public import proofs.«01_k».proof.Proof.Gen.Kernel4Ideal.Value
public import proofs.«01_k».proof.Proof.Gen.Reference4Ideal.Run
public import proofs.«01_k».proof.Proof.Gen.Kernel4Ideal.Launch
public import proofs.«01_k».proof.Proof.Gen.Pre_inproj_finite

@[expose] public section

set_option maxRecDepth 16384

noncomputable section

namespace Cert.Inproj

open Idealize.ShloMosaic Idealize.ShloMosaic.TcCoe Idealize.SL.Sem
open Cert.Reals

/-- Finite arguments are arrays of real numbers. -/
theorem real_of_pre (m : (ℓ : Loc Kernel4Ideal.nD Kernel4Ideal.τ Kernel4Ideal.sig) → Buf (Elt Ideal) ℓ)
    (h : Pre_Kernel4Ideal_inproj_finite (hPre_inproj_finite := Pre_inproj_finite.Gen.facts) m) (c : Dev Kernel4Ideal.nD) :
    ∃ (x o : Fin 2 → Fin 2048 → Row) (g : Row) (v : Fin 1024 → Wide) (z : Fin 2 → Fin 2048 → Wide), Kernel4Ideal.Inproj.Real m c x o g v z := by
  have h0 := congrFun (h c) ix0
  unfold Pre_inproj_finite.fn Pre_inproj_finite.fn_part1 at h0
  obtain ⟨h0, h4⟩ := andi_one h0
  obtain ⟨h0, h3⟩ := andi_one h0
  obtain ⟨h0, h2⟩ := andi_one h0
  obtain ⟨h0, h1⟩ := andi_one h0
  obtain ⟨r0, e0⟩ := real_of_all _ _ _ _ _ _ h0
  obtain ⟨r1, e1⟩ := real_of_all _ _ _ _ _ _ h1
  obtain ⟨r2, e2⟩ := real_of_all _ _ _ _ _ _ h2
  obtain ⟨r3, e3⟩ := real_of_all _ _ _ _ _ _ h3
  obtain ⟨r4, e4⟩ := real_of_all _ _ _ _ _ _ h4
  exact ⟨fun a s j => r0 (ix3 a s j), fun a s j => r4 (ix3 a s j), fun j => r1 (ix2 0 j), fun j e => r2 (ix3 0 j e), fun a s e => r3 (ix3 a s e),
    fun a s j => e0 _, fun j => e1 _, fun j e => e2 _, fun a s e => e3 _, fun a s j => e4 _⟩

theorem algebraic : algebraic_Kernel4Ideal_Reference4Ideal_pre_inproj_finite (hKernel4Ideal := Kernel4Ideal.Gen.facts) (hReference4Ideal := Reference4Ideal.Gen.facts)
    (hPre_inproj_finite := Pre_inproj_finite.Gen.facts) := by
  intro m g m' g' hpre hargs
  refine ⟨fun c => (Kernel4Ideal.Gen.dats m 0 c).arrAt 13 Kernel4Ideal.cfg0.N, fun c => (Kernel4Ideal.Gen.dats m 0 c).arrAt 14 Kernel4Ideal.cfg0.N,
    Kernel4Ideal.Value.run_blocks m g, (θ_run Reference4Ideal.defs _ _).mono (fun r h c => ?_) (Reference4Ideal.Value.run m' g')⟩
  obtain ⟨x, o, w, v, z, H⟩ := real_of_pre m hpre c
  obtain ⟨a0, a1, a2, a3, a4⟩ := hargs c
  have R : Reference4Ideal.Inproj.Real (m' ((c.tc : Thread Reference4Ideal.nD Reference4Ideal.τ).loc Reference4Ideal.main_arg0))
      (m' ((c.tc : Thread Reference4Ideal.nD Reference4Ideal.τ).loc Reference4Ideal.main_arg1)) (m' ((c.tc : Thread Reference4Ideal.nD Reference4Ideal.τ).loc Reference4Ideal.main_arg2))
      (m' ((c.tc : Thread Reference4Ideal.nD Reference4Ideal.τ).loc Reference4Ideal.main_arg3)) (m' ((c.tc : Thread Reference4Ideal.nD Reference4Ideal.τ).loc Reference4Ideal.main_arg4))
      x o w v z := by
    rw [a0, a1, a2, a3, a4]
    exact ⟨H.hx, H.hg, H.hv, H.hz, H.ho⟩
  obtain ⟨h0, h1, h2⟩ := h c
  refine ⟨h0.trans ((Reference4Ideal.Read.val_main_v45_eq _ _).trans ?_), h1.trans ((Reference4Ideal.Read.val_main_v46_eq _ _ _).trans ?_), h2⟩
  · refine Eq.trans (funext fun y => ?_) (Kernel4Ideal.Inproj.final13 H).symm
    obtain ⟨n, j, rfl⟩ : ∃ (n : Fin 4096) (j : Fin 1024), y = ix2 n j := ⟨y 0, y 1, by funext i; fin_cases i <;> rfl⟩
    exact Reference4Ideal.Inproj.v45_at R n j
  · refine Eq.trans (funext fun y => ?_) (Kernel4Ideal.Inproj.final14 H).symm
    obtain ⟨n, j, rfl⟩ : ∃ (n : Fin 8) (j : Fin 1024), y = ix2 n j := ⟨y 0, y 1, by funext i; fin_cases i <;> rfl⟩
    exact Reference4Ideal.Inproj.v46_at R n j

end Cert.Inproj

end

end
-- ==== Proof.Outproj.Math.lean ====
/- The loss and the gradient of the output projection, over the extended reals. -/
module

public import proofs.«01_k».proof.Proof.Reals

@[expose] public section

set_option maxRecDepth 16384

noncomputable section

namespace Cert.Outproj

open Idealize.ShloMosaic

abbrev Row := Fin 1024 → EReal

/-- The rows of the output projection that meet the attention, and those that meet the convolution. -/
def lo (i : Fin 1024) : Fin 2048 := ⟨i.val, by omega⟩
def hi (i : Fin 1024) : Fin 2048 := ⟨1024 + i.val, by omega⟩

/-- The gated attention at one column. -/
def gate (a g : EReal) : EReal := a * (g * Ideal.logistic g)

/-- The error of one token's output. -/
def err (a g u x t : Row) (w : Fin 2048 → Row) (j : Fin 1024) : EReal :=
  x j + (∑ i, gate (a i) (g i) * w (lo i) j + ∑ i, u i * w (hi i) j) - t j

/-- The gradient at the output: the mean over 1024 columns of half the squared error. -/
def dout (a g u x t : Row) (w : Fin 2048 → Row) (j : Fin 1024) : EReal := err a g u x t w j * ((1 / 1024 : ℝ) : EReal)

/-- The gradient at one entry of the mixed row. -/
def dy (a g u x t : Row) (w : Fin 2048 → Row) (e : Fin 2048) : EReal := ∑ j, dout a g u x t w j * w e j

/-- The mixed row that the projection reads. -/
def mixed (a g u : Row) (e : Fin 2048) : EReal :=
  if h : e.val < 1024 then gate (a ⟨e.val, h⟩) (g ⟨e.val, h⟩) else u ⟨e.val - 1024, by omega⟩

theorem mixed_lo (a g u : Row) (i : Fin 1024) : mixed a g u (lo i) = gate (a i) (g i) := dif_pos i.isLt

theorem mixed_hi (a g u : Row) (i : Fin 1024) : mixed a g u (hi i) = u i :=
  (dif_neg (by show ¬ 1024 + i.val < 1024; omega)).trans (congrArg u (Fin.ext (by show 1024 + i.val - 1024 = i.val; omega)))

/-- A sum over the mixed row is the sum over its two halves. -/
theorem sum_halves (f : Fin 2048 → EReal) : ∑ e, f e = ∑ i, f (lo i) + ∑ i, f (hi i) := Fin.sum_univ_add (a := 1024) (b := 1024) f

theorem mul_self_nonneg (x : EReal) : 0 ≤ x * x := by
  rcases le_total 0 x with h | h
  · exact mul_nonneg h h
  · rw [← neg_mul_neg]
    have h' : 0 ≤ -x := EReal.neg_nonneg.mpr h
    exact mul_nonneg h' h'

/-- A factor of a sum of terms that aren't negative. -/
theorem sum_mul {ι : Type} [DecidableEq ι] (s : Finset ι) (f : ι → EReal) (h : ∀ i, 0 ≤ f i) (c : EReal) : (∑ i ∈ s, f i) * c = ∑ i ∈ s, f i * c := by
  induction s using Finset.induction_on with
  | empty => rw [Finset.sum_empty, Finset.sum_empty, zero_mul]
  | insert i s hi ih =>
    rw [Finset.sum_insert hi, Finset.sum_insert hi, EReal.right_distrib_of_nonneg (h i) (Finset.sum_nonneg fun j _ => h j), ih]

theorem ofBits_1024th : Ideal.ofBits .f32 0x3A800000#32 = ((1 / 1024 : ℝ) : EReal) := by
  simp [Ideal.ofBits, Ideal.ieee, -EReal.coe_mul]; norm_num

theorem ofBits_2048th : Ideal.ofBits .f32 0x3A000000#32 = ((1 / 2048 : ℝ) : EReal) := by
  simp [Ideal.ofBits, Ideal.ieee, -EReal.coe_mul]; norm_num

theorem ofBits_half : Ideal.ofBits .f32 0x3F000000#32 = ((1 / 2 : ℝ) : EReal) := by
  simp [Ideal.ofBits, Ideal.ieee, -EReal.coe_mul]; norm_num

end Cert.Outproj

end
-- ==== Proof.Outproj.Payload.lean ====
/- What the kernel of the output projection computes of one block of tokens. -/
module

public import proofs.«01_k».proof.Proof.Outproj.Math
public import proofs.«01_k».proof.Proof.Gen.Kernel5Ideal.Skeleton

@[expose] public section

set_option maxRecDepth 16384

noncomputable section

namespace Cert.Kernel5Ideal.Outproj

open Idealize.ShloMosaic Idealize.ShloMosaic.TcCoe
open Cert.Outproj
open Cert.Kernel5Ideal Cert.Kernel5Ideal.Gen

variable {G A X T : Vec Ideal S256x1024 .f32} {U : Vec Ideal S256x1024 .bf16} {W0 W1 : Vec Ideal S1024x1024 .bf16}
variable {g a u x t : Fin 256 → Row} {w : Fin 2048 → Row}

theorem pay9_at (hG : ∀ r j, G (ix2 r j) = g r j) (hA : ∀ r j, A (ix2 r j) = a r j) (r : Fin 256) (j : Fin 1024) :
    k0_pay9 G A (ix2 r j) = gate (a r j) (g r j) := by
  pointwise [k0_pay9]
  rw [hG, hA]
  rfl

theorem pay10_at (hU : ∀ r j, U (ix2 r j) = u r j) (r : Fin 256) (j : Fin 1024) : k0_pay10 U (ix2 r j) = u r j := by
  pointwise [k0_pay10]
  rw [hU]

/-- The error of a block of tokens. -/
theorem pay11_at (hG : ∀ r j, G (ix2 r j) = g r j) (hA : ∀ r j, A (ix2 r j) = a r j) (hU : ∀ r j, U (ix2 r j) = u r j)
    (hX : ∀ r j, X (ix2 r j) = x r j) (h0 : ∀ i j, W0 (ix2 i j) = w (lo i) j) (h1 : ∀ i j, W1 (ix2 i j) = w (hi i) j)
    (hT : ∀ r j, T (ix2 r j) = t r j) (r : Fin 256) (j : Fin 1024) :
    k0_pay11 G A U X W0 W1 T (ix2 r j) = err (a r) (g r) (u r) (x r) (t r) w j := by
  pointwise [k0_pay11]
  simp only [pay9_at hG hA, pay10_at hU, hX, h0, h1, hT]
  rfl

variable {E : Vec Ideal S256x1024 .f32} {ε : Fin 256 → Row}

theorem pay1_at (hE : ∀ r j, E (ix2 r j) = ε r j) (r : Fin 256) (j : Fin 1024) : k0_pay1 (F := Ideal) E (ix2 r j) = ε r j * ((1 / 1024 : ℝ) : EReal) := by
  pointwise [k0_pay1]
  rw [hE, ofBits_1024th]

theorem pay2_at (hE : ∀ r j, E (ix2 r j) = ε r j) (r : Fin 256) (j : Fin 1024) : k0_pay2 (F := Ideal) E (ix2 r j) = ε r j * ((1 / 1024 : ℝ) : EReal) := by
  pointwise [k0_pay2]
  rw [pay1_at hE]

theorem pay3_at (hE : ∀ r j, E (ix2 r j) = ε r j) (h0 : ∀ i j, W0 (ix2 i j) = w (lo i) j) (r : Fin 256) (e : Fin 1024) :
    k0_pay3 (F := Ideal) E W0 (ix2 r e) = ∑ j, ε r j * ((1 / 1024 : ℝ) : EReal) * w (lo e) j := by
  pointwise [k0_pay3]
  simp only [pay2_at hE, h0]

theorem pay4_at (hE : ∀ r j, E (ix2 r j) = ε r j) (h1 : ∀ i j, W1 (ix2 i j) = w (hi i) j) (r : Fin 256) (e : Fin 1024) :
    k0_pay4 (F := Ideal) E W1 (ix2 r e) = ∑ j, ε r j * ((1 / 1024 : ℝ) : EReal) * w (hi e) j := by
  pointwise [k0_pay4]
  simp only [pay2_at hE, h1]

theorem pay5_at {Q : Vec Ideal S256x1024 .bf16} {q : Fin 256 → Row} (hQ : ∀ r j, Q (ix2 r j) = q r j) (hE : ∀ r j, E (ix2 r j) = ε r j)
    (L : Vec Ideal S1024x1024 .f32) (i j : Fin 1024) :
    k0_pay5 (F := Ideal) Q E L (ix2 i j) = L (ix2 i j) + ∑ r, q r i * (ε r j * ((1 / 1024 : ℝ) : EReal)) := by
  pointwise [k0_pay5]
  simp only [pay2_at hE, hQ]

theorem pay6_at {Q : Vec Ideal S256x1024 .bf16} {q : Fin 256 → Row} (hQ : ∀ r j, Q (ix2 r j) = q r j) (hE : ∀ r j, E (ix2 r j) = ε r j)
    (L : Vec Ideal S1024x1024 .f32) (i j : Fin 1024) :
    k0_pay6 (F := Ideal) Q E L (ix2 i j) = L (ix2 i j) + ∑ r, q r i * (ε r j * ((1 / 1024 : ℝ) : EReal)) := by
  pointwise [k0_pay6]
  simp only [pay2_at hE, hQ]

/-- The loss of a block of tokens, added to a running loss. -/
theorem pay12_at (hG : ∀ r j, G (ix2 r j) = g r j) (hA : ∀ r j, A (ix2 r j) = a r j) (hU : ∀ r j, U (ix2 r j) = u r j)
    (hX : ∀ r j, X (ix2 r j) = x r j) (h0 : ∀ i j, W0 (ix2 i j) = w (lo i) j) (h1 : ∀ i j, W1 (ix2 i j) = w (hi i) j)
    (hT : ∀ r j, T (ix2 r j) = t r j) (L : Vec Ideal S8x128 .f32) (p : Fin 8) (q : Fin 128) :
    k0_pay12 G A U X W0 W1 T L (ix2 p q) = L (ix2 p q)
      + (∑ r, ∑ j, err (a r) (g r) (u r) (x r) (t r) w j * err (a r) (g r) (u r) (x r) (t r) w j) * ((1 / 2048 : ℝ) : EReal) := by
  pointwise [k0_pay12]
  simp only [pay11_at hG hA hU hX h0 h1 hT, ofBits_2048th]

end Cert.Kernel5Ideal.Outproj

end
-- ==== Proof.Outproj.Blocks.lean ====
/- The blocks that the kernel of the output projection reads at a grid point, in terms of the argument arrays. -/
module

public import proofs.«01_k».proof.Proof.Outproj.Math
public import proofs.«01_k».proof.Proof.Gen.Kernel5Ideal.Frame
public import Idealize.ShloMosaic.Lib.Pipeline.ValueKit
public import Idealize.ShloMosaic.Lib.Claim

@[expose] public section

set_option maxRecDepth 16384

noncomputable section

namespace Cert.Kernel5Ideal.Outproj

open Idealize.ShloMosaic Idealize.ShloMosaic.TcCoe Idealize.SL.Sem
open Idealize.ShloMosaic.Pipeline (Dat)
open Cert.Outproj
open Cert.Kernel5Ideal Cert.Kernel5Ideal.Gen

/-- The sequence and the frame of a token, tokens being numbered through both sequences. -/
def seq (t : Fin cfg0.N) (r : Fin 256) : Fin 2 := ⟨(t.val * 256 + r.val) / 2048, by have := lt_of_lt_of_eq t.isLt N_0; omega⟩
def frame (t : Fin cfg0.N) (r : Fin 256) : Fin 2048 := ⟨(t.val * 256 + r.val) % 2048, by omega⟩

theorem idx : ∀ t : Fin cfg0.N, win0_0.index t = ![t.val, 0] ∧ win0_1.index t = ![t.val, 3] ∧ win0_2.index t = ![t.val, 0]
    ∧ win0_3.index t = ![t.val, 0] ∧ win0_4.index t = ![t.val, 0] ∧ win0_5.index t = ![0, 0] ∧ win0_6.index t = ![t.val, 0]
    ∧ win0_7.index t = ![t.val, 0] ∧ win0_8.index t = ![0, 0] ∧ win0_9.index t = ![0, 0] :=
  (by decide +kernel : ∀ t : Fin grid0.N, _)

variable (m : (ℓ : Loc nD τ sig) → Buf (Elt Ideal) ℓ) (c : Dev nD)

/-- The argument arrays: the attention, its gate, the convolution's result, the block's input, the target and the output projection. -/
def ra (q : Fin 2) (s : Fin 2048) : Row := fun j => m ((c : Thread nD τ).loc main_arg1) (ix3 q s j)
def rg (q : Fin 2) (s : Fin 2048) : Row := fun j => m ((c : Thread nD τ).loc main_arg0) (ix3 q s ⟨3088 + j.val, by omega⟩)
def ru (q : Fin 2) (s : Fin 2048) : Row := fun j => m ((c : Thread nD τ).loc main_arg2) (ix3 q s j)
def rx (q : Fin 2) (s : Fin 2048) : Row := fun j => m ((c : Thread nD τ).loc main_arg3) (ix3 q s j)
def rt (q : Fin 2) (s : Fin 2048) : Row := fun j => m ((c : Thread nD τ).loc main_arg4) (ix3 q s j)
def rw (e : Fin 2048) : Row := fun j => m ((c : Thread nD τ).loc main_arg5) (ix3 0 e j)

theorem block_a (t : Fin cfg0.N) (r : Fin 256) (j : Fin 1024) : iblk m c 0 t (ix2 r j) = ra m c (seq t r) (frame t r) j := by
  have ht := lt_of_lt_of_eq t.isLt N_0
  unfold ra
  blk_simp [iblk, idx t]
  entry_read
  pointwise
  blk_ext [idx t, seq, frame]

theorem block_g (t : Fin cfg0.N) (r : Fin 256) (j : Fin 1024) : iblk m c 1 t (ix2 r j) = rg m c (seq t r) (frame t r) j := by
  have ht := lt_of_lt_of_eq t.isLt N_0
  unfold rg
  blk_simp [iblk, idx t]
  entry_read
  pointwise
  rw [dif_neg (by blk_simp [idx t]; omega)]
  blk_ext [idx t, seq, frame]

theorem block_u (t : Fin cfg0.N) (r : Fin 256) (j : Fin 1024) : iblk m c 2 t (ix2 r j) = ru m c (seq t r) (frame t r) j := by
  have ht := lt_of_lt_of_eq t.isLt N_0
  unfold ru
  blk_simp [iblk, idx t]
  entry_read
  pointwise
  blk_ext [idx t, seq, frame]

theorem block_x (t : Fin cfg0.N) (r : Fin 256) (j : Fin 1024) : iblk m c 3 t (ix2 r j) = rx m c (seq t r) (frame t r) j := by
  have ht := lt_of_lt_of_eq t.isLt N_0
  unfold rx
  blk_simp [iblk, idx t]
  entry_read
  pointwise
  blk_ext [idx t, seq, frame]

theorem block_t (t : Fin cfg0.N) (r : Fin 256) (j : Fin 1024) : iblk m c 4 t (ix2 r j) = rt m c (seq t r) (frame t r) j := by
  have ht := lt_of_lt_of_eq t.isLt N_0
  unfold rt
  blk_simp [iblk, idx t]
  entry_read
  pointwise
  blk_ext [idx t, seq, frame]

theorem block_w (t : Fin cfg0.N) (e : Fin 2048) (j : Fin 1024) : iblk m c 5 t (ix2 e j) = rw m c e j := by
  unfold rw
  blk_simp [iblk, idx t]
  entry_read
  pointwise
  blk_ext [idx t]

end Cert.Kernel5Ideal.Outproj

end
-- ==== Proof.Outproj.Kernel.lean ====
/- What the kernel of the output projection leaves in its four result arrays. -/
module

public import proofs.«01_k».proof.Proof.Outproj.Payload
public import proofs.«01_k».proof.Proof.Outproj.Blocks
public import proofs.«01_k».proof.Proof.Tiles

@[expose] public section

set_option maxRecDepth 16384

noncomputable section

namespace Cert.Kernel5Ideal.Outproj

open Idealize.ShloMosaic Idealize.ShloMosaic.TcCoe Idealize.SL.Sem
open Idealize.ShloMosaic.Pipeline (Dat)
open Cert.Outproj
open Cert.Kernel5Ideal Cert.Kernel5Ideal.Gen

variable (m : (ℓ : Loc nD τ sig) → Buf (Elt Ideal) ℓ) (c : Dev nD)

/-- The error, its gradient, the mixed row and its gradient, of one token of the argument arrays. -/
abbrev terr (q : Fin 2) (s : Fin 2048) : Row := err (ra m c q s) (rg m c q s) (ru m c q s) (rx m c q s) (rt m c q s) (rw m c)
abbrev tdout (q : Fin 2) (s : Fin 2048) : Row := dout (ra m c q s) (rg m c q s) (ru m c q s) (rx m c q s) (rt m c q s) (rw m c)
abbrev tmixed (q : Fin 2) (s : Fin 2048) (e : Fin 2048) : EReal := mixed (ra m c q s) (rg m c q s) (ru m c q s) e
abbrev tdy (q : Fin 2) (s : Fin 2048) (e : Fin 2048) : EReal := dy (ra m c q s) (rg m c q s) (ru m c q s) (rx m c q s) (rt m c q s) (rw m c) e

variable {m c} (t : Fin cfg0.N)

theorem w_lo (inb) (i j : Fin 1024) : View.ld (iblk m c 5 t) (Tiles.box (R := 2048) (C := 1024) (o := 0) (p := 0) (W := 1024) (V := 1024) inb) (ix2 i j)
    = rw m c (lo i) j :=
  (Tiles.ld_box _ _ _ _).trans ((congrArg₂ (fun e k => iblk m c 5 t (ix2 e k)) (Fin.ext (Nat.zero_add _)) (Fin.ext (Nat.zero_add _))).trans (block_w m c t (lo i) j))

theorem w_hi (inb) (i j : Fin 1024) : View.ld (iblk m c 5 t) (Tiles.box (R := 2048) (C := 1024) (o := 1024) (p := 0) (W := 1024) (V := 1024) inb) (ix2 i j)
    = rw m c (hi i) j :=
  (Tiles.ld_box _ _ _ _).trans ((congrArg (fun k => iblk m c 5 t (ix2 (hi i) k)) (Fin.ext (Nat.zero_add _))).trans (block_w m c t (hi i) j))

theorem err_at (i0 i1) (r : Fin 256) (j : Fin 1024) :
    k0_pay11 (iblk m c 1 t) (iblk m c 0 t) (iblk m c 2 t) (iblk m c 3 t) (View.ld (iblk m c 5 t) (Tiles.box (R := 2048) (C := 1024) (o := 0) (p := 0) (W := 1024) (V := 1024) i0))
      (View.ld (iblk m c 5 t) (Tiles.box (R := 2048) (C := 1024) (o := 1024) (p := 0) (W := 1024) (V := 1024) i1)) (iblk m c 4 t) (ix2 r j)
      = terr m c (seq t r) (frame t r) j :=
  pay11_at (w := rw m c) (block_g m c t) (block_a m c t) (block_u m c t) (block_x m c t) (w_lo t i0) (w_hi t i1) (block_t m c t) r j

/-- The block of the gradient at the output. -/
theorem out6 (r : Fin 256) (j : Fin 1024) : (outsAt0 m c t.val t.isLt).1 (ix2 r j) = tdout m c (seq t r) (frame t r) j := by
  by_cases h : t.val % 16 = 0
  · rw [outsAt0_A m c t h]
    frame_out
    exact pay1_at (err_at t _ _) r j
  · rw [outsAt0_B m c t h]
    frame_out
    exact pay1_at (err_at t _ _) r j

theorem lo_eq (e : Fin 2048) (h : e.val < 1024) (i : Fin 1024) (hi : i.val = e.val) : lo i = e := Fin.ext hi
theorem hi_eq (e : Fin 2048) (i : Fin 1024) (h : 1024 + i.val = e.val) : hi i = e := Fin.ext h

/-- The block of the gradient at the mixed row. -/
theorem out7 (r : Fin 256) (e : Fin 2048) : (outsAt0 m c t.val t.isLt).2.1 (ix2 r e) = tdy m c (seq t r) (frame t r) e := by
  by_cases h : t.val % 16 = 0
  · rw [outsAt0_A m c t h]
    frame_out
    rw [Tiles.canon_box, Tiles.canon_box]
    split_ifs with h1 h2
    · refine (pay4_at (err_at t _ _) (w_hi t _) _ _).trans ?_
      rw [hi_eq e _ (by show 1024 + (e.val - 1024) = e.val; omega)]
      rfl
    · refine (pay3_at (err_at t _ _) (w_lo t _) _ _).trans ?_
      rw [lo_eq e (by omega) _ (by show e.val - 0 = e.val; omega)]
      rfl
    · omega
  · rw [outsAt0_B m c t h]
    frame_out
    rw [Tiles.canon_box, Tiles.canon_box]
    split_ifs with h1 h2
    · refine (pay4_at (err_at t _ _) (w_hi t _) _ _).trans ?_
      rw [hi_eq e _ (by show 1024 + (e.val - 1024) = e.val; omega)]
      rfl
    · refine (pay3_at (err_at t _ _) (w_lo t _) _ _).trans ?_
      rw [lo_eq e (by omega) _ (by show e.val - 0 = e.val; omega)]
      rfl
    · omega

/-- What a grid point adds to the gradient of the output projection, and to the loss. -/
def partW (m : (ℓ : Loc nD τ sig) → Buf (Elt Ideal) ℓ) (c : Dev nD) (t : Fin cfg0.N) (y : S2048x1024.Idx) : EReal :=
  ∑ r : Fin 256, tmixed m c (seq t r) (frame t r) (y 0) * tdout m c (seq t r) (frame t r) (y 1)
def partL (m : (ℓ : Loc nD τ sig) → Buf (Elt Ideal) ℓ) (c : Dev nD) (t : Fin cfg0.N) (y : S8x128.Idx) : EReal :=
  (∑ r : Fin 256, ∑ j, terr m c (seq t r) (frame t r) j * terr m c (seq t r) (frame t r) j) * ((1 / 2048 : ℝ) : EReal)

theorem zero7_at (y : S2048x1024.Idx) : k0_pay7 (F := Ideal) y = (0 : EReal) := by
  pointwise [k0_pay7]

theorem zero8_at (y : S8x128.Idx) : k0_pay8 (F := Ideal) y = (0 : EReal) := by
  pointwise [k0_pay8]

theorem gate_block (r : Fin 256) (j : Fin 1024) : k0_pay9 (iblk m c 1 t) (iblk m c 0 t) (ix2 r j) = tmixed m c (seq t r) (frame t r) (lo j) :=
  (pay9_at (block_g m c t) (block_a m c t) r j).trans (mixed_lo _ _ _ _).symm

theorem conv_block (r : Fin 256) (j : Fin 1024) : k0_pay10 (iblk m c 2 t) (ix2 r j) = tmixed m c (seq t r) (frame t r) (hi j) :=
  (pay10_at (block_u m c t) r j).trans (mixed_hi _ _ _ _).symm

theorem weight_A (h : t.val % 16 = 0) (y : S2048x1024.Idx) : (outsAt0 m c t.val t.isLt).2.2.1 y = (0 : EReal) + partW m c t y := by
  rw [outsAt0_A m c t h]
  frame_out
  obtain ⟨e, j, rfl⟩ : ∃ (e : Fin 2048) (j : Fin 1024), y = ix2 e j := ⟨y 0, y 1, by funext i; fin_cases i <;> rfl⟩
  have hj : (⟨j.val - 0, by omega⟩ : Fin 1024) = j := Fin.ext (Nat.sub_zero _)
  rw [Tiles.canon_box, Tiles.canon_box]
  split_ifs with h1 h2
  · refine (pay6_at (conv_block t) (err_at t _ _) _ _ _).trans ?_
    rw [Tiles.readCov_box, Tiles.canon_box, dif_neg (fun h => absurd h.1.2 (by show ¬ 1024 + (e.val - 1024) < 0 + 1024; omega)), View.canon_cons_unit_lit' _ _ _ (by decide), zero7_at, hj,
      hi_eq e _ (by show 1024 + (e.val - 1024) = e.val; omega)]
    rfl
  · refine (pay5_at (gate_block t) (err_at t _ _) _ _ _).trans ?_
    rw [Tiles.readCov_box, View.canon_cons_unit_lit' _ _ _ (by decide), zero7_at, hj, lo_eq e (by omega) _ (by show e.val - 0 = e.val; omega)]
    rfl
  · omega

theorem weight_B (h : ¬ t.val % 16 = 0) (y : S2048x1024.Idx) : (outsAt0 m c t.val t.isLt).2.2.1 y
    = ((outsAt0 m c (t.val - 1) (Nat.lt_of_le_of_lt (Nat.sub_le _ _) t.isLt)).2.2.1 y : EReal) + partW m c t y := by
  rw [outsAt0_B m c t h]
  frame_out
  obtain ⟨e, j, rfl⟩ : ∃ (e : Fin 2048) (j : Fin 1024), y = ix2 e j := ⟨y 0, y 1, by funext i; fin_cases i <;> rfl⟩
  have hj : (⟨j.val - 0, by omega⟩ : Fin 1024) = j := Fin.ext (Nat.sub_zero _)
  rw [Tiles.canon_box, Tiles.canon_box]
  split_ifs with h1 h2
  · refine (pay6_at (conv_block t) (err_at t _ _) _ _ _).trans ?_
    rw [Tiles.ld_box, hj, hi_eq e _ (by show 1024 + (e.val - 1024) = e.val; omega)]
    refine congrArg₂ (· + ·) (congrArg _ (congrArg₂ ix2 (Fin.ext ?_) (Fin.ext ?_))) rfl
    · show 1024 + (e.val - 1024) = e.val; omega
    · show 0 + j.val = j.val; omega
  · refine (pay5_at (gate_block t) (err_at t _ _) _ _ _).trans ?_
    rw [Tiles.ld_box, hj, lo_eq e (by omega) _ (by show e.val - 0 = e.val; omega)]
    refine congrArg₂ (· + ·) (congrArg _ (congrArg₂ ix2 (Fin.ext ?_) (Fin.ext ?_))) rfl
    · show 0 + (e.val - 0) = e.val; omega
    · show 0 + j.val = j.val; omega
  · omega

theorem loss_A (h : t.val % 16 = 0) (y : S8x128.Idx) : (outsAt0 m c t.val t.isLt).2.2.2 y = (0 : EReal) + partL m c t y := by
  rw [outsAt0_A m c t h]
  frame_out
  obtain ⟨p, q, rfl⟩ : ∃ (p : Fin 8) (q : Fin 128), y = ix2 p q := ⟨y 0, y 1, by funext i; fin_cases i <;> rfl⟩
  refine (pay12_at (w := rw m c) (block_g m c t) (block_a m c t) (block_u m c t) (block_x m c t) (w_lo t _) (w_hi t _) (block_t m c t) _ p q).trans ?_
  first | rw [zero8_at] | rw [View.readCov_eq_canon', View.canon_cons_unit_lit' _ _ _ (by decide), zero8_at]
  rfl

theorem loss_B (h : ¬ t.val % 16 = 0) (y : S8x128.Idx) : (outsAt0 m c t.val t.isLt).2.2.2 y
    = ((outsAt0 m c (t.val - 1) (Nat.lt_of_le_of_lt (Nat.sub_le _ _) t.isLt)).2.2.2 y : EReal) + partL m c t y := by
  rw [outsAt0_B m c t h]
  frame_out
  obtain ⟨p, q, rfl⟩ : ∃ (p : Fin 8) (q : Fin 128), y = ix2 p q := ⟨y 0, y 1, by funext i; fin_cases i <;> rfl⟩
  exact pay12_at (w := rw m c) (block_g m c t) (block_a m c t) (block_u m c t) (block_x m c t) (w_lo t _) (w_hi t _) (block_t m c t) _ p q

/-- The sequence and the frame of a row of the results. -/
def sq (n : Fin 4096) : Fin 2 := ⟨n.val / 2048, by omega⟩
def fr (n : Fin 4096) : Fin 2048 := ⟨n.val % 2048, by omega⟩

theorem emb6 (r : Fin 256) (j : Fin 1024) : (win0_6.blk t).view.emb (ix2 r j)
    = (ix2 (⟨t.val * 256 + r.val, by have := lt_of_lt_of_eq t.isLt N_0; omega⟩ : Fin 4096) j : S4096x1024.Idx) := by
  blk_ext [idx t]

theorem emb7 (r : Fin 256) (e : Fin 2048) : (win0_7.blk t).view.emb (ix2 r e)
    = (ix2 (⟨t.val * 256 + r.val, by have := lt_of_lt_of_eq t.isLt N_0; omega⟩ : Fin 4096) e : S4096x2048.Idx) := by
  blk_ext [idx t]

/-- The first result: the gradient at the output. -/
theorem final6 : (dats m 0 c).arrAt 6 cfg0.N = (fun y : S4096x1024.Idx => tdout m c (sq (y 0)) (fr (y 0)) (y 1)) := by
  refine (dats m 0 c).arrAt_eq_of_covers 6 _ (by decide +kernel) fun t _ y => ?_
  rw [after0_6]
  obtain ⟨r, j, rfl⟩ : ∃ (r : Fin 256) (j : Fin 1024), y = ix2 r j := ⟨y 0, y 1, by funext i; fin_cases i <;> rfl⟩
  refine (out6 t r j).trans ?_
  exact (congrArg (fun y : S4096x1024.Idx => tdout m c (sq (y 0)) (fr (y 0)) (y 1)) (emb6 t r j)).symm

/-- The second result: the gradient at the mixed row. -/
theorem final7 : (dats m 0 c).arrAt 7 cfg0.N = (fun y : S4096x2048.Idx => tdy m c (sq (y 0)) (fr (y 0)) (y 1)) := by
  refine (dats m 0 c).arrAt_eq_of_covers 7 _ (by decide +kernel) fun t _ y => ?_
  rw [after0_7]
  obtain ⟨r, e, rfl⟩ : ∃ (r : Fin 256) (e : Fin 2048), y = ix2 r e := ⟨y 0, y 1, by funext i; fin_cases i <;> rfl⟩
  refine (out7 t r e).trans ?_
  exact (congrArg (fun y : S4096x2048.Idx => tdy m c (sq (y 0)) (fr (y 0)) (y 1)) (emb7 t r e)).symm

/-- A sum over the grid and the rows of a block is a sum over the sequences and their frames. -/
theorem sum_tokens (f : Fin 2 → Fin 2048 → EReal) : ∑ t : Fin cfg0.N, ∑ r : Fin 256, f (seq t r) (frame t r) = ∑ a, ∑ s, f a s := by
  refine Fin.sum_points_lanes_congr 8 (fun t k ha hl => ?_) N_0
  have e1 : seq t k = ⟨t.val / 8, ha⟩ := Fin.ext (by show (t.val * 256 + k.val) / 2048 = t.val / 8; omega)
  have e2 : frame t k = ⟨t.val % 8 * 256 + k.val, hl⟩ := Fin.ext (by show (t.val * 256 + k.val) % 2048 = t.val % 8 * 256 + k.val; omega)
  rw [e1, e2]

/-- The third result: the gradient of the output projection. -/
theorem final8 : (dats m 0 c).arrAt 8 cfg0.N = (fun y : S2048x1024.Idx => (∑ q, ∑ s, tmixed m c q s (y 0) * tdout m c q s (y 1) : EReal)) := by
  refine (dats m 0 c).arrAt_eq_of_after_last 8 t0_15 (by decide +kernel) _ fun y => ?_
  rw [after0_8]
  refine (Pipeline.eq_sum_fin_of_reset_step_apply_last (fun n h => (outsAt0 m c n h).2.2.1) 16 (fun _ => 0) _ weight_A weight_B (le_of_eq N_0) t0_15 rfl y).trans ?_
  rw [zero_add]
  exact sum_tokens fun q s => tmixed m c q s (y 0) * tdout m c q s (y 1)

/-- The fourth result: the loss. -/
theorem final9 : (dats m 0 c).arrAt 9 cfg0.N = (fun y : S8x128.Idx => ((∑ q, ∑ s, ∑ j, terr m c q s j * terr m c q s j) * ((1 / 2048 : ℝ) : EReal) : EReal)) := by
  refine (dats m 0 c).arrAt_eq_of_after_last 9 t0_15 (by decide +kernel) _ fun y => ?_
  rw [after0_9]
  refine (Pipeline.eq_sum_fin_of_reset_step_apply_last (fun n h => (outsAt0 m c n h).2.2.2) 16 (fun _ => 0) _ loss_A loss_B (le_of_eq N_0) t0_15 rfl y).trans ?_
  rw [zero_add, ← sum_tokens fun q s => ∑ j, terr m c q s j * terr m c q s j]
  exact (sum_mul _ _ (fun t => Finset.sum_nonneg fun r _ => Finset.sum_nonneg fun j _ => mul_self_nonneg _) _).symm

end Cert.Kernel5Ideal.Outproj

end
-- ==== Proof.Outproj.Reference.lean ====
/- The values of the reference of the output projection, in the terms of the mathematics. -/
module

public import proofs.«01_k».proof.Proof.Reals
public import proofs.«01_k».proof.Proof.Outproj.Math
public import proofs.«01_k».proof.Proof.Gen.Reference5Ideal.Read
public import Idealize.ShloMosaic.Lib.Pipeline.ValueKit

@[expose] public section

set_option maxRecDepth 16384

noncomputable section

namespace Cert.Reference5Ideal.Outproj

open Idealize.ShloMosaic Idealize.ShloMosaic.TcCoe Idealize.ShloMosaic.Tactic
open Cert.Reals Cert.Outproj
open Cert.Reference5Ideal Cert.Reference5Ideal.Gen Cert.Reference5Ideal.Read

/-! ### Single operations, read at an index -/

theorem product_at (y : FVec Ideal S2x2048x2048 .f32) (w : FVec Ideal S2048x1024 .f32) (q : Fin 2) (s : Fin 2048) (j : Fin 1024) :
    Host.dotGeneral (F := Ideal) (φ₁ := .f32) (φ₂ := .f32) dot_S2x2048x2048_S2048x1024_S2x2048x1024_2_0_01_1_n_n none y w (ix3 q s j) = ∑ e : Fin 2048, (y (ix3 q s e) * w (ix2 e j) : EReal) := by
  pointwise

theorem back_at (d : FVec Ideal S2x2048x1024 .f32) (w : FVec Ideal S2048x1024 .f32) (q : Fin 2) (s e : Fin 2048) :
    Host.dotGeneral (F := Ideal) (φ₁ := .f32) (φ₂ := .f32) dot_S2x2048x1024_S2048x1024_S2x2048x2048_2_1_01_0_n_n none d w (ix3 q s e) = ∑ j : Fin 1024, (d (ix3 q s j) * w (ix2 e j) : EReal) := by
  pointwise

theorem weight_at (d : FVec Ideal S2x2048x1024 .f32) (y : FVec Ideal S2x2048x2048 .f32) (j : Fin 1024) (e : Fin 2048) :
    Host.dotGeneral (F := Ideal) (φ₁ := .f32) (φ₂ := .f32) dot_S2x2048x1024_S2x2048x2048_S1024x2048_01_01_2_2_n_n none d y (ix2 j e)
      = ∑ q : Fin 2, ∑ s : Fin 2048, (d (ix3 q s j) * y (ix3 q s e) : EReal) := by
  pointwise

theorem total_at (y : FVec Ideal S2x2048 .f32) :
    Host.reduceAdd (F := Ideal) y (constant S_ .f32 0x00000000#32) reducesTo_S2x2048_S_d0_1 h_S_ ix0 = ∑ q : Fin 2, ∑ s : Fin 2048, (y (ix2 q s) : EReal) := by
  pointwise

theorem rows_at (y : FVec Ideal S2x2048x1024 .f32) (q : Fin 2) (s : Fin 2048) :
    Host.reduceAdd (F := Ideal) y (constant S_ .f32 0x00000000#32) reducesTo_S2x2048x1024_S2x2048_d2 h_S_ (ix2 q s) = ∑ j : Fin 1024, (y (ix3 q s j) : EReal) := by
  pointwise

theorem div_1024 (x : EReal) : Ideal.div x (Ideal.ofBits .f32 0x44800000#32) = x * ((1 / 1024 : ℝ) : EReal) := by
  rw [ofBits_1024, Ideal.div, if_neg (by norm_num), ← EReal.coe_inv]
  congr 2
  norm_num

/-! ### The values -/

variable (x0 : Vec Ideal S2x2048x7184 .f32) (x1 x2 x3 x4 : Vec Ideal S2x2048x1024 .f32) (x5 : Vec Ideal S1x2048x1024 .f32)

/-- The argument arrays: the attention, its gate, the convolution's result, the block's input, the target and the output projection. -/
def row (x : Vec Ideal S2x2048x1024 .f32) (q : Fin 2) (s : Fin 2048) : Row := fun j => x (ix3 q s j)
def rg (q : Fin 2) (s : Fin 2048) : Row := fun j => x0 (ix3 q s ⟨3088 + j.val, by omega⟩)
def rw (e : Fin 2048) : Row := fun j => x5 (ix3 0 e j)

abbrev terr (q : Fin 2) (s : Fin 2048) : Row := err (row x1 q s) (rg x0 q s) (row x2 q s) (row x3 q s) (row x4 q s) (rw x5)
abbrev tdout (q : Fin 2) (s : Fin 2048) : Row := dout (row x1 q s) (rg x0 q s) (row x2 q s) (row x3 q s) (row x4 q s) (rw x5)
abbrev tmixed (q : Fin 2) (s : Fin 2048) (e : Fin 2048) : EReal := mixed (row x1 q s) (rg x0 q s) (row x2 q s) e
abbrev tdy (q : Fin 2) (s : Fin 2048) (e : Fin 2048) : EReal := dy (row x1 q s) (rg x0 q s) (row x2 q s) (row x3 q s) (row x4 q s) (rw x5) e

theorem v0_at (q : Fin 2) (s : Fin 2048) (j : Fin 1024) : val_main_v0 (F := Ideal) x0 (ix3 q s j) = rg x0 q s j := by
  pointwise [val_main_v0]
  unfold rg
  blk_ext []

theorem v2_at (q : Fin 2) (s : Fin 2048) (j : Fin 1024) : val_main_v2 (F := Ideal) x0 x1 (ix3 q s j) = gate (row x1 q s j) (rg x0 q s j) := by
  pointwise [val_main_v2, val_main_v1, val_main_call0_v5, val_main_call0_v4, val_main_call0_v3, val_main_call0_v2, val_main_call0_v1, val_main_call0_v0,
    val_main_call0_cst, val_main_call0_cst_0]
  rw [v0_at]
  rfl

theorem v3_at (q : Fin 2) (s e : Fin 2048) : val_main_v3 (F := Ideal) x0 x1 x2 (ix3 q s e) = tmixed x0 x1 x2 q s e := by
  pointwise [val_main_v3]
  unfold tmixed mixed
  split_ifs
  · exact v2_at x0 x1 q s _
  all_goals first | rfl | omega

theorem v4_at (e : Fin 2048) (j : Fin 1024) : val_main_v4 (F := Ideal) x5 (ix2 e j) = rw x5 e j := by
  pointwise [val_main_v4]
  rfl

theorem v7_at (q : Fin 2) (s : Fin 2048) (j : Fin 1024) : val_main_v7 (F := Ideal) x0 x1 x2 x3 x4 x5 (ix3 q s j) = terr x0 x1 x2 x3 x4 x5 q s j := by
  rw [val_main_v7_apply, val_main_v6_apply, val_main_v5, product_at]
  simp only [v3_at, v4_at]
  rw [sum_halves]
  simp only [tmixed, mixed_lo, mixed_hi]
  rfl

theorem v21_at (q : Fin 2) (s : Fin 2048) (j : Fin 1024) : val_main_v21 (F := Ideal) x0 x1 x2 x3 x4 x5 (ix3 q s j) = tdout x0 x1 x2 x3 x4 x5 q s j := by
  pointwise [val_main_v21, val_main_v20, val_main_v19, val_main_v18, val_main_v17, val_main_v16, val_main_v10, val_main_v9, val_main_cst, val_main_cst_4, val_main_cst_5,
    val_main_cst_6]
  rw [v7_at, div_1024, ofBits_half, ofBits_two]
  unfold tdout dout
  rw [← mul_assoc]
  refine Eq.trans ?_ (mul_comm _ _)
  congr 1
  simp only [mul_one, ← EReal.coe_mul]
  norm_num

/-- The first result: the gradient at the output. -/
theorem v26_at (n : Fin 4096) (j : Fin 1024) : val_main_v26 (F := Ideal) x0 x1 x2 x3 x4 x5 (ix2 n j)
    = tdout x0 x1 x2 x3 x4 x5 ⟨n.val / 2048, by omega⟩ ⟨n.val % 2048, by omega⟩ j := by
  rw [← v21_at]
  pointwise [val_main_v26]
  blk_ext []

theorem v24_at (q : Fin 2) (s e : Fin 2048) : val_main_v24 (F := Ideal) x0 x1 x2 x3 x4 x5 (ix3 q s e) = tdy x0 x1 x2 x3 x4 x5 q s e := by
  rw [val_main_v24, back_at]
  simp only [v21_at, v4_at]
  rfl

/-- The second result: the gradient at the mixed row. -/
theorem v27_at (n : Fin 4096) (e : Fin 2048) : val_main_v27 (F := Ideal) x0 x1 x2 x3 x4 x5 (ix2 n e)
    = tdy x0 x1 x2 x3 x4 x5 ⟨n.val / 2048, by omega⟩ ⟨n.val % 2048, by omega⟩ e := by
  rw [← v24_at]
  pointwise [val_main_v27]
  blk_ext []

theorem v22_at (j : Fin 1024) (e : Fin 2048) : val_main_v22 (F := Ideal) x0 x1 x2 x3 x4 x5 (ix2 j e)
    = ∑ q, ∑ s, tmixed x0 x1 x2 q s e * tdout x0 x1 x2 x3 x4 x5 q s j := by
  rw [val_main_v22, weight_at]
  simp only [v21_at, v3_at]
  exact Finset.sum_congr rfl fun q _ => Finset.sum_congr rfl fun s _ => mul_comm _ _

/-- The third result: the gradient of the output projection. -/
theorem v28_at (e : Fin 2048) (j : Fin 1024) : val_main_v28 (F := Ideal) x0 x1 x2 x3 x4 x5 (ix2 e j)
    = ∑ q, ∑ s, tmixed x0 x1 x2 q s e * tdout x0 x1 x2 x3 x4 x5 q s j := by
  rw [← v22_at]
  pointwise [val_main_v28, val_main_v25, val_main_v23]

theorem v13_at (q : Fin 2) (s : Fin 2048) : val_main_v13 (F := Ideal) x0 x1 x2 x3 x4 x5 (ix2 q s)
    = (∑ j, terr x0 x1 x2 x3 x4 x5 q s j * terr x0 x1 x2 x3 x4 x5 q s j) * ((1 / 1024 : ℝ) : EReal) := by
  rw [val_main_v13_apply, val_main_v12_apply, val_main_cst_1_apply, val_main_v11, val_main_cst_0, rows_at]
  simp only [val_main_v8_apply, v7_at]
  exact div_1024 _

/-- The fourth result: the loss. -/
theorem v29_at (a : Fin 8) (b : Fin 128) : val_main_v29 (F := Ideal) x0 x1 x2 x3 x4 x5 (ix2 a b)
    = (∑ q, ∑ s, ∑ j, terr x0 x1 x2 x3 x4 x5 q s j * terr x0 x1 x2 x3 x4 x5 q s j) * ((1 / 2048 : ℝ) : EReal) := by
  rw [val_main_v29_apply, show idx_main_v29 (ix2 a b) = ix0 from funext fun i => i.elim0, val_main_v15_apply, val_main_cst_3_apply, val_main_v14, val_main_cst_2, total_at]
  simp only [v13_at]
  show Ideal.ofBits .f32 0x3F000000#32 * _ = _
  rw [ofBits_half, mul_comm, show ((1 / 2048 : ℝ) : EReal) = ((1 / 1024 : ℝ) : EReal) * ((1 / 2 : ℝ) : EReal) by rw [← EReal.coe_mul]; norm_num, ← mul_assoc]
  congr 1
  have pos : ∀ q s, 0 ≤ ∑ j, terr x0 x1 x2 x3 x4 x5 q s j * terr x0 x1 x2 x3 x4 x5 q s j := fun q s => Finset.sum_nonneg fun j _ => mul_self_nonneg _
  rw [sum_mul _ _ fun q => Finset.sum_nonneg fun s _ => pos q s]
  exact Finset.sum_congr rfl fun q _ => (sum_mul _ _ (pos q) _).symm

end Cert.Reference5Ideal.Outproj

end
-- ==== Proof.Outproj.Claim.lean ====
/- The claim about the output projection. -/
module

public import proofs.«01_k».proof.Proof.Outproj.Kernel
public import proofs.«01_k».proof.Proof.Outproj.Reference
public import proofs.«01_k».proof.Defs
public import proofs.«01_k».proof.Proof.Gen.Kernel5Ideal.Value
public import proofs.«01_k».proof.Proof.Gen.Reference5Ideal.Run
public import proofs.«01_k».proof.Proof.Gen.Kernel5Ideal.Launch

@[expose] public section

set_option maxRecDepth 16384

noncomputable section

namespace Cert.Outproj

open Idealize.ShloMosaic Idealize.ShloMosaic.TcCoe Idealize.SL.Sem

set_option maxHeartbeats 1000000 in
/-- The kernel of the output projection computes the loss and its gradients. -/
theorem algebraic : algebraic_Kernel5Ideal_Reference5Ideal (hKernel5Ideal := Kernel5Ideal.Gen.facts) (hReference5Ideal := Reference5Ideal.Gen.facts) := by
  intro m g m' g' _ hargs
  refine ⟨fun c => (Kernel5Ideal.Gen.dats m 0 c).arrAt 6 Kernel5Ideal.cfg0.N, fun c => (Kernel5Ideal.Gen.dats m 0 c).arrAt 7 Kernel5Ideal.cfg0.N,
    fun c => (Kernel5Ideal.Gen.dats m 0 c).arrAt 8 Kernel5Ideal.cfg0.N, fun c => (Kernel5Ideal.Gen.dats m 0 c).arrAt 9 Kernel5Ideal.cfg0.N,
    Kernel5Ideal.Value.run_blocks m g, (θ_run Reference5Ideal.defs _ _).mono (fun r h c => ?_) (Reference5Ideal.Value.run m' g')⟩
  obtain ⟨a0, a1, a2, a3, a4, a5⟩ := hargs c
  obtain ⟨h0, h1, h2, h3, h4⟩ := h c
  rw [Reference5Ideal.Read.val_main_v26_eq] at h0
  rw [Reference5Ideal.Read.val_main_v27_eq] at h1
  rw [Reference5Ideal.Read.val_main_v28_eq] at h2
  rw [Reference5Ideal.Read.val_main_v29_eq] at h3
  rw [a0, a1, a2, a3, a4, a5] at h0 h1 h2 h3
  refine ⟨h0.trans ?_, h1.trans ?_, h2.trans ?_, h3.trans ?_, h4⟩
  · refine Eq.trans (funext fun y => ?_) Kernel5Ideal.Outproj.final6.symm
    obtain ⟨n, j, rfl⟩ : ∃ (n : Fin 4096) (j : Fin 1024), y = ix2 n j := ⟨y 0, y 1, by funext i; fin_cases i <;> rfl⟩
    exact Reference5Ideal.Outproj.v26_at _ _ _ _ _ _ n j
  · refine Eq.trans (funext fun y => ?_) Kernel5Ideal.Outproj.final7.symm
    obtain ⟨n, e, rfl⟩ : ∃ (n : Fin 4096) (e : Fin 2048), y = ix2 n e := ⟨y 0, y 1, by funext i; fin_cases i <;> rfl⟩
    exact Reference5Ideal.Outproj.v27_at _ _ _ _ _ _ n e
  · refine Eq.trans (funext fun y => ?_) Kernel5Ideal.Outproj.final8.symm
    obtain ⟨e, j, rfl⟩ : ∃ (e : Fin 2048) (j : Fin 1024), y = ix2 e j := ⟨y 0, y 1, by funext i; fin_cases i <;> rfl⟩
    exact Reference5Ideal.Outproj.v28_at _ _ _ _ _ _ e j
  · refine Eq.trans (funext fun y => ?_) Kernel5Ideal.Outproj.final9.symm
    obtain ⟨a, b, rfl⟩ : ∃ (a : Fin 8) (b : Fin 128), y = ix2 a b := ⟨y 0, y 1, by funext i; fin_cases i <;> rfl⟩
    exact Reference5Ideal.Outproj.v29_at _ _ _ _ _ _ a b

end Cert.Outproj

end
-- ==== Proof.AttnPost.Math.lean ====
/- The mathematics of the gradient at the heads and at the forget gate. -/
module

public import proofs.«01_k».proof.Proof.AttnGate.Math
public import proofs.«01_k».proof.Proof.Reals

@[expose] public section

set_option maxRecDepth 16384

noncomputable section

namespace Cert.AttnPost

open Idealize.ShloMosaic
open Cert.Reals Cert.AttnGate

/-- The head and the place of a channel. -/
def head (j : Fin 1024) : Fin 16 := ⟨j.val / 64, by omega⟩
def place (j : Fin 1024) : Fin 64 := ⟨j.val % 64, by omega⟩

theorem head_ch (h : Fin 16) (e : Fin 64) : head (ch h e) = h := Fin.ext (by show (h.val * 64 + e.val) / 64 = h.val; omega)
theorem place_ch (h : Fin 16) (e : Fin 64) : place (ch h e) = e := Fin.ext (by show (h.val * 64 + e.val) % 64 = e.val; omega)
theorem ch_head (j : Fin 1024) : ch (head j) (place j) = j := Fin.ext (by show j.val / 64 * 64 + j.val % 64 = j.val; omega)

/-- The sum over the head of a channel. -/
def hsum (f : Row) (j : Fin 1024) : ℝ := ∑ e, f (ch (head j) e)

/-- The factor of a head's norm. -/
def rs (x : Row) (j : Fin 1024) : ℝ := (Real.sqrt (hsum (fun i => x i * x i) j * (1 / 64) + eps))⁻¹

theorem ms_eps_pos (x : Row) (j : Fin 1024) : 0 < hsum (fun i => x i * x i) j * (1 / 64) + eps := by
  have : 0 ≤ hsum (fun i => x i * x i) j := Finset.sum_nonneg fun i _ => mul_self_nonneg _
  have := eps_pos
  linarith

theorem rs_sq (x : Row) (j : Fin 1024) : rs x j * rs x j = (hsum (fun i => x i * x i) j * (1 / 64) + eps)⁻¹ := by
  rw [rs, ← mul_inv, Real.mul_self_sqrt (ms_eps_pos x j).le]

/-- The gradient at the norm's input, and at its scale, of one token. -/
def gnorm (d x g : Row) (j : Fin 1024) : ℝ :=
  rs x j * (d j * g j - x j * (rs x j * rs x j) * (hsum (fun i => d i * g i * x i) j * (1 / 64)))
def gscale (d x : Row) (j : Fin 1024) : ℝ := d j * x j * rs x j

/-- The same gradient in the order of a derivative of the norm. -/
theorem gnorm_eq (d x g : Row) (j : Fin 1024) :
    d j * g j * rs x j + x j * (hsum (fun i => x i * (d i * g i)) j * (-(1 / 2) * (rs x j / (hsum (fun i => x i * x i) j / 64 + eps))) / 64)
      + hsum (fun i => x i * (d i * g i)) j * (-(1 / 2) * (rs x j / (hsum (fun i => x i * x i) j / 64 + eps))) / 64 * x j = gnorm d x g j := by
  have e : hsum (fun i => x i * (d i * g i)) j = hsum (fun i => d i * g i * x i) j := Finset.sum_congr rfl fun i _ => mul_comm _ _
  have p := (ms_eps_pos x j).ne'
  rw [gnorm, e, rs_sq, div_eq_mul_one_div (hsum (fun i => x i * x i) j) 64]
  field_simp
  ring

/-- One half of 128 lanes, and the columns of a pair of heads. -/
def mask (k l : Fin 128) : ℝ := if (k.val < 64 ↔ l.val < 64) then 1 else 0
def col (p : Fin 8) (l : Fin 128) : Fin 1024 := ⟨128 * p.val + l.val, by omega⟩

theorem sum_mask (f : Row) (p : Fin 8) (l : Fin 128) : ∑ k, f (col p k) * mask k l = hsum f (col p l) := by
  have e (h : Fin 16) (o : ℕ) (d : Fin 64) (hd : o + d.val < 128) (ho : 128 * p.val + o = h.val * 64) : col p ⟨o + d.val, hd⟩ = ch h d :=
    Fin.ext (by show 128 * p.val + (o + d.val) = h.val * 64 + d.val; omega)
  by_cases hl : l.val < 64
  · have hh : (head (col p l)).val = 2 * p.val := by show (128 * p.val + l.val) / 64 = _; omega
    refine (Finset.sum_congr rfl fun k _ => by simp [mask, hl]).trans ((sum_low fun k => f (col p k)).trans (Finset.sum_congr rfl fun d _ => ?_))
    rw [← e (head (col p l)) 0 d (by omega) (by omega)]
    congr 2
    exact Fin.ext (Nat.zero_add _).symm
  · have hh : (head (col p l)).val = 2 * p.val + 1 := by show (128 * p.val + l.val) / 64 = _; omega
    refine (Finset.sum_congr rfl fun k _ => by by_cases h : k.val < 64 <;> simp [mask, hl, h]).trans
      ((sum_high fun k => f (col p k)).trans (Finset.sum_congr rfl fun d _ => ?_))
    rw [← e (head (col p l)) 64 d (by omega) (by omega)]

/-- The gradient at the forget gate's columns. -/
def gforget (s f b : ℝ) : ℝ := s * sg (-(f + b))

/-- The derivative of the logarithm of the logistic function. -/
theorem exp_sub_softplus (a : ℝ) : Real.exp (a - (max a 0 + Real.log (1 + Real.exp (-|a|)))) = sg a := by
  have h1 : 0 < 1 + Real.exp (-|a|) := by positivity
  rw [← sub_sub, Real.exp_sub, Real.exp_log h1, sg]
  rcases le_total a 0 with h | h
  · rw [max_eq_right h, sub_zero, abs_of_nonpos h, neg_neg, Real.exp_neg]
    field_simp
    ring
  · rw [max_eq_left h, sub_self, Real.exp_zero, abs_of_nonneg h, one_div]

end Cert.AttnPost

end
-- ==== Proof.AttnPost.Sums.lean ====
/- The sums over the tiles and over the tokens after a token. -/
module

public import proofs.«01_k».proof.Proof.AttnPost.Math

@[expose] public section

set_option maxRecDepth 16384

noncomputable section

namespace Cert.AttnPost

open Idealize.ShloMosaic
open Cert.Reals Cert.AttnGate

/-- What the step after the attention reads. -/
structure Data where
  zq : Fin 2 → Fin 2048 → Row
  zk : Fin 2 → Fin 2048 → Row
  zf : Fin 2 → Fin 2048 → Fin 16 → ℝ
  bf : Fin 16 → ℝ
  gq : Row
  gk : Row
  dq : Fin 2 → Fin 2048 → Row
  dk : Fin 2 → Fin 2048 → Row
  cq : Fin 2 → Fin 2048 → Fin 16 → ℝ
  ck : Fin 2 → Fin 2048 → Fin 16 → ℝ

/-- The sum from a frame on. -/
def sumOn (f : Fin 2048 → ℝ) (n : ℕ) : ℝ := ∑ s : Fin 2048, if n ≤ s.val then f s else 0

def inTile (r k : Fin 256) : ℝ := if r.val ≤ k.val then 1 else 0

theorem sumOn_end (f : Fin 2048 → ℝ) : sumOn f 2048 = 0 := Finset.sum_eq_zero fun s _ => if_neg (by omega)

theorem sumOn_tile (f : Fin 2048 → ℝ) (o : ℕ) (ho : o + 256 ≤ 2048) (r : Fin 256) :
    sumOn f (o + r.val) = ∑ k : Fin 256, inTile r k * f ⟨o + k.val, by omega⟩ + sumOn f (o + 256) := by
  let i : Fin 256 ↪ Fin 2048 := ⟨fun k => ⟨o + k.val, by omega⟩, fun a b h => Fin.ext (by have := congrArg Fin.val h; dsimp only at this; omega)⟩
  have e : ∑ k : Fin 256, inTile r k * f ⟨o + k.val, by omega⟩ = ∑ s : Fin 2048, if o + r.val ≤ s.val ∧ s.val < o + 256 then f s else 0 := by
    refine Eq.trans (Finset.sum_congr rfl fun k _ => ?_) ((Finset.sum_map Finset.univ i fun s => if o + r.val ≤ s.val ∧ s.val < o + 256 then f s else 0).symm.trans
      (Finset.sum_subset (Finset.subset_univ _) fun s _ hs => if_neg fun h => hs ?_))
    · show _ = if o + r.val ≤ o + k.val ∧ o + k.val < o + 256 then f ⟨o + k.val, _⟩ else 0
      by_cases h : r.val ≤ k.val
      · rw [inTile, if_pos h, if_pos (by omega), one_mul]
      · rw [inTile, if_neg h, if_neg (by omega), zero_mul]
    · exact Finset.mem_map.2 ⟨⟨s.val - o, by omega⟩, Finset.mem_univ _, Fin.ext (by show o + (s.val - o) = s.val; omega)⟩
  rw [e, sumOn, sumOn, ← Finset.sum_add_distrib]
  refine Finset.sum_congr rfl fun s _ => ?_
  by_cases h1 : o + r.val ≤ s.val
  · by_cases h2 : s.val < o + 256
    · rw [if_pos h1, if_pos ⟨h1, h2⟩, if_neg (by omega), add_zero]
    · rw [if_pos h1, if_neg (fun h => h2 h.2), if_pos (by omega), zero_add]
  · rw [if_neg h1, if_neg (fun h => h1 h.1), if_neg (by omega), zero_add]

/-- The lanes that belong to a head. -/
def inLane (c : Fin 16 → ℝ) (l : Fin 128) : ℝ := if h : l.val < 16 then c ⟨l.val, h⟩ else 0

variable (D : Data)

/-- The gradients at the columns of the queries, of the keys and of the forget gate. -/
def Data.q (b : Fin 2) (s : Fin 2048) : Row := gnorm (fun j => D.dq b s j * (1 / 8)) (D.zq b s) D.gq
def Data.k (b : Fin 2) (s : Fin 2048) : Row := gnorm (D.dk b s) (D.zk b s) D.gk
def Data.sums (b : Fin 2) (n : ℕ) (h : Fin 16) : ℝ := sumOn (fun s => D.cq b s h - D.ck b s h) n
def Data.f (b : Fin 2) (s : Fin 2048) (h : Fin 16) : ℝ := gforget (D.sums b s.val h) (D.zf b s h) (D.bf h)

/-- The gradients at the scales and at the bias. -/
def Data.scaleQ (b : Fin 2) (s : Fin 2048) : Row := gscale (fun j => D.dq b s j * (1 / 8)) (D.zq b s)
def Data.scaleK (b : Fin 2) (s : Fin 2048) : Row := gscale (D.dk b s) (D.zk b s)
def Data.small (a : Fin 24) (j : Fin 1024) : ℝ :=
  if a.val = 0 then ∑ b, ∑ s, D.scaleQ b s j else if a.val = 8 then ∑ b, ∑ s, D.scaleK b s j
  else if h : a.val = 16 ∧ j.val < 16 then ∑ b, ∑ s, D.f b s ⟨j.val, h.2⟩ else 0

/-- The tiles in the order of the steps. -/
def tileSeq (n : ℕ) : Fin 2 := ⟨n / 8 % 2, Nat.mod_lt _ (by decide)⟩
def tileFrame (n : ℕ) (r : Fin 256) : Fin 2048 := ⟨(7 - n % 8) * 256 + r.val, by omega⟩

theorem sum_tiles (f : Fin 2 → Fin 2048 → ℝ) : ∑ t : Fin 16, ∑ r, f (tileSeq t.val) (tileFrame t.val r) = ∑ b, ∑ s, f b s := by
  rw [← Fintype.sum_prod_type', ← Fintype.sum_prod_type']
  refine Fintype.sum_equiv ⟨fun x : Fin 16 × Fin 256 => (tileSeq x.1.val, tileFrame x.1.val x.2),
    fun y : Fin 2 × Fin 2048 => (⟨y.1.val * 8 + (7 - y.2.val / 256), by omega⟩, ⟨y.2.val % 256, Nat.mod_lt _ (by decide)⟩), fun x => ?_, fun y => ?_⟩ _ _ fun x => rfl
  · obtain ⟨t, r⟩ := x
    refine Prod.ext (Fin.ext ?_) (Fin.ext ?_)
    · show t.val / 8 % 2 * 8 + (7 - ((7 - t.val % 8) * 256 + r.val) / 256) = t.val
      omega
    · show ((7 - t.val % 8) * 256 + r.val) % 256 = r.val
      omega
  · obtain ⟨b, s⟩ := y
    refine Prod.ext (Fin.ext ?_) (Fin.ext ?_)
    · show (b.val * 8 + (7 - s.val / 256)) / 8 % 2 = b.val
      omega
    · show (7 - (b.val * 8 + (7 - s.val / 256)) % 8) * 256 + s.val % 256 = s.val
      omega

/-- The differences summed from a token of a tile on: within the tile, and after it. -/
theorem sums_tile (n : ℕ) (r : Fin 256) (h : Fin 16) : D.sums (tileSeq n) (tileFrame n r).val h
    = ∑ k : Fin 256, inTile r k * (D.cq (tileSeq n) (tileFrame n k) h - D.ck (tileSeq n) (tileFrame n k) h) + D.sums (tileSeq n) ((8 - n % 8) * 256) h := by
  have e : (8 - n % 8) * 256 = (7 - n % 8) * 256 + 256 := by omega
  rw [e]
  exact sumOn_tile _ ((7 - n % 8) * 256) (by omega) r

end Cert.AttnPost

end
-- ==== Proof.AttnPost.Ops.lean ====
/- The operations of the step after the attention, pair of heads by pair of heads. -/
module

public import proofs.«01_k».proof.Proof.Gen.Kernel6Ideal.Frame
public import Idealize.ShloMosaic.Lib.Pipeline.ValueKit
public import Idealize.ShloMosaic.Lib.Claim

@[expose] public section

set_option maxRecDepth 16384

noncomputable section

namespace Cert.Kernel6Ideal.AttnPost

open Idealize.ShloMosaic Idealize.ShloMosaic.TcCoe Idealize.SL.Sem
open Cert.Kernel6Ideal Cert.Kernel6Ideal.Gen
open Idealize.ShloMosaic.Tactic

section ops

variable {F : FTy → Type} [FloatOps F]

/-- The lanes' numbers. -/
def lane : IVec S256x128 32 := iota .tc S256x128 32 [1] iota_S256x128_d1_w32

/-- Two heads side by side: the query's, scaled, the key's, and the value's. -/
def sideQ (a b : Vec F S1x1x256x128 .f32) : FVec F S256x128 .f32 := k0_pay8 a b
def sideK (a b : Vec F S1x1x256x128 .f32) : FVec F S256x128 .f32 := k0_pay19 lane a b
def sideV (a b : Vec F S1x1x256x128 .f32) : FVec F S256x128 .bf16 := k0_pay35 lane a b

/-- The factor of the norm of either head, the gradient at the columns, and the gradient at the scale. -/
def factor (x : Vec F S256x128 .f32) : FVec F S256x128 .f32 := k0_pay13 (k0_pay11 x) k0_pay12 (constantI S128x128 1 1#1)
def grad (d : FVec F S256x128 .f32) (x : Vec F S256x128 .f32) (g : Vec F S1x128 .f32) : FVec F S256x128 .bf16 :=
  k0_pay17 (k0_pay9 x) (factor x) (k0_pay14 d (k0_pay10 g)) (k0_pay15 d (k0_pay9 x) (k0_pay10 g)) k0_pay16
def more (d : FVec F S256x128 .f32) (x : Vec F S256x128 .f32) (s : Vec F S1x128 .f32) : FVec F S1x128 .f32 :=
  k0_pay18 d (k0_pay9 x) (factor x) s

/-- One lane of a head's block, and the difference of the query's and the key's in the lane of the head. -/
def only (n : BitVec 32) (d : Vec F S1x1x256x128 .f32) : FVec F S256x128 .f32 :=
  select (cmpi .eq lane (broadcast S256x128 n)) (shapeCast S256x128 d shapeCasts_S1x1x256x128_S256x128) (broadcast S256x128 (Scalar.ofBits .f32 0x00000000#32))
def diff (q k : Vec F S1x1x256x128 .f32) : FVec F S256 .f32 :=
  multiReduction .add [1] S256 (subf (only 64#32 q) (only 67#32 k)) 0x00000000#32 reduces_S256x128_S256 (.inl rfl) rfl
def into (h : BitVec 32) (q k : Vec F S1x1x256x128 .f32) (o : FVec F S256x128 .f32) : FVec F S256x128 .f32 :=
  select (cmpi .eq lane (broadcast S256x128 h))
    (broadcastTo S256x128 (shapeCast S256x1 (shapeCast S256x1 (diff q k) shapeCasts_S256_S256x1) shapeCasts_S256x1_S256x1) broadcasts_S256x1_S256x128) o

/-- The running sum from the tile's end on, over what the tiles after it left, and the gradient at the forget gate's columns. -/
def sumFrom (o : FVec F S256x128 .f32) (s : Vec F S1x128 .f32) : FVec F S256x128 .f32 :=
  k0_pay253 k0_pay250 s (truncf .bf16 o bitsLt_bf16_f32) (subf o (extf .f32 (truncf .bf16 o bitsLt_bf16_f32) bitsLt_bf16_f32))

/-- The rectangles of a head, of a pair's columns, and of one row of them. -/
theorem inbH (h : Fin 16) : ∀ a, (![0, h.val, 0, 0] : Fin 4 → ℕ) a + S1x1x256x128.size a ≤ S1x16x256x128.size a := by
  have := h.isLt
  intro a
  fin_cases a
  · show 0 + 1 ≤ 1; omega
  · show h.val + 1 ≤ 16; omega
  · show 0 + 256 ≤ 256; omega
  · show 0 + 128 ≤ 128; omega
theorem inbC {R W : ℕ} {o : ℕ} (ho : o + W ≤ R) (p : Fin 8) :
    ∀ a, (![o, 128 * p.val] : Fin 2 → ℕ) a + (![W, 128] : Fin 2 → ℕ) a ≤ (⟨2, ![R, 1024]⟩ : Shape).size a := by
  have := p.isLt
  intro a
  fin_cases a
  · show o + W ≤ R; omega
  · show 128 * p.val + 128 ≤ 1024; omega

abbrev colR (p : Fin 8) : Rect S256x1024 := Rect.unit ![0, 128 * p.val] ![256, 128] (inbC (R := 256) (W := 256) (by omega) p)
abbrev rowR (o : ℕ) (ho : o + 1 ≤ 24) (p : Fin 8) : Rect S24x1024 := Rect.unit ![o, 128 * p.val] ![1, 128] (inbC (R := 24) (W := 1) ho p)
abbrev headOf (D : Vec F S1x16x256x128 .f32) (h : Fin 16) : Vec F S1x1x256x128 .f32 := View.ld D (Rect.unit ![0, h.val, 0, 0] S1x1x256x128.size (inbH h))
abbrev colOf (X : Vec F S256x1024 .f32) (p : Fin 8) : Vec F S256x128 .f32 := View.ld X (colR p)
abbrev scaleOf (G : Vec F S1x1024 .f32) (p : Fin 8) : Vec F S1x128 .f32 := View.ld G (Rect.unit ![0, 128 * p.val] ![1, 128] (inbC (R := 1) (W := 1) (by omega) p))
def lo (p : Fin 8) : Fin 16 := ⟨2 * p.val, by omega⟩
def hi (p : Fin 8) : Fin 16 := ⟨2 * p.val + 1, by omega⟩

variable (D0 D1 D2 : Vec F S1x16x256x128 .f32) (X3 X4 : Vec F S256x1024 .f32) (X5 : Vec F S256x128 .f32) (X6 : Vec F S1x128 .f32) (X7 X8 : Vec F S1x1024 .f32)
  (o : Vec F S24x1024 .f32) (s : Vec F S1x128 .f32)

def pieceQ (p : Fin 8) : View.Piece (Elt F) S256x1024 .bf16 := ⟨colR p, grad (sideQ (headOf D0 (lo p)) (headOf D0 (hi p))) (colOf X3 p) (scaleOf X7 p)⟩
def pieceK (p : Fin 8) : View.Piece (Elt F) S256x1024 .bf16 := ⟨colR p, grad (sideK (headOf D1 (lo p)) (headOf D1 (hi p))) (colOf X4 p) (scaleOf X8 p)⟩
def pieceV (p : Fin 8) : View.Piece (Elt F) S256x1024 .bf16 := ⟨colR p, sideV (headOf D2 (lo p)) (headOf D2 (hi p))⟩
/-- The differences of all heads. -/
def diffs : FVec F S256x128 .f32 :=
  into 15#32 (headOf D0 15) (headOf D1 15)
    (into 14#32 (headOf D0 14) (headOf D1 14)
    (into 13#32 (headOf D0 13) (headOf D1 13)
    (into 12#32 (headOf D0 12) (headOf D1 12)
    (into 11#32 (headOf D0 11) (headOf D1 11)
    (into 10#32 (headOf D0 10) (headOf D1 10)
    (into 9#32 (headOf D0 9) (headOf D1 9)
    (into 8#32 (headOf D0 8) (headOf D1 8)
    (into 7#32 (headOf D0 7) (headOf D1 7)
    (into 6#32 (headOf D0 6) (headOf D1 6)
    (into 5#32 (headOf D0 5) (headOf D1 5)
    (into 4#32 (headOf D0 4) (headOf D1 4)
    (into 3#32 (headOf D0 3) (headOf D1 3)
    (into 2#32 (headOf D0 2) (headOf D1 2)
    (into 1#32 (headOf D0 1) (headOf D1 1)
    (into 0#32 (headOf D0 0) (headOf D1 0) (k0_pay7 (F := F)))))))))))))))))

/-- The parts of the sums over all tokens: a pair's columns of either norm's scale, and the forget gate's. -/
inductive Part where
  | q (p : Fin 8)
  | k (p : Fin 8)
  | f
deriving DecidableEq

def Part.row : Part → Fin 24
  | .q _ => 0
  | .k _ => 8
  | .f => 16
def Part.col : Part → Fin 8
  | .q p => p
  | .k p => p
  | .f => 0

/-- The parts in the order in which they are written, the last one first. -/
def parts : List Part := [.f, .k 7, .q 7, .k 6, .q 6, .k 5, .q 5, .k 4, .q 4, .k 3, .q 3, .k 2, .q 2, .k 1, .q 1, .k 0, .q 0]

abbrev Part.rect (k : Part) : Rect S24x1024 := Rect.unit ![k.row.val, 128 * k.col.val] ![1, 128] (inbC (R := 24) (W := 1) k.row.isLt k.col)

/-- What a part becomes. -/
def next : Part → Vec F S1x128 .f32 → Vec F S1x128 .f32
  | .q p, w => more (sideQ (headOf D0 (lo p)) (headOf D0 (hi p))) (colOf X3 p) w
  | .k p, w => more (sideK (headOf D1 (lo p)) (headOf D1 (hi p))) (colOf X4 p) w
  | .f, w => k0_pay4 lane (sumFrom (diffs D0 D1) s) X5 X6 w

/-- The parts written over known contents, and over writes before. -/
def laid (n : Part → Vec F S1x128 .f32 → Vec F S1x128 .f32) (o : Vec F S24x1024 .f32) (L : List Part) : List (View.Piece (Elt F) S24x1024 .f32) :=
  L.map fun k => ⟨k.rect, n k (View.ld o k.rect)⟩
def built {κ : Kind} {sp : Space} (v : View sig κ sp S24x1024 .f32) (n : Part → Vec F S1x128 .f32 → Vec F S1x128 .f32) (B : List (View.Piece (Elt F) S24x1024 .f32)) :
    List Part → List (View.Piece (Elt F) S24x1024 .f32)
  | [] => B
  | k :: L => ⟨k.rect, n k (v.readCov (built v n B L) k.rect.toLoadRect)⟩ :: built v n B L

theorem built_cons {κ : Kind} {sp : Space} {v : View sig κ sp S24x1024 .f32} {n : Part → Vec F S1x128 .f32 → Vec F S1x128 .f32} {B L : List (View.Piece (Elt F) S24x1024 .f32)}
    {k : Part} {K : List Part} (h : built v n B K = L) :
    built v n B (k :: K) = ⟨k.rect, n k (v.readCov L k.rect.toLoadRect)⟩ :: L := by
  subst h
  rfl

end ops

variable {m : (ℓ : Loc nD τ sig) → Buf (Elt Ideal) ℓ} {c : Dev nD} (t : Fin cfg0.N)

theorem before_lt : t.val - 1 < cfg0.N := Nat.lt_of_le_of_lt (Nat.sub_le _ _) t.isLt

/-- What the running sums carry into a point. -/
def carried : Vec Ideal S1x128 .f32 := if t.val % 8 = 0 then k0_pay6 (F := Ideal) else (outsAt0 m c (t.val - 1) (before_lt t)).2.2.2.2.2

theorem outQ : (outsAt0 m c t.val t.isLt).1 = View.canon [pieceQ (iblk m c 0 t) (iblk m c 3 t) (iblk m c 7 t) 7, pieceQ (iblk m c 0 t) (iblk m c 3 t) (iblk m c 7 t) 6, pieceQ (iblk m c 0 t) (iblk m c 3 t) (iblk m c 7 t) 5, pieceQ (iblk m c 0 t) (iblk m c 3 t) (iblk m c 7 t) 4, pieceQ (iblk m c 0 t) (iblk m c 3 t) (iblk m c 7 t) 3, pieceQ (iblk m c 0 t) (iblk m c 3 t) (iblk m c 7 t) 2, pieceQ (iblk m c 0 t) (iblk m c 3 t) (iblk m c 7 t) 1, pieceQ (iblk m c 0 t) (iblk m c 3 t) (iblk m c 7 t) 0] := by
  by_cases h1 : t.val % 8 = 0
  · by_cases h0 : t.val % 16 = 0
    · rw [outsAt0_A m c t h0 h1]
      frame_out
      rfl
    · rw [outsAt0_C m c t h0 h1]
      frame_out
      rfl
  · rw [outsAt0_B m c t (by omega) h1]
    frame_out
    rfl

theorem outK : (outsAt0 m c t.val t.isLt).2.1 = View.canon [pieceK (iblk m c 1 t) (iblk m c 4 t) (iblk m c 8 t) 7, pieceK (iblk m c 1 t) (iblk m c 4 t) (iblk m c 8 t) 6, pieceK (iblk m c 1 t) (iblk m c 4 t) (iblk m c 8 t) 5, pieceK (iblk m c 1 t) (iblk m c 4 t) (iblk m c 8 t) 4, pieceK (iblk m c 1 t) (iblk m c 4 t) (iblk m c 8 t) 3, pieceK (iblk m c 1 t) (iblk m c 4 t) (iblk m c 8 t) 2, pieceK (iblk m c 1 t) (iblk m c 4 t) (iblk m c 8 t) 1, pieceK (iblk m c 1 t) (iblk m c 4 t) (iblk m c 8 t) 0] := by
  by_cases h1 : t.val % 8 = 0
  · by_cases h0 : t.val % 16 = 0
    · rw [outsAt0_A m c t h0 h1]
      frame_out
      rfl
    · rw [outsAt0_C m c t h0 h1]
      frame_out
      rfl
  · rw [outsAt0_B m c t (by omega) h1]
    frame_out
    rfl

theorem outV : (outsAt0 m c t.val t.isLt).2.2.1 = View.canon [pieceV (iblk m c 2 t) 7, pieceV (iblk m c 2 t) 6, pieceV (iblk m c 2 t) 5, pieceV (iblk m c 2 t) 4, pieceV (iblk m c 2 t) 3, pieceV (iblk m c 2 t) 2, pieceV (iblk m c 2 t) 1, pieceV (iblk m c 2 t) 0] := by
  by_cases h1 : t.val % 8 = 0
  · by_cases h0 : t.val % 16 = 0
    · rw [outsAt0_A m c t h0 h1]
      frame_out
      rfl
    · rw [outsAt0_C m c t h0 h1]
      frame_out
      rfl
  · rw [outsAt0_B m c t (by omega) h1]
    frame_out
    rfl

theorem outF : (outsAt0 m c t.val t.isLt).2.2.2.1 = k0_pay3 lane (sumFrom (diffs (iblk m c 0 t) (iblk m c 1 t)) (carried (m := m) (c := c) t)) (iblk m c 5 t) (iblk m c 6 t) := by
  by_cases h1 : t.val % 8 = 0
  · by_cases h0 : t.val % 16 = 0
    · rw [outsAt0_A m c t h0 h1]
      frame_out
      rw [carried, if_pos h1]
      rfl
    · rw [outsAt0_C m c t h0 h1]
      frame_out
      rw [carried, if_pos h1]
      rfl
  · rw [outsAt0_B m c t (by omega) h1]
    frame_out
    rw [carried, if_neg h1]
    exact congrArg (fun s => k0_pay3 lane (sumFrom (diffs (iblk m c 0 t) (iblk m c 1 t)) s) (iblk m c 5 t) (iblk m c 6 t)) (Memref.IsWhole.read_unread (Memref.isWhole_whole _) _)

theorem outC : (outsAt0 m c t.val t.isLt).2.2.2.2.2 = k0_pay1 (sumFrom (diffs (iblk m c 0 t) (iblk m c 1 t)) (carried (m := m) (c := c) t)) := by
  by_cases h1 : t.val % 8 = 0
  · by_cases h0 : t.val % 16 = 0
    · rw [outsAt0_A m c t h0 h1]
      frame_out
      rw [carried, if_pos h1]
      rfl
    · rw [outsAt0_C m c t h0 h1]
      frame_out
      rw [carried, if_pos h1]
      rfl
  · rw [outsAt0_B m c t (by omega) h1]
    frame_out
    rw [carried, if_neg h1]
    exact congrArg (fun s => k0_pay1 (sumFrom (diffs (iblk m c 0 t) (iblk m c 1 t)) s)) (Memref.IsWhole.read_unread (Memref.isWhole_whole _) _)

theorem outS_A (h0 : t.val % 16 = 0) (h1 : t.val % 8 = 0) : (outsAt0 m c t.val t.isLt).2.2.2.2.1 = View.canon (built (ms0_13 t).view (next (iblk m c 0 t) (iblk m c 1 t) (iblk m c 3 t) (iblk m c 4 t) (iblk m c 5 t) (iblk m c 6 t) (carried (m := m) (c := c) t)) [⟨Rect.unit ![0, 0] S24x1024.size inb_S24x1024_S24x1024_0_0, k0_pay5 (F := Ideal)⟩] parts) := by
  rw [outsAt0_A m c t h0 h1, carried, if_pos h1]
  frame_out
  refine congrArg View.canon ?_
  unfold parts
  symm
  iterate 17 refine built_cons (F := Ideal) ?_
  rfl

theorem outS_B (h0 : ¬ t.val % 16 = 0) (h1 : ¬ t.val % 8 = 0) : (outsAt0 m c t.val t.isLt).2.2.2.2.1 = (ms0_13 t).view.read (Elt Ideal) ((ms0_13 t).view.writes (Elt Ideal) ((hs0_13 t).unread (outsAt0 m c (t.val - 1) (before_lt t)).2.2.2.2.1) (laid (next (iblk m c 0 t) (iblk m c 1 t) (iblk m c 3 t) (iblk m c 4 t) (iblk m c 5 t) (iblk m c 6 t) (carried (m := m) (c := c) t)) (outsAt0 m c (t.val - 1) (before_lt t)).2.2.2.2.1 parts)) := by
  rw [outsAt0_B m c t h0 h1, carried, if_neg h1]
  frame_out
  exact congrArg (fun s => (ms0_13 t).view.read (Elt Ideal) ((ms0_13 t).view.writes (Elt Ideal) ((hs0_13 t).unread (outsAt0 m c (t.val - 1) (before_lt t)).2.2.2.2.1) (laid (next (iblk m c 0 t) (iblk m c 1 t) (iblk m c 3 t) (iblk m c 4 t) (iblk m c 5 t) (iblk m c 6 t) s) (outsAt0 m c (t.val - 1) (before_lt t)).2.2.2.2.1 parts))) (Memref.IsWhole.read_unread (Memref.isWhole_whole _) _)

theorem outS_C (h0 : ¬ t.val % 16 = 0) (h1 : t.val % 8 = 0) : (outsAt0 m c t.val t.isLt).2.2.2.2.1 = (ms0_13 t).view.read (Elt Ideal) ((ms0_13 t).view.writes (Elt Ideal) ((hs0_13 t).unread (outsAt0 m c (t.val - 1) (before_lt t)).2.2.2.2.1) (laid (next (iblk m c 0 t) (iblk m c 1 t) (iblk m c 3 t) (iblk m c 4 t) (iblk m c 5 t) (iblk m c 6 t) (carried (m := m) (c := c) t)) (outsAt0 m c (t.val - 1) (before_lt t)).2.2.2.2.1 parts)) := by
  rw [outsAt0_C m c t h0 h1, carried, if_pos h1]
  frame_out
  rfl

end Cert.Kernel6Ideal.AttnPost

end
-- ==== Proof.AttnPost.Payload.lean ====
/- The stored blocks of the step after the attention, entry by entry. -/
module

public import proofs.«01_k».proof.Proof.AttnPost.Sums
public import proofs.«01_k».proof.Proof.AttnPost.Ops

@[expose] public section

set_option maxRecDepth 16384

noncomputable section

namespace Cert.Kernel6Ideal.AttnPost

open Idealize.ShloMosaic Idealize.ShloMosaic.TcCoe
open Cert.Reals Cert.AttnGate Cert.AttnPost
open Cert.Kernel6Ideal Cert.Kernel6Ideal.Gen

theorem ofBits_eighth : (Ideal.ofBits .f32 0x3E000000#32 : EReal) = ((1 / 8 : ℝ) : EReal) := by
  simp [Ideal.ofBits, Ideal.ieee, -EReal.coe_mul]; norm_num
theorem ofBits_64th : (Ideal.ofBits .f32 0x3C800000#32 : EReal) = ((1 / 64 : ℝ) : EReal) := by
  simp [Ideal.ofBits, Ideal.ieee, -EReal.coe_mul]; norm_num

theorem low (l : Fin 128) : IntOp.cmpi .slt (BitVec.ofNat 32 l.val) 64#32 = if l.val < 64 then 1#1 else 0#1 :=
  (by decide +kernel : ∀ l : Fin 128, IntOp.cmpi .slt (BitVec.ofNat 32 l.val) 64#32 = if l.val < 64 then 1#1 else 0#1) l

/-- Two heads side by side. -/
theorem sideV_at (A B : Vec Ideal S1x1x256x128 .f32) (r : Fin 256) (l : Fin 128) :
    sideV A B (ix2 r l) = if l.val < 64 then A (ix4 0 0 r l) else B (ix4 0 0 r ⟨(l.val + 64) % 128, Nat.mod_lt _ (by omega)⟩) := by
  pointwise [sideV, k0_pay35, lane]
  rw [low]
  split_ifs <;> rfl

section

variable {dx : Fin 256 → Row} {p : Fin 8} {A B : Vec Ideal S1x1x256x128 .f32}
  (hA : ∀ r (e : Fin 64), A (ix4 0 0 r ⟨e.val, e.isLt.trans_le (Nat.le_add_left 64 64)⟩) = (dx r (ch (lo p) e) : EReal))
  (hB : ∀ r (e : Fin 64), B (ix4 0 0 r ⟨e.val, e.isLt.trans_le (Nat.le_add_left 64 64)⟩) = (dx r (ch (hi p) e) : EReal))

include hA hB

theorem merge_at (r : Fin 256) (l : Fin 128) :
    (if l.val < 64 then A (ix4 0 0 r l) else B (ix4 0 0 r ⟨(l.val + 64) % 128, Nat.mod_lt _ (by omega)⟩)) = (dx r (col p l) : EReal) := by
  split_ifs with h
  · refine (hA r ⟨l.val, h⟩).trans (congrArg (fun j => (dx r j : EReal)) (Fin.ext ?_))
    show 2 * p.val * 64 + l.val = 128 * p.val + l.val
    omega
  · refine Eq.trans (congrArg (fun j => B (ix4 0 0 r j)) (Fin.ext ?_)) ((hB r ⟨l.val - 64, by omega⟩).trans (congrArg (fun j => (dx r j : EReal)) (Fin.ext ?_)))
    · show (l.val + 64) % 128 = l.val - 64
      omega
    · show (2 * p.val + 1) * 64 + (l.val - 64) = 128 * p.val + l.val
      omega

theorem sideQ_at (r : Fin 256) (l : Fin 128) : sideQ A B (ix2 r l) = ((dx r (col p l) * (1 / 8) : ℝ) : EReal) := by
  have e : sideQ A B (ix2 r l) = (if l.val < 64 then A (ix4 0 0 r l) else B (ix4 0 0 r ⟨(l.val + 64) % 128, Nat.mod_lt _ (by omega)⟩)) * ((1 / 8 : ℝ) : EReal) := by
    pointwise [sideQ, k0_pay8]
    rw [low, ofBits_eighth]
    split_ifs <;> rfl
  rw [e, merge_at hA hB, EReal.coe_mul]

theorem sideK_at (r : Fin 256) (l : Fin 128) : sideK A B (ix2 r l) = (dx r (col p l) : EReal) := by
  have e : sideK A B (ix2 r l) = if l.val < 64 then A (ix4 0 0 r l) else B (ix4 0 0 r ⟨(l.val + 64) % 128, Nat.mod_lt _ (by omega)⟩) := by
    pointwise [sideK, k0_pay19, lane]
    rw [low]
    split_ifs <;> rfl
  rw [e, merge_at hA hB]

end

theorem sitofp_ite (q : Prop) [Decidable q] : FloatOps.sitofp (F := Ideal) .f32 (if q then 1#32 else 0#32) = ((if q then 1 else 0 : ℝ) : EReal) := by
  split_ifs <;> simp [FloatOps.sitofp]

theorem same_half (k l : Fin 128) : FloatOps.sitofp (F := Ideal) .f32 (BitVec.setWidth 32 (IntOp.xori (IntOp.xori (IntOp.cmpi .slt (BitVec.ofNat 32 k.val) 64#32)
    (IntOp.cmpi .slt (BitVec.ofNat 32 l.val) 64#32)) 1#1)) = (mask k l : EReal) := by
  rw [(by decide +kernel : ∀ k l : Fin 128, BitVec.setWidth 32 (IntOp.xori (IntOp.xori (IntOp.cmpi .slt (BitVec.ofNat 32 k.val) 64#32)
    (IntOp.cmpi .slt (BitVec.ofNat 32 l.val) 64#32)) 1#1) = if (k.val < 64 ↔ l.val < 64) then 1#32 else 0#32) k l]
  exact sitofp_ite _

section

variable {x d : Fin 256 → Row} {g : Row} {p : Fin 8} {X : Vec Ideal S256x128 .f32} {D : FVec Ideal S256x128 .f32} {G : Vec Ideal S1x128 .f32}
  (hx : ∀ r l, X (ix2 r l) = (x r (col p l) : EReal)) (hd : ∀ r l, D (ix2 r l) = (d r (col p l) : EReal)) (hg : ∀ l, G (ix2 0 l) = (g (col p l) : EReal))

include hx

theorem factor_at (r : Fin 256) (l : Fin 128) : factor X (ix2 r l) = (rs (x r) (col p l) : EReal) := by
  pointwise [factor, k0_pay13, k0_pay12, k0_pay11, k0_pay9]
  simp only [same_half, hx, ← EReal.coe_mul, ← EReal.coe_sub, sub_self, zero_mul, ← coe_sum, Finset.sum_const_zero, add_zero, ← EReal.coe_add, ofBits_64th, ofBits_eps,
    sum_mask (fun j => x r j * x r j)]
  rw [rsqrt_real (ms_eps_pos _ _)]
  rfl

include hd

theorem more_at (s : Vec Ideal S1x128 .f32) (l : Fin 128) : more D X s (ix2 0 l) = s (ix2 0 l) + ((∑ r, gscale (d r) (x r) (col p l) : ℝ) : EReal) := by
  pointwise [more, k0_pay18, k0_pay9]
  simp only [factor_at hx, hx, hd, ← EReal.coe_mul, ← coe_sum]
  rfl

include hg

theorem grad_at (r : Fin 256) (l : Fin 128) : grad D X G (ix2 r l) = (gnorm (d r) (x r) g (col p l) : EReal) := by
  have e : k0_pay15 D X G (ix2 r l) = (hsum (fun j => d r j * g j * x r j) (col p l) : EReal) := by
    pointwise [k0_pay15, k0_pay14]
    simp only [same_half, hx, hd, hg, ← EReal.coe_mul, ← EReal.coe_sub, sub_self, zero_mul, ← coe_sum, Finset.sum_const_zero, add_zero, ← EReal.coe_add,
      sum_mask (fun j => d r j * g j * x r j)]
  pointwise [grad, k0_pay17, k0_pay16, k0_pay14, k0_pay9, k0_pay10]
  simp only [e, factor_at hx, hx, hd, hg, ofBits_64th, ← EReal.coe_mul, ← EReal.coe_sub]
  rfl

end

/-- The differences, and their running sum. -/
def pick (n k : Fin 128) : ℝ := if k = n then 1 else 0

section

variable {q k : Fin 256 → ℝ} {Q K : Vec Ideal S1x1x256x128 .f32}
  (hq : ∀ r, Q (ix4 0 0 r 64) = (q r : EReal)) (hk : ∀ r, K (ix4 0 0 r 67) = (k r : EReal))

include hq hk

theorem diff_at (r : Fin 256) : diff Q K (ix1 r) = ((q r - k r : ℝ) : EReal) := by
  pointwise [diff, only, lane]
  have e (i : Fin 128) : IntOp.cmpi .eq (BitVec.ofNat 32 i.val) (BitVec.ofNat 32 64) = if i = 64 then 1#1 else 0#1 :=
    (by decide +kernel : ∀ i : Fin 128, IntOp.cmpi .eq (BitVec.ofNat 32 i.val) (BitVec.ofNat 32 64) = if i = 64 then 1#1 else 0#1) i
  have e' (i : Fin 128) : IntOp.cmpi .eq (BitVec.ofNat 32 i.val) (BitVec.ofNat 32 67) = if i = 67 then 1#1 else 0#1 :=
    (by decide +kernel : ∀ i : Fin 128, IntOp.cmpi .eq (BitVec.ofNat 32 i.val) (BitVec.ofNat 32 67) = if i = 67 then 1#1 else 0#1) i
  have t (i : Fin 128) : Scalar.select (IntOp.cmpi .eq (BitVec.ofNat 32 i.val) (BitVec.ofNat 32 64)) (Q (ix4 0 0 r i)) 0
      - Scalar.select (IntOp.cmpi .eq (BitVec.ofNat 32 i.val) (BitVec.ofNat 32 67)) (K (ix4 0 0 r i)) 0 = ((pick 64 i * q r - pick 67 i * k r : ℝ) : EReal) := by
    rw [e, e']
    by_cases h : i = 64
    · subst h
      show Q (ix4 0 0 r 64) - 0 = _
      rw [hq, sub_zero]
      simp [pick]
    · by_cases h' : i = 67
      · subst h'
        show 0 - K (ix4 0 0 r 67) = _
        rw [hk, zero_sub, ← EReal.coe_neg]
        simp [pick]
      · rw [if_neg h, if_neg h']
        show (0 : EReal) - 0 = _
        simp [pick, h, h']
  simp only [t, ← coe_sum]
  simp [pick, Finset.sum_sub_distrib]

theorem into_at (h : Fin 16) (o : FVec Ideal S256x128 .f32) (r : Fin 256) (l : Fin 128) :
    into (BitVec.ofNat 32 h.val) Q K o (ix2 r l) = if l.val = h.val then ((q r - k r : ℝ) : EReal) else o (ix2 r l) := by
  pointwise [into, lane]
  rw [diff_at hq hk]
  have e (h : Fin 16) (i : Fin 128) : IntOp.cmpi .eq (BitVec.ofNat 32 i.val) (BitVec.ofNat 32 h.val) = if i.val = h.val then 1#1 else 0#1 :=
    (by decide +kernel : ∀ (h : Fin 16) (i : Fin 128), IntOp.cmpi .eq (BitVec.ofNat 32 i.val) (BitVec.ofNat 32 h.val) = if i.val = h.val then 1#1 else 0#1) h i
  rw [e]
  split_ifs <;> rfl

end

theorem pay250_at (r k : Fin 256) : k0_pay250 (F := Ideal) (ix2 r k) = (inTile r k : EReal) := by
  pointwise [k0_pay250]
  have e (r k : Fin 256) : BitVec.setWidth 32 (IntOp.cmpi .sge (BitVec.ofNat 32 k.val) (BitVec.ofNat 32 r.val)) = if r.val ≤ k.val then 1#32 else 0#32 :=
    (by decide +kernel : ∀ r k : Fin 256, BitVec.setWidth 32 (IntOp.cmpi .sge (BitVec.ofNat 32 k.val) (BitVec.ofNat 32 r.val)) = if r.val ≤ k.val then 1#32 else 0#32) r k
  rw [e]
  exact sitofp_ite _

theorem sumFrom_at {o : Fin 256 → Fin 128 → ℝ} {s : Fin 128 → ℝ} {O : FVec Ideal S256x128 .f32} {T : Vec Ideal S1x128 .f32}
    (ho : ∀ r l, O (ix2 r l) = (o r l : EReal)) (hs : ∀ l, T (ix2 0 l) = (s l : EReal)) (r : Fin 256) (l : Fin 128) :
    sumFrom O T (ix2 r l) = ((∑ k, inTile r k * o k l + s l : ℝ) : EReal) := by
  pointwise [sumFrom, k0_pay253]
  simp only [pay250_at, ho, hs, ← EReal.coe_mul, ← EReal.coe_sub, sub_self, mul_zero, ← coe_sum, Finset.sum_const_zero, add_zero, ← EReal.coe_add]
  rw [add_comm]

section

variable {u f : Fin 256 → Fin 128 → ℝ} {b : Fin 128 → ℝ} {U : FVec Ideal S256x128 .f32} {Fx : Vec Ideal S256x128 .f32} {T : Vec Ideal S1x128 .f32}
  (hu : ∀ r l, U (ix2 r l) = (u r l : EReal)) (hf : ∀ r l, Fx (ix2 r l) = (f r l : EReal)) (hb : ∀ l, T (ix2 0 l) = (b l : EReal))

include hu

theorem pay1_at (l : Fin 128) : k0_pay1 U (ix2 0 l) = (u 0 l : EReal) := by
  pointwise [k0_pay1]
  exact hu 0 l

include hf hb

theorem pay2_at (r : Fin 256) (l : Fin 128) : k0_pay2 lane U Fx T (ix2 r l) = ((if l.val < 16 then gforget (u r l) (f r l) (b l) else 0 : ℝ) : EReal) := by
  pointwise [k0_pay2, lane]
  have e (l : Fin 128) : IntOp.cmpi .slt (BitVec.ofNat 32 l.val) (BitVec.ofNat 32 16) = if l.val < 16 then 1#1 else 0#1 :=
    (by decide +kernel : ∀ l : Fin 128, IntOp.cmpi .slt (BitVec.ofNat 32 l.val) (BitVec.ofNat 32 16) = if l.val < 16 then 1#1 else 0#1) l
  rw [e, hu, hf, hb, ← EReal.coe_add, zero_sub, ← EReal.coe_neg, logistic_sg, ← EReal.coe_mul]
  split_ifs <;> rfl

theorem pay3_at (r : Fin 256) (l : Fin 128) : k0_pay3 lane U Fx T (ix2 r l) = ((if l.val < 16 then gforget (u r l) (f r l) (b l) else 0 : ℝ) : EReal) :=
  pay2_at hu hf hb r l

theorem pay4_at (w : Vec Ideal S1x128 .f32) (l : Fin 128) :
    k0_pay4 lane U Fx T w (ix2 0 l) = w (ix2 0 l) + ((∑ r, (if l.val < 16 then gforget (u r l) (f r l) (b l) else 0) : ℝ) : EReal) := by
  pointwise [k0_pay4]
  simp only [pay2_at hu hf hb]
  rw [coe_sum]

end

theorem headOf_at (D : Vec Ideal S1x16x256x128 .f32) (h : Fin 16) (r : Fin 256) (l : Fin 128) : headOf D h (ix4 0 0 r l) = D (ix4 0 h r l) := by
  show D _ = D _
  congr 1
  funext a
  fin_cases a
  · exact Fin.ext rfl
  · exact Fin.ext (by show h.val + 1 * 0 = h.val; omega)
  · exact Fin.ext (by show 0 + 1 * r.val = r.val; omega)
  · exact Fin.ext (by show 0 + 1 * l.val = l.val; omega)

/-- The differences of all heads, each in its lane. -/
theorem diffs_at {c k : Fin 16 → Fin 256 → ℝ} {D0 D1 : Vec Ideal S1x16x256x128 .f32}
    (hq : ∀ h r, D0 (ix4 0 h r 64) = (c h r : EReal)) (hk : ∀ h r, D1 (ix4 0 h r 67) = (k h r : EReal)) (r : Fin 256) (l : Fin 128) :
    diffs D0 D1 (ix2 r l) = (inLane (fun h => c h r - k h r) l : EReal) := by
  have q (h : Fin 16) (r : Fin 256) : headOf D0 h (ix4 0 0 r 64) = (c h r : EReal) := by
    refine (headOf_at D0 h r 64).trans (hq h r)
  have k' (h : Fin 16) (r : Fin 256) : headOf D1 h (ix4 0 0 r 67) = (k h r : EReal) := by
    refine (headOf_at D1 h r 67).trans (hk h r)
  have s (h : Fin 16) (o : FVec Ideal S256x128 .f32) (n : ℕ) (hn : n = h.val)
      (ho : o (ix2 r l) = if hl : l.val < 16 then (if l.val < n then ((c ⟨l.val, hl⟩ r - k ⟨l.val, hl⟩ r : ℝ) : EReal) else 0) else 0) :
      into (BitVec.ofNat 32 h.val) (headOf D0 h) (headOf D1 h) o (ix2 r l)
        = if hl : l.val < 16 then (if l.val < n + 1 then ((c ⟨l.val, hl⟩ r - k ⟨l.val, hl⟩ r : ℝ) : EReal) else 0) else 0 := by
    rw [into_at (q h) (k' h), ho]
    by_cases hl : l.val < 16
    · rw [dif_pos hl, dif_pos hl]
      by_cases he : l.val = h.val
      · rw [if_pos he, if_pos (by omega)]
        exact congrArg (fun i => ((c i r - k i r : ℝ) : EReal)) (Fin.ext he.symm)
      · rw [if_neg he]
        by_cases h2 : l.val < n
        · rw [if_pos h2, if_pos (by omega)]
        · rw [if_neg h2, if_neg (by omega)]
    · rw [dif_neg hl, dif_neg hl, if_neg (by omega)]
  have z : k0_pay7 (F := Ideal) (ix2 r l) = if hl : l.val < 16 then (if l.val < 0 then ((c ⟨l.val, hl⟩ r - k ⟨l.val, hl⟩ r : ℝ) : EReal) else 0) else 0 := by
    pointwise [k0_pay7]
    split_ifs <;> first | rfl | omega | simp
  refine (s 15 _ 15 rfl (s 14 _ 14 rfl (s 13 _ 13 rfl (s 12 _ 12 rfl (s 11 _ 11 rfl (s 10 _ 10 rfl (s 9 _ 9 rfl (s 8 _ 8 rfl (s 7 _ 7 rfl (s 6 _ 6 rfl (s 5 _ 5 rfl (s 4 _ 4 rfl (s 3 _ 3 rfl (s 2 _ 2 rfl (s 1 _ 1 rfl (s 0 _ 0 rfl (z))))))))))))))))).trans ?_
  by_cases hl : l.val < 16
  · rw [dif_pos hl, if_pos (by omega), inLane, dif_pos hl]
  · rw [dif_neg hl, inLane, dif_neg hl, EReal.coe_zero]

end Cert.Kernel6Ideal.AttnPost

end
-- ==== Proof.AttnPost.Blocks.lean ====
/- The blocks that a step reads. -/
module

public import proofs.«01_k».proof.Proof.AttnPost.Math
public import proofs.«01_k».proof.Proof.Gen.Kernel6Ideal.Frame
public import Idealize.ShloMosaic.Lib.Pipeline.ValueKit
public import Idealize.ShloMosaic.Lib.Claim
public import Idealize.ShloMosaic.Lib.StableHlo.RunRead

@[expose] public section

set_option maxRecDepth 16384

noncomputable section

namespace Cert.Kernel6Ideal.AttnPost

open Idealize.ShloMosaic Idealize.ShloMosaic.TcCoe Idealize.SL.Sem
open Idealize.ShloMosaic.Pipeline (Dat)
open Cert.Reals Cert.AttnPost
open Cert.Kernel6Ideal Cert.Kernel6Ideal.Gen
open Idealize.ShloMosaic.Tactic

/-- The sequence and the frame of a token of a step: a sequence's tiles come the last one first. -/
def seq (t : Fin cfg0.N) : Fin 2 := ⟨t.val / 8, by have := lt_of_lt_of_eq t.isLt N_0; omega⟩
def frame (t : Fin cfg0.N) (r : Fin 256) : Fin 2048 := ⟨(7 - t.val % 8) * 256 + r.val, by omega⟩

theorem idx : ∀ t : Fin cfg0.N, win0_0.index t = ![t.val / 8, 0, 7 - t.val % 8, 0] ∧ win0_1.index t = ![t.val / 8, 0, 7 - t.val % 8, 0]
    ∧ win0_2.index t = ![t.val / 8, 0, 7 - t.val % 8, 0] ∧ win0_3.index t = ![t.val / 8 * 8 + 7 - t.val % 8, 0] ∧ win0_4.index t = ![t.val / 8 * 8 + 7 - t.val % 8, 1]
    ∧ win0_5.index t = ![t.val / 8 * 8 + 7 - t.val % 8, 0] ∧ win0_6.index t = ![0, 0] ∧ win0_7.index t = ![0, 0] ∧ win0_8.index t = ![0, 0]
    ∧ win0_9.index t = ![t.val / 8 * 8 + 7 - t.val % 8, 0] ∧ win0_10.index t = ![t.val / 8 * 8 + 7 - t.val % 8, 0] ∧ win0_11.index t = ![t.val / 8 * 8 + 7 - t.val % 8, 0]
    ∧ win0_12.index t = ![t.val / 8 * 8 + 7 - t.val % 8, 0] ∧ win0_13.index t = ![0, 0] :=
  (by decide +kernel : ∀ t : Fin grid0.N, _)

variable (m : (ℓ : Loc nD τ sig) → Buf (Elt Ideal) ℓ) (c : Dev nD)

theorem block_dq (t : Fin cfg0.N) (h : Fin 16) (r : Fin 256) (l : Fin 128) :
    iblk m c 0 t (ix4 0 h r l) = m ((c : Thread nD τ).loc main_arg4) (ix4 (seq t) h (frame t r) l) := by
  have ht := lt_of_lt_of_eq t.isLt N_0
  blk_simp [iblk, idx t, V]
  blk_ext [idx t, seq, frame]

theorem block_dk (t : Fin cfg0.N) (h : Fin 16) (r : Fin 256) (l : Fin 128) :
    iblk m c 1 t (ix4 0 h r l) = m ((c : Thread nD τ).loc main_arg5) (ix4 (seq t) h (frame t r) l) := by
  have ht := lt_of_lt_of_eq t.isLt N_0
  blk_simp [iblk, idx t, V]
  blk_ext [idx t, seq, frame]

theorem block_dv (t : Fin cfg0.N) (h : Fin 16) (r : Fin 256) (l : Fin 128) :
    iblk m c 2 t (ix4 0 h r l) = m ((c : Thread nD τ).loc main_arg6) (ix4 (seq t) h (frame t r) l) := by
  have ht := lt_of_lt_of_eq t.isLt N_0
  blk_simp [iblk, idx t, V]
  blk_ext [idx t, seq, frame]

theorem block_zq (t : Fin cfg0.N) (r : Fin 256) (j : Fin 1024) :
    iblk m c 3 t (ix2 r j) = m ((c : Thread nD τ).loc main_arg0) (ix3 (seq t) (frame t r) (⟨j.val, by omega⟩ : Fin 7184)) := by
  have ht := lt_of_lt_of_eq t.isLt N_0
  blk_simp [iblk, idx t]
  unfold V
  simp only [List.flatten_cons, List.flatten_nil, List.append_nil, StableHlo.after_append, StableHlo.after_cons, StableHlo.after_nil]
  after_results_simp
  try after_results_loop
  try simp only [StableHlo.TRef.ofBuf_toBuf, StableHlo.TRef.ofBuf, StableHlo.TRef.toBuf, cast_eq]
  pointwise
  rw [dif_pos (by blk_simp [idx t]; omega)]
  blk_ext [idx t, seq, frame]
  all_goals split_ifs <;> omega

theorem block_zk (t : Fin cfg0.N) (r : Fin 256) (j : Fin 1024) :
    iblk m c 4 t (ix2 r j) = m ((c : Thread nD τ).loc main_arg0) (ix3 (seq t) (frame t r) (⟨1024 + j.val, by omega⟩ : Fin 7184)) := by
  have ht := lt_of_lt_of_eq t.isLt N_0
  blk_simp [iblk, idx t]
  unfold V
  simp only [List.flatten_cons, List.flatten_nil, List.append_nil, StableHlo.after_append, StableHlo.after_cons, StableHlo.after_nil]
  after_results_simp
  try after_results_loop
  try simp only [StableHlo.TRef.ofBuf_toBuf, StableHlo.TRef.ofBuf, StableHlo.TRef.toBuf, cast_eq]
  pointwise
  rw [dif_pos (by blk_simp [idx t]; omega)]
  blk_ext [idx t, seq, frame]
  all_goals split_ifs <;> omega

theorem block_zf (t : Fin cfg0.N) (r : Fin 256) (l : Fin 128) :
    iblk m c 5 t (ix2 r l) = if h : l.val < 16 then m ((c : Thread nD τ).loc main_arg0) (ix3 (seq t) (frame t r) (⟨3072 + l.val, by omega⟩ : Fin 7184)) else (0 : EReal) := by
  have ht := lt_of_lt_of_eq t.isLt N_0
  blk_simp [iblk, idx t]
  unfold V
  simp only [List.flatten_cons, List.flatten_nil, List.append_nil, StableHlo.after_append, StableHlo.after_cons, StableHlo.after_nil]
  after_results_simp
  try after_results_loop
  try simp only [StableHlo.TRef.ofBuf_toBuf, StableHlo.TRef.ofBuf, StableHlo.TRef.toBuf, cast_eq]
  pointwise
  by_cases h : l.val < 16
  · rw [dif_pos (by blk_simp [idx t]; omega)]
    refine Eq.trans ?_ (dif_pos h).symm
    blk_ext [idx t, seq, frame]
    all_goals split_ifs <;> omega
  · rw [dif_neg (by blk_simp [idx t]; omega)]
    refine Eq.trans ?_ (dif_neg h).symm
    show (((0#32 : BitVec 32).toInt : ℝ) : EReal) = 0
    simp

theorem block_bf (t : Fin cfg0.N) (l : Fin 128) :
    iblk m c 6 t (ix2 0 l) = if h : l.val < 16 then m ((c : Thread nD τ).loc main_arg1) (ix2 0 (⟨l.val, h⟩ : Fin 16)) else (0 : EReal) := by
  have ht := lt_of_lt_of_eq t.isLt N_0
  blk_simp [iblk, idx t]
  unfold V
  simp only [List.flatten_cons, List.flatten_nil, List.append_nil, StableHlo.after_append, StableHlo.after_cons, StableHlo.after_nil]
  after_results_simp
  try after_results_loop
  try simp only [StableHlo.TRef.ofBuf_toBuf, StableHlo.TRef.ofBuf, StableHlo.TRef.toBuf, cast_eq]
  pointwise
  by_cases h : l.val < 16
  · rw [dif_pos (by blk_simp [idx t]; omega)]
    refine Eq.trans ?_ (dif_pos h).symm
    blk_ext [idx t, seq, frame]
    all_goals split_ifs <;> omega
  · rw [dif_neg (by blk_simp [idx t]; omega)]
    refine Eq.trans ?_ (dif_neg h).symm
    show (((0#32 : BitVec 32).toInt : ℝ) : EReal) = 0
    simp

theorem block_gq (t : Fin cfg0.N) (j : Fin 1024) : iblk m c 7 t (ix2 0 j) = m ((c : Thread nD τ).loc main_arg2) (ix3 0 (head j) (place j)) := by
  have ht := lt_of_lt_of_eq t.isLt N_0
  blk_simp [iblk, idx t]
  unfold V
  simp only [List.flatten_cons, List.flatten_nil, List.append_nil, StableHlo.after_append, StableHlo.after_cons, StableHlo.after_nil]
  after_results_simp
  try after_results_loop
  try simp only [StableHlo.TRef.ofBuf_toBuf, StableHlo.TRef.ofBuf, StableHlo.TRef.toBuf, cast_eq]
  pointwise
  blk_ext [idx t, seq, frame, head, place]

theorem block_gk (t : Fin cfg0.N) (j : Fin 1024) : iblk m c 8 t (ix2 0 j) = m ((c : Thread nD τ).loc main_arg3) (ix3 0 (head j) (place j)) := by
  have ht := lt_of_lt_of_eq t.isLt N_0
  blk_simp [iblk, idx t]
  unfold V
  simp only [List.flatten_cons, List.flatten_nil, List.append_nil, StableHlo.after_append, StableHlo.after_cons, StableHlo.after_nil]
  after_results_simp
  try after_results_loop
  try simp only [StableHlo.TRef.ofBuf_toBuf, StableHlo.TRef.ofBuf, StableHlo.TRef.toBuf, cast_eq]
  pointwise
  blk_ext [idx t, seq, frame, head, place]

end Cert.Kernel6Ideal.AttnPost

end
-- ==== Proof.AttnPost.Small.lean ====
/- What the parts of the sums over all tokens add up to. -/
module

public import proofs.«01_k».proof.Proof.AttnPost.Math
public import proofs.«01_k».proof.Proof.AttnPost.Ops
public import proofs.«01_k».proof.Proof.Tiles

@[expose] public section

set_option maxRecDepth 16384

noncomputable section

namespace Cert.Kernel6Ideal.AttnPost

open Idealize.ShloMosaic Idealize.ShloMosaic.TcCoe
open Cert.Reals Cert.AttnGate Cert.AttnPost
open Cert.Kernel6Ideal Cert.Kernel6Ideal.Gen

variable (V : Part → Fin 128 → ℝ)

/-- What the parts of a list add. -/
def added : List Part → Fin 24 → Fin 1024 → ℝ
  | [], _, _ => 0
  | k :: L, a, b => (if k.row = a ∧ k.col.val = b.val / 128 then V k ⟨b.val % 128, Nat.mod_lt _ (by decide)⟩ else 0) + added L a b

theorem added_none (L : List Part) (a : Fin 24) (b : Fin 1024) (h : ∀ k ∈ L, ¬(k.row = a ∧ k.col.val = b.val / 128)) : added V L a b = 0 := by
  induction L with
  | nil => rfl
  | cons k L ih =>
    rw [added, if_neg (h k (List.mem_cons_self ..)), zero_add]
    exact ih fun k' hk' => h k' (List.mem_cons_of_mem _ hk')

theorem added_parts (a : Fin 24) (b : Fin 1024) : added V parts a b =
    if a.val = 0 then V (.q ⟨b.val / 128, by omega⟩) ⟨b.val % 128, Nat.mod_lt _ (by decide)⟩
    else if a.val = 8 then V (.k ⟨b.val / 128, by omega⟩) ⟨b.val % 128, Nat.mod_lt _ (by decide)⟩
    else if a.val = 16 ∧ b.val < 128 then V .f ⟨b.val % 128, Nat.mod_lt _ (by decide)⟩ else 0 := by
  have hb : b.val / 128 < 8 := by omega
  have e : (b.val < 128) = (b.val / 128 = 0) := by apply propext; omega
  simp only [e, added, parts]
  obtain ⟨p, hp⟩ : ∃ p : Fin 8, p.val = b.val / 128 := ⟨⟨_, hb⟩, rfl⟩
  have q : (⟨b.val / 128, hb⟩ : Fin 8) = p := Fin.ext hp.symm
  rw [q]
  simp only [← hp]
  have r0 : ((0 : Fin 24) = a) = (a.val = 0) := propext ⟨fun h => h ▸ rfl, fun h => Fin.ext h.symm⟩
  have r8 : ((8 : Fin 24) = a) = (a.val = 8) := propext ⟨fun h => h ▸ rfl, fun h => Fin.ext h.symm⟩
  have r16 : ((16 : Fin 24) = a) = (a.val = 16) := propext ⟨fun h => h ▸ rfl, fun h => Fin.ext h.symm⟩
  simp only [Part.row, Part.col, r0, r8, r16]
  by_cases h0 : a.val = 0
  · simp only [h0, true_and, if_true]
    fin_cases p <;> simp
  · by_cases h8 : a.val = 8
    · simp only [h8, true_and, if_true]
      fin_cases p <;> simp
    · by_cases h16 : a.val = 16
      · simp only [h16, true_and, if_true]
        fin_cases p <;> simp
      · simp [h0, h8, h16]

theorem in_part (k : Part) (a : Fin 24) (b : Fin 1024) :
    ((k.row.val ≤ a.val ∧ a.val < k.row.val + 1) ∧ 128 * k.col.val ≤ b.val ∧ b.val < 128 * k.col.val + 128) ↔ (k.row = a ∧ k.col.val = b.val / 128) := by
  constructor
  · intro h
    exact ⟨Fin.ext (by omega), by omega⟩
  · intro h
    have := congrArg Fin.val h.1
    omega

variable {V} {n : Part → Vec Ideal S1x128 .f32 → Vec Ideal S1x128 .f32} (hn : ∀ k w l, n k w (ix2 0 l) = w (ix2 0 l) + (V k l : EReal))

include hn

/-- Parts written one after another, each over what stood there. -/
theorem built_at {κ : Kind} {sp : Space} (v : View sig κ sp S24x1024 .f32) (B : List (View.Piece (Elt Ideal) S24x1024 .f32)) (L : List Part) (a : Fin 24) (b : Fin 1024) :
    View.canon (Val := Elt Ideal) (built v n B L) (ix2 a b) = (View.canon (Val := Elt Ideal) B (ix2 a b) : EReal) + (added V L a b : EReal) := by
  induction L generalizing a b with
  | nil => rw [added, EReal.coe_zero, add_zero]; rfl
  | cons k L ih =>
    refine (Cert.Tiles.canon_box _ _ _ a b).trans ?_
    split
    · rename_i h
      have hk := (in_part k a b).1 h
      rw [added, if_pos hk]
      obtain ⟨rfl, hc⟩ := hk
      have e (o : Fin 1) (l : Fin 128) (ho : o = 0) : n k (v.readCov (built v n B L) k.rect.toLoadRect) (ix2 o l)
          = (v.readCov (built v n B L) k.rect.toLoadRect (ix2 0 l) : EReal) + (V k l : EReal) := by
        subst ho
        exact hn _ _ _
      refine (e _ _ (Subsingleton.elim _ _)).trans ?_
      refine (congrArg (· + _) (Cert.Tiles.readCov_box _ _ _ _ _)).trans ?_
      have e2 (x : Fin 24) (y : Fin 1024) (hx : x = k.row) (hy : y = b) : (View.canon (Val := Elt Ideal) (built v n B L) (ix2 x y) : EReal)
          = (View.canon (Val := Elt Ideal) B (ix2 k.row b) : EReal) + (added V L k.row b : EReal) := by
        subst hx hy
        exact ih _ _
      refine (congrArg (· + _) (e2 _ _ (Fin.ext (Nat.add_zero _)) (Fin.ext (by show 128 * k.col.val + (b.val - 128 * k.col.val) = b.val; omega)))).trans ?_
      rw [EReal.coe_add, add_assoc, add_comm (added V L k.row b : EReal)]
      refine congrArg (fun l => _ + ((V k l : EReal) + _)) (Fin.ext ?_)
      show b.val - 128 * k.col.val = b.val % 128
      omega
    · rename_i h
      rw [added, if_neg fun hk => h ((in_part k a b).2 hk), zero_add]
      exact ih a b

/-- Parts at different places, each written over what stood there before all of them. -/
theorem laid_at {κ : Kind} {sp : Space} (v : View sig κ sp S24x1024 .f32) (f : v.ty.Contents (Elt Ideal)) (o : Vec Ideal S24x1024 .f32)
    (hf : ∀ a b, v.read (Elt Ideal) f (ix2 a b) = o (ix2 a b)) (L : List Part) (hL : L.Pairwise fun k k' => ¬(k'.row = k.row ∧ k'.col = k.col)) (a : Fin 24) (b : Fin 1024) :
    v.read (Elt Ideal) (v.writes (Elt Ideal) f (laid n o L)) (ix2 a b) = (o (ix2 a b) : EReal) + (added V L a b : EReal) := by
  induction L with
  | nil => rw [added, EReal.coe_zero, add_zero]; exact hf a b
  | cons k L ih =>
    rw [List.pairwise_cons] at hL
    refine (Cert.Tiles.read_box _ _ _ _ _ a b).trans ?_
    split
    · rename_i h
      have hk := (in_part k a b).1 h
      rw [added, if_pos hk, added_none V L a b fun k' hk' hh => hL.1 k' hk' ⟨hh.1.trans hk.1.symm, Fin.ext (hh.2.trans hk.2.symm)⟩, add_zero]
      obtain ⟨rfl, hc⟩ := hk
      have e (i : Fin 1) (l : Fin 128) (ho : i = 0) : n k (View.ld o k.rect) (ix2 i l) = (View.ld o k.rect (ix2 0 l) : EReal) + (V k l : EReal) := by
        subst ho
        exact hn _ _ _
      refine (e _ _ (Subsingleton.elim _ _)).trans ?_
      refine (congrArg (· + _) (Cert.Tiles.ld_box _ _ _ _)).trans ?_
      have e2 (x : Fin 24) (y : Fin 1024) (hx : x = k.row) (hy : y = b) : (o (ix2 x y) : EReal) = o (ix2 k.row b) := by
        subst hx hy
        rfl
      refine (congrArg (· + _) (e2 _ _ (Fin.ext (Nat.add_zero _)) (Fin.ext (by show 128 * k.col.val + (b.val - 128 * k.col.val) = b.val; omega)))).trans ?_
      refine congrArg (fun l => _ + (V k l : EReal)) (Fin.ext ?_)
      show b.val - 128 * k.col.val = b.val % 128
      omega
    · rename_i h
      rw [added, if_neg fun hk => h ((in_part k a b).2 hk), zero_add]
      exact ih hL.2

end Cert.Kernel6Ideal.AttnPost

end
-- ==== Proof.AttnPost.Kernel.lean ====
/- What the kernel of the step after the attention leaves in its five result arrays, for real arguments. -/
module

public import proofs.«01_k».proof.Proof.AttnPost.Payload
public import proofs.«01_k».proof.Proof.AttnPost.Blocks
public import proofs.«01_k».proof.Proof.AttnPost.Small
public import proofs.«01_k».proof.Proof.AttnPost.Sums

@[expose] public section

set_option maxRecDepth 16384

noncomputable section

namespace Cert.Kernel6Ideal.AttnPost

open Idealize.ShloMosaic Idealize.ShloMosaic.TcCoe Idealize.SL.Sem
open Idealize.ShloMosaic.Pipeline (Dat)
open Cert.Reals Cert.AttnGate Cert.AttnPost
open Cert.Kernel6Ideal Cert.Kernel6Ideal.Gen
open Idealize.ShloMosaic.Tactic

/-- Eight pairs of heads side by side. -/
theorem canon8 (W : Fin 8 → FVec Ideal S256x128 .bf16) (f : Fin 256 → Fin 1024 → EReal) (hW : ∀ p r l, W p (ix2 r l) = f r (col p l)) (r : Fin 256) (j : Fin 1024) :
    View.canon (Val := Elt Ideal) (s := S256x1024) (e := .bf16)
      [⟨colR 7, W 7⟩, ⟨colR 6, W 6⟩, ⟨colR 5, W 5⟩, ⟨colR 4, W 4⟩, ⟨colR 3, W 3⟩, ⟨colR 2, W 2⟩, ⟨colR 1, W 1⟩, ⟨colR 0, W 0⟩] (ix2 r j) = f r j := by
  have g (p : Fin 8) (r' : Fin 256) (l : Fin 128) (hr : r' = r) (hl : j.val = 128 * p.val + l.val) : W p (ix2 r' l) = f r j := by
    subst hr
    exact (hW p r' l).trans (congrArg _ (Fin.ext hl.symm))
  iterate 8
    refine (Cert.Tiles.canon_box _ _ _ r j).trans ?_
    split
    · rename_i h
      exact g _ _ _ (Fin.ext (Nat.sub_zero _)) (by show j.val = _ + (j.val - _); omega)
  rename_i h7 h6 h5 h4 h3 h2 h1 h0
  exfalso
  simp at h7 h6 h5 h4 h3 h2 h1 h0
  omega

theorem colOf_at (X : Vec Ideal S256x1024 .f32) (p : Fin 8) (r : Fin 256) (l : Fin 128) : colOf X p (ix2 r l) = X (ix2 r (col p l)) := by
  refine (Cert.Tiles.ld_box X _ r l).trans (congrArg X ?_)
  exact congrArg (fun r => ix2 r _) (Fin.ext (Nat.zero_add _))

theorem scaleOf_at (X : Vec Ideal S1x1024 .f32) (p : Fin 8) (l : Fin 128) : scaleOf X p (ix2 0 l) = X (ix2 0 (col p l)) := by
  refine (Cert.Tiles.ld_box X _ 0 l).trans (congrArg X ?_)
  exact congrArg (fun r => ix2 r _) (Fin.ext (Nat.zero_add _))

variable (m : (ℓ : Loc nD τ sig) → Buf (Elt Ideal) ℓ) (c : Dev nD)

/-- The arguments as arrays of real numbers. -/
structure Real (D : Data) : Prop where
  zq : ∀ b s (j : Fin 1024), m ((c : Thread nD τ).loc main_arg0) (ix3 b s (⟨j.val, by omega⟩ : Fin 7184)) = (D.zq b s j : EReal)
  zk : ∀ b s (j : Fin 1024), m ((c : Thread nD τ).loc main_arg0) (ix3 b s (⟨1024 + j.val, by omega⟩ : Fin 7184)) = (D.zk b s j : EReal)
  zf : ∀ b s (h : Fin 16), m ((c : Thread nD τ).loc main_arg0) (ix3 b s (⟨3072 + h.val, by omega⟩ : Fin 7184)) = (D.zf b s h : EReal)
  bf : ∀ h : Fin 16, m ((c : Thread nD τ).loc main_arg1) (ix2 0 h) = (D.bf h : EReal)
  gq : ∀ h e, m ((c : Thread nD τ).loc main_arg2) (ix3 0 h e) = (D.gq (ch h e) : EReal)
  gk : ∀ h e, m ((c : Thread nD τ).loc main_arg3) (ix3 0 h e) = (D.gk (ch h e) : EReal)
  dq : ∀ b s h (e : Fin 64), m ((c : Thread nD τ).loc main_arg4) (ix4 b h s (⟨e.val, by omega⟩ : Fin 128)) = (D.dq b s (ch h e) : EReal)
  dk : ∀ b s h (e : Fin 64), m ((c : Thread nD τ).loc main_arg5) (ix4 b h s (⟨e.val, by omega⟩ : Fin 128)) = (D.dk b s (ch h e) : EReal)
  cq : ∀ b s h, m ((c : Thread nD τ).loc main_arg4) (ix4 b h s (64 : Fin 128)) = (D.cq b s h : EReal)
  ck : ∀ b s h, m ((c : Thread nD τ).loc main_arg5) (ix4 b h s (67 : Fin 128)) = (D.ck b s h : EReal)

variable {m c} {D : Data} (H : Real m c D) (t : Fin cfg0.N)

theorem seq_eq : seq t = tileSeq t.val := Fin.ext (by have := lt_of_lt_of_eq t.isLt N_0; show t.val / 8 = t.val / 8 % 2; omega)

section
include H

theorem rdq (h : Fin 16) (r : Fin 256) (e : Fin 64) : headOf (iblk m c 0 t) h (ix4 0 0 r ⟨e.val, by omega⟩) = (D.dq (tileSeq t.val) (tileFrame t.val r) (ch h e) : EReal) :=
  (headOf_at _ h r _).trans ((block_dq m c t h r _).trans ((H.dq _ _ _ _).trans (by rw [seq_eq]; rfl)))
theorem rdk (h : Fin 16) (r : Fin 256) (e : Fin 64) : headOf (iblk m c 1 t) h (ix4 0 0 r ⟨e.val, by omega⟩) = (D.dk (tileSeq t.val) (tileFrame t.val r) (ch h e) : EReal) :=
  (headOf_at _ h r _).trans ((block_dk m c t h r _).trans ((H.dk _ _ _ _).trans (by rw [seq_eq]; rfl)))
theorem rzq (p : Fin 8) (r : Fin 256) (l : Fin 128) : colOf (iblk m c 3 t) p (ix2 r l) = (D.zq (tileSeq t.val) (tileFrame t.val r) (col p l) : EReal) :=
  (colOf_at _ p r l).trans ((block_zq m c t r _).trans ((H.zq _ _ _).trans (by rw [seq_eq]; rfl)))
theorem rzk (p : Fin 8) (r : Fin 256) (l : Fin 128) : colOf (iblk m c 4 t) p (ix2 r l) = (D.zk (tileSeq t.val) (tileFrame t.val r) (col p l) : EReal) :=
  (colOf_at _ p r l).trans ((block_zk m c t r _).trans ((H.zk _ _ _).trans (by rw [seq_eq]; rfl)))
theorem rgq (p : Fin 8) (l : Fin 128) : scaleOf (iblk m c 7 t) p (ix2 0 l) = (D.gq (col p l) : EReal) :=
  (scaleOf_at _ p l).trans ((block_gq m c t _).trans ((H.gq _ _).trans (by rw [ch_head])))
theorem rgk (p : Fin 8) (l : Fin 128) : scaleOf (iblk m c 8 t) p (ix2 0 l) = (D.gk (col p l) : EReal) :=
  (scaleOf_at _ p l).trans ((block_gk m c t _).trans ((H.gk _ _).trans (by rw [ch_head])))
theorem rzf (r : Fin 256) (l : Fin 128) : iblk m c 5 t (ix2 r l) = (inLane (D.zf (tileSeq t.val) (tileFrame t.val r)) l : EReal) := by
  rw [block_zf, inLane]
  split_ifs with h
  · exact (H.zf _ _ ⟨l.val, h⟩).trans (by rw [seq_eq]; rfl)
  · exact EReal.coe_zero.symm
theorem rbf (l : Fin 128) : iblk m c 6 t (ix2 0 l) = (inLane D.bf l : EReal) := by
  rw [block_bf, inLane]
  split_ifs with h
  · exact H.bf _
  · exact EReal.coe_zero.symm

/-- The three blocks of columns. -/
theorem pieceQ_at (p : Fin 8) (r : Fin 256) (l : Fin 128) : grad (sideQ (headOf (iblk m c 0 t) (lo p)) (headOf (iblk m c 0 t) (hi p))) (colOf (iblk m c 3 t) p) (scaleOf (iblk m c 7 t) p) (ix2 r l)
    = (D.q (tileSeq t.val) (tileFrame t.val r) (col p l) : EReal) :=
  grad_at (d := fun r j => D.dq (tileSeq t.val) (tileFrame t.val r) j * (1 / 8)) (x := fun r => D.zq (tileSeq t.val) (tileFrame t.val r)) (rzq H t p)
    (sideQ_at (dx := fun r => D.dq (tileSeq t.val) (tileFrame t.val r)) (rdq H t (lo p)) (rdq H t (hi p))) (rgq H t p) r l
theorem pieceK_at (p : Fin 8) (r : Fin 256) (l : Fin 128) : grad (sideK (headOf (iblk m c 1 t) (lo p)) (headOf (iblk m c 1 t) (hi p))) (colOf (iblk m c 4 t) p) (scaleOf (iblk m c 8 t) p) (ix2 r l)
    = (D.k (tileSeq t.val) (tileFrame t.val r) (col p l) : EReal) :=
  grad_at (d := fun r => D.dk (tileSeq t.val) (tileFrame t.val r)) (x := fun r => D.zk (tileSeq t.val) (tileFrame t.val r)) (rzk H t p)
    (sideK_at (dx := fun r => D.dk (tileSeq t.val) (tileFrame t.val r)) (rdk H t (lo p)) (rdk H t (hi p))) (rgk H t p) r l

theorem outQ_at (r : Fin 256) (j : Fin 1024) : (outsAt0 m c t.val t.isLt).1 (ix2 r j) = (D.q (tileSeq t.val) (tileFrame t.val r) j : EReal) := by
  rw [outQ]
  exact canon8 _ (fun r j => (D.q (tileSeq t.val) (tileFrame t.val r) j : EReal)) (pieceQ_at H t) r j
theorem outK_at (r : Fin 256) (j : Fin 1024) : (outsAt0 m c t.val t.isLt).2.1 (ix2 r j) = (D.k (tileSeq t.val) (tileFrame t.val r) j : EReal) := by
  rw [outK]
  exact canon8 _ (fun r j => (D.k (tileSeq t.val) (tileFrame t.val r) j : EReal)) (pieceK_at H t) r j

/-- The differences, and their running sums. -/
theorem diffs_tile (r : Fin 256) (l : Fin 128) : diffs (iblk m c 0 t) (iblk m c 1 t) (ix2 r l)
    = (inLane (fun h => D.cq (tileSeq t.val) (tileFrame t.val r) h - D.ck (tileSeq t.val) (tileFrame t.val r) h) l : EReal) :=
  diffs_at (c := fun h r => D.cq (tileSeq t.val) (tileFrame t.val r) h) (k := fun h r => D.ck (tileSeq t.val) (tileFrame t.val r) h)
    (fun h r => (block_dq m c t h r _).trans ((H.cq _ _ _).trans (by rw [seq_eq]; rfl))) (fun h r => (block_dk m c t h r _).trans ((H.ck _ _ _).trans (by rw [seq_eq]; rfl))) r l

theorem sum_tile (hc : ∀ l, carried (m := m) (c := c) t (ix2 0 l) = (inLane (D.sums (tileSeq t.val) ((8 - t.val % 8) * 256)) l : EReal)) (r : Fin 256) (l : Fin 128) :
    sumFrom (diffs (iblk m c 0 t) (iblk m c 1 t)) (carried (m := m) (c := c) t) (ix2 r l) = (inLane (D.sums (tileSeq t.val) (tileFrame t.val r).val) l : EReal) := by
  refine (sumFrom_at (diffs_tile H t) hc r l).trans (congrArg _ ?_)
  unfold inLane
  split_ifs with h
  · exact (sums_tile D t.val r ⟨l.val, h⟩).symm
  · simp

theorem carried_at : ∀ (n : ℕ) (hn : n < cfg0.N) (l : Fin 128), carried (m := m) (c := c) ⟨n, hn⟩ (ix2 0 l) = (inLane (D.sums (tileSeq n) ((8 - n % 8) * 256)) l : EReal) := by
  intro n
  induction n with
  | zero =>
    intro hn l
    rw [carried, if_pos (by rfl)]
    refine Eq.trans (b := (0 : EReal)) (by pointwise [k0_pay6]) ?_
    have e (h : Fin 16) : D.sums (tileSeq 0) ((8 - 0 % 8) * 256) h = 0 := sumOn_end _
    rw [inLane]
    split_ifs
    · rw [e, EReal.coe_zero]
    · exact EReal.coe_zero.symm
  | succ n ih =>
    intro hn l
    rw [carried]
    split_ifs with h8
    · refine Eq.trans (b := (0 : EReal)) (by pointwise [k0_pay6]) ?_
      have h8' : (n + 1) % 8 = 0 := h8
      have e (h : Fin 16) : D.sums (tileSeq (n + 1)) ((8 - (n + 1) % 8) * 256) h = 0 := by
        rw [h8']
        exact sumOn_end _
      rw [inLane]
      split_ifs
      · rw [e, EReal.coe_zero]
      · exact EReal.coe_zero.symm
    · have h8' : ¬ (n + 1) % 8 = 0 := h8
      have hn' : n < cfg0.N := Nat.lt_of_succ_lt hn
      refine (congrFun (outC (m := m) (c := c) ⟨n, hn'⟩) (ix2 0 l)).trans ?_
      refine (pay1_at (sum_tile H ⟨n, hn'⟩ (ih hn')) l).trans ?_
      have e1 : tileSeq n = tileSeq (n + 1) := Fin.ext (by show n / 8 % 2 = (n + 1) / 8 % 2; omega)
      have e2 : (tileFrame n 0).val = (8 - (n + 1) % 8) * 256 := by show (7 - n % 8) * 256 + 0 = _; omega
      show (inLane (D.sums (tileSeq n) (tileFrame n 0).val) l : EReal) = _
      rw [e1, e2]

theorem forget (r : Fin 256) (l : Fin 128) : (if l.val < 16 then gforget (inLane (D.sums (tileSeq t.val) (tileFrame t.val r).val) l) (inLane (D.zf (tileSeq t.val) (tileFrame t.val r)) l) (inLane D.bf l) else 0)
    = inLane (D.f (tileSeq t.val) (tileFrame t.val r)) l := by
  unfold inLane
  split_ifs <;> rfl

theorem outF_at (r : Fin 256) (l : Fin 128) : (outsAt0 m c t.val t.isLt).2.2.2.1 (ix2 r l) = (inLane (D.f (tileSeq t.val) (tileFrame t.val r)) l : EReal) := by
  rw [outF]
  exact (pay3_at (sum_tile H t (carried_at H t.val t.isLt)) (rzf H t) (rbf H t) r l).trans (congrArg _ (forget H t r l))

end

/-- What a tile adds to the sums over all tokens. -/
def adds (D : Data) (n : ℕ) : Part → Fin 128 → ℝ
  | .q p, l => ∑ r, D.scaleQ (tileSeq n) (tileFrame n r) (col p l)
  | .k p, l => ∑ r, D.scaleK (tileSeq n) (tileFrame n r) (col p l)
  | .f, l => ∑ r, inLane (D.f (tileSeq n) (tileFrame n r)) l

section
include H

theorem next_at (k : Part) (w : Vec Ideal S1x128 .f32) (l : Fin 128) :
    next (iblk m c 0 t) (iblk m c 1 t) (iblk m c 3 t) (iblk m c 4 t) (iblk m c 5 t) (iblk m c 6 t) (carried (m := m) (c := c) t) k w (ix2 0 l) = w (ix2 0 l) + (adds D t.val k l : EReal) := by
  cases k with
  | q p =>
    exact more_at (d := fun r j => D.dq (tileSeq t.val) (tileFrame t.val r) j * (1 / 8)) (x := fun r => D.zq (tileSeq t.val) (tileFrame t.val r)) (rzq H t p)
      (sideQ_at (dx := fun r => D.dq (tileSeq t.val) (tileFrame t.val r)) (rdq H t (lo p)) (rdq H t (hi p))) w l
  | k p =>
    exact more_at (d := fun r => D.dk (tileSeq t.val) (tileFrame t.val r)) (x := fun r => D.zk (tileSeq t.val) (tileFrame t.val r)) (rzk H t p)
      (sideK_at (dx := fun r => D.dk (tileSeq t.val) (tileFrame t.val r)) (rdk H t (lo p)) (rdk H t (hi p))) w l
  | f =>
    exact (pay4_at (sum_tile H t (carried_at H t.val t.isLt)) (rzf H t) (rbf H t) w l).trans
      (congrArg (fun x : ℝ => w (ix2 0 l) + (x : EReal)) (Finset.sum_congr rfl fun r _ => forget H t r l))

theorem small_A (h : t.val % 16 = 0) (y : S24x1024.Idx) : (outsAt0 m c t.val t.isLt).2.2.2.2.1 y = (0 : EReal) + (added (adds D t.val) parts (y 0) (y 1) : EReal) := by
  obtain ⟨a, b, rfl⟩ : ∃ (a : Fin 24) (b : Fin 1024), y = ix2 a b := ⟨y 0, y 1, by funext i; fin_cases i <;> rfl⟩
  rw [outS_A t h (by omega)]
  refine (built_at (next_at H t) _ _ parts a b).trans (congrArg (· + _) ?_)
  refine (Cert.Tiles.canon_box (R := 24) (C := 1024) (W := 24) (V := 1024) (o := 0) (p := 0) _ _ [] a b).trans ((dif_pos (by omega)).trans ?_)
  pointwise [k0_pay5]

theorem small_step (h : ¬ t.val % 16 = 0) (y : S24x1024.Idx) : (outsAt0 m c t.val t.isLt).2.2.2.2.1 y
    = ((outsAt0 m c (t.val - 1) (before_lt t)).2.2.2.2.1 y : EReal) + (added (adds D t.val) parts (y 0) (y 1) : EReal) := by
  obtain ⟨a, b, rfl⟩ : ∃ (a : Fin 24) (b : Fin 1024), y = ix2 a b := ⟨y 0, y 1, by funext i; fin_cases i <;> rfl⟩
  by_cases h1 : t.val % 8 = 0
  · rw [outS_C t h h1]
    exact laid_at (next_at H t) _ _ _ (fun a b => congrFun (Memref.IsWhole.read_unread _ _) _) parts (by decide) a b
  · rw [outS_B t h h1]
    exact laid_at (next_at H t) _ _ _ (fun a b => congrFun (Memref.IsWhole.read_unread _ _) _) parts (by decide) a b

end

theorem sum_adds (a : Fin 24) (j : Fin 1024) : ∑ t : Fin cfg0.N, added (adds D t.val) parts a j = D.small a j := by
  have hj (p : Fin 8) (l : Fin 128) (hp : p.val = j.val / 128) (hl : l.val = j.val % 128) : col p l = j := Fin.ext (by show 128 * p.val + l.val = j.val; omega)
  simp only [added_parts, Data.small]
  split_ifs with h0 h8 h16 h16' h16'
  · refine Eq.trans ?_ (sum_tiles fun b s => D.scaleQ b s j)
    refine Finset.sum_congr rfl fun t _ => Finset.sum_congr rfl fun r _ => ?_
    rw [hj _ _ rfl rfl]
  · refine Eq.trans ?_ (sum_tiles fun b s => D.scaleK b s j)
    refine Finset.sum_congr rfl fun t _ => Finset.sum_congr rfl fun r _ => ?_
    rw [hj _ _ rfl rfl]
  · refine Eq.trans ?_ (sum_tiles fun b s => D.f b s ⟨j.val, h16'.2⟩)
    refine Finset.sum_congr rfl fun t _ => Finset.sum_congr rfl fun r _ => ?_
    rw [inLane, dif_pos (show j.val % 128 < 16 by omega)]
    exact congrArg _ (Fin.ext (Nat.mod_eq_of_lt h16.2))
  · refine Finset.sum_eq_zero fun t _ => Finset.sum_eq_zero fun r _ => ?_
    rw [inLane, dif_neg (show ¬ j.val % 128 < 16 by omega)]
  · exfalso; omega
  · exact Finset.sum_const_zero

/-- The sequence and the frame of a row of the results. -/
def sq (n : Fin 4096) : Fin 2 := ⟨n.val / 2048, by omega⟩
def fr (n : Fin 4096) : Fin 2048 := ⟨n.val % 2048, by omega⟩

def tok (r : Fin 256) : Fin 4096 := ⟨(t.val / 8 * 8 + 7 - t.val % 8) * 256 + r.val, by have := lt_of_lt_of_eq t.isLt N_0; omega⟩
theorem sq_tok (r : Fin 256) : sq (tok t r) = tileSeq t.val := Fin.ext (by
  have := lt_of_lt_of_eq t.isLt N_0; show ((t.val / 8 * 8 + 7 - t.val % 8) * 256 + r.val) / 2048 = t.val / 8 % 2; omega)
theorem fr_tok (r : Fin 256) : fr (tok t r) = tileFrame t.val r := Fin.ext (by
  have := lt_of_lt_of_eq t.isLt N_0; show ((t.val / 8 * 8 + 7 - t.val % 8) * 256 + r.val) % 2048 = (7 - t.val % 8) * 256 + r.val; omega)

theorem emb9 (r : Fin 256) (j : Fin 1024) : (win0_9.blk t).view.emb (ix2 r j) = (ix2 (tok t r) j : S4096x1024.Idx) := by blk_ext [idx t, tok]
theorem emb10 (r : Fin 256) (j : Fin 1024) : (win0_10.blk t).view.emb (ix2 r j) = (ix2 (tok t r) j : S4096x1024.Idx) := by blk_ext [idx t, tok]
theorem emb11 (r : Fin 256) (j : Fin 1024) : (win0_11.blk t).view.emb (ix2 r j) = (ix2 (tok t r) j : S4096x1024.Idx) := by blk_ext [idx t, tok]
theorem emb12 (r : Fin 256) (l : Fin 128) : (win0_12.blk t).view.emb (ix2 r l) = (ix2 (tok t r) l : S4096x128.Idx) := by blk_ext [idx t, tok]

def last : Fin cfg0.N := ⟨15, lt_of_lt_of_eq (by decide : 15 < 16) N_0.symm⟩

/-- The values' columns are the lanes of the heads. -/
theorem outV_at (r : Fin 256) (j : Fin 1024) : (outsAt0 m c t.val t.isLt).2.2.1 (ix2 r j)
    = m ((c : Thread nD τ).loc main_arg6) (ix4 (tileSeq t.val) (head j) (tileFrame t.val r) (⟨(place j).val, by omega⟩ : Fin 128)) := by
  rw [outV]
  refine canon8 (fun p => sideV (headOf (iblk m c 2 t) (lo p)) (headOf (iblk m c 2 t) (hi p))) (fun r j => m ((c : Thread nD τ).loc main_arg6) (ix4 (tileSeq t.val) (head j) (tileFrame t.val r) (⟨(place j).val, by omega⟩ : Fin 128))) (fun p r l => ?_) r j
  have e (h : Fin 16) (k : Fin 128) (hh : h = head (col p l)) (hk : k.val = (place (col p l)).val) : headOf (iblk m c 2 t) h (ix4 0 0 r k)
      = m ((c : Thread nD τ).loc main_arg6) (ix4 (tileSeq t.val) (head (col p l)) (tileFrame t.val r) (⟨(place (col p l)).val, by omega⟩ : Fin 128)) :=
    ((headOf_at _ h r k).trans ((block_dv m c t h r k).trans (by rw [seq_eq]; rfl))).trans
      (congrArg₂ (fun h k => m ((c : Thread nD τ).loc main_arg6) (ix4 (tileSeq t.val) h (tileFrame t.val r) k)) hh (Fin.ext hk))
  refine (sideV_at _ _ r l).trans ?_
  split_ifs with hl
  · exact e _ _ (Fin.ext (by show 2 * p.val = (128 * p.val + l.val) / 64; omega)) (by show l.val = (128 * p.val + l.val) % 64; omega)
  · exact e _ _ (Fin.ext (by show 2 * p.val + 1 = (128 * p.val + l.val) / 64; omega)) (by show (l.val + 64) % 128 = (128 * p.val + l.val) % 64; omega)

theorem final11 : (dats m 0 c).arrAt 11 cfg0.N = (fun y : S4096x1024.Idx =>
    m ((c : Thread nD τ).loc main_arg6) (ix4 (sq (y 0)) (head (y 1)) (fr (y 0)) (⟨(place (y 1)).val, by omega⟩ : Fin 128))) := by
  refine (dats m 0 c).arrAt_eq_of_covers 11 _ (by decide +kernel) fun t hf y => ?_
  rw [after0_11]
  obtain ⟨r, j, rfl⟩ : ∃ (r : Fin 256) (j : Fin 1024), y = ix2 r j := ⟨y 0, y 1, by funext i; fin_cases i <;> rfl⟩
  refine (outV_at t r j).trans (Eq.trans ?_ (congrArg (fun y : S4096x1024.Idx =>
    m ((c : Thread nD τ).loc main_arg6) (ix4 (sq (y 0)) (head (y 1)) (fr (y 0)) (⟨(place (y 1)).val, by omega⟩ : Fin 128))) (emb11 t r j)).symm)
  show _ = m ((c : Thread nD τ).loc main_arg6) (ix4 (sq (tok t r)) (head j) (fr (tok t r)) (⟨(place j).val, _⟩ : Fin 128))
  rw [sq_tok, fr_tok]

include H

/-- The five results. -/
theorem final9 : (dats m 0 c).arrAt 9 cfg0.N = (fun y : S4096x1024.Idx => (D.q (sq (y 0)) (fr (y 0)) (y 1) : EReal)) := by
  refine (dats m 0 c).arrAt_eq_of_covers 9 _ (by decide +kernel) fun t hf y => ?_
  rw [after0_9]
  obtain ⟨r, j, rfl⟩ : ∃ (r : Fin 256) (j : Fin 1024), y = ix2 r j := ⟨y 0, y 1, by funext i; fin_cases i <;> rfl⟩
  refine (outQ_at H t r j).trans (Eq.trans ?_ (congrArg (fun y : S4096x1024.Idx => (D.q (sq (y 0)) (fr (y 0)) (y 1) : EReal)) (emb9 t r j)).symm)
  show _ = (D.q (sq (tok t r)) (fr (tok t r)) j : EReal)
  rw [sq_tok, fr_tok]
theorem final10 : (dats m 0 c).arrAt 10 cfg0.N = (fun y : S4096x1024.Idx => (D.k (sq (y 0)) (fr (y 0)) (y 1) : EReal)) := by
  refine (dats m 0 c).arrAt_eq_of_covers 10 _ (by decide +kernel) fun t hf y => ?_
  rw [after0_10]
  obtain ⟨r, j, rfl⟩ : ∃ (r : Fin 256) (j : Fin 1024), y = ix2 r j := ⟨y 0, y 1, by funext i; fin_cases i <;> rfl⟩
  refine (outK_at H t r j).trans (Eq.trans ?_ (congrArg (fun y : S4096x1024.Idx => (D.k (sq (y 0)) (fr (y 0)) (y 1) : EReal)) (emb10 t r j)).symm)
  show _ = (D.k (sq (tok t r)) (fr (tok t r)) j : EReal)
  rw [sq_tok, fr_tok]
theorem final12 : (dats m 0 c).arrAt 12 cfg0.N = (fun y : S4096x128.Idx => (inLane (D.f (sq (y 0)) (fr (y 0))) (y 1) : EReal)) := by
  refine (dats m 0 c).arrAt_eq_of_covers 12 _ (by decide +kernel) fun t hf y => ?_
  rw [after0_12]
  obtain ⟨r, j, rfl⟩ : ∃ (r : Fin 256) (j : Fin 128), y = ix2 r j := ⟨y 0, y 1, by funext i; fin_cases i <;> rfl⟩
  refine (outF_at H t r j).trans (Eq.trans ?_ (congrArg (fun y : S4096x128.Idx => (inLane (D.f (sq (y 0)) (fr (y 0))) (y 1) : EReal)) (emb12 t r j)).symm)
  show _ = (inLane (D.f (sq (tok t r)) (fr (tok t r))) j : EReal)
  rw [sq_tok, fr_tok]
theorem final13 : (dats m 0 c).arrAt 13 cfg0.N = (fun y : S24x1024.Idx => (D.small (y 0) (y 1) : EReal)) := by
  refine (dats m 0 c).arrAt_eq_of_after_last 13 last (by decide +kernel) _ fun y => ?_
  rw [after0_13]
  refine (Pipeline.eq_sum_fin_of_reset_step_apply_last (fun n h => (outsAt0 m c n h).2.2.2.2.1) 16 (fun _ => 0) (fun t y => (added (adds D t.val) parts (y 0) (y 1) : EReal))
    (small_A H) (small_step H) (le_of_eq N_0) last rfl y).trans ?_
  rw [zero_add, ← coe_sum]
  exact congrArg _ (sum_adds _ _)

end Cert.Kernel6Ideal.AttnPost

end
-- ==== Proof.AttnPost.Window.lean ====
/- Running sums on the host, and sums over the tokens of every head. -/
module

public import proofs.«01_k».proof.Proof.Reals
public import proofs.«01_k».proof.Proof.AttnPost.Math

@[expose] public section

set_option maxRecDepth 16384

noncomputable section

namespace Cert.AttnPost

open Idealize.ShloMosaic

theorem foldl_add {α : Type} (g : α → EReal) (l : List α) (r : EReal) : l.foldl (fun r n => r + g n) r = r + (l.map g).sum := by
  induction l generalizing r with
  | nil => simp
  | cons a l ih => rw [List.foldl_cons, ih, List.map_cons, List.sum_cons, add_assoc]

/-- A sum over the positions that follow one. -/
theorem sum_after {S : ℕ} (f : Fin S → EReal) (s : Fin S) :
    ∑ k : Fin S, (if h : s.val + k.val < S then f ⟨s.val + k.val, h⟩ else 0) = ∑ i : Fin S, if s.val ≤ i.val then f i else 0 := by
  let G : ℕ → EReal := fun n => if h : n < S then f ⟨n, h⟩ else 0
  have e1 : ∑ k : Fin S, (if h : s.val + k.val < S then f ⟨s.val + k.val, h⟩ else 0) = ∑ k ∈ Finset.range S, G (s.val + k) :=
    Fin.sum_univ_eq_sum_range (fun k => G (s.val + k)) S
  have e2 : ∑ i : Fin S, (if s.val ≤ i.val then f i else 0) = ∑ i ∈ Finset.range S, if s.val ≤ i then G i else 0 := by
    rw [← Fin.sum_univ_eq_sum_range (fun i => if s.val ≤ i then G i else 0) S]
    refine Finset.sum_congr rfl fun i _ => ?_
    show _ = if s.val ≤ i.val then (if h : i.val < S then f ⟨i.val, h⟩ else 0) else 0
    rw [dif_pos i.isLt]
  have e3 : (Finset.range S).filter (fun i => s.val ≤ i) = Finset.Ico s.val S := by
    ext i
    simp only [Finset.mem_filter, Finset.mem_range, Finset.mem_Ico]
    omega
  rw [e1, e2, ← Finset.sum_filter, e3, Finset.sum_Ico_eq_sum_range]
  refine (Finset.sum_subset (Finset.range_mono (Nat.sub_le _ _)) fun k _ hk => dif_neg ?_).symm
  rw [Finset.mem_range] at hk
  omega

/-- The only positions of a window along the middle axis. -/
def middle {S : ℕ} : (⟨3, ![1, S, 1]⟩ : Shape).Idx ≃ Fin S where
  toFun w := w 1
  invFun k := ix3 0 k 0
  left_inv w := by
    funext a
    match a with
    | ⟨0, _⟩ => exact Fin.ext (by have : (w 0).val < 1 := (w 0).isLt; show 0 = (w 0).val; omega)
    | ⟨1, _⟩ => rfl
    | ⟨2, _⟩ => exact Fin.ext (by have : (w 2).val < 1 := (w 2).isLt; show 0 = (w 2).val; omega)
  right_inv k := rfl

/-- The running sum of the host from the last token back. -/
theorem window_sum {B S H P : ℕ} (x : (⟨3, ![B, S, H]⟩ : Shape).Idx → EReal)
    (h : (⟨3, ![B, S, H]⟩ : Shape).ReduceWindows ![1, S, 1] ![1, 1, 1] ![0, 0, 0] ![0, P, 0] (⟨3, ![B, S, H]⟩ : Shape)) (b : Fin B) (s : Fin S) (c : Fin H) :
    Ideal.hostReduceWindowAdd ![1, S, 1] ![1, 1, 1] ![0, 0, 0] ![0, P, 0] h x 0 (ix3 b s c) = ∑ i : Fin S, if s.val ≤ i.val then x (ix3 b i c) else 0 := by
  unfold Ideal.hostReduceWindowAdd Host.reduceWindow
  refine (foldl_add _ _ _).trans ?_
  rw [zero_add, ← Fin.sum_univ_def, ← sum_after (fun i => x (ix3 b i c)) s]
  refine Fintype.sum_equiv ((Shape.rowMajor (⟨3, ![1, S, 1]⟩ : Shape)).symm.trans middle) _ _ fun n => ?_
  have w0 : ((Shape.rowMajor (⟨3, ![1, S, 1]⟩ : Shape)).symm n 0).val = 0 := Nat.lt_one_iff.1 ((Shape.rowMajor (⟨3, ![1, S, 1]⟩ : Shape)).symm n 0).isLt
  have w2 : ((Shape.rowMajor (⟨3, ![1, S, 1]⟩ : Shape)).symm n 2).val = 0 := Nat.lt_one_iff.1 ((Shape.rowMajor (⟨3, ![1, S, 1]⟩ : Shape)).symm n 2).isLt
  show _ = if hs : s.val + ((Shape.rowMajor (⟨3, ![1, S, 1]⟩ : Shape)).symm n 1).val < S then x (ix3 b ⟨s.val + ((Shape.rowMajor (⟨3, ![1, S, 1]⟩ : Shape)).symm n 1).val, hs⟩ c) else 0
  split
  all_goals rename_i h1
  all_goals split_ifs with h2
  · refine congrArg x (funext fun a => Fin.ext ?_)
    match a with
    | ⟨0, _⟩ =>
      show b.val * 1 + ((Shape.rowMajor (⟨3, ![1, S, 1]⟩ : Shape)).symm n 0).val - 0 = b.val
      omega
    | ⟨1, _⟩ =>
      show s.val * 1 + ((Shape.rowMajor (⟨3, ![1, S, 1]⟩ : Shape)).symm n 1).val - 0 = s.val + ((Shape.rowMajor (⟨3, ![1, S, 1]⟩ : Shape)).symm n 1).val
      omega
    | ⟨2, _⟩ =>
      show c.val * 1 + ((Shape.rowMajor (⟨3, ![1, S, 1]⟩ : Shape)).symm n 2).val - 0 = c.val
      omega
  · exfalso
    have := (h1 1).2
    change s.val * 1 + ((Shape.rowMajor (⟨3, ![1, S, 1]⟩ : Shape)).symm n 1).val - 0 < S at this
    omega
  · exfalso
    refine h1 fun a => ?_
    match a with
    | ⟨0, _⟩ =>
      show 0 ≤ b.val * 1 + ((Shape.rowMajor (⟨3, ![1, S, 1]⟩ : Shape)).symm n 0).val ∧ b.val * 1 + ((Shape.rowMajor (⟨3, ![1, S, 1]⟩ : Shape)).symm n 0).val - 0 < B
      omega
    | ⟨1, _⟩ =>
      show 0 ≤ s.val * 1 + ((Shape.rowMajor (⟨3, ![1, S, 1]⟩ : Shape)).symm n 1).val ∧ s.val * 1 + ((Shape.rowMajor (⟨3, ![1, S, 1]⟩ : Shape)).symm n 1).val - 0 < S
      omega
    | ⟨2, _⟩ =>
      show 0 ≤ c.val * 1 + ((Shape.rowMajor (⟨3, ![1, S, 1]⟩ : Shape)).symm n 2).val ∧ c.val * 1 + ((Shape.rowMajor (⟨3, ![1, S, 1]⟩ : Shape)).symm n 2).val - 0 < H
      omega
  · rfl

/-- A sum over the first two of four axes. -/
theorem reduceAdd_rows4 {n0 n1 n2 n3 : Nat} (h : (⟨4, ![n0, n1, n2, n3]⟩ : Shape).ReducesTo [0, 1] ⟨2, ![n2, n3]⟩)
    (v : (⟨4, ![n0, n1, n2, n3]⟩ : Shape).Idx → EReal) (init : EReal) (j : Fin n2) (e : Fin n3) :
    Ideal.hostReduceAdd h v init (ix2 j e) = init + ∑ a : Fin n0, ∑ b : Fin n1, v (ix4 a b j e) := by
  refine congrArg (init + ·) ((Finset.sum_filter_eq_sum_of_fiber _ (fun k : Fin n0 × Fin n1 => ix4 k.1 k.2 j e)
    (fun _ _ e => Prod.ext (congrFun e 0) (congrFun e 1)) (fun i => ?_) v).trans ?_)
  · constructor
    · intro e
      refine ⟨(i 0, i 1), ?_⟩
      funext a; apply Fin.ext
      match a with
      | ⟨0, _⟩ => rfl
      | ⟨1, _⟩ => rfl
      | ⟨2, _⟩ => exact (congrArg Fin.val (congrFun e 0)).symm
      | ⟨3, _⟩ => exact (congrArg Fin.val (congrFun e 1)).symm
    · rintro ⟨k, rfl⟩
      funext b
      apply Fin.ext
      match b with
      | ⟨0, _⟩ => rfl
      | ⟨1, _⟩ => rfl
  · simp only [Fintype.sum_prod_type]

end Cert.AttnPost

end
-- ==== Proof.AttnPost.Reference.lean ====
/- What the reference of the step after the attention computes. -/
module

public import proofs.«01_k».proof.Proof.AttnPost.Sums
public import proofs.«01_k».proof.Proof.AttnPost.Window
public import proofs.«01_k».proof.Proof.Gen.Reference6Ideal.Read

@[expose] public section

set_option maxRecDepth 16384

noncomputable section

namespace Cert.Reference6Ideal.AttnPost

open Idealize.ShloMosaic Idealize.ShloMosaic.TcCoe
open Cert.Reals Cert.AttnGate Cert.AttnPost
open Cert.Reference6Ideal Cert.Reference6Ideal.Gen Cert.Reference6Ideal.Read

theorem ofBits_64 : (Ideal.ofBits .f32 0x42800000#32 : EReal) = ((64 : ℝ) : EReal) := by
  simp [Ideal.ofBits, Ideal.ieee, -EReal.coe_mul]; norm_num
theorem ofBits_eighth : (Ideal.ofBits .f32 0x3E000000#32 : EReal) = ((1 / 8 : ℝ) : EReal) := by
  simp [Ideal.ofBits, Ideal.ieee, -EReal.coe_mul]; norm_num

section norm

variable {F : FTy → Type} [FloatOps F] (X : FVec F S2x2048x16x64 .f32) (G : FVec F S1x1x16x64 .f32) (D : FVec F S2x2048x16x64 .f32)

/-- The gradient of a norm over the heads, the same for the queries and for the keys. -/
def msH : FVec F S2x2048x16x1 .f32 :=
  addf (Host.divf (broadcastInDim S2x2048x16x1 ![0, 1, 2] bcast_S2x2048x16_S2x2048x16x1_0_1_2 (Host.reduceAdd (mulf X X) (constant S_ .f32 0x00000000#32) reducesTo_S2x2048x16x64_S2x2048x16_d3 h_S_))
    (broadcastInDim S2x2048x16x1 ![] bcast_S_S2x2048x16x1 (constant S_ .f32 0x42800000#32))) (broadcastInDim S2x2048x16x1 ![] bcast_S_S2x2048x16x1 (constant S_ .f32 0x358637BD#32))
def rH : FVec F S2x2048x16x1 .f32 := Host.rsqrt (msH X)
def halfH : FVec F S2x2048x16x1 .f32 := mulf (broadcastInDim S2x2048x16x1 ![] bcast_S_S2x2048x16x1 (constant S_ .f32 0xBF000000#32)) (Host.divf (rH X) (msH X))
def dH : FVec F S2x2048x16x64 .f32 := mulf D (broadcastInDim S2x2048x16x64 ![0, 1, 2, 3] bcast_S1x1x16x64_S2x2048x16x64_0_1_2_3 G)
def dotH : FVec F S2x2048x16 .f32 := Host.reduceAdd (mulf X (dH G D)) (constant S_ .f32 0x00000000#32) reducesTo_S2x2048x16x64_S2x2048x16_d3 h_S_
def sumH : FVec F S2x2048x16 .f32 :=
  Host.reduceAdd (Host.divf (mulf (shapeCast _ (dotH X G D) shapeCasts_S2x2048x16_S2x2048x16x1) (halfH X))
    (broadcastInDim S2x2048x16x1 ![] bcast_S_S2x2048x16x1 (constant S_ .f32 0x42800000#32))) (constant S_ .f32 0x00000000#32) reducesTo_S2x2048x16x1_S2x2048x16_d3 h_S_
def backN : FVec F S2x2048x16x64 .f32 :=
  addf (addf (mulf (dH G D) (broadcastInDim S2x2048x16x64 ![0, 1, 2, 3] bcast_S2x2048x16x1_S2x2048x16x64_0_1_2_3 (rH X)))
    (mulf X (broadcastInDim S2x2048x16x64 ![0, 1, 2] bcast_S2x2048x16_S2x2048x16x64_0_1_2 (sumH X G D))))
    (mulf (broadcastInDim S2x2048x16x64 ![0, 1, 2] bcast_S2x2048x16_S2x2048x16x64_0_1_2 (sumH X G D)) X)
def allG : FVec F S16x64 .f32 :=
  Host.reduceAdd (mulf (mulf X (broadcastInDim S2x2048x16x64 ![0, 1, 2, 3] bcast_S2x2048x16x1_S2x2048x16x64_0_1_2_3 (rH X))) D) (constant S_ .f32 0x00000000#32) reducesTo_S2x2048x16x64_S16x64_d0_1 h_S_
def backG : FVec F S16x64 .f32 :=
  Host.reduceAdd (shapeCast _ (allG X D) shapeCasts_S16x64_S1x1x16x64) (constant S_ .f32 0x00000000#32) reducesTo_S1x1x16x64_S16x64_d0_1 h_S_

end norm

section

variable {X : FVec Ideal S2x2048x16x64 .f32} {G : FVec Ideal S1x1x16x64 .f32} {D : FVec Ideal S2x2048x16x64 .f32} {x d : Fin 2 → Fin 2048 → Row} {g : Row}
  (hx : ∀ b s h e, X (ix4 b s h e) = (x b s (ch h e) : EReal)) (hg : ∀ h e, G (ix4 0 0 h e) = (g (ch h e) : EReal)) (hd : ∀ b s h e, D (ix4 b s h e) = (d b s (ch h e) : EReal))

theorem hsum_ch (f : Row) (h : Fin 16) (e : Fin 64) : hsum f (ch h e) = ∑ i, f (ch h i) := by rw [hsum, head_ch]

include hx

theorem msH_at (b : Fin 2) (s : Fin 2048) (h : Fin 16) (u : Fin 1) (e : Fin 64) : msH X (ix4 b s h u) = ((hsum (fun i => x b s i * x b s i) (ch h e) / 64 + eps : ℝ) : EReal) := by
  pointwise [msH]
  simp only [hx, ofBits_64, ofBits_eps, ← EReal.coe_mul, ← coe_sum, div_real (by norm_num : (64 : ℝ) ≠ 0), ← EReal.coe_add, hsum_ch]

theorem rH_at (b : Fin 2) (s : Fin 2048) (h : Fin 16) (u : Fin 1) (e : Fin 64) : rH X (ix4 b s h u) = (rs (x b s) (ch h e) : EReal) := by
  pointwise [rH]
  rw [msH_at hx b s h u e, div_eq_mul_one_div]
  exact rsqrt_real (ms_eps_pos _ _)

theorem halfH_at (b : Fin 2) (s : Fin 2048) (h : Fin 16) (u : Fin 1) (e : Fin 64) : halfH X (ix4 b s h u)
    = ((-(1 / 2) * (rs (x b s) (ch h e) / (hsum (fun i => x b s i * x b s i) (ch h e) / 64 + eps)) : ℝ) : EReal) := by
  have p := (ms_eps_pos (x b s) (ch h e)).ne'
  rw [← div_eq_mul_one_div] at p
  pointwise [halfH]
  rw [rH_at hx b s h u e, msH_at hx b s h u e, ofBits_neg_half, div_real p, ← EReal.coe_mul]

include hd

theorem backG_at (h : Fin 16) (e : Fin 64) : backG X D (ix2 h e) = ((∑ b, ∑ s, gscale (d b s) (x b s) (ch h e) : ℝ) : EReal) := by
  have k : allG X D (ix2 h e) = ((∑ b, ∑ s, gscale (d b s) (x b s) (ch h e) : ℝ) : EReal) := by
    refine (reduceAdd_rows4 _ _ _ h e).trans ?_
    pointwise
    simp only [hx, hd, rH_at hx _ _ h 0 e, ← EReal.coe_mul, ← coe_sum]
    refine congrArg _ (Finset.sum_congr rfl fun q _ => Finset.sum_congr rfl fun s _ => ?_)
    rw [gscale]
    ring
  refine (reduceAdd_rows4 _ _ _ h e).trans ?_
  pointwise
  rw [Fin.sum_univ_one, Fin.sum_univ_one, k]

include hg

omit hx in
theorem dH_at (b : Fin 2) (s : Fin 2048) (h : Fin 16) (e : Fin 64) : dH G D (ix4 b s h e) = ((d b s (ch h e) * g (ch h e) : ℝ) : EReal) := by
  pointwise [dH]
  rw [hg, hd, EReal.coe_mul]

theorem sumH_at (b : Fin 2) (s : Fin 2048) (h : Fin 16) (e : Fin 64) : sumH X G D (ix3 b s h)
    = ((hsum (fun i => x b s i * (d b s i * g i)) (ch h e) * (-(1 / 2) * (rs (x b s) (ch h e) / (hsum (fun i => x b s i * x b s i) (ch h e) / 64 + eps))) / 64 : ℝ) : EReal) := by
  have k : dotH X G D (ix3 b s h) = (hsum (fun i => x b s i * (d b s i * g i)) (ch h e) : EReal) := by
    pointwise [dotH]
    simp only [hx, dH_at hg hd, ← EReal.coe_mul, ← coe_sum, hsum_ch]
  pointwise [sumH]
  first | rw [Fin.sum_univ_one] | skip
  rw [k, halfH_at hx b s h 0 e, ofBits_64, ← EReal.coe_mul, div_real (by norm_num : (64 : ℝ) ≠ 0)]

theorem backN_at (b : Fin 2) (s : Fin 2048) (h : Fin 16) (e : Fin 64) : backN X G D (ix4 b s h e) = (gnorm (d b s) (x b s) g (ch h e) : EReal) := by
  pointwise [backN]
  rw [dH_at hg hd, rH_at hx b s h 0 e, hx, sumH_at hx hg hd b s h e]
  simp only [← EReal.coe_mul, ← EReal.coe_add]
  exact congrArg _ (gnorm_eq _ _ _ _)

end

/-- The argument arrays hold these real numbers. -/
structure Real (x0 : Vec Ideal S2x2048x7184 .f32) (x1 : Vec Ideal S1x16 .f32) (x2 x3 : Vec Ideal S1x16x64 .f32) (x4 x5 : Vec Ideal S2x16x2048x128 .f32) (D : Data) : Prop where
  zq : ∀ b s (j : Fin 1024), x0 (ix3 b s (⟨j.val, by omega⟩ : Fin 7184)) = (D.zq b s j : EReal)
  zk : ∀ b s (j : Fin 1024), x0 (ix3 b s (⟨1024 + j.val, by omega⟩ : Fin 7184)) = (D.zk b s j : EReal)
  zf : ∀ b s (h : Fin 16), x0 (ix3 b s (⟨3072 + h.val, by omega⟩ : Fin 7184)) = (D.zf b s h : EReal)
  bf : ∀ h : Fin 16, x1 (ix2 0 h) = (D.bf h : EReal)
  gq : ∀ h e, x2 (ix3 0 h e) = (D.gq (ch h e) : EReal)
  gk : ∀ h e, x3 (ix3 0 h e) = (D.gk (ch h e) : EReal)
  dq : ∀ b s h (e : Fin 64), x4 (ix4 b h s (⟨e.val, by omega⟩ : Fin 128)) = (D.dq b s (ch h e) : EReal)
  dk : ∀ b s h (e : Fin 64), x5 (ix4 b h s (⟨e.val, by omega⟩ : Fin 128)) = (D.dk b s (ch h e) : EReal)
  cq : ∀ b s h, x4 (ix4 b h s (64 : Fin 128)) = (D.cq b s h : EReal)
  ck : ∀ b s h, x5 (ix4 b h s (67 : Fin 128)) = (D.ck b s h : EReal)

variable {x0 : Vec Ideal S2x2048x7184 .f32} {x1 : Vec Ideal S1x16 .f32} {x2 x3 : Vec Ideal S1x16x64 .f32} {x4 x5 x6 : Vec Ideal S2x16x2048x128 .f32} {D : Data}
variable (H : Real x0 x1 x2 x3 x4 x5 D)

theorem v112_eq : val_main_v112 (F := Ideal) x0 x2 x4 = backN (val_main_v17 x0) (val_main_v32 x2) (val_main_v64 x4) := rfl
theorem v90_eq : val_main_v90 (F := Ideal) x0 x3 x5 = backN (val_main_v35 x0) (val_main_v50 x3) (val_main_v3 x5) := rfl
theorem v98_eq : val_main_v98 (F := Ideal) x0 x4 = backG (val_main_v17 x0) (val_main_v64 x4) := rfl
theorem v76_eq : val_main_v76 (F := Ideal) x0 x5 = backG (val_main_v35 x0) (val_main_v3 x5) := rfl

include H

theorem v17_at (b : Fin 2) (s : Fin 2048) (h : Fin 16) (e : Fin 64) : val_main_v17 (F := Ideal) x0 (ix4 b s h e) = (D.zq b s (ch h e) : EReal) := by
  rw [← H.zq]
  pointwise [val_main_v17, val_main_v13]
  rfl
theorem v35_at (b : Fin 2) (s : Fin 2048) (h : Fin 16) (e : Fin 64) : val_main_v35 (F := Ideal) x0 (ix4 b s h e) = (D.zk b s (ch h e) : EReal) := by
  rw [← H.zk]
  pointwise [val_main_v35, val_main_v14]
  rfl
theorem v32_at (h : Fin 16) (e : Fin 64) : val_main_v32 (F := Ideal) x2 (ix4 0 0 h e) = (D.gq (ch h e) : EReal) := by
  rw [← H.gq]
  pointwise [val_main_v32, val_main_v18]
theorem v50_at (h : Fin 16) (e : Fin 64) : val_main_v50 (F := Ideal) x3 (ix4 0 0 h e) = (D.gk (ch h e) : EReal) := by
  rw [← H.gk]
  pointwise [val_main_v50, val_main_v36]
theorem v64_at (b : Fin 2) (s : Fin 2048) (h : Fin 16) (e : Fin 64) : val_main_v64 (F := Ideal) x4 (ix4 b s h e) = ((D.dq b s (ch h e) * (1 / 8) : ℝ) : EReal) := by
  rw [EReal.coe_mul, ← H.dq, ← ofBits_eighth]
  pointwise [val_main_v64, val_main_v63, val_main_cst_8, val_main_v1, val_main_v0]
theorem v3_at (b : Fin 2) (s : Fin 2048) (h : Fin 16) (e : Fin 64) : val_main_v3 (F := Ideal) x5 (ix4 b s h e) = (D.dk b s (ch h e) : EReal) := by
  rw [← H.dk]
  pointwise [val_main_v3, val_main_v2]

/-- The rows of the results' columns. -/
theorem v117_at (n : Fin 4096) (j : Fin 1024) : val_main_v117 (F := Ideal) x0 x2 x4 (ix2 n j) = (D.q ⟨n.val / 2048, by omega⟩ ⟨n.val % 2048, by omega⟩ j : EReal) := by
  have k := backN_at (d := fun b s j => D.dq b s j * (1 / 8)) (v17_at H) (v32_at H) (v64_at H) ⟨n.val / 2048, by omega⟩ ⟨n.val % 2048, by omega⟩ (head j) (place j)
  rw [← v112_eq, ch_head] at k
  refine Eq.trans ?_ k
  pointwise [val_main_v117, val_main_v116, val_main_v114]
  rfl
theorem v119_at (n : Fin 4096) (j : Fin 1024) : val_main_v119 (F := Ideal) x0 x3 x5 (ix2 n j) = (D.k ⟨n.val / 2048, by omega⟩ ⟨n.val % 2048, by omega⟩ j : EReal) := by
  have k := backN_at (v35_at H) (v50_at H) (v3_at H) ⟨n.val / 2048, by omega⟩ ⟨n.val % 2048, by omega⟩ (head j) (place j)
  rw [← v90_eq, ch_head] at k
  refine Eq.trans ?_ k
  pointwise [val_main_v119, val_main_v118, val_main_v92]
  rfl

omit H in
theorem v121_at (n : Fin 4096) (j : Fin 1024) : val_main_v121 (F := Ideal) x6 (ix2 n j)
    = x6 (ix4 (⟨n.val / 2048, by omega⟩ : Fin 2) (head j) (⟨n.val % 2048, by omega⟩ : Fin 2048) (⟨(place j).val, by omega⟩ : Fin 128)) := by
  pointwise [val_main_v121, val_main_v120, val_main_v70, val_main_v5, val_main_v4]
  rfl

/-- The forget gate. -/
theorem v12_at (b : Fin 2) (s : Fin 2048) (h : Fin 16) : val_main_v12 (F := Ideal) x4 x5 (ix3 b s h) = ((D.cq b s h - D.ck b s h : ℝ) : EReal) := by
  rw [EReal.coe_sub, ← H.cq, ← H.ck]
  pointwise [val_main_v12, val_main_v11, val_main_v10, val_main_v9, val_main_v8, val_main_v7, val_main_v6]

theorem v62_at (b : Fin 2) (s : Fin 2048) (h : Fin 16) : val_main_v62 (F := Ideal) x4 x5 (ix3 b s h) = (D.sums b s.val h : EReal) := by
  have z : val_main_call2_call0_v0 (F := Ideal) (Shape.Idx.first h_S_) = (0 : EReal) := by
    rw [Subsingleton.elim (Shape.Idx.first h_S_) ix0]
    pointwise [val_main_call2_call0_v0, val_main_call2_call0_cst]
  have e : val_main_v62 (F := Ideal) x4 x5 (ix3 b s h) = Ideal.hostReduceWindowAdd ![1, 2048, 1] ![1, 1, 1] ![0, 0, 0] ![0, 2047, 0]
      reduceWindows_S2x2048x16_S2x2048x16_w1s1p0_0_w2048s1p0_2047_w1s1p0_0 (val_main_v12 x4 x5) (val_main_call2_call0_v0 (F := Ideal) (Shape.Idx.first h_S_)) (ix3 b s h) := by
    unfold val_main_v62 Host.reduceWindowAdd
    with_reducible_and_instances rfl
  rw [e, z]
  refine (window_sum _ _ b s h).trans ?_
  simp only [v12_at H]
  rw [Data.sums, sumOn, coe_sum]
  refine Finset.sum_congr rfl fun i _ => ?_
  split_ifs
  · rfl
  · exact EReal.coe_zero.symm

theorem u_at (b : Fin 2) (s : Fin 2048) (h : Fin 16) : val_main_call0_v0 (F := Ideal) x0 x1 (ix3 b s h) = ((-(D.zf b s h + D.bf h) : ℝ) : EReal) := by
  pointwise [val_main_call0_v0, val_main_v57, val_main_v56, val_main_v55, val_main_v54, val_main_v16]
  rw [H.zf, H.bf, ← EReal.coe_add, ← EReal.coe_neg]

omit H in
theorem soft (a : ℝ) : max (a : EReal) 0 + Ideal.log1p (Ideal.exp (-FloatOps.absf (F := Ideal) (φ := .f32) (a : EReal))) = ((max a 0 + Real.log (1 + Real.exp (-|a|)) : ℝ) : EReal) := by
  have p : (0 : ℝ) < 1 + Real.exp (-|a|) := by positivity
  have mx (a b : ℝ) : max (a : EReal) b = ((max a b : ℝ) : EReal) := (EReal.coe_strictMono.monotone.map_max).symm
  have e : -FloatOps.absf (F := Ideal) (φ := .f32) (a : EReal) = ((-|a| : ℝ) : EReal) := by
    show -(max (a : EReal) (-(a : EReal))) = _
    rw [← EReal.coe_neg, mx, ← EReal.coe_neg]
    rfl
  rw [e, Ideal.exp_coe, Ideal.log1p, ← EReal.coe_one, ← EReal.coe_add, Ideal.log_coe, if_neg (not_le.2 p), ← EReal.coe_zero, mx, ← EReal.coe_add]

theorem v58_at (b : Fin 2) (s : Fin 2048) (h : Fin 16) : val_main_v58_1 (F := Ideal) x0 x1 (ix3 b s h) = (sg (-(D.zf b s h + D.bf h)) : EReal) := by
  pointwise [val_main_v58_1, val_main_call0_call0_v21, val_main_call0_call0_v20, val_main_call0_call0_v19, val_main_call0_call0_cst_3, val_main_call0_call0_v18, val_main_call0_call0_v17, val_main_call0_call0_cst_2,
    val_main_call0_call0_v16, val_main_call0_call0_v15, val_main_call0_call0_cst_1, val_main_call0_call0_v14, val_main_call0_call0_v13, val_main_call0_call0_cst_0, val_main_call0_v1_0, val_main_call0_call0_v11,
    val_main_call0_call0_v10, val_main_call0_call0_v9, val_main_call0_call0_v8, val_main_call0_call0_v7, val_main_call0_call0_v6, val_main_call0_call0_v5, val_main_call0_call0_v4, val_main_call0_call0_v3, val_main_call0_call0_v2,
    val_main_call0_call0_v1, val_main_call0_call0_v0, val_main_call0_call0_cst]
  simp only [u_at H, ofBits_inf]
  generalize -(D.zf b s h + D.bf h) = a
  rw [if_neg (EReal.coe_ne_top a), if_neg (fun k : (a : EReal) ≠ a => k rfl), soft, if_neg (EReal.coe_ne_top _), ← EReal.coe_sub, Ideal.exp_coe, exp_sub_softplus]

theorem v65_at (b : Fin 2) (s : Fin 2048) (h : Fin 16) : val_main_v65 (F := Ideal) x0 x1 x4 x5 (ix3 b s h) = (D.f b s h : EReal) := by
  pointwise [val_main_v65, val_main_call3_v1, val_main_call3_v0]
  rw [v62_at H, v58_at H, Data.f, gforget, ← EReal.coe_neg, ← EReal.coe_mul, ← EReal.coe_neg, neg_mul, neg_neg]

theorem v69_at (h : Fin 16) : val_main_v69 (F := Ideal) x0 x1 x4 x5 (ix2 0 h) = ((∑ b, ∑ s, D.f b s h : ℝ) : EReal) := by
  have k : val_main_v66 (F := Ideal) x0 x1 x4 x5 (ix1 h) = ((∑ b, ∑ s, D.f b s h : ℝ) : EReal) := by
    refine (reduceAdd_rows _ _ _ h).trans ?_
    simp only [v65_at H, ← coe_sum]
    pointwise [val_main_cst_9]
  have k' : val_main_v68 (F := Ideal) x0 x1 x4 x5 (ix1 h) = ((∑ b, ∑ s, D.f b s h : ℝ) : EReal) := by
    refine (reduceAdd_rows _ _ _ h).trans ?_
    rw [Fin.sum_univ_one, Fin.sum_univ_one, ← k]
    pointwise [val_main_v67, val_main_cst_10]
  rw [← k']
  pointwise [val_main_v69]

theorem v123_at (n : Fin 4096) (l : Fin 128) : val_main_v123 (F := Ideal) x0 x1 x4 x5 (ix2 n l)
    = (inLane (D.f ⟨n.val / 2048, by omega⟩ ⟨n.val % 2048, by omega⟩) l : EReal) := by
  pointwise [val_main_v123, val_main_v122, val_main_v115, val_main_call4_v0]
  have e : FloatOps.sitofp (F := Ideal) .f32 0#32 = (0 : EReal) := by simp [FloatOps.sitofp]
  unfold inLane
  by_cases hl : l.val < 16
  · rw [dif_pos ⟨by omega, by omega, hl⟩, dif_pos hl, v65_at H]
  · rw [dif_neg (fun k => hl k.2.2), dif_neg hl]
    exact e.trans EReal.coe_zero.symm

omit H in
theorem pick (a : Fin 24) (j : Fin 1024) {q k c1 c2 c3 : EReal} {f : Fin 1 → Fin 16 → EReal} {x y : ℝ} {w : Fin 16 → ℝ} (hq : q = x) (hk : k = y) (hf : ∀ h, f 0 h = w h)
    (z1 : c1 = ((0 : ℝ) : EReal)) (z2 : c2 = ((0 : ℝ) : EReal)) (z3 : c3 = ((0 : ℝ) : EReal)) :
    (if _ : a.val < 8 then if _ : a.val < 1 then q else c1
      else if _ : a.val - 8 < 8 then if _ : a.val - 8 < 1 then k else c2
      else if h : a.val - 8 - 8 < 1 ∧ j.val < 16 then f ⟨a.val - 8 - 8, h.1⟩ ⟨j.val, h.2⟩ else c3)
    = ((if a.val = 0 then x else if a.val = 8 then y else if h : a.val = 16 ∧ j.val < 16 then w ⟨j.val, h.2⟩ else 0 : ℝ) : EReal) := by
  by_cases h8 : a.val < 8
  · rw [dif_pos h8]
    by_cases h0 : a.val = 0
    · rw [dif_pos (show a.val < 1 by omega), if_pos h0]
      exact hq
    · rw [dif_neg (show ¬ a.val < 1 by omega), if_neg h0, if_neg (show ¬ a.val = 8 by omega), dif_neg (show ¬ (a.val = 16 ∧ j.val < 16) by omega)]
      exact z1
  rw [dif_neg h8, if_neg (show ¬ a.val = 0 by omega)]
  by_cases h16 : a.val - 8 < 8
  · rw [dif_pos h16]
    by_cases h0 : a.val = 8
    · rw [dif_pos (show a.val - 8 < 1 by omega), if_pos h0]
      exact hk
    · rw [dif_neg (show ¬ a.val - 8 < 1 by omega), if_neg h0, dif_neg (show ¬ (a.val = 16 ∧ j.val < 16) by omega)]
      exact z2
  rw [dif_neg h16, if_neg (show ¬ a.val = 8 by omega)]
  by_cases h0 : a.val = 16 ∧ j.val < 16
  · have h0' : a.val - 8 - 8 < 1 ∧ j.val < 16 := by omega
    have u : (⟨a.val - 8 - 8, h0'.1⟩ : Fin 1) = 0 := Subsingleton.elim _ _
    rw [dif_pos h0', dif_pos h0, u, hf]
  · rw [dif_neg (show ¬ (a.val - 8 - 8 < 1 ∧ j.val < 16) by omega), dif_neg h0]
    exact z3

theorem v129_at (a : Fin 24) (j : Fin 1024) : val_main_v129 (F := Ideal) x0 x1 x4 x5 (ix2 a j) = (D.small a j : EReal) := by
  pointwise [val_main_v129, val_main_v128, val_main_v127, val_main_v126, val_main_v125, val_main_v124, val_main_call5_v0, val_main_call6_v0, val_main_call7_v0, val_main_v113, val_main_v91]
  have e : FloatOps.sitofp (F := Ideal) .f32 0#32 = (0 : EReal) := by simp [FloatOps.sitofp]
  have q := backG_at (d := fun b s j => D.dq b s j * (1 / 8)) (v17_at H) (v64_at H) (head j) (place j)
  have k := backG_at (v35_at H) (v3_at H) (head j) (place j)
  rw [ch_head] at q k
  rw [← v98_eq] at q
  rw [← v76_eq] at k
  have z := e.trans EReal.coe_zero.symm
  exact pick a j (f := fun i h => val_main_v69 (F := Ideal) x0 x1 x4 x5 (ix2 i h)) q k (fun h => v69_at H h) z z z

end Cert.Reference6Ideal.AttnPost

end
-- ==== Proof.AttnPost.Claim.lean ====
/- The claim of the step after the attention. -/
module

public import proofs.«01_k».proof.Proof.AttnPost.Kernel
public import proofs.«01_k».proof.Proof.AttnPost.Reference
public import proofs.«01_k».proof.Defs
public import proofs.«01_k».proof.Proof.Gen.Kernel6Ideal.Value
public import proofs.«01_k».proof.Proof.Gen.Reference6Ideal.Run
public import proofs.«01_k».proof.Proof.Gen.Kernel6Ideal.Launch
public import proofs.«01_k».proof.Proof.Gen.Pre_heads_finite

@[expose] public section

set_option maxRecDepth 16384

noncomputable section

namespace Cert.AttnPost

open Idealize.ShloMosaic Idealize.ShloMosaic.TcCoe Idealize.SL.Sem
open Cert.Reals Cert.AttnGate

/-- Finite arguments are arrays of real numbers. -/
theorem real_of_pre (m : (ℓ : Loc Kernel6Ideal.nD Kernel6Ideal.τ Kernel6Ideal.sig) → Buf (Elt Ideal) ℓ)
    (h : Pre_Kernel6Ideal_heads_finite (hPre_heads_finite := Pre_heads_finite.Gen.facts) m) (c : Dev Kernel6Ideal.nD) : ∃ D : Data, Kernel6Ideal.AttnPost.Real m c D := by
  have h0 := congrFun (h c) ix0
  unfold Pre_heads_finite.fn Pre_heads_finite.fn_part1 Pre_heads_finite.fn_part2 at h0
  obtain ⟨h0, h7⟩ := andi_one h0
  obtain ⟨h0, h6⟩ := andi_one h0
  obtain ⟨h0, h5⟩ := andi_one h0
  obtain ⟨h0, h4⟩ := andi_one h0
  obtain ⟨h0, h3⟩ := andi_one h0
  obtain ⟨h0, h2⟩ := andi_one h0
  obtain ⟨h0, h1⟩ := andi_one h0
  obtain ⟨r0, e0⟩ := real_of_all _ _ _ _ _ _ h0
  obtain ⟨r1, e1⟩ := real_of_all _ _ _ _ _ _ h1
  obtain ⟨r2, e2⟩ := real_of_all _ _ _ _ _ _ h2
  obtain ⟨r3, e3⟩ := real_of_all _ _ _ _ _ _ h3
  obtain ⟨r4, e4⟩ := real_of_all _ _ _ _ _ _ h4
  obtain ⟨r5, e5⟩ := real_of_all _ _ _ _ _ _ h5
  obtain ⟨r6, e6⟩ := real_of_all _ _ _ _ _ _ h6
  obtain ⟨r7, e7⟩ := real_of_all _ _ _ _ _ _ h7
  clear * - e0 e1 e2 e3 e4 e5 e6 e7
  refine ⟨{
    zq := fun b s j => r0 (ix3 b s ⟨j.val, by omega⟩), zk := fun b s j => r0 (ix3 b s ⟨1024 + j.val, by omega⟩)
    zf := fun b s h => r1 (ix3 b s h), bf := fun h => r2 (ix2 0 h), gq := fun j => r3 (ix3 0 (head j) (place j)), gk := fun j => r4 (ix3 0 (head j) (place j))
    dq := fun b s j => r5 (ix4 b (head j) s ⟨(place j).val, by omega⟩), dk := fun b s j => r6 (ix4 b (head j) s (place j))
    cq := fun b s h => r5 (ix4 b h s 64), ck := fun b s h => r7 (ix4 b h s 0) }, ?_, ?_, ?_, ?_, ?_, ?_, ?_, ?_, ?_, ?_⟩
  all_goals (intros; dsimp only)
  · rw [← e0]
    pointwise
  · rw [← e0]
    pointwise
  · rw [← e1]
    pointwise
  · exact e2 _
  · rw [head_ch, place_ch]
    exact e3 _
  · rw [head_ch, place_ch]
    exact e4 _
  · simp only [head_ch, place_ch]
    rw [← e5]
    pointwise
  · rw [head_ch, place_ch, ← e6]
    pointwise
  · rw [← e5]
    pointwise
  · rw [← e7]
    pointwise

theorem algebraic : algebraic_Kernel6Ideal_Reference6Ideal_pre_heads_finite (hKernel6Ideal := Kernel6Ideal.Gen.facts) (hReference6Ideal := Reference6Ideal.Gen.facts)
    (hPre_heads_finite := Pre_heads_finite.Gen.facts) := by
  intro m g m' g' hpre hargs
  refine ⟨fun c => (Kernel6Ideal.Gen.dats m 0 c).arrAt 9 Kernel6Ideal.cfg0.N, fun c => (Kernel6Ideal.Gen.dats m 0 c).arrAt 10 Kernel6Ideal.cfg0.N,
    fun c => (Kernel6Ideal.Gen.dats m 0 c).arrAt 11 Kernel6Ideal.cfg0.N, fun c => (Kernel6Ideal.Gen.dats m 0 c).arrAt 12 Kernel6Ideal.cfg0.N,
    fun c => (Kernel6Ideal.Gen.dats m 0 c).arrAt 13 Kernel6Ideal.cfg0.N,
    Kernel6Ideal.Value.run_blocks m g, (θ_run Reference6Ideal.defs _ _).mono (fun r h c => ?_) (Reference6Ideal.Value.run m' g')⟩
  obtain ⟨D, H⟩ := real_of_pre m hpre c
  obtain ⟨a0, a1, a2, a3, a4, a5, a6⟩ := hargs c
  have R : Reference6Ideal.AttnPost.Real (m' ((c.tc : Thread Reference6Ideal.nD Reference6Ideal.τ).loc Reference6Ideal.main_arg0))
      (m' ((c.tc : Thread Reference6Ideal.nD Reference6Ideal.τ).loc Reference6Ideal.main_arg1)) (m' ((c.tc : Thread Reference6Ideal.nD Reference6Ideal.τ).loc Reference6Ideal.main_arg2))
      (m' ((c.tc : Thread Reference6Ideal.nD Reference6Ideal.τ).loc Reference6Ideal.main_arg3)) (m' ((c.tc : Thread Reference6Ideal.nD Reference6Ideal.τ).loc Reference6Ideal.main_arg4))
      (m' ((c.tc : Thread Reference6Ideal.nD Reference6Ideal.τ).loc Reference6Ideal.main_arg5)) D := by
    rw [a0, a1, a2, a3, a4, a5]
    exact ⟨H.zq, H.zk, H.zf, H.bf, H.gq, H.gk, H.dq, H.dk, H.cq, H.ck⟩
  obtain ⟨h0, h1, h2, h3, h4, h5⟩ := h c
  refine ⟨h0.trans ((Reference6Ideal.Read.val_main_v117_eq _).trans ?_), h1.trans ((Reference6Ideal.Read.val_main_v119_eq _).trans ?_),
    h2.trans ((Reference6Ideal.Read.val_main_v121_eq _).trans ?_), h3.trans ((Reference6Ideal.Read.val_main_v123_eq _).trans ?_),
    h4.trans ((Reference6Ideal.Read.val_main_v129_eq _).trans ?_), h5⟩
  · refine Eq.trans (funext fun x => ?_) (Kernel6Ideal.AttnPost.final9 H).symm
    obtain ⟨n, j, rfl⟩ : ∃ (n : Fin 4096) (j : Fin 1024), x = ix2 n j := ⟨x 0, x 1, by funext i; fin_cases i <;> rfl⟩
    exact Reference6Ideal.AttnPost.v117_at R n j
  · refine Eq.trans (funext fun x => ?_) (Kernel6Ideal.AttnPost.final10 H).symm
    obtain ⟨n, j, rfl⟩ : ∃ (n : Fin 4096) (j : Fin 1024), x = ix2 n j := ⟨x 0, x 1, by funext i; fin_cases i <;> rfl⟩
    exact Reference6Ideal.AttnPost.v119_at R n j
  · refine Eq.trans (funext fun x => ?_) (Kernel6Ideal.AttnPost.final11 (m := m) (c := c)).symm
    obtain ⟨n, j, rfl⟩ : ∃ (n : Fin 4096) (j : Fin 1024), x = ix2 n j := ⟨x 0, x 1, by funext i; fin_cases i <;> rfl⟩
    refine (Reference6Ideal.AttnPost.v121_at n j).trans ?_
    exact congrFun a6 _
  · refine Eq.trans (funext fun x => ?_) (Kernel6Ideal.AttnPost.final12 H).symm
    obtain ⟨n, l, rfl⟩ : ∃ (n : Fin 4096) (l : Fin 128), x = ix2 n l := ⟨x 0, x 1, by funext i; fin_cases i <;> rfl⟩
    exact Reference6Ideal.AttnPost.v123_at R n l
  · refine Eq.trans (funext fun x => ?_) (Kernel6Ideal.AttnPost.final13 H).symm
    obtain ⟨a, j, rfl⟩ : ∃ (a : Fin 24) (j : Fin 1024), x = ix2 a j := ⟨x 0, x 1, by funext i; fin_cases i <;> rfl⟩
    exact Reference6Ideal.AttnPost.v129_at R a j

end Cert.AttnPost

end
-- ==== Proof.ConvTaps.Ops.lean ====
/- The operations of the backward step of the gated convolution, tap by tap. -/
module

public import proofs.«01_k».proof.Proof.Gen.Kernel7Ideal.Frame
public import Idealize.ShloMosaic.Lib.Claim

@[expose] public section

set_option maxRecDepth 16384

noncomputable section

namespace Cert.Kernel7Ideal.ConvTaps

open Idealize.ShloMosaic Idealize.ShloMosaic.TcCoe Idealize.SL.Sem
open Cert.Kernel7Ideal Cert.Kernel7Ideal.Gen
open Idealize.ShloMosaic.Tactic

/-- The rectangles of a tap's row of weights and of the frames it meets. -/
theorem inbRow {n : ℕ} (h : n < 31) : ∀ a, (![n, 0] : Fin 2 → ℕ) a + (![1, 128] : Fin 2 → ℕ) a ≤ S31x128.size a := by
  intro a
  fin_cases a
  · show n + 1 ≤ 31; omega
  · show 0 + 128 ≤ 128; omega
theorem inbFrames {n : ℕ} (h : n < 31) : ∀ a, (![2 + n, 0] : Fin 2 → ℕ) a + (![2048, 128] : Fin 2 → ℕ) a ≤ S2080x128.size a := by
  intro a
  fin_cases a
  · show 2 + n + 2048 ≤ 2080; omega
  · show 0 + 128 ≤ 128; omega

variable {F : FTy → Type} [FloatOps F]

/-- The first twenty-nine taps of a chunk of frames. -/
def early (w : Fin 31 → Vec F S1x128 .f32) (d : Fin 31 → Vec F S64x128 .f32) : FVec F S64x128 .f32 :=
  k0_pay12 (k0_pay10 (k0_pay8 (k0_pay6 (k0_pay4 (k0_pay2 (w 0) (d 0) (w 1) (d 1) (w 2) (d 2) (w 3) (d 3))
    (k0_pay3 (w 4)) (d 4) (w 5) (d 5) (w 6) (d 6) (w 7) (d 7) (w 8) (d 8))
    (k0_pay5 (w 9)) (d 9) (w 10) (d 10) (w 11) (d 11) (w 12) (d 12) (w 13) (d 13))
    (k0_pay7 (w 14)) (d 14) (w 15) (d 15) (w 16) (d 16) (w 17) (d 17) (w 18) (d 18))
    (k0_pay9 (w 19)) (d 19) (w 20) (d 20) (w 21) (d 21) (w 22) (d 22) (w 23) (d 23))
    (k0_pay11 (w 24)) (d 24) (w 25) (d 25) (w 26) (d 26) (w 27) (d 27) (w 28) (d 28)

/-- The two gradients of a chunk of frames. -/
def pieceA (w : Fin 31 → Vec F S1x128 .f32) (d : Fin 31 → Vec F S64x128 .f32) (g : Vec F S64x128 .f32) : FVec F S64x128 .bf16 :=
  k0_pay21 (early w d) (k0_pay13 (w 29)) (d 29) (w 30) (d 30) g
def pieceB (w : Fin 31 → Vec F S1x128 .f32) (d : Fin 31 → Vec F S64x128 .f32) (a g : Vec F S64x128 .f32) : FVec F S64x128 .bf16 :=
  k0_pay22 (early w d) (k0_pay13 (w 29)) (d 29) (w 30) (d 30) a g

/-- The weights of the taps and the frames they meet at a chunk. -/
def weights (V5 : View sig .tc .vmem S31x128 .f32) (X5 : V5.ty.Contents (Elt F)) (j : Fin 31) : Vec F S1x128 .f32 :=
  View.readAt (Elt F) V5 (Rect.unit (s := S31x128) ![j.val, 0] ![1, 128] (inbRow j.isLt)).toLoadRect X5
def frames (V10 : View sig .tc .vmem S2080x128 .f32) (X10 : V10.ty.Contents (Elt F)) (k : Fin k0_t1_loop.trips) (j : Fin 31) : Vec F S64x128 .f32 :=
  View.readAt (Elt F) V10 (Rect.unit (s := S2080x128) (k0_off1 k (BitVec.ofNat 32 (30 - j.val))) ![64, 128] (k0_off1_inb k ⟨30 - j.val, by omega⟩)).toLoadRect X10
def chunk (V : View sig .tc .vmem S2048x128 .f32) (X : V.ty.Contents (Elt F)) (k : Fin k0_t1_loop.trips) : Vec F S64x128 .f32 :=
  View.readAt (Elt F) V (Rect.unit (s := S2048x128) (k0_off2 k) ![64, 128] (k0_off2_inb k)).toLoadRect X

/-- A whole block, as it is loaded. -/
def full {a : Memref sig .tc .vmem S2048x128 .f32} (h : a.IsWhole) (x : Vec F S2048x128 .f32) : Vec F S2048x128 .f32 :=
  View.readAt (Elt F) a.view (Rect.unit (s := S2048x128) ![0, 0] ![2048, 128] inb_S2048x128_S2048x128_0_0).toLoadRect (h.unread x)

/-- What one trip of the loop writes. -/
theorem trip_A 𝒱 c bd i arg2 harg2 arg3 harg3 arg4 harg4 arg5 harg5 arg6 harg6 arg7 harg7 arg8 harg8 arg9 harg9 arg10 harg10 X3 X4 X5 X10 k :
    (trip_k0_t1 (F := F) 𝒱 c bd i arg2 harg2 arg3 harg3 arg4 harg4 arg5 harg5 arg6 harg6 arg7 harg7 arg8 harg8 arg9 harg9 arg10 harg10 X3 X4 X5 X10 k).1
      = [⟨Rect.unit (s := S2048x128) (k0_off2 k) ![64, 128] (k0_off2_inb k), pieceA (weights arg5.view X5) (frames arg10.view X10 k) (chunk arg4.view X4 k)⟩] := by
  unfold trip_k0_t1
  rfl
theorem trip_B 𝒱 c bd i arg2 harg2 arg3 harg3 arg4 harg4 arg5 harg5 arg6 harg6 arg7 harg7 arg8 harg8 arg9 harg9 arg10 harg10 X3 X4 X5 X10 k :
    (trip_k0_t1 (F := F) 𝒱 c bd i arg2 harg2 arg3 harg3 arg4 harg4 arg5 harg5 arg6 harg6 arg7 harg7 arg8 harg8 arg9 harg9 arg10 harg10 X3 X4 X5 X10 k).2.1
      = [⟨Rect.unit (s := S2048x128) (k0_off2 k) ![64, 128] (k0_off2_inb k), pieceB (weights arg5.view X5) (frames arg10.view X10 k) (chunk arg3.view X3 k) (chunk arg4.view X4 k)⟩] := by
  unfold trip_k0_t1
  rfl

/-- The two staged arrays: the gated units behind thirty-two empty frames, and the gradient in front of them. -/
def units (a g : Vec F S2048x128 .f32) : List (View.Piece (Elt F) S2080x128 .f32) :=
  [⟨Rect.unit ![32, 0] ![2048, 128] inb_S2080x128_S2048x128_32_0, k0_pay16 a g⟩, ⟨Rect.unit ![0, 0] ![32, 128] inb_S2080x128_S32x128_0_0, k0_pay15⟩]
def grads (d : Vec F S2048x128 .f32) : List (View.Piece (Elt F) S2080x128 .f32) :=
  [⟨Rect.unit ![2048, 0] ![32, 128] inb_S2080x128_S32x128_2048_0, k0_pay18⟩, ⟨Rect.unit ![0, 0] ![2048, 128] inb_S2080x128_S2048x128_0_0, k0_pay17 d⟩]

/-- The gradient at the taps: row after row over a block of zeros, or over an earlier block. -/
def met (V9 : View sig .tc .vmem S2080x128 .f32) (a g : Vec F S2048x128 .f32) {n : ℕ} (h : n < 31) : Vec F S2048x128 .f32 :=
  V9.readCov (units a g) (Rect.unit (s := S2080x128) ![2 + n, 0] ![2048, 128] (inbFrames h)).toLoadRect
def rowsA (V8 : View sig .tc .vmem S31x128 .f32) (V9 : View sig .tc .vmem S2080x128 .f32) (d a g : Vec F S2048x128 .f32) :
    (n : ℕ) → n ≤ 31 → List (View.Piece (Elt F) S31x128 .f32)
  | 0, _ => [⟨Rect.unit (s := S31x128) ![0, 0] ![31, 128] inb_S31x128_S31x128_0_0, k0_pay14⟩]
  | n + 1, h => ⟨Rect.unit (s := S31x128) ![n, 0] ![1, 128] (inbRow h), k0_pay1 (k0_pay23 d)
      (V8.readCov (rowsA V8 V9 d a g n (Nat.le_of_succ_le h)) (Rect.unit (s := S31x128) ![n, 0] ![1, 128] (inbRow h)).toLoadRect) (met V9 a g h)⟩ :: rowsA V8 V9 d a g n (Nat.le_of_succ_le h)
def rowsB (V8 : View sig .tc .vmem S31x128 .f32) (V9 : View sig .tc .vmem S2080x128 .f32) (d a g : Vec F S2048x128 .f32) (X8 : V8.ty.Contents (Elt F)) :
    (n : ℕ) → n ≤ 31 → List (View.Piece (Elt F) S31x128 .f32)
  | 0, _ => []
  | n + 1, h => ⟨Rect.unit (s := S31x128) ![n, 0] ![1, 128] (inbRow h), k0_pay1 (k0_pay23 d)
      (View.readAt (Elt F) V8 (Rect.unit (s := S31x128) ![n, 0] ![1, 128] (inbRow h)).toLoadRect X8) (met V9 a g h)⟩ :: rowsB V8 V9 d a g X8 n (Nat.le_of_succ_le h)

section runs

variable (c : Dev nD) (i : grid0.Coords) (arg2 : Memref sig .tc .vmem S2048x128 .f32) (harg2 : arg2.IsWhole) (arg3 : Memref sig .tc .vmem S2048x128 .f32) (harg3 : arg3.IsWhole)
  (arg4 : Memref sig .tc .vmem S2048x128 .f32) (harg4 : arg4.IsWhole) (arg5 : Memref sig .tc .vmem S31x128 .f32) (harg5 : arg5.IsWhole)
  (arg6 : Memref sig .tc .vmem S2048x128 .bf16) (harg6 : arg6.IsWhole) (arg7 : Memref sig .tc .vmem S2048x128 .bf16) (harg7 : arg7.IsWhole)
  (arg8 : Memref sig .tc .vmem S31x128 .f32) (harg8 : arg8.IsWhole) (arg9 : Memref sig .tc .vmem S2080x128 .f32) (harg9 : arg9.IsWhole)
  (arg10 : Memref sig .tc .vmem S2080x128 .f32) (harg10 : arg10.IsWhole) (x0 x1 x2 : Vec F S2048x128 .f32) (x3 x6 : Vec F S31x128 .f32)

/-- What the loop has written before trip `n`. -/
abbrev written (n : ℕ) := pb_k0_t1 (F := F) Variants.none c none i arg2 harg2 arg3 harg3 arg4 harg4 arg5 harg5 arg6 harg6 arg7 harg7 arg8 harg8 arg9 harg9 arg10 harg10
    (harg3.unread x1) (harg4.unread x2) (harg5.unread x3) (arg10.view.writes (Elt F) arg10.view.junk (grads (full harg2 x0))) n

theorem run_A4 (hc) : (kernelRun0_A (F := F) c i arg2 harg2 arg3 harg3 arg4 harg4 arg5 harg5 arg6 harg6 arg7 harg7 arg8 harg8 arg9 harg9 arg10 harg10 hc x0 x1 x2 x3).1
    = (written c i arg2 harg2 arg3 harg3 arg4 harg4 arg5 harg5 arg6 harg6 arg7 harg7 arg8 harg8 arg9 harg9 arg10 harg10 x0 x1 x2 x3 k0_t1_loop.trips).1 := by
  unfold kernelRun0_A
  dsimp only
  rfl
theorem run_A5 (hc) : (kernelRun0_A (F := F) c i arg2 harg2 arg3 harg3 arg4 harg4 arg5 harg5 arg6 harg6 arg7 harg7 arg8 harg8 arg9 harg9 arg10 harg10 hc x0 x1 x2 x3).2.1
    = (written c i arg2 harg2 arg3 harg3 arg4 harg4 arg5 harg5 arg6 harg6 arg7 harg7 arg8 harg8 arg9 harg9 arg10 harg10 x0 x1 x2 x3 k0_t1_loop.trips).2 := by
  unfold kernelRun0_A
  dsimp only
  rfl
theorem run_A6 (hc) : (kernelRun0_A (F := F) c i arg2 harg2 arg3 harg3 arg4 harg4 arg5 harg5 arg6 harg6 arg7 harg7 arg8 harg8 arg9 harg9 arg10 harg10 hc x0 x1 x2 x3).2.2.1
    = rowsA arg8.view arg9.view (full harg2 x0) (full harg3 x1) (full harg4 x2) 31 le_rfl := by
  unfold kernelRun0_A
  dsimp only
  sl_kernel_rfl
theorem run_B4 (hc) : (kernelRun0_B (F := F) c i arg2 harg2 arg3 harg3 arg4 harg4 arg5 harg5 arg6 harg6 arg7 harg7 arg8 harg8 arg9 harg9 arg10 harg10 hc x0 x1 x2 x3 x6).1
    = (written c i arg2 harg2 arg3 harg3 arg4 harg4 arg5 harg5 arg6 harg6 arg7 harg7 arg8 harg8 arg9 harg9 arg10 harg10 x0 x1 x2 x3 k0_t1_loop.trips).1 := by
  unfold kernelRun0_B
  dsimp only
  rfl
theorem run_B5 (hc) : (kernelRun0_B (F := F) c i arg2 harg2 arg3 harg3 arg4 harg4 arg5 harg5 arg6 harg6 arg7 harg7 arg8 harg8 arg9 harg9 arg10 harg10 hc x0 x1 x2 x3 x6).2.1
    = (written c i arg2 harg2 arg3 harg3 arg4 harg4 arg5 harg5 arg6 harg6 arg7 harg7 arg8 harg8 arg9 harg9 arg10 harg10 x0 x1 x2 x3 k0_t1_loop.trips).2 := by
  unfold kernelRun0_B
  dsimp only
  rfl
theorem run_B6 (hc) : (kernelRun0_B (F := F) c i arg2 harg2 arg3 harg3 arg4 harg4 arg5 harg5 arg6 harg6 arg7 harg7 arg8 harg8 arg9 harg9 arg10 harg10 hc x0 x1 x2 x3 x6).2.2.1
    = rowsB arg8.view arg9.view (full harg2 x0) (full harg3 x1) (full harg4 x2) (harg8.unread x6) 31 le_rfl := by
  unfold kernelRun0_B
  dsimp only
  rfl

end runs

end Cert.Kernel7Ideal.ConvTaps

end
-- ==== Proof.ConvTaps.Math.lean ====
/- The backward step of a gated unit followed by a causal convolution of thirty-one taps. -/
module

public import proofs.«01_k».proof.Proof.Reals

@[expose] public section

set_option maxRecDepth 16384

noncomputable section

namespace Cert.ConvTaps

open Idealize.ShloMosaic

/-- A column of frames continued by zeros, and the same behind thirty zeros. -/
def after (f : Fin 2048 → EReal) (n : ℕ) : EReal := if h : n < 2048 then f ⟨n, h⟩ else 0
def behind (f : Fin 2048 → EReal) (n : ℕ) : EReal := if h : 30 ≤ n ∧ n < 2078 then f ⟨n - 30, by omega⟩ else 0

/-- The gradient at the gated unit, and at its two factors. -/
def gradU (w : Fin 31 → EReal) (d : Fin 2048 → EReal) (s : ℕ) : EReal := ∑ j : Fin 31, w j * after d (s + (30 - j.val))
def gradA (w : Fin 31 → EReal) (d : Fin 2048 → EReal) (g : EReal) (s : ℕ) : EReal := gradU w d s * Ideal.logistic g
def gradB (w : Fin 31 → EReal) (d : Fin 2048 → EReal) (a g : EReal) (s : ℕ) : EReal := gradU w d s * a * Ideal.logistic g * (1 - Ideal.logistic g)

/-- One sequence's part of the gradient at a tap's weight. -/
def gradW (d a g : Fin 2048 → EReal) (j : ℕ) : EReal := ∑ s : Fin 2048, d s * behind (fun s => a s * Ideal.logistic (g s)) (j + s.val)

/-- A sum over the taps, tap after tap. -/
theorem sum_taps (f : Fin 31 → EReal) : ∑ j, f j = 0 + f 0 + f 1 + f 2 + f 3 + f 4 + f 5 + f 6 + f 7 + f 8 + f 9 + f 10 + f 11 + f 12 + f 13 + f 14 + f 15
    + f 16 + f 17 + f 18 + f 19 + f 20 + f 21 + f 22 + f 23 + f 24 + f 25 + f 26 + f 27 + f 28 + f 29 + f 30 := by
  simp only [Fin.sum_univ_castSucc, Finset.univ_eq_empty, Finset.sum_empty]
  rfl

end Cert.ConvTaps

end
-- ==== Proof.ConvTaps.Payload.lean ====
/- The values of the operations of the backward step of the gated convolution. -/
module

public import proofs.«01_k».proof.Proof.ConvTaps.Ops
public import proofs.«01_k».proof.Proof.ConvTaps.Math
public import proofs.«01_k».proof.Proof.Rows
public import proofs.«01_k».proof.Proof.Tiles
public import Idealize.ShloMosaic.Lib.WholeRead

@[expose] public section

set_option maxRecDepth 16384

noncomputable section

namespace Cert.Kernel7Ideal.ConvTaps

open Idealize.ShloMosaic Idealize.ShloMosaic.TcCoe Idealize.SL.Sem
open Cert.ConvTaps
open Cert.Kernel7Ideal Cert.Kernel7Ideal.Gen

variable (w : Fin 31 → Vec Ideal S1x128 .f32) (d : Fin 31 → Vec Ideal S64x128 .f32) (a g : Vec Ideal S64x128 .f32) (r : Fin 64) (l : Fin 128)

/-- All taps of a chunk. -/
theorem taps_at : k0_pay19 (F := Ideal) (early w d) (k0_pay13 (w 29)) (d 29) (w 30) (d 30) (ix2 r l) = ∑ j : Fin 31, w j (ix2 0 l) * d j (ix2 r l) := by
  rw [sum_taps]
  pointwise [k0_pay19, k0_pay13, early, k0_pay2, k0_pay3, k0_pay4, k0_pay5, k0_pay6, k0_pay7, k0_pay8, k0_pay9, k0_pay10, k0_pay11, k0_pay12]

/-- The two gradients of a chunk. -/
theorem pieceA_at : pieceA (F := Ideal) w d g (ix2 r l) = (∑ j : Fin 31, w j (ix2 0 l) * d j (ix2 r l)) * Ideal.logistic (g (ix2 r l)) := by
  rw [← taps_at]
  pointwise [pieceA, k0_pay21, k0_pay20]
theorem pieceB_at : pieceB (F := Ideal) w d a g (ix2 r l)
    = (∑ j : Fin 31, w j (ix2 0 l) * d j (ix2 r l)) * a (ix2 r l) * Ideal.logistic (g (ix2 r l)) * (1 - Ideal.logistic (g (ix2 r l))) := by
  rw [← taps_at]
  pointwise [pieceB, k0_pay22, k0_pay20]

/-- The staged arrays. -/
theorem pay15_at (y : S32x128.Idx) : k0_pay15 (F := Ideal) y = (0 : EReal) := by
  pointwise [k0_pay15]
theorem pay18_at (y : S32x128.Idx) : k0_pay18 (F := Ideal) y = (0 : EReal) := by
  pointwise [k0_pay18]
theorem pay14_at (y : S31x128.Idx) : k0_pay14 (F := Ideal) y = (0 : EReal) := by
  pointwise [k0_pay14]
theorem pay16_at (A G : Vec Ideal S2048x128 .f32) (s : Fin 2048) (l : Fin 128) : k0_pay16 A G (ix2 s l) = A (ix2 s l) * Ideal.logistic (G (ix2 s l)) := by
  pointwise [k0_pay16]
theorem pay17_at (A : Vec Ideal S2048x128 .f32) (y : S2048x128.Idx) : k0_pay17 A y = A y := by
  pointwise [k0_pay17]

/-- One tap's row. -/
theorem pay1_at (D : Vec Ideal S2048x128 .f32) (L : Vec Ideal S1x128 .f32) (U : Vec Ideal S2048x128 .f32) (l : Fin 128) :
    k0_pay1 (k0_pay23 D) L U (ix2 0 l) = L (ix2 0 l) + ∑ s : Fin 2048, D (ix2 s l) * U (ix2 s l) := by
  pointwise [k0_pay1, k0_pay23]

/-- The units behind their empty frames, and the gradient in front of them. -/
theorem units_at (A G : Vec Ideal S2048x128 .f32) (n : Fin 2080) (l : Fin 128) :
    View.canon (Val := Elt Ideal) (units A G) (ix2 n l)
      = (if h : 32 ≤ n.val then A (ix2 (⟨n.val - 32, by omega⟩ : Fin 2048) l) * Ideal.logistic (G (ix2 (⟨n.val - 32, by omega⟩ : Fin 2048) l)) else 0 : EReal) := by
  refine (Cert.Tiles.canon_box (R := 2080) (C := 128) (W := 2048) (V := 128) (o := 32) (p := 0) _ _ _ n l).trans ?_
  by_cases h : 32 ≤ n.val
  · rw [dif_pos (by omega), dif_pos h]
    exact pay16_at A G _ _
  · rw [dif_neg (by omega), dif_neg h]
    exact (Cert.Tiles.canon_box (R := 2080) (C := 128) (W := 32) (V := 128) (o := 0) (p := 0) _ _ _ n l).trans ((dif_pos (by omega)).trans (pay15_at _))
theorem grads_at (D : Vec Ideal S2048x128 .f32) (n : Fin 2080) (l : Fin 128) :
    View.canon (Val := Elt Ideal) (grads D) (ix2 n l) = after (fun s => D (ix2 s l)) n.val := by
  unfold after
  refine (Cert.Tiles.canon_box (R := 2080) (C := 128) (W := 32) (V := 128) (o := 2048) (p := 0) _ _ _ n l).trans ?_
  by_cases h : n.val < 2048
  · rw [dif_neg (by omega), dif_pos h]
    exact (Cert.Tiles.canon_box (R := 2080) (C := 128) (W := 2048) (V := 128) (o := 0) (p := 0) _ _ _ n l).trans ((dif_pos (by omega)).trans (pay17_at _ _))
  · rw [dif_pos (by omega), dif_neg h]
    exact pay18_at _

/-- The frames a tap meets. -/
theorem met_at (V9 : View sig .tc .vmem S2080x128 .f32) (A G : Vec Ideal S2048x128 .f32) {n : ℕ} (h : n < 31) (s : Fin 2048) (l : Fin 128) :
    met V9 A G h (ix2 s l) = behind (fun s => A (ix2 s l) * Ideal.logistic (G (ix2 s l))) (n + s.val) := by
  refine (Cert.Tiles.readCov_box V9 (R := 2080) (C := 128) (W := 2048) (V := 128) (o := 2 + n) (p := 0) (inbFrames h) _ s l).trans ?_
  refine (congrArg (View.canon (Val := Elt Ideal) (units A G)) (congrArg₂ ix2 rfl (Fin.ext (Nat.zero_add l.val)))).trans ((units_at A G _ l).trans ?_)
  unfold behind
  have := s.isLt
  by_cases h2 : 30 ≤ n + s.val
  · rw [dif_pos (show 32 ≤ 2 + n + s.val by omega), dif_pos ⟨h2, by omega⟩]
    have e : (⟨2 + n + s.val - 32, by omega⟩ : Fin 2048) = ⟨n + s.val - 30, by omega⟩ := Fin.ext (by show 2 + n + s.val - 32 = n + s.val - 30; omega)
    exact congrArg (fun s : Fin 2048 => A (ix2 s l) * Ideal.logistic (G (ix2 s l))) e
  · rw [dif_neg (show ¬ 32 ≤ 2 + n + s.val by omega), dif_neg (by omega)]

/-- The rows of the taps. -/
theorem rowsA_at (V8 : View sig .tc .vmem S31x128 .f32) (V9 : View sig .tc .vmem S2080x128 .f32) (D A G : Vec Ideal S2048x128 .f32) (j : Fin 31) (l : Fin 128) :
    ∀ (n : ℕ) (h : n ≤ 31), View.canon (Val := Elt Ideal) (rowsA V8 V9 D A G n h) (ix2 j l)
      = (if j.val < n then gradW (fun s => D (ix2 s l)) (fun s => A (ix2 s l)) (fun s => G (ix2 s l)) j.val else 0 : EReal)
  | 0, h => (Cert.Tiles.canon_box (R := 31) (C := 128) (W := 31) (V := 128) (o := 0) (p := 0) _ _ _ j l).trans
      ((dif_pos (by omega)).trans ((pay14_at _).trans (if_neg (Nat.not_lt_zero _)).symm))
  | n + 1, h => by
    refine (Cert.Rows.canon_row (inbRow h) _ _ j l).trans ?_
    by_cases e : j.val = n
    · subst e
      rw [if_pos rfl, if_pos (Nat.lt_succ_self _), pay1_at]
      have e0 : (V8.readCov (rowsA V8 V9 D A G j.val (Nat.le_of_succ_le h)) (Rect.unit (s := S31x128) ![j.val, 0] ![1, 128] (inbRow h)).toLoadRect (ix2 0 l) : EReal) = 0 :=
        (Cert.Rows.readCov_row V8 (inbRow h) _ l).trans ((rowsA_at V8 V9 D A G j l j.val (Nat.le_of_succ_le h)).trans (if_neg (lt_irrefl _)))
      rw [e0, zero_add]
      exact Finset.sum_congr rfl fun s _ => congrArg (D (ix2 s l) * ·) (met_at V9 A G h s l)
    · rw [if_neg e, rowsA_at V8 V9 D A G j l n (Nat.le_of_succ_le h)]
      exact if_congr (by omega) rfl rfl

theorem rowsB_at (m8 : Memref sig .tc .vmem S31x128 .f32) (h8 : m8.IsWhole) (V9 : View sig .tc .vmem S2080x128 .f32) (D A G : Vec Ideal S2048x128 .f32) (X : Vec Ideal S31x128 .f32)
    (j : Fin 31) (l : Fin 128) : ∀ (n : ℕ) (h : n ≤ 31), j.val < n → View.canon (Val := Elt Ideal) (rowsB m8.view V9 D A G (h8.unread X) n h) (ix2 j l)
      = (X (ix2 j l) + gradW (fun s => D (ix2 s l)) (fun s => A (ix2 s l)) (fun s => G (ix2 s l)) j.val : EReal)
  | 0, h, hj => absurd hj (Nat.not_lt_zero _)
  | n + 1, h, hj => by
    refine (Cert.Rows.canon_row (inbRow h) _ _ j l).trans ?_
    by_cases e : j.val = n
    · subst e
      rw [if_pos rfl, pay1_at]
      have e0 : (View.readAt (Elt Ideal) m8.view (Rect.unit (s := S31x128) ![j.val, 0] ![1, 128] (inbRow h)).toLoadRect (h8.unread X) (ix2 0 l) : EReal) = X (ix2 j l) :=
        (h8.readAt_unread X _ _).trans (Cert.Rows.ld_row X (inbRow h) l)
      rw [e0]
      exact congrArg (X (ix2 j l) + ·) (Finset.sum_congr rfl fun s _ => congrArg (D (ix2 s l) * ·) (met_at V9 A G h s l))
    · rw [if_neg e]
      exact rowsB_at m8 h8 V9 D A G X j l n (Nat.le_of_succ_le h) (by omega)

/-- A load of a chunk. -/
theorem ld_chunk {R o : ℕ} {off : Fin 2 → ℕ} (ho : off = ![o, 0]) (inb : ∀ a, off a + (![64, 128] : Fin 2 → ℕ) a ≤ (⟨2, ![R, 128]⟩ : Shape).size a)
    (X : (⟨2, ![R, 128]⟩ : Shape).Idx → EReal) (r : Fin 64) (l : Fin 128) (n : Fin R) (hn : n.val = o + r.val) :
    View.ld (Val := Elt Ideal) (e' := .f32) X (Rect.unit (s := ⟨2, ![R, 128]⟩) off ![64, 128] inb) (ix2 r l) = X (ix2 n l) := by
  subst ho
  refine (Cert.Tiles.ld_box (Val := Elt Ideal) (e := .f32) X inb r l).trans (congrArg X (congrArg₂ ix2 (Fin.ext hn.symm) (Fin.ext (Nat.zero_add l.val))))

/-- The newest chunk, or what the earlier trips left. -/
theorem canon_chunk {o : ℕ} {off : Fin 2 → ℕ} (ho : off = ![o, 0]) (inb : ∀ a, off a + (![64, 128] : Fin 2 → ℕ) a ≤ S2048x128.size a)
    (P : FVec Ideal S64x128 .bf16) (L : List (View.Piece (Elt Ideal) S2048x128 .bf16)) (r : Fin 2048) (l : Fin 128) :
    View.canon (Val := Elt Ideal) ([⟨Rect.unit (s := S2048x128) off ![64, 128] inb, P⟩] ++ L) (ix2 r l)
      = if h : o ≤ r.val ∧ r.val < o + 64 then P (ix2 (⟨r.val - o, by omega⟩ : Fin 64) l) else View.canon (Val := Elt Ideal) L (ix2 r l) := by
  subst ho
  refine (Cert.Tiles.canon_box (R := 2048) (C := 128) (W := 64) (V := 128) (o := o) (p := 0) inb P L r l).trans ?_
  by_cases h : o ≤ r.val ∧ r.val < o + 64
  · rw [dif_pos (by omega), dif_pos h]
    rfl
  · rw [dif_neg (by omega), dif_neg h]

section loop

variable (c : Dev nD) (i : grid0.Coords) (arg2 : Memref sig .tc .vmem S2048x128 .f32) (harg2 : arg2.IsWhole) (arg3 : Memref sig .tc .vmem S2048x128 .f32) (harg3 : arg3.IsWhole)
  (arg4 : Memref sig .tc .vmem S2048x128 .f32) (harg4 : arg4.IsWhole) (arg5 : Memref sig .tc .vmem S31x128 .f32) (harg5 : arg5.IsWhole)
  (arg6 : Memref sig .tc .vmem S2048x128 .bf16) (harg6 : arg6.IsWhole) (arg7 : Memref sig .tc .vmem S2048x128 .bf16) (harg7 : arg7.IsWhole)
  (arg8 : Memref sig .tc .vmem S31x128 .f32) (harg8 : arg8.IsWhole) (arg9 : Memref sig .tc .vmem S2080x128 .f32) (harg9 : arg9.IsWhole)
  (arg10 : Memref sig .tc .vmem S2080x128 .f32) (harg10 : arg10.IsWhole) (x0 x1 x2 : Vec Ideal S2048x128 .f32) (x3 : Vec Ideal S31x128 .f32)

theorem full_eq {a : Memref sig .tc .vmem S2048x128 .f32} (h : a.IsWhole) (x : Vec Ideal S2048x128 .f32) : full (F := Ideal) h x = x := by
  funext y
  obtain ⟨r, l, rfl⟩ : ∃ (r : Fin 2048) (l : Fin 128), y = ix2 r l := ⟨y 0, y 1, by funext i; fin_cases i <;> rfl⟩
  exact (h.readAt_unread x _ _).trans ((Cert.Tiles.ld_box (Val := Elt Ideal) (e := .f32) (R := 2048) (C := 128) x inb_S2048x128_S2048x128_0_0 r l).trans
    (congrArg x (congrArg₂ ix2 (Fin.ext (Nat.zero_add r.val)) (Fin.ext (Nat.zero_add l.val)))))

theorem trips_eq : k0_t1_loop.trips = 32 := by decide

theorem weights_at (j : Fin 31) (l : Fin 128) : weights (F := Ideal) arg5.view (harg5.unread x3) j (ix2 0 l) = x3 (ix2 j l) :=
  (harg5.readAt_unread x3 _ _).trans (Cert.Rows.ld_row x3 (inbRow j.isLt) l)
theorem chunk_at {a : Memref sig .tc .vmem S2048x128 .f32} (h : a.IsWhole) (x : Vec Ideal S2048x128 .f32) (k : Fin k0_t1_loop.trips) (r : Fin 64) (l : Fin 128)
    (n : Fin 2048) (hn : n.val = 64 * k.val + r.val) : chunk (F := Ideal) a.view (h.unread x) k (ix2 r l) = x (ix2 n l) :=
  (h.readAt_unread x _ _).trans (ld_chunk (k0_off2_eq k) (k0_off2_inb k) x r l n hn)
theorem frames_at (k : Fin k0_t1_loop.trips) (j : Fin 31) (r : Fin 64) (l : Fin 128) :
    frames (F := Ideal) arg10.view (arg10.view.writes (Elt Ideal) arg10.view.junk (grads x0)) k j (ix2 r l)
      = after (fun s => x0 (ix2 s l)) (64 * k.val + r.val + (30 - j.val)) := by
  have hk := lt_of_lt_of_eq k.isLt trips_eq
  have e : 64 * k.val + (30 - j.val) + r.val = 64 * k.val + r.val + (30 - j.val) := by omega
  unfold frames
  rw [View.readAt_writes_junk_eq_canon]
  refine (ld_chunk (R := 2080) (k0_off1_eq k ⟨30 - j.val, by omega⟩) (k0_off1_inb k ⟨30 - j.val, by omega⟩) (View.canon (Val := Elt Ideal) (grads x0)) r l
    ⟨64 * k.val + (30 - j.val) + r.val, by omega⟩ rfl).trans ?_
  exact (grads_at x0 _ l).trans (congrArg _ e)

/-- What the trips before `n` have left in the rows they cover. -/
theorem writtenA_at (r : Fin 2048) (l : Fin 128) : ∀ n : ℕ, n ≤ 32 → r.val < 64 * n →
    View.canon (Val := Elt Ideal) (written c i arg2 harg2 arg3 harg3 arg4 harg4 arg5 harg5 arg6 harg6 arg7 harg7 arg8 harg8 arg9 harg9 arg10 harg10 x0 x1 x2 x3 n).1 (ix2 r l)
      = gradA (fun j => x3 (ix2 j l)) (fun s => x0 (ix2 s l)) (x2 (ix2 r l)) r.val
  | 0, _, h => absurd h (Nat.not_lt_zero _)
  | n + 1, hn, h => by
    have hn' : n < k0_t1_loop.trips := lt_of_lt_of_eq (Nat.lt_of_succ_le hn) trips_eq.symm
    refine (congrArg (fun L => View.canon (Val := Elt Ideal) (Prod.fst L) (ix2 r l)) (pb_k0_t1_succ _ _ _ _ _ _ _ _ _ _ _ _ _ _ _ _ _ _ _ _ _ _ _ _ _ _ ⟨n, hn'⟩)).trans ?_
    dsimp only
    rw [trip_A, canon_chunk (k0_off2_eq ⟨n, hn'⟩)]
    by_cases hr : 64 * n ≤ r.val
    · rw [dif_pos ⟨hr, by show r.val < 64 * n + 64; omega⟩, pieceA_at, chunk_at harg4 x2 ⟨n, hn'⟩ _ l r (by show r.val = 64 * n + (r.val - 64 * n); omega)]
      refine congrArg (· * Ideal.logistic (x2 (ix2 r l))) (Finset.sum_congr rfl fun j _ => ?_)
      rw [weights_at, full_eq, frames_at]
      exact congrArg (fun n => x3 (ix2 j l) * after (fun s => x0 (ix2 s l)) (n + (30 - j.val))) (show 64 * n + (r.val - 64 * n) = r.val by omega)
    · rw [dif_neg (by show ¬ (64 * n ≤ r.val ∧ _); omega)]
      exact writtenA_at r l n (Nat.le_of_succ_le hn) (by omega)
theorem writtenB_at (r : Fin 2048) (l : Fin 128) : ∀ n : ℕ, n ≤ 32 → r.val < 64 * n →
    View.canon (Val := Elt Ideal) (written c i arg2 harg2 arg3 harg3 arg4 harg4 arg5 harg5 arg6 harg6 arg7 harg7 arg8 harg8 arg9 harg9 arg10 harg10 x0 x1 x2 x3 n).2 (ix2 r l)
      = gradB (fun j => x3 (ix2 j l)) (fun s => x0 (ix2 s l)) (x1 (ix2 r l)) (x2 (ix2 r l)) r.val
  | 0, _, h => absurd h (Nat.not_lt_zero _)
  | n + 1, hn, h => by
    have hn' : n < k0_t1_loop.trips := lt_of_lt_of_eq (Nat.lt_of_succ_le hn) trips_eq.symm
    refine (congrArg (fun L => View.canon (Val := Elt Ideal) (Prod.snd L) (ix2 r l)) (pb_k0_t1_succ _ _ _ _ _ _ _ _ _ _ _ _ _ _ _ _ _ _ _ _ _ _ _ _ _ _ ⟨n, hn'⟩)).trans ?_
    dsimp only
    rw [trip_B, canon_chunk (k0_off2_eq ⟨n, hn'⟩)]
    by_cases hr : 64 * n ≤ r.val
    · rw [dif_pos ⟨hr, by show r.val < 64 * n + 64; omega⟩, pieceB_at, chunk_at harg4 x2 ⟨n, hn'⟩ _ l r (by show r.val = 64 * n + (r.val - 64 * n); omega),
        chunk_at harg3 x1 ⟨n, hn'⟩ _ l r (by show r.val = 64 * n + (r.val - 64 * n); omega)]
      refine congrArg (· * x1 (ix2 r l) * Ideal.logistic (x2 (ix2 r l)) * (1 - Ideal.logistic (x2 (ix2 r l)))) (Finset.sum_congr rfl fun j _ => ?_)
      rw [weights_at, full_eq, frames_at]
      exact congrArg (fun n => x3 (ix2 j l) * after (fun s => x0 (ix2 s l)) (n + (30 - j.val))) (show 64 * n + (r.val - 64 * n) = r.val by omega)
    · rw [dif_neg (by show ¬ (64 * n ≤ r.val ∧ _); omega)]
      exact writtenB_at r l n (Nat.le_of_succ_le hn) (by omega)

end loop

end Cert.Kernel7Ideal.ConvTaps

end
-- ==== Proof.ConvTaps.Blocks.lean ====
/- The blocks of the backward step of the gated convolution. -/
module

public import proofs.«01_k».proof.Proof.Gen.Kernel7Ideal.Frame
public import Idealize.ShloMosaic.Lib.Pipeline.ValueKit
public import Idealize.ShloMosaic.Lib.Claim

@[expose] public section

set_option maxRecDepth 16384

noncomputable section

namespace Cert.Kernel7Ideal.ConvTaps

open Idealize.ShloMosaic Idealize.ShloMosaic.TcCoe Idealize.SL.Sem
open Idealize.ShloMosaic.Pipeline (Dat)
open Cert.Kernel7Ideal Cert.Kernel7Ideal.Gen

/-- The sequence and the column of a grid point's blocks. -/
def seq (t : Fin cfg0.N) : Fin 2 := ⟨t.val % 2, by omega⟩
def col (t : Fin cfg0.N) (l : Fin 128) : Fin 1024 := ⟨t.val / 2 * 128 + l.val, by have := lt_of_lt_of_eq t.isLt N_0; omega⟩

theorem idx : ∀ t : Fin cfg0.N, win0_0.index t = ![t.val % 2, t.val / 2] ∧ win0_1.index t = ![t.val % 2, 32 + t.val / 2] ∧ win0_2.index t = ![t.val % 2, 40 + t.val / 2]
    ∧ win0_3.index t = ![0, t.val / 2] ∧ win0_4.index t = ![t.val % 2, t.val / 2] ∧ win0_5.index t = ![t.val % 2, t.val / 2] ∧ win0_6.index t = ![0, t.val / 2] :=
  (by decide +kernel : ∀ t : Fin grid0.N, _)

variable (m : (ℓ : Loc nD τ sig) → Buf (Elt Ideal) ℓ) (c : Dev nD)

/-- The arguments the step reads: the gradient, the unit's two factors, the taps' weights. -/
def argD (b : Fin 2) (s : Fin 2048) (j : Fin 1024) : EReal := m ((c : Thread nD τ).loc main_arg2) (ix3 b s j)
def argA (b : Fin 2) (s : Fin 2048) (j : Fin 1024) : EReal := m ((c : Thread nD τ).loc main_arg0) (ix3 b s ⟨4112 + j.val, by omega⟩)
def argG (b : Fin 2) (s : Fin 2048) (j : Fin 1024) : EReal := m ((c : Thread nD τ).loc main_arg0) (ix3 b s ⟨5136 + j.val, by omega⟩)
def argW (k : Fin 31) (j : Fin 1024) : EReal := m ((c : Thread nD τ).loc main_arg1) (ix3 0 k j)

theorem block_d (t : Fin cfg0.N) (r : Fin 2048) (l : Fin 128) : iblk m c 0 t (ix2 r l) = argD m c (seq t) r (col t l) := by
  have ht := lt_of_lt_of_eq t.isLt N_0
  unfold argD
  blk_simp [iblk, idx t]
  entry_read
  pointwise
  blk_ext [idx t, seq, col]

theorem block_a (t : Fin cfg0.N) (r : Fin 2048) (l : Fin 128) : iblk m c 1 t (ix2 r l) = argA m c (seq t) r (col t l) := by
  have ht := lt_of_lt_of_eq t.isLt N_0
  unfold argA
  blk_simp [iblk, idx t]
  entry_read
  pointwise
  rw [dif_neg (by blk_simp [idx t]; omega)]
  blk_ext [idx t, seq, col]

theorem block_g (t : Fin cfg0.N) (r : Fin 2048) (l : Fin 128) : iblk m c 2 t (ix2 r l) = argG m c (seq t) r (col t l) := by
  have ht := lt_of_lt_of_eq t.isLt N_0
  unfold argG
  blk_simp [iblk, idx t]
  entry_read
  pointwise
  rw [dif_neg (by blk_simp [idx t]; omega)]
  blk_ext [idx t, seq, col]

theorem block_w (t : Fin cfg0.N) (k : Fin 31) (l : Fin 128) : iblk m c 3 t (ix2 k l) = argW m c k (col t l) := by
  have ht := lt_of_lt_of_eq t.isLt N_0
  unfold argW
  blk_simp [iblk, idx t]
  entry_read
  pointwise
  blk_ext [idx t, seq, col]

end Cert.Kernel7Ideal.ConvTaps

end
-- ==== Proof.ConvTaps.Kernel.lean ====
/- What the backward step of the gated convolution leaves in its three results. -/
module

public import proofs.«01_k».proof.Proof.ConvTaps.Payload
public import proofs.«01_k».proof.Proof.ConvTaps.Blocks

@[expose] public section

set_option maxRecDepth 16384

noncomputable section

namespace Cert.Kernel7Ideal.ConvTaps

open Idealize.ShloMosaic Idealize.ShloMosaic.TcCoe Idealize.SL.Sem
open Idealize.ShloMosaic.Pipeline (Dat)
open Cert.ConvTaps
open Cert.Kernel7Ideal Cert.Kernel7Ideal.Gen

variable (m : (ℓ : Loc nD τ sig) → Buf (Elt Ideal) ℓ) (c : Dev nD) (t : Fin cfg0.N)

/-- The three gradients, of the arguments. -/
def resA (b : Fin 2) (s : Fin 2048) (j : Fin 1024) : EReal := gradA (fun k => argW m c k j) (fun s => argD m c b s j) (argG m c b s j) s.val
def resB (b : Fin 2) (s : Fin 2048) (j : Fin 1024) : EReal := gradB (fun k => argW m c k j) (fun s => argD m c b s j) (argA m c b s j) (argG m c b s j) s.val
def partW (b : Fin 2) (k : Fin 31) (j : Fin 1024) : EReal := gradW (fun s => argD m c b s j) (fun s => argA m c b s j) (fun s => argG m c b s j) k.val

theorem outA_at (r : Fin 2048) (l : Fin 128) : (outsAt0 m c t.val t.isLt).1 (ix2 r l) = resA m c (seq t) r (col t l) := by
  have e : gradA (fun k => iblk m c 3 t (ix2 k l)) (fun s => iblk m c 0 t (ix2 s l)) (iblk m c 2 t (ix2 r l)) r.val = resA m c (seq t) r (col t l) := by
    simp only [block_d, block_g, block_w]
    rfl
  refine Eq.trans ?_ e
  by_cases h : t.val % 2 = 0
  · rw [outsAt0_A m c t h]
    unfold out0_A_4
    rw [View.read_writes_junk_eq_canon, run_A4]
    exact writtenA_at _ _ _ _ _ _ _ _ _ _ _ _ _ _ _ _ _ _ _ _ _ _ _ _ r l 32 le_rfl (by omega)
  · rw [outsAt0_B m c t h]
    unfold out0_B_4
    rw [View.read_writes_junk_eq_canon, run_B4]
    exact writtenA_at _ _ _ _ _ _ _ _ _ _ _ _ _ _ _ _ _ _ _ _ _ _ _ _ r l 32 le_rfl (by omega)

theorem outB_at (r : Fin 2048) (l : Fin 128) : (outsAt0 m c t.val t.isLt).2.1 (ix2 r l) = resB m c (seq t) r (col t l) := by
  have e : gradB (fun k => iblk m c 3 t (ix2 k l)) (fun s => iblk m c 0 t (ix2 s l)) (iblk m c 1 t (ix2 r l)) (iblk m c 2 t (ix2 r l)) r.val = resB m c (seq t) r (col t l) := by
    simp only [block_d, block_a, block_g, block_w]
    rfl
  refine Eq.trans ?_ e
  by_cases h : t.val % 2 = 0
  · rw [outsAt0_A m c t h]
    unfold out0_A_5
    rw [View.read_writes_junk_eq_canon, run_A5]
    exact writtenB_at _ _ _ _ _ _ _ _ _ _ _ _ _ _ _ _ _ _ _ _ _ _ _ _ r l 32 le_rfl (by omega)
  · rw [outsAt0_B m c t h]
    unfold out0_B_5
    rw [View.read_writes_junk_eq_canon, run_B5]
    exact writtenB_at _ _ _ _ _ _ _ _ _ _ _ _ _ _ _ _ _ _ _ _ _ _ _ _ r l 32 le_rfl (by omega)

theorem part_eq (k : Fin 31) (l : Fin 128) : gradW (fun s => iblk m c 0 t (ix2 s l)) (fun s => iblk m c 1 t (ix2 s l)) (fun s => iblk m c 2 t (ix2 s l)) k.val
    = partW m c (seq t) k (col t l) := by
  simp only [block_d, block_a, block_g]
  rfl

theorem outW_A (h : t.val % 2 = 0) (k : Fin 31) (l : Fin 128) : (outsAt0 m c t.val t.isLt).2.2 (ix2 k l) = partW m c (seq t) k (col t l) := by
  rw [outsAt0_A m c t h]
  unfold out0_A_6
  rw [View.read_writes_junk_eq_canon, run_A6, full_eq, full_eq, full_eq]
  exact (rowsA_at _ _ _ _ _ k l 31 le_rfl).trans ((if_pos k.isLt).trans (part_eq m c t k l))

theorem outW_B (h : ¬ t.val % 2 = 0) (k : Fin 31) (l : Fin 128) : (outsAt0 m c t.val t.isLt).2.2 (ix2 k l)
    = ((outsAt0 m c (t.val - 1) (Nat.lt_of_le_of_lt (Nat.sub_le _ _) t.isLt)).2.2 (ix2 k l) + partW m c (seq t) k (col t l) : EReal) := by
  rw [outsAt0_B m c t h]
  unfold out0_B_6
  rw [View.read_writes_junk_eq_canon, run_B6, full_eq, full_eq, full_eq]
  exact (rowsB_at _ _ _ _ _ _ _ k l 31 le_rfl k.isLt).trans (congrArg (_ + ·) (part_eq m c t k l))

/-- After the second sequence both parts are there. -/
theorem outW_at (h : ¬ t.val % 2 = 0) (k : Fin 31) (l : Fin 128) : (outsAt0 m c t.val t.isLt).2.2 (ix2 k l) = ∑ b : Fin 2, partW m c b k (col t l) := by
  rw [outW_B m c t h, Fin.sum_univ_two]
  have ht : t.val - 1 < cfg0.N := Nat.lt_of_le_of_lt (Nat.sub_le _ _) t.isLt
  have e0 : seq ⟨t.val - 1, ht⟩ = 0 := Fin.ext (by show (t.val - 1) % 2 = 0; omega)
  have e1 : seq t = 1 := Fin.ext (by show t.val % 2 = 1; omega)
  have ec : col ⟨t.val - 1, ht⟩ l = col t l := Fin.ext (by show (t.val - 1) / 2 * 128 + l.val = t.val / 2 * 128 + l.val; omega)
  have e := outW_A m c ⟨t.val - 1, ht⟩ (by show (t.val - 1) % 2 = 0; omega) k l
  rw [e0, ec] at e
  rw [e1]
  exact congrArg (· + partW m c 1 k (col t l)) e

/-- The sequence and the frame of a row of the results. -/
def sq (n : Fin 4096) : Fin 2 := ⟨n.val / 2048, by omega⟩
def fr (n : Fin 4096) : Fin 2048 := ⟨n.val % 2048, by omega⟩

theorem emb4 (r : Fin 2048) (l : Fin 128) : (win0_4.blk t).view.emb (ix2 r l)
    = (ix2 (⟨t.val % 2 * 2048 + r.val, by omega⟩ : Fin 4096) (col t l) : S4096x1024.Idx) := by
  blk_ext [idx t, col]
theorem emb5 (r : Fin 2048) (l : Fin 128) : (win0_5.blk t).view.emb (ix2 r l)
    = (ix2 (⟨t.val % 2 * 2048 + r.val, by omega⟩ : Fin 4096) (col t l) : S4096x1024.Idx) := by
  blk_ext [idx t, col]
theorem emb6 (k : Fin 31) (l : Fin 128) : (win0_6.blk t).view.emb (ix2 k l) = (ix2 k (col t l) : S31x1024.Idx) := by
  blk_ext [idx t, col]

theorem row_eq (f : Fin 2 → Fin 2048 → Fin 1024 → EReal) (r : Fin 2048) (j : Fin 1024) (n : Fin 4096) (h : n.val = t.val % 2 * 2048 + r.val) :
    f (seq t) r j = f (sq n) (fr n) j := by
  have e1 : sq n = seq t := Fin.ext (by show n.val / 2048 = t.val % 2; omega)
  have e2 : fr n = r := Fin.ext (by show n.val % 2048 = r.val; omega)
  rw [e1, e2]

theorem odd6 : ∀ t : Fin cfg0.N, win0_6.flush t = true → ¬ t.val % 2 = 0 := (by decide +kernel : ∀ t : Fin grid0.N, _)

/-- The three results. -/
theorem final4 : (dats m 0 c).arrAt 4 cfg0.N = (fun y : S4096x1024.Idx => resA m c (sq (y 0)) (fr (y 0)) (y 1)) := by
  refine (dats m 0 c).arrAt_eq_of_covers 4 _ (by decide +kernel) fun t _ y => ?_
  rw [after0_4]
  obtain ⟨r, l, rfl⟩ : ∃ (r : Fin 2048) (l : Fin 128), y = ix2 r l := ⟨y 0, y 1, by funext i; fin_cases i <;> rfl⟩
  refine (outA_at m c t r l).trans ((row_eq t (resA m c) r (col t l) ⟨t.val % 2 * 2048 + r.val, by omega⟩ rfl).trans ?_)
  exact (congrArg (fun y : S4096x1024.Idx => resA m c (sq (y 0)) (fr (y 0)) (y 1)) (emb4 t r l)).symm
theorem final5 : (dats m 0 c).arrAt 5 cfg0.N = (fun y : S4096x1024.Idx => resB m c (sq (y 0)) (fr (y 0)) (y 1)) := by
  refine (dats m 0 c).arrAt_eq_of_covers 5 _ (by decide +kernel) fun t _ y => ?_
  rw [after0_5]
  obtain ⟨r, l, rfl⟩ : ∃ (r : Fin 2048) (l : Fin 128), y = ix2 r l := ⟨y 0, y 1, by funext i; fin_cases i <;> rfl⟩
  refine (outB_at m c t r l).trans ((row_eq t (resB m c) r (col t l) ⟨t.val % 2 * 2048 + r.val, by omega⟩ rfl).trans ?_)
  exact (congrArg (fun y : S4096x1024.Idx => resB m c (sq (y 0)) (fr (y 0)) (y 1)) (emb5 t r l)).symm
theorem final6 : (dats m 0 c).arrAt 6 cfg0.N = (fun y : S31x1024.Idx => ∑ b : Fin 2, partW m c b (y 0) (y 1)) := by
  refine (dats m 0 c).arrAt_eq_of_covers 6 _ (by decide +kernel) fun t hf y => ?_
  rw [after0_6]
  obtain ⟨k, l, rfl⟩ : ∃ (k : Fin 31) (l : Fin 128), y = ix2 k l := ⟨y 0, y 1, by funext i; fin_cases i <;> rfl⟩
  refine (outW_at m c t (odd6 t hf) k l).trans ?_
  exact (congrArg (fun y : S31x1024.Idx => ∑ b : Fin 2, partW m c b (y 0) (y 1)) (emb6 t k l)).symm

end Cert.Kernel7Ideal.ConvTaps

end
-- ==== Proof.ConvTaps.Reference.lean ====
/- What the reference of the convolution and its gate computes. -/
module

public import proofs.«01_k».proof.Proof.ConvTaps.Math
public import proofs.«01_k».proof.Proof.Gen.Reference7Ideal.Read

@[expose] public section

set_option maxRecDepth 16384

noncomputable section

namespace Cert.Reference7Ideal.ConvTaps

open Idealize.ShloMosaic Idealize.ShloMosaic.TcCoe
open Cert.Reals Cert.ConvTaps
open Cert.Reference7Ideal Cert.Reference7Ideal.Read Cert.Reference7Ideal.Gen

/-! ### One tap, for any tap -/

theorem cutW (k : Fin 31) : S1x31x1024.Slices ![0, k.val, 0] S1x1x1024 := by revert k; decide
theorem cutU (k : Fin 31) : S2x2078x1024.Slices ![0, k.val, 0] S2x2048x1024 := by revert k; decide
theorem padsU (k : Fin 31) : S2x2048x1024.Pads (![0, k.val, 0] : Fin 3 → Nat) ![0, 30 - k.val, 0] ![0, 0, 0] S2x2078x1024 := by revert k; decide
theorem padsW (k : Fin 31) : S1x1x1024.Pads (![0, k.val, 0] : Fin 3 → Nat) ![0, 30 - k.val, 0] ![0, 0, 0] S1x31x1024 := by revert k; decide

variable {F : FTy → Type} [FloatOps F] (x0 : FVec F S2x2048x7184 .f32) (x1 : FVec F S1x31x1024 .f32) (x2 : FVec F S2x2048x1024 .f32)

/-- The gradient as it reaches one tap. -/
def grad : FVec F S2x2048x1024 .f32 := shapeCast _ x2 shapeCasts_S2x2048x1024_S2x2048x1024

/-- The gradient that one tap sends to the frames it read, among thirty more frames in front. -/
def tapU (k : Fin 31) : FVec F S2x2078x1024 .f32 :=
  pad S2x2078x1024 ![0, k.val, 0] ![0, 30 - k.val, 0] ![0, 0, 0]
    (mulf (broadcastInDim S2x2048x1024 ![0, 1, 2] bcast_S1x1x1024_S2x2048x1024_0_1_2
      (broadcastInDim S1x1x1024 ![2] bcast_S1024_S1x1x1024_2 (shapeCast _ (extractStridedSlice S1x1x1024 ![0, k.val, 0] x1 (cutW k)) shapeCasts_S1x1x1024_S1024)))
      (grad x2))
    (constant S_ .f32 0x00000000#32) (padsU k) h_S_

/-- The gradient at one tap's weight, added up over frames and sequences. -/
def rowW (k : Fin 31) : FVec F S1024 .f32 :=
  Host.reduceAdd (mulf (grad x2) (extractStridedSlice S2x2048x1024 ![0, k.val, 0] (val_main_v13 (F := F) x0) (cutU k))) (constant S_ .f32 0x00000000#32)
    reducesTo_S2x2048x1024_S1024_d0_1 h_S_
def rowW' (k : Fin 31) : FVec F S1024 .f32 :=
  Host.reduceAdd (shapeCast S1x1x1024 (rowW x0 x2 k) shapeCasts_S1024_S1x1x1024) (constant S_ .f32 0x00000000#32) reducesTo_S1x1x1024_S1024_d0_1 h_S_

/-- The same at its place among the taps. -/
def tapW (k : Fin 31) : FVec F S1x31x1024 .f32 :=
  pad S1x31x1024 ![0, k.val, 0] ![0, 30 - k.val, 0] ![0, 0, 0] (broadcastInDim S1x1x1024 ![2] bcast_S1024_S1x1x1024_2 (rowW' x0 x2 k))
    (constant S_ .f32 0x00000000#32) (padsW k) h_S_

/-- What the taps give, added from the last tap to the first. -/
def chain {s : Shape} (f : Fin 31 → FVec F s .f32) : ℕ → FVec F s .f32
  | 0 => f 30
  | n + 1 => addf (chain f n) (f ⟨29 - n, Nat.lt_of_le_of_lt (Nat.sub_le _ _) (by decide)⟩)

theorem v570_eq : val_main_v570 (F := F) x1 x2 = chain (tapU x1 x2) 30 := by
  rfl

theorem v573_eq : val_main_v573 (F := F) x0 x2 = chain (tapW x0 x2) 30 := by
  rfl

/-! ### At a point -/

theorem chain_at {s : Shape} (f : Fin 31 → FVec Ideal s .f32) (y : s.Idx) : chain f 30 y = (∑ k, f k y : EReal) := by
  refine Eq.trans ?_ (Equiv.sum_comp Fin.revPerm fun k => (f k y : EReal))
  rw [sum_taps, zero_add]
  rfl

variable (x0 : FVec Ideal S2x2048x7184 .f32) (x1 : FVec Ideal S1x31x1024 .f32) (x2 : FVec Ideal S2x2048x1024 .f32)

theorem v7_at (b : Fin 2) (s : Fin 2048) (j : Fin 1024) : val_main_v7 (F := Ideal) x0 (ix3 b s j) = Ideal.logistic (x0 (ix3 b s ⟨5136 + j.val, by omega⟩)) := by
  pointwise [val_main_v7, val_main_v6, val_main_v5, val_main_v4, val_main_v3, val_main_v2, val_main_v1, val_main_cst, val_main_cst_0]
  rfl

theorem v13_at (b : Fin 2) (n : Fin 2078) (j : Fin 1024) : val_main_v13 (F := Ideal) x0 (ix3 b n j)
    = behind (fun s => x0 (ix3 b s ⟨4112 + j.val, by omega⟩) * Ideal.logistic (x0 (ix3 b s ⟨5136 + j.val, by omega⟩))) n.val := by
  unfold behind
  pointwise [val_main_v13, val_main_v12, val_main_v11, val_main_v0, val_main_cst_2]
  split
  · rename_i h
    rw [dif_neg (show ¬ 30 ≤ n.val by omega)]
  · rename_i h
    rw [v7_at, dif_pos (show 30 ≤ n.val by omega)]

theorem tapU_at (k : Fin 31) (b : Fin 2) (s : Fin 2048) (j : Fin 1024) : tapU x1 x2 k (ix3 b ⟨30 + s.val, by omega⟩ j)
    = x1 (ix3 0 k j) * after (fun s => x2 (ix3 b s j)) (s.val + (30 - k.val)) := by
  unfold after
  pointwise [tapU, grad]
  have hk : k.val < 31 := k.isLt
  by_cases h : s.val + (30 - k.val) < 2048
  · rw [dif_pos h, dif_pos (by omega)]
    exact congrArg (fun n => x1 (ix3 0 k j) * x2 (ix3 b n j)) (Fin.ext (by show 30 + s.val - k.val = s.val + (30 - k.val); omega))
  · rw [dif_neg h, dif_neg (by omega), mul_zero]

theorem rowW_at (k : Fin 31) (j : Fin 1024) : rowW x0 x2 k (ix1 j) = ∑ b : Fin 2, gradW (fun s => x2 (ix3 b s j))
    (fun s => x0 (ix3 b s ⟨4112 + j.val, by omega⟩)) (fun s => x0 (ix3 b s ⟨5136 + j.val, by omega⟩)) k.val := by
  refine (reduceAdd_rows _ _ _ j).trans ?_
  pointwise [grad]
  simp only [v13_at]
  rfl

theorem rowW'_at (k : Fin 31) (j : Fin 1024) : rowW' x0 x2 k (ix1 j) = rowW x0 x2 k (ix1 j) := by
  refine (reduceAdd_rows _ _ _ j).trans ?_
  pointwise
  rw [Fin.sum_univ_one, Fin.sum_univ_one]

theorem tapW_at (k i : Fin 31) (j : Fin 1024) : tapW x0 x2 k (ix3 0 i j) = if k = i then rowW x0 x2 k (ix1 j) else 0 := by
  pointwise [tapW]
  by_cases h : k = i
  · subst h
    rw [dif_pos (by omega), if_pos rfl, rowW'_at]
  · rw [if_neg h, dif_neg (fun e => h (Fin.ext (by omega)))]

/-! ### The results -/

/-- The columns that the results at one lane depend on. -/
def colW (j : Fin 1024) (k : Fin 31) : EReal := x1 (ix3 0 k j)
def colD (b : Fin 2) (j : Fin 1024) (s : Fin 2048) : EReal := x2 (ix3 b s j)
def colA (b : Fin 2) (j : Fin 1024) (s : Fin 2048) : EReal := x0 (ix3 b s ⟨4112 + j.val, by omega⟩)
def colG (b : Fin 2) (j : Fin 1024) (s : Fin 2048) : EReal := x0 (ix3 b s ⟨5136 + j.val, by omega⟩)

theorem v575_at (b : Fin 2) (s : Fin 2048) (j : Fin 1024) : val_main_v575 (F := Ideal) x1 x2 (ix3 b s j) = gradU (colW x1 j) (colD x2 b j) s.val := by
  pointwise [val_main_v575]
  rw [v570_eq, chain_at]
  exact Finset.sum_congr rfl fun k _ => tapU_at x1 x2 k b s j

theorem v577_at (b : Fin 2) (s : Fin 2048) (j : Fin 1024) : val_main_v577 (F := Ideal) x0 x1 x2 (ix3 b s j)
    = gradA (colW x1 j) (colD x2 b j) (colG x0 b j s) s.val := by
  pointwise [val_main_v577]
  rw [v575_at, v7_at]
  rfl

theorem v578_at (b : Fin 2) (s : Fin 2048) (j : Fin 1024) : val_main_v578 (F := Ideal) x0 x1 x2 (ix3 b s j)
    = gradB (colW x1 j) (colD x2 b j) (colA x0 b j s) (colG x0 b j s) s.val := by
  pointwise [val_main_v578, val_main_v576, val_main_v10, val_main_v9, val_main_v8, val_main_cst_1, val_main_v0]
  rw [v575_at, v7_at]
  unfold gradB
  rw [mul_comm (x0 _), mul_assoc (_ * _) (Ideal.logistic _)]
  rfl

theorem v580_at (n : Fin 4096) (j : Fin 1024) : val_main_v580 (F := Ideal) x0 x1 x2 (ix2 n j)
    = gradA (colW x1 j) (colD x2 ⟨n.val / 2048, by omega⟩ j) (colG x0 ⟨n.val / 2048, by omega⟩ j ⟨n.val % 2048, by omega⟩) (n.val % 2048) := by
  pointwise [val_main_v580, val_main_v579]
  exact v577_at x0 x1 x2 _ _ _

theorem v582_at (n : Fin 4096) (j : Fin 1024) : val_main_v582 (F := Ideal) x0 x1 x2 (ix2 n j)
    = gradB (colW x1 j) (colD x2 ⟨n.val / 2048, by omega⟩ j) (colA x0 ⟨n.val / 2048, by omega⟩ j ⟨n.val % 2048, by omega⟩)
      (colG x0 ⟨n.val / 2048, by omega⟩ j ⟨n.val % 2048, by omega⟩) (n.val % 2048) := by
  pointwise [val_main_v582, val_main_v581]
  exact v578_at x0 x1 x2 _ _ _

theorem v583_at (y : S31x1024.Idx) : val_main_v583 (F := Ideal) x0 x2 y
    = ∑ b : Fin 2, gradW (colD x2 b (y 1)) (colA x0 b (y 1)) (colG x0 b (y 1)) (y 0).val := by
  obtain ⟨i, j, rfl⟩ : ∃ (i : Fin 31) (j : Fin 1024), y = ix2 i j := ⟨y 0, y 1, by funext i; fin_cases i <;> rfl⟩
  have e : val_main_v573 (F := Ideal) x0 x2 (ix3 0 i j) = rowW x0 x2 i (ix1 j) := by
    rw [v573_eq, chain_at, Finset.sum_congr rfl fun k _ => tapW_at x0 x2 k i j, Finset.sum_ite_eq' Finset.univ i, if_pos (Finset.mem_univ i)]
  pointwise [val_main_v583]
  exact e.trans (rowW_at x0 x2 i j)

end Cert.Reference7Ideal.ConvTaps

end
-- ==== Proof.ConvTaps.Claim.lean ====
/- The claim about the convolution's backward step. -/
module

public import proofs.«01_k».proof.Proof.ConvTaps.Kernel
public import proofs.«01_k».proof.Proof.ConvTaps.Reference
public import proofs.«01_k».proof.Defs
public import proofs.«01_k».proof.Proof.Gen.Kernel7Ideal.Value
public import proofs.«01_k».proof.Proof.Gen.Reference7Ideal.Run
public import proofs.«01_k».proof.Proof.Gen.Kernel7Ideal.Launch

@[expose] public section

set_option maxRecDepth 16384

noncomputable section

namespace Cert.ConvTaps

open Idealize.ShloMosaic Idealize.ShloMosaic.TcCoe Idealize.SL.Sem

set_option maxHeartbeats 1000000 in
/-- The kernel of the convolution's backward step computes the gradients at both factors of the gated unit and at the weights. -/
theorem algebraic : algebraic_Kernel7Ideal_Reference7Ideal (hKernel7Ideal := Kernel7Ideal.Gen.facts) (hReference7Ideal := Reference7Ideal.Gen.facts) := by
  intro m g m' g' _ hargs
  refine ⟨fun c => (Kernel7Ideal.Gen.dats m 0 c).arrAt 4 Kernel7Ideal.cfg0.N, fun c => (Kernel7Ideal.Gen.dats m 0 c).arrAt 5 Kernel7Ideal.cfg0.N,
    fun c => (Kernel7Ideal.Gen.dats m 0 c).arrAt 6 Kernel7Ideal.cfg0.N,
    Kernel7Ideal.Value.run_blocks m g, (θ_run Reference7Ideal.defs _ _).mono (fun r h c => ?_) (Reference7Ideal.Value.run m' g')⟩
  obtain ⟨a0, a1, a2⟩ := hargs c
  obtain ⟨h0, h1, h2, h3⟩ := h c
  have e0 := h0.trans (Reference7Ideal.Read.val_main_v580_eq _)
  have e1 := h1.trans (Reference7Ideal.Read.val_main_v582_eq _)
  have e2 := h2.trans (Reference7Ideal.Read.val_main_v583_eq _)
  clear h0 h1 h2
  refine ⟨e0.trans ?_, e1.trans ?_, e2.trans ?_, h3⟩
  · refine Eq.trans (funext fun y => ?_) (Kernel7Ideal.ConvTaps.final4 m c).symm
    obtain ⟨n, j, rfl⟩ : ∃ (n : Fin 4096) (j : Fin 1024), y = ix2 n j := ⟨y 0, y 1, by funext i; fin_cases i <;> rfl⟩
    refine Eq.trans ?_ (Reference7Ideal.ConvTaps.v580_at _ _ _ n j)
    rw [← a0, ← a1, ← a2]
  · refine Eq.trans (funext fun y => ?_) (Kernel7Ideal.ConvTaps.final5 m c).symm
    obtain ⟨n, j, rfl⟩ : ∃ (n : Fin 4096) (j : Fin 1024), y = ix2 n j := ⟨y 0, y 1, by funext i; fin_cases i <;> rfl⟩
    refine Eq.trans ?_ (Reference7Ideal.ConvTaps.v582_at _ _ _ n j)
    rw [← a0, ← a1, ← a2]
  · refine Eq.trans (funext fun y => ?_) (Kernel7Ideal.ConvTaps.final6 m c).symm
    refine Eq.trans ?_ (Reference7Ideal.ConvTaps.v583_at _ _ y)
    rw [← a0, ← a2]

end Cert.ConvTaps

end
-- ==== Proof.AttnFwd.Ops.lean ====
/- The forward attention of a block of queries, as chains of the values it computes. -/
module

public import proofs.«01_k».proof.Proof.Gen.Kernel8Ideal.Loops
public import Idealize.ShloMosaic.Lib.Pipeline.ValueKit
public import Idealize.ShloMosaic.Lib.WholeRead

@[expose] public section

set_option maxRecDepth 16384

noncomputable section

namespace Cert.Kernel8Ideal.AttnFwd

open Cert.Kernel8Ideal Cert.Kernel8Ideal.Gen
open Idealize.ShloMosaic Idealize.ShloMosaic.TcCoe Idealize.ShloMosaic.Tactic

variable {F : FTy → Type} [FloatOps F] [Named F]

/-- The lane numbers. -/
def lane : IVec S512x128 32 := iota .tc S512x128 32 [1] iota_S512x128_d1_w32

/-- A head's running maximum and sums after `n` whole blocks of keys. -/
def chain (Q : FVec F S512x128 .bf16) (K V : ℕ → Vec F S1x1x512x128 .bf16) : ℕ → FVec F S512x1 .f32 × FVec F S512x128 .f32
  | 0 => (k0_pay37, k0_pay38)
  | n + 1 => (k0_pay4 Q (chain Q K V n).1 (K n), k0_pay5 Q (chain Q K V n).1 (chain Q K V n).2 (K n) (V n))

/-- And after the queries' own block. -/
def lastMax (Q : FVec F S512x128 .bf16) (K V : ℕ → Vec F S1x1x512x128 .bf16) (n : ℕ) : FVec F S512x1 .f32 := k0_pay46 Q (chain Q K V n).1 (K n)
def lastSum (Q : FVec F S512x128 .bf16) (K V : ℕ → Vec F S1x1x512x128 .bf16) (n : ℕ) : FVec F S512x128 .f32 :=
  k0_pay47 Q (chain Q K V n).1 (chain Q K V n).2 (K n) (V n)

/-- Block `n` of 512 rows of one head. -/
def rows {R : ℕ} [NeZero R] (x : Vec F ⟨4, ![1, 4, R, 128]⟩ .bf16) (e : Fin 4) (n : ℕ) : Vec F S1x1x512x128 .bf16 :=
  fun y => x (ix4 0 e (Fin.ofNat R (512 * n + (y 2).val)) (y 3))

theorem load_rows {R : ℕ} [NeZero R] {a : Memref sig .tc .vmem ⟨4, ![1, 4, R, 128]⟩ .bf16} (h : a.IsWhole) (x : Vec F ⟨4, ![1, 4, R, 128]⟩ .bf16) (e : Fin 4) (n : ℕ)
    {off : Fin 4 → ℕ} (ho : off = ![0, e.val, 512 * n, 0]) (inb : ∀ d, off d + S1x1x512x128.size d ≤ (⟨4, ![1, 4, R, 128]⟩ : Shape).size d) :
    View.readAt (Elt F) a.view (Rect.unit (s := ⟨4, ![1, 4, R, 128]⟩) off S1x1x512x128.size inb).toLoadRect (h.unread x) = rows x e n := by
  subst ho
  funext y
  refine (h.readAt_unread x _ y).trans ?_
  refine congrArg x (funext fun d => ?_)
  have i2 : 512 * n + 512 ≤ R := inb 2
  have y2 : (y 2).val < 512 := (y 2).isLt
  have y0 : (y 0).val < 1 := (y 0).isLt
  have y1 : (y 1).val < 1 := (y 1).isLt
  fin_cases d
  · exact Fin.ext (show 0 + 1 * (y 0).val = 0 by omega)
  · exact Fin.ext (show e.val + 1 * (y 1).val = e.val by omega)
  · exact Fin.ext ((show 512 * n + 1 * (y 2).val = 512 * n + (y 2).val by omega).trans (Nat.mod_eq_of_lt (show 512 * n + (y 2).val < R by omega)).symm)
  · exact Fin.ext (show 0 + 1 * (y 3).val = (y 3).val by omega)

theorem trips1 : ∀ i : grid0.Coords, (k0_t1_loop i).trips = (i 2).val := by decide +kernel
theorem trips2 (i : grid0.Coords) : (k0_t2_loop i).trips = 0 := Nat.le_zero.mp (k0_t2_abs i).2.1

section runs

variable (c : Dev nD) (i : grid0.Coords) (arg3 : Memref sig .tc .vmem S1x4x512x128 .bf16) (harg3 : arg3.IsWhole) (arg4 : Memref sig .tc .vmem S1x4x2048x128 .bf16) (harg4 : arg4.IsWhole)
  (arg5 : Memref sig .tc .vmem S1x4x2048x128 .bf16) (harg5 : arg5.IsWhole) (arg6 : Memref sig .tc .vmem S512x256 .f32) (harg6 : arg6.IsWhole)
  (arg7 : Memref sig .tc .vmem S1x4x512x128 .bf16) (harg7 : arg7.IsWhole) (x0 : Vec F S1x4x512x128 .bf16) (x1 x2 : Vec F S1x4x2048x128 .bf16)

/-- A block of keys or values of the head, as a trip loads it. -/
abbrev ld {R : ℕ} (a : Memref sig .tc .vmem ⟨4, ![1, 4, R, 128]⟩ .bf16) (X : a.view.ty.Contents (Elt F)) (off : Fin 4 → ℕ)
    (inb : ∀ d, off d + S1x1x512x128.size d ≤ (⟨4, ![1, 4, R, 128]⟩ : Shape).size d) : Vec F S1x1x512x128 .bf16 :=
  View.readAt (Elt F) a.view (Rect.unit (s := ⟨4, ![1, 4, R, 128]⟩) off S1x1x512x128.size inb).toLoadRect X

theorem trip_eq 𝒱 bd v1 v3 v5 v7 X4 X5 k (m0 m1 m2 m3 : FVec F S512x1 .f32) (a0 a1 a2 a3 : FVec F S512x128 .f32) :
    (trip_k0_t1 (F := F) 𝒱 c bd i arg3 harg3 arg4 harg4 arg5 harg5 arg6 harg6 arg7 harg7 v1 v3 v5 v7 X4 X5 k).1 (m0, a0, m1, a1, m2, a2, m3, a3)
      = (k0_pay4 (k0_pay33 v1) m0 (ld arg4 X4 _ (k0_off1_inb i k)), k0_pay5 (k0_pay33 v1) m0 a0 (ld arg4 X4 _ (k0_off1_inb i k)) (ld arg5 X5 _ (k0_off1_inb i k)),
        k0_pay4 (k0_pay34 v3) m1 (ld arg4 X4 _ (k0_off2_inb i k)), k0_pay5 (k0_pay34 v3) m1 a1 (ld arg4 X4 _ (k0_off2_inb i k)) (ld arg5 X5 _ (k0_off2_inb i k)),
        k0_pay4 (k0_pay35 v5) m2 (ld arg4 X4 _ (k0_off3_inb i k)), k0_pay5 (k0_pay35 v5) m2 a2 (ld arg4 X4 _ (k0_off3_inb i k)) (ld arg5 X5 _ (k0_off3_inb i k)),
        k0_pay4 (k0_pay36 v7) m3 (ld arg4 X4 _ (k0_off4_inb i k)), k0_pay5 (k0_pay36 v7) m3 a3 (ld arg4 X4 _ (k0_off4_inb i k)) (ld arg5 X5 _ (k0_off4_inb i k))) := by
  unfold trip_k0_t1
  rfl

/-- The four heads after `n` trips. -/
theorem st_eq 𝒱 bd v1 v3 v5 v7 : ∀ n : ℕ, n ≤ (k0_t1_loop i).trips →
    st_k0_t1 (F := F) 𝒱 c bd i arg3 harg3 arg4 harg4 arg5 harg5 arg6 harg6 arg7 harg7 v1 v3 v5 v7 (harg4.unread x1) (harg5.unread x2)
      (k0_pay37, k0_pay38, k0_pay39, k0_pay40, k0_pay41, k0_pay42, k0_pay43, k0_pay44) n
      = ((chain (k0_pay33 v1) (rows x1 0) (rows x2 0) n).1, (chain (k0_pay33 v1) (rows x1 0) (rows x2 0) n).2,
        (chain (k0_pay34 v3) (rows x1 1) (rows x2 1) n).1, (chain (k0_pay34 v3) (rows x1 1) (rows x2 1) n).2,
        (chain (k0_pay35 v5) (rows x1 2) (rows x2 2) n).1, (chain (k0_pay35 v5) (rows x1 2) (rows x2 2) n).2,
        (chain (k0_pay36 v7) (rows x1 3) (rows x2 3) n).1, (chain (k0_pay36 v7) (rows x1 3) (rows x2 3) n).2)
  | 0, _ => rfl
  | n + 1, h => by
    have e := st_k0_t1_succ (F := F) 𝒱 c bd i arg3 harg3 arg4 harg4 arg5 harg5 arg6 harg6 arg7 harg7 v1 v3 v5 v7 (harg4.unread x1) (harg5.unread x2)
      (k0_pay37, k0_pay38, k0_pay39, k0_pay40, k0_pay41, k0_pay42, k0_pay43, k0_pay44) ⟨n, h⟩
    refine e.trans ?_
    rw [st_eq 𝒱 bd v1 v3 v5 v7 n (Nat.le_of_succ_le h)]
    refine (trip_eq c i arg3 harg3 arg4 harg4 arg5 harg5 arg6 harg6 arg7 harg7 𝒱 bd v1 v3 v5 v7 (harg4.unread x1) (harg5.unread x2) ⟨n, h⟩ _ _ _ _ _ _ _ _).trans ?_
    unfold ld
    rw [load_rows (R := 2048) harg4 x1 0 n (k0_off1_eq i ⟨n, h⟩), load_rows (R := 2048) harg5 x2 0 n (k0_off1_eq i ⟨n, h⟩),
      load_rows (R := 2048) harg4 x1 1 n (k0_off2_eq i ⟨n, h⟩), load_rows (R := 2048) harg5 x2 1 n (k0_off2_eq i ⟨n, h⟩),
      load_rows (R := 2048) harg4 x1 2 n (k0_off3_eq i ⟨n, h⟩), load_rows (R := 2048) harg5 x2 2 n (k0_off3_eq i ⟨n, h⟩),
      load_rows (R := 2048) harg4 x1 3 n (k0_off4_eq i ⟨n, h⟩), load_rows (R := 2048) harg5 x2 3 n (k0_off4_eq i ⟨n, h⟩)]
    rfl

end runs

end Cert.Kernel8Ideal.AttnFwd

end
-- ==== Proof.AttnFwd.Run.lean ====
/- What the forward attention writes at a grid point, of the blocks it reads. -/
module

public import proofs.«01_k».proof.Proof.AttnFwd.Ops
public import proofs.«01_k».proof.Proof.Gen.Kernel8Ideal.Frame.RunA

@[expose] public section

set_option maxRecDepth 16384

noncomputable section

namespace Cert.Kernel8Ideal.AttnFwd

open Cert.Kernel8Ideal Cert.Kernel8Ideal.Gen
open Idealize.ShloMosaic Idealize.ShloMosaic.TcCoe Idealize.ShloMosaic.Tactic

variable {F : FTy → Type} [FloatOps F] [Named F]

/-- The queries of a head. -/
def query (x : Vec F S1x4x512x128 .bf16) (e : Fin 4) : FVec F S512x128 .bf16 := k0_pay33 (rows x e 0)

/-- The sums and the maximum a head ends with, at block `n` of its queries. -/
def endMax (x0 : Vec F S1x4x512x128 .bf16) (x1 x2 : Vec F S1x4x2048x128 .bf16) (n : ℕ) (e : Fin 4) : FVec F S512x1 .f32 := lastMax (query x0 e) (rows x1 e) (rows x2 e) n
def endSum (x0 : Vec F S1x4x512x128 .bf16) (x1 x2 : Vec F S1x4x2048x128 .bf16) (n : ℕ) (e : Fin 4) : FVec F S512x128 .f32 := lastSum (query x0 e) (rows x1 e) (rows x2 e) n

/-- What a head leaves: the sums divided, and the queries with the normalisers in three of their lanes. -/
def divided (x0 : Vec F S1x4x512x128 .bf16) (x1 x2 : Vec F S1x4x2048x128 .bf16) (n : ℕ) (e : Fin 4) : FVec F S512x128 .f32 := k0_pay63 lane (endSum x0 x1 x2 n e)
def saved (x0 : Vec F S1x4x512x128 .bf16) (x1 x2 : Vec F S1x4x2048x128 .bf16) (n : ℕ) (e : Fin 4) : FVec F S1x1x512x128 .bf16 :=
  k0_pay87 lane (query x0 e) (endMax x0 x1 x2 n e) (endSum x0 x1 x2 n e)

variable (c : Dev nD) (i : grid0.Coords) (arg3 : Memref sig .tc .vmem S1x4x512x128 .bf16) (harg3 : arg3.IsWhole) (arg4 : Memref sig .tc .vmem S1x4x2048x128 .bf16) (harg4 : arg4.IsWhole)
  (arg5 : Memref sig .tc .vmem S1x4x2048x128 .bf16) (harg5 : arg5.IsWhole) (arg6 : Memref sig .tc .vmem S512x256 .f32) (harg6 : arg6.IsWhole)
  (arg7 : Memref sig .tc .vmem S1x4x512x128 .bf16) (harg7 : arg7.IsWhole) (x0 : Vec F S1x4x512x128 .bf16) (x1 x2 : Vec F S1x4x2048x128 .bf16)

abbrev head0 : Vec F S1x1x512x128 .bf16 := ld arg3 (harg3.unread x0) ![0, 0, 0, 0] inb_S1x4x512x128_S1x1x512x128_0_0_0_0
abbrev head1 : Vec F S1x1x512x128 .bf16 := ld arg3 (harg3.unread x0) ![0, 1, 0, 0] inb_S1x4x512x128_S1x1x512x128_0_1_0_0
abbrev head2 : Vec F S1x1x512x128 .bf16 := ld arg3 (harg3.unread x0) ![0, 2, 0, 0] inb_S1x4x512x128_S1x1x512x128_0_2_0_0
abbrev head3 : Vec F S1x1x512x128 .bf16 := ld arg3 (harg3.unread x0) ![0, 3, 0, 0] inb_S1x4x512x128_S1x1x512x128_0_3_0_0

/-- The four heads after the first loop, and after the second, which never turns. -/
abbrev mid := st_k0_t1 (F := F) Variants.none c none i arg3 harg3 arg4 harg4 arg5 harg5 arg6 harg6 arg7 harg7 (head0 arg3 harg3 x0) (head1 arg3 harg3 x0) (head2 arg3 harg3 x0) (head3 arg3 harg3 x0)
  (harg4.unread x1) (harg5.unread x2) (k0_pay37, k0_pay38, k0_pay39, k0_pay40, k0_pay41, k0_pay42, k0_pay43, k0_pay44) (k0_t1_loop i).trips
abbrev fin := st_k0_t2 (F := F) Variants.none c none i arg3 harg3 arg4 harg4 arg5 harg5 arg6 harg6 arg7 harg7 (head0 arg3 harg3 x0) (head1 arg3 harg3 x0) (head2 arg3 harg3 x0) (head3 arg3 harg3 x0)
  (Scalar.addi 0#32 (Scalar.muli (Scalar.divsi (Scalar.subi (Scalar.muli (BitVec.ofNat 32 (i 2).val) 1#32) 0#32) 1#32) 1#32))
  (harg4.unread x1) (harg5.unread x2) (mid c i arg3 harg3 arg4 harg4 arg5 harg5 arg6 harg6 arg7 harg7 x0 x1 x2) (k0_t2_loop i).trips

/-- The pieces written, of the state after the loops. -/
def piecesA (s : FVec F S512x1 .f32 × FVec F S512x128 .f32 × FVec F S512x1 .f32 × FVec F S512x128 .f32 × FVec F S512x1 .f32 × FVec F S512x128 .f32 × FVec F S512x1 .f32 × FVec F S512x128 .f32)
    (q0 q1 q2 q3 k0 k1 k2 k3 v0 v1 v2 v3 : Vec F S1x1x512x128 .bf16) : List (View.Piece (Elt F) S512x256 .f32) :=
  [⟨Rect.unit (s := S512x256) ![0, 128] S512x128.size inb_S512x256_S512x128_0_128, k0_pay2 lane (k0_pay63 lane (k0_pay47 (k0_pay35 q2) s.2.2.2.2.1 s.2.2.2.2.2.1 k2 v2)) (k0_pay63 lane (k0_pay47 (k0_pay36 q3) s.2.2.2.2.2.2.1 s.2.2.2.2.2.2.2 k3 v3))⟩,
   ⟨Rect.unit (s := S512x256) ![0, 0] S512x128.size inb_S512x256_S512x128_0_0, k0_pay2 lane (k0_pay63 lane (k0_pay47 (k0_pay33 q0) s.1 s.2.1 k0 v0)) (k0_pay63 lane (k0_pay47 (k0_pay34 q1) s.2.2.1 s.2.2.2.1 k1 v1))⟩]
def piecesB (s : FVec F S512x1 .f32 × FVec F S512x128 .f32 × FVec F S512x1 .f32 × FVec F S512x128 .f32 × FVec F S512x1 .f32 × FVec F S512x128 .f32 × FVec F S512x1 .f32 × FVec F S512x128 .f32)
    (q0 q1 q2 q3 k0 k1 k2 k3 v0 v1 v2 v3 : Vec F S1x1x512x128 .bf16) : List (View.Piece (Elt F) S1x4x512x128 .bf16) :=
  [⟨Rect.unit (s := S1x4x512x128) ![0, 3, 0, 0] S1x1x512x128.size inb_S1x4x512x128_S1x1x512x128_0_3_0_0, k0_pay87 lane (k0_pay36 q3) (k0_pay46 (k0_pay36 q3) s.2.2.2.2.2.2.1 k3) (k0_pay47 (k0_pay36 q3) s.2.2.2.2.2.2.1 s.2.2.2.2.2.2.2 k3 v3)⟩,
   ⟨Rect.unit (s := S1x4x512x128) ![0, 2, 0, 0] S1x1x512x128.size inb_S1x4x512x128_S1x1x512x128_0_2_0_0, k0_pay87 lane (k0_pay35 q2) (k0_pay46 (k0_pay35 q2) s.2.2.2.2.1 k2) (k0_pay47 (k0_pay35 q2) s.2.2.2.2.1 s.2.2.2.2.2.1 k2 v2)⟩,
   ⟨Rect.unit (s := S1x4x512x128) ![0, 1, 0, 0] S1x1x512x128.size inb_S1x4x512x128_S1x1x512x128_0_1_0_0, k0_pay87 lane (k0_pay34 q1) (k0_pay46 (k0_pay34 q1) s.2.2.1 k1) (k0_pay47 (k0_pay34 q1) s.2.2.1 s.2.2.2.1 k1 v1)⟩,
   ⟨Rect.unit (s := S1x4x512x128) ![0, 0, 0, 0] S1x1x512x128.size inb_S1x4x512x128_S1x1x512x128_0_0_0_0, k0_pay87 lane (k0_pay33 q0) (k0_pay46 (k0_pay33 q0) s.1 k0) (k0_pay47 (k0_pay33 q0) s.1 s.2.1 k0 v0)⟩]

theorem fin_eq : fin c i arg3 harg3 arg4 harg4 arg5 harg5 arg6 harg6 arg7 harg7 x0 x1 x2
    = ((chain (query x0 0) (rows x1 0) (rows x2 0) (i 2).val).1, (chain (query x0 0) (rows x1 0) (rows x2 0) (i 2).val).2,
        (chain (query x0 1) (rows x1 1) (rows x2 1) (i 2).val).1, (chain (query x0 1) (rows x1 1) (rows x2 1) (i 2).val).2,
        (chain (query x0 2) (rows x1 2) (rows x2 2) (i 2).val).1, (chain (query x0 2) (rows x1 2) (rows x2 2) (i 2).val).2,
        (chain (query x0 3) (rows x1 3) (rows x2 3) (i 2).val).1, (chain (query x0 3) (rows x1 3) (rows x2 3) (i 2).val).2) := by
  unfold fin
  rw [trips2 i]
  refine (st_k0_t2_zero (F := F) _ _ _ _ _ _ _ _ _ _ _ _ _ _ _ _ _ _ _ _ _ _).trans ?_
  unfold mid head0 head1 head2 head3 ld
  rw [load_rows (R := 512) harg3 x0 0 0 (off := ![0, 0, 0, 0]) rfl, load_rows (R := 512) harg3 x0 1 0 (off := ![0, 1, 0, 0]) rfl, load_rows (R := 512) harg3 x0 2 0 (off := ![0, 2, 0, 0]) rfl, load_rows (R := 512) harg3 x0 3 0 (off := ![0, 3, 0, 0]) rfl]
  refine (st_eq (F := F) c i arg3 harg3 arg4 harg4 arg5 harg5 arg6 harg6 arg7 harg7 x1 x2 _ _ _ _ _ _ _ le_rfl).trans ?_
  rw [trips1 i]
  rfl

theorem run_A : (kernelRun0_A (F := F) c i arg3 harg3 arg4 harg4 arg5 harg5 arg6 harg6 arg7 harg7 x0 x1 x2).1
    = piecesA (fin c i arg3 harg3 arg4 harg4 arg5 harg5 arg6 harg6 arg7 harg7 x0 x1 x2) (head0 arg3 harg3 x0) (head1 arg3 harg3 x0) (head2 arg3 harg3 x0) (head3 arg3 harg3 x0)
      (ld arg4 (harg4.unread x1) _ (k0_off9_inb i)) (ld arg4 (harg4.unread x1) _ (k0_off10_inb i)) (ld arg4 (harg4.unread x1) _ (k0_off11_inb i)) (ld arg4 (harg4.unread x1) _ (k0_off12_inb i))
      (ld arg5 (harg5.unread x2) _ (k0_off9_inb i)) (ld arg5 (harg5.unread x2) _ (k0_off10_inb i)) (ld arg5 (harg5.unread x2) _ (k0_off11_inb i)) (ld arg5 (harg5.unread x2) _ (k0_off12_inb i)) := by
  unfold kernelRun0_A
  dsimp only
  rfl

theorem run_B : (kernelRun0_A (F := F) c i arg3 harg3 arg4 harg4 arg5 harg5 arg6 harg6 arg7 harg7 x0 x1 x2).2.1
    = piecesB (fin c i arg3 harg3 arg4 harg4 arg5 harg5 arg6 harg6 arg7 harg7 x0 x1 x2) (head0 arg3 harg3 x0) (head1 arg3 harg3 x0) (head2 arg3 harg3 x0) (head3 arg3 harg3 x0)
      (ld arg4 (harg4.unread x1) _ (k0_off9_inb i)) (ld arg4 (harg4.unread x1) _ (k0_off10_inb i)) (ld arg4 (harg4.unread x1) _ (k0_off11_inb i)) (ld arg4 (harg4.unread x1) _ (k0_off12_inb i))
      (ld arg5 (harg5.unread x2) _ (k0_off9_inb i)) (ld arg5 (harg5.unread x2) _ (k0_off10_inb i)) (ld arg5 (harg5.unread x2) _ (k0_off11_inb i)) (ld arg5 (harg5.unread x2) _ (k0_off12_inb i)) := by
  unfold kernelRun0_A
  dsimp only
  sl_kernel_rfl

/-- The two written blocks, of the blocks read. -/
theorem out_A : (kernelRun0_A (F := F) c i arg3 harg3 arg4 harg4 arg5 harg5 arg6 harg6 arg7 harg7 x0 x1 x2).1
    = [⟨Rect.unit (s := S512x256) ![0, 128] S512x128.size inb_S512x256_S512x128_0_128, k0_pay2 lane (divided x0 x1 x2 (i 2).val 2) (divided x0 x1 x2 (i 2).val 3)⟩,
       ⟨Rect.unit (s := S512x256) ![0, 0] S512x128.size inb_S512x256_S512x128_0_0, k0_pay2 lane (divided x0 x1 x2 (i 2).val 0) (divided x0 x1 x2 (i 2).val 1)⟩] := by
  rw [run_A, fin_eq]
  unfold head0 head1 head2 head3 ld
  rw [load_rows (R := 512) harg3 x0 0 0 (off := ![0, 0, 0, 0]) rfl, load_rows (R := 512) harg3 x0 1 0 (off := ![0, 1, 0, 0]) rfl, load_rows (R := 512) harg3 x0 2 0 (off := ![0, 2, 0, 0]) rfl, load_rows (R := 512) harg3 x0 3 0 (off := ![0, 3, 0, 0]) rfl,
    load_rows (R := 2048) harg4 x1 0 _ (k0_off9_eq i), load_rows (R := 2048) harg4 x1 1 _ (k0_off10_eq i), load_rows (R := 2048) harg4 x1 2 _ (k0_off11_eq i), load_rows (R := 2048) harg4 x1 3 _ (k0_off12_eq i),
    load_rows (R := 2048) harg5 x2 0 _ (k0_off9_eq i), load_rows (R := 2048) harg5 x2 1 _ (k0_off10_eq i), load_rows (R := 2048) harg5 x2 2 _ (k0_off11_eq i), load_rows (R := 2048) harg5 x2 3 _ (k0_off12_eq i)]
  rfl

theorem out_B : (kernelRun0_A (F := F) c i arg3 harg3 arg4 harg4 arg5 harg5 arg6 harg6 arg7 harg7 x0 x1 x2).2.1
    = [⟨Rect.unit (s := S1x4x512x128) ![0, 3, 0, 0] S1x1x512x128.size inb_S1x4x512x128_S1x1x512x128_0_3_0_0, saved x0 x1 x2 (i 2).val 3⟩,
       ⟨Rect.unit (s := S1x4x512x128) ![0, 2, 0, 0] S1x1x512x128.size inb_S1x4x512x128_S1x1x512x128_0_2_0_0, saved x0 x1 x2 (i 2).val 2⟩,
       ⟨Rect.unit (s := S1x4x512x128) ![0, 1, 0, 0] S1x1x512x128.size inb_S1x4x512x128_S1x1x512x128_0_1_0_0, saved x0 x1 x2 (i 2).val 1⟩,
       ⟨Rect.unit (s := S1x4x512x128) ![0, 0, 0, 0] S1x1x512x128.size inb_S1x4x512x128_S1x1x512x128_0_0_0_0, saved x0 x1 x2 (i 2).val 0⟩] := by
  rw [run_B, fin_eq]
  unfold head0 head1 head2 head3 ld
  rw [load_rows (R := 512) harg3 x0 0 0 (off := ![0, 0, 0, 0]) rfl, load_rows (R := 512) harg3 x0 1 0 (off := ![0, 1, 0, 0]) rfl, load_rows (R := 512) harg3 x0 2 0 (off := ![0, 2, 0, 0]) rfl, load_rows (R := 512) harg3 x0 3 0 (off := ![0, 3, 0, 0]) rfl,
    load_rows (R := 2048) harg4 x1 0 _ (k0_off9_eq i), load_rows (R := 2048) harg4 x1 1 _ (k0_off10_eq i), load_rows (R := 2048) harg4 x1 2 _ (k0_off11_eq i), load_rows (R := 2048) harg4 x1 3 _ (k0_off12_eq i),
    load_rows (R := 2048) harg5 x2 0 _ (k0_off9_eq i), load_rows (R := 2048) harg5 x2 1 _ (k0_off10_eq i), load_rows (R := 2048) harg5 x2 2 _ (k0_off11_eq i), load_rows (R := 2048) harg5 x2 3 _ (k0_off12_eq i)]
  rfl

end Cert.Kernel8Ideal.AttnFwd

end
-- ==== Proof.AttnFwd.Math.lean ====
/- The running maximum and sums of a causal softmax read block by block, over the reals. -/
module

public import proofs.«01_k».proof.Proof.AttnBwd.Softmax

@[expose] public section

set_option maxRecDepth 16384

noncomputable section

namespace Cert.Attn

open Cert.Reals Idealize.ShloMosaic

/-- A position of a sequence, by its number. -/
def pos (s : ℕ) : Fin 2048 := ⟨s % 2048, by omega⟩

theorem pos_val (s : Fin 2048) : pos s.val = s := Fin.ext (Nat.mod_eq_of_lt s.isLt)

/-- A row's running maximum and sums once the keys before `n` have been read: the sums carry a
    factor `exp (-M)` of a real number `M`, the maximum. -/
def Good (x : Fin 2048 → ℝ) (v : Fin 2048 → Fin 128 → ℝ) (t : Fin 2048) (n : ℕ) (m : EReal) (acc : Fin 128 → EReal) : Prop :=
  (n = 0 ∧ m = ⊥ ∧ ∀ l, acc l = 0)
    ∨ ∃ M : ℝ, m = (M : EReal) ∧ ∀ l, acc l = ((Real.exp (-M) * ∑ s ∈ Finset.range n, row x t (pos s) * v (pos s) l : ℝ) : EReal)

/-- The greatest score of a block some of whose scores count, and of what was read before. -/
theorem exists_real_max {w : ℕ} (x : Fin 2048 → ℝ) (t : Fin 2048) (b : Fin w → Fin 2048) (r : Fin w) (hr : b r ≤ t) (m : EReal) (hm : m < ⊤) :
    ∃ M : ℝ, max m (Finset.univ.fold max ⊥ fun i => masked x t (b i)) = (M : EReal) := by
  have lo : (x (b r) : EReal) ≤ max m (Finset.univ.fold max ⊥ fun i => masked x t (b i)) :=
    le_max_of_le_right ((Finset.le_fold_max _).mpr (Or.inr ⟨r, Finset.mem_univ r, by rw [masked, if_pos hr]⟩))
  have hi : max m (Finset.univ.fold max ⊥ fun i => masked x t (b i)) < ⊤ := by
    refine max_lt hm ((Finset.fold_max_lt _).mpr ⟨bot_lt_top, fun s _ => ?_⟩)
    unfold masked
    split_ifs
    · exact EReal.coe_lt_top _
    · exact bot_lt_top
  exact ⟨_, (EReal.coe_toReal hi.ne (ne_bot_of_le_ne_bot (EReal.coe_ne_bot _) lo)).symm⟩

/-- Reading a block of keys keeps the running maximum and sums good. -/
theorem Good.step {x : Fin 2048 → ℝ} {v : Fin 2048 → Fin 128 → ℝ} {t : Fin 2048} {n w : ℕ} {m : EReal} {acc : Fin 128 → EReal}
    (h : Good x v t n m acc) (hw : 0 < w) (ht : n ≤ t.val) {m' : EReal} {acc' : Fin 128 → EReal}
    (hm : m' = max m (Finset.univ.fold max ⊥ fun i : Fin w => masked x t (pos (n + i.val))))
    (ha : ∀ l, acc' l = Ideal.exp (m - m') * acc l + ∑ i : Fin w, Ideal.exp (masked x t (pos (n + i.val)) - m') * ((v (pos (n + i.val)) l : ℝ) : EReal)) :
    Good x v t (n + w) m' acc' := by
  have h0 : pos (n + (⟨0, hw⟩ : Fin w).val) ≤ t := by
    show (n + 0) % 2048 ≤ t.val
    have := t.isLt
    omega
  have top : m < ⊤ := by
    rcases h with ⟨_, rfl, _⟩ | ⟨M, rfl, _⟩
    · exact bot_lt_top
    · exact EReal.coe_lt_top _
  obtain ⟨M', e⟩ := exists_real_max x t (fun i : Fin w => pos (n + i.val)) ⟨0, hw⟩ h0 m top
  have em : m' = (M' : EReal) := hm.trans e
  refine Or.inr ⟨M', em, fun l => ?_⟩
  rw [ha l, em]
  have new : ∑ i : Fin w, Ideal.exp (masked x t (pos (n + i.val)) - (M' : EReal)) * ((v (pos (n + i.val)) l : ℝ) : EReal)
      = ((Real.exp (-M') * ∑ i ∈ Finset.range w, row x t (pos (n + i)) * v (pos (n + i)) l : ℝ) : EReal) := by
    rw [Finset.sum_range, Finset.mul_sum, coe_sum]
    refine Finset.sum_congr rfl fun i _ => ?_
    rw [exp_masked_sub, ← EReal.coe_mul, mul_assoc]
  have old : Ideal.exp (m - (M' : EReal)) * acc l = ((Real.exp (-M') * ∑ s ∈ Finset.range n, row x t (pos s) * v (pos s) l : ℝ) : EReal) := by
    rcases h with ⟨rfl, rfl, h⟩ | ⟨M, rfl, h⟩
    · rw [h l, mul_zero, Finset.range_zero, Finset.sum_empty, mul_zero]
      rfl
    · rw [h l, ← EReal.coe_sub, Ideal.exp_coe, ← EReal.coe_mul, ← mul_assoc, ← Real.exp_add]
      congr 4
      ring
  rw [new, old, ← EReal.coe_add, ← mul_add, Finset.sum_range_add]

/-- Once the row's own key has been read, the sums are those of the whole row. -/
theorem Good.whole {x : Fin 2048 → ℝ} {v : Fin 2048 → Fin 128 → ℝ} {t : Fin 2048} {n : ℕ} {m : EReal} {acc : Fin 128 → EReal}
    (h : Good x v t n m acc) (ht : t.val < n) (hn : n ≤ 2048) :
    ∃ M : ℝ, m = (M : EReal) ∧ ∀ l, acc l = ((Real.exp (-M) * ∑ s, row x t s * v s l : ℝ) : EReal) := by
  rcases h with ⟨rfl, _⟩ | ⟨M, e, h⟩
  · omega
  refine ⟨M, e, fun l => ?_⟩
  rw [h l]
  have all : ∑ s, row x t s * v s l = ∑ s ∈ Finset.range (n + (2048 - n)), row x t (pos s) * v (pos s) l := by
    rw [Nat.add_sub_cancel' hn, Finset.sum_range]
    exact Finset.sum_congr rfl fun s _ => by rw [pos_val]
  rw [all, Finset.sum_range_add, Finset.sum_eq_zero (s := Finset.range (2048 - n)), add_zero]
  intro s hs
  have hs := Finset.mem_range.mp hs
  rw [row, if_neg, zero_mul]
  show ¬ (n + s) % 2048 ≤ t.val
  omega

namespace Head

variable (a : Head)

/-- The lanes of a query before its row's normaliser is known. -/
def qRow (t : Fin 2048) (l : Fin 128) : ℝ :=
  if h : l.val < 64 then a.q t ⟨l.val, h⟩ else if l.val = 64 then a.c t else if l.val < 67 then 0 else if l.val < 70 then 1 else 0

theorem score_rows (t s : Fin 2048) : ∑ l, a.qRow t l * a.kLane s l = a.score t s := by
  rw [sum_lanes _ fun l hl => by
    have h : ¬ l.val < 64 ∧ l.val ≠ 64 ∧ ¬ l.val < 67 ∧ ¬ l.val < 70 := by omega
    simp [qRow, h]]
  have head (d : Fin 64) : a.qRow t ⟨d.val, by omega⟩ * a.kLane s ⟨d.val, by omega⟩ = a.q t d * a.k s d := by
    simp [kLane, qRow]
  rw [Finset.sum_congr rfl fun d _ => head d]
  simp [Fin.sum_univ_succ, kLane, qRow, score]
  ring

/-- The sums of a row divided by the one that adds up the weights. -/
theorem out_lanes (t : Fin 2048) (d : Fin 64) (M : ℝ) :
    Real.exp (-M) * ∑ s, row (a.score t) t s * a.vLane s ⟨d.val, by omega⟩ = a.out t d * (Real.exp (-M) * tot (a.score t) t) := by
  unfold out prob
  rw [Finset.sum_mul, Finset.mul_sum]
  refine Finset.sum_congr rfl fun s _ => ?_
  have h := (tot_pos (a.score t) t).ne'
  have e : a.vLane s ⟨d.val, by omega⟩ = a.v s d := by simp [vLane]
  rw [e]
  field_simp

theorem tot_lanes (t : Fin 2048) (M : ℝ) : Real.exp (-M) * ∑ s, row (a.score t) t s * a.vLane s 64 = Real.exp (-M) * tot (a.score t) t := by
  congr 1
  refine Finset.sum_congr rfl fun s _ => ?_
  simp [vLane]

end Head

end Cert.Attn

end
-- ==== Proof.AttnFwd.Payload.lean ====
/- Entries of the values computed by the forward attention. -/
module

public import proofs.«01_k».proof.Proof.AttnFwd.Math
public import proofs.«01_k».proof.Proof.AttnFwd.Ops

@[expose] public section

set_option maxRecDepth 16384

noncomputable section

namespace Cert.Kernel8Ideal.AttnFwd

open Cert.Kernel8Ideal Cert.Kernel8Ideal.Gen Cert.Attn Cert.Reals
open Idealize.ShloMosaic Idealize.ShloMosaic.TcCoe Idealize.ShloMosaic.Tactic

/-- Choices by the order of two numbers, or by their being equal. -/
theorem pick_le {α : Type} (s t : Fin 512) (x y : α) :
    Scalar.select (IntOp.cmpi .sle (BitVec.ofNat 32 s.val) (BitVec.ofNat 32 t.val)) x y = if s ≤ t then x else y := by
  have h := select_le (⟨s.val, by omega⟩ : Fin 2048) ⟨t.val, by omega⟩ x y
  exact h
theorem pick_eq {α : Type} (l k : Fin 128) (x y : α) :
    Scalar.select (IntOp.cmpi .eq (BitVec.ofNat 32 l.val) (BitVec.ofNat 32 k.val)) x y = if l = k then x else y := by
  have e : IntOp.cmpi .eq (BitVec.ofNat 32 l.val) (BitVec.ofNat 32 k.val) = if l = k then 1#1 else 0#1 := by
    revert l k
    decide +kernel
  rw [e]
  by_cases h : l = k
  · rw [if_pos h, if_pos h]; rfl
  · rw [if_neg h, if_neg h]; rfl
theorem pick_lt {α : Type} (l : Fin 128) (x y : α) :
    Scalar.select (IntOp.cmpi .slt (BitVec.ofNat 32 l.val) 64#32) x y = if l.val < 64 then x else y := by
  have e : IntOp.cmpi .slt (BitVec.ofNat 32 l.val) 64#32 = if l.val < 64 then 1#1 else 0#1 := by
    revert l
    decide +kernel
  rw [e]
  by_cases h : l.val < 64
  · rw [if_pos h, if_pos h]; rfl
  · rw [if_neg h, if_neg h]; rfl

theorem mask_bot : Named.named (F := Ideal) κ "mask" (φ := .f32) 0xF149F2CA#32 = (⊥ : EReal) := rfl

section steps

variable (Q : FVec Ideal S512x128 .bf16) (m : FVec Ideal S512x1 .f32) (acc : FVec Ideal S512x128 .f32) (K V : Vec Ideal S1x1x512x128 .bf16)

theorem pay4_at (r : Fin 512) : k0_pay4 Q m K (ix2 r 0)
    = max (m (ix2 r 0)) ((Finset.univ : Finset (Fin 512)).fold max ⊥ fun s => ∑ l : Fin 128, Q (ix2 r l) * K (ix4 0 0 s l)) := by
  pointwise [k0_pay4, k0_pay3]
  rw [ofBits_neg_inf]

theorem pay5_at (r : Fin 512) (l : Fin 128) : k0_pay5 Q m acc K V (ix2 r l)
    = Ideal.exp (m (ix2 r 0) - k0_pay4 Q m K (ix2 r 0)) * acc (ix2 r l)
      + ∑ s : Fin 512, Ideal.exp ((∑ l : Fin 128, Q (ix2 r l) * K (ix4 0 0 s l)) - k0_pay4 Q m K (ix2 r 0)) * V (ix4 0 0 s l) := by
  pointwise [k0_pay5, k0_pay3]

theorem pay46_at (r : Fin 512) : k0_pay46 Q m K (ix2 r 0)
    = max (m (ix2 r 0)) ((Finset.univ : Finset (Fin 512)).fold max ⊥ fun s => if s ≤ r then ∑ l : Fin 128, Q (ix2 r l) * K (ix4 0 0 s l) else ⊥) := by
  pointwise [k0_pay46, k0_pay45]
  rw [ofBits_neg_inf]
  simp only [pick_le, mask_bot]

theorem pay47_at (r : Fin 512) (l : Fin 128) : k0_pay47 Q m acc K V (ix2 r l)
    = Ideal.exp (m (ix2 r 0) - k0_pay46 Q m K (ix2 r 0)) * acc (ix2 r l)
      + ∑ s : Fin 512, Ideal.exp ((if s ≤ r then ∑ l : Fin 128, Q (ix2 r l) * K (ix4 0 0 s l) else ⊥) - k0_pay46 Q m K (ix2 r 0)) * V (ix4 0 0 s l) := by
  pointwise [k0_pay47, k0_pay45]
  simp only [pick_le, mask_bot]

variable {Q m acc K V} (a : Head) {n : ℕ} {r : Fin 512} {t : Fin 2048} (hQ : ∀ l, Q (ix2 r l) = (a.qRow t l : EReal))
  (hK : ∀ s l, K (ix4 0 0 s l) = (a.kLane (pos (n + s.val)) l : EReal)) (hV : ∀ s l, V (ix4 0 0 s l) = (a.vLane (pos (n + s.val)) l : EReal))
  (h : Good (a.score t) a.vLane t n (m (ix2 r 0)) fun l => acc (ix2 r l))
include hQ hK

theorem score_at (s : Fin 512) : ∑ l : Fin 128, Q (ix2 r l) * K (ix4 0 0 s l) = (a.score t (pos (n + s.val)) : EReal) := by
  simp only [hQ, hK, ← EReal.coe_mul, ← coe_sum, a.score_rows]

include hV h

/-- A block of keys before the queries' own. -/
theorem step_before (ht : n + 512 ≤ t.val) :
    Good (a.score t) a.vLane t (n + 512) (k0_pay4 Q m K (ix2 r 0)) fun l => k0_pay5 Q m acc K V (ix2 r l) := by
  have e : ∀ s : Fin 512, ∑ l : Fin 128, Q (ix2 r l) * K (ix4 0 0 s l) = masked (a.score t) t (pos (n + s.val)) := fun s => by
    rw [score_at a hQ hK, masked, if_pos]
    show (n + s.val) % 2048 ≤ t.val
    omega
  refine h.step (by norm_num) (by omega) ?_ fun l => ?_
  · rw [pay4_at]
    simp only [e]
  · rw [pay5_at]
    simp only [e, hV]

/-- The queries' own block. -/
theorem step_own (hn : n + 512 ≤ 2048) (ht : t.val = n + r.val) :
    Good (a.score t) a.vLane t (n + 512) (k0_pay46 Q m K (ix2 r 0)) fun l => k0_pay47 Q m acc K V (ix2 r l) := by
  have e : ∀ s : Fin 512, (if s ≤ r then ∑ l : Fin 128, Q (ix2 r l) * K (ix4 0 0 s l) else ⊥) = masked (a.score t) t (pos (n + s.val)) := fun s => by
    rw [score_at a hQ hK, masked]
    refine if_congr ?_ rfl rfl
    show s.val ≤ r.val ↔ (n + s.val) % 2048 ≤ t.val
    omega
  refine h.step (by norm_num) (by omega) ?_ fun l => ?_
  · rw [pay46_at]
    simp only [e]
  · rw [pay47_at]
    simp only [e, hV]

end steps

theorem pay37_at (y : S512x1.Idx) : k0_pay37 (F := Ideal) y = (⊥ : EReal) := rfl
theorem pay38_at (r : Fin 512) (l : Fin 128) : k0_pay38 (F := Ideal) (ix2 r l) = (0 : EReal) := by
  pointwise [k0_pay38]

section chains

variable {Q : FVec Ideal S512x128 .bf16} {K V : ℕ → Vec Ideal S1x1x512x128 .bf16} (a : Head) {i : ℕ} {r : Fin 512} {t : Fin 2048}
  (hi : i < 4) (ht : t.val = 512 * i + r.val) (hQ : ∀ l, Q (ix2 r l) = (a.qRow t l : EReal))
  (hK : ∀ n s l, K n (ix4 0 0 s l) = (a.kLane (pos (512 * n + s.val)) l : EReal)) (hV : ∀ n s l, V n (ix4 0 0 s l) = (a.vLane (pos (512 * n + s.val)) l : EReal))
include ht hQ hK hV

theorem chain_good : ∀ n : ℕ, n ≤ i → Good (a.score t) a.vLane t (512 * n) ((chain Q K V n).1 (ix2 r 0)) fun l => (chain Q K V n).2 (ix2 r l)
  | 0, _ => Or.inl ⟨rfl, pay37_at (ix2 r 0), fun l => pay38_at r l⟩
  | n + 1, h => step_before a hQ (hK n) (hV n) (chain_good n (Nat.le_of_succ_le h)) (show 512 * n + 512 ≤ t.val by omega)

include hi

theorem last_good : ∃ M : ℝ, lastMax Q K V i (ix2 r 0) = (M : EReal)
    ∧ ∀ l, lastSum Q K V i (ix2 r l) = ((Real.exp (-M) * ∑ s, row (a.score t) t s * a.vLane s l : ℝ) : EReal) :=
  (step_own a hQ (hK i) (hV i) (chain_good a ht hQ hK hV i le_rfl) (by omega) (by omega)).whole (by omega) (by omega)

end chains

section ends

variable (Q : FVec Ideal S512x128 .bf16) (m : FVec Ideal S512x1 .f32) (acc : FVec Ideal S512x128 .f32)

theorem pay62_at (r : Fin 512) : k0_pay62 lane acc (ix2 r 0) = acc (ix2 r 64) := by
  pointwise [k0_pay62, lane]
  refine (Finset.sum_congr rfl fun l _ => pick_eq l 64 _ _).trans ?_
  exact (Finset.sum_ite_eq' Finset.univ (64 : Fin 128) fun l => acc (ix2 r l)).trans (if_pos (Finset.mem_univ _))

theorem pay63_at (r : Fin 512) (l : Fin 128) : k0_pay63 lane acc (ix2 r l) = Ideal.div (acc (ix2 r l)) (acc (ix2 r 64)) := by
  pointwise [k0_pay63]
  rw [pay62_at]

theorem pay2_at (A B : FVec Ideal S512x128 .f32) (r : Fin 512) (l : Fin 128) :
    k0_pay2 lane A B (ix2 r l) = if l.val < 64 then A (ix2 r l) else B (ix2 r ⟨(l.val + 64) % 128, Nat.mod_lt _ (by norm_num)⟩) := by
  pointwise [k0_pay2, lane]
  exact pick_lt l _ _

theorem pay87_at (r : Fin 512) (l : Fin 128) (x : EReal) (hx : x = 0 - (m (ix2 r 0) + Ideal.log (acc (ix2 r 64)))) : k0_pay87 lane Q m acc (ix4 0 0 r l)
    = if l = 72 then x - x - (x - x) else if l = 71 then x - x else if l = 70 then x else Q (ix2 r l) := by
  have e : k0_pay85 (iota .tc S512x128 32 [1] iota_S512x128_d1_w32) acc (ix2 r 0) = acc (ix2 r 64) := pay62_at acc r
  pointwise [k0_pay87, lane]
  rw [e, ← hx]
  exact (pick_eq l 72 _ _).trans (if_congr Iff.rfl rfl ((pick_eq l 71 _ _).trans (if_congr Iff.rfl rfl (pick_eq l 70 _ _))))

variable {Q m acc} (a : Head) {r : Fin 512} {t : Fin 2048} {M : ℝ} (hQ : ∀ l, Q (ix2 r l) = (a.qRow t l : EReal)) (hm : m (ix2 r 0) = (M : EReal))
  (ha : ∀ l, acc (ix2 r l) = ((Real.exp (-M) * ∑ s, row (a.score t) t s * a.vLane s l : ℝ) : EReal))
include ha

theorem acc64 : acc (ix2 r 64) = ((Real.exp (-M) * tot (a.score t) t : ℝ) : EReal) := by
  rw [ha, a.tot_lanes]

theorem weight_pos : 0 < Real.exp (-M) * tot (a.score t) t := mul_pos (Real.exp_pos _) (tot_pos _ _)

/-- The sums divided are the head's output. -/
theorem divided_at (d : Fin 64) : k0_pay63 lane acc (ix2 r ⟨d.val, by omega⟩) = (a.out t d : EReal) := by
  rw [pay63_at, acc64 a ha, ha, a.out_lanes, div_real (weight_pos a ha).ne', mul_div_cancel_right₀ _ (weight_pos a ha).ne']

include hQ hm

/-- The saved row: the query with its normaliser. -/
theorem saved_at (l : Fin 128) : k0_pay87 lane Q m acc (ix4 0 0 r l) = (a.qLane t l : EReal) := by
  have hx : ((-Real.log (tot (a.score t) t) : ℝ) : EReal) = 0 - (m (ix2 r 0) + Ideal.log (acc (ix2 r 64))) := by
    rw [acc64 a ha, hm, Ideal.log_coe, if_neg (weight_pos a ha).not_ge, ← EReal.coe_add, log_weights, zero_sub, EReal.coe_neg]
  rw [pay87_at Q m acc r l _ hx, hQ]
  by_cases h72 : l = 72
  · subst h72
    rw [if_pos rfl, ← EReal.coe_sub, ← EReal.coe_sub, sub_self]
    rfl
  by_cases h71 : l = 71
  · subst h71
    rw [if_neg h72, if_pos rfl, ← EReal.coe_sub, sub_self]
    rfl
  by_cases h70 : l = 70
  · subst h70
    rw [if_neg h72, if_neg h71, if_pos rfl]
    rfl
  rw [if_neg h72, if_neg h71, if_neg h70]
  have h : l.val ≠ 70 := fun e => h70 (Fin.ext e)
  unfold Head.qLane Head.qRow
  rw [if_neg h]

end ends

end Cert.Kernel8Ideal.AttnFwd

end
-- ==== Proof.AttnFwd.Host.lean ====
/- The arrays the attention kernel reads. -/
module

public import proofs.«01_k».proof.Proof.AttnFwd.Math
public import proofs.«01_k».proof.Proof.AttnBwd.Lanes
public import proofs.«01_k».proof.Proof.Gen.Kernel8Ideal.Frame

@[expose] public section

set_option maxRecDepth 16384

noncomputable section

namespace Cert.Kernel8Ideal.AttnFwd

open Cert.Kernel8Ideal Cert.Kernel8Ideal.Gen Cert.Attn Cert.Reals
open Cert.Kernel2Ideal.AttnBwd (three ones packed kArr wide packed_at three_at ones_at)
open Idealize.ShloMosaic Idealize.ShloMosaic.TcCoe Idealize.ShloMosaic.Tactic

/-- The queries with their decay in three parts and the ones that meet that of the keys. -/
def queryArr (q : FVec Ideal S2x2048x16x64 .f32) (c : FVec Ideal S2x2048x16 .f32) : FVec Ideal S2x2048x16x128 .f32 :=
  concatenate S2x2048x16x128 3 [⟨S2x2048x16x64, q⟩, ⟨S2x2048x16x3, three c⟩, ⟨S2x2048x16x3, ones⟩,
      ⟨S2x2048x16x58, broadcastInDim S2x2048x16x58 ![] bcast_S_S2x2048x16x58 (constant S_ .f32 0x00000000#32)⟩]
    concatenates_S2x2048x16x64_S2x2048x16x3_S2x2048x16x3_S2x2048x16x58_S2x2048x16x128_d3

section operands

variable (m : (ℓ : Loc nD τ sig) → Buf (Elt Ideal) ℓ) (c : Dev nD)

abbrev arg0 : FVec Ideal S2x2048x16x64 .f32 := m ((c : Thread nD τ).loc main_arg0)
abbrev arg1 : FVec Ideal S2x2048x16x64 .f32 := m ((c : Thread nD τ).loc main_arg1)
abbrev arg2 : FVec Ideal S2x2048x16x64 .f32 := m ((c : Thread nD τ).loc main_arg2)
abbrev arg3 : FVec Ideal S2x2048x16 .f32 := m ((c : Thread nD τ).loc main_arg3)

set_option maxHeartbeats 2000000 in
theorem operand_q : V m c main_v16 = packed (queryArr (arg0 m c) (arg3 m c)) := by
  unfold V
  after_reads_simp
  rfl

set_option maxHeartbeats 2000000 in
theorem operand_k : V m c main_v33 = packed (kArr (arg1 m c) (arg3 m c)) := by
  unfold V
  after_reads_simp
  rfl

set_option maxHeartbeats 2000000 in
theorem operand_v : V m c main_v37 = packed (wide (arg2 m c) ones) := by
  unfold V
  after_reads_simp
  rfl

end operands

/-- The arguments hold the numbers of these heads, which have no gradient at the output yet. -/
abbrev Args (q k v : FVec Ideal S2x2048x16x64 .f32) (c : FVec Ideal S2x2048x16 .f32) (a : Fin 2 → Fin 16 → Head) : Prop :=
  Cert.Kernel2Ideal.AttnBwd.Args q k v (fun _ => 0) c a

variable {q k v : FVec Ideal S2x2048x16x64 .f32} {c : FVec Ideal S2x2048x16 .f32} {a : Fin 2 → Fin 16 → Head} (H : Args q k v c a)
include H

theorem query_row (b : Fin 2) (h : Fin 16) (s : Fin 2048) (l : Fin 128) : packed (queryArr q c) (ix4 b h s l) = ((a b h).qRow s l : EReal) := by
  refine (packed_at _ b h s l).trans ?_
  pointwise [queryArr]
  unfold Head.qRow
  by_cases c1 : l.val < 64
  · rw [dif_pos c1, dif_pos c1]
    exact H.hq _ _ _ _
  rw [dif_neg c1, dif_neg c1]
  by_cases c2 : l.val < 67
  · rw [dif_pos (by omega)]
    refine (three_at (H.hc b s h) ⟨l.val - 64, by omega⟩).trans (congrArg _ ?_)
    by_cases c3 : l.val = 64
    · rw [if_pos c3, if_pos (show l.val - 64 = 0 by omega)]
    · rw [if_neg c3, if_pos c2, if_neg (show ¬ l.val - 64 = 0 by omega)]
  rw [dif_neg (show ¬ l.val - 64 < 3 by omega), if_neg (show ¬ l.val = 64 by omega), if_neg c2]
  by_cases c3 : l.val < 70
  · rw [dif_pos (by omega), if_pos c3]
    exact ones_at b s h ⟨l.val - 67, by omega⟩
  rw [dif_neg (by omega), if_neg c3]
  exact rfl

end Cert.Kernel8Ideal.AttnFwd

end
-- ==== Proof.AttnFwd.Kernel.lean ====
/- What the attention kernel leaves in its two results. -/
module

public import proofs.«01_k».proof.Proof.AttnFwd.Run
public import proofs.«01_k».proof.Proof.AttnFwd.Payload
public import proofs.«01_k».proof.Proof.AttnFwd.Host
public import proofs.«01_k».proof.Proof.Tiles
public import proofs.«01_k».proof.Proof.Gen.Kernel8Ideal.Frame
public import Idealize.ShloMosaic.Lib.Claim

@[expose] public section

set_option maxRecDepth 16384

noncomputable section

namespace Cert.Kernel8Ideal.AttnFwd

open Cert.Kernel8Ideal Cert.Kernel8Ideal.Gen Cert.Attn Cert.Reals
open Cert.Kernel2Ideal.AttnBwd (k_at v_at)
open Idealize.ShloMosaic Idealize.ShloMosaic.TcCoe Idealize.ShloMosaic.Tactic Idealize.SL.Sem

/-! ### One head of one block -/

section block

theorem query_at (x : Vec Ideal S1x4x512x128 .bf16) (e : Fin 4) (r : Fin 512) (l : Fin 128) : query x e (ix2 r l) = x (ix4 0 e r l) := by
  have h : ∀ y : Vec Ideal S1x1x512x128 .bf16, k0_pay33 y (ix2 r l) = y (ix4 0 0 r l) := fun y => by pointwise [k0_pay33]
  refine (h _).trans (congrArg x (congrArg (fun z => ix4 (0 : Fin 1) e z l) (Fin.ext ?_)))
  show (512 * 0 + r.val) % 512 = r.val
  omega

theorem rows_at (x : Vec Ideal S1x4x2048x128 .bf16) (e : Fin 4) (n : ℕ) (s : Fin 512) (l : Fin 128) :
    rows x e n (ix4 0 0 s l) = x (ix4 0 e (pos (512 * n + s.val)) l) := rfl

variable {x0 : Vec Ideal S1x4x512x128 .bf16} {x1 x2 : Vec Ideal S1x4x2048x128 .bf16} (a : Head) {i : ℕ} {e : Fin 4} {r : Fin 512} {t : Fin 2048} (hi : i < 4)
  (ht : t.val = 512 * i + r.val) (h0 : ∀ l, x0 (ix4 0 e r l) = (a.qRow t l : EReal)) (h1 : ∀ s l, x1 (ix4 0 e s l) = (a.kLane s l : EReal))
  (h2 : ∀ s l, x2 (ix4 0 e s l) = (a.vLane s l : EReal))
include hi ht h0 h1 h2

theorem end_good : ∃ M : ℝ, endMax x0 x1 x2 i e (ix2 r 0) = (M : EReal)
    ∧ ∀ l, endSum x0 x1 x2 i e (ix2 r l) = ((Real.exp (-M) * ∑ s, row (a.score t) t s * a.vLane s l : ℝ) : EReal) :=
  last_good a hi ht (fun l => (query_at x0 e r l).trans (h0 l)) (fun n s l => (rows_at x1 e n s l).trans (h1 _ l))
    (fun n s l => (rows_at x2 e n s l).trans (h2 _ l))

theorem divided_block (d : Fin 64) : divided x0 x1 x2 i e (ix2 r ⟨d.val, by omega⟩) = (a.out t d : EReal) := by
  obtain ⟨M, -, ha⟩ := end_good a hi ht h0 h1 h2
  exact divided_at a ha d

theorem saved_block (l : Fin 128) : saved x0 x1 x2 i e (ix4 0 0 r l) = (a.qLane t l : EReal) := by
  obtain ⟨M, hm, ha⟩ := end_good a hi ht h0 h1 h2
  exact saved_at a (fun l => (query_at x0 e r l).trans (h0 l)) hm ha l

end block

/-! ### The pieces of the two written blocks -/

section pieces

theorem head_inb (e : Fin 4) : ∀ k, (![0, e.val, 0, 0] : Fin 4 → ℕ) k + S1x1x512x128.size k ≤ S1x4x512x128.size k := by
  intro k
  match k with
  | ⟨0, _⟩ => exact Nat.le_refl 1
  | ⟨1, _⟩ => show e.val + 1 ≤ 4; omega
  | ⟨2, _⟩ => exact Nat.le_refl 512
  | ⟨3, _⟩ => exact Nat.le_refl 128

abbrev headRect (e : Fin 4) : Rect S1x4x512x128 := Rect.unit ![0, e.val, 0, 0] S1x1x512x128.size (head_inb e)

theorem head_emb (e : Fin 4) (r : Fin 512) (l : Fin 128) : (headRect e).emb (ix4 (0 : Fin 1) (0 : Fin 1) r l) = ix4 (0 : Fin 1) e r l := by
  funext k
  apply Fin.ext
  match k with
  | ⟨0, _⟩ => rfl
  | ⟨1, _⟩ => show e.val + 1 * 0 = e.val; omega
  | ⟨2, _⟩ => show 0 + 1 * r.val = r.val; omega
  | ⟨3, _⟩ => show 0 + 1 * l.val = l.val; omega

/-- The heads of a block, each in its own piece. -/
theorem canon_heads (f : Fin 4 → Vec Ideal S1x1x512x128 .bf16) (e : Fin 4) (r : Fin 512) (l : Fin 128) :
    View.canon (Val := Elt Ideal) (s := S1x4x512x128) (e := .bf16) [⟨headRect 3, f 3⟩, ⟨headRect 2, f 2⟩, ⟨headRect 1, f 1⟩, ⟨headRect 0, f 0⟩] (ix4 (0 : Fin 1) e r l)
      = f e (ix4 (0 : Fin 1) (0 : Fin 1) r l) := by
  have hit (e : Fin 4) (L : List (View.Piece (Elt Ideal) S1x4x512x128 .bf16)) :
      View.canon (Val := Elt Ideal) (⟨headRect e, f e⟩ :: L) (ix4 (0 : Fin 1) e r l) = f e (ix4 (0 : Fin 1) (0 : Fin 1) r l) := by
    rw [← head_emb e r l]
    exact View.canon_cons_emb _ _ _ _
  have miss (e e' : Fin 4) (h : e ≠ e') (L : List (View.Piece (Elt Ideal) S1x4x512x128 .bf16)) :
      View.canon (Val := Elt Ideal) (⟨headRect e', f e'⟩ :: L) (ix4 (0 : Fin 1) e r l) = View.canon (Val := Elt Ideal) L (ix4 (0 : Fin 1) e r l) := by
    refine View.canon_cons_of_not_mem (Val := Elt Ideal) (e := .bf16) ⟨headRect e', f e'⟩ L ?_
    show ix4 (0 : Fin 1) e r l ∉ (headRect e').set
    rw [Rect.mem_set_unit]
    intro hall
    have h1 : e'.val ≤ e.val ∧ e.val < e'.val + 1 := hall 1
    exact h (Fin.ext (by omega))
  match e with
  | ⟨3, _⟩ => exact hit 3 _
  | ⟨2, _⟩ => exact (miss 2 3 (by decide) _).trans (hit 2 _)
  | ⟨1, _⟩ => exact (miss 1 3 (by decide) _).trans ((miss 1 2 (by decide) _).trans (hit 1 _))
  | ⟨0, _⟩ => exact (miss 0 3 (by decide) _).trans ((miss 0 2 (by decide) _).trans ((miss 0 1 (by decide) _).trans (hit 0 _)))

theorem canon_saved (f : Fin 4 → Vec Ideal S1x1x512x128 .bf16) (e : Fin 4) (r : Fin 512) (l : Fin 128) :
    View.canon (Val := Elt Ideal) (s := S1x4x512x128) (e := .bf16)
      [⟨Rect.unit (s := S1x4x512x128) ![0, 3, 0, 0] S1x1x512x128.size inb_S1x4x512x128_S1x1x512x128_0_3_0_0, f 3⟩,
       ⟨Rect.unit (s := S1x4x512x128) ![0, 2, 0, 0] S1x1x512x128.size inb_S1x4x512x128_S1x1x512x128_0_2_0_0, f 2⟩,
       ⟨Rect.unit (s := S1x4x512x128) ![0, 1, 0, 0] S1x1x512x128.size inb_S1x4x512x128_S1x1x512x128_0_1_0_0, f 1⟩,
       ⟨Rect.unit (s := S1x4x512x128) ![0, 0, 0, 0] S1x1x512x128.size inb_S1x4x512x128_S1x1x512x128_0_0_0_0, f 0⟩] (ix4 (0 : Fin 1) e r l)
      = f e (ix4 (0 : Fin 1) (0 : Fin 1) r l) :=
  canon_heads f e r l

/-- The columns of two heads joined, the heads by twos. -/
theorem canon_pairs (f : Fin 4 → FVec Ideal S512x128 .f32) (r : Fin 512) (e : Fin 4) (d : Fin 64) :
    View.canon (Val := Elt Ideal) (s := S512x256) (e := .f32)
      [⟨Rect.unit (s := S512x256) ![0, 128] S512x128.size inb_S512x256_S512x128_0_128, k0_pay2 lane (f 2) (f 3)⟩,
       ⟨Rect.unit (s := S512x256) ![0, 0] S512x128.size inb_S512x256_S512x128_0_0, k0_pay2 lane (f 0) (f 1)⟩]
      (ix2 r (⟨e.val * 64 + d.val, by omega⟩ : Fin 256)) = f e (ix2 r (⟨d.val, by omega⟩ : Fin 128)) := by
  have pair (A B : FVec Ideal S512x128 .f32) (l : Fin 128) : l.val = d.val → k0_pay2 lane A B (ix2 r l) = A (ix2 r (⟨d.val, by omega⟩ : Fin 128)) := fun h => by
    rw [pay2_at, if_pos (show l.val < 64 by omega)]
    exact congrArg A (congrArg (ix2 r) (Fin.ext h))
  have pair' (A B : FVec Ideal S512x128 .f32) (l : Fin 128) : l.val = 64 + d.val → k0_pay2 lane A B (ix2 r l) = B (ix2 r (⟨d.val, by omega⟩ : Fin 128)) := fun h => by
    rw [pay2_at, if_neg (show ¬ l.val < 64 by omega)]
    exact congrArg B (congrArg (ix2 r) (Fin.ext (by show (l.val + 64) % 128 = d.val; omega)))
  refine (Cert.Tiles.canon_box (R := 512) (C := 256) (W := 512) (V := 128) (o := 0) (p := 128) _ _ _ r _).trans ?_
  match e with
  | ⟨3, _⟩ => exact (dif_pos (by dsimp only; omega)).trans (pair' _ _ _ (by dsimp only; omega))
  | ⟨2, _⟩ => exact (dif_pos (by dsimp only; omega)).trans (pair _ _ _ (by dsimp only; omega))
  | ⟨1, _⟩ =>
    refine (dif_neg (by dsimp only; omega)).trans ?_
    exact (Cert.Tiles.canon_box (R := 512) (C := 256) (W := 512) (V := 128) (o := 0) (p := 0) _ _ _ r _).trans
      ((dif_pos (by dsimp only; omega)).trans (pair' _ _ _ (by dsimp only; omega)))
  | ⟨0, _⟩ =>
    refine (dif_neg (by dsimp only; omega)).trans ?_
    exact (Cert.Tiles.canon_box (R := 512) (C := 256) (W := 512) (V := 128) (o := 0) (p := 0) _ _ _ r _).trans
      ((dif_pos (by dsimp only; omega)).trans (pair _ _ _ (by dsimp only; omega)))

end pieces

/-! ### The grid points -/

/-- The sequence of a grid point, its four heads and its queries. -/
def seq (t : Fin cfg0.N) : Fin 2 := ⟨t.val / 16, by have := lt_of_lt_of_eq t.isLt N_0; omega⟩
def head (t : Fin cfg0.N) (e : Fin 4) : Fin 16 := ⟨t.val / 4 % 4 * 4 + e.val, by omega⟩
def tok (t : Fin cfg0.N) (r : Fin 512) : Fin 2048 := ⟨t.val % 4 * 512 + r.val, by omega⟩

theorem idx : ∀ t : Fin cfg0.N, win0_0.index t = ![t.val / 16, t.val / 4 % 4, t.val % 4, 0] ∧ win0_1.index t = ![t.val / 16, t.val / 4 % 4, 0, 0]
    ∧ win0_2.index t = ![t.val / 16, t.val / 4 % 4, 0, 0] ∧ win0_3.index t = ![t.val / 16 * 4 + t.val % 4, t.val / 4 % 4]
    ∧ win0_4.index t = ![t.val / 16, t.val / 4 % 4, t.val % 4, 0] ∧ (grid0.coords t 2).val = t.val % 4 :=
  (by decide +kernel : ∀ t : Fin grid0.N, _)

variable {m : (ℓ : Loc nD τ sig) → Buf (Elt Ideal) ℓ} {c : Dev nD}

theorem block_q (t : Fin cfg0.N) (e : Fin 4) (r : Fin 512) (l : Fin 128) : iblk m c 0 t (ix4 0 e r l) = V m c main_v16 (ix4 (seq t) (head t e) (tok t r) l) := by
  blk_simp [iblk, idx t]
  generalize V m c main_v16 = A
  blk_ext [idx t, seq, head, tok]

theorem block_k (t : Fin cfg0.N) (e : Fin 4) (s : Fin 2048) (l : Fin 128) : iblk m c 1 t (ix4 0 e s l) = V m c main_v33 (ix4 (seq t) (head t e) s l) := by
  blk_simp [iblk, idx t]
  generalize V m c main_v33 = A
  blk_ext [idx t, seq, head]

theorem block_v (t : Fin cfg0.N) (e : Fin 4) (s : Fin 2048) (l : Fin 128) : iblk m c 2 t (ix4 0 e s l) = V m c main_v37 (ix4 (seq t) (head t e) s l) := by
  blk_simp [iblk, idx t]
  generalize V m c main_v37 = A
  blk_ext [idx t, seq, head]

/-- Where an entry of the first result comes from: its row is a token, its column a lane of a head. -/
theorem emb3 (t : Fin cfg0.N) (r : Fin 512) (l : Fin 256) : (win0_3.blk t).view.emb (ix2 r l)
    = (ix2 (⟨(seq t).val * 2048 + (tok t r).val, by omega⟩ : Fin 4096) (⟨t.val / 4 % 4 * 256 + l.val, by omega⟩ : Fin 1024) : S4096x1024.Idx) := by
  blk_ext [idx t, seq, tok]

theorem emb4 (t : Fin cfg0.N) (e : Fin 4) (r : Fin 512) (l : Fin 128) : (win0_4.blk t).view.emb (ix4 0 e r l)
    = (ix4 (seq t) (head t e) (tok t r) l : S2x16x2048x128.Idx) := by
  blk_ext [idx t, seq, head, tok]

/-- The arguments of the program hold the numbers of these heads. -/
abbrev Real (m : (ℓ : Loc nD τ sig) → Buf (Elt Ideal) ℓ) (c : Dev nD) (a : Fin 2 → Fin 16 → Head) : Prop :=
  Args (arg0 m c) (arg1 m c) (arg2 m c) (arg3 m c) a

/-- What the two results hold: the attention's output, and the rows the backward pass reads. -/
def outputs (a : Fin 2 → Fin 16 → Head) (y : S4096x1024.Idx) : EReal :=
  ((a ⟨(y 0).val / 2048, by have : (y 0).val < 4096 := (y 0).isLt; omega⟩ ⟨(y 1).val / 64, by have : (y 1).val < 1024 := (y 1).isLt; omega⟩).out
    ⟨(y 0).val % 2048, Nat.mod_lt _ (by norm_num)⟩ ⟨(y 1).val % 64, Nat.mod_lt _ (by norm_num)⟩ : EReal)
def savedRows (a : Fin 2 → Fin 16 → Head) (y : S2x16x2048x128.Idx) : EReal := ((a (y 0) (y 1)).qLane (y 2) (y 3) : EReal)

variable {a : Fin 2 → Fin 16 → Head} (H : Real m c a)
include H

theorem q_block (t : Fin cfg0.N) (e : Fin 4) (r : Fin 512) (l : Fin 128) : iblk m c 0 t (ix4 0 e r l) = ((a (seq t) (head t e)).qRow (tok t r) l : EReal) := by
  rw [block_q, operand_q]
  exact query_row H _ _ _ l

theorem k_block (t : Fin cfg0.N) (e : Fin 4) (s : Fin 2048) (l : Fin 128) : iblk m c 1 t (ix4 0 e s l) = ((a (seq t) (head t e)).kLane s l : EReal) := by
  rw [block_k, operand_k]
  exact k_at H _ _ s l

theorem v_block (t : Fin cfg0.N) (e : Fin 4) (s : Fin 2048) (l : Fin 128) : iblk m c 2 t (ix4 0 e s l) = ((a (seq t) (head t e)).vLane s l : EReal) := by
  rw [block_v, operand_v]
  exact v_at H _ _ s l

theorem left_out (t : Fin cfg0.N) (y : S512x256.Idx) : (outsAt0 m c t).1 y = outputs a ((win0_3.blk t).view.emb y) := by
  obtain ⟨r, e, d, rfl⟩ : ∃ (r : Fin 512) (e : Fin 4) (d : Fin 64), y = ix2 r (⟨e.val * 64 + d.val, by omega⟩ : Fin 256) :=
    ⟨y 0, ⟨(y 1).val / 64, by have : (y 1).val < 256 := (y 1).isLt; omega⟩, ⟨(y 1).val % 64, Nat.mod_lt _ (by norm_num)⟩,
      by funext i; fin_cases i <;> first | rfl | exact Fin.ext (by show (y 1).val = (y 1).val / 64 * 64 + (y 1).val % 64; omega)⟩
  rw [emb3]
  unfold outsAt0 out0_A_3
  rw [View.read_writes_junk_eq_canon, out_A]
  refine (canon_pairs _ r e d).trans ?_
  refine (divided_block (a (seq t) (head t e)) (t := tok t r) (by have := (idx t).2.2.2.2.2; omega) (by have := (idx t).2.2.2.2.2; simp only [tok]; omega)
    (q_block H t e r) (k_block H t e) (v_block H t e) d).trans ?_
  unfold outputs
  have e0 : seq t = ⟨((seq t).val * 2048 + (tok t r).val) / 2048, by omega⟩ := Fin.ext (by dsimp only; omega)
  have e1 : tok t r = ⟨((seq t).val * 2048 + (tok t r).val) % 2048, Nat.mod_lt _ (by norm_num)⟩ := Fin.ext (by dsimp only; omega)
  have e2 : head t e = ⟨(t.val / 4 % 4 * 256 + (e.val * 64 + d.val)) / 64, by omega⟩ := Fin.ext (by simp only [head]; omega)
  have e3 : d = ⟨(t.val / 4 % 4 * 256 + (e.val * 64 + d.val)) % 64, Nat.mod_lt _ (by norm_num)⟩ := Fin.ext (by dsimp only; omega)
  exact congrArg _ (congr (congr (congrArg Head.out (congr (congrArg a e0) e2)) e1) e3)

omit H in
theorem saved_canon (t : Fin cfg0.N) : (outsAt0 m c t).2 = View.canon (Val := Elt Ideal) (s := S1x4x512x128) (e := .bf16) (kernelRun0_A c (grid0.coords t) (ms0_0 t) (hs0_0 t) (ms0_1 t) (hs0_1 t) (ms0_2 t) (hs0_2 t) (ms0_3 t) (hs0_3 t) (ms0_4 t) (hs0_4 t) (iblk m c 0 t) (iblk m c 1 t) (iblk m c 2 t)).2.1 := by
  unfold outsAt0 out0_A_4
  dsimp only
  generalize (kernelRun0_A c (grid0.coords t) (ms0_0 t) (hs0_0 t) (ms0_1 t) (hs0_1 t) (ms0_2 t) (hs0_2 t) (ms0_3 t) (hs0_3 t) (ms0_4 t) (hs0_4 t) (iblk m c 0 t) (iblk m c 1 t) (iblk m c 2 t)).2.1 = L
  exact View.read_writes_junk_eq_canon VO0_4 L

omit H in
theorem saved_pieces (t : Fin cfg0.N) (e : Fin 4) (r : Fin 512) (l : Fin 128) :
    (outsAt0 m c t).2 (ix4 0 e r l) = saved (iblk m c 0 t) (iblk m c 1 t) (iblk m c 2 t) (grid0.coords t 2).val e (ix4 0 0 r l) := by
  rw [saved_canon, out_B]
  exact canon_saved _ e r l

theorem saved_left (t : Fin cfg0.N) (e : Fin 4) (r : Fin 512) (l : Fin 128) :
    (outsAt0 m c t).2 (ix4 0 e r l) = ((a (seq t) (head t e)).qLane (tok t r) l : EReal) := by
  have hi := (idx t).2.2.2.2.2
  refine (saved_pieces t e r l).trans ?_
  exact saved_block (a (seq t) (head t e)) (t := tok t r) (by omega) (by simp only [tok]; omega) (q_block H t e r) (k_block H t e) (v_block H t e) l

theorem left_saved (t : Fin cfg0.N) (y : S1x4x512x128.Idx) : (outsAt0 m c t).2 y = savedRows a ((win0_4.blk t).view.emb y) := by
  obtain ⟨e, r, l, rfl⟩ : ∃ (e : Fin 4) (r : Fin 512) (l : Fin 128), y = ix4 0 e r l :=
    ⟨y 1, y 2, y 3, by funext i; fin_cases i <;> first | rfl | exact Fin.ext (by have := (y 0).isLt; simpa using this)⟩
  rw [emb4]
  exact saved_left H t e r l

/-- The first result: the attention's output. -/
theorem final_out : (dats m 0 c).arrAt 3 cfg0.N = outputs a := by
  refine (dats m 0 c).arrAt_eq_of_covers 3 _ (by decide +kernel) fun t _ y => ?_
  rw [after0_3]
  have key := left_out H t
  generalize (outsAt0 m c t).1 = A at key ⊢
  generalize outputs a = B at key ⊢
  exact key y

/-- The second result: the rows that are saved for the backward pass. -/
theorem final_saved : (dats m 0 c).arrAt 4 cfg0.N = savedRows a := by
  refine (dats m 0 c).arrAt_eq_of_covers 4 _ (by decide +kernel) fun t _ y => ?_
  rw [after0_4]
  have key := left_saved H t
  generalize (outsAt0 m c t).2 = A at key ⊢
  generalize savedRows a = B at key ⊢
  exact key y

end Cert.Kernel8Ideal.AttnFwd

end
-- ==== Proof.AttnFwd.Reference.lean ====
/- The reference of the attention, over the reals. -/
module

public import proofs.«01_k».proof.Proof.AttnFwd.Kernel
public import proofs.«01_k».proof.Proof.AttnBwd.Ops
public import proofs.«01_k».proof.Proof.Gen.Reference8Ideal.Read

@[expose] public section

set_option maxRecDepth 16384

noncomputable section

namespace Cert.Reference8Ideal.AttnFwd

open Cert.Reals Cert.Attn
open Cert.Reference8Ideal Cert.Reference8Ideal.Gen Cert.Reference8Ideal.Read
open Cert.Kernel2Ideal.AttnBwd (Args)
open Cert.Kernel8Ideal.AttnFwd (outputs savedRows)
open Idealize.ShloMosaic Idealize.ShloMosaic.TcCoe Idealize.ShloMosaic.Tactic

theorem max_at (y : FVec Ideal S2x16x2048x2048 .f32) (z : FVec Ideal S_ .f32) (b : Fin 2) (h : Fin 16) (t : Fin 2048) :
    Host.reduce FloatOps.maximumf y z reducesTo_S2x16x2048x2048_S2x16x2048_d3 h_S_ (ix3 b h t)
      = (Finset.univ : Finset (Fin 2048)).fold max (z ix0) fun s => y (ix4 b h t s) :=
  Cert.Reference2Ideal.AttnBwd.max_at y z b h t

theorem flat_at (y : FVec Ideal S2x2048x16x64 .f32) (i : Fin 4096) (j : Fin 1024) :
    shapeCast S4096x1024 y shapeCasts_S2x2048x16x64_S4096x1024 (ix2 i j)
      = y (ix4 (⟨i.val / 2048, by omega⟩ : Fin 2) (⟨i.val % 2048, Nat.mod_lt _ (by norm_num)⟩ : Fin 2048) (⟨j.val / 64, by omega⟩ : Fin 16) (⟨j.val % 64, Nat.mod_lt _ (by norm_num)⟩ : Fin 64)) := by
  pointwise

theorem column_at (y : FVec Ideal S2x16x2048 .f32) (b : Fin 2) (h : Fin 16) (t : Fin 2048) :
    broadcastInDim S2x16x2048x1 ![0, 1, 2] bcast_S2x16x2048_S2x16x2048x1_0_1_2 y (ix4 b h t 0) = y (ix3 b h t) := by
  pointwise

theorem neg_at (y : FVec Ideal S2x2048x16x1 .f32) (j : S2x2048x16x1.Idx) : Host.negf y j = -y j := by
  pointwise

variable {q k v : FVec Ideal S2x2048x16x64 .f32} {c : FVec Ideal S2x2048x16 .f32} {a : Fin 2 → Fin 16 → Head} (H : Args q k v (fun _ => 0) c a)
include H

theorem v16_at (b : Fin 2) (h : Fin 16) (t s : Fin 2048) : val_main_v16 (F := Ideal) q k c (ix4 b h t s) = masked ((a b h).score t) t s := by
  pointwise [val_main_v16, val_main_call0_v1, val_main_v15, val_main_v14, val_main_v13, val_main_v12, val_main_v11, val_main_v10, val_main_v9, val_main_v8,
    val_main_v7, val_main_v6, val_main_v5, val_main_v4, val_main_v3, val_main_v2, val_main_v1, val_main_v0, val_main_cst, val_main_call0_v0, val_main_call0_v2]
  simp only [H.hq, H.hk, H.hc, ← EReal.coe_mul, ← coe_sum, ← EReal.coe_sub, ← EReal.coe_add]
  rw [select_le]
  exact if_congr Iff.rfl rfl ofBits_neg_inf

omit H in
/-- The output's own scores are those of the saved rows. -/
theorem scores_eq : val_main_v53 (F := Ideal) q k c = val_main_v16 (F := Ideal) q k c := rfl

theorem v17_at (b : Fin 2) (h : Fin 16) (t : Fin 2048) : val_main_v17 (F := Ideal) q k c (ix3 b h t) = (top ((a b h).score t) t : EReal) := by
  rw [val_main_v17, max_at]
  simp only [v16_at H]
  exact (congrArg (fun z => Finset.univ.fold max z fun s => masked ((a b h).score t) t s) ofBits_neg_inf).trans (top_eq _ _)

theorem v21_at (b : Fin 2) (h : Fin 16) (t s : Fin 2048) : val_main_v21 (F := Ideal) q k c (ix4 b h t s)
    = ((Real.exp (-top ((a b h).score t) t) * row ((a b h).score t) t s : ℝ) : EReal) := by
  pointwise [val_main_v21, val_main_v20, val_main_v19, val_main_v18]
  rw [v16_at H, v17_at H]
  exact exp_masked_sub _ _ _ _

theorem v22_at (b : Fin 2) (h : Fin 16) (t : Fin 2048) : val_main_v22 (F := Ideal) q k c (ix3 b h t)
    = ((Real.exp (-top ((a b h).score t) t) * tot ((a b h).score t) t : ℝ) : EReal) := by
  pointwise [val_main_v22, val_main_cst_1]
  simp only [v21_at H, ← coe_sum, sum_weights]

theorem v18_at (b : Fin 2) (h : Fin 16) (t : Fin 2048) : val_main_v18 (F := Ideal) q k c (ix4 b h t 0) = (top ((a b h).score t) t : EReal) := by
  rw [val_main_v18]
  exact (column_at _ b h t).trans (v17_at H b h t)

theorem v23_at (b : Fin 2) (h : Fin 16) (t : Fin 2048) : val_main_v23 (F := Ideal) q k c (ix4 b h t 0)
    = ((Real.exp (-top ((a b h).score t) t) * tot ((a b h).score t) t : ℝ) : EReal) := by
  rw [val_main_v23]
  exact (column_at _ b h t).trans (v22_at H b h t)

/-- The saved normaliser. -/
theorem v27_at (b : Fin 2) (h : Fin 16) (t : Fin 2048) : val_main_v27 (F := Ideal) q k c (ix3 b t h) = (Real.log (tot ((a b h).score t) t) : EReal) := by
  rw [val_main_v27, val_main_v26, val_main_v25, val_main_v24]
  refine (Cert.Kernel2Ideal.AttnBwd.swap_at _ b h t).trans ((Cert.Kernel2Ideal.AttnBwd.shapeCast_at _ b h t).trans
    ((Cert.Kernel2Ideal.AttnBwd.add_log_at _ _ _).trans ?_))
  rw [v18_at H, v23_at H, Ideal.log_coe, if_neg (mul_pos (Real.exp_pos _) (tot_pos _ _)).not_ge, ← EReal.coe_add, log_weights]

theorem v34_at (b : Fin 2) (h : Fin 16) (t : Fin 2048) (i : Fin 1) : val_main_v34 (F := Ideal) q k c (ix4 b t h i) = ((-Real.log (tot ((a b h).score t) t) : ℝ) : EReal) := by
  obtain rfl := Subsingleton.elim i 0
  rw [val_main_v34, val_main_v33]
  refine (neg_at _ _).trans ?_
  rw [Cert.Reference2Ideal.AttnBwd.cast_at _ b h t, v27_at H, EReal.coe_neg]

omit H in
theorem v32_at (b : Fin 2) (s : Fin 2048) (h : Fin 16) (i : Fin 3) : val_main_v32 (F := Ideal) (ix4 b s h i) = ((1 : ℝ) : EReal) := by
  pointwise [val_main_v32, val_main_v31, val_main_v30, val_main_cst_3, val_main_cst_4]
  rfl

theorem v36_at (b : Fin 2) (h : Fin 16) (s : Fin 2048) (l : Fin 128) : val_main_v36 (F := Ideal) q k c (ix4 b s h l) = ((a b h).qLane s l : EReal) := by
  pointwise [val_main_v36]
  unfold Head.qLane
  by_cases c1 : l.val < 64
  · rw [dif_pos c1, dif_pos c1]
    exact H.hq _ _ _ _
  rw [dif_neg c1, dif_neg c1]
  by_cases c2 : l.val = 64
  · rw [dif_pos (show l.val - 64 < 1 by omega), if_pos c2]
    pointwise [val_main_v28]
    exact H.hc _ _ _
  rw [dif_neg (show ¬ l.val - 64 < 1 by omega), if_neg c2]
  by_cases c3 : l.val < 67
  · rw [dif_pos (show l.val - 64 - 1 < 2 by omega), if_pos c3]
    pointwise [val_main_v29, val_main_cst_2]
    rfl
  rw [dif_neg (show ¬ l.val - 64 - 1 < 2 by omega), if_neg c3]
  by_cases c4 : l.val < 70
  · rw [dif_pos (show l.val - 64 - 1 - 2 < 3 by omega), if_pos c4]
    exact v32_at b s h _
  rw [dif_neg (show ¬ l.val - 64 - 1 - 2 < 3 by omega), if_neg c4]
  by_cases c5 : l.val = 70
  · rw [dif_pos (show l.val - 64 - 1 - 2 - 3 < 1 by omega), if_pos c5]
    exact v34_at H b h s _
  rw [dif_neg (show ¬ l.val - 64 - 1 - 2 - 3 < 1 by omega), if_neg c5]
  pointwise [val_main_v35, val_main_cst_5]
  rfl

theorem v68_at (b : Fin 2) (h : Fin 16) (s : Fin 2048) (l : Fin 128) : val_main_v68 (F := Ideal) q k c (ix4 b h s l) = ((a b h).qLane s l : EReal) := by
  pointwise [val_main_v68]
  exact v36_at H b h s l

theorem v56_at (b : Fin 2) (h : Fin 16) (t : Fin 2048) : val_main_v56 (F := Ideal) q k c (ix3 b h t) = (top ((a b h).score t) t : EReal) := by
  have e : val_main_v54 (F := Ideal) q k c (ix3 b h t) = (top ((a b h).score t) t : EReal) := v17_at H b h t
  rw [val_main_v56_apply, e]
  refine max_eq_right ?_
  exact ofBits_neg_inf.trans_le bot_le

theorem v60_at (b : Fin 2) (h : Fin 16) (t s : Fin 2048) : val_main_v60 (F := Ideal) q k c (ix4 b h t s)
    = ((Real.exp (-top ((a b h).score t) t) * row ((a b h).score t) t s : ℝ) : EReal) := by
  pointwise [val_main_v60, val_main_v59, val_main_v58, val_main_v57]
  rw [scores_eq, v16_at H, v56_at H]
  exact exp_masked_sub _ _ _ _

theorem v61_at (b : Fin 2) (h : Fin 16) (t : Fin 2048) : val_main_v61 (F := Ideal) q k c (ix3 b h t)
    = ((Real.exp (-top ((a b h).score t) t) * tot ((a b h).score t) t : ℝ) : EReal) := by
  pointwise [val_main_v61, val_main_cst_9]
  simp only [v60_at H, ← coe_sum, sum_weights]

theorem v64_at (b : Fin 2) (h : Fin 16) (t s : Fin 2048) : val_main_v64 (F := Ideal) q k c (ix4 b h t s) = ((a b h).prob t s : EReal) := by
  pointwise [val_main_v64, val_main_v63, val_main_v62]
  rw [v60_at H, v61_at H, div_real (mul_pos (Real.exp_pos _) (tot_pos _ _)).ne', div_weights]
  rfl

theorem v66_at (b : Fin 2) (h : Fin 16) (t : Fin 2048) (d : Fin 64) : val_main_v66 (F := Ideal) q k v c (ix4 b t h d) = ((a b h).out t d : EReal) := by
  pointwise [val_main_v66, val_main_v65]
  simp only [v64_at H, H.hv, ← EReal.coe_mul, ← coe_sum]
  rfl

theorem agree_out : val_main_v67 (F := Ideal) q k v c = outputs a := by
  funext y
  obtain ⟨i, j, rfl⟩ : ∃ (i : Fin 4096) (j : Fin 1024), y = ix2 i j := ⟨y 0, y 1, by funext k; fin_cases k <;> rfl⟩
  exact (flat_at _ i j).trans (v66_at H _ _ _ _)

theorem agree_saved : val_main_v69 (F := Ideal) q k c = savedRows a := by
  funext y
  obtain ⟨b, h, s, l, rfl⟩ : ∃ (b : Fin 2) (h : Fin 16) (s : Fin 2048) (l : Fin 128), y = ix4 b h s l := ⟨y 0, y 1, y 2, y 3, by funext i; fin_cases i <;> rfl⟩
  refine Eq.trans ?_ (v68_at H b h s l)
  pointwise [val_main_v69]

end Cert.Reference8Ideal.AttnFwd

end
-- ==== Proof.AttnFwd.Claim.lean ====
/- The attention of the kernel and of the reference agree. -/
module

public import proofs.«01_k».proof.Defs
public import proofs.«01_k».proof.Proof.AttnFwd.Kernel
public import proofs.«01_k».proof.Proof.AttnFwd.Reference
public import proofs.«01_k».proof.Proof.Gen.Kernel8Ideal.Value
public import proofs.«01_k».proof.Proof.Gen.Reference8Ideal.Run
public import proofs.«01_k».proof.Proof.Gen.Pre_attn_fwd_finite
public import Idealize.ShloMosaic.Lib.Claim

@[expose] public section

set_option maxRecDepth 16384

noncomputable section

namespace Cert.AttnFwd

open Idealize.ShloMosaic Idealize.ShloMosaic.TcCoe Idealize.SL.Sem Idealize.ShloMosaic.Tactic
open Cert.Reals Cert.Attn

theorem real_of_pre (m : (ℓ : Loc Kernel8Ideal.nD Kernel8Ideal.τ Kernel8Ideal.sig) → Buf (Elt Ideal) ℓ)
    (h : Pre_Kernel8Ideal_attn_fwd_finite (hPre_attn_fwd_finite := Pre_attn_fwd_finite.Gen.facts) m) (c : Dev Kernel8Ideal.nD) :
    ∃ a : Fin 2 → Fin 16 → Head, Kernel8Ideal.AttnFwd.Real m c a := by
  have h0 := congrFun (h c) ix0
  unfold Pre_attn_fwd_finite.fn Pre_attn_fwd_finite.fn_part1 at h0
  obtain ⟨h0, h3⟩ := andi_one h0
  obtain ⟨h0, h2⟩ := andi_one h0
  obtain ⟨h0, h1⟩ := andi_one h0
  obtain ⟨r0, e0⟩ := real_of_all _ _ _ _ _ _ h0
  obtain ⟨r1, e1⟩ := real_of_all _ _ _ _ _ _ h1
  obtain ⟨r2, e2⟩ := real_of_all _ _ _ _ _ _ h2
  obtain ⟨r3, e3⟩ := real_of_all _ _ _ _ _ _ h3
  exact ⟨fun b h => ⟨fun s d => r0 (ix4 b s h d), fun s d => r1 (ix4 b s h d), fun s d => r2 (ix4 b s h d), fun s => r3 (ix3 b s h), fun _ _ => 0⟩,
    fun b s h d => e0 _, fun b s h d => e1 _, fun b s h d => e2 _, fun b s h => e3 _, fun _ _ _ _ => rfl⟩

set_option maxHeartbeats 2000000 in
theorem algebraic : algebraic_Kernel8Ideal_Reference8Ideal_pre_attn_fwd_finite (hKernel8Ideal := Kernel8Ideal.Gen.facts)
    (hReference8Ideal := Reference8Ideal.Gen.facts) (hPre_attn_fwd_finite := Pre_attn_fwd_finite.Gen.facts) := by
  intro m g m' g' hpre hargs
  refine ⟨fun c => (Kernel8Ideal.Gen.dats m 0 c).arrAt 3 Kernel8Ideal.cfg0.N, fun c => (Kernel8Ideal.Gen.dats m 0 c).arrAt 4 Kernel8Ideal.cfg0.N,
    Kernel8Ideal.Value.run_blocks m g, (θ_run Reference8Ideal.defs _ _).mono (fun r h c => ?_) (Reference8Ideal.Value.run m' g')⟩
  obtain ⟨a, H⟩ := real_of_pre m hpre c
  obtain ⟨a0, a1, a2, a3⟩ := hargs c
  obtain ⟨h0, h1, h2⟩ := h c
  rw [Reference8Ideal.Read.val_main_v67_eq, a0, a1, a2, a3] at h0
  rw [Reference8Ideal.Read.val_main_v69_eq, a0, a1, a3] at h1
  have f0 := Kernel8Ideal.AttnFwd.final_out H
  have f1 := Kernel8Ideal.AttnFwd.final_saved H
  have g0 := Reference8Ideal.AttnFwd.agree_out H
  have g1 := Reference8Ideal.AttnFwd.agree_saved H
  exact ⟨h0.trans (g0.trans f0.symm), h1.trans (g1.trans f1.symm), h2⟩

end Cert.AttnFwd

end
-- ==== Proof.ConvFwd.Ops.lean ====
/- The operations of the gated convolution, tap by tap. -/
module

public import proofs.«01_k».proof.Proof.Gen.Kernel9Ideal.Frame
public import Idealize.ShloMosaic.Lib.Claim

@[expose] public section

set_option maxRecDepth 16384

noncomputable section

namespace Cert.Kernel9Ideal.ConvFwd

open Idealize.ShloMosaic Idealize.ShloMosaic.TcCoe Idealize.SL.Sem
open Cert.Kernel9Ideal Cert.Kernel9Ideal.Gen
open Idealize.ShloMosaic.Tactic

/-- The rectangle of a tap's row of weights. -/
theorem inbTap (j : Fin 31) : ∀ a, (![j.val, 0] : Fin 2 → ℕ) a + (![1, 128] : Fin 2 → ℕ) a ≤ S31x128.size a := by
  revert j
  decide

variable {F : FTy → Type} [FloatOps F]

/-- A chunk of the convolution, its bias added: the taps' weights `w`, the units `u` that each meets, the bias `b`. -/
def conv (w : Fin 31 → Vec F S1x128 .f32) (u : Fin 31 → Vec F S64x128 .f32) (b : Vec F S1x128 .f32) : FVec F S64x128 .f32 :=
  k0_pay3 (k0_pay14 (k0_pay12 (k0_pay10 (k0_pay8 (k0_pay6 (k0_pay4 (w 0) (u 0) (w 1) (u 1) (w 2) (u 2) (w 3) (u 3))
    (k0_pay5 (w 4)) (u 4) (w 5) (u 5) (w 6) (u 6) (w 7) (u 7) (w 8) (u 8))
    (k0_pay7 (w 9)) (u 9) (w 10) (u 10) (w 11) (u 11) (w 12) (u 12) (w 13) (u 13))
    (k0_pay9 (w 14)) (u 14) (w 15) (u 15) (w 16) (u 16) (w 17) (u 17) (w 18) (u 18))
    (k0_pay11 (w 19)) (u 19) (w 20) (u 20) (w 21) (u 21) (w 22) (u 22) (w 23) (u 23))
    (k0_pay13 (w 24)) (u 24) (w 25) (u 25) (w 26) (u 26) (w 27) (u 27) (w 28) (u 28))
    (k0_pay15 (w 29)) (u 29) (w 30) (u 30) b

/-- The row of a tap's weights, the units a tap meets at a chunk, and the row of the bias. -/
def tap (V : View sig .tc .vmem S31x128 .f32) (X : V.ty.Contents (Elt F)) (j : Fin 31) : Vec F S1x128 .f32 :=
  View.readAt (Elt F) V (Rect.unit (s := S31x128) ![j.val, 0] ![1, 128] (inbTap j)).toLoadRect X
def behindAt (V : View sig .tc .vmem S2080x128 .f32) (X : V.ty.Contents (Elt F)) (k : Fin k0_t1_loop.trips) (j : Fin 31) : Vec F S64x128 .f32 :=
  View.readAt (Elt F) V (Rect.unit (s := S2080x128) (k0_off1 k (BitVec.ofNat 32 (2 + j.val))) ![64, 128] (k0_off1_inb k j)).toLoadRect X
def bias (V : View sig .tc .vmem S1x128 .f32) (X : V.ty.Contents (Elt F)) : Vec F S1x128 .f32 :=
  View.readAt (Elt F) V (Rect.unit (s := S1x128) ![0, 0] ![1, 128] inb_S1x128_S1x128_0_0).toLoadRect X

/-- A whole block of frames, as it is loaded. -/
def wholeOf {a : Memref sig .tc .vmem S2048x128 .f32} (h : a.IsWhole) (x : Vec F S2048x128 .f32) : Vec F S2048x128 .f32 :=
  View.readAt (Elt F) a.view (Rect.unit (s := S2048x128) ![0, 0] ![2048, 128] inb_S2048x128_S2048x128_0_0).toLoadRect (h.unread x)

/-- The gated units behind thirty-two empty frames. -/
def staged (a g : Vec F S2048x128 .f32) : List (View.Piece (Elt F) S2080x128 .f32) :=
  [⟨Rect.unit ![32, 0] ![2048, 128] inb_S2080x128_S2048x128_32_0, k0_pay2 a g⟩, ⟨Rect.unit ![0, 0] ![32, 128] inb_S2080x128_S32x128_0_0, k0_pay1⟩]

/-- What one trip of the loop writes. -/
theorem trip_eq 𝒱 c bd i arg2 harg2 arg3 harg3 arg4 harg4 arg5 harg5 arg6 harg6 arg7 harg7 X4 X5 X7 k :
    (trip_k0_t1 (F := F) 𝒱 c bd i arg2 harg2 arg3 harg3 arg4 harg4 arg5 harg5 arg6 harg6 arg7 harg7 X4 X5 X7 k).1
      = [⟨Rect.unit (s := S2048x128) (k0_off2 k) ![64, 128] (k0_off2_inb k), conv (tap arg4.view X4) (behindAt arg7.view X7 k) (bias arg5.view X5)⟩] := by
  unfold trip_k0_t1
  rfl

section run

variable (c : Dev nD) (i : grid0.Coords) (arg2 : Memref sig .tc .vmem S2048x128 .f32) (harg2 : arg2.IsWhole) (arg3 : Memref sig .tc .vmem S2048x128 .f32) (harg3 : arg3.IsWhole)
  (arg4 : Memref sig .tc .vmem S31x128 .f32) (harg4 : arg4.IsWhole) (arg5 : Memref sig .tc .vmem S1x128 .f32) (harg5 : arg5.IsWhole)
  (arg6 : Memref sig .tc .vmem S2048x128 .f32) (harg6 : arg6.IsWhole) (arg7 : Memref sig .tc .vmem S2080x128 .f32) (harg7 : arg7.IsWhole)
  (x0 x1 : Vec F S2048x128 .f32) (x2 : Vec F S31x128 .f32) (x3 : Vec F S1x128 .f32)

/-- What the loop has written before trip `n`. -/
abbrev before (n : ℕ) := pb_k0_t1 (F := F) Variants.none c none i arg2 harg2 arg3 harg3 arg4 harg4 arg5 harg5 arg6 harg6 arg7 harg7
    (harg4.unread x2) (harg5.unread x3) (arg7.view.writes (Elt F) arg7.view.junk (staged (wholeOf harg2 x0) (wholeOf harg3 x1))) n

theorem run_eq : (kernelRun0_A (F := F) c i arg2 harg2 arg3 harg3 arg4 harg4 arg5 harg5 arg6 harg6 arg7 harg7 x0 x1 x2 x3).1
    = before c i arg2 harg2 arg3 harg3 arg4 harg4 arg5 harg5 arg6 harg6 arg7 harg7 x0 x1 x2 x3 k0_t1_loop.trips := by
  unfold kernelRun0_A
  dsimp only
  rfl

end run

end Cert.Kernel9Ideal.ConvFwd

end
-- ==== Proof.ConvFwd.Math.lean ====
/- The causal convolution of the gated units, at one frame. -/
module

public import proofs.«01_k».proof.Proof.ConvTaps.Math

@[expose] public section

set_option maxRecDepth 16384

noncomputable section

namespace Cert.ConvTaps

open Idealize.ShloMosaic

/-- The causal convolution of the gated units, its bias added, at one frame. -/
def filtered (w : Fin 31 → EReal) (a g : Fin 2048 → EReal) (b : EReal) (s : ℕ) : EReal :=
  ∑ j : Fin 31, w j * behind (fun s => a s * Ideal.logistic (g s)) (j.val + s) + b

end Cert.ConvTaps

end
-- ==== Proof.ConvFwd.Payload.lean ====
/- The values of the operations of the gated convolution. -/
module

public import proofs.«01_k».proof.Proof.ConvFwd.Ops
public import proofs.«01_k».proof.Proof.ConvFwd.Math
public import proofs.«01_k».proof.Proof.ConvTaps.Payload
public import Idealize.ShloMosaic.Lib.WholeRead

@[expose] public section

set_option maxRecDepth 16384

noncomputable section

namespace Cert.Kernel9Ideal.ConvFwd

open Idealize.ShloMosaic Idealize.ShloMosaic.TcCoe Idealize.SL.Sem
open Cert.ConvTaps
open Cert.Kernel9Ideal Cert.Kernel9Ideal.Gen

/-- A chunk at a frame and a column. -/
theorem conv_at (w : Fin 31 → Vec Ideal S1x128 .f32) (u : Fin 31 → Vec Ideal S64x128 .f32) (b : Vec Ideal S1x128 .f32) (r : Fin 64) (l : Fin 128) :
    conv (F := Ideal) w u b (ix2 r l) = ∑ j : Fin 31, w j (ix2 0 l) * u j (ix2 r l) + b (ix2 0 l) := by
  rw [sum_taps]
  pointwise [conv, k0_pay3, k0_pay4, k0_pay5, k0_pay6, k0_pay7, k0_pay8, k0_pay9, k0_pay10, k0_pay11, k0_pay12, k0_pay13, k0_pay14, k0_pay15]

theorem unit_at (A G : Vec Ideal S2048x128 .f32) (s : Fin 2048) (l : Fin 128) : k0_pay2 A G (ix2 s l) = A (ix2 s l) * Ideal.logistic (G (ix2 s l)) := by
  pointwise [k0_pay2]
theorem empty_at (y : S32x128.Idx) : k0_pay1 (F := Ideal) y = (0 : EReal) := by
  pointwise [k0_pay1]

/-- Two empty frames before the thirty the convolution reaches back over. -/
theorem staged_at (A G : Vec Ideal S2048x128 .f32) (n : Fin 2080) (l : Fin 128) (i : ℕ) (hi : n.val = 2 + i) :
    View.canon (Val := Elt Ideal) (staged A G) (ix2 n l) = behind (fun s => A (ix2 s l) * Ideal.logistic (G (ix2 s l))) i := by
  unfold behind
  refine (Cert.Tiles.canon_box (R := 2080) (C := 128) (W := 2048) (V := 128) (o := 32) (p := 0) _ _ _ n l).trans ?_
  by_cases h : 30 ≤ i
  · rw [dif_pos (by omega), dif_pos ⟨h, by omega⟩]
    refine (unit_at A G _ _).trans ?_
    exact congrArg₂ (fun (s : Fin 2048) (l : Fin 128) => A (ix2 s l) * Ideal.logistic (G (ix2 s l))) (Fin.ext (by show n.val - 32 = i - 30; omega)) rfl
  · rw [dif_neg (by omega), dif_neg (by omega)]
    exact (Cert.Tiles.canon_box (R := 2080) (C := 128) (W := 32) (V := 128) (o := 0) (p := 0) _ _ _ n l).trans ((dif_pos (by omega)).trans (empty_at _))

/-- The newest chunk, or what the earlier trips left. -/
theorem chunk_or {o : ℕ} {off : Fin 2 → ℕ} (ho : off = ![o, 0]) (inb : ∀ a, off a + (![64, 128] : Fin 2 → ℕ) a ≤ S2048x128.size a)
    (P : FVec Ideal S64x128 .f32) (L : List (View.Piece (Elt Ideal) S2048x128 .f32)) (r : Fin 2048) (l : Fin 128) :
    View.canon (Val := Elt Ideal) ([⟨Rect.unit (s := S2048x128) off ![64, 128] inb, P⟩] ++ L) (ix2 r l)
      = if h : o ≤ r.val ∧ r.val < o + 64 then P (ix2 (⟨r.val - o, by omega⟩ : Fin 64) l) else View.canon (Val := Elt Ideal) L (ix2 r l) := by
  subst ho
  refine (Cert.Tiles.canon_box (R := 2048) (C := 128) (W := 64) (V := 128) (o := o) (p := 0) inb P L r l).trans ?_
  by_cases h : o ≤ r.val ∧ r.val < o + 64
  · rw [dif_pos (by omega), dif_pos h]
    rfl
  · rw [dif_neg (by omega), dif_neg h]

section loop

variable (c : Dev nD) (i : grid0.Coords) (arg2 : Memref sig .tc .vmem S2048x128 .f32) (harg2 : arg2.IsWhole) (arg3 : Memref sig .tc .vmem S2048x128 .f32) (harg3 : arg3.IsWhole)
  (arg4 : Memref sig .tc .vmem S31x128 .f32) (harg4 : arg4.IsWhole) (arg5 : Memref sig .tc .vmem S1x128 .f32) (harg5 : arg5.IsWhole)
  (arg6 : Memref sig .tc .vmem S2048x128 .f32) (harg6 : arg6.IsWhole) (arg7 : Memref sig .tc .vmem S2080x128 .f32) (harg7 : arg7.IsWhole)
  (x0 x1 : Vec Ideal S2048x128 .f32) (x2 : Vec Ideal S31x128 .f32) (x3 : Vec Ideal S1x128 .f32)

theorem wholeOf_eq {a : Memref sig .tc .vmem S2048x128 .f32} (h : a.IsWhole) (x : Vec Ideal S2048x128 .f32) : wholeOf (F := Ideal) h x = x := by
  funext y
  obtain ⟨r, l, rfl⟩ : ∃ (r : Fin 2048) (l : Fin 128), y = ix2 r l := ⟨y 0, y 1, by funext i; fin_cases i <;> rfl⟩
  exact (h.readAt_unread x _ _).trans ((Cert.Tiles.ld_box (Val := Elt Ideal) (e := .f32) (R := 2048) (C := 128) x inb_S2048x128_S2048x128_0_0 r l).trans
    (congrArg x (congrArg₂ ix2 (Fin.ext (Nat.zero_add r.val)) (Fin.ext (Nat.zero_add l.val)))))

theorem loop_trips : k0_t1_loop.trips = 32 := by decide

theorem tap_at (j : Fin 31) (l : Fin 128) : tap (F := Ideal) arg4.view (harg4.unread x2) j (ix2 0 l) = x2 (ix2 j l) :=
  (harg4.readAt_unread x2 _ _).trans (Cert.Rows.ld_row x2 (inbTap j) l)
theorem bias_at (l : Fin 128) : bias (F := Ideal) arg5.view (harg5.unread x3) (ix2 0 l) = x3 (ix2 0 l) :=
  (harg5.readAt_unread x3 _ _).trans (Cert.Rows.ld_row x3 inb_S1x128_S1x128_0_0 l)
theorem behindAt_at (k : Fin k0_t1_loop.trips) (j : Fin 31) (r : Fin 64) (l : Fin 128) :
    behindAt (F := Ideal) arg7.view (arg7.view.writes (Elt Ideal) arg7.view.junk (staged x0 x1)) k j (ix2 r l)
      = behind (fun s => x0 (ix2 s l) * Ideal.logistic (x1 (ix2 s l))) (j.val + (64 * k.val + r.val)) := by
  have hk := lt_of_lt_of_eq k.isLt loop_trips
  unfold behindAt
  rw [View.readAt_writes_junk_eq_canon]
  refine (Cert.Kernel7Ideal.ConvTaps.ld_chunk (R := 2080) (k0_off1_eq k j) (k0_off1_inb k j) (View.canon (Val := Elt Ideal) (staged x0 x1)) r l
    ⟨2 + (j.val + (64 * k.val + r.val)), by omega⟩ (by show 2 + (j.val + (64 * k.val + r.val)) = _ + r.val; omega)).trans ?_
  exact staged_at x0 x1 _ l _ rfl

/-- What the trips before `n` have left in the rows they cover. -/
theorem before_at (r : Fin 2048) (l : Fin 128) : ∀ n : ℕ, n ≤ 32 → r.val < 64 * n →
    View.canon (Val := Elt Ideal) (before c i arg2 harg2 arg3 harg3 arg4 harg4 arg5 harg5 arg6 harg6 arg7 harg7 x0 x1 x2 x3 n) (ix2 r l)
      = filtered (fun j => x2 (ix2 j l)) (fun s => x0 (ix2 s l)) (fun s => x1 (ix2 s l)) (x3 (ix2 0 l)) r.val
  | 0, _, h => absurd h (Nat.not_lt_zero _)
  | n + 1, hn, h => by
    have hn' : n < k0_t1_loop.trips := lt_of_lt_of_eq (Nat.lt_of_succ_le hn) loop_trips.symm
    refine (congrArg (fun L => View.canon (Val := Elt Ideal) L (ix2 r l)) (pb_k0_t1_succ _ _ _ _ _ _ _ _ _ _ _ _ _ _ _ _ _ _ _ ⟨n, hn'⟩)).trans ?_
    rw [tripL_k0_t1, trip_eq, chunk_or (k0_off2_eq ⟨n, hn'⟩)]
    by_cases hr : 64 * n ≤ r.val
    · rw [dif_pos ⟨hr, by show r.val < 64 * n + 64; omega⟩, conv_at, bias_at]
      refine congrArg (· + x3 (ix2 0 l)) (Finset.sum_congr rfl fun j _ => ?_)
      rw [tap_at, wholeOf_eq, wholeOf_eq, behindAt_at]
      exact congrArg (fun n => x2 (ix2 j l) * behind (fun s => x0 (ix2 s l) * Ideal.logistic (x1 (ix2 s l))) (j.val + n)) (show 64 * n + (r.val - 64 * n) = r.val by omega)
    · rw [dif_neg (by show ¬ (64 * n ≤ r.val ∧ _); omega)]
      exact before_at r l n (Nat.le_of_succ_le hn) (by omega)

end loop

end Cert.Kernel9Ideal.ConvFwd

end
-- ==== Proof.ConvFwd.Blocks.lean ====
/- The blocks of the gated convolution. -/
module

public import proofs.«01_k».proof.Proof.Gen.Kernel9Ideal.Frame
public import Idealize.ShloMosaic.Lib.Pipeline.ValueKit
public import Idealize.ShloMosaic.Lib.Claim

@[expose] public section

set_option maxRecDepth 16384

noncomputable section

namespace Cert.Kernel9Ideal.ConvFwd

open Idealize.ShloMosaic Idealize.ShloMosaic.TcCoe Idealize.SL.Sem
open Idealize.ShloMosaic.Pipeline (Dat)
open Cert.Kernel9Ideal Cert.Kernel9Ideal.Gen

/-- The sequence and the column of a grid point's blocks. -/
def seqOf (t : Fin cfg0.N) : Fin 2 := ⟨t.val / 8, by have := lt_of_lt_of_eq t.isLt N_0; omega⟩
def colOf (t : Fin cfg0.N) (l : Fin 128) : Fin 1024 := ⟨t.val % 8 * 128 + l.val, by omega⟩

theorem places : ∀ t : Fin cfg0.N, win0_0.index t = ![t.val / 8, 32 + t.val % 8] ∧ win0_1.index t = ![t.val / 8, 40 + t.val % 8] ∧ win0_2.index t = ![0, t.val % 8]
    ∧ win0_3.index t = ![0, t.val % 8] ∧ win0_4.index t = ![t.val / 8, t.val % 8] :=
  (by decide +kernel : ∀ t : Fin grid0.N, _)

variable (m : (ℓ : Loc nD τ sig) → Buf (Elt Ideal) ℓ) (c : Dev nD)

/-- The arguments: the unit's two factors, the taps' weights, the bias. -/
def inA (b : Fin 2) (j : Fin 1024) (s : Fin 2048) : EReal := m ((c : Thread nD τ).loc main_arg0) (ix3 b s ⟨4112 + j.val, by omega⟩)
def inG (b : Fin 2) (j : Fin 1024) (s : Fin 2048) : EReal := m ((c : Thread nD τ).loc main_arg0) (ix3 b s ⟨5136 + j.val, by omega⟩)
def inW (j : Fin 1024) (k : Fin 31) : EReal := m ((c : Thread nD τ).loc main_arg1) (ix3 0 k j)
def inB (j : Fin 1024) : EReal := m ((c : Thread nD τ).loc main_arg2) (ix2 0 j)

theorem blockA (t : Fin cfg0.N) (r : Fin 2048) (l : Fin 128) : iblk m c 0 t (ix2 r l) = inA m c (seqOf t) (colOf t l) r := by
  have ht := lt_of_lt_of_eq t.isLt N_0
  unfold inA
  blk_simp [iblk, places t]
  entry_read
  pointwise
  rw [dif_neg (by blk_simp [places t]; omega)]
  blk_ext [places t, seqOf, colOf]

theorem blockG (t : Fin cfg0.N) (r : Fin 2048) (l : Fin 128) : iblk m c 1 t (ix2 r l) = inG m c (seqOf t) (colOf t l) r := by
  have ht := lt_of_lt_of_eq t.isLt N_0
  unfold inG
  blk_simp [iblk, places t]
  entry_read
  pointwise
  rw [dif_neg (by blk_simp [places t]; omega)]
  blk_ext [places t, seqOf, colOf]

theorem blockW (t : Fin cfg0.N) (k : Fin 31) (l : Fin 128) : iblk m c 2 t (ix2 k l) = inW m c (colOf t l) k := by
  have ht := lt_of_lt_of_eq t.isLt N_0
  unfold inW
  blk_simp [iblk, places t]
  entry_read
  pointwise
  blk_ext [places t, colOf]

theorem blockB (t : Fin cfg0.N) (l : Fin 128) : iblk m c 3 t (ix2 0 l) = inB m c (colOf t l) := by
  have ht := lt_of_lt_of_eq t.isLt N_0
  unfold inB
  blk_simp [iblk, places t]
  entry_read
  pointwise
  blk_ext [places t, colOf]

end Cert.Kernel9Ideal.ConvFwd

end
-- ==== Proof.ConvFwd.Kernel.lean ====
/- What the gated convolution leaves in its result. -/
module

public import proofs.«01_k».proof.Proof.ConvFwd.Payload
public import proofs.«01_k».proof.Proof.ConvFwd.Blocks

@[expose] public section

set_option maxRecDepth 16384

noncomputable section

namespace Cert.Kernel9Ideal.ConvFwd

open Idealize.ShloMosaic Idealize.ShloMosaic.TcCoe Idealize.SL.Sem
open Idealize.ShloMosaic.Pipeline (Dat)
open Cert.ConvTaps
open Cert.Kernel9Ideal Cert.Kernel9Ideal.Gen

variable (m : (ℓ : Loc nD τ sig) → Buf (Elt Ideal) ℓ) (c : Dev nD) (t : Fin cfg0.N)

/-- The result at a frame of a sequence, of the arguments. -/
def res (b : Fin 2) (s : Fin 2048) (j : Fin 1024) : EReal := filtered (inW m c j) (inA m c b j) (inG m c b j) (inB m c j) s.val

theorem out_at (r : Fin 2048) (l : Fin 128) : outsAt0 m c t (ix2 r l) = res m c (seqOf t) r (colOf t l) := by
  have e : filtered (fun k => iblk m c 2 t (ix2 k l)) (fun s => iblk m c 0 t (ix2 s l)) (fun s => iblk m c 1 t (ix2 s l)) (iblk m c 3 t (ix2 0 l)) r.val
      = res m c (seqOf t) r (colOf t l) := by
    simp only [blockA, blockG, blockW, blockB]
    rfl
  refine Eq.trans ?_ e
  unfold outsAt0 out0_A_4
  rw [View.read_writes_junk_eq_canon, run_eq]
  exact before_at _ _ _ _ _ _ _ _ _ _ _ _ _ _ _ _ _ _ r l 32 le_rfl (by omega)

/-- The sequence and the frame of a row of the result. -/
def seqRow (n : Fin 4096) : Fin 2 := ⟨n.val / 2048, by omega⟩
def frameRow (n : Fin 4096) : Fin 2048 := ⟨n.val % 2048, by omega⟩

theorem emb_at (r : Fin 2048) (l : Fin 128) : (win0_4.blk t).view.emb (ix2 r l)
    = (ix2 (⟨t.val / 8 * 2048 + r.val, by have := lt_of_lt_of_eq t.isLt N_0; omega⟩ : Fin 4096) (colOf t l) : S4096x1024.Idx) := by
  blk_ext [places t, colOf]

/-- The result. -/
theorem final : (dats m 0 c).arrAt 4 cfg0.N = (fun y : S4096x1024.Idx => res m c (seqRow (y 0)) (frameRow (y 0)) (y 1)) := by
  refine (dats m 0 c).arrAt_eq_of_covers 4 _ (by decide +kernel) fun t _ y => ?_
  rw [after0_4]
  obtain ⟨r, l, rfl⟩ : ∃ (r : Fin 2048) (l : Fin 128), y = ix2 r l := ⟨y 0, y 1, by funext i; fin_cases i <;> rfl⟩
  have ht := lt_of_lt_of_eq t.isLt N_0
  have e1 : seqRow ⟨t.val / 8 * 2048 + r.val, by omega⟩ = seqOf t := Fin.ext (by show (t.val / 8 * 2048 + r.val) / 2048 = t.val / 8; omega)
  have e2 : frameRow ⟨t.val / 8 * 2048 + r.val, by omega⟩ = r := Fin.ext (by show (t.val / 8 * 2048 + r.val) % 2048 = r.val; omega)
  refine (out_at m c t r l).trans ((congrArg₂ (fun b s => res m c b s (colOf t l)) e1.symm e2.symm).trans ?_)
  exact (congrArg (fun y : S4096x1024.Idx => res m c (seqRow (y 0)) (frameRow (y 0)) (y 1)) (emb_at t r l)).symm

end Cert.Kernel9Ideal.ConvFwd

end
-- ==== Proof.ConvFwd.Reference.lean ====
/- What the reference of the gated convolution computes. -/
module

public import proofs.«01_k».proof.Proof.ConvFwd.Math
public import proofs.«01_k».proof.Proof.Gen.Reference9Ideal.Read

@[expose] public section

set_option maxRecDepth 16384

noncomputable section

namespace Cert.Reference9Ideal.ConvFwd

open Idealize.ShloMosaic Idealize.ShloMosaic.TcCoe
open Cert.Reals Cert.ConvTaps
open Cert.Reference9Ideal Cert.Reference9Ideal.Read Cert.Reference9Ideal.Gen

/-! ### One tap, for any tap -/

theorem cutRow (k : Fin 31) : S1x31x1024.Slices ![0, k.val, 0] S1x1x1024 := by revert k; decide
theorem cutUnits (k : Fin 31) : S2x2078x1024.Slices ![0, k.val, 0] S2x2048x1024 := by revert k; decide

variable {F : FTy → Type} [FloatOps F] (x0 : FVec F S2x2048x7184 .f32) (x1 : FVec F S1x31x1024 .f32)

/-- What one tap adds to the convolution. -/
def term (k : Fin 31) : FVec F S2x2048x1024 .f32 :=
  mulf (broadcastInDim S2x2048x1024 ![0, 1, 2] bcast_S1x1x1024_S2x2048x1024_0_1_2
      (broadcastInDim S1x1x1024 ![2] bcast_S1024_S1x1x1024_2 (shapeCast _ (extractStridedSlice S1x1x1024 ![0, k.val, 0] x1 (cutRow k)) shapeCasts_S1x1x1024_S1024)))
    (extractStridedSlice S2x2048x1024 ![0, k.val, 0] (val_main_v10 (F := F) x0) (cutUnits k))

/-- The taps added from the first to the last. -/
def adding (f : Fin 31 → FVec F S2x2048x1024 .f32) : (n : ℕ) → n ≤ 31 → FVec F S2x2048x1024 .f32
  | 0, _ => val_main_v11 (F := F)
  | n + 1, h => addf (adding f n (Nat.le_of_succ_le h)) (f ⟨n, h⟩)

theorem v228_eq : val_main_v228 (F := F) x0 x1 = adding (term x0 x1) 31 le_rfl := by
  rfl

/-! ### At a point -/

theorem adding_at (f : Fin 31 → FVec Ideal S2x2048x1024 .f32) (y : S2x2048x1024.Idx) : adding f 31 le_rfl y = (∑ k, f k y : EReal) := by
  have h0 : (val_main_v11 (F := Ideal) y : EReal) = 0 := by
    pointwise [val_main_v11, val_main_cst_2]
  rw [sum_taps, ← h0]
  rfl

variable (x0 : FVec Ideal S2x2048x7184 .f32) (x1 : FVec Ideal S1x31x1024 .f32) (x2 : FVec Ideal S1x1024 .f32)

theorem v7_at (b : Fin 2) (s : Fin 2048) (j : Fin 1024) : val_main_v7 (F := Ideal) x0 (ix3 b s j) = Ideal.logistic (x0 (ix3 b s ⟨5136 + j.val, by omega⟩)) := by
  pointwise [val_main_v7, val_main_v6, val_main_v5, val_main_v4, val_main_v3, val_main_v2, val_main_v1, val_main_cst, val_main_cst_0]
  rfl

/-- The units behind thirty empty frames. -/
theorem v10_at (b : Fin 2) (n : Fin 2078) (j : Fin 1024) : val_main_v10 (F := Ideal) x0 (ix3 b n j)
    = behind (fun s => x0 (ix3 b s ⟨4112 + j.val, by omega⟩) * Ideal.logistic (x0 (ix3 b s ⟨5136 + j.val, by omega⟩))) n.val := by
  unfold behind
  pointwise [val_main_v10, val_main_v9, val_main_v8, val_main_v0, val_main_cst_1]
  split
  · rename_i h
    rw [dif_neg (show ¬ 30 ≤ n.val by omega)]
  · rename_i h
    rw [v7_at, dif_pos (show 30 ≤ n.val by omega)]

theorem term_at (k : Fin 31) (b : Fin 2) (s : Fin 2048) (j : Fin 1024) : term x0 x1 k (ix3 b s j)
    = x1 (ix3 0 k j) * behind (fun s => x0 (ix3 b s ⟨4112 + j.val, by omega⟩) * Ideal.logistic (x0 (ix3 b s ⟨5136 + j.val, by omega⟩))) (k.val + s.val) := by
  pointwise [term]
  exact congrArg (x1 (ix3 0 k j) * ·) (v10_at x0 b ⟨k.val + s.val, by omega⟩ j)

/-- The result at a frame and a column. -/
theorem v232_at (n : Fin 4096) (j : Fin 1024) : val_main_v232 (F := Ideal) x0 x1 x2 (ix2 n j)
    = filtered (fun k => x1 (ix3 0 k j)) (fun s => x0 (ix3 ⟨n.val / 2048, by omega⟩ s ⟨4112 + j.val, by omega⟩))
      (fun s => x0 (ix3 ⟨n.val / 2048, by omega⟩ s ⟨5136 + j.val, by omega⟩)) (x2 (ix2 0 j)) (n.val % 2048) := by
  pointwise [val_main_v232, val_main_v231, val_main_v230, val_main_v229]
  rw [v228_eq, adding_at]
  exact congrArg (· + x2 (ix2 0 j)) (Finset.sum_congr rfl fun k _ => term_at x0 x1 k _ _ j)

end Cert.Reference9Ideal.ConvFwd

end
-- ==== Proof.ConvFwd.Claim.lean ====
/- The claim about the gated convolution. -/
module

public import proofs.«01_k».proof.Proof.ConvFwd.Kernel
public import proofs.«01_k».proof.Proof.ConvFwd.Reference
public import proofs.«01_k».proof.Defs
public import proofs.«01_k».proof.Proof.Gen.Kernel9Ideal.Value
public import proofs.«01_k».proof.Proof.Gen.Reference9Ideal.Run
public import proofs.«01_k».proof.Proof.Gen.Kernel9Ideal.Launch

@[expose] public section

set_option maxRecDepth 16384

noncomputable section

namespace Cert.ConvFwd

open Idealize.ShloMosaic Idealize.ShloMosaic.TcCoe Idealize.SL.Sem

set_option maxHeartbeats 1000000 in
/-- The kernel of the gated convolution computes the convolution of the gated units with its bias. -/
theorem algebraic : algebraic_Kernel9Ideal_Reference9Ideal (hKernel9Ideal := Kernel9Ideal.Gen.facts) (hReference9Ideal := Reference9Ideal.Gen.facts) := by
  intro m g m' g' _ hargs
  refine ⟨fun c => (Kernel9Ideal.Gen.dats m 0 c).arrAt 4 Kernel9Ideal.cfg0.N, Kernel9Ideal.Value.run_blocks m g,
    (θ_run Reference9Ideal.defs _ _).mono (fun r h c => ?_) (Reference9Ideal.Value.run m' g')⟩
  obtain ⟨a0, a1, a2⟩ := hargs c
  obtain ⟨h0, h1⟩ := h c
  have e0 := h0.trans (Reference9Ideal.Read.val_main_v232_eq _)
  clear h0
  refine ⟨e0.trans ?_, h1⟩
  refine Eq.trans (funext fun y => ?_) (Kernel9Ideal.ConvFwd.final m c).symm
  obtain ⟨n, j, rfl⟩ : ∃ (n : Fin 4096) (j : Fin 1024), y = ix2 n j := ⟨y 0, y 1, by funext i; fin_cases i <;> rfl⟩
  refine Eq.trans ?_ (Reference9Ideal.ConvFwd.v232_at _ _ _ n j)
  rw [← a0, ← a1, ← a2]

end Cert.ConvFwd

end
-- ==== Proof.lean ====
/- The proof of the claim: the frames of the kernels and of the references, and what each kernel computes. -/
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.KernelIdeal.Value
public import proofs.«01_k».proof.Proof.Gen.ReferenceIdeal
public import proofs.«01_k».proof.Proof.Gen.ReferenceIdeal.Run
public import proofs.«01_k».proof.Proof.Gen.ReferenceIdeal.Read
public import proofs.«01_k».proof.Proof.Gen.Kernel2
public import proofs.«01_k».proof.Proof.Gen.Kernel2.Skeleton
public import proofs.«01_k».proof.Proof.Gen.Kernel2.Launch
public import proofs.«01_k».proof.Proof.Gen.Kernel2.Points
public import proofs.«01_k».proof.Proof.Gen.Kernel2.Frame
public import proofs.«01_k».proof.Proof.Gen.Kernel2Ideal
public import proofs.«01_k».proof.Proof.Gen.Kernel2Ideal.Skeleton
public import proofs.«01_k».proof.Proof.Gen.Kernel2Ideal.Launch
public import proofs.«01_k».proof.Proof.Gen.Kernel2Ideal.Points
public import proofs.«01_k».proof.Proof.Gen.Kernel2Ideal.Frame
public import proofs.«01_k».proof.Proof.Gen.Reference2Ideal
public import proofs.«01_k».proof.Proof.Gen.Reference2Ideal.Run
public import proofs.«01_k».proof.Proof.Gen.Reference2Ideal.Read
public import proofs.«01_k».proof.Proof.Gen.Kernel3
public import proofs.«01_k».proof.Proof.Gen.Kernel3.Skeleton
public import proofs.«01_k».proof.Proof.Gen.Kernel3.Launch
public import proofs.«01_k».proof.Proof.Gen.Kernel3.Points
public import proofs.«01_k».proof.Proof.Gen.Kernel3.Frame
public import proofs.«01_k».proof.Proof.Gen.Kernel3Ideal
public import proofs.«01_k».proof.Proof.Gen.Kernel3Ideal.Skeleton
public import proofs.«01_k».proof.Proof.Gen.Kernel3Ideal.Launch
public import proofs.«01_k».proof.Proof.Gen.Kernel3Ideal.Points
public import proofs.«01_k».proof.Proof.Gen.Kernel3Ideal.Frame
public import proofs.«01_k».proof.Proof.Gen.Kernel3Ideal.Value
public import proofs.«01_k».proof.Proof.Gen.Reference3Ideal
public import proofs.«01_k».proof.Proof.Gen.Reference3Ideal.Run
public import proofs.«01_k».proof.Proof.Gen.Reference3Ideal.Read
public import proofs.«01_k».proof.Proof.Gen.Kernel4
public import proofs.«01_k».proof.Proof.Gen.Kernel4.Skeleton
public import proofs.«01_k».proof.Proof.Gen.Kernel4.Launch
public import proofs.«01_k».proof.Proof.Gen.Kernel4.Points
public import proofs.«01_k».proof.Proof.Gen.Kernel4.Frame
public import proofs.«01_k».proof.Proof.Gen.Kernel4Ideal
public import proofs.«01_k».proof.Proof.Gen.Kernel4Ideal.Skeleton
public import proofs.«01_k».proof.Proof.Gen.Kernel4Ideal.Launch
public import proofs.«01_k».proof.Proof.Gen.Kernel4Ideal.Points
public import proofs.«01_k».proof.Proof.Gen.Kernel4Ideal.Frame
public import proofs.«01_k».proof.Proof.Gen.Kernel4Ideal.Value
public import proofs.«01_k».proof.Proof.Gen.Reference4Ideal
public import proofs.«01_k».proof.Proof.Gen.Reference4Ideal.Run
public import proofs.«01_k».proof.Proof.Gen.Reference4Ideal.Read
public import proofs.«01_k».proof.Proof.Gen.Kernel5
public import proofs.«01_k».proof.Proof.Gen.Kernel5.Skeleton
public import proofs.«01_k».proof.Proof.Gen.Kernel5.Launch
public import proofs.«01_k».proof.Proof.Gen.Kernel5.Points
public import proofs.«01_k».proof.Proof.Gen.Kernel5.Frame
public import proofs.«01_k».proof.Proof.Gen.Kernel5Ideal
public import proofs.«01_k».proof.Proof.Gen.Kernel5Ideal.Skeleton
public import proofs.«01_k».proof.Proof.Gen.Kernel5Ideal.Launch
public import proofs.«01_k».proof.Proof.Gen.Kernel5Ideal.Points
public import proofs.«01_k».proof.Proof.Gen.Kernel5Ideal.Frame
public import proofs.«01_k».proof.Proof.Gen.Kernel5Ideal.Value
public import proofs.«01_k».proof.Proof.Gen.Reference5Ideal
public import proofs.«01_k».proof.Proof.Gen.Reference5Ideal.Run
public import proofs.«01_k».proof.Proof.Gen.Reference5Ideal.Read
public import proofs.«01_k».proof.Proof.Gen.Kernel6
public import proofs.«01_k».proof.Proof.Gen.Kernel6.Skeleton
public import proofs.«01_k».proof.Proof.Gen.Kernel6.Launch
public import proofs.«01_k».proof.Proof.Gen.Kernel6.Points
public import proofs.«01_k».proof.Proof.Gen.Kernel6.Frame
public import proofs.«01_k».proof.Proof.Gen.Kernel6Ideal
public import proofs.«01_k».proof.Proof.Gen.Kernel6Ideal.Skeleton
public import proofs.«01_k».proof.Proof.Gen.Kernel6Ideal.Launch
public import proofs.«01_k».proof.Proof.Gen.Kernel6Ideal.Points
public import proofs.«01_k».proof.Proof.Gen.Kernel6Ideal.Frame
public import proofs.«01_k».proof.Proof.Gen.Kernel6Ideal.Value
public import proofs.«01_k».proof.Proof.Gen.Reference6Ideal
public import proofs.«01_k».proof.Proof.Gen.Reference6Ideal.Run
public import proofs.«01_k».proof.Proof.Gen.Reference6Ideal.Read
public import proofs.«01_k».proof.Proof.Gen.Kernel7
public import proofs.«01_k».proof.Proof.Gen.Kernel7.Skeleton
public import proofs.«01_k».proof.Proof.Gen.Kernel7.Launch
public import proofs.«01_k».proof.Proof.Gen.Kernel7.Points
public import proofs.«01_k».proof.Proof.Gen.Kernel7.Frame
public import proofs.«01_k».proof.Proof.Gen.Kernel7Ideal
public import proofs.«01_k».proof.Proof.Gen.Kernel7Ideal.Skeleton
public import proofs.«01_k».proof.Proof.Gen.Kernel7Ideal.Launch
public import proofs.«01_k».proof.Proof.Gen.Kernel7Ideal.Points
public import proofs.«01_k».proof.Proof.Gen.Kernel7Ideal.Frame
public import proofs.«01_k».proof.Proof.Gen.Kernel7Ideal.Value
public import proofs.«01_k».proof.Proof.Gen.Reference7Ideal
public import proofs.«01_k».proof.Proof.Gen.Reference7Ideal.Run
public import proofs.«01_k».proof.Proof.Gen.Reference7Ideal.Read
public import proofs.«01_k».proof.Proof.Gen.Kernel8
public import proofs.«01_k».proof.Proof.Gen.Kernel8.Skeleton
public import proofs.«01_k».proof.Proof.Gen.Kernel8.Launch
public import proofs.«01_k».proof.Proof.Gen.Kernel8.Points
public import proofs.«01_k».proof.Proof.Gen.Kernel8.Frame
public import proofs.«01_k».proof.Proof.Gen.Kernel8Ideal
public import proofs.«01_k».proof.Proof.Gen.Kernel8Ideal.Skeleton
public import proofs.«01_k».proof.Proof.Gen.Kernel8Ideal.Launch
public import proofs.«01_k».proof.Proof.Gen.Kernel8Ideal.Points
public import proofs.«01_k».proof.Proof.Gen.Kernel8Ideal.Frame
public import proofs.«01_k».proof.Proof.Gen.Kernel8Ideal.Value
public import proofs.«01_k».proof.Proof.Gen.Reference8Ideal
public import proofs.«01_k».proof.Proof.Gen.Reference8Ideal.Run
public import proofs.«01_k».proof.Proof.Gen.Reference8Ideal.Read
public import proofs.«01_k».proof.Proof.Gen.Kernel9
public import proofs.«01_k».proof.Proof.Gen.Kernel9.Skeleton
public import proofs.«01_k».proof.Proof.Gen.Kernel9.Launch
public import proofs.«01_k».proof.Proof.Gen.Kernel9.Points
public import proofs.«01_k».proof.Proof.Gen.Kernel9.Frame
public import proofs.«01_k».proof.Proof.Gen.Kernel9Ideal
public import proofs.«01_k».proof.Proof.Gen.Kernel9Ideal.Skeleton
public import proofs.«01_k».proof.Proof.Gen.Kernel9Ideal.Launch
public import proofs.«01_k».proof.Proof.Gen.Kernel9Ideal.Points
public import proofs.«01_k».proof.Proof.Gen.Kernel9Ideal.Frame
public import proofs.«01_k».proof.Proof.Gen.Kernel9Ideal.Value
public import proofs.«01_k».proof.Proof.Gen.Reference9Ideal
public import proofs.«01_k».proof.Proof.Gen.Reference9Ideal.Run
public import proofs.«01_k».proof.Proof.Gen.Reference9Ideal.Read
public import proofs.«01_k».proof.Proof.Gen.Pre_conv_post_finite
public import proofs.«01_k».proof.Proof.Gen.Pre_attention_finite
public import proofs.«01_k».proof.Proof.Gen.Pre_gate_finite
public import proofs.«01_k».proof.Proof.Gen.Pre_inproj_finite
public import proofs.«01_k».proof.Proof.Gen.Pre_heads_finite
public import proofs.«01_k».proof.Proof.Gen.Pre_attn_fwd_finite
public import proofs.«01_k».proof.Proof.Gen.On_attention_lanes
public import proofs.«01_k».proof.Proof.ConvPost.Claim
public import proofs.«01_k».proof.Proof.AttnBwd.Claim
public import proofs.«01_k».proof.Proof.AttnBwdBits.Frame
public import proofs.«01_k».proof.Proof.AttnGate.Claim
public import proofs.«01_k».proof.Proof.Inproj.Claim
public import proofs.«01_k».proof.Proof.Outproj.Claim
public import proofs.«01_k».proof.Proof.AttnPost.Claim
public import proofs.«01_k».proof.Proof.ConvTaps.Claim
public import proofs.«01_k».proof.Proof.AttnFwd.Claim
public import proofs.«01_k».proof.Proof.ConvFwd.Claim
public import Idealize.ShloMosaic.Adequacy
public import Idealize.ShloMosaic.Init

@[expose] public section

noncomputable section

namespace Cert.Proof

open Idealize.ShloMosaic Idealize.SL.Sem Cert.Kernel

/-! Each reference runs from every launch, leaves its arguments as they were and every counter at zero. -/

theorem frame_reference : Cert.quiescent_ReferenceIdeal := by
  intro m ρ _
  refine (θ_run Cert.ReferenceIdeal.defs _ _).mono (fun r h => ⟨fun c => ?_, sem_eq_zero_of_no_sems (by decide) r.2⟩) (Cert.ReferenceIdeal.Value.run m ρ)
  obtain ⟨-, -, -, rest⟩ := h c
  exact rest

theorem frame_reference2 : Cert.quiescent_Reference2Ideal := by
  intro m ρ _
  refine (θ_run Cert.Reference2Ideal.defs _ _).mono (fun r h => ⟨fun c => ?_, sem_eq_zero_of_no_sems (by decide) r.2⟩) (Cert.Reference2Ideal.Value.run m ρ)
  obtain ⟨-, -, -, rest⟩ := h c
  exact rest

theorem frame_reference3 : Cert.quiescent_Reference3Ideal := by
  intro m ρ _
  refine (θ_run Cert.Reference3Ideal.defs _ _).mono (fun r h => ⟨fun c => ?_, sem_eq_zero_of_no_sems (by decide) r.2⟩) (Cert.Reference3Ideal.Value.run m ρ)
  obtain ⟨-, -, rest⟩ := h c
  exact rest

theorem frame_reference4 : Cert.quiescent_Reference4Ideal := by
  intro m ρ _
  refine (θ_run Cert.Reference4Ideal.defs _ _).mono (fun r h => ⟨fun c => ?_, sem_eq_zero_of_no_sems (by decide) r.2⟩) (Cert.Reference4Ideal.Value.run m ρ)
  obtain ⟨-, -, rest⟩ := h c
  exact rest

theorem frame_reference5 : Cert.quiescent_Reference5Ideal := by
  intro m ρ _
  refine (θ_run Cert.Reference5Ideal.defs _ _).mono (fun r h => ⟨fun c => ?_, sem_eq_zero_of_no_sems (by decide) r.2⟩) (Cert.Reference5Ideal.Value.run m ρ)
  obtain ⟨-, -, -, -, rest⟩ := h c
  exact rest

theorem frame_reference6 : Cert.quiescent_Reference6Ideal := by
  intro m ρ _
  refine (θ_run Cert.Reference6Ideal.defs _ _).mono (fun r h => ⟨fun c => ?_, sem_eq_zero_of_no_sems (by decide) r.2⟩) (Cert.Reference6Ideal.Value.run m ρ)
  obtain ⟨-, -, -, -, -, rest⟩ := h c
  exact rest

theorem frame_reference7 : Cert.quiescent_Reference7Ideal := by
  intro m ρ _
  refine (θ_run Cert.Reference7Ideal.defs _ _).mono (fun r h => ⟨fun c => ?_, sem_eq_zero_of_no_sems (by decide) r.2⟩) (Cert.Reference7Ideal.Value.run m ρ)
  obtain ⟨-, -, -, rest⟩ := h c
  exact rest

theorem frame_reference8 : Cert.quiescent_Reference8Ideal := by
  intro m ρ _
  refine (θ_run Cert.Reference8Ideal.defs _ _).mono (fun r h => ⟨fun c => ?_, sem_eq_zero_of_no_sems (by decide) r.2⟩) (Cert.Reference8Ideal.Value.run m ρ)
  obtain ⟨-, -, rest⟩ := h c
  exact rest

theorem frame_reference9 : Cert.quiescent_Reference9Ideal := by
  intro m ρ _
  refine (θ_run Cert.Reference9Ideal.defs _ _).mono (fun r h => ⟨fun c => ?_, sem_eq_zero_of_no_sems (by decide) r.2⟩) (Cert.Reference9Ideal.Value.run m ρ)
  obtain ⟨-, rest⟩ := h c
  exact rest

theorem claim : Cert.Claim :=
  ⟨Cert.Kernel.Gen.facts, Cert.KernelIdeal.Gen.facts, Cert.ReferenceIdeal.Gen.facts, Cert.Kernel2.Gen.facts, Cert.Kernel2Ideal.Gen.facts,
    Cert.Reference2Ideal.Gen.facts, Cert.Kernel3.Gen.facts, Cert.Kernel3Ideal.Gen.facts, Cert.Reference3Ideal.Gen.facts, Cert.Kernel4.Gen.facts,
    Cert.Kernel4Ideal.Gen.facts, Cert.Reference4Ideal.Gen.facts, Cert.Kernel5.Gen.facts, Cert.Kernel5Ideal.Gen.facts, Cert.Reference5Ideal.Gen.facts,
    Cert.Kernel6.Gen.facts, Cert.Kernel6Ideal.Gen.facts, Cert.Reference6Ideal.Gen.facts, Cert.Kernel7.Gen.facts, Cert.Kernel7Ideal.Gen.facts,
    Cert.Reference7Ideal.Gen.facts, Cert.Kernel8.Gen.facts, Cert.Kernel8Ideal.Gen.facts, Cert.Reference8Ideal.Gen.facts, Cert.Kernel9.Gen.facts,
    Cert.Kernel9Ideal.Gen.facts, Cert.Reference9Ideal.Gen.facts, Cert.Pre_conv_post_finite.Gen.facts, Cert.Pre_attention_finite.Gen.facts,
    Cert.Pre_gate_finite.Gen.facts, Cert.Pre_inproj_finite.Gen.facts, Cert.Pre_heads_finite.Gen.facts, Cert.Pre_attn_fwd_finite.Gen.facts,
    Cert.On_attention_lanes.Gen.facts,
    fun m ρ _ => Cert.Kernel.Gen.frame m ρ, fun m ρ _ => Cert.KernelIdeal.Gen.frame m ρ, fun m ρ _ => Cert.KernelIdeal.Gen.frame m ρ,
    fun m ρ _ => frame_reference m ρ trivial, fun m ρ _ => frame_reference m ρ trivial, fun m ρ _ => Cert.Kernel2.AttnBwd.quiet m ρ,
    fun m ρ _ => Cert.Kernel2Ideal.AttnBwd.quiet m ρ, fun m ρ _ => Cert.Kernel2Ideal.AttnBwd.quiet m ρ, fun m ρ _ => frame_reference2 m ρ trivial,
    fun m ρ _ => frame_reference2 m ρ trivial, fun m ρ _ => Cert.Kernel3.Gen.frame m ρ, fun m ρ _ => Cert.Kernel3Ideal.Gen.frame m ρ,
    fun m ρ _ => Cert.Kernel3Ideal.Gen.frame m ρ, fun m ρ _ => frame_reference3 m ρ trivial, fun m ρ _ => frame_reference3 m ρ trivial,
    fun m ρ _ => Cert.Kernel4.Gen.frame m ρ, fun m ρ _ => Cert.Kernel4Ideal.Gen.frame m ρ, fun m ρ _ => Cert.Kernel4Ideal.Gen.frame m ρ,
    fun m ρ _ => frame_reference4 m ρ trivial, fun m ρ _ => frame_reference4 m ρ trivial, fun m ρ _ => Cert.Kernel5.Gen.frame m ρ,
    fun m ρ _ => Cert.Kernel5Ideal.Gen.frame m ρ, fun m ρ _ => frame_reference5 m ρ trivial, fun m ρ _ => Cert.Kernel6.Gen.frame m ρ,
    fun m ρ _ => Cert.Kernel6Ideal.Gen.frame m ρ, fun m ρ _ => Cert.Kernel6Ideal.Gen.frame m ρ, fun m ρ _ => frame_reference6 m ρ trivial,
    fun m ρ _ => frame_reference6 m ρ trivial, fun m ρ _ => Cert.Kernel7.Gen.frame m ρ, fun m ρ _ => Cert.Kernel7Ideal.Gen.frame m ρ,
    fun m ρ _ => frame_reference7 m ρ trivial, fun m ρ _ => Cert.Kernel8.Gen.frame m ρ, fun m ρ _ => Cert.Kernel8Ideal.Gen.frame m ρ,
    fun m ρ _ => Cert.Kernel8Ideal.Gen.frame m ρ, fun m ρ _ => frame_reference8 m ρ trivial, fun m ρ _ => frame_reference8 m ρ trivial,
    fun m ρ _ => Cert.Kernel9.Gen.frame m ρ, fun m ρ _ => Cert.Kernel9Ideal.Gen.frame m ρ, fun m ρ _ => frame_reference9 m ρ trivial, trivial,
    Cert.ConvPost.algebraic, IdealRules.named_const.statement Cert.Kernel2Ideal.κ "mask" .f32 0xF149F2CA#32 ⊥ rfl, Cert.AttnBwd.algebraic, trivial,
    Cert.AttnGate.algebraic, trivial, Cert.Inproj.algebraic, trivial, Cert.Outproj.algebraic, trivial, Cert.AttnPost.algebraic, trivial,
    Cert.ConvTaps.algebraic, IdealRules.named_const.statement Cert.Kernel8Ideal.κ "mask" .f32 0xF149F2CA#32 ⊥ rfl, Cert.AttnFwd.algebraic, trivial,
    Cert.ConvFwd.algebraic⟩

end Cert.Proof

end
